-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v285) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S64x100000 : Shape := ⟨2, ![64, 100000]⟩
abbrev S64x4 : Shape := ⟨2, ![64, 4]⟩
abbrev S_ : Shape := ⟨0, ![]⟩
abbrev S64 : Shape := ⟨1, ![64]⟩
abbrev S64x1x1 : Shape := ⟨3, ![64, 1, 1]⟩
abbrev S64x100x1000 : Shape := ⟨3, ![64, 100, 1000]⟩
abbrev S1x1x1 : Shape := ⟨3, ![1, 1, 1]⟩
abbrev S1x100x1000 : Shape := ⟨3, ![1, 100, 1000]⟩
abbrev S1x1 : Shape := ⟨2, ![1, 1]⟩
abbrev S100x1000 : Shape := ⟨2, ![100, 1000]⟩
abbrev S64x1 : Shape := ⟨2, ![64, 1]⟩
abbrev S1000x1000 : Shape := ⟨2, ![1000, 1000]⟩
abbrev S100 : Shape := ⟨1, ![100]⟩
abbrev S100x1 : Shape := ⟨2, ![100, 1]⟩
abbrev S100x100 : Shape := ⟨2, ![100, 100]⟩
abbrev S1 : Shape := ⟨1, ![1]⟩

abbrev nBuf : Space → Nat
  | .hbm => 96
  | .vmem => 8
  | .smem => 2
  | _ => 0

abbrev bufTy : (tb : Table) → Fin (tcTables nBuf tb) → BufTy
  | .hbm, ⟨0, _⟩ => ⟨S64x2048, .i32⟩
  | .hbm, ⟨1, _⟩ => ⟨S64x100000, .f32⟩
  | .hbm, ⟨2, _⟩ => ⟨S64x4, .i32⟩
  | .hbm, ⟨3, _⟩ => ⟨S_, .i32⟩
  | .hbm, ⟨4, _⟩ => ⟨S64, .i32⟩
  | .hbm, ⟨5, _⟩ => ⟨S64x1x1, .i32⟩
  | .hbm, ⟨6, _⟩ => ⟨S64x100x1000, .i32⟩
  | .hbm, ⟨7, _⟩ => ⟨S64x100000, .i32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64x1, .f32⟩
  | .hbm, ⟨14, _⟩ => ⟨S64x100000, .f32⟩
  | .hbm, ⟨15, _⟩ => ⟨S64x100000, .f32⟩
  | .hbm, ⟨16, _⟩ => ⟨S64x100000, .f32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S64x100000, .f32⟩
  | .hbm, ⟨21, _⟩ => ⟨S64x100000, .f32⟩
  | .hbm, ⟨22, _⟩ => ⟨S_, .i32⟩
  | .hbm, ⟨23, _⟩ => ⟨S64x100000, .i32⟩
  | .hbm, ⟨24, _⟩ => ⟨S64x100000, .i32⟩
  | .hbm, ⟨25, _⟩ => ⟨S_, .i32⟩
  | .hbm, ⟨26, _⟩ => ⟨S64x100000, .i32⟩
  | .hbm, ⟨27, _⟩ => ⟨S64x100000, .i32⟩
  | .hbm, ⟨28, _⟩ => ⟨S64x100000, .f32⟩
  | .hbm, ⟨29, _⟩ => ⟨S64x100000, .f32⟩
  | .hbm, ⟨30, _⟩ => ⟨S_, .f32⟩
  | .hbm, ⟨31, _⟩ => ⟨S64, .f32⟩
  | .hbm, ⟨32, _⟩ => ⟨S64x1, .f32⟩
  | .hbm, ⟨33, _⟩ => ⟨S_, .f32⟩
  | .hbm, ⟨34, _⟩ => ⟨S64x100000, .f32⟩
  | .hbm, ⟨35, _⟩ => ⟨S64x100000, .f32⟩
  | .hbm, ⟨36, _⟩ => ⟨S64x100000, .f32⟩
  | .hbm, ⟨37, _⟩ => ⟨S64x100000, .f32⟩
  | .hbm, ⟨38, _⟩ => ⟨S64x100000, .f32⟩
  | .hbm, ⟨39, _⟩ => ⟨S_, .i32⟩
  | .hbm, ⟨40, _⟩ => ⟨S64x100000, .i32⟩
  | .hbm, ⟨41, _⟩ => ⟨S64x100000, .i32⟩
  | .hbm, ⟨42, _⟩ => ⟨S_, .i32⟩
  | .hbm, ⟨43, _⟩ => ⟨S64x100000, .i32⟩
  | .hbm, ⟨44, _⟩ => ⟨S64x100000, .i32⟩
  | .hbm, ⟨45, _⟩ => ⟨S64x100000, .f32⟩
  | .hbm, ⟨46, _⟩ => ⟨S64x100000, .f32⟩
  | .hbm, ⟨47, _⟩ => ⟨S_, .f32⟩
  | .hbm, ⟨48, _⟩ => ⟨S64, .f32⟩
  | .hbm, ⟨49, _⟩ => ⟨S64x1, .f32⟩
  | .hbm, ⟨50, _⟩ => ⟨S_, .f32⟩
  | .hbm, ⟨51, _⟩ => ⟨S64x100000, .f32⟩
  | .hbm, ⟨52, _⟩ => ⟨S64x100000, .f32⟩
  | .hbm, ⟨53, _⟩ => ⟨S64x100000, .f32⟩
  | .hbm, ⟨54, _⟩ => ⟨S64x100000, .f32⟩
  | .hbm, ⟨55, _⟩ => ⟨S64x100000, .f32⟩
  | .hbm, ⟨56, _⟩ => ⟨S_, .i32⟩
  | .hbm, ⟨57, _⟩ => ⟨S64x100000, .i32⟩
  | .hbm, ⟨58, _⟩ => ⟨S64x100000, .i32⟩
  | .hbm, ⟨59, _⟩ => ⟨S_, .i32⟩
  | .hbm, ⟨60, _⟩ => ⟨S64x100000, .i32⟩
  | .hbm, ⟨61, _⟩ => ⟨S64x100000, .i32⟩
  | .hbm, ⟨62, _⟩ => ⟨S64x100000, .f32⟩
  | .hbm, ⟨63, _⟩ => ⟨S64x100000, .f32⟩
  | .hbm, ⟨64, _⟩ => ⟨S_, .f32⟩
  | .hbm, ⟨65, _⟩ => ⟨S64, .f32⟩
  | .hbm, ⟨66, _⟩ => ⟨S64x1, .f32⟩
  | .hbm, ⟨67, _⟩ => ⟨S_, .f32⟩
  | .hbm, ⟨68, _⟩ => ⟨S64x100000, .f32⟩
  | .hbm, ⟨69, _⟩ => ⟨S64x100000, .f32⟩
  | .hbm, ⟨70, _⟩ => ⟨S64x100000, .f32⟩
  | .hbm, ⟨71, _⟩ => ⟨S64x100000, .f32⟩
  | .hbm, ⟨72, _⟩ => ⟨S64x100000, .f32⟩
  | .hbm, ⟨73, _⟩ => ⟨S_, .i32⟩
  | .hbm, ⟨74, _⟩ => ⟨S64x100000, .i32⟩
  | .hbm, ⟨75, _⟩ => ⟨S64x100000, .i32⟩
  | .hbm, ⟨76, _⟩ => ⟨S_, .i32⟩
  | .hbm, ⟨77, _⟩ => ⟨S64x100000, .i32⟩
  | .hbm, ⟨78, _⟩ => ⟨S64x100000, .i32⟩
  | .hbm, ⟨79, _⟩ => ⟨S64x100000, .f32⟩
  | .hbm, ⟨80, _⟩ => ⟨S64x100000, .f32⟩
  | .hbm, ⟨81, _⟩ => ⟨S_, .f32⟩
  | .hbm, ⟨82, _⟩ => ⟨S64, .f32⟩
  | .hbm, ⟨83, _⟩ => ⟨S64x1, .f32⟩
  | .hbm, ⟨84, _⟩ => ⟨S_, .f32⟩
  | .hbm, ⟨85, _⟩ => ⟨S64x100000, .f32⟩
  | .hbm, ⟨86, _⟩ => ⟨S64x100000, .f32⟩
  | .hbm, ⟨87, _⟩ => ⟨S64x100000, .f32⟩
  | .hbm, ⟨88, _⟩ => ⟨S64x100000, .f32⟩
  | .hbm, ⟨89, _⟩ => ⟨S64x100000, .f32⟩
  | .hbm, ⟨90, _⟩ => ⟨S64x100000, .f32⟩
  | .hbm, ⟨91, _⟩ => ⟨S64x100000, .f32⟩
  | .hbm, ⟨92, _⟩ => ⟨S64x100x1000, .f32⟩
  | .hbm, ⟨93, _⟩ => ⟨S64x100x1000, .f32⟩
  | .hbm, ⟨94, _⟩ => ⟨S64x100x1000, .f32⟩
  | .hbm, ⟨95, _⟩ => ⟨S64x100000, .f32⟩
  | .local _ .vmem, ⟨0, _⟩ => ⟨S1x100x1000, .i32⟩
  | .local _ .vmem, ⟨1, _⟩ => ⟨S1x100x1000, .i32⟩
  | .local _ .vmem, ⟨2, _⟩ => ⟨S1x100x1000, .f32⟩
  | .local _ .vmem, ⟨3, _⟩ => ⟨S1x100x1000, .f32⟩
  | .local _ .vmem, ⟨4, _⟩ => ⟨S1x100x1000, .f32⟩
  | .local _ .vmem, ⟨5, _⟩ => ⟨S1x100x1000, .f32⟩
  | .local _ .vmem, ⟨6, _⟩ => ⟨S1x100x1000, .f32⟩
  | .local _ .vmem, ⟨7, _⟩ => ⟨S1x100x1000, .f32⟩
  | .local _ .smem, ⟨0, _⟩ => ⟨S1x1x1, .i32⟩
  | .local _ .smem, ⟨1, _⟩ => ⟨S1x1x1, .i32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_c_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_10 : Ref sig .tc := ⟨.hbm, 56, rfl⟩
abbrev main_v42 : Ref sig .tc := ⟨.hbm, 57, rfl⟩
abbrev main_v43 : Ref sig .tc := ⟨.hbm, 58, rfl⟩
abbrev main_c_11 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_v49 : Ref sig .tc := ⟨.hbm, 66, rfl⟩
abbrev main_cst_13 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_14 : Ref sig .tc := ⟨.hbm, 73, rfl⟩
abbrev main_v55 : Ref sig .tc := ⟨.hbm, 74, rfl⟩
abbrev main_v56 : Ref sig .tc := ⟨.hbm, 75, rfl⟩
abbrev main_c_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_16 : Ref sig .tc := ⟨.hbm, 81, rfl⟩
abbrev main_v61 : Ref sig .tc := ⟨.hbm, 82, rfl⟩
abbrev main_v62 : Ref sig .tc := ⟨.hbm, 83, rfl⟩
abbrev main_cst_17 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x100x1000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x100x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x100x1000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x100x1000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S64x2048 : Shape := ⟨2, ![64, 2048]⟩
abbrev S64x100000 : Shape := ⟨2, ![64, 100000]⟩
abbrev S64x4 : Shape := ⟨2, ![64, 4]⟩
abbrev S_ : Shape := ⟨0, ![]⟩
abbrev S64 : Shape := ⟨1, ![64]⟩
abbrev S64x4x1 : Shape := ⟨3, ![64, 4, 1]⟩
abbrev S64x1x1 : Shape := ⟨3, ![64, 1, 1]⟩
abbrev S64x4x100000 : Shape := ⟨3, ![64, 4, 100000]⟩
abbrev S64x1 : Shape := ⟨2, ![64, 1]⟩
abbrev S64x1x100000 : Shape := ⟨3, ![64, 1, 100000]⟩

abbrev nBuf : Space → Nat
  | .hbm => 1247
  | .vmem => 0
  | .smem => 0
  | _ => 0

abbrev hbmTy0_0 (i : Nat) : BufTy := match i % 128 with
  | 0 => ⟨S64x2048, .i32⟩
  | 1 => ⟨S64x100000, .f32⟩
  | 2 => ⟨S64x4, .i32⟩
  | 3 => ⟨S_, .i32⟩
  | 4 => ⟨S64, .i32⟩
  | 5 => ⟨S_, .i32⟩
  | 6 => ⟨S64x4x1, .i32⟩
  | 7 => ⟨S_, .i32⟩
  | 8 => ⟨S64x4x1, .i32⟩
  | 9 => ⟨S64, .i32⟩
  | 10 => ⟨S64x1x1, .i32⟩
  | 11 => ⟨S64x4x1, .i32⟩
  | 12 => ⟨S_, .i32⟩
  | 13 => ⟨S64x4x1, .i32⟩
  | 14 => ⟨S64x4x1, .i32⟩
  | 15 => ⟨S_, .i32⟩
  | 16 => ⟨S64x4x1, .i32⟩
  | 17 => ⟨S64x4x1, .i32⟩
  | 18 => ⟨S64x4x1, .i32⟩
  | 19 => ⟨S64x4x1, .i32⟩
  | 20 => ⟨S64x4x1, .i32⟩
  | 21 => ⟨S_, .i32⟩
  | 22 => ⟨S64x4x1, .i32⟩
  | 23 => ⟨S64x4x1, .i32⟩
  | 24 => ⟨S_, .i32⟩
  | 25 => ⟨S64x4x1, .i32⟩
  | 26 => ⟨S64x4x1, .i32⟩
  | 27 => ⟨S64x4x1, .i32⟩
  | 28 => ⟨S64x4x1, .i32⟩
  | 29 => ⟨S64x4x1, .i32⟩
  | 30 => ⟨S_, .i32⟩
  | 31 => ⟨S64x4x1, .i32⟩
  | 32 => ⟨S64x4x1, .i32⟩
  | 33 => ⟨S_, .i32⟩
  | 34 => ⟨S64x4x1, .i32⟩
  | 35 => ⟨S64x4x1, .i32⟩
  | 36 => ⟨S64x4x1, .i32⟩
  | 37 => ⟨S64x4x1, .i32⟩
  | 38 => ⟨S64x4x1, .i32⟩
  | 39 => ⟨S_, .i32⟩
  | 40 => ⟨S64x4x1, .i32⟩
  | 41 => ⟨S64x4x1, .i32⟩
  | 42 => ⟨S_, .i32⟩
  | 43 => ⟨S64x4x1, .i32⟩
  | 44 => ⟨S64x4x1, .i32⟩
  | 45 => ⟨S64x4x1, .i32⟩
  | 46 => ⟨S64x4x1, .i32⟩
  | 47 => ⟨S64x4x1, .i32⟩
  | 48 => ⟨S_, .i32⟩
  | 49 => ⟨S64x4x1, .i32⟩
  | 50 => ⟨S64x4x1, .i32⟩
  | 51 => ⟨S_, .i32⟩
  | 52 => ⟨S64x4x1, .i32⟩
  | 53 => ⟨S64x4x1, .i32⟩
  | 54 => ⟨S64x4x1, .i32⟩
  | 55 => ⟨S64x4x1, .i32⟩
  | 56 => ⟨S64x4x1, .i32⟩
  | 57 => ⟨S64x4x1, .i32⟩
  | 58 => ⟨S_, .i32⟩
  | 59 => ⟨S64x4x1, .i32⟩
  | 60 => ⟨S64x4x1, .i32⟩
  | 61 => ⟨S64x4x1, .i32⟩
  | 62 => ⟨S_, .i32⟩
  | 63 => ⟨S64x4x1, .i32⟩
  | 64 => ⟨S64x4x1, .i32⟩
  | 65 => ⟨S_, .i32⟩
  | 66 => ⟨S64x4x1, .i32⟩
  | 67 => ⟨S64x4x1, .i32⟩
  | 68 => ⟨S64x4x1, .i32⟩
  | 69 => ⟨S64x4x1, .i32⟩
  | 70 => ⟨S64x4x1, .i32⟩
  | 71 => ⟨S_, .i32⟩
  | 72 => ⟨S64x4x1, .i32⟩
  | 73 => ⟨S64x4x1, .i32⟩
  | 74 => ⟨S_, .i32⟩
  | 75 => ⟨S64x4x1, .i32⟩
  | 76 => ⟨S64x4x1, .i32⟩
  | 77 => ⟨S64x4x1, .i32⟩
  | 78 => ⟨S64x4x1, .i32⟩
  | 79 => ⟨S64x4x1, .i32⟩
  | 80 => ⟨S_, .i32⟩
  | 81 => ⟨S64x4x1, .i32⟩
  | 82 => ⟨S64x4x1, .i32⟩
  | 83 => ⟨S_, .i32⟩
  | 84 => ⟨S64x4x1, .i32⟩
  | 85 => ⟨S64x4x1, .i32⟩
  | 86 => ⟨S64x4x1, .i32⟩
  | 87 => ⟨S64x4x1, .i32⟩
  | 88 => ⟨S64x4x1, .i32⟩
  | 89 => ⟨S_, .i32⟩
  | 90 => ⟨S64x4x1, .i32⟩
  | 91 => ⟨S64x4x1, .i32⟩
  | 92 => ⟨S_, .i32⟩
  | 93 => ⟨S64x4x1, .i32⟩
  | 94 => ⟨S64x4x1, .i32⟩
  | 95 => ⟨S64x4x1, .i32⟩
  | 96 => ⟨S64x4x1, .i32⟩
  | 97 => ⟨S64x4x1, .i32⟩
  | 98 => ⟨S64x4x1, .i32⟩
  | 99 => ⟨S_, .i32⟩
  | 100 => ⟨S64x4x1, .i32⟩
  | 101 => ⟨S64x4x1, .i32⟩
  | 102 => ⟨S64x4x1, .i32⟩
  | 103 => ⟨S_, .i32⟩
  | 104 => ⟨S64x4x1, .i32⟩
  | 105 => ⟨S64x4x1, .i32⟩
  | 106 => ⟨S_, .i32⟩
  | 107 => ⟨S64x4x1, .i32⟩
  | 108 => ⟨S64x4x1, .i32⟩
  | 109 => ⟨S64x4x1, .i32⟩
  | 110 => ⟨S64x4x1, .i32⟩
  | 111 => ⟨S64x4x1, .i32⟩
  | 112 => ⟨S_, .i32⟩
  | 113 => ⟨S64x4x1, .i32⟩
  | 114 => ⟨S64x4x1, .i32⟩
  | 115 => ⟨S_, .i32⟩
  | 116 => ⟨S64x4x1, .i32⟩
  | 117 => ⟨S64x4x1, .i32⟩
  | 118 => ⟨S64x4x1, .i32⟩
  | 119 => ⟨S64x4x1, .i32⟩
  | 120 => ⟨S64x4x1, .i32⟩
  | 121 => ⟨S_, .i32⟩
  | 122 => ⟨S64x4x1, .i32⟩
  | 123 => ⟨S64x4x1, .i32⟩
  | 124 => ⟨S_, .i32⟩
  | 125 => ⟨S64x4x1, .i32⟩
  | 126 => ⟨S64x4x1, .i32⟩
  | 127 => ⟨S64x4x1, .i32⟩
  | _ => ⟨S64x2048, .i32⟩

abbrev hbmTy0_1 (i : Nat) : BufTy := match i % 128 with
  | 0 => ⟨S64x4x1, .i32⟩
  | 1 => ⟨S64x4x1, .i32⟩
  | 2 => ⟨S_, .i32⟩
  | 3 => ⟨S64x4x1, .i32⟩
  | 4 => ⟨S64x4x1, .i32⟩
  | 5 => ⟨S_, .i32⟩
  | 6 => ⟨S64x4x1, .i32⟩
  | 7 => ⟨S64x4x1, .i32⟩
  | 8 => ⟨S64x4x1, .i32⟩
  | 9 => ⟨S64x4x1, .i32⟩
  | 10 => ⟨S64x4x1, .i32⟩
  | 11 => ⟨S64x4x1, .i32⟩
  | 12 => ⟨S_, .i32⟩
  | 13 => ⟨S64x4x1, .i32⟩
  | 14 => ⟨S64x4x1, .i32⟩
  | 15 => ⟨S64x4x1, .i32⟩
  | 16 => ⟨S_, .i32⟩
  | 17 => ⟨S64x4x1, .i32⟩
  | 18 => ⟨S64x4x1, .i32⟩
  | 19 => ⟨S_, .i32⟩
  | 20 => ⟨S64x4x1, .i32⟩
  | 21 => ⟨S64x4x1, .i32⟩
  | 22 => ⟨S64x4x1, .i32⟩
  | 23 => ⟨S64x4x1, .i32⟩
  | 24 => ⟨S64x4x1, .i32⟩
  | 25 => ⟨S_, .i32⟩
  | 26 => ⟨S64x4x1, .i32⟩
  | 27 => ⟨S64x4x1, .i32⟩
  | 28 => ⟨S_, .i32⟩
  | 29 => ⟨S64x4x1, .i32⟩
  | 30 => ⟨S64x4x1, .i32⟩
  | 31 => ⟨S64x4x1, .i32⟩
  | 32 => ⟨S64x4x1, .i32⟩
  | 33 => ⟨S64x4x1, .i32⟩
  | 34 => ⟨S_, .i32⟩
  | 35 => ⟨S64x4x1, .i32⟩
  | 36 => ⟨S64x4x1, .i32⟩
  | 37 => ⟨S_, .i32⟩
  | 38 => ⟨S64x4x1, .i32⟩
  | 39 => ⟨S64x4x1, .i32⟩
  | 40 => ⟨S64x4x1, .i32⟩
  | 41 => ⟨S64x4x1, .i32⟩
  | 42 => ⟨S64x4x1, .i32⟩
  | 43 => ⟨S_, .i32⟩
  | 44 => ⟨S64x4x1, .i32⟩
  | 45 => ⟨S64x4x1, .i32⟩
  | 46 => ⟨S_, .i32⟩
  | 47 => ⟨S64x4x1, .i32⟩
  | 48 => ⟨S64x4x1, .i32⟩
  | 49 => ⟨S64x4x1, .i32⟩
  | 50 => ⟨S64x4x1, .i32⟩
  | 51 => ⟨S64x4x1, .i32⟩
  | 52 => ⟨S64x4x1, .i32⟩
  | 53 => ⟨S_, .i32⟩
  | 54 => ⟨S64x4x1, .i32⟩
  | 55 => ⟨S64x4x1, .i32⟩
  | 56 => ⟨S64x4x1, .i32⟩
  | 57 => ⟨S_, .i32⟩
  | 58 => ⟨S64x4x1, .i32⟩
  | 59 => ⟨S64x4x1, .i32⟩
  | 60 => ⟨S_, .i32⟩
  | 61 => ⟨S64x4x1, .i32⟩
  | 62 => ⟨S64x4x1, .i32⟩
  | 63 => ⟨S64x4x1, .i32⟩
  | 64 => ⟨S64x4x1, .i32⟩
  | 65 => ⟨S64x4x1, .i32⟩
  | 66 => ⟨S_, .i32⟩
  | 67 => ⟨S64x4x1, .i32⟩
  | 68 => ⟨S64x4x1, .i32⟩
  | 69 => ⟨S_, .i32⟩
  | 70 => ⟨S64x4x1, .i32⟩
  | 71 => ⟨S64x4x1, .i32⟩
  | 72 => ⟨S64x4x1, .i32⟩
  | 73 => ⟨S64x4x1, .i32⟩
  | 74 => ⟨S64x4x1, .i32⟩
  | 75 => ⟨S_, .i32⟩
  | 76 => ⟨S64x4x1, .i32⟩
  | 77 => ⟨S64x4x1, .i32⟩
  | 78 => ⟨S_, .i32⟩
  | 79 => ⟨S64x4x1, .i32⟩
  | 80 => ⟨S64x4x1, .i32⟩
  | 81 => ⟨S64x4x1, .i32⟩
  | 82 => ⟨S64x4x1, .i32⟩
  | 83 => ⟨S64x4x1, .i32⟩
  | 84 => ⟨S_, .i32⟩
  | 85 => ⟨S64x4x1, .i32⟩
  | 86 => ⟨S64x4x1, .i32⟩
  | 87 => ⟨S_, .i32⟩
  | 88 => ⟨S64x4x1, .i32⟩
  | 89 => ⟨S64x4x1, .i32⟩
  | 90 => ⟨S64x4x1, .i32⟩
  | 91 => ⟨S64x4x1, .i32⟩
  | 92 => ⟨S64x4x1, .i32⟩
  | 93 => ⟨S64x4x1, .i32⟩
  | 94 => ⟨S_, .i32⟩
  | 95 => ⟨S64x4x1, .i32⟩
  | 96 => ⟨S64x4x1, .i32⟩
  | 97 => ⟨S64x4x1, .i32⟩
  | 98 => ⟨S_, .i32⟩
  | 99 => ⟨S64x4x1, .i32⟩
  | 100 => ⟨S64x4x1, .i32⟩
  | 101 => ⟨S_, .i32⟩
  | 102 => ⟨S64x4x1, .i32⟩
  | 103 => ⟨S64x4x1, .i32⟩
  | 104 => ⟨S64x4x1, .i32⟩
  | 105 => ⟨S64x4x1, .i32⟩
  | 106 => ⟨S64x4x1, .i32⟩
  | 107 => ⟨S_, .i32⟩
  | 108 => ⟨S64x4x1, .i32⟩
  | 109 => ⟨S64x4x1, .i32⟩
  | 110 => ⟨S_, .i32⟩
  | 111 => ⟨S64x4x1, .i32⟩
  | 112 => ⟨S64x4x1, .i32⟩
  | 113 => ⟨S64x4x1, .i32⟩
  | 114 => ⟨S64x4x1, .i32⟩
  | 115 => ⟨S64x4x1, .i32⟩
  | 116 => ⟨S_, .i32⟩
  | 117 => ⟨S64x4x1, .i32⟩
  | 118 => ⟨S64x4x1, .i32⟩
  | 119 => ⟨S_, .i32⟩
  | 120 => ⟨S64x4x1, .i32⟩
  | 121 => ⟨S64x4x1, .i32⟩
  | 122 => ⟨S64x4x1, .i32⟩
  | 123 => ⟨S64x4x1, .i32⟩
  | 124 => ⟨S64x4x1, .i32⟩
  | 125 => ⟨S_, .i32⟩
  | 126 => ⟨S64x4x1, .i32⟩
  | 127 => ⟨S64x4x1, .i32⟩
  | _ => ⟨S64x2048, .i32⟩

abbrev hbmTy0_2 (i : Nat) : BufTy := match i % 128 with
  | 0 => ⟨S_, .i32⟩
  | 1 => ⟨S64x4x1, .i32⟩
  | 2 => ⟨S64x4x1, .i32⟩
  | 3 => ⟨S64x4x1, .i32⟩
  | 4 => ⟨S64x4x1, .i32⟩
  | 5 => ⟨S64x4x1, .i32⟩
  | 6 => ⟨S_, .i32⟩
  | 7 => ⟨S64x4x1, .i32⟩
  | 8 => ⟨S64x4x1, .i32⟩
  | 9 => ⟨S_, .i32⟩
  | 10 => ⟨S64x4x1, .i32⟩
  | 11 => ⟨S64x4x1, .i32⟩
  | 12 => ⟨S64x4x1, .i32⟩
  | 13 => ⟨S64x4x1, .i32⟩
  | 14 => ⟨S64x4x1, .i32⟩
  | 15 => ⟨S64x4x1, .i32⟩
  | 16 => ⟨S_, .i32⟩
  | 17 => ⟨S64x4x1, .i32⟩
  | 18 => ⟨S64x4x1, .i32⟩
  | 19 => ⟨S64x4x1, .i32⟩
  | 20 => ⟨S_, .i32⟩
  | 21 => ⟨S64x4x1, .i32⟩
  | 22 => ⟨S64x4x1, .i32⟩
  | 23 => ⟨S_, .i32⟩
  | 24 => ⟨S64x4x1, .i32⟩
  | 25 => ⟨S64x4x1, .i32⟩
  | 26 => ⟨S64x4x1, .i32⟩
  | 27 => ⟨S64x4x1, .i32⟩
  | 28 => ⟨S64x4x1, .i32⟩
  | 29 => ⟨S_, .i32⟩
  | 30 => ⟨S64x4x1, .i32⟩
  | 31 => ⟨S64x4x1, .i32⟩
  | 32 => ⟨S_, .i32⟩
  | 33 => ⟨S64x4x1, .i32⟩
  | 34 => ⟨S64x4x1, .i32⟩
  | 35 => ⟨S64x4x1, .i32⟩
  | 36 => ⟨S64x4x1, .i32⟩
  | 37 => ⟨S64x4x1, .i32⟩
  | 38 => ⟨S_, .i32⟩
  | 39 => ⟨S64x4x1, .i32⟩
  | 40 => ⟨S64x4x1, .i32⟩
  | 41 => ⟨S_, .i32⟩
  | 42 => ⟨S64x4x1, .i32⟩
  | 43 => ⟨S64x4x1, .i32⟩
  | 44 => ⟨S64x4x1, .i32⟩
  | 45 => ⟨S64x4x1, .i32⟩
  | 46 => ⟨S64x4x1, .i32⟩
  | 47 => ⟨S_, .i32⟩
  | 48 => ⟨S64x4x1, .i32⟩
  | 49 => ⟨S64x4x1, .i32⟩
  | 50 => ⟨S_, .i32⟩
  | 51 => ⟨S64x4x1, .i32⟩
  | 52 => ⟨S64x4x1, .i32⟩
  | 53 => ⟨S64x4x1, .i32⟩
  | 54 => ⟨S64x4x1, .i32⟩
  | 55 => ⟨S64x4x1, .i32⟩
  | 56 => ⟨S64x4x1, .i32⟩
  | 57 => ⟨S_, .i32⟩
  | 58 => ⟨S64x4x1, .i32⟩
  | 59 => ⟨S64x4x1, .i32⟩
  | 60 => ⟨S64x4x1, .i32⟩
  | 61 => ⟨S_, .i32⟩
  | 62 => ⟨S64x4x1, .i32⟩
  | 63 => ⟨S64x4x1, .i32⟩
  | 64 => ⟨S_, .i32⟩
  | 65 => ⟨S64x4x1, .i32⟩
  | 66 => ⟨S64x4x1, .i32⟩
  | 67 => ⟨S64x4x1, .i32⟩
  | 68 => ⟨S64x4x1, .i32⟩
  | 69 => ⟨S64x4x1, .i32⟩
  | 70 => ⟨S_, .i32⟩
  | 71 => ⟨S64x4x1, .i32⟩
  | 72 => ⟨S64x4x1, .i32⟩
  | 73 => ⟨S_, .i32⟩
  | 74 => ⟨S64x4x1, .i32⟩
  | 75 => ⟨S64x4x1, .i32⟩
  | 76 => ⟨S64x4x1, .i32⟩
  | 77 => ⟨S64x4x1, .i32⟩
  | 78 => ⟨S64x4x1, .i32⟩
  | 79 => ⟨S_, .i32⟩
  | 80 => ⟨S64x4x1, .i32⟩
  | 81 => ⟨S64x4x1, .i32⟩
  | 82 => ⟨S_, .i32⟩
  | 83 => ⟨S64x4x1, .i32⟩
  | 84 => ⟨S64x4x1, .i32⟩
  | 85 => ⟨S64x4x1, .i32⟩
  | 86 => ⟨S64x4x1, .i32⟩
  | 87 => ⟨S64x4x1, .i32⟩
  | 88 => ⟨S_, .i32⟩
  | 89 => ⟨S64x4x1, .i32⟩
  | 90 => ⟨S64x4x1, .i32⟩
  | 91 => ⟨S_, .i32⟩
  | 92 => ⟨S64x4x1, .i32⟩
  | 93 => ⟨S64x4x1, .i32⟩
  | 94 => ⟨S64x4x1, .i32⟩
  | 95 => ⟨S64x4x1, .i32⟩
  | 96 => ⟨S64x4x1, .i32⟩
  | 97 => ⟨S64x4x1, .i32⟩
  | 98 => ⟨S_, .i32⟩
  | 99 => ⟨S64x4x1, .i32⟩
  | 100 => ⟨S64x4x1, .i32⟩
  | 101 => ⟨S64x4x1, .i32⟩
  | 102 => ⟨S_, .i32⟩
  | 103 => ⟨S64x4x1, .i32⟩
  | 104 => ⟨S64x4x1, .i32⟩
  | 105 => ⟨S_, .i32⟩
  | 106 => ⟨S64x4x1, .i32⟩
  | 107 => ⟨S64x4x1, .i32⟩
  | 108 => ⟨S64x4x1, .i32⟩
  | 109 => ⟨S64x4x1, .i32⟩
  | 110 => ⟨S64x4x1, .i32⟩
  | 111 => ⟨S_, .i32⟩
  | 112 => ⟨S64x4x1, .i32⟩
  | 113 => ⟨S64x4x1, .i32⟩
  | 114 => ⟨S_, .i32⟩
  | 115 => ⟨S64x4x1, .i32⟩
  | 116 => ⟨S64x4x1, .i32⟩
  | 117 => ⟨S64x4x1, .i32⟩
  | 118 => ⟨S64x4x1, .i32⟩
  | 119 => ⟨S64x4x1, .i32⟩
  | 120 => ⟨S_, .i32⟩
  | 121 => ⟨S64x4x1, .i32⟩
  | 122 => ⟨S64x4x1, .i32⟩
  | 123 => ⟨S_, .i32⟩
  | 124 => ⟨S64x4x1, .i32⟩
  | 125 => ⟨S64x4x1, .i32⟩
  | 126 => ⟨S64x4x1, .i32⟩
  | 127 => ⟨S64x4x1, .i32⟩
  | _ => ⟨S64x2048, .i32⟩

abbrev hbmTy0_3 (i : Nat) : BufTy := match i % 128 with
  | 0 => ⟨S64x4x1, .i32⟩
  | 1 => ⟨S_, .i32⟩
  | 2 => ⟨S64x4x1, .i32⟩
  | 3 => ⟨S64x4x1, .i32⟩
  | 4 => ⟨S_, .i32⟩
  | 5 => ⟨S64x4x1, .i32⟩
  | 6 => ⟨S64x4x1, .i32⟩
  | 7 => ⟨S64x4x1, .i32⟩
  | 8 => ⟨S64x4x1, .i32⟩
  | 9 => ⟨S64x4x1, .i32⟩
  | 10 => ⟨S64x4x1, .i32⟩
  | 11 => ⟨S_, .i32⟩
  | 12 => ⟨S64x4x1, .i32⟩
  | 13 => ⟨S64x4x1, .i32⟩
  | 14 => ⟨S64x4x1, .i32⟩
  | 15 => ⟨S_, .i32⟩
  | 16 => ⟨S64x4x1, .i32⟩
  | 17 => ⟨S64x4x1, .i32⟩
  | 18 => ⟨S_, .i32⟩
  | 19 => ⟨S64x4x1, .i32⟩
  | 20 => ⟨S64x4x1, .i32⟩
  | 21 => ⟨S64x4x1, .i32⟩
  | 22 => ⟨S64x4x1, .i32⟩
  | 23 => ⟨S64x4x1, .i32⟩
  | 24 => ⟨S_, .i32⟩
  | 25 => ⟨S64x4x1, .i32⟩
  | 26 => ⟨S64x4x1, .i32⟩
  | 27 => ⟨S_, .i32⟩
  | 28 => ⟨S64x4x1, .i32⟩
  | 29 => ⟨S64x4x1, .i32⟩
  | 30 => ⟨S64x4x1, .i32⟩
  | 31 => ⟨S64x4x1, .i32⟩
  | 32 => ⟨S64x4x1, .i32⟩
  | 33 => ⟨S_, .i32⟩
  | 34 => ⟨S64x4x1, .i32⟩
  | 35 => ⟨S64x4x1, .i32⟩
  | 36 => ⟨S_, .i32⟩
  | 37 => ⟨S64x4x1, .i32⟩
  | 38 => ⟨S64x4x1, .i32⟩
  | 39 => ⟨S64x4x1, .i32⟩
  | 40 => ⟨S64x4x1, .i32⟩
  | 41 => ⟨S64x4x1, .i32⟩
  | 42 => ⟨S_, .i32⟩
  | 43 => ⟨S64x4x1, .i32⟩
  | 44 => ⟨S64x4x1, .i32⟩
  | 45 => ⟨S_, .i32⟩
  | 46 => ⟨S64x4x1, .i32⟩
  | 47 => ⟨S64x4x1, .i32⟩
  | 48 => ⟨S64x4x1, .i32⟩
  | 49 => ⟨S64x4x1, .i32⟩
  | 50 => ⟨S64x4x1, .i32⟩
  | 51 => ⟨S64x4x1, .i32⟩
  | 52 => ⟨S_, .i32⟩
  | 53 => ⟨S64x4x1, .i32⟩
  | 54 => ⟨S64x4x1, .i32⟩
  | 55 => ⟨S64x4x100000, .i32⟩
  | 56 => ⟨S64x4x100000, .i32⟩
  | 57 => ⟨S64x4x100000, .i32⟩
  | 58 => ⟨S_, .i32⟩
  | 59 => ⟨S64x4x100000, .i32⟩
  | 60 => ⟨S64x4x100000, .i32⟩
  | 61 => ⟨S_, .i32⟩
  | 62 => ⟨S64x4x100000, .i32⟩
  | 63 => ⟨S64x4x100000, .i32⟩
  | 64 => ⟨S64x4x100000, .i32⟩
  | 65 => ⟨S64x4x100000, .i32⟩
  | 66 => ⟨S64x4x100000, .i32⟩
  | 67 => ⟨S_, .i32⟩
  | 68 => ⟨S64x4x100000, .i32⟩
  | 69 => ⟨S64x4x100000, .i32⟩
  | 70 => ⟨S_, .i32⟩
  | 71 => ⟨S64x4x100000, .i32⟩
  | 72 => ⟨S64x4x100000, .i32⟩
  | 73 => ⟨S64x4x100000, .i32⟩
  | 74 => ⟨S64x4x100000, .i32⟩
  | 75 => ⟨S64x4x100000, .i32⟩
  | 76 => ⟨S_, .i32⟩
  | 77 => ⟨S64x4x100000, .i32⟩
  | 78 => ⟨S64x4x100000, .i32⟩
  | 79 => ⟨S_, .i32⟩
  | 80 => ⟨S64x4x100000, .i32⟩
  | 81 => ⟨S64x4x100000, .i32⟩
  | 82 => ⟨S64x4x100000, .i32⟩
  | 83 => ⟨S64x4x100000, .i32⟩
  | 84 => ⟨S64x4x100000, .i32⟩
  | 85 => ⟨S_, .i32⟩
  | 86 => ⟨S64x4x100000, .i32⟩
  | 87 => ⟨S64x4x100000, .i32⟩
  | 88 => ⟨S_, .i32⟩
  | 89 => ⟨S64x4x100000, .i32⟩
  | 90 => ⟨S64x4x100000, .i32⟩
  | 91 => ⟨S64x4x100000, .i32⟩
  | 92 => ⟨S64x4x100000, .i32⟩
  | 93 => ⟨S64x4x100000, .i32⟩
  | 94 => ⟨S_, .i32⟩
  | 95 => ⟨S64x4x100000, .i32⟩
  | 96 => ⟨S64x4x100000, .i32⟩
  | 97 => ⟨S_, .i32⟩
  | 98 => ⟨S64x4x100000, .i32⟩
  | 99 => ⟨S64x4x100000, .i32⟩
  | 100 => ⟨S64x4x100000, .i32⟩
  | 101 => ⟨S64x4x100000, .i32⟩
  | 102 => ⟨S64x4x100000, .i32⟩
  | 103 => ⟨S64x4x100000, .i32⟩
  | 104 => ⟨S_, .i32⟩
  | 105 => ⟨S64x4x100000, .i32⟩
  | 106 => ⟨S64x4x100000, .i32⟩
  | 107 => ⟨S64x4x100000, .i32⟩
  | 108 => ⟨S_, .i32⟩
  | 109 => ⟨S64x4x100000, .i32⟩
  | 110 => ⟨S64x4x100000, .i32⟩
  | 111 => ⟨S_, .i32⟩
  | 112 => ⟨S64x4x100000, .i32⟩
  | 113 => ⟨S64x4x100000, .i32⟩
  | 114 => ⟨S64x4x100000, .i32⟩
  | 115 => ⟨S64x4x100000, .i32⟩
  | 116 => ⟨S64x4x100000, .i32⟩
  | 117 => ⟨S_, .i32⟩
  | 118 => ⟨S64x4x100000, .i32⟩
  | 119 => ⟨S64x4x100000, .i32⟩
  | 120 => ⟨S_, .i32⟩
  | 121 => ⟨S64x4x100000, .i32⟩
  | 122 => ⟨S64x4x100000, .i32⟩
  | 123 => ⟨S64x4x100000, .i32⟩
  | 124 => ⟨S64x4x100000, .i32⟩
  | 125 => ⟨S64x4x100000, .i32⟩
  | 126 => ⟨S_, .i32⟩
  | 127 => ⟨S64x4x100000, .i32⟩
  | _ => ⟨S64x2048, .i32⟩

abbrev hbmTy0_4 (i : Nat) : BufTy := match i % 128 with
  | 0 => ⟨S64x4x100000, .i32⟩
  | 1 => ⟨S_, .i32⟩
  | 2 => ⟨S64x4x100000, .i32⟩
  | 3 => ⟨S64x4x100000, .i32⟩
  | 4 => ⟨S64x4x100000, .i32⟩
  | 5 => ⟨S64x4x100000, .i32⟩
  | 6 => ⟨S64x4x100000, .i32⟩
  | 7 => ⟨S_, .i32⟩
  | 8 => ⟨S64x4x100000, .i32⟩
  | 9 => ⟨S64x4x100000, .i32⟩
  | 10 => ⟨S_, .i32⟩
  | 11 => ⟨S64x4x100000, .i32⟩
  | 12 => ⟨S64x4x100000, .i32⟩
  | 13 => ⟨S64x4x100000, .i32⟩
  | 14 => ⟨S64x4x100000, .i32⟩
  | 15 => ⟨S64x4x100000, .i32⟩
  | 16 => ⟨S64x4x100000, .i32⟩
  | 17 => ⟨S_, .i32⟩
  | 18 => ⟨S64x4x100000, .i32⟩
  | 19 => ⟨S64x4x100000, .i32⟩
  | 20 => ⟨S64x4x100000, .i32⟩
  | 21 => ⟨S_, .i32⟩
  | 22 => ⟨S64x4x100000, .i32⟩
  | 23 => ⟨S64x4x100000, .i32⟩
  | 24 => ⟨S_, .i32⟩
  | 25 => ⟨S64x4x100000, .i32⟩
  | 26 => ⟨S64x4x100000, .i32⟩
  | 27 => ⟨S64x4x100000, .i32⟩
  | 28 => ⟨S64x4x100000, .i32⟩
  | 29 => ⟨S64x4x100000, .i32⟩
  | 30 => ⟨S_, .i32⟩
  | 31 => ⟨S64x4x100000, .i32⟩
  | 32 => ⟨S64x4x100000, .i32⟩
  | 33 => ⟨S_, .i32⟩
  | 34 => ⟨S64x4x100000, .i32⟩
  | 35 => ⟨S64x4x100000, .i32⟩
  | 36 => ⟨S64x4x100000, .i32⟩
  | 37 => ⟨S64x4x100000, .i32⟩
  | 38 => ⟨S64x4x100000, .i32⟩
  | 39 => ⟨S_, .i32⟩
  | 40 => ⟨S64x4x100000, .i32⟩
  | 41 => ⟨S64x4x100000, .i32⟩
  | 42 => ⟨S_, .i32⟩
  | 43 => ⟨S64x4x100000, .i32⟩
  | 44 => ⟨S64x4x100000, .i32⟩
  | 45 => ⟨S64x4x100000, .i32⟩
  | 46 => ⟨S64x4x100000, .i32⟩
  | 47 => ⟨S64x4x100000, .i32⟩
  | 48 => ⟨S_, .i32⟩
  | 49 => ⟨S64x4x100000, .i32⟩
  | 50 => ⟨S64x4x100000, .i32⟩
  | 51 => ⟨S_, .i32⟩
  | 52 => ⟨S64x4x100000, .i32⟩
  | 53 => ⟨S64x4x100000, .i32⟩
  | 54 => ⟨S64x4x100000, .i32⟩
  | 55 => ⟨S64x4x100000, .i32⟩
  | 56 => ⟨S64x4x100000, .i32⟩
  | 57 => ⟨S64x4x100000, .i32⟩
  | 58 => ⟨S_, .i32⟩
  | 59 => ⟨S64x4x100000, .i32⟩
  | 60 => ⟨S64x4x100000, .i32⟩
  | 61 => ⟨S64x4x100000, .i32⟩
  | 62 => ⟨S_, .i32⟩
  | 63 => ⟨S64x4x100000, .i32⟩
  | 64 => ⟨S64x4x100000, .i32⟩
  | 65 => ⟨S_, .i32⟩
  | 66 => ⟨S64x4x100000, .i32⟩
  | 67 => ⟨S64x4x100000, .i32⟩
  | 68 => ⟨S64x4x100000, .i32⟩
  | 69 => ⟨S64x4x100000, .i32⟩
  | 70 => ⟨S64x4x100000, .i32⟩
  | 71 => ⟨S_, .i32⟩
  | 72 => ⟨S64x4x100000, .i32⟩
  | 73 => ⟨S64x4x100000, .i32⟩
  | 74 => ⟨S_, .i32⟩
  | 75 => ⟨S64x4x100000, .i32⟩
  | 76 => ⟨S64x4x100000, .i32⟩
  | 77 => ⟨S64x4x100000, .i32⟩
  | 78 => ⟨S64x4x100000, .i32⟩
  | 79 => ⟨S64x4x100000, .i32⟩
  | 80 => ⟨S_, .i32⟩
  | 81 => ⟨S64x4x100000, .i32⟩
  | 82 => ⟨S64x4x100000, .i32⟩
  | 83 => ⟨S_, .i32⟩
  | 84 => ⟨S64x4x100000, .i32⟩
  | 85 => ⟨S64x4x100000, .i32⟩
  | 86 => ⟨S64x4x100000, .i32⟩
  | 87 => ⟨S64x4x100000, .i32⟩
  | 88 => ⟨S64x4x100000, .i32⟩
  | 89 => ⟨S_, .i32⟩
  | 90 => ⟨S64x4x100000, .i32⟩
  | 91 => ⟨S64x4x100000, .i32⟩
  | 92 => ⟨S_, .i32⟩
  | 93 => ⟨S64x4x100000, .i32⟩
  | 94 => ⟨S64x4x100000, .i32⟩
  | 95 => ⟨S64x4x100000, .i32⟩
  | 96 => ⟨S64x4x100000, .i32⟩
  | 97 => ⟨S64x4x100000, .i32⟩
  | 98 => ⟨S64x4x100000, .i32⟩
  | 99 => ⟨S_, .i32⟩
  | 100 => ⟨S64x4x100000, .i32⟩
  | 101 => ⟨S64x4x100000, .i32⟩
  | 102 => ⟨S64x4x100000, .i32⟩
  | 103 => ⟨S_, .i32⟩
  | 104 => ⟨S64x4x100000, .i32⟩
  | 105 => ⟨S64x4x100000, .i32⟩
  | 106 => ⟨S_, .i32⟩
  | 107 => ⟨S64x4x100000, .i32⟩
  | 108 => ⟨S64x4x100000, .i32⟩
  | 109 => ⟨S64x4x100000, .i32⟩
  | 110 => ⟨S64x4x100000, .i32⟩
  | 111 => ⟨S64x4x100000, .i32⟩
  | 112 => ⟨S_, .i32⟩
  | 113 => ⟨S64x4x100000, .i32⟩
  | 114 => ⟨S64x4x100000, .i32⟩
  | 115 => ⟨S_, .i32⟩
  | 116 => ⟨S64x4x100000, .i32⟩
  | 117 => ⟨S64x4x100000, .i32⟩
  | 118 => ⟨S64x4x100000, .i32⟩
  | 119 => ⟨S64x4x100000, .i32⟩
  | 120 => ⟨S64x4x100000, .i32⟩
  | 121 => ⟨S_, .i32⟩
  | 122 => ⟨S64x4x100000, .i32⟩
  | 123 => ⟨S64x4x100000, .i32⟩
  | 124 => ⟨S_, .i32⟩
  | 125 => ⟨S64x4x100000, .i32⟩
  | 126 => ⟨S64x4x100000, .i32⟩
  | 127 => ⟨S64x4x100000, .i32⟩
  | _ => ⟨S64x2048, .i32⟩

abbrev hbmTy0_5 (i : Nat) : BufTy := match i % 128 with
  | 0 => ⟨S64x4x100000, .i32⟩
  | 1 => ⟨S64x4x100000, .i32⟩
  | 2 => ⟨S_, .i32⟩
  | 3 => ⟨S64x4x100000, .i32⟩
  | 4 => ⟨S64x4x100000, .i32⟩
  | 5 => ⟨S_, .i32⟩
  | 6 => ⟨S64x4x100000, .i32⟩
  | 7 => ⟨S64x4x100000, .i32⟩
  | 8 => ⟨S64x4x100000, .i32⟩
  | 9 => ⟨S64x4x100000, .i32⟩
  | 10 => ⟨S64x4x100000, .i32⟩
  | 11 => ⟨S64x4x100000, .i32⟩
  | 12 => ⟨S_, .i32⟩
  | 13 => ⟨S64x4x100000, .i32⟩
  | 14 => ⟨S64x4x100000, .i32⟩
  | 15 => ⟨S64x4x100000, .i32⟩
  | 16 => ⟨S_, .i32⟩
  | 17 => ⟨S64x4x100000, .i32⟩
  | 18 => ⟨S64x4x100000, .i32⟩
  | 19 => ⟨S64x4x100000, .i32⟩
  | 20 => ⟨S64x4x100000, .f32⟩
  | 21 => ⟨S_, .f32⟩
  | 22 => ⟨S64x4x100000, .f32⟩
  | 23 => ⟨S64x4x100000, .f32⟩
  | 24 => ⟨S_, .f32⟩
  | 25 => ⟨S64x4x100000, .f32⟩
  | 26 => ⟨S64x4x100000, .i1⟩
  | 27 => ⟨S64x4x100000, .f32⟩
  | 28 => ⟨S_, .f32⟩
  | 29 => ⟨S64, .f32⟩
  | 30 => ⟨S_, .f32⟩
  | 31 => ⟨S64, .f32⟩
  | 32 => ⟨S64, .f32⟩
  | 33 => ⟨S64x1, .f32⟩
  | 34 => ⟨S64x100000, .f32⟩
  | 35 => ⟨S64x100000, .f32⟩
  | 36 => ⟨S64x100000, .f32⟩
  | 37 => ⟨S_, .f32⟩
  | 38 => ⟨S64, .f32⟩
  | 39 => ⟨S64x1, .f32⟩
  | 40 => ⟨S64x100000, .f32⟩
  | 41 => ⟨S64x100000, .f32⟩
  | 42 => ⟨S64x1x100000, .f32⟩
  | 43 => ⟨S64x100000, .f32⟩
  | 44 => ⟨S64x100000, .f32⟩
  | 45 => ⟨S_, .f32⟩
  | 46 => ⟨S64, .f32⟩
  | 47 => ⟨S64x1, .f32⟩
  | 48 => ⟨S_, .f32⟩
  | 49 => ⟨S64x100000, .f32⟩
  | 50 => ⟨S64x100000, .f32⟩
  | 51 => ⟨S64x100000, .f32⟩
  | 52 => ⟨S64x100000, .f32⟩
  | 53 => ⟨S64x100000, .f32⟩
  | 54 => ⟨S64x1x100000, .f32⟩
  | 55 => ⟨S64x100000, .f32⟩
  | 56 => ⟨S64x100000, .f32⟩
  | 57 => ⟨S_, .f32⟩
  | 58 => ⟨S64, .f32⟩
  | 59 => ⟨S64x1, .f32⟩
  | 60 => ⟨S_, .f32⟩
  | 61 => ⟨S64x100000, .f32⟩
  | 62 => ⟨S64x100000, .f32⟩
  | 63 => ⟨S64x100000, .f32⟩
  | 64 => ⟨S64x100000, .f32⟩
  | 65 => ⟨S64x100000, .f32⟩
  | 66 => ⟨S64x1x100000, .f32⟩
  | 67 => ⟨S64x100000, .f32⟩
  | 68 => ⟨S64x100000, .f32⟩
  | 69 => ⟨S_, .f32⟩
  | 70 => ⟨S64, .f32⟩
  | 71 => ⟨S64x1, .f32⟩
  | 72 => ⟨S_, .f32⟩
  | 73 => ⟨S64x100000, .f32⟩
  | 74 => ⟨S64x100000, .f32⟩
  | 75 => ⟨S64x100000, .f32⟩
  | 76 => ⟨S64x100000, .f32⟩
  | 77 => ⟨S64x100000, .f32⟩
  | 78 => ⟨S64x1x100000, .f32⟩
  | 79 => ⟨S64x100000, .f32⟩
  | 80 => ⟨S64x100000, .f32⟩
  | 81 => ⟨S_, .f32⟩
  | 82 => ⟨S64, .f32⟩
  | 83 => ⟨S64x1, .f32⟩
  | 84 => ⟨S_, .f32⟩
  | 85 => ⟨S64x100000, .f32⟩
  | 86 => ⟨S64x100000, .f32⟩
  | 87 => ⟨S64x100000, .f32⟩
  | 88 => ⟨S64x100000, .f32⟩
  | 89 => ⟨S64x100000, .f32⟩
  | 90 => ⟨S64x100000, .i32⟩
  | 91 => ⟨S64x100000, .f32⟩
  | 92 => ⟨S64x100000, .f32⟩
  | 93 => ⟨S64x100000, .i32⟩
  | 94 => ⟨S64x100000, .f32⟩
  | 95 => ⟨S_, .f32⟩
  | 96 => ⟨S_, .f32⟩
  | 97 => ⟨S64x100000, .f32⟩
  | 98 => ⟨S_, .f32⟩
  | 99 => ⟨S64x100000, .f32⟩
  | 100 => ⟨S64x100000, .i1⟩
  | 101 => ⟨S64x100000, .i32⟩
  | 102 => ⟨S_, .i32⟩
  | 103 => ⟨S64, .i32⟩
  | 104 => ⟨S64x1, .i32⟩
  | 105 => ⟨S64x100000, .i32⟩
  | 106 => ⟨S64x100000, .i1⟩
  | 107 => ⟨S_, .f32⟩
  | 108 => ⟨S_, .f32⟩
  | 109 => ⟨S64x100000, .f32⟩
  | 110 => ⟨S64x100000, .f32⟩
  | 111 => ⟨S_, .f32⟩
  | 112 => ⟨S64, .f32⟩
  | 113 => ⟨S64x1, .f32⟩
  | 114 => ⟨S64x100000, .f32⟩
  | 115 => ⟨S64x100000, .f32⟩
  | 116 => ⟨S64x100000, .f32⟩
  | 117 => ⟨S_, .f32⟩
  | 118 => ⟨S64x100000, .f32⟩
  | 119 => ⟨S64x100000, .i1⟩
  | 120 => ⟨S_, .f32⟩
  | 121 => ⟨S_, .f32⟩
  | 122 => ⟨S64x100000, .f32⟩
  | 123 => ⟨S64x100000, .f32⟩
  | 124 => ⟨S_, .i32⟩
  | 125 => ⟨S64x1, .i32⟩
  | 126 => ⟨S_, .i32⟩
  | 127 => ⟨S64x1, .i32⟩
  | _ => ⟨S64x2048, .i32⟩

abbrev hbmTy0_6 (i : Nat) : BufTy := match i % 128 with
  | 0 => ⟨S64x1, .i32⟩
  | 1 => ⟨S_, .i32⟩
  | 2 => ⟨S64x1, .i32⟩
  | 3 => ⟨S64x1, .i32⟩
  | 4 => ⟨S_, .i32⟩
  | 5 => ⟨S64x1, .i32⟩
  | 6 => ⟨S64x1, .i32⟩
  | 7 => ⟨S64x1, .i32⟩
  | 8 => ⟨S64x1, .i32⟩
  | 9 => ⟨S64x1, .i32⟩
  | 10 => ⟨S_, .i32⟩
  | 11 => ⟨S64x1, .i32⟩
  | 12 => ⟨S64x1, .i32⟩
  | 13 => ⟨S_, .i32⟩
  | 14 => ⟨S64x1, .i32⟩
  | 15 => ⟨S64x1, .i32⟩
  | 16 => ⟨S64x1, .i32⟩
  | 17 => ⟨S64x1, .i32⟩
  | 18 => ⟨S64x1, .i32⟩
  | 19 => ⟨S_, .i32⟩
  | 20 => ⟨S64x1, .i32⟩
  | 21 => ⟨S64x1, .i32⟩
  | 22 => ⟨S_, .i32⟩
  | 23 => ⟨S64x1, .i32⟩
  | 24 => ⟨S64x1, .i32⟩
  | 25 => ⟨S64x1, .i32⟩
  | 26 => ⟨S64x1, .i32⟩
  | 27 => ⟨S64x1, .i32⟩
  | 28 => ⟨S_, .i32⟩
  | 29 => ⟨S64x1, .i32⟩
  | 30 => ⟨S64x1, .i32⟩
  | 31 => ⟨S_, .i32⟩
  | 32 => ⟨S64x1, .i32⟩
  | 33 => ⟨S64x1, .i32⟩
  | 34 => ⟨S64x1, .i32⟩
  | 35 => ⟨S64x1, .i32⟩
  | 36 => ⟨S64x1, .i32⟩
  | 37 => ⟨S_, .i32⟩
  | 38 => ⟨S64x1, .i32⟩
  | 39 => ⟨S64x1, .i32⟩
  | 40 => ⟨S_, .i32⟩
  | 41 => ⟨S64x1, .i32⟩
  | 42 => ⟨S64x1, .i32⟩
  | 43 => ⟨S64x1, .i32⟩
  | 44 => ⟨S64x1, .i32⟩
  | 45 => ⟨S64x1, .i32⟩
  | 46 => ⟨S64x1, .i32⟩
  | 47 => ⟨S_, .i32⟩
  | 48 => ⟨S64x1, .i32⟩
  | 49 => ⟨S64x1, .i32⟩
  | 50 => ⟨S64x1, .i32⟩
  | 51 => ⟨S_, .i32⟩
  | 52 => ⟨S64x1, .i32⟩
  | 53 => ⟨S64x1, .i32⟩
  | 54 => ⟨S_, .i32⟩
  | 55 => ⟨S64x1, .i32⟩
  | 56 => ⟨S64x1, .i32⟩
  | 57 => ⟨S64x1, .i32⟩
  | 58 => ⟨S64x1, .i32⟩
  | 59 => ⟨S64x1, .i32⟩
  | 60 => ⟨S_, .i32⟩
  | 61 => ⟨S64x1, .i32⟩
  | 62 => ⟨S64x1, .i32⟩
  | 63 => ⟨S_, .i32⟩
  | 64 => ⟨S64x1, .i32⟩
  | 65 => ⟨S64x1, .i32⟩
  | 66 => ⟨S64x1, .i32⟩
  | 67 => ⟨S64x1, .i32⟩
  | 68 => ⟨S64x1, .i32⟩
  | 69 => ⟨S_, .i32⟩
  | 70 => ⟨S64x1, .i32⟩
  | 71 => ⟨S64x1, .i32⟩
  | 72 => ⟨S_, .i32⟩
  | 73 => ⟨S64x1, .i32⟩
  | 74 => ⟨S64x1, .i32⟩
  | 75 => ⟨S64x1, .i32⟩
  | 76 => ⟨S64x1, .i32⟩
  | 77 => ⟨S64x1, .i32⟩
  | 78 => ⟨S_, .i32⟩
  | 79 => ⟨S64x1, .i32⟩
  | 80 => ⟨S64x1, .i32⟩
  | 81 => ⟨S_, .i32⟩
  | 82 => ⟨S64x1, .i32⟩
  | 83 => ⟨S64x1, .i32⟩
  | 84 => ⟨S64x1, .i32⟩
  | 85 => ⟨S64x1, .i32⟩
  | 86 => ⟨S64x1, .i32⟩
  | 87 => ⟨S64x1, .i32⟩
  | 88 => ⟨S_, .i32⟩
  | 89 => ⟨S64x1, .i32⟩
  | 90 => ⟨S64x1, .i32⟩
  | 91 => ⟨S64x1, .i32⟩
  | 92 => ⟨S_, .i32⟩
  | 93 => ⟨S64x1, .i32⟩
  | 94 => ⟨S64x1, .i32⟩
  | 95 => ⟨S_, .i32⟩
  | 96 => ⟨S64x1, .i32⟩
  | 97 => ⟨S64x1, .i32⟩
  | 98 => ⟨S64x1, .i32⟩
  | 99 => ⟨S64x1, .i32⟩
  | 100 => ⟨S64x1, .i32⟩
  | 101 => ⟨S_, .i32⟩
  | 102 => ⟨S64x1, .i32⟩
  | 103 => ⟨S64x1, .i32⟩
  | 104 => ⟨S_, .i32⟩
  | 105 => ⟨S64x1, .i32⟩
  | 106 => ⟨S64x1, .i32⟩
  | 107 => ⟨S64x1, .i32⟩
  | 108 => ⟨S64x1, .i32⟩
  | 109 => ⟨S64x1, .i32⟩
  | 110 => ⟨S_, .i32⟩
  | 111 => ⟨S64x1, .i32⟩
  | 112 => ⟨S64x1, .i32⟩
  | 113 => ⟨S_, .i32⟩
  | 114 => ⟨S64x1, .i32⟩
  | 115 => ⟨S64x1, .i32⟩
  | 116 => ⟨S64x1, .i32⟩
  | 117 => ⟨S64x1, .i32⟩
  | 118 => ⟨S64x1, .i32⟩
  | 119 => ⟨S_, .i32⟩
  | 120 => ⟨S64x1, .i32⟩
  | 121 => ⟨S64x1, .i32⟩
  | 122 => ⟨S_, .i32⟩
  | 123 => ⟨S64x1, .i32⟩
  | 124 => ⟨S64x1, .i32⟩
  | 125 => ⟨S64x1, .i32⟩
  | 126 => ⟨S64x1, .i32⟩
  | 127 => ⟨S64x1, .i32⟩
  | _ => ⟨S64x2048, .i32⟩

abbrev hbmTy0_7 (i : Nat) : BufTy := match i % 128 with
  | 0 => ⟨S64x1, .i32⟩
  | 1 => ⟨S_, .i32⟩
  | 2 => ⟨S64x1, .i32⟩
  | 3 => ⟨S64x1, .i32⟩
  | 4 => ⟨S64x1, .i32⟩
  | 5 => ⟨S_, .i32⟩
  | 6 => ⟨S64x1, .i32⟩
  | 7 => ⟨S64x1, .i32⟩
  | 8 => ⟨S_, .i32⟩
  | 9 => ⟨S64x1, .i32⟩
  | 10 => ⟨S64x1, .i32⟩
  | 11 => ⟨S64x1, .i32⟩
  | 12 => ⟨S64x1, .i32⟩
  | 13 => ⟨S64x1, .i32⟩
  | 14 => ⟨S_, .i32⟩
  | 15 => ⟨S64x1, .i32⟩
  | 16 => ⟨S64x1, .i32⟩
  | 17 => ⟨S_, .i32⟩
  | 18 => ⟨S64x1, .i32⟩
  | 19 => ⟨S64x1, .i32⟩
  | 20 => ⟨S64x1, .i32⟩
  | 21 => ⟨S64x1, .i32⟩
  | 22 => ⟨S64x1, .i32⟩
  | 23 => ⟨S_, .i32⟩
  | 24 => ⟨S64x1, .i32⟩
  | 25 => ⟨S64x1, .i32⟩
  | 26 => ⟨S_, .i32⟩
  | 27 => ⟨S64x1, .i32⟩
  | 28 => ⟨S64x1, .i32⟩
  | 29 => ⟨S64x1, .i32⟩
  | 30 => ⟨S64x1, .i32⟩
  | 31 => ⟨S64x1, .i32⟩
  | 32 => ⟨S_, .i32⟩
  | 33 => ⟨S64x1, .i32⟩
  | 34 => ⟨S64x1, .i32⟩
  | 35 => ⟨S_, .i32⟩
  | 36 => ⟨S64x1, .i32⟩
  | 37 => ⟨S64x1, .i32⟩
  | 38 => ⟨S64x1, .i32⟩
  | 39 => ⟨S64x1, .i32⟩
  | 40 => ⟨S64x1, .i32⟩
  | 41 => ⟨S64x1, .i32⟩
  | 42 => ⟨S_, .i32⟩
  | 43 => ⟨S64x1, .i32⟩
  | 44 => ⟨S64x1, .i32⟩
  | 45 => ⟨S64x1, .i32⟩
  | 46 => ⟨S_, .i32⟩
  | 47 => ⟨S64x1, .i32⟩
  | 48 => ⟨S64x1, .i32⟩
  | 49 => ⟨S_, .i32⟩
  | 50 => ⟨S64x1, .i32⟩
  | 51 => ⟨S64x1, .i32⟩
  | 52 => ⟨S64x1, .i32⟩
  | 53 => ⟨S64x1, .i32⟩
  | 54 => ⟨S64x1, .i32⟩
  | 55 => ⟨S_, .i32⟩
  | 56 => ⟨S64x1, .i32⟩
  | 57 => ⟨S64x1, .i32⟩
  | 58 => ⟨S_, .i32⟩
  | 59 => ⟨S64x1, .i32⟩
  | 60 => ⟨S64x1, .i32⟩
  | 61 => ⟨S64x1, .i32⟩
  | 62 => ⟨S64x1, .i32⟩
  | 63 => ⟨S64x1, .i32⟩
  | 64 => ⟨S_, .i32⟩
  | 65 => ⟨S64x1, .i32⟩
  | 66 => ⟨S64x1, .i32⟩
  | 67 => ⟨S_, .i32⟩
  | 68 => ⟨S64x1, .i32⟩
  | 69 => ⟨S64x1, .i32⟩
  | 70 => ⟨S64x1, .i32⟩
  | 71 => ⟨S64x1, .i32⟩
  | 72 => ⟨S64x1, .i32⟩
  | 73 => ⟨S_, .i32⟩
  | 74 => ⟨S64x1, .i32⟩
  | 75 => ⟨S64x1, .i32⟩
  | 76 => ⟨S_, .i32⟩
  | 77 => ⟨S64x1, .i32⟩
  | 78 => ⟨S64x1, .i32⟩
  | 79 => ⟨S64x1, .i32⟩
  | 80 => ⟨S64x1, .i32⟩
  | 81 => ⟨S64x1, .i32⟩
  | 82 => ⟨S64x1, .i32⟩
  | 83 => ⟨S_, .i32⟩
  | 84 => ⟨S64x1, .i32⟩
  | 85 => ⟨S64x1, .i32⟩
  | 86 => ⟨S64x100000, .i32⟩
  | 87 => ⟨S64x100000, .i32⟩
  | 88 => ⟨S64x100000, .i32⟩
  | 89 => ⟨S_, .i32⟩
  | 90 => ⟨S64x100000, .i32⟩
  | 91 => ⟨S64x100000, .i32⟩
  | 92 => ⟨S_, .i32⟩
  | 93 => ⟨S64x100000, .i32⟩
  | 94 => ⟨S64x100000, .i32⟩
  | 95 => ⟨S64x100000, .i32⟩
  | 96 => ⟨S64x100000, .i32⟩
  | 97 => ⟨S64x100000, .i32⟩
  | 98 => ⟨S_, .i32⟩
  | 99 => ⟨S64x100000, .i32⟩
  | 100 => ⟨S64x100000, .i32⟩
  | 101 => ⟨S_, .i32⟩
  | 102 => ⟨S64x100000, .i32⟩
  | 103 => ⟨S64x100000, .i32⟩
  | 104 => ⟨S64x100000, .i32⟩
  | 105 => ⟨S64x100000, .i32⟩
  | 106 => ⟨S64x100000, .i32⟩
  | 107 => ⟨S_, .i32⟩
  | 108 => ⟨S64x100000, .i32⟩
  | 109 => ⟨S64x100000, .i32⟩
  | 110 => ⟨S_, .i32⟩
  | 111 => ⟨S64x100000, .i32⟩
  | 112 => ⟨S64x100000, .i32⟩
  | 113 => ⟨S64x100000, .i32⟩
  | 114 => ⟨S64x100000, .i32⟩
  | 115 => ⟨S64x100000, .i32⟩
  | 116 => ⟨S_, .i32⟩
  | 117 => ⟨S64x100000, .i32⟩
  | 118 => ⟨S64x100000, .i32⟩
  | 119 => ⟨S_, .i32⟩
  | 120 => ⟨S64x100000, .i32⟩
  | 121 => ⟨S64x100000, .i32⟩
  | 122 => ⟨S64x100000, .i32⟩
  | 123 => ⟨S64x100000, .i32⟩
  | 124 => ⟨S64x100000, .i32⟩
  | 125 => ⟨S_, .i32⟩
  | 126 => ⟨S64x100000, .i32⟩
  | 127 => ⟨S64x100000, .i32⟩
  | _ => ⟨S64x2048, .i32⟩

abbrev hbmTy0_8 (i : Nat) : BufTy := match i % 128 with
  | 0 => ⟨S_, .i32⟩
  | 1 => ⟨S64x100000, .i32⟩
  | 2 => ⟨S64x100000, .i32⟩
  | 3 => ⟨S64x100000, .i32⟩
  | 4 => ⟨S64x100000, .i32⟩
  | 5 => ⟨S64x100000, .i32⟩
  | 6 => ⟨S64x100000, .i32⟩
  | 7 => ⟨S_, .i32⟩
  | 8 => ⟨S64x100000, .i32⟩
  | 9 => ⟨S64x100000, .i32⟩
  | 10 => ⟨S64x100000, .i32⟩
  | 11 => ⟨S_, .i32⟩
  | 12 => ⟨S64x100000, .i32⟩
  | 13 => ⟨S64x100000, .i32⟩
  | 14 => ⟨S_, .i32⟩
  | 15 => ⟨S64x100000, .i32⟩
  | 16 => ⟨S64x100000, .i32⟩
  | 17 => ⟨S64x100000, .i32⟩
  | 18 => ⟨S64x100000, .i32⟩
  | 19 => ⟨S64x100000, .i32⟩
  | 20 => ⟨S_, .i32⟩
  | 21 => ⟨S64x100000, .i32⟩
  | 22 => ⟨S64x100000, .i32⟩
  | 23 => ⟨S_, .i32⟩
  | 24 => ⟨S64x100000, .i32⟩
  | 25 => ⟨S64x100000, .i32⟩
  | 26 => ⟨S64x100000, .i32⟩
  | 27 => ⟨S64x100000, .i32⟩
  | 28 => ⟨S64x100000, .i32⟩
  | 29 => ⟨S_, .i32⟩
  | 30 => ⟨S64x100000, .i32⟩
  | 31 => ⟨S64x100000, .i32⟩
  | 32 => ⟨S_, .i32⟩
  | 33 => ⟨S64x100000, .i32⟩
  | 34 => ⟨S64x100000, .i32⟩
  | 35 => ⟨S64x100000, .i32⟩
  | 36 => ⟨S64x100000, .i32⟩
  | 37 => ⟨S64x100000, .i32⟩
  | 38 => ⟨S_, .i32⟩
  | 39 => ⟨S64x100000, .i32⟩
  | 40 => ⟨S64x100000, .i32⟩
  | 41 => ⟨S_, .i32⟩
  | 42 => ⟨S64x100000, .i32⟩
  | 43 => ⟨S64x100000, .i32⟩
  | 44 => ⟨S64x100000, .i32⟩
  | 45 => ⟨S64x100000, .i32⟩
  | 46 => ⟨S64x100000, .i32⟩
  | 47 => ⟨S64x100000, .i32⟩
  | 48 => ⟨S_, .i32⟩
  | 49 => ⟨S64x100000, .i32⟩
  | 50 => ⟨S64x100000, .i32⟩
  | 51 => ⟨S64x100000, .i32⟩
  | 52 => ⟨S_, .i32⟩
  | 53 => ⟨S64x100000, .i32⟩
  | 54 => ⟨S64x100000, .i32⟩
  | 55 => ⟨S_, .i32⟩
  | 56 => ⟨S64x100000, .i32⟩
  | 57 => ⟨S64x100000, .i32⟩
  | 58 => ⟨S64x100000, .i32⟩
  | 59 => ⟨S64x100000, .i32⟩
  | 60 => ⟨S64x100000, .i32⟩
  | 61 => ⟨S_, .i32⟩
  | 62 => ⟨S64x100000, .i32⟩
  | 63 => ⟨S64x100000, .i32⟩
  | 64 => ⟨S_, .i32⟩
  | 65 => ⟨S64x100000, .i32⟩
  | 66 => ⟨S64x100000, .i32⟩
  | 67 => ⟨S64x100000, .i32⟩
  | 68 => ⟨S64x100000, .i32⟩
  | 69 => ⟨S64x100000, .i32⟩
  | 70 => ⟨S_, .i32⟩
  | 71 => ⟨S64x100000, .i32⟩
  | 72 => ⟨S64x100000, .i32⟩
  | 73 => ⟨S_, .i32⟩
  | 74 => ⟨S64x100000, .i32⟩
  | 75 => ⟨S64x100000, .i32⟩
  | 76 => ⟨S64x100000, .i32⟩
  | 77 => ⟨S64x100000, .i32⟩
  | 78 => ⟨S64x100000, .i32⟩
  | 79 => ⟨S_, .i32⟩
  | 80 => ⟨S64x100000, .i32⟩
  | 81 => ⟨S64x100000, .i32⟩
  | 82 => ⟨S_, .i32⟩
  | 83 => ⟨S64x100000, .i32⟩
  | 84 => ⟨S64x100000, .i32⟩
  | 85 => ⟨S64x100000, .i32⟩
  | 86 => ⟨S64x100000, .i32⟩
  | 87 => ⟨S64x100000, .i32⟩
  | 88 => ⟨S64x100000, .i32⟩
  | 89 => ⟨S_, .i32⟩
  | 90 => ⟨S64x100000, .i32⟩
  | 91 => ⟨S64x100000, .i32⟩
  | 92 => ⟨S64x100000, .i32⟩
  | 93 => ⟨S_, .i32⟩
  | 94 => ⟨S64x100000, .i32⟩
  | 95 => ⟨S64x100000, .i32⟩
  | 96 => ⟨S_, .i32⟩
  | 97 => ⟨S64x100000, .i32⟩
  | 98 => ⟨S64x100000, .i32⟩
  | 99 => ⟨S64x100000, .i32⟩
  | 100 => ⟨S64x100000, .i32⟩
  | 101 => ⟨S64x100000, .i32⟩
  | 102 => ⟨S_, .i32⟩
  | 103 => ⟨S64x100000, .i32⟩
  | 104 => ⟨S64x100000, .i32⟩
  | 105 => ⟨S_, .i32⟩
  | 106 => ⟨S64x100000, .i32⟩
  | 107 => ⟨S64x100000, .i32⟩
  | 108 => ⟨S64x100000, .i32⟩
  | 109 => ⟨S64x100000, .i32⟩
  | 110 => ⟨S64x100000, .i32⟩
  | 111 => ⟨S_, .i32⟩
  | 112 => ⟨S64x100000, .i32⟩
  | 113 => ⟨S64x100000, .i32⟩
  | 114 => ⟨S_, .i32⟩
  | 115 => ⟨S64x100000, .i32⟩
  | 116 => ⟨S64x100000, .i32⟩
  | 117 => ⟨S64x100000, .i32⟩
  | 118 => ⟨S64x100000, .i32⟩
  | 119 => ⟨S64x100000, .i32⟩
  | 120 => ⟨S_, .i32⟩
  | 121 => ⟨S64x100000, .i32⟩
  | 122 => ⟨S64x100000, .i32⟩
  | 123 => ⟨S_, .i32⟩
  | 124 => ⟨S64x100000, .i32⟩
  | 125 => ⟨S64x100000, .i32⟩
  | 126 => ⟨S64x100000, .i32⟩
  | 127 => ⟨S64x100000, .i32⟩
  | _ => ⟨S64x2048, .i32⟩

abbrev hbmTy0_9 (i : Nat) : BufTy := match i % 128 with
  | 0 => ⟨S64x100000, .i32⟩
  | 1 => ⟨S64x100000, .i32⟩
  | 2 => ⟨S_, .i32⟩
  | 3 => ⟨S64x100000, .i32⟩
  | 4 => ⟨S64x100000, .i32⟩
  | 5 => ⟨S64x100000, .i32⟩
  | 6 => ⟨S_, .i32⟩
  | 7 => ⟨S64x100000, .i32⟩
  | 8 => ⟨S64x100000, .i32⟩
  | 9 => ⟨S_, .i32⟩
  | 10 => ⟨S64x100000, .i32⟩
  | 11 => ⟨S64x100000, .i32⟩
  | 12 => ⟨S64x100000, .i32⟩
  | 13 => ⟨S64x100000, .i32⟩
  | 14 => ⟨S64x100000, .i32⟩
  | 15 => ⟨S_, .i32⟩
  | 16 => ⟨S64x100000, .i32⟩
  | 17 => ⟨S64x100000, .i32⟩
  | 18 => ⟨S_, .i32⟩
  | 19 => ⟨S64x100000, .i32⟩
  | 20 => ⟨S64x100000, .i32⟩
  | 21 => ⟨S64x100000, .i32⟩
  | 22 => ⟨S64x100000, .i32⟩
  | 23 => ⟨S64x100000, .i32⟩
  | 24 => ⟨S_, .i32⟩
  | 25 => ⟨S64x100000, .i32⟩
  | 26 => ⟨S64x100000, .i32⟩
  | 27 => ⟨S_, .i32⟩
  | 28 => ⟨S64x100000, .i32⟩
  | 29 => ⟨S64x100000, .i32⟩
  | 30 => ⟨S64x100000, .i32⟩
  | 31 => ⟨S64x100000, .i32⟩
  | 32 => ⟨S64x100000, .i32⟩
  | 33 => ⟨S_, .i32⟩
  | 34 => ⟨S64x100000, .i32⟩
  | 35 => ⟨S64x100000, .i32⟩
  | 36 => ⟨S_, .i32⟩
  | 37 => ⟨S64x100000, .i32⟩
  | 38 => ⟨S64x100000, .i32⟩
  | 39 => ⟨S64x100000, .i32⟩
  | 40 => ⟨S64x100000, .i32⟩
  | 41 => ⟨S64x100000, .i32⟩
  | 42 => ⟨S64x100000, .i32⟩
  | 43 => ⟨S_, .i32⟩
  | 44 => ⟨S64x100000, .i32⟩
  | 45 => ⟨S64x100000, .i32⟩
  | 46 => ⟨S64x100000, .i32⟩
  | 47 => ⟨S_, .i32⟩
  | 48 => ⟨S64x100000, .i32⟩
  | 49 => ⟨S64x100000, .i32⟩
  | 50 => ⟨S64x100000, .i32⟩
  | 51 => ⟨S64x100000, .f32⟩
  | 52 => ⟨S_, .f32⟩
  | 53 => ⟨S64x100000, .f32⟩
  | 54 => ⟨S64x100000, .f32⟩
  | 55 => ⟨S_, .f32⟩
  | 56 => ⟨S64x100000, .f32⟩
  | 57 => ⟨S64x100000, .f32⟩
  | 58 => ⟨S_, .f32⟩
  | 59 => ⟨S64x100000, .f32⟩
  | 60 => ⟨S64x100000, .f32⟩
  | 61 => ⟨S64x100000, .f32⟩
  | 62 => ⟨S64x100000, .f32⟩
  | 63 => ⟨S64x100000, .f32⟩
  | 64 => ⟨S64x100000, .f32⟩
  | 65 => ⟨S64x100000, .f32⟩
  | 66 => ⟨S64x100000, .f32⟩
  | 67 => ⟨S_, .f32⟩
  | 68 => ⟨S64, .f32⟩
  | 69 => ⟨S64x1, .f32⟩
  | 70 => ⟨S64x100000, .f32⟩
  | 71 => ⟨S64x100000, .i1⟩
  | 72 => ⟨S_, .i32⟩
  | 73 => ⟨S_, .i32⟩
  | 74 => ⟨S64x100000, .i32⟩
  | 75 => ⟨S64x100000, .i32⟩
  | 76 => ⟨S_, .i32⟩
  | 77 => ⟨S64, .i32⟩
  | 78 => ⟨S64x1, .i32⟩
  | 79 => ⟨S64x100000, .i32⟩
  | 80 => ⟨S64x100000, .i1⟩
  | 81 => ⟨S_, .i32⟩
  | 82 => ⟨S_, .i32⟩
  | 83 => ⟨S64x100000, .i32⟩
  | 84 => ⟨S64x100000, .i32⟩
  | 85 => ⟨S_, .i32⟩
  | 86 => ⟨S64, .i32⟩
  | 87 => ⟨S64x1, .i32⟩
  | 88 => ⟨S64x100000, .i32⟩
  | 89 => ⟨S64x100000, .i1⟩
  | 90 => ⟨S_, .f32⟩
  | 91 => ⟨S_, .f32⟩
  | 92 => ⟨S64x100000, .f32⟩
  | 93 => ⟨S64x100000, .f32⟩
  | 94 => ⟨S64x100000, .f32⟩
  | _ => ⟨S64x2048, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S64x2048, .i32⟩

abbrev bufTy : (tb : Table) → Fin (tcTables nBuf tb) → BufTy
  | .hbm, ⟨i, _⟩ => hbmTy i
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_c_0 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_c_1 : Ref sig .tc := ⟨.hbm, 30, rfl⟩
abbrev main_call0_v8 : Ref sig .tc := ⟨.hbm, 31, rfl⟩
abbrev main_call0_v9 : Ref sig .tc := ⟨.hbm, 32, rfl⟩
abbrev main_call0_c_2 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_c_3 : Ref sig .tc := ⟨.hbm, 39, rfl⟩
abbrev main_call0_v15 : Ref sig .tc := ⟨.hbm, 40, rfl⟩
abbrev main_call0_v16 : Ref sig .tc := ⟨.hbm, 41, rfl⟩
abbrev main_call0_c_4 : Ref sig .tc := ⟨.hbm, 42, rfl⟩
abbrev main_call0_v17 : Ref sig .tc := ⟨.hbm, 43, rfl⟩
abbrev main_call0_v18 : Ref sig .tc := ⟨.hbm, 44, rfl⟩
abbrev main_call0_v19 : Ref sig .tc := ⟨.hbm, 45, rfl⟩
abbrev main_call0_v20 : Ref sig .tc := ⟨.hbm, 46, rfl⟩
abbrev main_v13_0 : Ref sig .tc := ⟨.hbm, 47, rfl⟩
abbrev main_call0_c_5 : Ref sig .tc := ⟨.hbm, 48, rfl⟩
abbrev main_call0_v22 : Ref sig .tc := ⟨.hbm, 49, rfl⟩
abbrev main_call0_v23 : Ref sig .tc := ⟨.hbm, 50, rfl⟩
abbrev main_call0_c_6 : Ref sig .tc := ⟨.hbm, 51, rfl⟩
abbrev main_call0_v24 : Ref sig .tc := ⟨.hbm, 52, rfl⟩
abbrev main_call0_v25 : Ref sig .tc := ⟨.hbm, 53, rfl⟩
abbrev main_call0_v26 : Ref sig .tc := ⟨.hbm, 54, rfl⟩
abbrev main_v13_1 : Ref sig .tc := ⟨.hbm, 55, rfl⟩
abbrev main_v14 : Ref sig .tc := ⟨.hbm, 56, rfl⟩
abbrev main_v15 : Ref sig .tc := ⟨.hbm, 57, rfl⟩
abbrev main_c_4 : Ref sig .tc := ⟨.hbm, 58, rfl⟩
abbrev main_v16 : Ref sig .tc := ⟨.hbm, 59, rfl⟩
abbrev main_v17 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_v2 : Ref sig .tc := ⟨.hbm, 64, rfl⟩
abbrev main_call1_c_0 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_c_1 : Ref sig .tc := ⟨.hbm, 71, rfl⟩
abbrev main_call1_v8 : Ref sig .tc := ⟨.hbm, 72, rfl⟩
abbrev main_call1_v9 : Ref sig .tc := ⟨.hbm, 73, rfl⟩
abbrev main_call1_c_2 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_c_3 : Ref sig .tc := ⟨.hbm, 80, rfl⟩
abbrev main_call1_v15 : Ref sig .tc := ⟨.hbm, 81, rfl⟩
abbrev main_call1_v16 : Ref sig .tc := ⟨.hbm, 82, rfl⟩
abbrev main_call1_c_4 : Ref sig .tc := ⟨.hbm, 83, rfl⟩
abbrev main_call1_v17 : Ref sig .tc := ⟨.hbm, 84, rfl⟩
abbrev main_call1_v18 : Ref sig .tc := ⟨.hbm, 85, rfl⟩
abbrev main_call1_v19 : Ref sig .tc := ⟨.hbm, 86, rfl⟩
abbrev main_call1_v20 : Ref sig .tc := ⟨.hbm, 87, rfl⟩
abbrev main_v18_0 : Ref sig .tc := ⟨.hbm, 88, rfl⟩
abbrev main_call1_c_5 : Ref sig .tc := ⟨.hbm, 89, rfl⟩
abbrev main_call1_v22 : Ref sig .tc := ⟨.hbm, 90, rfl⟩
abbrev main_call1_v23 : Ref sig .tc := ⟨.hbm, 91, rfl⟩
abbrev main_call1_c_6 : Ref sig .tc := ⟨.hbm, 92, rfl⟩
abbrev main_call1_v24 : Ref sig .tc := ⟨.hbm, 93, rfl⟩
abbrev main_call1_v25 : Ref sig .tc := ⟨.hbm, 94, rfl⟩
abbrev main_call1_v26 : Ref sig .tc := ⟨.hbm, 95, rfl⟩
abbrev main_v18_1 : Ref sig .tc := ⟨.hbm, 96, rfl⟩
abbrev main_v19 : Ref sig .tc := ⟨.hbm, 97, rfl⟩
abbrev main_v20 : Ref sig .tc := ⟨.hbm, 98, rfl⟩
abbrev main_c_5 : Ref sig .tc := ⟨.hbm, 99, rfl⟩
abbrev main_v21 : Ref sig .tc := ⟨.hbm, 100, rfl⟩
abbrev main_v22 : Ref sig .tc := ⟨.hbm, 101, rfl⟩
abbrev main_call2_v0 : Ref sig .tc := ⟨.hbm, 102, rfl⟩
abbrev main_call2_c : Ref sig .tc := ⟨.hbm, 103, rfl⟩
abbrev main_call2_v1 : Ref sig .tc := ⟨.hbm, 104, rfl⟩
abbrev main_call2_v2 : Ref sig .tc := ⟨.hbm, 105, rfl⟩
abbrev main_call2_c_0 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_c_1 : Ref sig .tc := ⟨.hbm, 112, rfl⟩
abbrev main_call2_v8 : Ref sig .tc := ⟨.hbm, 113, rfl⟩
abbrev main_call2_v9 : Ref sig .tc := ⟨.hbm, 114, rfl⟩
abbrev main_call2_c_2 : Ref sig .tc := ⟨.hbm, 115, rfl⟩
abbrev main_call2_v10 : Ref sig .tc := ⟨.hbm, 116, rfl⟩
abbrev main_call2_v11 : Ref sig .tc := ⟨.hbm, 117, rfl⟩
abbrev main_call2_v12 : Ref sig .tc := ⟨.hbm, 118, rfl⟩
abbrev main_call2_v13 : Ref sig .tc := ⟨.hbm, 119, rfl⟩
abbrev main_call2_v14 : Ref sig .tc := ⟨.hbm, 120, rfl⟩
abbrev main_call2_c_3 : Ref sig .tc := ⟨.hbm, 121, rfl⟩
abbrev main_call2_v15 : Ref sig .tc := ⟨.hbm, 122, rfl⟩
abbrev main_call2_v16 : Ref sig .tc := ⟨.hbm, 123, rfl⟩
abbrev main_call2_c_4 : Ref sig .tc := ⟨.hbm, 124, rfl⟩
abbrev main_call2_v17 : Ref sig .tc := ⟨.hbm, 125, rfl⟩
abbrev main_call2_v18 : Ref sig .tc := ⟨.hbm, 126, rfl⟩
abbrev main_call2_v19 : Ref sig .tc := ⟨.hbm, 127, rfl⟩
abbrev main_call2_v20 : Ref sig .tc := ⟨.hbm, 128, rfl⟩
abbrev main_v23_0 : Ref sig .tc := ⟨.hbm, 129, rfl⟩
abbrev main_call2_c_5 : Ref sig .tc := ⟨.hbm, 130, rfl⟩
abbrev main_call2_v22 : Ref sig .tc := ⟨.hbm, 131, rfl⟩
abbrev main_call2_v23 : Ref sig .tc := ⟨.hbm, 132, rfl⟩
abbrev main_call2_c_6 : Ref sig .tc := ⟨.hbm, 133, rfl⟩
abbrev main_call2_v24 : Ref sig .tc := ⟨.hbm, 134, rfl⟩
abbrev main_call2_v25 : Ref sig .tc := ⟨.hbm, 135, rfl⟩
abbrev main_call2_v26 : Ref sig .tc := ⟨.hbm, 136, rfl⟩
abbrev main_v23_1 : Ref sig .tc := ⟨.hbm, 137, rfl⟩
abbrev main_v24 : Ref sig .tc := ⟨.hbm, 138, rfl⟩
abbrev main_v25 : Ref sig .tc := ⟨.hbm, 139, rfl⟩
abbrev main_c_6 : Ref sig .tc := ⟨.hbm, 140, rfl⟩
abbrev main_v26 : Ref sig .tc := ⟨.hbm, 141, rfl⟩
abbrev main_v27 : Ref sig .tc := ⟨.hbm, 142, rfl⟩
abbrev main_call3_v0 : Ref sig .tc := ⟨.hbm, 143, rfl⟩
abbrev main_call3_c : Ref sig .tc := ⟨.hbm, 144, rfl⟩
abbrev main_call3_v1 : Ref sig .tc := ⟨.hbm, 145, rfl⟩
abbrev main_call3_v2 : Ref sig .tc := ⟨.hbm, 146, rfl⟩
abbrev main_call3_c_0 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_v6 : Ref sig .tc := ⟨.hbm, 151, rfl⟩
abbrev main_call3_v7 : Ref sig .tc := ⟨.hbm, 152, rfl⟩
abbrev main_call3_c_1 : Ref sig .tc := ⟨.hbm, 153, rfl⟩
abbrev main_call3_v8 : Ref sig .tc := ⟨.hbm, 154, rfl⟩
abbrev main_call3_v9 : Ref sig .tc := ⟨.hbm, 155, rfl⟩
abbrev main_call3_c_2 : Ref sig .tc := ⟨.hbm, 156, rfl⟩
abbrev main_call3_v10 : Ref sig .tc := ⟨.hbm, 157, rfl⟩
abbrev main_call3_v11 : Ref sig .tc := ⟨.hbm, 158, rfl⟩
abbrev main_call3_v12 : Ref sig .tc := ⟨.hbm, 159, rfl⟩
abbrev main_call3_v13 : Ref sig .tc := ⟨.hbm, 160, rfl⟩
abbrev main_call3_v14 : Ref sig .tc := ⟨.hbm, 161, rfl⟩
abbrev main_call3_c_3 : Ref sig .tc := ⟨.hbm, 162, rfl⟩
abbrev main_call3_v15 : Ref sig .tc := ⟨.hbm, 163, rfl⟩
abbrev main_call3_v16 : Ref sig .tc := ⟨.hbm, 164, rfl⟩
abbrev main_call3_c_4 : Ref sig .tc := ⟨.hbm, 165, rfl⟩
abbrev main_call3_v17 : Ref sig .tc := ⟨.hbm, 166, rfl⟩
abbrev main_call3_v18 : Ref sig .tc := ⟨.hbm, 167, rfl⟩
abbrev main_call3_v19 : Ref sig .tc := ⟨.hbm, 168, rfl⟩
abbrev main_call3_v20 : Ref sig .tc := ⟨.hbm, 169, rfl⟩
abbrev main_v28_0 : Ref sig .tc := ⟨.hbm, 170, rfl⟩
abbrev main_call3_c_5 : Ref sig .tc := ⟨.hbm, 171, rfl⟩
abbrev main_call3_v22 : Ref sig .tc := ⟨.hbm, 172, rfl⟩
abbrev main_call3_v23 : Ref sig .tc := ⟨.hbm, 173, rfl⟩
abbrev main_call3_c_6 : Ref sig .tc := ⟨.hbm, 174, rfl⟩
abbrev main_call3_v24 : Ref sig .tc := ⟨.hbm, 175, rfl⟩
abbrev main_call3_v25 : Ref sig .tc := ⟨.hbm, 176, rfl⟩
abbrev main_call3_v26 : Ref sig .tc := ⟨.hbm, 177, rfl⟩
abbrev main_v28_1 : Ref sig .tc := ⟨.hbm, 178, rfl⟩
abbrev main_v29 : Ref sig .tc := ⟨.hbm, 179, rfl⟩
abbrev main_v30 : Ref sig .tc := ⟨.hbm, 180, rfl⟩
abbrev main_c_7 : Ref sig .tc := ⟨.hbm, 181, rfl⟩
abbrev main_v31 : Ref sig .tc := ⟨.hbm, 182, rfl⟩
abbrev main_v32 : Ref sig .tc := ⟨.hbm, 183, rfl⟩
abbrev main_call4_v0 : Ref sig .tc := ⟨.hbm, 184, rfl⟩
abbrev main_call4_c : Ref sig .tc := ⟨.hbm, 185, rfl⟩
abbrev main_call4_v1 : Ref sig .tc := ⟨.hbm, 186, rfl⟩
abbrev main_call4_v2 : Ref sig .tc := ⟨.hbm, 187, rfl⟩
abbrev main_call4_c_0 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_v6 : Ref sig .tc := ⟨.hbm, 192, rfl⟩
abbrev main_call4_v7 : Ref sig .tc := ⟨.hbm, 193, rfl⟩
abbrev main_call4_c_1 : Ref sig .tc := ⟨.hbm, 194, rfl⟩
abbrev main_call4_v8 : Ref sig .tc := ⟨.hbm, 195, rfl⟩
abbrev main_call4_v9 : Ref sig .tc := ⟨.hbm, 196, rfl⟩
abbrev main_call4_c_2 : Ref sig .tc := ⟨.hbm, 197, rfl⟩
abbrev main_call4_v10 : Ref sig .tc := ⟨.hbm, 198, rfl⟩
abbrev main_call4_v11 : Ref sig .tc := ⟨.hbm, 199, rfl⟩
abbrev main_call4_v12 : Ref sig .tc := ⟨.hbm, 200, rfl⟩
abbrev main_call4_v13 : Ref sig .tc := ⟨.hbm, 201, rfl⟩
abbrev main_call4_v14 : Ref sig .tc := ⟨.hbm, 202, rfl⟩
abbrev main_call4_c_3 : Ref sig .tc := ⟨.hbm, 203, rfl⟩
abbrev main_call4_v15 : Ref sig .tc := ⟨.hbm, 204, rfl⟩
abbrev main_call4_v16 : Ref sig .tc := ⟨.hbm, 205, rfl⟩
abbrev main_call4_c_4 : Ref sig .tc := ⟨.hbm, 206, rfl⟩
abbrev main_call4_v17 : Ref sig .tc := ⟨.hbm, 207, rfl⟩
abbrev main_call4_v18 : Ref sig .tc := ⟨.hbm, 208, rfl⟩
abbrev main_call4_v19 : Ref sig .tc := ⟨.hbm, 209, rfl⟩
abbrev main_call4_v20 : Ref sig .tc := ⟨.hbm, 210, rfl⟩
abbrev main_v33_0 : Ref sig .tc := ⟨.hbm, 211, rfl⟩
abbrev main_call4_c_5 : Ref sig .tc := ⟨.hbm, 212, rfl⟩
abbrev main_call4_v22 : Ref sig .tc := ⟨.hbm, 213, rfl⟩
abbrev main_call4_v23 : Ref sig .tc := ⟨.hbm, 214, rfl⟩
abbrev main_call4_c_6 : Ref sig .tc := ⟨.hbm, 215, rfl⟩
abbrev main_call4_v24 : Ref sig .tc := ⟨.hbm, 216, rfl⟩
abbrev main_call4_v25 : Ref sig .tc := ⟨.hbm, 217, rfl⟩
abbrev main_call4_v26 : Ref sig .tc := ⟨.hbm, 218, rfl⟩
abbrev main_v33_1 : Ref sig .tc := ⟨.hbm, 219, rfl⟩
abbrev main_v34 : Ref sig .tc := ⟨.hbm, 220, rfl⟩
abbrev main_v35 : Ref sig .tc := ⟨.hbm, 221, rfl⟩
abbrev main_c_8 : Ref sig .tc := ⟨.hbm, 222, rfl⟩
abbrev main_v36 : Ref sig .tc := ⟨.hbm, 223, rfl⟩
abbrev main_v37 : Ref sig .tc := ⟨.hbm, 224, rfl⟩
abbrev main_v38 : Ref sig .tc := ⟨.hbm, 225, rfl⟩
abbrev main_c_9 : Ref sig .tc := ⟨.hbm, 226, rfl⟩
abbrev main_v39 : Ref sig .tc := ⟨.hbm, 227, rfl⟩
abbrev main_v40 : Ref sig .tc := ⟨.hbm, 228, rfl⟩
abbrev main_c_10 : Ref sig .tc := ⟨.hbm, 229, rfl⟩
abbrev main_v41 : Ref sig .tc := ⟨.hbm, 230, rfl⟩
abbrev main_v42 : Ref sig .tc := ⟨.hbm, 231, rfl⟩
abbrev main_v43 : Ref sig .tc := ⟨.hbm, 232, rfl⟩
abbrev main_v44 : Ref sig .tc := ⟨.hbm, 233, rfl⟩
abbrev main_call5_v0 : Ref sig .tc := ⟨.hbm, 234, rfl⟩
abbrev main_call5_c : Ref sig .tc := ⟨.hbm, 235, rfl⟩
abbrev main_call5_v1 : Ref sig .tc := ⟨.hbm, 236, rfl⟩
abbrev main_call5_v2 : Ref sig .tc := ⟨.hbm, 237, rfl⟩
abbrev main_call5_c_0 : Ref sig .tc := ⟨.hbm, 238, rfl⟩
abbrev main_call5_v3 : Ref sig .tc := ⟨.hbm, 239, rfl⟩
abbrev main_call5_v4 : Ref sig .tc := ⟨.hbm, 240, rfl⟩
abbrev main_call5_v5 : Ref sig .tc := ⟨.hbm, 241, rfl⟩
abbrev main_call5_v6 : Ref sig .tc := ⟨.hbm, 242, rfl⟩
abbrev main_call5_v7 : Ref sig .tc := ⟨.hbm, 243, rfl⟩
abbrev main_call5_c_1 : Ref sig .tc := ⟨.hbm, 244, rfl⟩
abbrev main_call5_v8 : Ref sig .tc := ⟨.hbm, 245, rfl⟩
abbrev main_call5_v9 : Ref sig .tc := ⟨.hbm, 246, rfl⟩
abbrev main_call5_c_2 : Ref sig .tc := ⟨.hbm, 247, rfl⟩
abbrev main_call5_v10 : Ref sig .tc := ⟨.hbm, 248, rfl⟩
abbrev main_call5_v11 : Ref sig .tc := ⟨.hbm, 249, rfl⟩
abbrev main_call5_v12 : Ref sig .tc := ⟨.hbm, 250, rfl⟩
abbrev main_call5_v13 : Ref sig .tc := ⟨.hbm, 251, rfl⟩
abbrev main_call5_v14 : Ref sig .tc := ⟨.hbm, 252, rfl⟩
abbrev main_call5_c_3 : Ref sig .tc := ⟨.hbm, 253, rfl⟩
abbrev main_call5_v15 : Ref sig .tc := ⟨.hbm, 254, rfl⟩
abbrev main_call5_v16 : Ref sig .tc := ⟨.hbm, 255, rfl⟩
abbrev main_call5_c_4 : Ref sig .tc := ⟨.hbm, 256, rfl⟩
abbrev main_call5_v17 : Ref sig .tc := ⟨.hbm, 257, rfl⟩
abbrev main_call5_v18 : Ref sig .tc := ⟨.hbm, 258, rfl⟩
abbrev main_call5_v19 : Ref sig .tc := ⟨.hbm, 259, rfl⟩
abbrev main_call5_v20 : Ref sig .tc := ⟨.hbm, 260, rfl⟩
abbrev main_v45_0 : Ref sig .tc := ⟨.hbm, 261, rfl⟩
abbrev main_call5_c_5 : Ref sig .tc := ⟨.hbm, 262, rfl⟩
abbrev main_call5_v22 : Ref sig .tc := ⟨.hbm, 263, rfl⟩
abbrev main_call5_v23 : Ref sig .tc := ⟨.hbm, 264, rfl⟩
abbrev main_call5_c_6 : Ref sig .tc := ⟨.hbm, 265, rfl⟩
abbrev main_call5_v24 : Ref sig .tc := ⟨.hbm, 266, rfl⟩
abbrev main_call5_v25 : Ref sig .tc := ⟨.hbm, 267, rfl⟩
abbrev main_call5_v26 : Ref sig .tc := ⟨.hbm, 268, rfl⟩
abbrev main_v45_1 : Ref sig .tc := ⟨.hbm, 269, rfl⟩
abbrev main_v46 : Ref sig .tc := ⟨.hbm, 270, rfl⟩
abbrev main_v47 : Ref sig .tc := ⟨.hbm, 271, rfl⟩
abbrev main_c_11 : Ref sig .tc := ⟨.hbm, 272, rfl⟩
abbrev main_v48 : Ref sig .tc := ⟨.hbm, 273, rfl⟩
abbrev main_v49 : Ref sig .tc := ⟨.hbm, 274, rfl⟩
abbrev main_call6_v0 : Ref sig .tc := ⟨.hbm, 275, rfl⟩
abbrev main_call6_c : Ref sig .tc := ⟨.hbm, 276, rfl⟩
abbrev main_call6_v1 : Ref sig .tc := ⟨.hbm, 277, rfl⟩
abbrev main_call6_v2 : Ref sig .tc := ⟨.hbm, 278, rfl⟩
abbrev main_call6_c_0 : Ref sig .tc := ⟨.hbm, 279, rfl⟩
abbrev main_call6_v3 : Ref sig .tc := ⟨.hbm, 280, rfl⟩
abbrev main_call6_v4 : Ref sig .tc := ⟨.hbm, 281, rfl⟩
abbrev main_call6_v5 : Ref sig .tc := ⟨.hbm, 282, rfl⟩
abbrev main_call6_v6 : Ref sig .tc := ⟨.hbm, 283, rfl⟩
abbrev main_call6_v7 : Ref sig .tc := ⟨.hbm, 284, rfl⟩
abbrev main_call6_c_1 : Ref sig .tc := ⟨.hbm, 285, rfl⟩
abbrev main_call6_v8 : Ref sig .tc := ⟨.hbm, 286, rfl⟩
abbrev main_call6_v9 : Ref sig .tc := ⟨.hbm, 287, rfl⟩
abbrev main_call6_c_2 : Ref sig .tc := ⟨.hbm, 288, rfl⟩
abbrev main_call6_v10 : Ref sig .tc := ⟨.hbm, 289, rfl⟩
abbrev main_call6_v11 : Ref sig .tc := ⟨.hbm, 290, rfl⟩
abbrev main_call6_v12 : Ref sig .tc := ⟨.hbm, 291, rfl⟩
abbrev main_call6_v13 : Ref sig .tc := ⟨.hbm, 292, rfl⟩
abbrev main_call6_v14 : Ref sig .tc := ⟨.hbm, 293, rfl⟩
abbrev main_call6_c_3 : Ref sig .tc := ⟨.hbm, 294, rfl⟩
abbrev main_call6_v15 : Ref sig .tc := ⟨.hbm, 295, rfl⟩
abbrev main_call6_v16 : Ref sig .tc := ⟨.hbm, 296, rfl⟩
abbrev main_call6_c_4 : Ref sig .tc := ⟨.hbm, 297, rfl⟩
abbrev main_call6_v17 : Ref sig .tc := ⟨.hbm, 298, rfl⟩
abbrev main_call6_v18 : Ref sig .tc := ⟨.hbm, 299, rfl⟩
abbrev main_call6_v19 : Ref sig .tc := ⟨.hbm, 300, rfl⟩
abbrev main_call6_v20 : Ref sig .tc := ⟨.hbm, 301, rfl⟩
abbrev main_v50_0 : Ref sig .tc := ⟨.hbm, 302, rfl⟩
abbrev main_call6_c_5 : Ref sig .tc := ⟨.hbm, 303, rfl⟩
abbrev main_call6_v22 : Ref sig .tc := ⟨.hbm, 304, rfl⟩
abbrev main_call6_v23 : Ref sig .tc := ⟨.hbm, 305, rfl⟩
abbrev main_call6_c_6 : Ref sig .tc := ⟨.hbm, 306, rfl⟩
abbrev main_call6_v24 : Ref sig .tc := ⟨.hbm, 307, rfl⟩
abbrev main_call6_v25 : Ref sig .tc := ⟨.hbm, 308, rfl⟩
abbrev main_call6_v26 : Ref sig .tc := ⟨.hbm, 309, rfl⟩
abbrev main_v50_1 : Ref sig .tc := ⟨.hbm, 310, rfl⟩
abbrev main_v51 : Ref sig .tc := ⟨.hbm, 311, rfl⟩
abbrev main_v52 : Ref sig .tc := ⟨.hbm, 312, rfl⟩
abbrev main_c_12 : Ref sig .tc := ⟨.hbm, 313, rfl⟩
abbrev main_v53 : Ref sig .tc := ⟨.hbm, 314, rfl⟩
abbrev main_v54 : Ref sig .tc := ⟨.hbm, 315, rfl⟩
abbrev main_call7_v0 : Ref sig .tc := ⟨.hbm, 316, rfl⟩
abbrev main_call7_c : Ref sig .tc := ⟨.hbm, 317, rfl⟩
abbrev main_call7_v1 : Ref sig .tc := ⟨.hbm, 318, rfl⟩
abbrev main_call7_v2 : Ref sig .tc := ⟨.hbm, 319, rfl⟩
abbrev main_call7_c_0 : Ref sig .tc := ⟨.hbm, 320, rfl⟩
abbrev main_call7_v3 : Ref sig .tc := ⟨.hbm, 321, rfl⟩
abbrev main_call7_v4 : Ref sig .tc := ⟨.hbm, 322, rfl⟩
abbrev main_call7_v5 : Ref sig .tc := ⟨.hbm, 323, rfl⟩
abbrev main_call7_v6 : Ref sig .tc := ⟨.hbm, 324, rfl⟩
abbrev main_call7_v7 : Ref sig .tc := ⟨.hbm, 325, rfl⟩
abbrev main_call7_c_1 : Ref sig .tc := ⟨.hbm, 326, rfl⟩
abbrev main_call7_v8 : Ref sig .tc := ⟨.hbm, 327, rfl⟩
abbrev main_call7_v9 : Ref sig .tc := ⟨.hbm, 328, rfl⟩
abbrev main_call7_c_2 : Ref sig .tc := ⟨.hbm, 329, rfl⟩
abbrev main_call7_v10 : Ref sig .tc := ⟨.hbm, 330, rfl⟩
abbrev main_call7_v11 : Ref sig .tc := ⟨.hbm, 331, rfl⟩
abbrev main_call7_v12 : Ref sig .tc := ⟨.hbm, 332, rfl⟩
abbrev main_call7_v13 : Ref sig .tc := ⟨.hbm, 333, rfl⟩
abbrev main_call7_v14 : Ref sig .tc := ⟨.hbm, 334, rfl⟩
abbrev main_call7_c_3 : Ref sig .tc := ⟨.hbm, 335, rfl⟩
abbrev main_call7_v15 : Ref sig .tc := ⟨.hbm, 336, rfl⟩
abbrev main_call7_v16 : Ref sig .tc := ⟨.hbm, 337, rfl⟩
abbrev main_call7_c_4 : Ref sig .tc := ⟨.hbm, 338, rfl⟩
abbrev main_call7_v17 : Ref sig .tc := ⟨.hbm, 339, rfl⟩
abbrev main_call7_v18 : Ref sig .tc := ⟨.hbm, 340, rfl⟩
abbrev main_call7_v19 : Ref sig .tc := ⟨.hbm, 341, rfl⟩
abbrev main_call7_v20 : Ref sig .tc := ⟨.hbm, 342, rfl⟩
abbrev main_v55_0 : Ref sig .tc := ⟨.hbm, 343, rfl⟩
abbrev main_call7_c_5 : Ref sig .tc := ⟨.hbm, 344, rfl⟩
abbrev main_call7_v22 : Ref sig .tc := ⟨.hbm, 345, rfl⟩
abbrev main_call7_v23 : Ref sig .tc := ⟨.hbm, 346, rfl⟩
abbrev main_call7_c_6 : Ref sig .tc := ⟨.hbm, 347, rfl⟩
abbrev main_call7_v24 : Ref sig .tc := ⟨.hbm, 348, rfl⟩
abbrev main_call7_v25 : Ref sig .tc := ⟨.hbm, 349, rfl⟩
abbrev main_call7_v26 : Ref sig .tc := ⟨.hbm, 350, rfl⟩
abbrev main_v55_1 : Ref sig .tc := ⟨.hbm, 351, rfl⟩
abbrev main_v56 : Ref sig .tc := ⟨.hbm, 352, rfl⟩
abbrev main_v57 : Ref sig .tc := ⟨.hbm, 353, rfl⟩
abbrev main_c_13 : Ref sig .tc := ⟨.hbm, 354, rfl⟩
abbrev main_v58 : Ref sig .tc := ⟨.hbm, 355, rfl⟩
abbrev main_v59 : Ref sig .tc := ⟨.hbm, 356, rfl⟩
abbrev main_call8_v0 : Ref sig .tc := ⟨.hbm, 357, rfl⟩
abbrev main_call8_c : Ref sig .tc := ⟨.hbm, 358, rfl⟩
abbrev main_call8_v1 : Ref sig .tc := ⟨.hbm, 359, rfl⟩
abbrev main_call8_v2 : Ref sig .tc := ⟨.hbm, 360, rfl⟩
abbrev main_call8_c_0 : Ref sig .tc := ⟨.hbm, 361, rfl⟩
abbrev main_call8_v3 : Ref sig .tc := ⟨.hbm, 362, rfl⟩
abbrev main_call8_v4 : Ref sig .tc := ⟨.hbm, 363, rfl⟩
abbrev main_call8_v5 : Ref sig .tc := ⟨.hbm, 364, rfl⟩
abbrev main_call8_v6 : Ref sig .tc := ⟨.hbm, 365, rfl⟩
abbrev main_call8_v7 : Ref sig .tc := ⟨.hbm, 366, rfl⟩
abbrev main_call8_c_1 : Ref sig .tc := ⟨.hbm, 367, rfl⟩
abbrev main_call8_v8 : Ref sig .tc := ⟨.hbm, 368, rfl⟩
abbrev main_call8_v9 : Ref sig .tc := ⟨.hbm, 369, rfl⟩
abbrev main_call8_c_2 : Ref sig .tc := ⟨.hbm, 370, rfl⟩
abbrev main_call8_v10 : Ref sig .tc := ⟨.hbm, 371, rfl⟩
abbrev main_call8_v11 : Ref sig .tc := ⟨.hbm, 372, rfl⟩
abbrev main_call8_v12 : Ref sig .tc := ⟨.hbm, 373, rfl⟩
abbrev main_call8_v13 : Ref sig .tc := ⟨.hbm, 374, rfl⟩
abbrev main_call8_v14 : Ref sig .tc := ⟨.hbm, 375, rfl⟩
abbrev main_call8_c_3 : Ref sig .tc := ⟨.hbm, 376, rfl⟩
abbrev main_call8_v15 : Ref sig .tc := ⟨.hbm, 377, rfl⟩
abbrev main_call8_v16 : Ref sig .tc := ⟨.hbm, 378, rfl⟩
abbrev main_call8_c_4 : Ref sig .tc := ⟨.hbm, 379, rfl⟩
abbrev main_call8_v17 : Ref sig .tc := ⟨.hbm, 380, rfl⟩
abbrev main_call8_v18 : Ref sig .tc := ⟨.hbm, 381, rfl⟩
abbrev main_call8_v19 : Ref sig .tc := ⟨.hbm, 382, rfl⟩
abbrev main_call8_v20 : Ref sig .tc := ⟨.hbm, 383, rfl⟩
abbrev main_v60_0 : Ref sig .tc := ⟨.hbm, 384, rfl⟩
abbrev main_call8_c_5 : Ref sig .tc := ⟨.hbm, 385, rfl⟩
abbrev main_call8_v22 : Ref sig .tc := ⟨.hbm, 386, rfl⟩
abbrev main_call8_v23 : Ref sig .tc := ⟨.hbm, 387, rfl⟩
abbrev main_call8_c_6 : Ref sig .tc := ⟨.hbm, 388, rfl⟩
abbrev main_call8_v24 : Ref sig .tc := ⟨.hbm, 389, rfl⟩
abbrev main_call8_v25 : Ref sig .tc := ⟨.hbm, 390, rfl⟩
abbrev main_call8_v26 : Ref sig .tc := ⟨.hbm, 391, rfl⟩
abbrev main_v60_1 : Ref sig .tc := ⟨.hbm, 392, rfl⟩
abbrev main_v61 : Ref sig .tc := ⟨.hbm, 393, rfl⟩
abbrev main_v62 : Ref sig .tc := ⟨.hbm, 394, rfl⟩
abbrev main_c_14 : Ref sig .tc := ⟨.hbm, 395, rfl⟩
abbrev main_v63 : Ref sig .tc := ⟨.hbm, 396, rfl⟩
abbrev main_v64 : Ref sig .tc := ⟨.hbm, 397, rfl⟩
abbrev main_call9_v0 : Ref sig .tc := ⟨.hbm, 398, rfl⟩
abbrev main_call9_c : Ref sig .tc := ⟨.hbm, 399, rfl⟩
abbrev main_call9_v1 : Ref sig .tc := ⟨.hbm, 400, rfl⟩
abbrev main_call9_v2 : Ref sig .tc := ⟨.hbm, 401, rfl⟩
abbrev main_call9_c_0 : Ref sig .tc := ⟨.hbm, 402, rfl⟩
abbrev main_call9_v3 : Ref sig .tc := ⟨.hbm, 403, rfl⟩
abbrev main_call9_v4 : Ref sig .tc := ⟨.hbm, 404, rfl⟩
abbrev main_call9_v5 : Ref sig .tc := ⟨.hbm, 405, rfl⟩
abbrev main_call9_v6 : Ref sig .tc := ⟨.hbm, 406, rfl⟩
abbrev main_call9_v7 : Ref sig .tc := ⟨.hbm, 407, rfl⟩
abbrev main_call9_c_1 : Ref sig .tc := ⟨.hbm, 408, rfl⟩
abbrev main_call9_v8 : Ref sig .tc := ⟨.hbm, 409, rfl⟩
abbrev main_call9_v9 : Ref sig .tc := ⟨.hbm, 410, rfl⟩
abbrev main_call9_c_2 : Ref sig .tc := ⟨.hbm, 411, rfl⟩
abbrev main_call9_v10 : Ref sig .tc := ⟨.hbm, 412, rfl⟩
abbrev main_call9_v11 : Ref sig .tc := ⟨.hbm, 413, rfl⟩
abbrev main_call9_v12 : Ref sig .tc := ⟨.hbm, 414, rfl⟩
abbrev main_call9_v13 : Ref sig .tc := ⟨.hbm, 415, rfl⟩
abbrev main_call9_v14 : Ref sig .tc := ⟨.hbm, 416, rfl⟩
abbrev main_call9_c_3 : Ref sig .tc := ⟨.hbm, 417, rfl⟩
abbrev main_call9_v15 : Ref sig .tc := ⟨.hbm, 418, rfl⟩
abbrev main_call9_v16 : Ref sig .tc := ⟨.hbm, 419, rfl⟩
abbrev main_call9_c_4 : Ref sig .tc := ⟨.hbm, 420, rfl⟩
abbrev main_call9_v17 : Ref sig .tc := ⟨.hbm, 421, rfl⟩
abbrev main_call9_v18 : Ref sig .tc := ⟨.hbm, 422, rfl⟩
abbrev main_call9_v19 : Ref sig .tc := ⟨.hbm, 423, rfl⟩
abbrev main_call9_v20 : Ref sig .tc := ⟨.hbm, 424, rfl⟩
abbrev main_v65_0 : Ref sig .tc := ⟨.hbm, 425, rfl⟩
abbrev main_call9_c_5 : Ref sig .tc := ⟨.hbm, 426, rfl⟩
abbrev main_call9_v22 : Ref sig .tc := ⟨.hbm, 427, rfl⟩
abbrev main_call9_v23 : Ref sig .tc := ⟨.hbm, 428, rfl⟩
abbrev main_call9_c_6 : Ref sig .tc := ⟨.hbm, 429, rfl⟩
abbrev main_call9_v24 : Ref sig .tc := ⟨.hbm, 430, rfl⟩
abbrev main_call9_v25 : Ref sig .tc := ⟨.hbm, 431, rfl⟩
abbrev main_call9_v26 : Ref sig .tc := ⟨.hbm, 432, rfl⟩
abbrev main_v65_1 : Ref sig .tc := ⟨.hbm, 433, rfl⟩
abbrev main_v66 : Ref sig .tc := ⟨.hbm, 434, rfl⟩
abbrev main_v67 : Ref sig .tc := ⟨.hbm, 435, rfl⟩
abbrev main_c_15 : Ref sig .tc := ⟨.hbm, 436, rfl⟩
abbrev main_v68 : Ref sig .tc := ⟨.hbm, 437, rfl⟩
abbrev main_v69 : Ref sig .tc := ⟨.hbm, 438, rfl⟩
abbrev main_v70 : Ref sig .tc := ⟨.hbm, 439, rfl⟩
abbrev main_v71 : Ref sig .tc := ⟨.hbm, 440, rfl⟩
abbrev main_v72 : Ref sig .tc := ⟨.hbm, 441, rfl⟩
abbrev main_c_16 : Ref sig .tc := ⟨.hbm, 442, rfl⟩
abbrev main_v73 : Ref sig .tc := ⟨.hbm, 443, rfl⟩
abbrev main_v74 : Ref sig .tc := ⟨.hbm, 444, rfl⟩
abbrev main_c_17 : Ref sig .tc := ⟨.hbm, 445, rfl⟩
abbrev main_v75 : Ref sig .tc := ⟨.hbm, 446, rfl⟩
abbrev main_v76 : Ref sig .tc := ⟨.hbm, 447, rfl⟩
abbrev main_v77 : Ref sig .tc := ⟨.hbm, 448, rfl⟩
abbrev main_v78 : Ref sig .tc := ⟨.hbm, 449, rfl⟩
abbrev main_call10_v0 : Ref sig .tc := ⟨.hbm, 450, rfl⟩
abbrev main_call10_c : Ref sig .tc := ⟨.hbm, 451, rfl⟩
abbrev main_call10_v1 : Ref sig .tc := ⟨.hbm, 452, rfl⟩
abbrev main_call10_v2 : Ref sig .tc := ⟨.hbm, 453, rfl⟩
abbrev main_call10_c_0 : Ref sig .tc := ⟨.hbm, 454, rfl⟩
abbrev main_call10_v3 : Ref sig .tc := ⟨.hbm, 455, rfl⟩
abbrev main_call10_v4 : Ref sig .tc := ⟨.hbm, 456, rfl⟩
abbrev main_call10_v5 : Ref sig .tc := ⟨.hbm, 457, rfl⟩
abbrev main_call10_v6 : Ref sig .tc := ⟨.hbm, 458, rfl⟩
abbrev main_call10_v7 : Ref sig .tc := ⟨.hbm, 459, rfl⟩
abbrev main_call10_c_1 : Ref sig .tc := ⟨.hbm, 460, rfl⟩
abbrev main_call10_v8 : Ref sig .tc := ⟨.hbm, 461, rfl⟩
abbrev main_call10_v9 : Ref sig .tc := ⟨.hbm, 462, rfl⟩
abbrev main_call10_c_2 : Ref sig .tc := ⟨.hbm, 463, rfl⟩
abbrev main_call10_v10 : Ref sig .tc := ⟨.hbm, 464, rfl⟩
abbrev main_call10_v11 : Ref sig .tc := ⟨.hbm, 465, rfl⟩
abbrev main_call10_v12 : Ref sig .tc := ⟨.hbm, 466, rfl⟩
abbrev main_call10_v13 : Ref sig .tc := ⟨.hbm, 467, rfl⟩
abbrev main_call10_v14 : Ref sig .tc := ⟨.hbm, 468, rfl⟩
abbrev main_call10_c_3 : Ref sig .tc := ⟨.hbm, 469, rfl⟩
abbrev main_call10_v15 : Ref sig .tc := ⟨.hbm, 470, rfl⟩
abbrev main_call10_v16 : Ref sig .tc := ⟨.hbm, 471, rfl⟩
abbrev main_call10_c_4 : Ref sig .tc := ⟨.hbm, 472, rfl⟩
abbrev main_call10_v17 : Ref sig .tc := ⟨.hbm, 473, rfl⟩
abbrev main_call10_v18 : Ref sig .tc := ⟨.hbm, 474, rfl⟩
abbrev main_call10_v19 : Ref sig .tc := ⟨.hbm, 475, rfl⟩
abbrev main_call10_v20 : Ref sig .tc := ⟨.hbm, 476, rfl⟩
abbrev main_v79_0 : Ref sig .tc := ⟨.hbm, 477, rfl⟩
abbrev main_call10_c_5 : Ref sig .tc := ⟨.hbm, 478, rfl⟩
abbrev main_call10_v22 : Ref sig .tc := ⟨.hbm, 479, rfl⟩
abbrev main_call10_v23 : Ref sig .tc := ⟨.hbm, 480, rfl⟩
abbrev main_call10_c_6 : Ref sig .tc := ⟨.hbm, 481, rfl⟩
abbrev main_call10_v24 : Ref sig .tc := ⟨.hbm, 482, rfl⟩
abbrev main_call10_v25 : Ref sig .tc := ⟨.hbm, 483, rfl⟩
abbrev main_call10_v26 : Ref sig .tc := ⟨.hbm, 484, rfl⟩
abbrev main_v79_1 : Ref sig .tc := ⟨.hbm, 485, rfl⟩
abbrev main_v80 : Ref sig .tc := ⟨.hbm, 486, rfl⟩
abbrev main_v81 : Ref sig .tc := ⟨.hbm, 487, rfl⟩
abbrev main_c_18 : Ref sig .tc := ⟨.hbm, 488, rfl⟩
abbrev main_v82 : Ref sig .tc := ⟨.hbm, 489, rfl⟩
abbrev main_v83 : Ref sig .tc := ⟨.hbm, 490, rfl⟩
abbrev main_call11_v0 : Ref sig .tc := ⟨.hbm, 491, rfl⟩
abbrev main_call11_c : Ref sig .tc := ⟨.hbm, 492, rfl⟩
abbrev main_call11_v1 : Ref sig .tc := ⟨.hbm, 493, rfl⟩
abbrev main_call11_v2 : Ref sig .tc := ⟨.hbm, 494, rfl⟩
abbrev main_call11_c_0 : Ref sig .tc := ⟨.hbm, 495, rfl⟩
abbrev main_call11_v3 : Ref sig .tc := ⟨.hbm, 496, rfl⟩
abbrev main_call11_v4 : Ref sig .tc := ⟨.hbm, 497, rfl⟩
abbrev main_call11_v5 : Ref sig .tc := ⟨.hbm, 498, rfl⟩
abbrev main_call11_v6 : Ref sig .tc := ⟨.hbm, 499, rfl⟩
abbrev main_call11_v7 : Ref sig .tc := ⟨.hbm, 500, rfl⟩
abbrev main_call11_c_1 : Ref sig .tc := ⟨.hbm, 501, rfl⟩
abbrev main_call11_v8 : Ref sig .tc := ⟨.hbm, 502, rfl⟩
abbrev main_call11_v9 : Ref sig .tc := ⟨.hbm, 503, rfl⟩
abbrev main_call11_c_2 : Ref sig .tc := ⟨.hbm, 504, rfl⟩
abbrev main_call11_v10 : Ref sig .tc := ⟨.hbm, 505, rfl⟩
abbrev main_call11_v11 : Ref sig .tc := ⟨.hbm, 506, rfl⟩
abbrev main_call11_v12 : Ref sig .tc := ⟨.hbm, 507, rfl⟩
abbrev main_call11_v13 : Ref sig .tc := ⟨.hbm, 508, rfl⟩
abbrev main_call11_v14 : Ref sig .tc := ⟨.hbm, 509, rfl⟩
abbrev main_call11_c_3 : Ref sig .tc := ⟨.hbm, 510, rfl⟩
abbrev main_call11_v15 : Ref sig .tc := ⟨.hbm, 511, rfl⟩
abbrev main_call11_v16 : Ref sig .tc := ⟨.hbm, 512, rfl⟩
abbrev main_call11_c_4 : Ref sig .tc := ⟨.hbm, 513, rfl⟩
abbrev main_call11_v17 : Ref sig .tc := ⟨.hbm, 514, rfl⟩
abbrev main_call11_v18 : Ref sig .tc := ⟨.hbm, 515, rfl⟩
abbrev main_call11_v19 : Ref sig .tc := ⟨.hbm, 516, rfl⟩
abbrev main_call11_v20 : Ref sig .tc := ⟨.hbm, 517, rfl⟩
abbrev main_v84_0 : Ref sig .tc := ⟨.hbm, 518, rfl⟩
abbrev main_call11_c_5 : Ref sig .tc := ⟨.hbm, 519, rfl⟩
abbrev main_call11_v22 : Ref sig .tc := ⟨.hbm, 520, rfl⟩
abbrev main_call11_v23 : Ref sig .tc := ⟨.hbm, 521, rfl⟩
abbrev main_call11_c_6 : Ref sig .tc := ⟨.hbm, 522, rfl⟩
abbrev main_call11_v24 : Ref sig .tc := ⟨.hbm, 523, rfl⟩
abbrev main_call11_v25 : Ref sig .tc := ⟨.hbm, 524, rfl⟩
abbrev main_call11_v26 : Ref sig .tc := ⟨.hbm, 525, rfl⟩
abbrev main_v84_1 : Ref sig .tc := ⟨.hbm, 526, rfl⟩
abbrev main_v85 : Ref sig .tc := ⟨.hbm, 527, rfl⟩
abbrev main_v86 : Ref sig .tc := ⟨.hbm, 528, rfl⟩
abbrev main_c_19 : Ref sig .tc := ⟨.hbm, 529, rfl⟩
abbrev main_v87 : Ref sig .tc := ⟨.hbm, 530, rfl⟩
abbrev main_v88 : Ref sig .tc := ⟨.hbm, 531, rfl⟩
abbrev main_call12_v0 : Ref sig .tc := ⟨.hbm, 532, rfl⟩
abbrev main_call12_c : Ref sig .tc := ⟨.hbm, 533, rfl⟩
abbrev main_call12_v1 : Ref sig .tc := ⟨.hbm, 534, rfl⟩
abbrev main_call12_v2 : Ref sig .tc := ⟨.hbm, 535, rfl⟩
abbrev main_call12_c_0 : Ref sig .tc := ⟨.hbm, 536, rfl⟩
abbrev main_call12_v3 : Ref sig .tc := ⟨.hbm, 537, rfl⟩
abbrev main_call12_v4 : Ref sig .tc := ⟨.hbm, 538, rfl⟩
abbrev main_call12_v5 : Ref sig .tc := ⟨.hbm, 539, rfl⟩
abbrev main_call12_v6 : Ref sig .tc := ⟨.hbm, 540, rfl⟩
abbrev main_call12_v7 : Ref sig .tc := ⟨.hbm, 541, rfl⟩
abbrev main_call12_c_1 : Ref sig .tc := ⟨.hbm, 542, rfl⟩
abbrev main_call12_v8 : Ref sig .tc := ⟨.hbm, 543, rfl⟩
abbrev main_call12_v9 : Ref sig .tc := ⟨.hbm, 544, rfl⟩
abbrev main_call12_c_2 : Ref sig .tc := ⟨.hbm, 545, rfl⟩
abbrev main_call12_v10 : Ref sig .tc := ⟨.hbm, 546, rfl⟩
abbrev main_call12_v11 : Ref sig .tc := ⟨.hbm, 547, rfl⟩
abbrev main_call12_v12 : Ref sig .tc := ⟨.hbm, 548, rfl⟩
abbrev main_call12_v13 : Ref sig .tc := ⟨.hbm, 549, rfl⟩
abbrev main_call12_v14 : Ref sig .tc := ⟨.hbm, 550, rfl⟩
abbrev main_call12_c_3 : Ref sig .tc := ⟨.hbm, 551, rfl⟩
abbrev main_call12_v15 : Ref sig .tc := ⟨.hbm, 552, rfl⟩
abbrev main_call12_v16 : Ref sig .tc := ⟨.hbm, 553, rfl⟩
abbrev main_call12_c_4 : Ref sig .tc := ⟨.hbm, 554, rfl⟩
abbrev main_call12_v17 : Ref sig .tc := ⟨.hbm, 555, rfl⟩
abbrev main_call12_v18 : Ref sig .tc := ⟨.hbm, 556, rfl⟩
abbrev main_call12_v19 : Ref sig .tc := ⟨.hbm, 557, rfl⟩
abbrev main_call12_v20 : Ref sig .tc := ⟨.hbm, 558, rfl⟩
abbrev main_v89_0 : Ref sig .tc := ⟨.hbm, 559, rfl⟩
abbrev main_call12_c_5 : Ref sig .tc := ⟨.hbm, 560, rfl⟩
abbrev main_call12_v22 : Ref sig .tc := ⟨.hbm, 561, rfl⟩
abbrev main_call12_v23 : Ref sig .tc := ⟨.hbm, 562, rfl⟩
abbrev main_call12_c_6 : Ref sig .tc := ⟨.hbm, 563, rfl⟩
abbrev main_call12_v24 : Ref sig .tc := ⟨.hbm, 564, rfl⟩
abbrev main_call12_v25 : Ref sig .tc := ⟨.hbm, 565, rfl⟩
abbrev main_call12_v26 : Ref sig .tc := ⟨.hbm, 566, rfl⟩
abbrev main_v89_1 : Ref sig .tc := ⟨.hbm, 567, rfl⟩
abbrev main_v90 : Ref sig .tc := ⟨.hbm, 568, rfl⟩
abbrev main_v91 : Ref sig .tc := ⟨.hbm, 569, rfl⟩
abbrev main_c_20 : Ref sig .tc := ⟨.hbm, 570, rfl⟩
abbrev main_v92 : Ref sig .tc := ⟨.hbm, 571, rfl⟩
abbrev main_v93 : Ref sig .tc := ⟨.hbm, 572, rfl⟩
abbrev main_call13_v0 : Ref sig .tc := ⟨.hbm, 573, rfl⟩
abbrev main_call13_c : Ref sig .tc := ⟨.hbm, 574, rfl⟩
abbrev main_call13_v1 : Ref sig .tc := ⟨.hbm, 575, rfl⟩
abbrev main_call13_v2 : Ref sig .tc := ⟨.hbm, 576, rfl⟩
abbrev main_call13_c_0 : Ref sig .tc := ⟨.hbm, 577, rfl⟩
abbrev main_call13_v3 : Ref sig .tc := ⟨.hbm, 578, rfl⟩
abbrev main_call13_v4 : Ref sig .tc := ⟨.hbm, 579, rfl⟩
abbrev main_call13_v5 : Ref sig .tc := ⟨.hbm, 580, rfl⟩
abbrev main_call13_v6 : Ref sig .tc := ⟨.hbm, 581, rfl⟩
abbrev main_call13_v7 : Ref sig .tc := ⟨.hbm, 582, rfl⟩
abbrev main_call13_c_1 : Ref sig .tc := ⟨.hbm, 583, rfl⟩
abbrev main_call13_v8 : Ref sig .tc := ⟨.hbm, 584, rfl⟩
abbrev main_call13_v9 : Ref sig .tc := ⟨.hbm, 585, rfl⟩
abbrev main_call13_c_2 : Ref sig .tc := ⟨.hbm, 586, rfl⟩
abbrev main_call13_v10 : Ref sig .tc := ⟨.hbm, 587, rfl⟩
abbrev main_call13_v11 : Ref sig .tc := ⟨.hbm, 588, rfl⟩
abbrev main_call13_v12 : Ref sig .tc := ⟨.hbm, 589, rfl⟩
abbrev main_call13_v13 : Ref sig .tc := ⟨.hbm, 590, rfl⟩
abbrev main_call13_v14 : Ref sig .tc := ⟨.hbm, 591, rfl⟩
abbrev main_call13_c_3 : Ref sig .tc := ⟨.hbm, 592, rfl⟩
abbrev main_call13_v15 : Ref sig .tc := ⟨.hbm, 593, rfl⟩
abbrev main_call13_v16 : Ref sig .tc := ⟨.hbm, 594, rfl⟩
abbrev main_call13_c_4 : Ref sig .tc := ⟨.hbm, 595, rfl⟩
abbrev main_call13_v17 : Ref sig .tc := ⟨.hbm, 596, rfl⟩
abbrev main_call13_v18 : Ref sig .tc := ⟨.hbm, 597, rfl⟩
abbrev main_call13_v19 : Ref sig .tc := ⟨.hbm, 598, rfl⟩
abbrev main_call13_v20 : Ref sig .tc := ⟨.hbm, 599, rfl⟩
abbrev main_v94_0 : Ref sig .tc := ⟨.hbm, 600, rfl⟩
abbrev main_call13_c_5 : Ref sig .tc := ⟨.hbm, 601, rfl⟩
abbrev main_call13_v22 : Ref sig .tc := ⟨.hbm, 602, rfl⟩
abbrev main_call13_v23 : Ref sig .tc := ⟨.hbm, 603, rfl⟩
abbrev main_call13_c_6 : Ref sig .tc := ⟨.hbm, 604, rfl⟩
abbrev main_call13_v24 : Ref sig .tc := ⟨.hbm, 605, rfl⟩
abbrev main_call13_v25 : Ref sig .tc := ⟨.hbm, 606, rfl⟩
abbrev main_call13_v26 : Ref sig .tc := ⟨.hbm, 607, rfl⟩
abbrev main_v94_1 : Ref sig .tc := ⟨.hbm, 608, rfl⟩
abbrev main_v95 : Ref sig .tc := ⟨.hbm, 609, rfl⟩
abbrev main_v96 : Ref sig .tc := ⟨.hbm, 610, rfl⟩
abbrev main_c_21 : Ref sig .tc := ⟨.hbm, 611, rfl⟩
abbrev main_v97 : Ref sig .tc := ⟨.hbm, 612, rfl⟩
abbrev main_v98 : Ref sig .tc := ⟨.hbm, 613, rfl⟩
abbrev main_call14_v0 : Ref sig .tc := ⟨.hbm, 614, rfl⟩
abbrev main_call14_c : Ref sig .tc := ⟨.hbm, 615, rfl⟩
abbrev main_call14_v1 : Ref sig .tc := ⟨.hbm, 616, rfl⟩
abbrev main_call14_v2 : Ref sig .tc := ⟨.hbm, 617, rfl⟩
abbrev main_call14_c_0 : Ref sig .tc := ⟨.hbm, 618, rfl⟩
abbrev main_call14_v3 : Ref sig .tc := ⟨.hbm, 619, rfl⟩
abbrev main_call14_v4 : Ref sig .tc := ⟨.hbm, 620, rfl⟩
abbrev main_call14_v5 : Ref sig .tc := ⟨.hbm, 621, rfl⟩
abbrev main_call14_v6 : Ref sig .tc := ⟨.hbm, 622, rfl⟩
abbrev main_call14_v7 : Ref sig .tc := ⟨.hbm, 623, rfl⟩
abbrev main_call14_c_1 : Ref sig .tc := ⟨.hbm, 624, rfl⟩
abbrev main_call14_v8 : Ref sig .tc := ⟨.hbm, 625, rfl⟩
abbrev main_call14_v9 : Ref sig .tc := ⟨.hbm, 626, rfl⟩
abbrev main_call14_c_2 : Ref sig .tc := ⟨.hbm, 627, rfl⟩
abbrev main_call14_v10 : Ref sig .tc := ⟨.hbm, 628, rfl⟩
abbrev main_call14_v11 : Ref sig .tc := ⟨.hbm, 629, rfl⟩
abbrev main_call14_v12 : Ref sig .tc := ⟨.hbm, 630, rfl⟩
abbrev main_call14_v13 : Ref sig .tc := ⟨.hbm, 631, rfl⟩
abbrev main_call14_v14 : Ref sig .tc := ⟨.hbm, 632, rfl⟩
abbrev main_call14_c_3 : Ref sig .tc := ⟨.hbm, 633, rfl⟩
abbrev main_call14_v15 : Ref sig .tc := ⟨.hbm, 634, rfl⟩
abbrev main_call14_v16 : Ref sig .tc := ⟨.hbm, 635, rfl⟩
abbrev main_call14_c_4 : Ref sig .tc := ⟨.hbm, 636, rfl⟩
abbrev main_call14_v17 : Ref sig .tc := ⟨.hbm, 637, rfl⟩
abbrev main_call14_v18 : Ref sig .tc := ⟨.hbm, 638, rfl⟩
abbrev main_call14_v19 : Ref sig .tc := ⟨.hbm, 639, rfl⟩
abbrev main_call14_v20 : Ref sig .tc := ⟨.hbm, 640, rfl⟩
abbrev main_v99_0 : Ref sig .tc := ⟨.hbm, 641, rfl⟩
abbrev main_call14_c_5 : Ref sig .tc := ⟨.hbm, 642, rfl⟩
abbrev main_call14_v22 : Ref sig .tc := ⟨.hbm, 643, rfl⟩
abbrev main_call14_v23 : Ref sig .tc := ⟨.hbm, 644, rfl⟩
abbrev main_call14_c_6 : Ref sig .tc := ⟨.hbm, 645, rfl⟩
abbrev main_call14_v24 : Ref sig .tc := ⟨.hbm, 646, rfl⟩
abbrev main_call14_v25 : Ref sig .tc := ⟨.hbm, 647, rfl⟩
abbrev main_call14_v26 : Ref sig .tc := ⟨.hbm, 648, rfl⟩
abbrev main_v99_1 : Ref sig .tc := ⟨.hbm, 649, rfl⟩
abbrev main_v100 : Ref sig .tc := ⟨.hbm, 650, rfl⟩
abbrev main_v101 : Ref sig .tc := ⟨.hbm, 651, rfl⟩
abbrev main_c_22 : Ref sig .tc := ⟨.hbm, 652, rfl⟩
abbrev main_v102 : Ref sig .tc := ⟨.hbm, 653, rfl⟩
abbrev main_v103 : Ref sig .tc := ⟨.hbm, 654, rfl⟩
abbrev main_v104 : Ref sig .tc := ⟨.hbm, 655, rfl⟩
abbrev main_c_23 : Ref sig .tc := ⟨.hbm, 656, rfl⟩
abbrev main_v105 : Ref sig .tc := ⟨.hbm, 657, rfl⟩
abbrev main_v106 : Ref sig .tc := ⟨.hbm, 658, rfl⟩
abbrev main_v107 : Ref sig .tc := ⟨.hbm, 659, rfl⟩
abbrev main_v108 : Ref sig .tc := ⟨.hbm, 660, rfl⟩
abbrev main_cst : Ref sig .tc := ⟨.hbm, 661, rfl⟩
abbrev main_v109 : Ref sig .tc := ⟨.hbm, 662, rfl⟩
abbrev main_v110 : Ref sig .tc := ⟨.hbm, 663, rfl⟩
abbrev main_cst_24 : Ref sig .tc := ⟨.hbm, 664, rfl⟩
abbrev main_v111 : Ref sig .tc := ⟨.hbm, 665, rfl⟩
abbrev main_v112 : Ref sig .tc := ⟨.hbm, 666, rfl⟩
abbrev main_v113 : Ref sig .tc := ⟨.hbm, 667, rfl⟩
abbrev main_cst_25 : Ref sig .tc := ⟨.hbm, 668, rfl⟩
abbrev main_v114 : Ref sig .tc := ⟨.hbm, 669, rfl⟩
abbrev main_cst_26 : Ref sig .tc := ⟨.hbm, 670, rfl⟩
abbrev main_v115 : Ref sig .tc := ⟨.hbm, 671, rfl⟩
abbrev main_v116 : Ref sig .tc := ⟨.hbm, 672, rfl⟩
abbrev main_v117 : Ref sig .tc := ⟨.hbm, 673, rfl⟩
abbrev main_v118 : Ref sig .tc := ⟨.hbm, 674, rfl⟩
abbrev main_v119 : Ref sig .tc := ⟨.hbm, 675, rfl⟩
abbrev main_v120 : Ref sig .tc := ⟨.hbm, 676, rfl⟩
abbrev main_cst_27 : Ref sig .tc := ⟨.hbm, 677, rfl⟩
abbrev main_v121 : Ref sig .tc := ⟨.hbm, 678, rfl⟩
abbrev main_v122 : Ref sig .tc := ⟨.hbm, 679, rfl⟩
abbrev main_v123 : Ref sig .tc := ⟨.hbm, 680, rfl⟩
abbrev main_v124 : Ref sig .tc := ⟨.hbm, 681, rfl⟩
abbrev main_v125 : Ref sig .tc := ⟨.hbm, 682, rfl⟩
abbrev main_v126 : Ref sig .tc := ⟨.hbm, 683, rfl⟩
abbrev main_v127 : Ref sig .tc := ⟨.hbm, 684, rfl⟩
abbrev main_cst_28 : Ref sig .tc := ⟨.hbm, 685, rfl⟩
abbrev main_v128 : Ref sig .tc := ⟨.hbm, 686, rfl⟩
abbrev main_v129 : Ref sig .tc := ⟨.hbm, 687, rfl⟩
abbrev main_cst_29 : Ref sig .tc := ⟨.hbm, 688, rfl⟩
abbrev main_v130 : Ref sig .tc := ⟨.hbm, 689, rfl⟩
abbrev main_v131 : Ref sig .tc := ⟨.hbm, 690, rfl⟩
abbrev main_v132 : Ref sig .tc := ⟨.hbm, 691, rfl⟩
abbrev main_v133 : Ref sig .tc := ⟨.hbm, 692, rfl⟩
abbrev main_v134 : Ref sig .tc := ⟨.hbm, 693, rfl⟩
abbrev main_v135 : Ref sig .tc := ⟨.hbm, 694, rfl⟩
abbrev main_v136 : Ref sig .tc := ⟨.hbm, 695, rfl⟩
abbrev main_v137 : Ref sig .tc := ⟨.hbm, 696, rfl⟩
abbrev main_cst_30 : Ref sig .tc := ⟨.hbm, 697, rfl⟩
abbrev main_v138 : Ref sig .tc := ⟨.hbm, 698, rfl⟩
abbrev main_v139 : Ref sig .tc := ⟨.hbm, 699, rfl⟩
abbrev main_cst_31 : Ref sig .tc := ⟨.hbm, 700, rfl⟩
abbrev main_v140 : Ref sig .tc := ⟨.hbm, 701, rfl⟩
abbrev main_v141 : Ref sig .tc := ⟨.hbm, 702, rfl⟩
abbrev main_v142 : Ref sig .tc := ⟨.hbm, 703, rfl⟩
abbrev main_v143 : Ref sig .tc := ⟨.hbm, 704, rfl⟩
abbrev main_v144 : Ref sig .tc := ⟨.hbm, 705, rfl⟩
abbrev main_v145 : Ref sig .tc := ⟨.hbm, 706, rfl⟩
abbrev main_v146 : Ref sig .tc := ⟨.hbm, 707, rfl⟩
abbrev main_v147 : Ref sig .tc := ⟨.hbm, 708, rfl⟩
abbrev main_cst_32 : Ref sig .tc := ⟨.hbm, 709, rfl⟩
abbrev main_v148 : Ref sig .tc := ⟨.hbm, 710, rfl⟩
abbrev main_v149 : Ref sig .tc := ⟨.hbm, 711, rfl⟩
abbrev main_cst_33 : Ref sig .tc := ⟨.hbm, 712, rfl⟩
abbrev main_v150 : Ref sig .tc := ⟨.hbm, 713, rfl⟩
abbrev main_v151 : Ref sig .tc := ⟨.hbm, 714, rfl⟩
abbrev main_v152 : Ref sig .tc := ⟨.hbm, 715, rfl⟩
abbrev main_v153 : Ref sig .tc := ⟨.hbm, 716, rfl⟩
abbrev main_v154 : Ref sig .tc := ⟨.hbm, 717, rfl⟩
abbrev main_v155 : Ref sig .tc := ⟨.hbm, 718, rfl⟩
abbrev main_v156 : Ref sig .tc := ⟨.hbm, 719, rfl⟩
abbrev main_v157 : Ref sig .tc := ⟨.hbm, 720, rfl⟩
abbrev main_cst_34 : Ref sig .tc := ⟨.hbm, 721, rfl⟩
abbrev main_v158 : Ref sig .tc := ⟨.hbm, 722, rfl⟩
abbrev main_v159 : Ref sig .tc := ⟨.hbm, 723, rfl⟩
abbrev main_cst_35 : Ref sig .tc := ⟨.hbm, 724, rfl⟩
abbrev main_v160 : Ref sig .tc := ⟨.hbm, 725, rfl⟩
abbrev main_v161 : Ref sig .tc := ⟨.hbm, 726, rfl⟩
abbrev main_v162 : Ref sig .tc := ⟨.hbm, 727, rfl⟩
abbrev main_v163 : Ref sig .tc := ⟨.hbm, 728, rfl⟩
abbrev main_v164 : Ref sig .tc := ⟨.hbm, 729, rfl⟩
abbrev main_v165 : Ref sig .tc := ⟨.hbm, 730, rfl⟩
abbrev main_v166 : Ref sig .tc := ⟨.hbm, 731, rfl⟩
abbrev main_v167_0 : Ref sig .tc := ⟨.hbm, 732, rfl⟩
abbrev main_v167_1 : Ref sig .tc := ⟨.hbm, 733, rfl⟩
abbrev main_v168 : Ref sig .tc := ⟨.hbm, 734, rfl⟩
abbrev main_call15_call0_cst : Ref sig .tc := ⟨.hbm, 735, rfl⟩
abbrev main_call15_call0_v0 : Ref sig .tc := ⟨.hbm, 736, rfl⟩
abbrev main_v169 : Ref sig .tc := ⟨.hbm, 737, rfl⟩
abbrev main_cst_36 : Ref sig .tc := ⟨.hbm, 738, rfl⟩
abbrev main_v170 : Ref sig .tc := ⟨.hbm, 739, rfl⟩
abbrev main_v171 : Ref sig .tc := ⟨.hbm, 740, rfl⟩
abbrev main_v172 : Ref sig .tc := ⟨.hbm, 741, rfl⟩
abbrev main_c_37 : Ref sig .tc := ⟨.hbm, 742, rfl⟩
abbrev main_v173 : Ref sig .tc := ⟨.hbm, 743, rfl⟩
abbrev main_v174 : Ref sig .tc := ⟨.hbm, 744, rfl⟩
abbrev main_v175 : Ref sig .tc := ⟨.hbm, 745, rfl⟩
abbrev main_v176 : Ref sig .tc := ⟨.hbm, 746, rfl⟩
abbrev main_cst_38 : Ref sig .tc := ⟨.hbm, 747, rfl⟩
abbrev main_call16_v0 : Ref sig .tc := ⟨.hbm, 748, rfl⟩
abbrev main_call16_v1 : Ref sig .tc := ⟨.hbm, 749, rfl⟩
abbrev main_v177 : Ref sig .tc := ⟨.hbm, 750, rfl⟩
abbrev main_cst_39 : Ref sig .tc := ⟨.hbm, 751, rfl⟩
abbrev main_v178 : Ref sig .tc := ⟨.hbm, 752, rfl⟩
abbrev main_v179 : Ref sig .tc := ⟨.hbm, 753, rfl⟩
abbrev main_v180 : Ref sig .tc := ⟨.hbm, 754, rfl⟩
abbrev main_v181 : Ref sig .tc := ⟨.hbm, 755, rfl⟩
abbrev main_v182 : Ref sig .tc := ⟨.hbm, 756, rfl⟩
abbrev main_cst_40 : Ref sig .tc := ⟨.hbm, 757, rfl⟩
abbrev main_v183 : Ref sig .tc := ⟨.hbm, 758, rfl⟩
abbrev main_v184 : Ref sig .tc := ⟨.hbm, 759, rfl⟩
abbrev main_cst_41 : Ref sig .tc := ⟨.hbm, 760, rfl⟩
abbrev main_call17_v0 : Ref sig .tc := ⟨.hbm, 761, rfl⟩
abbrev main_call17_v1 : Ref sig .tc := ⟨.hbm, 762, rfl⟩
abbrev main_v185 : Ref sig .tc := ⟨.hbm, 763, rfl⟩
abbrev main_c_42 : Ref sig .tc := ⟨.hbm, 764, rfl⟩
abbrev main_v186 : Ref sig .tc := ⟨.hbm, 765, rfl⟩
abbrev main_c_43 : Ref sig .tc := ⟨.hbm, 766, rfl⟩
abbrev main_v187 : Ref sig .tc := ⟨.hbm, 767, rfl⟩
abbrev main_v188 : Ref sig .tc := ⟨.hbm, 768, rfl⟩
abbrev main_c_44 : Ref sig .tc := ⟨.hbm, 769, rfl⟩
abbrev main_v189 : Ref sig .tc := ⟨.hbm, 770, rfl⟩
abbrev main_v190 : Ref sig .tc := ⟨.hbm, 771, rfl⟩
abbrev main_c_45 : Ref sig .tc := ⟨.hbm, 772, rfl⟩
abbrev main_v191 : Ref sig .tc := ⟨.hbm, 773, rfl⟩
abbrev main_v192 : Ref sig .tc := ⟨.hbm, 774, rfl⟩
abbrev main_v193 : Ref sig .tc := ⟨.hbm, 775, rfl⟩
abbrev main_v194 : Ref sig .tc := ⟨.hbm, 776, rfl⟩
abbrev main_call18_v0 : Ref sig .tc := ⟨.hbm, 777, rfl⟩
abbrev main_call18_c : Ref sig .tc := ⟨.hbm, 778, rfl⟩
abbrev main_call18_v1 : Ref sig .tc := ⟨.hbm, 779, rfl⟩
abbrev main_call18_v2 : Ref sig .tc := ⟨.hbm, 780, rfl⟩
abbrev main_call18_c_0 : Ref sig .tc := ⟨.hbm, 781, rfl⟩
abbrev main_call18_v3 : Ref sig .tc := ⟨.hbm, 782, rfl⟩
abbrev main_call18_v4 : Ref sig .tc := ⟨.hbm, 783, rfl⟩
abbrev main_call18_v5 : Ref sig .tc := ⟨.hbm, 784, rfl⟩
abbrev main_call18_v6 : Ref sig .tc := ⟨.hbm, 785, rfl⟩
abbrev main_call18_v7 : Ref sig .tc := ⟨.hbm, 786, rfl⟩
abbrev main_call18_c_1 : Ref sig .tc := ⟨.hbm, 787, rfl⟩
abbrev main_call18_v8 : Ref sig .tc := ⟨.hbm, 788, rfl⟩
abbrev main_call18_v9 : Ref sig .tc := ⟨.hbm, 789, rfl⟩
abbrev main_call18_c_2 : Ref sig .tc := ⟨.hbm, 790, rfl⟩
abbrev main_call18_v10 : Ref sig .tc := ⟨.hbm, 791, rfl⟩
abbrev main_call18_v11 : Ref sig .tc := ⟨.hbm, 792, rfl⟩
abbrev main_call18_v12 : Ref sig .tc := ⟨.hbm, 793, rfl⟩
abbrev main_call18_v13 : Ref sig .tc := ⟨.hbm, 794, rfl⟩
abbrev main_call18_v14 : Ref sig .tc := ⟨.hbm, 795, rfl⟩
abbrev main_call18_c_3 : Ref sig .tc := ⟨.hbm, 796, rfl⟩
abbrev main_call18_v15 : Ref sig .tc := ⟨.hbm, 797, rfl⟩
abbrev main_call18_v16 : Ref sig .tc := ⟨.hbm, 798, rfl⟩
abbrev main_call18_c_4 : Ref sig .tc := ⟨.hbm, 799, rfl⟩
abbrev main_call18_v17 : Ref sig .tc := ⟨.hbm, 800, rfl⟩
abbrev main_call18_v18 : Ref sig .tc := ⟨.hbm, 801, rfl⟩
abbrev main_call18_v19 : Ref sig .tc := ⟨.hbm, 802, rfl⟩
abbrev main_call18_v20 : Ref sig .tc := ⟨.hbm, 803, rfl⟩
abbrev main_v195_0 : Ref sig .tc := ⟨.hbm, 804, rfl⟩
abbrev main_call18_c_5 : Ref sig .tc := ⟨.hbm, 805, rfl⟩
abbrev main_call18_v22 : Ref sig .tc := ⟨.hbm, 806, rfl⟩
abbrev main_call18_v23 : Ref sig .tc := ⟨.hbm, 807, rfl⟩
abbrev main_call18_c_6 : Ref sig .tc := ⟨.hbm, 808, rfl⟩
abbrev main_call18_v24 : Ref sig .tc := ⟨.hbm, 809, rfl⟩
abbrev main_call18_v25 : Ref sig .tc := ⟨.hbm, 810, rfl⟩
abbrev main_call18_v26 : Ref sig .tc := ⟨.hbm, 811, rfl⟩
abbrev main_v195_1 : Ref sig .tc := ⟨.hbm, 812, rfl⟩
abbrev main_v196 : Ref sig .tc := ⟨.hbm, 813, rfl⟩
abbrev main_v197 : Ref sig .tc := ⟨.hbm, 814, rfl⟩
abbrev main_c_46 : Ref sig .tc := ⟨.hbm, 815, rfl⟩
abbrev main_v198 : Ref sig .tc := ⟨.hbm, 816, rfl⟩
abbrev main_v199 : Ref sig .tc := ⟨.hbm, 817, rfl⟩
abbrev main_call19_v0 : Ref sig .tc := ⟨.hbm, 818, rfl⟩
abbrev main_call19_c : Ref sig .tc := ⟨.hbm, 819, rfl⟩
abbrev main_call19_v1 : Ref sig .tc := ⟨.hbm, 820, rfl⟩
abbrev main_call19_v2 : Ref sig .tc := ⟨.hbm, 821, rfl⟩
abbrev main_call19_c_0 : Ref sig .tc := ⟨.hbm, 822, rfl⟩
abbrev main_call19_v3 : Ref sig .tc := ⟨.hbm, 823, rfl⟩
abbrev main_call19_v4 : Ref sig .tc := ⟨.hbm, 824, rfl⟩
abbrev main_call19_v5 : Ref sig .tc := ⟨.hbm, 825, rfl⟩
abbrev main_call19_v6 : Ref sig .tc := ⟨.hbm, 826, rfl⟩
abbrev main_call19_v7 : Ref sig .tc := ⟨.hbm, 827, rfl⟩
abbrev main_call19_c_1 : Ref sig .tc := ⟨.hbm, 828, rfl⟩
abbrev main_call19_v8 : Ref sig .tc := ⟨.hbm, 829, rfl⟩
abbrev main_call19_v9 : Ref sig .tc := ⟨.hbm, 830, rfl⟩
abbrev main_call19_c_2 : Ref sig .tc := ⟨.hbm, 831, rfl⟩
abbrev main_call19_v10 : Ref sig .tc := ⟨.hbm, 832, rfl⟩
abbrev main_call19_v11 : Ref sig .tc := ⟨.hbm, 833, rfl⟩
abbrev main_call19_v12 : Ref sig .tc := ⟨.hbm, 834, rfl⟩
abbrev main_call19_v13 : Ref sig .tc := ⟨.hbm, 835, rfl⟩
abbrev main_call19_v14 : Ref sig .tc := ⟨.hbm, 836, rfl⟩
abbrev main_call19_c_3 : Ref sig .tc := ⟨.hbm, 837, rfl⟩
abbrev main_call19_v15 : Ref sig .tc := ⟨.hbm, 838, rfl⟩
abbrev main_call19_v16 : Ref sig .tc := ⟨.hbm, 839, rfl⟩
abbrev main_call19_c_4 : Ref sig .tc := ⟨.hbm, 840, rfl⟩
abbrev main_call19_v17 : Ref sig .tc := ⟨.hbm, 841, rfl⟩
abbrev main_call19_v18 : Ref sig .tc := ⟨.hbm, 842, rfl⟩
abbrev main_call19_v19 : Ref sig .tc := ⟨.hbm, 843, rfl⟩
abbrev main_call19_v20 : Ref sig .tc := ⟨.hbm, 844, rfl⟩
abbrev main_v200_0 : Ref sig .tc := ⟨.hbm, 845, rfl⟩
abbrev main_call19_c_5 : Ref sig .tc := ⟨.hbm, 846, rfl⟩
abbrev main_call19_v22 : Ref sig .tc := ⟨.hbm, 847, rfl⟩
abbrev main_call19_v23 : Ref sig .tc := ⟨.hbm, 848, rfl⟩
abbrev main_call19_c_6 : Ref sig .tc := ⟨.hbm, 849, rfl⟩
abbrev main_call19_v24 : Ref sig .tc := ⟨.hbm, 850, rfl⟩
abbrev main_call19_v25 : Ref sig .tc := ⟨.hbm, 851, rfl⟩
abbrev main_call19_v26 : Ref sig .tc := ⟨.hbm, 852, rfl⟩
abbrev main_v200_1 : Ref sig .tc := ⟨.hbm, 853, rfl⟩
abbrev main_v201 : Ref sig .tc := ⟨.hbm, 854, rfl⟩
abbrev main_v202 : Ref sig .tc := ⟨.hbm, 855, rfl⟩
abbrev main_c_47 : Ref sig .tc := ⟨.hbm, 856, rfl⟩
abbrev main_v203 : Ref sig .tc := ⟨.hbm, 857, rfl⟩
abbrev main_v204 : Ref sig .tc := ⟨.hbm, 858, rfl⟩
abbrev main_call20_v0 : Ref sig .tc := ⟨.hbm, 859, rfl⟩
abbrev main_call20_c : Ref sig .tc := ⟨.hbm, 860, rfl⟩
abbrev main_call20_v1 : Ref sig .tc := ⟨.hbm, 861, rfl⟩
abbrev main_call20_v2 : Ref sig .tc := ⟨.hbm, 862, rfl⟩
abbrev main_call20_c_0 : Ref sig .tc := ⟨.hbm, 863, rfl⟩
abbrev main_call20_v3 : Ref sig .tc := ⟨.hbm, 864, rfl⟩
abbrev main_call20_v4 : Ref sig .tc := ⟨.hbm, 865, rfl⟩
abbrev main_call20_v5 : Ref sig .tc := ⟨.hbm, 866, rfl⟩
abbrev main_call20_v6 : Ref sig .tc := ⟨.hbm, 867, rfl⟩
abbrev main_call20_v7 : Ref sig .tc := ⟨.hbm, 868, rfl⟩
abbrev main_call20_c_1 : Ref sig .tc := ⟨.hbm, 869, rfl⟩
abbrev main_call20_v8 : Ref sig .tc := ⟨.hbm, 870, rfl⟩
abbrev main_call20_v9 : Ref sig .tc := ⟨.hbm, 871, rfl⟩
abbrev main_call20_c_2 : Ref sig .tc := ⟨.hbm, 872, rfl⟩
abbrev main_call20_v10 : Ref sig .tc := ⟨.hbm, 873, rfl⟩
abbrev main_call20_v11 : Ref sig .tc := ⟨.hbm, 874, rfl⟩
abbrev main_call20_v12 : Ref sig .tc := ⟨.hbm, 875, rfl⟩
abbrev main_call20_v13 : Ref sig .tc := ⟨.hbm, 876, rfl⟩
abbrev main_call20_v14 : Ref sig .tc := ⟨.hbm, 877, rfl⟩
abbrev main_call20_c_3 : Ref sig .tc := ⟨.hbm, 878, rfl⟩
abbrev main_call20_v15 : Ref sig .tc := ⟨.hbm, 879, rfl⟩
abbrev main_call20_v16 : Ref sig .tc := ⟨.hbm, 880, rfl⟩
abbrev main_call20_c_4 : Ref sig .tc := ⟨.hbm, 881, rfl⟩
abbrev main_call20_v17 : Ref sig .tc := ⟨.hbm, 882, rfl⟩
abbrev main_call20_v18 : Ref sig .tc := ⟨.hbm, 883, rfl⟩
abbrev main_call20_v19 : Ref sig .tc := ⟨.hbm, 884, rfl⟩
abbrev main_call20_v20 : Ref sig .tc := ⟨.hbm, 885, rfl⟩
abbrev main_v205_0 : Ref sig .tc := ⟨.hbm, 886, rfl⟩
abbrev main_call20_c_5 : Ref sig .tc := ⟨.hbm, 887, rfl⟩
abbrev main_call20_v22 : Ref sig .tc := ⟨.hbm, 888, rfl⟩
abbrev main_call20_v23 : Ref sig .tc := ⟨.hbm, 889, rfl⟩
abbrev main_call20_c_6 : Ref sig .tc := ⟨.hbm, 890, rfl⟩
abbrev main_call20_v24 : Ref sig .tc := ⟨.hbm, 891, rfl⟩
abbrev main_call20_v25 : Ref sig .tc := ⟨.hbm, 892, rfl⟩
abbrev main_call20_v26 : Ref sig .tc := ⟨.hbm, 893, rfl⟩
abbrev main_v205_1 : Ref sig .tc := ⟨.hbm, 894, rfl⟩
abbrev main_v206 : Ref sig .tc := ⟨.hbm, 895, rfl⟩
abbrev main_v207 : Ref sig .tc := ⟨.hbm, 896, rfl⟩
abbrev main_c_48 : Ref sig .tc := ⟨.hbm, 897, rfl⟩
abbrev main_v208 : Ref sig .tc := ⟨.hbm, 898, rfl⟩
abbrev main_v209 : Ref sig .tc := ⟨.hbm, 899, rfl⟩
abbrev main_call21_v0 : Ref sig .tc := ⟨.hbm, 900, rfl⟩
abbrev main_call21_c : Ref sig .tc := ⟨.hbm, 901, rfl⟩
abbrev main_call21_v1 : Ref sig .tc := ⟨.hbm, 902, rfl⟩
abbrev main_call21_v2 : Ref sig .tc := ⟨.hbm, 903, rfl⟩
abbrev main_call21_c_0 : Ref sig .tc := ⟨.hbm, 904, rfl⟩
abbrev main_call21_v3 : Ref sig .tc := ⟨.hbm, 905, rfl⟩
abbrev main_call21_v4 : Ref sig .tc := ⟨.hbm, 906, rfl⟩
abbrev main_call21_v5 : Ref sig .tc := ⟨.hbm, 907, rfl⟩
abbrev main_call21_v6 : Ref sig .tc := ⟨.hbm, 908, rfl⟩
abbrev main_call21_v7 : Ref sig .tc := ⟨.hbm, 909, rfl⟩
abbrev main_call21_c_1 : Ref sig .tc := ⟨.hbm, 910, rfl⟩
abbrev main_call21_v8 : Ref sig .tc := ⟨.hbm, 911, rfl⟩
abbrev main_call21_v9 : Ref sig .tc := ⟨.hbm, 912, rfl⟩
abbrev main_call21_c_2 : Ref sig .tc := ⟨.hbm, 913, rfl⟩
abbrev main_call21_v10 : Ref sig .tc := ⟨.hbm, 914, rfl⟩
abbrev main_call21_v11 : Ref sig .tc := ⟨.hbm, 915, rfl⟩
abbrev main_call21_v12 : Ref sig .tc := ⟨.hbm, 916, rfl⟩
abbrev main_call21_v13 : Ref sig .tc := ⟨.hbm, 917, rfl⟩
abbrev main_call21_v14 : Ref sig .tc := ⟨.hbm, 918, rfl⟩
abbrev main_call21_c_3 : Ref sig .tc := ⟨.hbm, 919, rfl⟩
abbrev main_call21_v15 : Ref sig .tc := ⟨.hbm, 920, rfl⟩
abbrev main_call21_v16 : Ref sig .tc := ⟨.hbm, 921, rfl⟩
abbrev main_call21_c_4 : Ref sig .tc := ⟨.hbm, 922, rfl⟩
abbrev main_call21_v17 : Ref sig .tc := ⟨.hbm, 923, rfl⟩
abbrev main_call21_v18 : Ref sig .tc := ⟨.hbm, 924, rfl⟩
abbrev main_call21_v19 : Ref sig .tc := ⟨.hbm, 925, rfl⟩
abbrev main_call21_v20 : Ref sig .tc := ⟨.hbm, 926, rfl⟩
abbrev main_v210_0 : Ref sig .tc := ⟨.hbm, 927, rfl⟩
abbrev main_call21_c_5 : Ref sig .tc := ⟨.hbm, 928, rfl⟩
abbrev main_call21_v22 : Ref sig .tc := ⟨.hbm, 929, rfl⟩
abbrev main_call21_v23 : Ref sig .tc := ⟨.hbm, 930, rfl⟩
abbrev main_call21_c_6 : Ref sig .tc := ⟨.hbm, 931, rfl⟩
abbrev main_call21_v24 : Ref sig .tc := ⟨.hbm, 932, rfl⟩
abbrev main_call21_v25 : Ref sig .tc := ⟨.hbm, 933, rfl⟩
abbrev main_call21_v26 : Ref sig .tc := ⟨.hbm, 934, rfl⟩
abbrev main_v210_1 : Ref sig .tc := ⟨.hbm, 935, rfl⟩
abbrev main_v211 : Ref sig .tc := ⟨.hbm, 936, rfl⟩
abbrev main_v212 : Ref sig .tc := ⟨.hbm, 937, rfl⟩
abbrev main_c_49 : Ref sig .tc := ⟨.hbm, 938, rfl⟩
abbrev main_v213 : Ref sig .tc := ⟨.hbm, 939, rfl⟩
abbrev main_v214 : Ref sig .tc := ⟨.hbm, 940, rfl⟩
abbrev main_call22_v0 : Ref sig .tc := ⟨.hbm, 941, rfl⟩
abbrev main_call22_c : Ref sig .tc := ⟨.hbm, 942, rfl⟩
abbrev main_call22_v1 : Ref sig .tc := ⟨.hbm, 943, rfl⟩
abbrev main_call22_v2 : Ref sig .tc := ⟨.hbm, 944, rfl⟩
abbrev main_call22_c_0 : Ref sig .tc := ⟨.hbm, 945, rfl⟩
abbrev main_call22_v3 : Ref sig .tc := ⟨.hbm, 946, rfl⟩
abbrev main_call22_v4 : Ref sig .tc := ⟨.hbm, 947, rfl⟩
abbrev main_call22_v5 : Ref sig .tc := ⟨.hbm, 948, rfl⟩
abbrev main_call22_v6 : Ref sig .tc := ⟨.hbm, 949, rfl⟩
abbrev main_call22_v7 : Ref sig .tc := ⟨.hbm, 950, rfl⟩
abbrev main_call22_c_1 : Ref sig .tc := ⟨.hbm, 951, rfl⟩
abbrev main_call22_v8 : Ref sig .tc := ⟨.hbm, 952, rfl⟩
abbrev main_call22_v9 : Ref sig .tc := ⟨.hbm, 953, rfl⟩
abbrev main_call22_c_2 : Ref sig .tc := ⟨.hbm, 954, rfl⟩
abbrev main_call22_v10 : Ref sig .tc := ⟨.hbm, 955, rfl⟩
abbrev main_call22_v11 : Ref sig .tc := ⟨.hbm, 956, rfl⟩
abbrev main_call22_v12 : Ref sig .tc := ⟨.hbm, 957, rfl⟩
abbrev main_call22_v13 : Ref sig .tc := ⟨.hbm, 958, rfl⟩
abbrev main_call22_v14 : Ref sig .tc := ⟨.hbm, 959, rfl⟩
abbrev main_call22_c_3 : Ref sig .tc := ⟨.hbm, 960, rfl⟩
abbrev main_call22_v15 : Ref sig .tc := ⟨.hbm, 961, rfl⟩
abbrev main_call22_v16 : Ref sig .tc := ⟨.hbm, 962, rfl⟩
abbrev main_call22_c_4 : Ref sig .tc := ⟨.hbm, 963, rfl⟩
abbrev main_call22_v17 : Ref sig .tc := ⟨.hbm, 964, rfl⟩
abbrev main_call22_v18 : Ref sig .tc := ⟨.hbm, 965, rfl⟩
abbrev main_call22_v19 : Ref sig .tc := ⟨.hbm, 966, rfl⟩
abbrev main_call22_v20 : Ref sig .tc := ⟨.hbm, 967, rfl⟩
abbrev main_v215_0 : Ref sig .tc := ⟨.hbm, 968, rfl⟩
abbrev main_call22_c_5 : Ref sig .tc := ⟨.hbm, 969, rfl⟩
abbrev main_call22_v22 : Ref sig .tc := ⟨.hbm, 970, rfl⟩
abbrev main_call22_v23 : Ref sig .tc := ⟨.hbm, 971, rfl⟩
abbrev main_call22_c_6 : Ref sig .tc := ⟨.hbm, 972, rfl⟩
abbrev main_call22_v24 : Ref sig .tc := ⟨.hbm, 973, rfl⟩
abbrev main_call22_v25 : Ref sig .tc := ⟨.hbm, 974, rfl⟩
abbrev main_call22_v26 : Ref sig .tc := ⟨.hbm, 975, rfl⟩
abbrev main_v215_1 : Ref sig .tc := ⟨.hbm, 976, rfl⟩
abbrev main_v216 : Ref sig .tc := ⟨.hbm, 977, rfl⟩
abbrev main_v217 : Ref sig .tc := ⟨.hbm, 978, rfl⟩
abbrev main_c_50 : Ref sig .tc := ⟨.hbm, 979, rfl⟩
abbrev main_v218 : Ref sig .tc := ⟨.hbm, 980, rfl⟩
abbrev main_v219 : Ref sig .tc := ⟨.hbm, 981, rfl⟩
abbrev main_v220 : Ref sig .tc := ⟨.hbm, 982, rfl⟩
abbrev main_v221 : Ref sig .tc := ⟨.hbm, 983, rfl⟩
abbrev main_v222 : Ref sig .tc := ⟨.hbm, 984, rfl⟩
abbrev main_c_51 : Ref sig .tc := ⟨.hbm, 985, rfl⟩
abbrev main_v223 : Ref sig .tc := ⟨.hbm, 986, rfl⟩
abbrev main_v224 : Ref sig .tc := ⟨.hbm, 987, rfl⟩
abbrev main_c_52 : Ref sig .tc := ⟨.hbm, 988, rfl⟩
abbrev main_v225 : Ref sig .tc := ⟨.hbm, 989, rfl⟩
abbrev main_v226 : Ref sig .tc := ⟨.hbm, 990, rfl⟩
abbrev main_v227 : Ref sig .tc := ⟨.hbm, 991, rfl⟩
abbrev main_v228 : Ref sig .tc := ⟨.hbm, 992, rfl⟩
abbrev main_call23_v0 : Ref sig .tc := ⟨.hbm, 993, rfl⟩
abbrev main_call23_c : Ref sig .tc := ⟨.hbm, 994, rfl⟩
abbrev main_call23_v1 : Ref sig .tc := ⟨.hbm, 995, rfl⟩
abbrev main_call23_v2 : Ref sig .tc := ⟨.hbm, 996, rfl⟩
abbrev main_call23_c_0 : Ref sig .tc := ⟨.hbm, 997, rfl⟩
abbrev main_call23_v3 : Ref sig .tc := ⟨.hbm, 998, rfl⟩
abbrev main_call23_v4 : Ref sig .tc := ⟨.hbm, 999, rfl⟩
abbrev main_call23_v5 : Ref sig .tc := ⟨.hbm, 1000, rfl⟩
abbrev main_call23_v6 : Ref sig .tc := ⟨.hbm, 1001, rfl⟩
abbrev main_call23_v7 : Ref sig .tc := ⟨.hbm, 1002, rfl⟩
abbrev main_call23_c_1 : Ref sig .tc := ⟨.hbm, 1003, rfl⟩
abbrev main_call23_v8 : Ref sig .tc := ⟨.hbm, 1004, rfl⟩
abbrev main_call23_v9 : Ref sig .tc := ⟨.hbm, 1005, rfl⟩
abbrev main_call23_c_2 : Ref sig .tc := ⟨.hbm, 1006, rfl⟩
abbrev main_call23_v10 : Ref sig .tc := ⟨.hbm, 1007, rfl⟩
abbrev main_call23_v11 : Ref sig .tc := ⟨.hbm, 1008, rfl⟩
abbrev main_call23_v12 : Ref sig .tc := ⟨.hbm, 1009, rfl⟩
abbrev main_call23_v13 : Ref sig .tc := ⟨.hbm, 1010, rfl⟩
abbrev main_call23_v14 : Ref sig .tc := ⟨.hbm, 1011, rfl⟩
abbrev main_call23_c_3 : Ref sig .tc := ⟨.hbm, 1012, rfl⟩
abbrev main_call23_v15 : Ref sig .tc := ⟨.hbm, 1013, rfl⟩
abbrev main_call23_v16 : Ref sig .tc := ⟨.hbm, 1014, rfl⟩
abbrev main_call23_c_4 : Ref sig .tc := ⟨.hbm, 1015, rfl⟩
abbrev main_call23_v17 : Ref sig .tc := ⟨.hbm, 1016, rfl⟩
abbrev main_call23_v18 : Ref sig .tc := ⟨.hbm, 1017, rfl⟩
abbrev main_call23_v19 : Ref sig .tc := ⟨.hbm, 1018, rfl⟩
abbrev main_call23_v20 : Ref sig .tc := ⟨.hbm, 1019, rfl⟩
abbrev main_v229_0 : Ref sig .tc := ⟨.hbm, 1020, rfl⟩
abbrev main_call23_c_5 : Ref sig .tc := ⟨.hbm, 1021, rfl⟩
abbrev main_call23_v22 : Ref sig .tc := ⟨.hbm, 1022, rfl⟩
abbrev main_call23_v23 : Ref sig .tc := ⟨.hbm, 1023, rfl⟩
abbrev main_call23_c_6 : Ref sig .tc := ⟨.hbm, 1024, rfl⟩
abbrev main_call23_v24 : Ref sig .tc := ⟨.hbm, 1025, rfl⟩
abbrev main_call23_v25 : Ref sig .tc := ⟨.hbm, 1026, rfl⟩
abbrev main_call23_v26 : Ref sig .tc := ⟨.hbm, 1027, rfl⟩
abbrev main_v229_1 : Ref sig .tc := ⟨.hbm, 1028, rfl⟩
abbrev main_v230 : Ref sig .tc := ⟨.hbm, 1029, rfl⟩
abbrev main_v231 : Ref sig .tc := ⟨.hbm, 1030, rfl⟩
abbrev main_c_53 : Ref sig .tc := ⟨.hbm, 1031, rfl⟩
abbrev main_v232 : Ref sig .tc := ⟨.hbm, 1032, rfl⟩
abbrev main_v233 : Ref sig .tc := ⟨.hbm, 1033, rfl⟩
abbrev main_call24_v0 : Ref sig .tc := ⟨.hbm, 1034, rfl⟩
abbrev main_call24_c : Ref sig .tc := ⟨.hbm, 1035, rfl⟩
abbrev main_call24_v1 : Ref sig .tc := ⟨.hbm, 1036, rfl⟩
abbrev main_call24_v2 : Ref sig .tc := ⟨.hbm, 1037, rfl⟩
abbrev main_call24_c_0 : Ref sig .tc := ⟨.hbm, 1038, rfl⟩
abbrev main_call24_v3 : Ref sig .tc := ⟨.hbm, 1039, rfl⟩
abbrev main_call24_v4 : Ref sig .tc := ⟨.hbm, 1040, rfl⟩
abbrev main_call24_v5 : Ref sig .tc := ⟨.hbm, 1041, rfl⟩
abbrev main_call24_v6 : Ref sig .tc := ⟨.hbm, 1042, rfl⟩
abbrev main_call24_v7 : Ref sig .tc := ⟨.hbm, 1043, rfl⟩
abbrev main_call24_c_1 : Ref sig .tc := ⟨.hbm, 1044, rfl⟩
abbrev main_call24_v8 : Ref sig .tc := ⟨.hbm, 1045, rfl⟩
abbrev main_call24_v9 : Ref sig .tc := ⟨.hbm, 1046, rfl⟩
abbrev main_call24_c_2 : Ref sig .tc := ⟨.hbm, 1047, rfl⟩
abbrev main_call24_v10 : Ref sig .tc := ⟨.hbm, 1048, rfl⟩
abbrev main_call24_v11 : Ref sig .tc := ⟨.hbm, 1049, rfl⟩
abbrev main_call24_v12 : Ref sig .tc := ⟨.hbm, 1050, rfl⟩
abbrev main_call24_v13 : Ref sig .tc := ⟨.hbm, 1051, rfl⟩
abbrev main_call24_v14 : Ref sig .tc := ⟨.hbm, 1052, rfl⟩
abbrev main_call24_c_3 : Ref sig .tc := ⟨.hbm, 1053, rfl⟩
abbrev main_call24_v15 : Ref sig .tc := ⟨.hbm, 1054, rfl⟩
abbrev main_call24_v16 : Ref sig .tc := ⟨.hbm, 1055, rfl⟩
abbrev main_call24_c_4 : Ref sig .tc := ⟨.hbm, 1056, rfl⟩
abbrev main_call24_v17 : Ref sig .tc := ⟨.hbm, 1057, rfl⟩
abbrev main_call24_v18 : Ref sig .tc := ⟨.hbm, 1058, rfl⟩
abbrev main_call24_v19 : Ref sig .tc := ⟨.hbm, 1059, rfl⟩
abbrev main_call24_v20 : Ref sig .tc := ⟨.hbm, 1060, rfl⟩
abbrev main_v234_0 : Ref sig .tc := ⟨.hbm, 1061, rfl⟩
abbrev main_call24_c_5 : Ref sig .tc := ⟨.hbm, 1062, rfl⟩
abbrev main_call24_v22 : Ref sig .tc := ⟨.hbm, 1063, rfl⟩
abbrev main_call24_v23 : Ref sig .tc := ⟨.hbm, 1064, rfl⟩
abbrev main_call24_c_6 : Ref sig .tc := ⟨.hbm, 1065, rfl⟩
abbrev main_call24_v24 : Ref sig .tc := ⟨.hbm, 1066, rfl⟩
abbrev main_call24_v25 : Ref sig .tc := ⟨.hbm, 1067, rfl⟩
abbrev main_call24_v26 : Ref sig .tc := ⟨.hbm, 1068, rfl⟩
abbrev main_v234_1 : Ref sig .tc := ⟨.hbm, 1069, rfl⟩
abbrev main_v235 : Ref sig .tc := ⟨.hbm, 1070, rfl⟩
abbrev main_v236 : Ref sig .tc := ⟨.hbm, 1071, rfl⟩
abbrev main_c_54 : Ref sig .tc := ⟨.hbm, 1072, rfl⟩
abbrev main_v237 : Ref sig .tc := ⟨.hbm, 1073, rfl⟩
abbrev main_v238 : Ref sig .tc := ⟨.hbm, 1074, rfl⟩
abbrev main_call25_v0 : Ref sig .tc := ⟨.hbm, 1075, rfl⟩
abbrev main_call25_c : Ref sig .tc := ⟨.hbm, 1076, rfl⟩
abbrev main_call25_v1 : Ref sig .tc := ⟨.hbm, 1077, rfl⟩
abbrev main_call25_v2 : Ref sig .tc := ⟨.hbm, 1078, rfl⟩
abbrev main_call25_c_0 : Ref sig .tc := ⟨.hbm, 1079, rfl⟩
abbrev main_call25_v3 : Ref sig .tc := ⟨.hbm, 1080, rfl⟩
abbrev main_call25_v4 : Ref sig .tc := ⟨.hbm, 1081, rfl⟩
abbrev main_call25_v5 : Ref sig .tc := ⟨.hbm, 1082, rfl⟩
abbrev main_call25_v6 : Ref sig .tc := ⟨.hbm, 1083, rfl⟩
abbrev main_call25_v7 : Ref sig .tc := ⟨.hbm, 1084, rfl⟩
abbrev main_call25_c_1 : Ref sig .tc := ⟨.hbm, 1085, rfl⟩
abbrev main_call25_v8 : Ref sig .tc := ⟨.hbm, 1086, rfl⟩
abbrev main_call25_v9 : Ref sig .tc := ⟨.hbm, 1087, rfl⟩
abbrev main_call25_c_2 : Ref sig .tc := ⟨.hbm, 1088, rfl⟩
abbrev main_call25_v10 : Ref sig .tc := ⟨.hbm, 1089, rfl⟩
abbrev main_call25_v11 : Ref sig .tc := ⟨.hbm, 1090, rfl⟩
abbrev main_call25_v12 : Ref sig .tc := ⟨.hbm, 1091, rfl⟩
abbrev main_call25_v13 : Ref sig .tc := ⟨.hbm, 1092, rfl⟩
abbrev main_call25_v14 : Ref sig .tc := ⟨.hbm, 1093, rfl⟩
abbrev main_call25_c_3 : Ref sig .tc := ⟨.hbm, 1094, rfl⟩
abbrev main_call25_v15 : Ref sig .tc := ⟨.hbm, 1095, rfl⟩
abbrev main_call25_v16 : Ref sig .tc := ⟨.hbm, 1096, rfl⟩
abbrev main_call25_c_4 : Ref sig .tc := ⟨.hbm, 1097, rfl⟩
abbrev main_call25_v17 : Ref sig .tc := ⟨.hbm, 1098, rfl⟩
abbrev main_call25_v18 : Ref sig .tc := ⟨.hbm, 1099, rfl⟩
abbrev main_call25_v19 : Ref sig .tc := ⟨.hbm, 1100, rfl⟩
abbrev main_call25_v20 : Ref sig .tc := ⟨.hbm, 1101, rfl⟩
abbrev main_v239_0 : Ref sig .tc := ⟨.hbm, 1102, rfl⟩
abbrev main_call25_c_5 : Ref sig .tc := ⟨.hbm, 1103, rfl⟩
abbrev main_call25_v22 : Ref sig .tc := ⟨.hbm, 1104, rfl⟩
abbrev main_call25_v23 : Ref sig .tc := ⟨.hbm, 1105, rfl⟩
abbrev main_call25_c_6 : Ref sig .tc := ⟨.hbm, 1106, rfl⟩
abbrev main_call25_v24 : Ref sig .tc := ⟨.hbm, 1107, rfl⟩
abbrev main_call25_v25 : Ref sig .tc := ⟨.hbm, 1108, rfl⟩
abbrev main_call25_v26 : Ref sig .tc := ⟨.hbm, 1109, rfl⟩
abbrev main_v239_1 : Ref sig .tc := ⟨.hbm, 1110, rfl⟩
abbrev main_v240 : Ref sig .tc := ⟨.hbm, 1111, rfl⟩
abbrev main_v241 : Ref sig .tc := ⟨.hbm, 1112, rfl⟩
abbrev main_c_55 : Ref sig .tc := ⟨.hbm, 1113, rfl⟩
abbrev main_v242 : Ref sig .tc := ⟨.hbm, 1114, rfl⟩
abbrev main_v243 : Ref sig .tc := ⟨.hbm, 1115, rfl⟩
abbrev main_call26_v0 : Ref sig .tc := ⟨.hbm, 1116, rfl⟩
abbrev main_call26_c : Ref sig .tc := ⟨.hbm, 1117, rfl⟩
abbrev main_call26_v1 : Ref sig .tc := ⟨.hbm, 1118, rfl⟩
abbrev main_call26_v2 : Ref sig .tc := ⟨.hbm, 1119, rfl⟩
abbrev main_call26_c_0 : Ref sig .tc := ⟨.hbm, 1120, rfl⟩
abbrev main_call26_v3 : Ref sig .tc := ⟨.hbm, 1121, rfl⟩
abbrev main_call26_v4 : Ref sig .tc := ⟨.hbm, 1122, rfl⟩
abbrev main_call26_v5 : Ref sig .tc := ⟨.hbm, 1123, rfl⟩
abbrev main_call26_v6 : Ref sig .tc := ⟨.hbm, 1124, rfl⟩
abbrev main_call26_v7 : Ref sig .tc := ⟨.hbm, 1125, rfl⟩
abbrev main_call26_c_1 : Ref sig .tc := ⟨.hbm, 1126, rfl⟩
abbrev main_call26_v8 : Ref sig .tc := ⟨.hbm, 1127, rfl⟩
abbrev main_call26_v9 : Ref sig .tc := ⟨.hbm, 1128, rfl⟩
abbrev main_call26_c_2 : Ref sig .tc := ⟨.hbm, 1129, rfl⟩
abbrev main_call26_v10 : Ref sig .tc := ⟨.hbm, 1130, rfl⟩
abbrev main_call26_v11 : Ref sig .tc := ⟨.hbm, 1131, rfl⟩
abbrev main_call26_v12 : Ref sig .tc := ⟨.hbm, 1132, rfl⟩
abbrev main_call26_v13 : Ref sig .tc := ⟨.hbm, 1133, rfl⟩
abbrev main_call26_v14 : Ref sig .tc := ⟨.hbm, 1134, rfl⟩
abbrev main_call26_c_3 : Ref sig .tc := ⟨.hbm, 1135, rfl⟩
abbrev main_call26_v15 : Ref sig .tc := ⟨.hbm, 1136, rfl⟩
abbrev main_call26_v16 : Ref sig .tc := ⟨.hbm, 1137, rfl⟩
abbrev main_call26_c_4 : Ref sig .tc := ⟨.hbm, 1138, rfl⟩
abbrev main_call26_v17 : Ref sig .tc := ⟨.hbm, 1139, rfl⟩
abbrev main_call26_v18 : Ref sig .tc := ⟨.hbm, 1140, rfl⟩
abbrev main_call26_v19 : Ref sig .tc := ⟨.hbm, 1141, rfl⟩
abbrev main_call26_v20 : Ref sig .tc := ⟨.hbm, 1142, rfl⟩
abbrev main_v244_0 : Ref sig .tc := ⟨.hbm, 1143, rfl⟩
abbrev main_call26_c_5 : Ref sig .tc := ⟨.hbm, 1144, rfl⟩
abbrev main_call26_v22 : Ref sig .tc := ⟨.hbm, 1145, rfl⟩
abbrev main_call26_v23 : Ref sig .tc := ⟨.hbm, 1146, rfl⟩
abbrev main_call26_c_6 : Ref sig .tc := ⟨.hbm, 1147, rfl⟩
abbrev main_call26_v24 : Ref sig .tc := ⟨.hbm, 1148, rfl⟩
abbrev main_call26_v25 : Ref sig .tc := ⟨.hbm, 1149, rfl⟩
abbrev main_call26_v26 : Ref sig .tc := ⟨.hbm, 1150, rfl⟩
abbrev main_v244_1 : Ref sig .tc := ⟨.hbm, 1151, rfl⟩
abbrev main_v245 : Ref sig .tc := ⟨.hbm, 1152, rfl⟩
abbrev main_v246 : Ref sig .tc := ⟨.hbm, 1153, rfl⟩
abbrev main_c_56 : Ref sig .tc := ⟨.hbm, 1154, rfl⟩
abbrev main_v247 : Ref sig .tc := ⟨.hbm, 1155, rfl⟩
abbrev main_v248 : Ref sig .tc := ⟨.hbm, 1156, rfl⟩
abbrev main_call27_v0 : Ref sig .tc := ⟨.hbm, 1157, rfl⟩
abbrev main_call27_c : Ref sig .tc := ⟨.hbm, 1158, rfl⟩
abbrev main_call27_v1 : Ref sig .tc := ⟨.hbm, 1159, rfl⟩
abbrev main_call27_v2 : Ref sig .tc := ⟨.hbm, 1160, rfl⟩
abbrev main_call27_c_0 : Ref sig .tc := ⟨.hbm, 1161, rfl⟩
abbrev main_call27_v3 : Ref sig .tc := ⟨.hbm, 1162, rfl⟩
abbrev main_call27_v4 : Ref sig .tc := ⟨.hbm, 1163, rfl⟩
abbrev main_call27_v5 : Ref sig .tc := ⟨.hbm, 1164, rfl⟩
abbrev main_call27_v6 : Ref sig .tc := ⟨.hbm, 1165, rfl⟩
abbrev main_call27_v7 : Ref sig .tc := ⟨.hbm, 1166, rfl⟩
abbrev main_call27_c_1 : Ref sig .tc := ⟨.hbm, 1167, rfl⟩
abbrev main_call27_v8 : Ref sig .tc := ⟨.hbm, 1168, rfl⟩
abbrev main_call27_v9 : Ref sig .tc := ⟨.hbm, 1169, rfl⟩
abbrev main_call27_c_2 : Ref sig .tc := ⟨.hbm, 1170, rfl⟩
abbrev main_call27_v10 : Ref sig .tc := ⟨.hbm, 1171, rfl⟩
abbrev main_call27_v11 : Ref sig .tc := ⟨.hbm, 1172, rfl⟩
abbrev main_call27_v12 : Ref sig .tc := ⟨.hbm, 1173, rfl⟩
abbrev main_call27_v13 : Ref sig .tc := ⟨.hbm, 1174, rfl⟩
abbrev main_call27_v14 : Ref sig .tc := ⟨.hbm, 1175, rfl⟩
abbrev main_call27_c_3 : Ref sig .tc := ⟨.hbm, 1176, rfl⟩
abbrev main_call27_v15 : Ref sig .tc := ⟨.hbm, 1177, rfl⟩
abbrev main_call27_v16 : Ref sig .tc := ⟨.hbm, 1178, rfl⟩
abbrev main_call27_c_4 : Ref sig .tc := ⟨.hbm, 1179, rfl⟩
abbrev main_call27_v17 : Ref sig .tc := ⟨.hbm, 1180, rfl⟩
abbrev main_call27_v18 : Ref sig .tc := ⟨.hbm, 1181, rfl⟩
abbrev main_call27_v19 : Ref sig .tc := ⟨.hbm, 1182, rfl⟩
abbrev main_call27_v20 : Ref sig .tc := ⟨.hbm, 1183, rfl⟩
abbrev main_v249_0 : Ref sig .tc := ⟨.hbm, 1184, rfl⟩
abbrev main_call27_c_5 : Ref sig .tc := ⟨.hbm, 1185, rfl⟩
abbrev main_call27_v22 : Ref sig .tc := ⟨.hbm, 1186, rfl⟩
abbrev main_call27_v23 : Ref sig .tc := ⟨.hbm, 1187, rfl⟩
abbrev main_call27_c_6 : Ref sig .tc := ⟨.hbm, 1188, rfl⟩
abbrev main_call27_v24 : Ref sig .tc := ⟨.hbm, 1189, rfl⟩
abbrev main_call27_v25 : Ref sig .tc := ⟨.hbm, 1190, rfl⟩
abbrev main_call27_v26 : Ref sig .tc := ⟨.hbm, 1191, rfl⟩
abbrev main_v249_1 : Ref sig .tc := ⟨.hbm, 1192, rfl⟩
abbrev main_v250 : Ref sig .tc := ⟨.hbm, 1193, rfl⟩
abbrev main_v251 : Ref sig .tc := ⟨.hbm, 1194, rfl⟩
abbrev main_c_57 : Ref sig .tc := ⟨.hbm, 1195, rfl⟩
abbrev main_v252 : Ref sig .tc := ⟨.hbm, 1196, rfl⟩
abbrev main_v253 : Ref sig .tc := ⟨.hbm, 1197, rfl⟩
abbrev main_v254 : Ref sig .tc := ⟨.hbm, 1198, rfl⟩
abbrev main_c_58 : Ref sig .tc := ⟨.hbm, 1199, rfl⟩
abbrev main_v255 : Ref sig .tc := ⟨.hbm, 1200, rfl⟩
abbrev main_v256 : Ref sig .tc := ⟨.hbm, 1201, rfl⟩
abbrev main_v257 : Ref sig .tc := ⟨.hbm, 1202, rfl⟩
abbrev main_v258 : Ref sig .tc := ⟨.hbm, 1203, rfl⟩
abbrev main_cst_59 : Ref sig .tc := ⟨.hbm, 1204, rfl⟩
abbrev main_v259 : Ref sig .tc := ⟨.hbm, 1205, rfl⟩
abbrev main_v260 : Ref sig .tc := ⟨.hbm, 1206, rfl⟩
abbrev main_cst_60 : Ref sig .tc := ⟨.hbm, 1207, rfl⟩
abbrev main_v261 : Ref sig .tc := ⟨.hbm, 1208, rfl⟩
abbrev main_v262 : Ref sig .tc := ⟨.hbm, 1209, rfl⟩
abbrev main_cst_61 : Ref sig .tc := ⟨.hbm, 1210, rfl⟩
abbrev main_v263 : Ref sig .tc := ⟨.hbm, 1211, rfl⟩
abbrev main_v264 : Ref sig .tc := ⟨.hbm, 1212, rfl⟩
abbrev main_v265 : Ref sig .tc := ⟨.hbm, 1213, rfl⟩
abbrev main_v266 : Ref sig .tc := ⟨.hbm, 1214, rfl⟩
abbrev main_v267 : Ref sig .tc := ⟨.hbm, 1215, rfl⟩
abbrev main_v268 : Ref sig .tc := ⟨.hbm, 1216, rfl⟩
abbrev main_v269 : Ref sig .tc := ⟨.hbm, 1217, rfl⟩
abbrev main_v270 : Ref sig .tc := ⟨.hbm, 1218, rfl⟩
abbrev main_cst_62 : Ref sig .tc := ⟨.hbm, 1219, rfl⟩
abbrev main_v271 : Ref sig .tc := ⟨.hbm, 1220, rfl⟩
abbrev main_v272 : Ref sig .tc := ⟨.hbm, 1221, rfl⟩
abbrev main_v273 : Ref sig .tc := ⟨.hbm, 1222, rfl⟩
abbrev main_v274 : Ref sig .tc := ⟨.hbm, 1223, rfl⟩
abbrev main_c_63 : Ref sig .tc := ⟨.hbm, 1224, rfl⟩
abbrev main_call28_v0 : Ref sig .tc := ⟨.hbm, 1225, rfl⟩
abbrev main_call28_v1 : Ref sig .tc := ⟨.hbm, 1226, rfl⟩
abbrev main_v275 : Ref sig .tc := ⟨.hbm, 1227, rfl⟩
abbrev main_c_64 : Ref sig .tc := ⟨.hbm, 1228, rfl⟩
abbrev main_v276 : Ref sig .tc := ⟨.hbm, 1229, rfl⟩
abbrev main_v277 : Ref sig .tc := ⟨.hbm, 1230, rfl⟩
abbrev main_v278 : Ref sig .tc := ⟨.hbm, 1231, rfl⟩
abbrev main_v279 : Ref sig .tc := ⟨.hbm, 1232, rfl⟩
abbrev main_c_65 : Ref sig .tc := ⟨.hbm, 1233, rfl⟩
abbrev main_call29_v0 : Ref sig .tc := ⟨.hbm, 1234, rfl⟩
abbrev main_call29_v1 : Ref sig .tc := ⟨.hbm, 1235, rfl⟩
abbrev main_v280 : Ref sig .tc := ⟨.hbm, 1236, rfl⟩
abbrev main_c_66 : Ref sig .tc := ⟨.hbm, 1237, rfl⟩
abbrev main_v281 : Ref sig .tc := ⟨.hbm, 1238, rfl⟩
abbrev main_v282 : Ref sig .tc := ⟨.hbm, 1239, rfl⟩
abbrev main_v283 : Ref sig .tc := ⟨.hbm, 1240, rfl⟩
abbrev main_v284 : Ref sig .tc := ⟨.hbm, 1241, rfl⟩
abbrev main_cst_67 : Ref sig .tc := ⟨.hbm, 1242, rfl⟩
abbrev main_cst_68 : Ref sig .tc := ⟨.hbm, 1243, rfl⟩
abbrev main_call30_v0 : Ref sig .tc := ⟨.hbm, 1244, rfl⟩
abbrev main_call30_v1 : Ref sig .tc := ⟨.hbm, 1245, rfl⟩
abbrev main_v285 : Ref sig .tc := ⟨.hbm, 1246, rfl⟩

abbrev nD : Nat := 1
abbrev τ : Topo := Topo.v7x

variable {F : FTy → Type} [FloatOps F]
-- ==== Proof.KRun.lean ====
/- The kernel's program run whole: its result buffer ends at the contents the last segment boundary names, its two
   arguments as launched, every counter at zero. -/
module

public import proofs.«01_k».proof.Proof.Gen.KernelIdeal.Frame

@[expose] public section

set_option maxRecDepth 16000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run of the kernel's program: the launch of the frame certificate, with the result array kept in the post. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v73) = W5 m ρ c (Proc.devRef .tc main_v73))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       h c _ (mem_uc main_v73 (by decide))⟩), funext fun g => hz g (.inr (no_unscoped g.2))⟩)

end Cert.KernelIdeal.Gen

end
-- ==== Proof.Cipher.lean ====
/- The block cipher both programs draw their random words from: Threefry-2x32 of twenty rounds on words of 32 bits,
   stage by stage, and the words each program draws with it. -/
module

public import Idealize.ShloMosaic.PureOps

@[expose] public section

namespace Cert.Sampler

open Idealize.ShloMosaic

/-- A word of 32 bits. -/
abbrev Word : Type := BitVec 32

/-- The third word of the key `(a, b)`. -/
def key3 (a b : Word) : Word := IntOp.xori (IntOp.xori a b) 466688986#32

/-- The word `v` turned left by `r` places, `r'` the places that are left, and `w` excluded from it. -/
abbrev turned (r r' v w : Word) : Word := IntOp.xori (IntOp.ori (IntOp.shli .vector v r) (IntOp.shrui .vector v r')) w

/-- One round: add the words, turn the second left by `r` places (`r'` the places that are left), and exclude the sum
    from it. -/
def mixed (r r' : Word) (s : Word × Word) : Word × Word :=
  (IntOp.addi s.1 s.2, turned r r' s.2 (IntOp.addi s.1 s.2))

/-- Two words of the key added, with the group's number. -/
def injected (p q n : Word) (s : Word × Word) : Word × Word :=
  (IntOp.addi s.1 p, IntOp.addi (IntOp.addi s.2 q) n)

/-! The stages of the cipher of the counter `(0, y)` under the key `k`: the key added, then five groups of four
    rounds with words of the key added after each. -/

variable (k : Word × Word) (y : Word)

def st0 : Word × Word := (IntOp.addi 0#32 k.1, IntOp.addi y k.2)
def st1 : Word × Word := mixed 13#32 19#32 (st0 k y)
def st2 : Word × Word := mixed 15#32 17#32 (st1 k y)
def st3 : Word × Word := mixed 26#32 6#32 (st2 k y)
def st4 : Word × Word := mixed 6#32 26#32 (st3 k y)
def st5 : Word × Word := injected k.2 (key3 k.1 k.2) 1#32 (st4 k y)
def st6 : Word × Word := mixed 17#32 15#32 (st5 k y)
def st7 : Word × Word := mixed 29#32 3#32 (st6 k y)
def st8 : Word × Word := mixed 16#32 16#32 (st7 k y)
def st9 : Word × Word := mixed 24#32 8#32 (st8 k y)
def st10 : Word × Word := injected (key3 k.1 k.2) k.1 2#32 (st9 k y)
def st11 : Word × Word := mixed 13#32 19#32 (st10 k y)
def st12 : Word × Word := mixed 15#32 17#32 (st11 k y)
def st13 : Word × Word := mixed 26#32 6#32 (st12 k y)
def st14 : Word × Word := mixed 6#32 26#32 (st13 k y)
def st15 : Word × Word := injected k.1 k.2 3#32 (st14 k y)
def st16 : Word × Word := mixed 17#32 15#32 (st15 k y)
def st17 : Word × Word := mixed 29#32 3#32 (st16 k y)
def st18 : Word × Word := mixed 16#32 16#32 (st17 k y)
def st19 : Word × Word := mixed 24#32 8#32 (st18 k y)
def st20 : Word × Word := injected k.2 (key3 k.1 k.2) 4#32 (st19 k y)
def st21 : Word × Word := mixed 13#32 19#32 (st20 k y)
def st22 : Word × Word := mixed 15#32 17#32 (st21 k y)
def st23 : Word × Word := mixed 26#32 6#32 (st22 k y)
def st24 : Word × Word := mixed 6#32 26#32 (st23 k y)
def st25 : Word × Word := injected (key3 k.1 k.2) k.1 5#32 (st24 k y)

theorem st0_1 : IntOp.addi 0#32 k.1 = (st0 k y).1 := rfl
theorem st0_2 : IntOp.addi y k.2 = (st0 k y).2 := rfl
theorem st1_1 : IntOp.addi (st0 k y).1 (st0 k y).2 = (st1 k y).1 := rfl
theorem st1_2' : IntOp.xori (IntOp.ori (IntOp.shli .vector (st0 k y).2 13#32) (IntOp.shrui .vector (st0 k y).2 19#32)) (st1 k y).1 = (st1 k y).2 := rfl
theorem st1_2 : turned 13#32 19#32 (st0 k y).2 (st1 k y).1 = (st1 k y).2 := rfl
theorem st2_1 : IntOp.addi (st1 k y).1 (st1 k y).2 = (st2 k y).1 := rfl
theorem st2_2' : IntOp.xori (IntOp.ori (IntOp.shli .vector (st1 k y).2 15#32) (IntOp.shrui .vector (st1 k y).2 17#32)) (st2 k y).1 = (st2 k y).2 := rfl
theorem st2_2 : turned 15#32 17#32 (st1 k y).2 (st2 k y).1 = (st2 k y).2 := rfl
theorem st3_1 : IntOp.addi (st2 k y).1 (st2 k y).2 = (st3 k y).1 := rfl
theorem st3_2' : IntOp.xori (IntOp.ori (IntOp.shli .vector (st2 k y).2 26#32) (IntOp.shrui .vector (st2 k y).2 6#32)) (st3 k y).1 = (st3 k y).2 := rfl
theorem st3_2 : turned 26#32 6#32 (st2 k y).2 (st3 k y).1 = (st3 k y).2 := rfl
theorem st4_1 : IntOp.addi (st3 k y).1 (st3 k y).2 = (st4 k y).1 := rfl
theorem st4_2' : IntOp.xori (IntOp.ori (IntOp.shli .vector (st3 k y).2 6#32) (IntOp.shrui .vector (st3 k y).2 26#32)) (st4 k y).1 = (st4 k y).2 := rfl
theorem st4_2 : turned 6#32 26#32 (st3 k y).2 (st4 k y).1 = (st4 k y).2 := rfl
theorem st5_1 : IntOp.addi (st4 k y).1 k.2 = (st5 k y).1 := rfl
theorem st5_2 : IntOp.addi (IntOp.addi (st4 k y).2 (key3 k.1 k.2)) 1#32 = (st5 k y).2 := rfl
theorem st6_1 : IntOp.addi (st5 k y).1 (st5 k y).2 = (st6 k y).1 := rfl
theorem st6_2' : IntOp.xori (IntOp.ori (IntOp.shli .vector (st5 k y).2 17#32) (IntOp.shrui .vector (st5 k y).2 15#32)) (st6 k y).1 = (st6 k y).2 := rfl
theorem st6_2 : turned 17#32 15#32 (st5 k y).2 (st6 k y).1 = (st6 k y).2 := rfl
theorem st7_1 : IntOp.addi (st6 k y).1 (st6 k y).2 = (st7 k y).1 := rfl
theorem st7_2' : IntOp.xori (IntOp.ori (IntOp.shli .vector (st6 k y).2 29#32) (IntOp.shrui .vector (st6 k y).2 3#32)) (st7 k y).1 = (st7 k y).2 := rfl
theorem st7_2 : turned 29#32 3#32 (st6 k y).2 (st7 k y).1 = (st7 k y).2 := rfl
theorem st8_1 : IntOp.addi (st7 k y).1 (st7 k y).2 = (st8 k y).1 := rfl
theorem st8_2' : IntOp.xori (IntOp.ori (IntOp.shli .vector (st7 k y).2 16#32) (IntOp.shrui .vector (st7 k y).2 16#32)) (st8 k y).1 = (st8 k y).2 := rfl
theorem st8_2 : turned 16#32 16#32 (st7 k y).2 (st8 k y).1 = (st8 k y).2 := rfl
theorem st9_1 : IntOp.addi (st8 k y).1 (st8 k y).2 = (st9 k y).1 := rfl
theorem st9_2' : IntOp.xori (IntOp.ori (IntOp.shli .vector (st8 k y).2 24#32) (IntOp.shrui .vector (st8 k y).2 8#32)) (st9 k y).1 = (st9 k y).2 := rfl
theorem st9_2 : turned 24#32 8#32 (st8 k y).2 (st9 k y).1 = (st9 k y).2 := rfl
theorem st10_1 : IntOp.addi (st9 k y).1 (key3 k.1 k.2) = (st10 k y).1 := rfl
theorem st10_2 : IntOp.addi (IntOp.addi (st9 k y).2 k.1) 2#32 = (st10 k y).2 := rfl
theorem st11_1 : IntOp.addi (st10 k y).1 (st10 k y).2 = (st11 k y).1 := rfl
theorem st11_2' : IntOp.xori (IntOp.ori (IntOp.shli .vector (st10 k y).2 13#32) (IntOp.shrui .vector (st10 k y).2 19#32)) (st11 k y).1 = (st11 k y).2 := rfl
theorem st11_2 : turned 13#32 19#32 (st10 k y).2 (st11 k y).1 = (st11 k y).2 := rfl
theorem st12_1 : IntOp.addi (st11 k y).1 (st11 k y).2 = (st12 k y).1 := rfl
theorem st12_2' : IntOp.xori (IntOp.ori (IntOp.shli .vector (st11 k y).2 15#32) (IntOp.shrui .vector (st11 k y).2 17#32)) (st12 k y).1 = (st12 k y).2 := rfl
theorem st12_2 : turned 15#32 17#32 (st11 k y).2 (st12 k y).1 = (st12 k y).2 := rfl
theorem st13_1 : IntOp.addi (st12 k y).1 (st12 k y).2 = (st13 k y).1 := rfl
theorem st13_2' : IntOp.xori (IntOp.ori (IntOp.shli .vector (st12 k y).2 26#32) (IntOp.shrui .vector (st12 k y).2 6#32)) (st13 k y).1 = (st13 k y).2 := rfl
theorem st13_2 : turned 26#32 6#32 (st12 k y).2 (st13 k y).1 = (st13 k y).2 := rfl
theorem st14_1 : IntOp.addi (st13 k y).1 (st13 k y).2 = (st14 k y).1 := rfl
theorem st14_2' : IntOp.xori (IntOp.ori (IntOp.shli .vector (st13 k y).2 6#32) (IntOp.shrui .vector (st13 k y).2 26#32)) (st14 k y).1 = (st14 k y).2 := rfl
theorem st14_2 : turned 6#32 26#32 (st13 k y).2 (st14 k y).1 = (st14 k y).2 := rfl
theorem st15_1 : IntOp.addi (st14 k y).1 k.1 = (st15 k y).1 := rfl
theorem st15_2 : IntOp.addi (IntOp.addi (st14 k y).2 k.2) 3#32 = (st15 k y).2 := rfl
theorem st16_1 : IntOp.addi (st15 k y).1 (st15 k y).2 = (st16 k y).1 := rfl
theorem st16_2' : IntOp.xori (IntOp.ori (IntOp.shli .vector (st15 k y).2 17#32) (IntOp.shrui .vector (st15 k y).2 15#32)) (st16 k y).1 = (st16 k y).2 := rfl
theorem st16_2 : turned 17#32 15#32 (st15 k y).2 (st16 k y).1 = (st16 k y).2 := rfl
theorem st17_1 : IntOp.addi (st16 k y).1 (st16 k y).2 = (st17 k y).1 := rfl
theorem st17_2' : IntOp.xori (IntOp.ori (IntOp.shli .vector (st16 k y).2 29#32) (IntOp.shrui .vector (st16 k y).2 3#32)) (st17 k y).1 = (st17 k y).2 := rfl
theorem st17_2 : turned 29#32 3#32 (st16 k y).2 (st17 k y).1 = (st17 k y).2 := rfl
theorem st18_1 : IntOp.addi (st17 k y).1 (st17 k y).2 = (st18 k y).1 := rfl
theorem st18_2' : IntOp.xori (IntOp.ori (IntOp.shli .vector (st17 k y).2 16#32) (IntOp.shrui .vector (st17 k y).2 16#32)) (st18 k y).1 = (st18 k y).2 := rfl
theorem st18_2 : turned 16#32 16#32 (st17 k y).2 (st18 k y).1 = (st18 k y).2 := rfl
theorem st19_1 : IntOp.addi (st18 k y).1 (st18 k y).2 = (st19 k y).1 := rfl
theorem st19_2' : IntOp.xori (IntOp.ori (IntOp.shli .vector (st18 k y).2 24#32) (IntOp.shrui .vector (st18 k y).2 8#32)) (st19 k y).1 = (st19 k y).2 := rfl
theorem st19_2 : turned 24#32 8#32 (st18 k y).2 (st19 k y).1 = (st19 k y).2 := rfl
theorem st20_1 : IntOp.addi (st19 k y).1 k.2 = (st20 k y).1 := rfl
theorem st20_2 : IntOp.addi (IntOp.addi (st19 k y).2 (key3 k.1 k.2)) 4#32 = (st20 k y).2 := rfl
theorem st21_1 : IntOp.addi (st20 k y).1 (st20 k y).2 = (st21 k y).1 := rfl
theorem st21_2' : IntOp.xori (IntOp.ori (IntOp.shli .vector (st20 k y).2 13#32) (IntOp.shrui .vector (st20 k y).2 19#32)) (st21 k y).1 = (st21 k y).2 := rfl
theorem st21_2 : turned 13#32 19#32 (st20 k y).2 (st21 k y).1 = (st21 k y).2 := rfl
theorem st22_1 : IntOp.addi (st21 k y).1 (st21 k y).2 = (st22 k y).1 := rfl
theorem st22_2' : IntOp.xori (IntOp.ori (IntOp.shli .vector (st21 k y).2 15#32) (IntOp.shrui .vector (st21 k y).2 17#32)) (st22 k y).1 = (st22 k y).2 := rfl
theorem st22_2 : turned 15#32 17#32 (st21 k y).2 (st22 k y).1 = (st22 k y).2 := rfl
theorem st23_1 : IntOp.addi (st22 k y).1 (st22 k y).2 = (st23 k y).1 := rfl
theorem st23_2' : IntOp.xori (IntOp.ori (IntOp.shli .vector (st22 k y).2 26#32) (IntOp.shrui .vector (st22 k y).2 6#32)) (st23 k y).1 = (st23 k y).2 := rfl
theorem st23_2 : turned 26#32 6#32 (st22 k y).2 (st23 k y).1 = (st23 k y).2 := rfl
theorem st24_1 : IntOp.addi (st23 k y).1 (st23 k y).2 = (st24 k y).1 := rfl
theorem st24_2' : IntOp.xori (IntOp.ori (IntOp.shli .vector (st23 k y).2 6#32) (IntOp.shrui .vector (st23 k y).2 26#32)) (st24 k y).1 = (st24 k y).2 := rfl
theorem st24_2 : turned 6#32 26#32 (st23 k y).2 (st24 k y).1 = (st24 k y).2 := rfl
theorem st25_1 : IntOp.addi (st24 k y).1 (key3 k.1 k.2) = (st25 k y).1 := rfl
theorem st25_2 : IntOp.addi (IntOp.addi (st24 k y).2 k.1) 5#32 = (st25 k y).2 := rfl

theorem key3_def (a b : Word) : IntOp.xori (IntOp.xori a b) 466688986#32 = key3 a b := rfl

/-- The random word of the key `k` at the position `y`. -/
def wordAt : Word := IntOp.xori (st25 k y).1 (st25 k y).2
theorem wordAt_def : IntOp.xori (st25 k y).1 (st25 k y).2 = wordAt k y := rfl

/-- The key of a row's prior tokens, whose sum is `p`. -/
def priorKey (p : Word) : Word × Word := st25 (0#32, 42#32) p
theorem priorKey_def (p : Word) : st25 (0#32, 42#32) p = priorKey p := rfl

/-- Its key for the round `d`. -/
def roundKey (p d : Word) : Word × Word := st25 (priorKey p) d
theorem roundKey_def (p d : Word) : st25 (priorKey p) d = roundKey p d := rfl

/-- The word that decides the bit of the token `j` in the round `d`. -/
def bitWord (p d j : Word) : Word := wordAt (roundKey p d) j
theorem bitWord_def (p d j : Word) : IntOp.xori (st25 (roundKey p d) j).1 (st25 (roundKey p d) j).2 = bitWord p d j := rfl

/-- The key of the final draw for the row `r`. -/
def drawKey (r : Word) : Word × Word := st25 (0#32, 43#32) r
theorem drawKey_def (r : Word) : st25 (0#32, 43#32) r = drawKey r := rfl

/-- The word of the final draw for the row `r` at the position `j`. -/
def drawWord (r j : Word) : Word := wordAt (drawKey r) j
theorem drawWord_def (r j : Word) : IntOp.xori (st25 (drawKey r) j).1 (st25 (drawKey r) j).2 = drawWord r j := rfl

end Cert.Sampler
-- ==== Proof.Place.lean ====
/- How the kernels number a row's elements, and a word spread over a row. -/
module

public import proofs.«01_k».proof.Proof.Gen.KernelIdeal.Skeleton
public import proofs.«01_k».proof.Proof.Cipher
public import Idealize.ShloMosaic.Lib.Pipeline.Value

@[expose] public section

set_option maxRecDepth 65536

noncomputable section

namespace Cert.Sampler

open Idealize.ShloMosaic Idealize.ShloMosaic.TcCoe
open Cert.KernelIdeal Cert.KernelIdeal.Gen

/-- A row's position of an element laid out as a hundred lines of a thousand. -/
def place (z : S100x1000.Idx) : Word :=
  IntOp.addi (IntOp.muli (BitVec.ofNat 32 (z 0).val) 1000#32) (BitVec.ofNat 32 (z 1).val)

theorem iota0 (z : S100x1000.Idx) : iota .tc S100x1000 32 [0] iota_S100x1000_d0_w32 z = BitVec.ofNat 32 (z 0).val :=
  iota_single_apply .tc S100x1000 32 0 _ z
theorem iota1 (z : S100x1000.Idx) : iota .tc S100x1000 32 [1] iota_S100x1000_d1_w32 z = BitVec.ofNat 32 (z 1).val :=
  iota_single_apply .tc S100x1000 32 1 _ z

/-- One word spread over a row is that word everywhere. -/
theorem bcast_at (v : IVec S1x1 32) (n : Word) (h : ∀ z, v z = n) (z : S100x1000.Idx) :
    broadcastTo S100x1000 v broadcasts_S1x1_S100x1000 z = n := h _

theorem place0 (z : S100x1000.Idx) : k0_pay47 (iota .tc S100x1000 32 [0] iota_S100x1000_d0_w32) z = place z := by
  show IntOp.addi (IntOp.muli (iota .tc S100x1000 32 [0] iota_S100x1000_d0_w32 z) 1000#32) (iota .tc S100x1000 32 [1] iota_S100x1000_d1_w32 z) = _
  rw [iota0, iota1]; rfl
theorem place1 (z : S100x1000.Idx) : k1_pay52 z = place z := by
  show IntOp.addi (IntOp.muli (iota .tc S100x1000 32 [0] iota_S100x1000_d0_w32 z) 1000#32) (iota .tc S100x1000 32 [1] iota_S100x1000_d1_w32 z) = _
  rw [iota0, iota1]; rfl

end Cert.Sampler

end
-- ==== Proof.KBitsA.lean ====
/- The words of the first kernel, element by element: each vector of the printed body is a stage of the cipher. -/
module

public import proofs.«01_k».proof.Proof.Gen.KernelIdeal.Skeleton
public import proofs.«01_k».proof.Proof.Place
public import Idealize.ShloMosaic.PureOps.Ideal

@[expose] public section

set_option maxRecDepth 65536

noncomputable section

namespace Cert.Sampler

open Idealize.ShloMosaic Idealize.ShloMosaic.TcCoe
open Cert.KernelIdeal Cert.KernelIdeal.Gen

/-- The line of every element. -/
abbrev lines : IVec S100x1000 32 := iota .tc S100x1000 32 [0] iota_S100x1000_d0_w32
theorem at0 (p : Word) (z : S1x1.Idx) : (k0_pay2 (F := Ideal) p) z = (st0 (0#32, 42#32) p).2 := by
  show (IntOp.addi p 42#32) = _
  rw [st0_2 (0#32, 42#32) p]
theorem at1 (p : Word) (z : S1x1.Idx) : (k0_pay3 (F := Ideal) p) z = (st1 (0#32, 42#32) p).1 := by
  show (IntOp.addi (IntOp.addi 0#32 0#32) ((k0_pay2 (F := Ideal) p) z)) = _
  rw [at0, st0_1 (0#32, 42#32) p, st1_1]
theorem at2 (p : Word) (z : S1x1.Idx) : (k0_pay4 (F := Ideal) p) z = (st1 (0#32, 42#32) p).2 := by
  show (turned 13#32 19#32 ((k0_pay2 (F := Ideal) p) z) ((k0_pay3 (F := Ideal) p) z)) = _
  rw [at0, at1, st1_2]
theorem at3 (p : Word) (z : S1x1.Idx) : (k0_pay5 (F := Ideal) p) z = (st2 (0#32, 42#32) p).1 := by
  show (IntOp.addi ((k0_pay3 (F := Ideal) p) z) ((k0_pay4 (F := Ideal) p) z)) = _
  rw [at1, at2, st2_1]
theorem at4 (p : Word) (z : S1x1.Idx) : (k0_pay6 (F := Ideal) p) z = (st2 (0#32, 42#32) p).2 := by
  show (turned 15#32 17#32 ((k0_pay4 (F := Ideal) p) z) ((k0_pay5 (F := Ideal) p) z)) = _
  rw [at2, at3, st2_2]
theorem at5 (p : Word) (z : S1x1.Idx) : (k0_pay7 (F := Ideal) p) z = (st3 (0#32, 42#32) p).1 := by
  show (IntOp.addi ((k0_pay5 (F := Ideal) p) z) ((k0_pay6 (F := Ideal) p) z)) = _
  rw [at3, at4, st3_1]
theorem at6 (p : Word) (z : S1x1.Idx) : (k0_pay8 (F := Ideal) p) z = (st3 (0#32, 42#32) p).2 := by
  show (turned 26#32 6#32 ((k0_pay6 (F := Ideal) p) z) ((k0_pay7 (F := Ideal) p) z)) = _
  rw [at4, at5, st3_2]
theorem at7 (p : Word) (z : S1x1.Idx) : (k0_pay9 (F := Ideal) p) z = (st4 (0#32, 42#32) p).1 := by
  show (IntOp.addi ((k0_pay7 (F := Ideal) p) z) ((k0_pay8 (F := Ideal) p) z)) = _
  rw [at5, at6, st4_1]
theorem at8 (p : Word) (z : S1x1.Idx) : (k0_pay10 (F := Ideal) p) z = (st5 (0#32, 42#32) p).1 := by
  show (IntOp.addi ((k0_pay9 (F := Ideal) p) z) 42#32) = _
  rw [at7, st5_1]
def q37 (p : Word) : IVec S1x1 32 := (k0_pay10 (F := Ideal) p)
theorem q37_at (p : Word) (z : S1x1.Idx) : (q37 p) z = (st5 (0#32, 42#32) p).1 := at8 p z
theorem at9 (p : Word) (z : S1x1.Idx) : (k0_pay11 (F := Ideal) p) z = (IntOp.addi (st4 (0#32, 42#32) p).2 (key3 0#32 42#32)) := by
  show (IntOp.addi (turned 6#32 26#32 ((k0_pay8 (F := Ideal) p) z) ((k0_pay9 (F := Ideal) p) z)) (IntOp.xori (IntOp.xori 0#32 42#32) 466688986#32)) = _
  rw [at6, at7, st4_2, key3_def]
def q39 (p : Word) : IVec S1x1 32 := (k0_pay11 (F := Ideal) p)
theorem q39_at (p : Word) (z : S1x1.Idx) : (q39 p) z = (IntOp.addi (st4 (0#32, 42#32) p).2 (key3 0#32 42#32)) := at9 p z
theorem at10 (p : Word) (z : S1x1.Idx) : (k0_pay12 (q39 p) 1#32) z = (st5 (0#32, 42#32) p).2 := by
  show (IntOp.addi ((q39 p) z) 1#32) = _
  rw [q39_at, st5_2]
theorem at11 (p : Word) (z : S1x1.Idx) : (k0_pay13 (q37 p) (q39 p) 1#32) z = (st6 (0#32, 42#32) p).1 := by
  show (IntOp.addi ((q37 p) z) ((k0_pay12 (q39 p) 1#32) z)) = _
  rw [q37_at, at10, st6_1]
theorem at12 (p : Word) (z : S1x1.Idx) : (k0_pay14 (q37 p) (q39 p) 1#32) z = (st6 (0#32, 42#32) p).2 := by
  show (turned 17#32 15#32 ((k0_pay12 (q39 p) 1#32) z) ((k0_pay13 (q37 p) (q39 p) 1#32) z)) = _
  rw [at10, at11, st6_2]
theorem at13 (p : Word) (z : S1x1.Idx) : (k0_pay15 (q37 p) (q39 p) 1#32) z = (st7 (0#32, 42#32) p).1 := by
  show (IntOp.addi ((k0_pay13 (q37 p) (q39 p) 1#32) z) ((k0_pay14 (q37 p) (q39 p) 1#32) z)) = _
  rw [at11, at12, st7_1]
theorem at14 (p : Word) (z : S1x1.Idx) : (k0_pay16 (q37 p) (q39 p) 1#32) z = (st7 (0#32, 42#32) p).2 := by
  show (turned 29#32 3#32 ((k0_pay14 (q37 p) (q39 p) 1#32) z) ((k0_pay15 (q37 p) (q39 p) 1#32) z)) = _
  rw [at12, at13, st7_2]
theorem at15 (p : Word) (z : S1x1.Idx) : (k0_pay17 (q37 p) (q39 p) 1#32) z = (st8 (0#32, 42#32) p).1 := by
  show (IntOp.addi ((k0_pay15 (q37 p) (q39 p) 1#32) z) ((k0_pay16 (q37 p) (q39 p) 1#32) z)) = _
  rw [at13, at14, st8_1]
theorem at16 (p : Word) (z : S1x1.Idx) : (k0_pay18 (q37 p) (q39 p) 1#32) z = (st8 (0#32, 42#32) p).2 := by
  show (turned 16#32 16#32 ((k0_pay16 (q37 p) (q39 p) 1#32) z) ((k0_pay17 (q37 p) (q39 p) 1#32) z)) = _
  rw [at14, at15, st8_2]
theorem at17 (p : Word) (z : S1x1.Idx) : (k0_pay19 (q37 p) (q39 p) 1#32) z = (st9 (0#32, 42#32) p).1 := by
  show (IntOp.addi ((k0_pay17 (q37 p) (q39 p) 1#32) z) ((k0_pay18 (q37 p) (q39 p) 1#32) z)) = _
  rw [at15, at16, st9_1]
theorem at18 (p : Word) (z : S1x1.Idx) : (k0_pay20 (q37 p) (q39 p) 1#32) z = (st10 (0#32, 42#32) p).2 := by
  show (IntOp.addi (IntOp.addi (turned 24#32 8#32 ((k0_pay18 (q37 p) (q39 p) 1#32) z) ((k0_pay19 (q37 p) (q39 p) 1#32) z)) 0#32) 2#32) = _
  rw [at16, at17, st9_2, st10_2]
theorem at19 (p : Word) (z : S1x1.Idx) : (k0_pay21 (IntOp.xori (IntOp.xori 0#32 42#32) 466688986#32) (q37 p) (q39 p) 1#32) z = (st11 (0#32, 42#32) p).1 := by
  show (IntOp.addi (IntOp.addi ((k0_pay19 (q37 p) (q39 p) 1#32) z) (IntOp.xori (IntOp.xori 0#32 42#32) 466688986#32)) ((k0_pay20 (q37 p) (q39 p) 1#32) z)) = _
  rw [at17, at18, key3_def, st10_1, st11_1]
theorem at20 (p : Word) (z : S1x1.Idx) : (k0_pay22 (IntOp.xori (IntOp.xori 0#32 42#32) 466688986#32) (q37 p) (q39 p) 1#32) z = (st11 (0#32, 42#32) p).2 := by
  show (turned 13#32 19#32 ((k0_pay20 (q37 p) (q39 p) 1#32) z) ((k0_pay21 (IntOp.xori (IntOp.xori 0#32 42#32) 466688986#32) (q37 p) (q39 p) 1#32) z)) = _
  rw [at18, at19, st11_2]
def q82 (p : Word) : IVec S1x1 32 := (k0_pay22 (IntOp.xori (IntOp.xori 0#32 42#32) 466688986#32) (q37 p) (q39 p) 1#32)
theorem q82_at (p : Word) (z : S1x1.Idx) : (q82 p) z = (st11 (0#32, 42#32) p).2 := at20 p z
theorem at21 (p : Word) (z : S1x1.Idx) : (k0_pay23 (IntOp.xori (IntOp.xori 0#32 42#32) 466688986#32) (q37 p) (q39 p) 1#32) z = (st12 (0#32, 42#32) p).1 := by
  show (IntOp.addi ((k0_pay21 (IntOp.xori (IntOp.xori 0#32 42#32) 466688986#32) (q37 p) (q39 p) 1#32) z) ((k0_pay22 (IntOp.xori (IntOp.xori 0#32 42#32) 466688986#32) (q37 p) (q39 p) 1#32) z)) = _
  rw [at19, at20, st12_1]
def q83 (p : Word) : IVec S1x1 32 := (k0_pay23 (IntOp.xori (IntOp.xori 0#32 42#32) 466688986#32) (q37 p) (q39 p) 1#32)
theorem q83_at (p : Word) (z : S1x1.Idx) : (q83 p) z = (st12 (0#32, 42#32) p).1 := at21 p z
theorem at22 (p : Word) (z : S1x1.Idx) : (k0_pay24 (IntOp.xori (IntOp.xori 0#32 42#32) 466688986#32) (q37 p) (q39 p) 1#32) z = (IntOp.shli .vector (st11 (0#32, 42#32) p).2 15#32) := by
  show (IntOp.shli .vector ((k0_pay22 (IntOp.xori (IntOp.xori 0#32 42#32) 466688986#32) (q37 p) (q39 p) 1#32) z) 15#32) = _
  rw [at20]
def q85 (p : Word) : IVec S1x1 32 := (k0_pay24 (IntOp.xori (IntOp.xori 0#32 42#32) 466688986#32) (q37 p) (q39 p) 1#32)
theorem q85_at (p : Word) (z : S1x1.Idx) : (q85 p) z = (IntOp.shli .vector (st11 (0#32, 42#32) p).2 15#32) := at22 p z
theorem at23 (p : Word) (z : S1x1.Idx) : (k0_pay25 (q82 p) (q83 p) (q85 p) 17#32) z = (st12 (0#32, 42#32) p).2 := by
  show (IntOp.xori (IntOp.ori ((q85 p) z) (IntOp.shrui .vector ((q82 p) z) 17#32)) ((q83 p) z)) = _
  rw [q85_at, q82_at, q83_at, st12_2']
theorem at24 (p : Word) (z : S1x1.Idx) : (k0_pay26 (q82 p) (q83 p) (q85 p) 17#32) z = (st13 (0#32, 42#32) p).1 := by
  show (IntOp.addi ((q83 p) z) ((k0_pay25 (q82 p) (q83 p) (q85 p) 17#32) z)) = _
  rw [q83_at, at23, st13_1]
theorem at25 (p : Word) (z : S1x1.Idx) : (k0_pay27 (q82 p) (q83 p) (q85 p) 17#32) z = (st13 (0#32, 42#32) p).2 := by
  show (turned 26#32 6#32 ((k0_pay25 (q82 p) (q83 p) (q85 p) 17#32) z) ((k0_pay26 (q82 p) (q83 p) (q85 p) 17#32) z)) = _
  rw [at23, at24, st13_2]
theorem at26 (p : Word) (z : S1x1.Idx) : (k0_pay28 (q82 p) (q83 p) (q85 p) 17#32) z = (st14 (0#32, 42#32) p).1 := by
  show (IntOp.addi ((k0_pay26 (q82 p) (q83 p) (q85 p) 17#32) z) ((k0_pay27 (q82 p) (q83 p) (q85 p) 17#32) z)) = _
  rw [at24, at25, st14_1]
theorem at27 (p : Word) (z : S1x1.Idx) : (k0_pay29 (q82 p) (q83 p) (q85 p) 17#32) z = (st15 (0#32, 42#32) p).2 := by
  show (IntOp.addi (IntOp.addi (turned 6#32 26#32 ((k0_pay27 (q82 p) (q83 p) (q85 p) 17#32) z) ((k0_pay28 (q82 p) (q83 p) (q85 p) 17#32) z)) 42#32) 3#32) = _
  rw [at25, at26, st14_2, st15_2]
theorem at28 (p : Word) (z : S1x1.Idx) : (k0_pay30 (q82 p) (q83 p) (q85 p) 17#32) z = (st16 (0#32, 42#32) p).1 := by
  show (IntOp.addi (IntOp.addi ((k0_pay28 (q82 p) (q83 p) (q85 p) 17#32) z) 0#32) ((k0_pay29 (q82 p) (q83 p) (q85 p) 17#32) z)) = _
  rw [at26, at27, st15_1, st16_1]
theorem at29 (p : Word) (z : S1x1.Idx) : (k0_pay31 (q82 p) (q83 p) (q85 p) 17#32) z = (st16 (0#32, 42#32) p).2 := by
  show (turned 17#32 15#32 ((k0_pay29 (q82 p) (q83 p) (q85 p) 17#32) z) ((k0_pay30 (q82 p) (q83 p) (q85 p) 17#32) z)) = _
  rw [at27, at28, st16_2]
theorem at30 (p : Word) (z : S1x1.Idx) : (k0_pay32 (q82 p) (q83 p) (q85 p) 17#32) z = (st17 (0#32, 42#32) p).1 := by
  show (IntOp.addi ((k0_pay30 (q82 p) (q83 p) (q85 p) 17#32) z) ((k0_pay31 (q82 p) (q83 p) (q85 p) 17#32) z)) = _
  rw [at28, at29, st17_1]
theorem at31 (p : Word) (z : S1x1.Idx) : (k0_pay33 (q82 p) (q83 p) (q85 p) 17#32) z = (st17 (0#32, 42#32) p).2 := by
  show (turned 29#32 3#32 ((k0_pay31 (q82 p) (q83 p) (q85 p) 17#32) z) ((k0_pay32 (q82 p) (q83 p) (q85 p) 17#32) z)) = _
  rw [at29, at30, st17_2]
theorem at32 (p : Word) (z : S1x1.Idx) : (k0_pay34 (q82 p) (q83 p) (q85 p) 17#32) z = (st18 (0#32, 42#32) p).1 := by
  show (IntOp.addi ((k0_pay32 (q82 p) (q83 p) (q85 p) 17#32) z) ((k0_pay33 (q82 p) (q83 p) (q85 p) 17#32) z)) = _
  rw [at30, at31, st18_1]
theorem at33 (p : Word) (z : S1x1.Idx) : (k0_pay35 (q82 p) (q83 p) (q85 p) 17#32) z = (st18 (0#32, 42#32) p).2 := by
  show (turned 16#32 16#32 ((k0_pay33 (q82 p) (q83 p) (q85 p) 17#32) z) ((k0_pay34 (q82 p) (q83 p) (q85 p) 17#32) z)) = _
  rw [at31, at32, st18_2]
def q130 (p : Word) : IVec S1x1 32 := (k0_pay35 (q82 p) (q83 p) (q85 p) 17#32)
theorem q130_at (p : Word) (z : S1x1.Idx) : (q130 p) z = (st18 (0#32, 42#32) p).2 := at33 p z
theorem at34 (p : Word) (z : S1x1.Idx) : (k0_pay36 (q82 p) (q83 p) (q85 p) 17#32) z = (st19 (0#32, 42#32) p).1 := by
  show (IntOp.addi ((k0_pay34 (q82 p) (q83 p) (q85 p) 17#32) z) ((k0_pay35 (q82 p) (q83 p) (q85 p) 17#32) z)) = _
  rw [at32, at33, st19_1]
def q131 (p : Word) : IVec S1x1 32 := (k0_pay36 (q82 p) (q83 p) (q85 p) 17#32)
theorem q131_at (p : Word) (z : S1x1.Idx) : (q131 p) z = (st19 (0#32, 42#32) p).1 := at34 p z
theorem at35 (p : Word) (z : S1x1.Idx) : (k0_pay37 (IntOp.xori (IntOp.xori 0#32 42#32) 466688986#32) (q130 p) (q131 p) 24#32) z = (st20 (0#32, 42#32) p).2 := by
  show (IntOp.addi (IntOp.addi (turned 24#32 8#32 ((q130 p) z) ((q131 p) z)) (IntOp.xori (IntOp.xori 0#32 42#32) 466688986#32)) 4#32) = _
  rw [q130_at, q131_at, st19_2, key3_def, st20_2]
theorem at36 (p : Word) (z : S1x1.Idx) : (k0_pay38 (IntOp.xori (IntOp.xori 0#32 42#32) 466688986#32) (q130 p) (q131 p) 24#32) z = (st21 (0#32, 42#32) p).1 := by
  show (IntOp.addi (IntOp.addi ((q131 p) z) 42#32) ((k0_pay37 (IntOp.xori (IntOp.xori 0#32 42#32) 466688986#32) (q130 p) (q131 p) 24#32) z)) = _
  rw [q131_at, at35, st20_1, st21_1]
theorem at37 (p : Word) (z : S1x1.Idx) : (k0_pay39 (IntOp.xori (IntOp.xori 0#32 42#32) 466688986#32) (q130 p) (q131 p) 24#32) z = (st21 (0#32, 42#32) p).2 := by
  show (turned 13#32 19#32 ((k0_pay37 (IntOp.xori (IntOp.xori 0#32 42#32) 466688986#32) (q130 p) (q131 p) 24#32) z) ((k0_pay38 (IntOp.xori (IntOp.xori 0#32 42#32) 466688986#32) (q130 p) (q131 p) 24#32) z)) = _
  rw [at35, at36, st21_2]
theorem at38 (p : Word) (z : S1x1.Idx) : (k0_pay40 (IntOp.xori (IntOp.xori 0#32 42#32) 466688986#32) (q130 p) (q131 p) 24#32) z = (st22 (0#32, 42#32) p).1 := by
  show (IntOp.addi ((k0_pay38 (IntOp.xori (IntOp.xori 0#32 42#32) 466688986#32) (q130 p) (q131 p) 24#32) z) ((k0_pay39 (IntOp.xori (IntOp.xori 0#32 42#32) 466688986#32) (q130 p) (q131 p) 24#32) z)) = _
  rw [at36, at37, st22_1]
theorem at39 (p : Word) (z : S1x1.Idx) : (k0_pay41 (IntOp.xori (IntOp.xori 0#32 42#32) 466688986#32) (q130 p) (q131 p) 24#32) z = (st22 (0#32, 42#32) p).2 := by
  show (turned 15#32 17#32 ((k0_pay39 (IntOp.xori (IntOp.xori 0#32 42#32) 466688986#32) (q130 p) (q131 p) 24#32) z) ((k0_pay40 (IntOp.xori (IntOp.xori 0#32 42#32) 466688986#32) (q130 p) (q131 p) 24#32) z)) = _
  rw [at37, at38, st22_2]
theorem at40 (p : Word) (z : S1x1.Idx) : (k0_pay42 (IntOp.xori (IntOp.xori 0#32 42#32) 466688986#32) (q130 p) (q131 p) 24#32) z = (st23 (0#32, 42#32) p).1 := by
  show (IntOp.addi ((k0_pay40 (IntOp.xori (IntOp.xori 0#32 42#32) 466688986#32) (q130 p) (q131 p) 24#32) z) ((k0_pay41 (IntOp.xori (IntOp.xori 0#32 42#32) 466688986#32) (q130 p) (q131 p) 24#32) z)) = _
  rw [at38, at39, st23_1]
theorem at41 (p : Word) (z : S1x1.Idx) : (k0_pay43 (IntOp.xori (IntOp.xori 0#32 42#32) 466688986#32) (q130 p) (q131 p) 24#32) z = (st23 (0#32, 42#32) p).2 := by
  show (turned 26#32 6#32 ((k0_pay41 (IntOp.xori (IntOp.xori 0#32 42#32) 466688986#32) (q130 p) (q131 p) 24#32) z) ((k0_pay42 (IntOp.xori (IntOp.xori 0#32 42#32) 466688986#32) (q130 p) (q131 p) 24#32) z)) = _
  rw [at39, at40, st23_2]
theorem at42 (p : Word) (z : S1x1.Idx) : (k0_pay44 (IntOp.xori (IntOp.xori 0#32 42#32) 466688986#32) (q130 p) (q131 p) 24#32) z = (st24 (0#32, 42#32) p).1 := by
  show (IntOp.addi ((k0_pay42 (IntOp.xori (IntOp.xori 0#32 42#32) 466688986#32) (q130 p) (q131 p) 24#32) z) ((k0_pay43 (IntOp.xori (IntOp.xori 0#32 42#32) 466688986#32) (q130 p) (q131 p) 24#32) z)) = _
  rw [at40, at41, st24_1]
theorem at43 (p : Word) (z : S1x1.Idx) : (k0_pay45 (IntOp.xori (IntOp.xori 0#32 42#32) 466688986#32) (q130 p) (q131 p) 24#32) z = (priorKey p).1 := by
  show (IntOp.addi ((k0_pay44 (IntOp.xori (IntOp.xori 0#32 42#32) 466688986#32) (q130 p) (q131 p) 24#32) z) (IntOp.xori (IntOp.xori 0#32 42#32) 466688986#32)) = _
  rw [at42, key3_def, st25_1, priorKey_def]
def q173 (p : Word) : IVec S1x1 32 := (k0_pay45 (IntOp.xori (IntOp.xori 0#32 42#32) 466688986#32) (q130 p) (q131 p) 24#32)
theorem q173_at (p : Word) (z : S1x1.Idx) : (q173 p) z = (priorKey p).1 := at43 p z
theorem at44 (p : Word) (z : S1x1.Idx) : (k0_pay46 (IntOp.xori (IntOp.xori 0#32 42#32) 466688986#32) (q130 p) (q131 p) 24#32) z = (priorKey p).2 := by
  show (IntOp.addi (IntOp.addi (turned 6#32 26#32 ((k0_pay43 (IntOp.xori (IntOp.xori 0#32 42#32) 466688986#32) (q130 p) (q131 p) 24#32) z) ((k0_pay44 (IntOp.xori (IntOp.xori 0#32 42#32) 466688986#32) (q130 p) (q131 p) 24#32) z)) 0#32) 5#32) = _
  rw [at41, at42, st24_2, st25_2, priorKey_def]
def q177 (p : Word) : IVec S1x1 32 := (k0_pay46 (IntOp.xori (IntOp.xori 0#32 42#32) 466688986#32) (q130 p) (q131 p) 24#32)
theorem q177_at (p : Word) (z : S1x1.Idx) : (q177 p) z = (priorKey p).2 := at44 p z
def q182 (p : Word) : IVec S100x1000 32 := (k0_pay47 lines)
theorem q182_at (p : Word) (z : S100x1000.Idx) : (q182 p) z = (place z) := place0 z
theorem at45 (p : Word) (z : S100x1000.Idx) : k0_pay48 z = 0#32 := rfl
def q183 (p : Word) : IVec S100x1000 32 := k0_pay48
theorem q183_at (p : Word) (z : S100x1000.Idx) : (q183 p) z = 0#32 := at45 p z
theorem at46 (p : Word) (z : S1x1.Idx) : (k0_pay49 (q173 p) (q177 p)) z = (key3 (priorKey p).1 (priorKey p).2) := by
  show (IntOp.xori (IntOp.xori ((q173 p) z) ((q177 p) z)) 466688986#32) = _
  rw [q173_at, q177_at, key3_def]
def q186 (p : Word) : IVec S1x1 32 := (k0_pay49 (q173 p) (q177 p))
theorem q186_at (p : Word) (z : S1x1.Idx) : (q186 p) z = (key3 (priorKey p).1 (priorKey p).2) := at46 p z
theorem at47 (p : Word) (z : S1x1.Idx) : (k0_pay50 (q177 p)) z = (st0 (priorKey p) 0#32).2 := by
  show (IntOp.addi 0#32 ((q177 p) z)) = _
  rw [q177_at, st0_2 (priorKey p) 0#32]
theorem at48 (p : Word) (z : S1x1.Idx) : (k0_pay51 (q173 p) (q177 p)) z = (st1 (priorKey p) 0#32).1 := by
  show (IntOp.addi (IntOp.addi 0#32 ((q173 p) z)) ((k0_pay50 (q177 p)) z)) = _
  rw [q173_at, at47, st0_1 (priorKey p) 0#32, st1_1]
theorem at49 (p : Word) (z : S1x1.Idx) : (k0_pay52 (q173 p) (q177 p)) z = (st1 (priorKey p) 0#32).2 := by
  show (turned 13#32 19#32 ((k0_pay50 (q177 p)) z) ((k0_pay51 (q173 p) (q177 p)) z)) = _
  rw [at47, at48, st1_2]
theorem at50 (p : Word) (z : S1x1.Idx) : (k0_pay53 (q173 p) (q177 p)) z = (st2 (priorKey p) 0#32).1 := by
  show (IntOp.addi ((k0_pay51 (q173 p) (q177 p)) z) ((k0_pay52 (q173 p) (q177 p)) z)) = _
  rw [at48, at49, st2_1]
theorem at51 (p : Word) (z : S1x1.Idx) : (k0_pay54 (q173 p) (q177 p)) z = (st2 (priorKey p) 0#32).2 := by
  show (turned 15#32 17#32 ((k0_pay52 (q173 p) (q177 p)) z) ((k0_pay53 (q173 p) (q177 p)) z)) = _
  rw [at49, at50, st2_2]
theorem at52 (p : Word) (z : S1x1.Idx) : (k0_pay55 (q173 p) (q177 p)) z = (st3 (priorKey p) 0#32).1 := by
  show (IntOp.addi ((k0_pay53 (q173 p) (q177 p)) z) ((k0_pay54 (q173 p) (q177 p)) z)) = _
  rw [at50, at51, st3_1]
theorem at53 (p : Word) (z : S1x1.Idx) : (k0_pay56 (q173 p) (q177 p)) z = (st3 (priorKey p) 0#32).2 := by
  show (turned 26#32 6#32 ((k0_pay54 (q173 p) (q177 p)) z) ((k0_pay55 (q173 p) (q177 p)) z)) = _
  rw [at51, at52, st3_2]
theorem at54 (p : Word) (z : S1x1.Idx) : (k0_pay57 (q173 p) (q177 p)) z = (st4 (priorKey p) 0#32).1 := by
  show (IntOp.addi ((k0_pay55 (q173 p) (q177 p)) z) ((k0_pay56 (q173 p) (q177 p)) z)) = _
  rw [at52, at53, st4_1]
theorem at55 (p : Word) (z : S1x1.Idx) : (k0_pay58 (q173 p) (q177 p)) z = (st5 (priorKey p) 0#32).2 := by
  show (IntOp.addi (IntOp.addi (turned 6#32 26#32 ((k0_pay56 (q173 p) (q177 p)) z) ((k0_pay57 (q173 p) (q177 p)) z)) ((k0_pay49 (q173 p) (q177 p)) z)) 1#32) = _
  rw [at53, at54, at46, st4_2, st5_2]
def q222 (p : Word) : IVec S1x1 32 := (k0_pay58 (q173 p) (q177 p))
theorem q222_at (p : Word) (z : S1x1.Idx) : (q222 p) z = (st5 (priorKey p) 0#32).2 := at55 p z
theorem at56 (p : Word) (z : S1x1.Idx) : (k0_pay59 (q173 p) (q177 p)) z = (st6 (priorKey p) 0#32).1 := by
  show (IntOp.addi (IntOp.addi ((k0_pay57 (q173 p) (q177 p)) z) ((q177 p) z)) ((k0_pay58 (q173 p) (q177 p)) z)) = _
  rw [at54, q177_at, at55, st5_1, st6_1]
def q223 (p : Word) : IVec S1x1 32 := (k0_pay59 (q173 p) (q177 p))
theorem q223_at (p : Word) (z : S1x1.Idx) : (q223 p) z = (st6 (priorKey p) 0#32).1 := at56 p z
theorem at57 (p : Word) (z : S1x1.Idx) : (k0_pay60 (q222 p) (q223 p) 17#32) z = (st6 (priorKey p) 0#32).2 := by
  show (turned 17#32 15#32 ((q222 p) z) ((q223 p) z)) = _
  rw [q222_at, q223_at, st6_2]
theorem at58 (p : Word) (z : S1x1.Idx) : (k0_pay61 (q222 p) (q223 p) 17#32) z = (st7 (priorKey p) 0#32).1 := by
  show (IntOp.addi ((q223 p) z) ((k0_pay60 (q222 p) (q223 p) 17#32) z)) = _
  rw [q223_at, at57, st7_1]
theorem at59 (p : Word) (z : S1x1.Idx) : (k0_pay62 (q222 p) (q223 p) 17#32) z = (st7 (priorKey p) 0#32).2 := by
  show (turned 29#32 3#32 ((k0_pay60 (q222 p) (q223 p) 17#32) z) ((k0_pay61 (q222 p) (q223 p) 17#32) z)) = _
  rw [at57, at58, st7_2]
theorem at60 (p : Word) (z : S1x1.Idx) : (k0_pay63 (q222 p) (q223 p) 17#32) z = (st8 (priorKey p) 0#32).1 := by
  show (IntOp.addi ((k0_pay61 (q222 p) (q223 p) 17#32) z) ((k0_pay62 (q222 p) (q223 p) 17#32) z)) = _
  rw [at58, at59, st8_1]
theorem at61 (p : Word) (z : S1x1.Idx) : (k0_pay64 (q222 p) (q223 p) 17#32) z = (st8 (priorKey p) 0#32).2 := by
  show (turned 16#32 16#32 ((k0_pay62 (q222 p) (q223 p) 17#32) z) ((k0_pay63 (q222 p) (q223 p) 17#32) z)) = _
  rw [at59, at60, st8_2]
theorem at62 (p : Word) (z : S1x1.Idx) : (k0_pay65 (q222 p) (q223 p) 17#32) z = (st9 (priorKey p) 0#32).1 := by
  show (IntOp.addi ((k0_pay63 (q222 p) (q223 p) 17#32) z) ((k0_pay64 (q222 p) (q223 p) 17#32) z)) = _
  rw [at60, at61, st9_1]
theorem at63 (p : Word) (z : S1x1.Idx) : (k0_pay66 (q173 p) (q222 p) (q223 p) 17#32) z = (st10 (priorKey p) 0#32).2 := by
  show (IntOp.addi (IntOp.addi (turned 24#32 8#32 ((k0_pay64 (q222 p) (q223 p) 17#32) z) ((k0_pay65 (q222 p) (q223 p) 17#32) z)) ((q173 p) z)) 2#32) = _
  rw [at61, at62, q173_at, st9_2, st10_2]
theorem at64 (p : Word) (z : S1x1.Idx) : (k0_pay67 (q173 p) (q186 p) (q222 p) (q223 p) 17#32) z = (st11 (priorKey p) 0#32).1 := by
  show (IntOp.addi (IntOp.addi ((k0_pay65 (q222 p) (q223 p) 17#32) z) ((q186 p) z)) ((k0_pay66 (q173 p) (q222 p) (q223 p) 17#32) z)) = _
  rw [at62, q186_at, at63, st10_1, st11_1]
theorem at65 (p : Word) (z : S1x1.Idx) : (k0_pay68 (q173 p) (q186 p) (q222 p) (q223 p) 17#32) z = (st11 (priorKey p) 0#32).2 := by
  show (turned 13#32 19#32 ((k0_pay66 (q173 p) (q222 p) (q223 p) 17#32) z) ((k0_pay67 (q173 p) (q186 p) (q222 p) (q223 p) 17#32) z)) = _
  rw [at63, at64, st11_2]
theorem at66 (p : Word) (z : S1x1.Idx) : (k0_pay69 (q173 p) (q186 p) (q222 p) (q223 p) 17#32) z = (st12 (priorKey p) 0#32).1 := by
  show (IntOp.addi ((k0_pay67 (q173 p) (q186 p) (q222 p) (q223 p) 17#32) z) ((k0_pay68 (q173 p) (q186 p) (q222 p) (q223 p) 17#32) z)) = _
  rw [at64, at65, st12_1]
theorem at67 (p : Word) (z : S1x1.Idx) : (k0_pay70 (q173 p) (q186 p) (q222 p) (q223 p) 17#32) z = (st12 (priorKey p) 0#32).2 := by
  show (turned 15#32 17#32 ((k0_pay68 (q173 p) (q186 p) (q222 p) (q223 p) 17#32) z) ((k0_pay69 (q173 p) (q186 p) (q222 p) (q223 p) 17#32) z)) = _
  rw [at65, at66, st12_2]
def q268 (p : Word) : IVec S1x1 32 := (k0_pay70 (q173 p) (q186 p) (q222 p) (q223 p) 17#32)
theorem q268_at (p : Word) (z : S1x1.Idx) : (q268 p) z = (st12 (priorKey p) 0#32).2 := at67 p z
theorem at68 (p : Word) (z : S1x1.Idx) : (k0_pay71 (q173 p) (q186 p) (q222 p) (q223 p) 17#32) z = (st13 (priorKey p) 0#32).1 := by
  show (IntOp.addi ((k0_pay69 (q173 p) (q186 p) (q222 p) (q223 p) 17#32) z) ((k0_pay70 (q173 p) (q186 p) (q222 p) (q223 p) 17#32) z)) = _
  rw [at66, at67, st13_1]
def q269 (p : Word) : IVec S1x1 32 := (k0_pay71 (q173 p) (q186 p) (q222 p) (q223 p) 17#32)
theorem q269_at (p : Word) (z : S1x1.Idx) : (q269 p) z = (st13 (priorKey p) 0#32).1 := at68 p z
theorem at69 (p : Word) (z : S1x1.Idx) : k0_pay72 z = 26#32 := rfl
def q270 (p : Word) : IVec S1x1 32 := k0_pay72
theorem q270_at (p : Word) (z : S1x1.Idx) : (q270 p) z = 26#32 := at69 p z
theorem at70 (p : Word) (z : S1x1.Idx) : (k0_pay73 (q268 p) (q269 p) (q270 p)) z = (st13 (priorKey p) 0#32).2 := by
  show (turned ((q270 p) z) 6#32 ((q268 p) z) ((q269 p) z)) = _
  rw [q268_at, q270_at, q269_at, st13_2]
theorem at71 (p : Word) (z : S1x1.Idx) : (k0_pay74 (q268 p) (q269 p) (q270 p)) z = (st14 (priorKey p) 0#32).1 := by
  show (IntOp.addi ((q269 p) z) ((k0_pay73 (q268 p) (q269 p) (q270 p)) z)) = _
  rw [q269_at, at70, st14_1]
theorem at72 (p : Word) (z : S1x1.Idx) : (k0_pay75 (q177 p) (q268 p) (q269 p) (q270 p)) z = (st15 (priorKey p) 0#32).2 := by
  show (IntOp.addi (IntOp.addi (turned 6#32 26#32 ((k0_pay73 (q268 p) (q269 p) (q270 p)) z) ((k0_pay74 (q268 p) (q269 p) (q270 p)) z)) ((q177 p) z)) 3#32) = _
  rw [at70, at71, q177_at, st14_2, st15_2]
theorem at73 (p : Word) (z : S1x1.Idx) : (k0_pay76 (q173 p) (q177 p) (q268 p) (q269 p) (q270 p)) z = (st16 (priorKey p) 0#32).1 := by
  show (IntOp.addi (IntOp.addi ((k0_pay74 (q268 p) (q269 p) (q270 p)) z) ((q173 p) z)) ((k0_pay75 (q177 p) (q268 p) (q269 p) (q270 p)) z)) = _
  rw [at71, q173_at, at72, st15_1, st16_1]
theorem at74 (p : Word) (z : S1x1.Idx) : (k0_pay77 (q173 p) (q177 p) (q268 p) (q269 p) (q270 p)) z = (st16 (priorKey p) 0#32).2 := by
  show (turned 17#32 15#32 ((k0_pay75 (q177 p) (q268 p) (q269 p) (q270 p)) z) ((k0_pay76 (q173 p) (q177 p) (q268 p) (q269 p) (q270 p)) z)) = _
  rw [at72, at73, st16_2]
theorem at75 (p : Word) (z : S1x1.Idx) : (k0_pay78 (q173 p) (q177 p) (q268 p) (q269 p) (q270 p)) z = (st17 (priorKey p) 0#32).1 := by
  show (IntOp.addi ((k0_pay76 (q173 p) (q177 p) (q268 p) (q269 p) (q270 p)) z) ((k0_pay77 (q173 p) (q177 p) (q268 p) (q269 p) (q270 p)) z)) = _
  rw [at73, at74, st17_1]
theorem at76 (p : Word) (z : S1x1.Idx) : (k0_pay79 (q173 p) (q177 p) (q268 p) (q269 p) (q270 p)) z = (st17 (priorKey p) 0#32).2 := by
  show (turned 29#32 3#32 ((k0_pay77 (q173 p) (q177 p) (q268 p) (q269 p) (q270 p)) z) ((k0_pay78 (q173 p) (q177 p) (q268 p) (q269 p) (q270 p)) z)) = _
  rw [at74, at75, st17_2]
theorem at77 (p : Word) (z : S1x1.Idx) : (k0_pay80 (q173 p) (q177 p) (q268 p) (q269 p) (q270 p)) z = (st18 (priorKey p) 0#32).1 := by
  show (IntOp.addi ((k0_pay78 (q173 p) (q177 p) (q268 p) (q269 p) (q270 p)) z) ((k0_pay79 (q173 p) (q177 p) (q268 p) (q269 p) (q270 p)) z)) = _
  rw [at75, at76, st18_1]
theorem at78 (p : Word) (z : S1x1.Idx) : (k0_pay81 (q173 p) (q177 p) (q268 p) (q269 p) (q270 p)) z = (st18 (priorKey p) 0#32).2 := by
  show (turned 16#32 16#32 ((k0_pay79 (q173 p) (q177 p) (q268 p) (q269 p) (q270 p)) z) ((k0_pay80 (q173 p) (q177 p) (q268 p) (q269 p) (q270 p)) z)) = _
  rw [at76, at77, st18_2]
theorem at79 (p : Word) (z : S1x1.Idx) : (k0_pay82 (q173 p) (q177 p) (q268 p) (q269 p) (q270 p)) z = (st19 (priorKey p) 0#32).1 := by
  show (IntOp.addi ((k0_pay80 (q173 p) (q177 p) (q268 p) (q269 p) (q270 p)) z) ((k0_pay81 (q173 p) (q177 p) (q268 p) (q269 p) (q270 p)) z)) = _
  rw [at77, at78, st19_1]
theorem at80 (p : Word) (z : S1x1.Idx) : (k0_pay83 (q173 p) (q177 p) (q268 p) (q269 p) (q270 p)) z = (st20 (priorKey p) 0#32).1 := by
  show (IntOp.addi ((k0_pay82 (q173 p) (q177 p) (q268 p) (q269 p) (q270 p)) z) ((q177 p) z)) = _
  rw [at79, q177_at, st20_1]
def q315 (p : Word) : IVec S1x1 32 := (k0_pay83 (q173 p) (q177 p) (q268 p) (q269 p) (q270 p))
theorem q315_at (p : Word) (z : S1x1.Idx) : (q315 p) z = (st20 (priorKey p) 0#32).1 := at80 p z
theorem at81 (p : Word) (z : S1x1.Idx) : (k0_pay84 (q173 p) (q177 p) (q186 p) (q268 p) (q269 p) (q270 p)) z = (IntOp.addi (st19 (priorKey p) 0#32).2 (key3 (priorKey p).1 (priorKey p).2)) := by
  show (IntOp.addi (turned 24#32 8#32 ((k0_pay81 (q173 p) (q177 p) (q268 p) (q269 p) (q270 p)) z) ((k0_pay82 (q173 p) (q177 p) (q268 p) (q269 p) (q270 p)) z)) ((q186 p) z)) = _
  rw [at78, at79, q186_at, st19_2]
def q316 (p : Word) : IVec S1x1 32 := (k0_pay84 (q173 p) (q177 p) (q186 p) (q268 p) (q269 p) (q270 p))
theorem q316_at (p : Word) (z : S1x1.Idx) : (q316 p) z = (IntOp.addi (st19 (priorKey p) 0#32).2 (key3 (priorKey p).1 (priorKey p).2)) := at81 p z
theorem at82 (p : Word) (z : S1x1.Idx) : k0_pay85 z = 4#32 := rfl
def q317 (p : Word) : IVec S1x1 32 := k0_pay85
theorem q317_at (p : Word) (z : S1x1.Idx) : (q317 p) z = 4#32 := at82 p z
theorem at83 (p : Word) (z : S1x1.Idx) : (k0_pay86 (q316 p) (q317 p)) z = (st20 (priorKey p) 0#32).2 := by
  show (IntOp.addi ((q316 p) z) ((q317 p) z)) = _
  rw [q316_at, q317_at, st20_2]
theorem at84 (p : Word) (z : S1x1.Idx) : (k0_pay87 (q315 p) (q316 p) (q317 p)) z = (st21 (priorKey p) 0#32).1 := by
  show (IntOp.addi ((q315 p) z) ((k0_pay86 (q316 p) (q317 p)) z)) = _
  rw [q315_at, at83, st21_1]
theorem at85 (p : Word) (z : S1x1.Idx) : (k0_pay88 (q315 p) (q316 p) (q317 p)) z = (st21 (priorKey p) 0#32).2 := by
  show (turned 13#32 19#32 ((k0_pay86 (q316 p) (q317 p)) z) ((k0_pay87 (q315 p) (q316 p) (q317 p)) z)) = _
  rw [at83, at84, st21_2]
theorem at86 (p : Word) (z : S1x1.Idx) : (k0_pay89 (q315 p) (q316 p) (q317 p)) z = (st22 (priorKey p) 0#32).1 := by
  show (IntOp.addi ((k0_pay87 (q315 p) (q316 p) (q317 p)) z) ((k0_pay88 (q315 p) (q316 p) (q317 p)) z)) = _
  rw [at84, at85, st22_1]
theorem at87 (p : Word) (z : S1x1.Idx) : (k0_pay90 (q315 p) (q316 p) (q317 p)) z = (st22 (priorKey p) 0#32).2 := by
  show (turned 15#32 17#32 ((k0_pay88 (q315 p) (q316 p) (q317 p)) z) ((k0_pay89 (q315 p) (q316 p) (q317 p)) z)) = _
  rw [at85, at86, st22_2]
theorem at88 (p : Word) (z : S1x1.Idx) : (k0_pay91 (q315 p) (q316 p) (q317 p)) z = (st23 (priorKey p) 0#32).1 := by
  show (IntOp.addi ((k0_pay89 (q315 p) (q316 p) (q317 p)) z) ((k0_pay90 (q315 p) (q316 p) (q317 p)) z)) = _
  rw [at86, at87, st23_1]
theorem at89 (p : Word) (z : S1x1.Idx) : (k0_pay92 (q315 p) (q316 p) (q317 p)) z = (st23 (priorKey p) 0#32).2 := by
  show (turned 26#32 6#32 ((k0_pay90 (q315 p) (q316 p) (q317 p)) z) ((k0_pay91 (q315 p) (q316 p) (q317 p)) z)) = _
  rw [at87, at88, st23_2]
theorem at90 (p : Word) (z : S1x1.Idx) : (k0_pay93 (q315 p) (q316 p) (q317 p)) z = (st24 (priorKey p) 0#32).1 := by
  show (IntOp.addi ((k0_pay91 (q315 p) (q316 p) (q317 p)) z) ((k0_pay92 (q315 p) (q316 p) (q317 p)) z)) = _
  rw [at88, at89, st24_1]
theorem at91 (p : Word) (z : S1x1.Idx) : (k0_pay94 (q186 p) (q315 p) (q316 p) (q317 p)) z = (roundKey p 0#32).1 := by
  show (IntOp.addi ((k0_pay93 (q315 p) (q316 p) (q317 p)) z) ((q186 p) z)) = _
  rw [at90, q186_at, st25_1, roundKey_def]
def q347 (p : Word) : IVec S1x1 32 := (k0_pay94 (q186 p) (q315 p) (q316 p) (q317 p))
theorem q347_at (p : Word) (z : S1x1.Idx) : (q347 p) z = (roundKey p 0#32).1 := at91 p z
theorem at92 (p : Word) (z : S1x1.Idx) : (k0_pay95 (q173 p) (q315 p) (q316 p) (q317 p)) z = (roundKey p 0#32).2 := by
  show (IntOp.addi (IntOp.addi (turned 6#32 26#32 ((k0_pay92 (q315 p) (q316 p) (q317 p)) z) ((k0_pay93 (q315 p) (q316 p) (q317 p)) z)) ((q173 p) z)) 5#32) = _
  rw [at89, at90, q173_at, st24_2, st25_2, roundKey_def]
def q350 (p : Word) : IVec S1x1 32 := (k0_pay95 (q173 p) (q315 p) (q316 p) (q317 p))
theorem q350_at (p : Word) (z : S1x1.Idx) : (q350 p) z = (roundKey p 0#32).2 := at92 p z
theorem at93 (p : Word) (z : S1x1.Idx) : (k0_pay96 (q173 p) (q186 p) (q315 p) (q316 p) (q317 p)) z = (key3 (roundKey p 0#32).1 (roundKey p 0#32).2) := by
  show (IntOp.xori (IntOp.xori ((k0_pay94 (q186 p) (q315 p) (q316 p) (q317 p)) z) ((k0_pay95 (q173 p) (q315 p) (q316 p) (q317 p)) z)) 466688986#32) = _
  rw [at91, at92, key3_def]
def q354 (p : Word) : IVec S1x1 32 := (k0_pay96 (q173 p) (q186 p) (q315 p) (q316 p) (q317 p))
theorem q354_at (p : Word) (z : S1x1.Idx) : (q354 p) z = (key3 (roundKey p 0#32).1 (roundKey p 0#32).2) := at93 p z
theorem at94 (p : Word) (z : S100x1000.Idx) : (k0_pay97 (q173 p) (q182 p) (q315 p) (q316 p) (q317 p)) z = (st0 (roundKey p 0#32) (place z)).2 := by
  show (IntOp.addi ((q182 p) z) (broadcastTo S100x1000 (k0_pay95 (q173 p) (q315 p) (q316 p) (q317 p)) broadcasts_S1x1_S100x1000 z)) = _
  rw [q182_at, bcast_at _ _ (at92 p), st0_2 (roundKey p 0#32) (place z)]
theorem at95 (p : Word) (z : S100x1000.Idx) : (k0_pay98 (q173 p) (q182 p) (q186 p) (q315 p) (q316 p) (q317 p)) z = (st1 (roundKey p 0#32) (place z)).1 := by
  show (IntOp.addi (IntOp.addi 0#32 (broadcastTo S100x1000 (k0_pay94 (q186 p) (q315 p) (q316 p) (q317 p)) broadcasts_S1x1_S100x1000 z)) ((k0_pay97 (q173 p) (q182 p) (q315 p) (q316 p) (q317 p)) z)) = _
  rw [bcast_at _ _ (at91 p), at94, st0_1 (roundKey p 0#32) (place z), st1_1]
def q359 (p : Word) : IVec S100x1000 32 := (k0_pay98 (q173 p) (q182 p) (q186 p) (q315 p) (q316 p) (q317 p))
theorem q359_at (p : Word) (z : S100x1000.Idx) : (q359 p) z = (st1 (roundKey p 0#32) (place z)).1 := at95 p z
theorem at96 (p : Word) (z : S100x1000.Idx) : (k0_pay99 (q173 p) (q182 p) (q315 p) (q316 p) (q317 p)) z = (IntOp.ori (IntOp.shli .vector (st0 (roundKey p 0#32) (place z)).2 13#32) (IntOp.shrui .vector (st0 (roundKey p 0#32) (place z)).2 19#32)) := by
  show (IntOp.ori (IntOp.shli .vector ((k0_pay97 (q173 p) (q182 p) (q315 p) (q316 p) (q317 p)) z) 13#32) (IntOp.shrui .vector ((k0_pay97 (q173 p) (q182 p) (q315 p) (q316 p) (q317 p)) z) 19#32)) = _
  rw [at94]
def q364 (p : Word) : IVec S100x1000 32 := (k0_pay99 (q173 p) (q182 p) (q315 p) (q316 p) (q317 p))
theorem q364_at (p : Word) (z : S100x1000.Idx) : (q364 p) z = (IntOp.ori (IntOp.shli .vector (st0 (roundKey p 0#32) (place z)).2 13#32) (IntOp.shrui .vector (st0 (roundKey p 0#32) (place z)).2 19#32)) := at96 p z
theorem at97 (p : Word) (z : S100x1000.Idx) : (k0_pay100 (q359 p) (q364 p)) z = (st1 (roundKey p 0#32) (place z)).2 := by
  show (IntOp.xori ((q364 p) z) ((q359 p) z)) = _
  rw [q364_at, q359_at, st1_2']
theorem at98 (p : Word) (z : S100x1000.Idx) : (k0_pay101 (q359 p) (q364 p)) z = (st2 (roundKey p 0#32) (place z)).1 := by
  show (IntOp.addi ((q359 p) z) ((k0_pay100 (q359 p) (q364 p)) z)) = _
  rw [q359_at, at97, st2_1]
theorem at99 (p : Word) (z : S100x1000.Idx) : (k0_pay102 (q359 p) (q364 p)) z = (st2 (roundKey p 0#32) (place z)).2 := by
  show (turned 15#32 17#32 ((k0_pay100 (q359 p) (q364 p)) z) ((k0_pay101 (q359 p) (q364 p)) z)) = _
  rw [at97, at98, st2_2]
theorem at100 (p : Word) (z : S100x1000.Idx) : (k0_pay103 (q359 p) (q364 p)) z = (st3 (roundKey p 0#32) (place z)).1 := by
  show (IntOp.addi ((k0_pay101 (q359 p) (q364 p)) z) ((k0_pay102 (q359 p) (q364 p)) z)) = _
  rw [at98, at99, st3_1]
theorem at101 (p : Word) (z : S100x1000.Idx) : (k0_pay104 (q359 p) (q364 p)) z = (st3 (roundKey p 0#32) (place z)).2 := by
  show (turned 26#32 6#32 ((k0_pay102 (q359 p) (q364 p)) z) ((k0_pay103 (q359 p) (q364 p)) z)) = _
  rw [at99, at100, st3_2]
theorem at102 (p : Word) (z : S100x1000.Idx) : (k0_pay105 (q359 p) (q364 p)) z = (st4 (roundKey p 0#32) (place z)).1 := by
  show (IntOp.addi ((k0_pay103 (q359 p) (q364 p)) z) ((k0_pay104 (q359 p) (q364 p)) z)) = _
  rw [at100, at101, st4_1]
theorem at103 (p : Word) (z : S100x1000.Idx) : (k0_pay106 (q354 p) (q359 p) (q364 p)) z = (st5 (roundKey p 0#32) (place z)).2 := by
  show (IntOp.addi (IntOp.addi (turned 6#32 26#32 ((k0_pay104 (q359 p) (q364 p)) z) ((k0_pay105 (q359 p) (q364 p)) z)) (broadcastTo S100x1000 (q354 p) broadcasts_S1x1_S100x1000 z)) 1#32) = _
  rw [at101, at102, bcast_at _ _ (q354_at p), st4_2, st5_2]
theorem at104 (p : Word) (z : S100x1000.Idx) : (k0_pay107 (q350 p) (q354 p) (q359 p) (q364 p)) z = (st6 (roundKey p 0#32) (place z)).1 := by
  show (IntOp.addi (IntOp.addi ((k0_pay105 (q359 p) (q364 p)) z) (broadcastTo S100x1000 (q350 p) broadcasts_S1x1_S100x1000 z)) ((k0_pay106 (q354 p) (q359 p) (q364 p)) z)) = _
  rw [at102, bcast_at _ _ (q350_at p), at103, st5_1, st6_1]
theorem at105 (p : Word) (z : S100x1000.Idx) : (k0_pay108 (q350 p) (q354 p) (q359 p) (q364 p)) z = (st6 (roundKey p 0#32) (place z)).2 := by
  show (turned 17#32 15#32 ((k0_pay106 (q354 p) (q359 p) (q364 p)) z) ((k0_pay107 (q350 p) (q354 p) (q359 p) (q364 p)) z)) = _
  rw [at103, at104, st6_2]
theorem at106 (p : Word) (z : S100x1000.Idx) : (k0_pay109 (q350 p) (q354 p) (q359 p) (q364 p)) z = (st7 (roundKey p 0#32) (place z)).1 := by
  show (IntOp.addi ((k0_pay107 (q350 p) (q354 p) (q359 p) (q364 p)) z) ((k0_pay108 (q350 p) (q354 p) (q359 p) (q364 p)) z)) = _
  rw [at104, at105, st7_1]
theorem at107 (p : Word) (z : S100x1000.Idx) : (k0_pay110 (q350 p) (q354 p) (q359 p) (q364 p)) z = (st7 (roundKey p 0#32) (place z)).2 := by
  show (turned 29#32 3#32 ((k0_pay108 (q350 p) (q354 p) (q359 p) (q364 p)) z) ((k0_pay109 (q350 p) (q354 p) (q359 p) (q364 p)) z)) = _
  rw [at105, at106, st7_2]
theorem at108 (p : Word) (z : S100x1000.Idx) : (k0_pay111 (q350 p) (q354 p) (q359 p) (q364 p)) z = (st8 (roundKey p 0#32) (place z)).1 := by
  show (IntOp.addi ((k0_pay109 (q350 p) (q354 p) (q359 p) (q364 p)) z) ((k0_pay110 (q350 p) (q354 p) (q359 p) (q364 p)) z)) = _
  rw [at106, at107, st8_1]
def q407 (p : Word) : IVec S100x1000 32 := (k0_pay111 (q350 p) (q354 p) (q359 p) (q364 p))
theorem q407_at (p : Word) (z : S100x1000.Idx) : (q407 p) z = (st8 (roundKey p 0#32) (place z)).1 := at108 p z
theorem at109 (p : Word) (z : S100x1000.Idx) : (k0_pay112 (q350 p) (q354 p) (q359 p) (q364 p)) z = (IntOp.shli .vector (st7 (roundKey p 0#32) (place z)).2 16#32) := by
  show (IntOp.shli .vector ((k0_pay110 (q350 p) (q354 p) (q359 p) (q364 p)) z) 16#32) = _
  rw [at107]
def q409 (p : Word) : IVec S100x1000 32 := (k0_pay112 (q350 p) (q354 p) (q359 p) (q364 p))
theorem q409_at (p : Word) (z : S100x1000.Idx) : (q409 p) z = (IntOp.shli .vector (st7 (roundKey p 0#32) (place z)).2 16#32) := at109 p z
theorem at110 (p : Word) (z : S100x1000.Idx) : (k0_pay113 (q350 p) (q354 p) (q359 p) (q364 p)) z = (IntOp.shrui .vector (st7 (roundKey p 0#32) (place z)).2 16#32) := by
  show (IntOp.shrui .vector ((k0_pay110 (q350 p) (q354 p) (q359 p) (q364 p)) z) 16#32) = _
  rw [at107]
def q411 (p : Word) : IVec S100x1000 32 := (k0_pay113 (q350 p) (q354 p) (q359 p) (q364 p))
theorem q411_at (p : Word) (z : S100x1000.Idx) : (q411 p) z = (IntOp.shrui .vector (st7 (roundKey p 0#32) (place z)).2 16#32) := at110 p z
theorem at111 (p : Word) (z : S100x1000.Idx) : (k0_pay114 (q407 p) (q409 p) (q411 p)) z = (st8 (roundKey p 0#32) (place z)).2 := by
  show (IntOp.xori (IntOp.ori ((q409 p) z) ((q411 p) z)) ((q407 p) z)) = _
  rw [q409_at, q411_at, q407_at, st8_2']
theorem at112 (p : Word) (z : S100x1000.Idx) : (k0_pay115 (q407 p) (q409 p) (q411 p)) z = (st9 (roundKey p 0#32) (place z)).1 := by
  show (IntOp.addi ((q407 p) z) ((k0_pay114 (q407 p) (q409 p) (q411 p)) z)) = _
  rw [q407_at, at111, st9_1]
theorem at113 (p : Word) (z : S100x1000.Idx) : (k0_pay116 (q347 p) (q407 p) (q409 p) (q411 p)) z = (st10 (roundKey p 0#32) (place z)).2 := by
  show (IntOp.addi (IntOp.addi (turned 24#32 8#32 ((k0_pay114 (q407 p) (q409 p) (q411 p)) z) ((k0_pay115 (q407 p) (q409 p) (q411 p)) z)) (broadcastTo S100x1000 (q347 p) broadcasts_S1x1_S100x1000 z)) 2#32) = _
  rw [at111, at112, bcast_at _ _ (q347_at p), st9_2, st10_2]
theorem at114 (p : Word) (z : S100x1000.Idx) : (k0_pay117 (q347 p) (q354 p) (q407 p) (q409 p) (q411 p)) z = (st11 (roundKey p 0#32) (place z)).1 := by
  show (IntOp.addi (IntOp.addi ((k0_pay115 (q407 p) (q409 p) (q411 p)) z) (broadcastTo S100x1000 (q354 p) broadcasts_S1x1_S100x1000 z)) ((k0_pay116 (q347 p) (q407 p) (q409 p) (q411 p)) z)) = _
  rw [at112, bcast_at _ _ (q354_at p), at113, st10_1, st11_1]
theorem at115 (p : Word) (z : S100x1000.Idx) : (k0_pay118 (q347 p) (q354 p) (q407 p) (q409 p) (q411 p)) z = (st11 (roundKey p 0#32) (place z)).2 := by
  show (turned 13#32 19#32 ((k0_pay116 (q347 p) (q407 p) (q409 p) (q411 p)) z) ((k0_pay117 (q347 p) (q354 p) (q407 p) (q409 p) (q411 p)) z)) = _
  rw [at113, at114, st11_2]
theorem at116 (p : Word) (z : S100x1000.Idx) : (k0_pay119 (q347 p) (q354 p) (q407 p) (q409 p) (q411 p)) z = (st12 (roundKey p 0#32) (place z)).1 := by
  show (IntOp.addi ((k0_pay117 (q347 p) (q354 p) (q407 p) (q409 p) (q411 p)) z) ((k0_pay118 (q347 p) (q354 p) (q407 p) (q409 p) (q411 p)) z)) = _
  rw [at114, at115, st12_1]
theorem at117 (p : Word) (z : S100x1000.Idx) : (k0_pay120 (q347 p) (q354 p) (q407 p) (q409 p) (q411 p)) z = (st12 (roundKey p 0#32) (place z)).2 := by
  show (turned 15#32 17#32 ((k0_pay118 (q347 p) (q354 p) (q407 p) (q409 p) (q411 p)) z) ((k0_pay119 (q347 p) (q354 p) (q407 p) (q409 p) (q411 p)) z)) = _
  rw [at115, at116, st12_2]
theorem at118 (p : Word) (z : S100x1000.Idx) : (k0_pay121 (q347 p) (q354 p) (q407 p) (q409 p) (q411 p)) z = (st13 (roundKey p 0#32) (place z)).1 := by
  show (IntOp.addi ((k0_pay119 (q347 p) (q354 p) (q407 p) (q409 p) (q411 p)) z) ((k0_pay120 (q347 p) (q354 p) (q407 p) (q409 p) (q411 p)) z)) = _
  rw [at116, at117, st13_1]
theorem at119 (p : Word) (z : S100x1000.Idx) : (k0_pay122 (q347 p) (q354 p) (q407 p) (q409 p) (q411 p)) z = (st13 (roundKey p 0#32) (place z)).2 := by
  show (turned 26#32 6#32 ((k0_pay120 (q347 p) (q354 p) (q407 p) (q409 p) (q411 p)) z) ((k0_pay121 (q347 p) (q354 p) (q407 p) (q409 p) (q411 p)) z)) = _
  rw [at117, at118, st13_2]
theorem at120 (p : Word) (z : S100x1000.Idx) : (k0_pay123 (q347 p) (q354 p) (q407 p) (q409 p) (q411 p)) z = (st14 (roundKey p 0#32) (place z)).1 := by
  show (IntOp.addi ((k0_pay121 (q347 p) (q354 p) (q407 p) (q409 p) (q411 p)) z) ((k0_pay122 (q347 p) (q354 p) (q407 p) (q409 p) (q411 p)) z)) = _
  rw [at118, at119, st14_1]
theorem at121 (p : Word) (z : S100x1000.Idx) : (k0_pay124 (q347 p) (q354 p) (q407 p) (q409 p) (q411 p)) z = (st15 (roundKey p 0#32) (place z)).1 := by
  show (IntOp.addi ((k0_pay123 (q347 p) (q354 p) (q407 p) (q409 p) (q411 p)) z) (broadcastTo S100x1000 (q347 p) broadcasts_S1x1_S100x1000 z)) = _
  rw [at120, bcast_at _ _ (q347_at p), st15_1]
def q456 (p : Word) : IVec S100x1000 32 := (k0_pay124 (q347 p) (q354 p) (q407 p) (q409 p) (q411 p))
theorem q456_at (p : Word) (z : S100x1000.Idx) : (q456 p) z = (st15 (roundKey p 0#32) (place z)).1 := at121 p z
theorem at122 (p : Word) (z : S100x1000.Idx) : (k0_pay125 (q347 p) (q350 p) (q354 p) (q407 p) (q409 p) (q411 p)) z = (IntOp.addi (st14 (roundKey p 0#32) (place z)).2 (roundKey p 0#32).2) := by
  show (IntOp.addi (turned 6#32 26#32 ((k0_pay122 (q347 p) (q354 p) (q407 p) (q409 p) (q411 p)) z) ((k0_pay123 (q347 p) (q354 p) (q407 p) (q409 p) (q411 p)) z)) (broadcastTo S100x1000 (q350 p) broadcasts_S1x1_S100x1000 z)) = _
  rw [at119, at120, bcast_at _ _ (q350_at p), st14_2]
def q458 (p : Word) : IVec S100x1000 32 := (k0_pay125 (q347 p) (q350 p) (q354 p) (q407 p) (q409 p) (q411 p))
theorem q458_at (p : Word) (z : S100x1000.Idx) : (q458 p) z = (IntOp.addi (st14 (roundKey p 0#32) (place z)).2 (roundKey p 0#32).2) := at122 p z
theorem at123 (p : Word) (z : S100x1000.Idx) : k0_pay126 z = 3#32 := rfl
def q459 (p : Word) : IVec S100x1000 32 := k0_pay126
theorem q459_at (p : Word) (z : S100x1000.Idx) : (q459 p) z = 3#32 := at123 p z
theorem at124 (p : Word) (z : S100x1000.Idx) : (k0_pay127 (q458 p) (q459 p)) z = (st15 (roundKey p 0#32) (place z)).2 := by
  show (IntOp.addi ((q458 p) z) ((q459 p) z)) = _
  rw [q458_at, q459_at, st15_2]
theorem at125 (p : Word) (z : S100x1000.Idx) : (k0_pay128 (q456 p) (q458 p) (q459 p)) z = (st16 (roundKey p 0#32) (place z)).1 := by
  show (IntOp.addi ((q456 p) z) ((k0_pay127 (q458 p) (q459 p)) z)) = _
  rw [q456_at, at124, st16_1]
theorem at126 (p : Word) (z : S100x1000.Idx) : (k0_pay129 (q456 p) (q458 p) (q459 p)) z = (st16 (roundKey p 0#32) (place z)).2 := by
  show (turned 17#32 15#32 ((k0_pay127 (q458 p) (q459 p)) z) ((k0_pay128 (q456 p) (q458 p) (q459 p)) z)) = _
  rw [at124, at125, st16_2]
theorem at127 (p : Word) (z : S100x1000.Idx) : (k0_pay130 (q456 p) (q458 p) (q459 p)) z = (st17 (roundKey p 0#32) (place z)).1 := by
  show (IntOp.addi ((k0_pay128 (q456 p) (q458 p) (q459 p)) z) ((k0_pay129 (q456 p) (q458 p) (q459 p)) z)) = _
  rw [at125, at126, st17_1]
theorem at128 (p : Word) (z : S100x1000.Idx) : (k0_pay131 (q456 p) (q458 p) (q459 p)) z = (st17 (roundKey p 0#32) (place z)).2 := by
  show (turned 29#32 3#32 ((k0_pay129 (q456 p) (q458 p) (q459 p)) z) ((k0_pay130 (q456 p) (q458 p) (q459 p)) z)) = _
  rw [at126, at127, st17_2]
theorem at129 (p : Word) (z : S100x1000.Idx) : (k0_pay132 (q456 p) (q458 p) (q459 p)) z = (st18 (roundKey p 0#32) (place z)).1 := by
  show (IntOp.addi ((k0_pay130 (q456 p) (q458 p) (q459 p)) z) ((k0_pay131 (q456 p) (q458 p) (q459 p)) z)) = _
  rw [at127, at128, st18_1]
theorem at130 (p : Word) (z : S100x1000.Idx) : (k0_pay133 (q456 p) (q458 p) (q459 p)) z = (st18 (roundKey p 0#32) (place z)).2 := by
  show (turned 16#32 16#32 ((k0_pay131 (q456 p) (q458 p) (q459 p)) z) ((k0_pay132 (q456 p) (q458 p) (q459 p)) z)) = _
  rw [at128, at129, st18_2]
theorem at131 (p : Word) (z : S100x1000.Idx) : (k0_pay134 (q456 p) (q458 p) (q459 p)) z = (st19 (roundKey p 0#32) (place z)).1 := by
  show (IntOp.addi ((k0_pay132 (q456 p) (q458 p) (q459 p)) z) ((k0_pay133 (q456 p) (q458 p) (q459 p)) z)) = _
  rw [at129, at130, st19_1]
theorem at132 (p : Word) (z : S100x1000.Idx) : (k0_pay135 (q354 p) (q456 p) (q458 p) (q459 p)) z = (st20 (roundKey p 0#32) (place z)).2 := by
  show (IntOp.addi (IntOp.addi (turned 24#32 8#32 ((k0_pay133 (q456 p) (q458 p) (q459 p)) z) ((k0_pay134 (q456 p) (q458 p) (q459 p)) z)) (broadcastTo S100x1000 (q354 p) broadcasts_S1x1_S100x1000 z)) 4#32) = _
  rw [at130, at131, bcast_at _ _ (q354_at p), st19_2, st20_2]
theorem at133 (p : Word) (z : S100x1000.Idx) : (k0_pay136 (q350 p) (q354 p) (q456 p) (q458 p) (q459 p)) z = (st21 (roundKey p 0#32) (place z)).1 := by
  show (IntOp.addi (IntOp.addi ((k0_pay134 (q456 p) (q458 p) (q459 p)) z) (broadcastTo S100x1000 (q350 p) broadcasts_S1x1_S100x1000 z)) ((k0_pay135 (q354 p) (q456 p) (q458 p) (q459 p)) z)) = _
  rw [at131, bcast_at _ _ (q350_at p), at132, st20_1, st21_1]
theorem at134 (p : Word) (z : S100x1000.Idx) : (k0_pay137 (q350 p) (q354 p) (q456 p) (q458 p) (q459 p)) z = (st21 (roundKey p 0#32) (place z)).2 := by
  show (turned 13#32 19#32 ((k0_pay135 (q354 p) (q456 p) (q458 p) (q459 p)) z) ((k0_pay136 (q350 p) (q354 p) (q456 p) (q458 p) (q459 p)) z)) = _
  rw [at132, at133, st21_2]
theorem at135 (p : Word) (z : S100x1000.Idx) : (k0_pay138 (q350 p) (q354 p) (q456 p) (q458 p) (q459 p)) z = (st22 (roundKey p 0#32) (place z)).1 := by
  show (IntOp.addi ((k0_pay136 (q350 p) (q354 p) (q456 p) (q458 p) (q459 p)) z) ((k0_pay137 (q350 p) (q354 p) (q456 p) (q458 p) (q459 p)) z)) = _
  rw [at133, at134, st22_1]
def q502 (p : Word) : IVec S100x1000 32 := (k0_pay138 (q350 p) (q354 p) (q456 p) (q458 p) (q459 p))
theorem q502_at (p : Word) (z : S100x1000.Idx) : (q502 p) z = (st22 (roundKey p 0#32) (place z)).1 := at135 p z
theorem at136 (p : Word) (z : S100x1000.Idx) : (k0_pay139 (q350 p) (q354 p) (q456 p) (q458 p) (q459 p)) z = (IntOp.shli .vector (st21 (roundKey p 0#32) (place z)).2 15#32) := by
  show (IntOp.shli .vector ((k0_pay137 (q350 p) (q354 p) (q456 p) (q458 p) (q459 p)) z) 15#32) = _
  rw [at134]
def q504 (p : Word) : IVec S100x1000 32 := (k0_pay139 (q350 p) (q354 p) (q456 p) (q458 p) (q459 p))
theorem q504_at (p : Word) (z : S100x1000.Idx) : (q504 p) z = (IntOp.shli .vector (st21 (roundKey p 0#32) (place z)).2 15#32) := at136 p z
theorem at137 (p : Word) (z : S100x1000.Idx) : (k0_pay140 (q350 p) (q354 p) (q456 p) (q458 p) (q459 p)) z = (IntOp.shrui .vector (st21 (roundKey p 0#32) (place z)).2 17#32) := by
  show (IntOp.shrui .vector ((k0_pay137 (q350 p) (q354 p) (q456 p) (q458 p) (q459 p)) z) 17#32) = _
  rw [at134]
def q506 (p : Word) : IVec S100x1000 32 := (k0_pay140 (q350 p) (q354 p) (q456 p) (q458 p) (q459 p))
theorem q506_at (p : Word) (z : S100x1000.Idx) : (q506 p) z = (IntOp.shrui .vector (st21 (roundKey p 0#32) (place z)).2 17#32) := at137 p z
theorem at138 (p : Word) (z : S100x1000.Idx) : (k0_pay141 (q183 p) (q347 p) (q354 p) (q502 p) (q504 p) (q506 p)) z = (IntOp.ori 0#32 (Scalar.select (IntOp.cmpi .sge (bitWord p 0#32 (place z)) 0#32) 1#32 0#32)) := by
  show (IntOp.ori ((q183 p) z) (Scalar.select (IntOp.cmpi .sge (IntOp.xori (IntOp.addi (IntOp.addi (IntOp.addi ((q502 p) z) (IntOp.xori (IntOp.ori ((q504 p) z) ((q506 p) z)) ((q502 p) z))) (turned 26#32 6#32 (IntOp.xori (IntOp.ori ((q504 p) z) ((q506 p) z)) ((q502 p) z)) (IntOp.addi ((q502 p) z) (IntOp.xori (IntOp.ori ((q504 p) z) ((q506 p) z)) ((q502 p) z))))) (broadcastTo S100x1000 (q354 p) broadcasts_S1x1_S100x1000 z)) (IntOp.addi (IntOp.addi (turned 6#32 26#32 (turned 26#32 6#32 (IntOp.xori (IntOp.ori ((q504 p) z) ((q506 p) z)) ((q502 p) z)) (IntOp.addi ((q502 p) z) (IntOp.xori (IntOp.ori ((q504 p) z) ((q506 p) z)) ((q502 p) z)))) (IntOp.addi (IntOp.addi ((q502 p) z) (IntOp.xori (IntOp.ori ((q504 p) z) ((q506 p) z)) ((q502 p) z))) (turned 26#32 6#32 (IntOp.xori (IntOp.ori ((q504 p) z) ((q506 p) z)) ((q502 p) z)) (IntOp.addi ((q502 p) z) (IntOp.xori (IntOp.ori ((q504 p) z) ((q506 p) z)) ((q502 p) z)))))) (broadcastTo S100x1000 (q347 p) broadcasts_S1x1_S100x1000 z)) 5#32)) 0#32) 1#32 0#32)) = _
  rw [q183_at, q502_at, q504_at, q506_at, bcast_at _ _ (q354_at p), bcast_at _ _ (q347_at p), st22_2', st23_1, st23_2, st24_1, st25_1, st24_2, st25_2, bitWord_def]
def q535 (p : Word) : IVec S100x1000 32 := (k0_pay141 (q183 p) (q347 p) (q354 p) (q502 p) (q504 p) (q506 p))
theorem q535_at (p : Word) (z : S100x1000.Idx) : (q535 p) z = (IntOp.ori 0#32 (Scalar.select (IntOp.cmpi .sge (bitWord p 0#32 (place z)) 0#32) 1#32 0#32)) := at138 p z
theorem at139 (p : Word) (z : S1x1.Idx) : (k0_pay142 (q173 p) (q177 p)) z = (key3 (priorKey p).1 (priorKey p).2) := by
  show (IntOp.xori (IntOp.xori ((q173 p) z) ((q177 p) z)) 466688986#32) = _
  rw [q173_at, q177_at, key3_def]
def q538 (p : Word) : IVec S1x1 32 := (k0_pay142 (q173 p) (q177 p))
theorem q538_at (p : Word) (z : S1x1.Idx) : (q538 p) z = (key3 (priorKey p).1 (priorKey p).2) := at139 p z
theorem at140 (p : Word) (z : S1x1.Idx) : (k0_pay143 (q177 p)) z = (st0 (priorKey p) 1#32).2 := by
  show (IntOp.addi 1#32 ((q177 p) z)) = _
  rw [q177_at, st0_2 (priorKey p) 1#32]
theorem at141 (p : Word) (z : S1x1.Idx) : (k0_pay144 (q173 p) (q177 p)) z = (st1 (priorKey p) 1#32).1 := by
  show (IntOp.addi (IntOp.addi 0#32 ((q173 p) z)) ((k0_pay143 (q177 p)) z)) = _
  rw [q173_at, at140, st0_1 (priorKey p) 1#32, st1_1]
theorem at142 (p : Word) (z : S1x1.Idx) : (k0_pay145 (q173 p) (q177 p)) z = (st1 (priorKey p) 1#32).2 := by
  show (turned 13#32 19#32 ((k0_pay143 (q177 p)) z) ((k0_pay144 (q173 p) (q177 p)) z)) = _
  rw [at140, at141, st1_2]
def q549 (p : Word) : IVec S1x1 32 := (k0_pay145 (q173 p) (q177 p))
theorem q549_at (p : Word) (z : S1x1.Idx) : (q549 p) z = (st1 (priorKey p) 1#32).2 := at142 p z
theorem at143 (p : Word) (z : S1x1.Idx) : (k0_pay146 (q173 p) (q177 p)) z = (st2 (priorKey p) 1#32).1 := by
  show (IntOp.addi ((k0_pay144 (q173 p) (q177 p)) z) ((k0_pay145 (q173 p) (q177 p)) z)) = _
  rw [at141, at142, st2_1]
def q550 (p : Word) : IVec S1x1 32 := (k0_pay146 (q173 p) (q177 p))
theorem q550_at (p : Word) (z : S1x1.Idx) : (q550 p) z = (st2 (priorKey p) 1#32).1 := at143 p z
theorem at144 (p : Word) (z : S1x1.Idx) : (k0_pay147 (q173 p) (q177 p)) z = (IntOp.shli .vector (st1 (priorKey p) 1#32).2 15#32) := by
  show (IntOp.shli .vector ((k0_pay145 (q173 p) (q177 p)) z) 15#32) = _
  rw [at142]
def q552 (p : Word) : IVec S1x1 32 := (k0_pay147 (q173 p) (q177 p))
theorem q552_at (p : Word) (z : S1x1.Idx) : (q552 p) z = (IntOp.shli .vector (st1 (priorKey p) 1#32).2 15#32) := at144 p z
theorem at145 (p : Word) (z : S1x1.Idx) : (k0_pay148 (q549 p) (q550 p) (q552 p)) z = (st2 (priorKey p) 1#32).2 := by
  show (IntOp.xori (IntOp.ori ((q552 p) z) (IntOp.shrui .vector ((q549 p) z) 17#32)) ((q550 p) z)) = _
  rw [q552_at, q549_at, q550_at, st2_2']
theorem at146 (p : Word) (z : S1x1.Idx) : (k0_pay149 (q549 p) (q550 p) (q552 p)) z = (st3 (priorKey p) 1#32).1 := by
  show (IntOp.addi ((q550 p) z) ((k0_pay148 (q549 p) (q550 p) (q552 p)) z)) = _
  rw [q550_at, at145, st3_1]
theorem at147 (p : Word) (z : S1x1.Idx) : (k0_pay150 (q549 p) (q550 p) (q552 p)) z = (st3 (priorKey p) 1#32).2 := by
  show (turned 26#32 6#32 ((k0_pay148 (q549 p) (q550 p) (q552 p)) z) ((k0_pay149 (q549 p) (q550 p) (q552 p)) z)) = _
  rw [at145, at146, st3_2]
theorem at148 (p : Word) (z : S1x1.Idx) : (k0_pay151 (q549 p) (q550 p) (q552 p)) z = (st4 (priorKey p) 1#32).1 := by
  show (IntOp.addi ((k0_pay149 (q549 p) (q550 p) (q552 p)) z) ((k0_pay150 (q549 p) (q550 p) (q552 p)) z)) = _
  rw [at146, at147, st4_1]
theorem at149 (p : Word) (z : S1x1.Idx) : (k0_pay152 (q538 p) (q549 p) (q550 p) (q552 p)) z = (st5 (priorKey p) 1#32).2 := by
  show (IntOp.addi (IntOp.addi (turned 6#32 26#32 ((k0_pay150 (q549 p) (q550 p) (q552 p)) z) ((k0_pay151 (q549 p) (q550 p) (q552 p)) z)) ((q538 p) z)) 1#32) = _
  rw [at147, at148, q538_at, st4_2, st5_2]
theorem at150 (p : Word) (z : S1x1.Idx) : (k0_pay153 (q177 p) (q538 p) (q549 p) (q550 p) (q552 p)) z = (st6 (priorKey p) 1#32).1 := by
  show (IntOp.addi (IntOp.addi ((k0_pay151 (q549 p) (q550 p) (q552 p)) z) ((q177 p) z)) ((k0_pay152 (q538 p) (q549 p) (q550 p) (q552 p)) z)) = _
  rw [at148, q177_at, at149, st5_1, st6_1]
theorem at151 (p : Word) (z : S1x1.Idx) : (k0_pay154 (q177 p) (q538 p) (q549 p) (q550 p) (q552 p)) z = (st6 (priorKey p) 1#32).2 := by
  show (turned 17#32 15#32 ((k0_pay152 (q538 p) (q549 p) (q550 p) (q552 p)) z) ((k0_pay153 (q177 p) (q538 p) (q549 p) (q550 p) (q552 p)) z)) = _
  rw [at149, at150, st6_2]
theorem at152 (p : Word) (z : S1x1.Idx) : (k0_pay155 (q177 p) (q538 p) (q549 p) (q550 p) (q552 p)) z = (st7 (priorKey p) 1#32).1 := by
  show (IntOp.addi ((k0_pay153 (q177 p) (q538 p) (q549 p) (q550 p) (q552 p)) z) ((k0_pay154 (q177 p) (q538 p) (q549 p) (q550 p) (q552 p)) z)) = _
  rw [at150, at151, st7_1]
theorem at153 (p : Word) (z : S1x1.Idx) : (k0_pay156 (q177 p) (q538 p) (q549 p) (q550 p) (q552 p)) z = (st7 (priorKey p) 1#32).2 := by
  show (turned 29#32 3#32 ((k0_pay154 (q177 p) (q538 p) (q549 p) (q550 p) (q552 p)) z) ((k0_pay155 (q177 p) (q538 p) (q549 p) (q550 p) (q552 p)) z)) = _
  rw [at151, at152, st7_2]
theorem at154 (p : Word) (z : S1x1.Idx) : (k0_pay157 (q177 p) (q538 p) (q549 p) (q550 p) (q552 p)) z = (st8 (priorKey p) 1#32).1 := by
  show (IntOp.addi ((k0_pay155 (q177 p) (q538 p) (q549 p) (q550 p) (q552 p)) z) ((k0_pay156 (q177 p) (q538 p) (q549 p) (q550 p) (q552 p)) z)) = _
  rw [at152, at153, st8_1]
theorem at155 (p : Word) (z : S1x1.Idx) : (k0_pay158 (q177 p) (q538 p) (q549 p) (q550 p) (q552 p)) z = (st8 (priorKey p) 1#32).2 := by
  show (turned 16#32 16#32 ((k0_pay156 (q177 p) (q538 p) (q549 p) (q550 p) (q552 p)) z) ((k0_pay157 (q177 p) (q538 p) (q549 p) (q550 p) (q552 p)) z)) = _
  rw [at153, at154, st8_2]
def q595 (p : Word) : IVec S1x1 32 := (k0_pay158 (q177 p) (q538 p) (q549 p) (q550 p) (q552 p))
theorem q595_at (p : Word) (z : S1x1.Idx) : (q595 p) z = (st8 (priorKey p) 1#32).2 := at155 p z
theorem at156 (p : Word) (z : S1x1.Idx) : (k0_pay159 (q177 p) (q538 p) (q549 p) (q550 p) (q552 p)) z = (st9 (priorKey p) 1#32).1 := by
  show (IntOp.addi ((k0_pay157 (q177 p) (q538 p) (q549 p) (q550 p) (q552 p)) z) ((k0_pay158 (q177 p) (q538 p) (q549 p) (q550 p) (q552 p)) z)) = _
  rw [at154, at155, st9_1]
def q596 (p : Word) : IVec S1x1 32 := (k0_pay159 (q177 p) (q538 p) (q549 p) (q550 p) (q552 p))
theorem q596_at (p : Word) (z : S1x1.Idx) : (q596 p) z = (st9 (priorKey p) 1#32).1 := at156 p z
theorem at157 (p : Word) (z : S1x1.Idx) : (k0_pay160 (q177 p) (q538 p) (q549 p) (q550 p) (q552 p)) z = (IntOp.shli .vector (st8 (priorKey p) 1#32).2 24#32) := by
  show (IntOp.shli .vector ((k0_pay158 (q177 p) (q538 p) (q549 p) (q550 p) (q552 p)) z) 24#32) = _
  rw [at155]
def q598 (p : Word) : IVec S1x1 32 := (k0_pay160 (q177 p) (q538 p) (q549 p) (q550 p) (q552 p))
theorem q598_at (p : Word) (z : S1x1.Idx) : (q598 p) z = (IntOp.shli .vector (st8 (priorKey p) 1#32).2 24#32) := at157 p z
theorem at158 (p : Word) (z : S1x1.Idx) : (k0_pay161 (q173 p) (q595 p) (q596 p) (q598 p) 8#32) z = (st10 (priorKey p) 1#32).2 := by
  show (IntOp.addi (IntOp.addi (IntOp.xori (IntOp.ori ((q598 p) z) (IntOp.shrui .vector ((q595 p) z) 8#32)) ((q596 p) z)) ((q173 p) z)) 2#32) = _
  rw [q598_at, q595_at, q596_at, q173_at, st9_2', st10_2]
theorem at159 (p : Word) (z : S1x1.Idx) : (k0_pay162 (q173 p) (q538 p) (q595 p) (q596 p) (q598 p) 8#32) z = (st11 (priorKey p) 1#32).1 := by
  show (IntOp.addi (IntOp.addi ((q596 p) z) ((q538 p) z)) ((k0_pay161 (q173 p) (q595 p) (q596 p) (q598 p) 8#32) z)) = _
  rw [q596_at, q538_at, at158, st10_1, st11_1]
theorem at160 (p : Word) (z : S1x1.Idx) : (k0_pay163 (q173 p) (q538 p) (q595 p) (q596 p) (q598 p) 8#32) z = (st11 (priorKey p) 1#32).2 := by
  show (turned 13#32 19#32 ((k0_pay161 (q173 p) (q595 p) (q596 p) (q598 p) 8#32) z) ((k0_pay162 (q173 p) (q538 p) (q595 p) (q596 p) (q598 p) 8#32) z)) = _
  rw [at158, at159, st11_2]
theorem at161 (p : Word) (z : S1x1.Idx) : (k0_pay164 (q173 p) (q538 p) (q595 p) (q596 p) (q598 p) 8#32) z = (st12 (priorKey p) 1#32).1 := by
  show (IntOp.addi ((k0_pay162 (q173 p) (q538 p) (q595 p) (q596 p) (q598 p) 8#32) z) ((k0_pay163 (q173 p) (q538 p) (q595 p) (q596 p) (q598 p) 8#32) z)) = _
  rw [at159, at160, st12_1]
theorem at162 (p : Word) (z : S1x1.Idx) : (k0_pay165 (q173 p) (q538 p) (q595 p) (q596 p) (q598 p) 8#32) z = (st12 (priorKey p) 1#32).2 := by
  show (turned 15#32 17#32 ((k0_pay163 (q173 p) (q538 p) (q595 p) (q596 p) (q598 p) 8#32) z) ((k0_pay164 (q173 p) (q538 p) (q595 p) (q596 p) (q598 p) 8#32) z)) = _
  rw [at160, at161, st12_2]
theorem at163 (p : Word) (z : S1x1.Idx) : (k0_pay166 (q173 p) (q538 p) (q595 p) (q596 p) (q598 p) 8#32) z = (st13 (priorKey p) 1#32).1 := by
  show (IntOp.addi ((k0_pay164 (q173 p) (q538 p) (q595 p) (q596 p) (q598 p) 8#32) z) ((k0_pay165 (q173 p) (q538 p) (q595 p) (q596 p) (q598 p) 8#32) z)) = _
  rw [at161, at162, st13_1]
theorem at164 (p : Word) (z : S1x1.Idx) : (k0_pay167 (q173 p) (q538 p) (q595 p) (q596 p) (q598 p) 8#32) z = (st13 (priorKey p) 1#32).2 := by
  show (turned 26#32 6#32 ((k0_pay165 (q173 p) (q538 p) (q595 p) (q596 p) (q598 p) 8#32) z) ((k0_pay166 (q173 p) (q538 p) (q595 p) (q596 p) (q598 p) 8#32) z)) = _
  rw [at162, at163, st13_2]
theorem at165 (p : Word) (z : S1x1.Idx) : (k0_pay168 (q173 p) (q538 p) (q595 p) (q596 p) (q598 p) 8#32) z = (st14 (priorKey p) 1#32).1 := by
  show (IntOp.addi ((k0_pay166 (q173 p) (q538 p) (q595 p) (q596 p) (q598 p) 8#32) z) ((k0_pay167 (q173 p) (q538 p) (q595 p) (q596 p) (q598 p) 8#32) z)) = _
  rw [at163, at164, st14_1]
theorem at166 (p : Word) (z : S1x1.Idx) : (k0_pay169 (q173 p) (q177 p) (q538 p) (q595 p) (q596 p) (q598 p) 8#32) z = (st15 (priorKey p) 1#32).2 := by
  show (IntOp.addi (IntOp.addi (turned 6#32 26#32 ((k0_pay167 (q173 p) (q538 p) (q595 p) (q596 p) (q598 p) 8#32) z) ((k0_pay168 (q173 p) (q538 p) (q595 p) (q596 p) (q598 p) 8#32) z)) ((q177 p) z)) 3#32) = _
  rw [at164, at165, q177_at, st14_2, st15_2]
theorem at167 (p : Word) (z : S1x1.Idx) : (k0_pay170 (q173 p) (q177 p) (q538 p) (q595 p) (q596 p) (q598 p) 8#32) z = (st16 (priorKey p) 1#32).1 := by
  show (IntOp.addi (IntOp.addi ((k0_pay168 (q173 p) (q538 p) (q595 p) (q596 p) (q598 p) 8#32) z) ((q173 p) z)) ((k0_pay169 (q173 p) (q177 p) (q538 p) (q595 p) (q596 p) (q598 p) 8#32) z)) = _
  rw [at165, q173_at, at166, st15_1, st16_1]
theorem at168 (p : Word) (z : S1x1.Idx) : (k0_pay171 (q173 p) (q177 p) (q538 p) (q595 p) (q596 p) (q598 p) 8#32) z = (st16 (priorKey p) 1#32).2 := by
  show (turned 17#32 15#32 ((k0_pay169 (q173 p) (q177 p) (q538 p) (q595 p) (q596 p) (q598 p) 8#32) z) ((k0_pay170 (q173 p) (q177 p) (q538 p) (q595 p) (q596 p) (q598 p) 8#32) z)) = _
  rw [at166, at167, st16_2]
def q645 (p : Word) : IVec S1x1 32 := (k0_pay171 (q173 p) (q177 p) (q538 p) (q595 p) (q596 p) (q598 p) 8#32)
theorem q645_at (p : Word) (z : S1x1.Idx) : (q645 p) z = (st16 (priorKey p) 1#32).2 := at168 p z
theorem at169 (p : Word) (z : S1x1.Idx) : (k0_pay172 (q173 p) (q177 p) (q538 p) (q595 p) (q596 p) (q598 p) 8#32) z = (st17 (priorKey p) 1#32).1 := by
  show (IntOp.addi ((k0_pay170 (q173 p) (q177 p) (q538 p) (q595 p) (q596 p) (q598 p) 8#32) z) ((k0_pay171 (q173 p) (q177 p) (q538 p) (q595 p) (q596 p) (q598 p) 8#32) z)) = _
  rw [at167, at168, st17_1]
def q646 (p : Word) : IVec S1x1 32 := (k0_pay172 (q173 p) (q177 p) (q538 p) (q595 p) (q596 p) (q598 p) 8#32)
theorem q646_at (p : Word) (z : S1x1.Idx) : (q646 p) z = (st17 (priorKey p) 1#32).1 := at169 p z
theorem at170 (p : Word) (z : S1x1.Idx) : (k0_pay173 (q645 p) (q646 p)) z = (st17 (priorKey p) 1#32).2 := by
  show (turned 29#32 3#32 ((q645 p) z) ((q646 p) z)) = _
  rw [q645_at, q646_at, st17_2]
theorem at171 (p : Word) (z : S1x1.Idx) : (k0_pay174 (q645 p) (q646 p)) z = (st18 (priorKey p) 1#32).1 := by
  show (IntOp.addi ((q646 p) z) ((k0_pay173 (q645 p) (q646 p)) z)) = _
  rw [q646_at, at170, st18_1]
theorem at172 (p : Word) (z : S1x1.Idx) : (k0_pay175 (q645 p) (q646 p)) z = (st18 (priorKey p) 1#32).2 := by
  show (turned 16#32 16#32 ((k0_pay173 (q645 p) (q646 p)) z) ((k0_pay174 (q645 p) (q646 p)) z)) = _
  rw [at170, at171, st18_2]
theorem at173 (p : Word) (z : S1x1.Idx) : (k0_pay176 (q645 p) (q646 p)) z = (st19 (priorKey p) 1#32).1 := by
  show (IntOp.addi ((k0_pay174 (q645 p) (q646 p)) z) ((k0_pay175 (q645 p) (q646 p)) z)) = _
  rw [at171, at172, st19_1]
theorem at174 (p : Word) (z : S1x1.Idx) : (k0_pay177 (q538 p) (q645 p) (q646 p)) z = (st20 (priorKey p) 1#32).2 := by
  show (IntOp.addi (IntOp.addi (turned 24#32 8#32 ((k0_pay175 (q645 p) (q646 p)) z) ((k0_pay176 (q645 p) (q646 p)) z)) ((q538 p) z)) 4#32) = _
  rw [at172, at173, q538_at, st19_2, st20_2]
theorem at175 (p : Word) (z : S1x1.Idx) : (k0_pay178 (q177 p) (q538 p) (q645 p) (q646 p)) z = (st21 (priorKey p) 1#32).1 := by
  show (IntOp.addi (IntOp.addi ((k0_pay176 (q645 p) (q646 p)) z) ((q177 p) z)) ((k0_pay177 (q538 p) (q645 p) (q646 p)) z)) = _
  rw [at173, q177_at, at174, st20_1, st21_1]
theorem at176 (p : Word) (z : S1x1.Idx) : (k0_pay179 (q177 p) (q538 p) (q645 p) (q646 p)) z = (st21 (priorKey p) 1#32).2 := by
  show (turned 13#32 19#32 ((k0_pay177 (q538 p) (q645 p) (q646 p)) z) ((k0_pay178 (q177 p) (q538 p) (q645 p) (q646 p)) z)) = _
  rw [at174, at175, st21_2]
theorem at177 (p : Word) (z : S1x1.Idx) : (k0_pay180 (q177 p) (q538 p) (q645 p) (q646 p)) z = (st22 (priorKey p) 1#32).1 := by
  show (IntOp.addi ((k0_pay178 (q177 p) (q538 p) (q645 p) (q646 p)) z) ((k0_pay179 (q177 p) (q538 p) (q645 p) (q646 p)) z)) = _
  rw [at175, at176, st22_1]
theorem at178 (p : Word) (z : S1x1.Idx) : (k0_pay181 (q177 p) (q538 p) (q645 p) (q646 p)) z = (st22 (priorKey p) 1#32).2 := by
  show (turned 15#32 17#32 ((k0_pay179 (q177 p) (q538 p) (q645 p) (q646 p)) z) ((k0_pay180 (q177 p) (q538 p) (q645 p) (q646 p)) z)) = _
  rw [at176, at177, st22_2]
theorem at179 (p : Word) (z : S1x1.Idx) : (k0_pay182 (q177 p) (q538 p) (q645 p) (q646 p)) z = (st23 (priorKey p) 1#32).1 := by
  show (IntOp.addi ((k0_pay180 (q177 p) (q538 p) (q645 p) (q646 p)) z) ((k0_pay181 (q177 p) (q538 p) (q645 p) (q646 p)) z)) = _
  rw [at177, at178, st23_1]
theorem at180 (p : Word) (z : S1x1.Idx) : (k0_pay183 (q177 p) (q538 p) (q645 p) (q646 p)) z = (st23 (priorKey p) 1#32).2 := by
  show (turned 26#32 6#32 ((k0_pay181 (q177 p) (q538 p) (q645 p) (q646 p)) z) ((k0_pay182 (q177 p) (q538 p) (q645 p) (q646 p)) z)) = _
  rw [at178, at179, st23_2]
def q691 (p : Word) : IVec S1x1 32 := (k0_pay183 (q177 p) (q538 p) (q645 p) (q646 p))
theorem q691_at (p : Word) (z : S1x1.Idx) : (q691 p) z = (st23 (priorKey p) 1#32).2 := at180 p z
theorem at181 (p : Word) (z : S1x1.Idx) : (k0_pay184 (q177 p) (q538 p) (q645 p) (q646 p)) z = (st24 (priorKey p) 1#32).1 := by
  show (IntOp.addi ((k0_pay182 (q177 p) (q538 p) (q645 p) (q646 p)) z) ((k0_pay183 (q177 p) (q538 p) (q645 p) (q646 p)) z)) = _
  rw [at179, at180, st24_1]
def q692 (p : Word) : IVec S1x1 32 := (k0_pay184 (q177 p) (q538 p) (q645 p) (q646 p))
theorem q692_at (p : Word) (z : S1x1.Idx) : (q692 p) z = (st24 (priorKey p) 1#32).1 := at181 p z
theorem at182 (p : Word) (z : S1x1.Idx) : (k0_pay185 (q538 p) (q692 p)) z = (roundKey p 1#32).1 := by
  show (IntOp.addi ((q692 p) z) ((q538 p) z)) = _
  rw [q692_at, q538_at, st25_1, roundKey_def]
def q699 (p : Word) : IVec S1x1 32 := (k0_pay185 (q538 p) (q692 p))
theorem q699_at (p : Word) (z : S1x1.Idx) : (q699 p) z = (roundKey p 1#32).1 := at182 p z
theorem at183 (p : Word) (z : S1x1.Idx) : (k0_pay186 (q173 p) (q691 p) (q692 p) 6#32) z = (roundKey p 1#32).2 := by
  show (IntOp.addi (IntOp.addi (turned 6#32 26#32 ((q691 p) z) ((q692 p) z)) ((q173 p) z)) 5#32) = _
  rw [q691_at, q692_at, q173_at, st24_2, st25_2, roundKey_def]
def q702 (p : Word) : IVec S1x1 32 := (k0_pay186 (q173 p) (q691 p) (q692 p) 6#32)
theorem q702_at (p : Word) (z : S1x1.Idx) : (q702 p) z = (roundKey p 1#32).2 := at183 p z
theorem at184 (p : Word) (z : S1x1.Idx) : (k0_pay187 (q173 p) (q538 p) (q691 p) (q692 p) 6#32) z = (key3 (roundKey p 1#32).1 (roundKey p 1#32).2) := by
  show (IntOp.xori (IntOp.xori ((k0_pay185 (q538 p) (q692 p)) z) ((k0_pay186 (q173 p) (q691 p) (q692 p) 6#32) z)) 466688986#32) = _
  rw [at182, at183, key3_def]
def q706 (p : Word) : IVec S1x1 32 := (k0_pay187 (q173 p) (q538 p) (q691 p) (q692 p) 6#32)
theorem q706_at (p : Word) (z : S1x1.Idx) : (q706 p) z = (key3 (roundKey p 1#32).1 (roundKey p 1#32).2) := at184 p z
theorem at185 (p : Word) (z : S100x1000.Idx) : (k0_pay188 (q173 p) (q182 p) (q691 p) (q692 p) 6#32) z = (st0 (roundKey p 1#32) (place z)).2 := by
  show (IntOp.addi ((q182 p) z) (broadcastTo S100x1000 (k0_pay186 (q173 p) (q691 p) (q692 p) 6#32) broadcasts_S1x1_S100x1000 z)) = _
  rw [q182_at, bcast_at _ _ (at183 p), st0_2 (roundKey p 1#32) (place z)]
theorem at186 (p : Word) (z : S100x1000.Idx) : (k0_pay189 (q173 p) (q182 p) (q538 p) (q691 p) (q692 p) 6#32) z = (st1 (roundKey p 1#32) (place z)).1 := by
  show (IntOp.addi (IntOp.addi 0#32 (broadcastTo S100x1000 (k0_pay185 (q538 p) (q692 p)) broadcasts_S1x1_S100x1000 z)) ((k0_pay188 (q173 p) (q182 p) (q691 p) (q692 p) 6#32) z)) = _
  rw [bcast_at _ _ (at182 p), at185, st0_1 (roundKey p 1#32) (place z), st1_1]
theorem at187 (p : Word) (z : S100x1000.Idx) : (k0_pay190 (q173 p) (q182 p) (q538 p) (q691 p) (q692 p) 6#32) z = (st1 (roundKey p 1#32) (place z)).2 := by
  show (turned 13#32 19#32 ((k0_pay188 (q173 p) (q182 p) (q691 p) (q692 p) 6#32) z) ((k0_pay189 (q173 p) (q182 p) (q538 p) (q691 p) (q692 p) 6#32) z)) = _
  rw [at185, at186, st1_2]
theorem at188 (p : Word) (z : S100x1000.Idx) : (k0_pay191 (q173 p) (q182 p) (q538 p) (q691 p) (q692 p) 6#32) z = (st2 (roundKey p 1#32) (place z)).1 := by
  show (IntOp.addi ((k0_pay189 (q173 p) (q182 p) (q538 p) (q691 p) (q692 p) 6#32) z) ((k0_pay190 (q173 p) (q182 p) (q538 p) (q691 p) (q692 p) 6#32) z)) = _
  rw [at186, at187, st2_1]
theorem at189 (p : Word) (z : S100x1000.Idx) : (k0_pay192 (q173 p) (q182 p) (q538 p) (q691 p) (q692 p) 6#32) z = (st2 (roundKey p 1#32) (place z)).2 := by
  show (turned 15#32 17#32 ((k0_pay190 (q173 p) (q182 p) (q538 p) (q691 p) (q692 p) 6#32) z) ((k0_pay191 (q173 p) (q182 p) (q538 p) (q691 p) (q692 p) 6#32) z)) = _
  rw [at187, at188, st2_2]
theorem at190 (p : Word) (z : S100x1000.Idx) : (k0_pay193 (q173 p) (q182 p) (q538 p) (q691 p) (q692 p) 6#32) z = (st3 (roundKey p 1#32) (place z)).1 := by
  show (IntOp.addi ((k0_pay191 (q173 p) (q182 p) (q538 p) (q691 p) (q692 p) 6#32) z) ((k0_pay192 (q173 p) (q182 p) (q538 p) (q691 p) (q692 p) 6#32) z)) = _
  rw [at188, at189, st3_1]
theorem at191 (p : Word) (z : S100x1000.Idx) : (k0_pay194 (q173 p) (q182 p) (q538 p) (q691 p) (q692 p) 6#32) z = (st3 (roundKey p 1#32) (place z)).2 := by
  show (turned 26#32 6#32 ((k0_pay192 (q173 p) (q182 p) (q538 p) (q691 p) (q692 p) 6#32) z) ((k0_pay193 (q173 p) (q182 p) (q538 p) (q691 p) (q692 p) 6#32) z)) = _
  rw [at189, at190, st3_2]
theorem at192 (p : Word) (z : S100x1000.Idx) : (k0_pay195 (q173 p) (q182 p) (q538 p) (q691 p) (q692 p) 6#32) z = (st4 (roundKey p 1#32) (place z)).1 := by
  show (IntOp.addi ((k0_pay193 (q173 p) (q182 p) (q538 p) (q691 p) (q692 p) 6#32) z) ((k0_pay194 (q173 p) (q182 p) (q538 p) (q691 p) (q692 p) 6#32) z)) = _
  rw [at190, at191, st4_1]
theorem at193 (p : Word) (z : S100x1000.Idx) : (k0_pay196 (q173 p) (q182 p) (q538 p) (q691 p) (q692 p) 6#32) z = (st4 (roundKey p 1#32) (place z)).2 := by
  show (turned 6#32 26#32 ((k0_pay194 (q173 p) (q182 p) (q538 p) (q691 p) (q692 p) 6#32) z) ((k0_pay195 (q173 p) (q182 p) (q538 p) (q691 p) (q692 p) 6#32) z)) = _
  rw [at191, at192, st4_2]
def q738 (p : Word) : IVec S100x1000 32 := (k0_pay196 (q173 p) (q182 p) (q538 p) (q691 p) (q692 p) 6#32)
theorem q738_at (p : Word) (z : S100x1000.Idx) : (q738 p) z = (st4 (roundKey p 1#32) (place z)).2 := at193 p z
theorem at194 (p : Word) (z : S100x1000.Idx) : (k0_pay197 (q173 p) (q182 p) (q538 p) (q691 p) (q692 p) 6#32) z = (st5 (roundKey p 1#32) (place z)).1 := by
  show (IntOp.addi ((k0_pay195 (q173 p) (q182 p) (q538 p) (q691 p) (q692 p) 6#32) z) (broadcastTo S100x1000 (k0_pay186 (q173 p) (q691 p) (q692 p) 6#32) broadcasts_S1x1_S100x1000 z)) = _
  rw [at192, bcast_at _ _ (at183 p), st5_1]
def q740 (p : Word) : IVec S100x1000 32 := (k0_pay197 (q173 p) (q182 p) (q538 p) (q691 p) (q692 p) 6#32)
theorem q740_at (p : Word) (z : S100x1000.Idx) : (q740 p) z = (st5 (roundKey p 1#32) (place z)).1 := at194 p z
theorem at195 (p : Word) (z : S100x1000.Idx) : (k0_pay198 (q706 p) (q738 p)) z = (st5 (roundKey p 1#32) (place z)).2 := by
  show (IntOp.addi (IntOp.addi ((q738 p) z) (broadcastTo S100x1000 (q706 p) broadcasts_S1x1_S100x1000 z)) 1#32) = _
  rw [q738_at, bcast_at _ _ (q706_at p), st5_2]
theorem at196 (p : Word) (z : S100x1000.Idx) : (k0_pay199 (q706 p) (q738 p) (q740 p)) z = (st6 (roundKey p 1#32) (place z)).1 := by
  show (IntOp.addi ((q740 p) z) ((k0_pay198 (q706 p) (q738 p)) z)) = _
  rw [q740_at, at195, st6_1]
theorem at197 (p : Word) (z : S100x1000.Idx) : (k0_pay200 (q706 p) (q738 p) (q740 p)) z = (st6 (roundKey p 1#32) (place z)).2 := by
  show (turned 17#32 15#32 ((k0_pay198 (q706 p) (q738 p)) z) ((k0_pay199 (q706 p) (q738 p) (q740 p)) z)) = _
  rw [at195, at196, st6_2]
theorem at198 (p : Word) (z : S100x1000.Idx) : (k0_pay201 (q706 p) (q738 p) (q740 p)) z = (st7 (roundKey p 1#32) (place z)).1 := by
  show (IntOp.addi ((k0_pay199 (q706 p) (q738 p) (q740 p)) z) ((k0_pay200 (q706 p) (q738 p) (q740 p)) z)) = _
  rw [at196, at197, st7_1]
theorem at199 (p : Word) (z : S100x1000.Idx) : (k0_pay202 (q706 p) (q738 p) (q740 p)) z = (st7 (roundKey p 1#32) (place z)).2 := by
  show (turned 29#32 3#32 ((k0_pay200 (q706 p) (q738 p) (q740 p)) z) ((k0_pay201 (q706 p) (q738 p) (q740 p)) z)) = _
  rw [at197, at198, st7_2]
theorem at200 (p : Word) (z : S100x1000.Idx) : (k0_pay203 (q706 p) (q738 p) (q740 p)) z = (st8 (roundKey p 1#32) (place z)).1 := by
  show (IntOp.addi ((k0_pay201 (q706 p) (q738 p) (q740 p)) z) ((k0_pay202 (q706 p) (q738 p) (q740 p)) z)) = _
  rw [at198, at199, st8_1]
theorem at201 (p : Word) (z : S100x1000.Idx) : (k0_pay204 (q706 p) (q738 p) (q740 p)) z = (st8 (roundKey p 1#32) (place z)).2 := by
  show (turned 16#32 16#32 ((k0_pay202 (q706 p) (q738 p) (q740 p)) z) ((k0_pay203 (q706 p) (q738 p) (q740 p)) z)) = _
  rw [at199, at200, st8_2]
theorem at202 (p : Word) (z : S100x1000.Idx) : (k0_pay205 (q706 p) (q738 p) (q740 p)) z = (st9 (roundKey p 1#32) (place z)).1 := by
  show (IntOp.addi ((k0_pay203 (q706 p) (q738 p) (q740 p)) z) ((k0_pay204 (q706 p) (q738 p) (q740 p)) z)) = _
  rw [at200, at201, st9_1]
theorem at203 (p : Word) (z : S100x1000.Idx) : (k0_pay206 (q699 p) (q706 p) (q738 p) (q740 p)) z = (st10 (roundKey p 1#32) (place z)).2 := by
  show (IntOp.addi (IntOp.addi (turned 24#32 8#32 ((k0_pay204 (q706 p) (q738 p) (q740 p)) z) ((k0_pay205 (q706 p) (q738 p) (q740 p)) z)) (broadcastTo S100x1000 (q699 p) broadcasts_S1x1_S100x1000 z)) 2#32) = _
  rw [at201, at202, bcast_at _ _ (q699_at p), st9_2, st10_2]
theorem at204 (p : Word) (z : S100x1000.Idx) : (k0_pay207 (q699 p) (q706 p) (q738 p) (q740 p)) z = (st11 (roundKey p 1#32) (place z)).1 := by
  show (IntOp.addi (IntOp.addi ((k0_pay205 (q706 p) (q738 p) (q740 p)) z) (broadcastTo S100x1000 (q706 p) broadcasts_S1x1_S100x1000 z)) ((k0_pay206 (q699 p) (q706 p) (q738 p) (q740 p)) z)) = _
  rw [at202, bcast_at _ _ (q706_at p), at203, st10_1, st11_1]
theorem at205 (p : Word) (z : S100x1000.Idx) : (k0_pay208 (q699 p) (q706 p) (q738 p) (q740 p)) z = (st11 (roundKey p 1#32) (place z)).2 := by
  show (turned 13#32 19#32 ((k0_pay206 (q699 p) (q706 p) (q738 p) (q740 p)) z) ((k0_pay207 (q699 p) (q706 p) (q738 p) (q740 p)) z)) = _
  rw [at203, at204, st11_2]
def q785 (p : Word) : IVec S100x1000 32 := (k0_pay208 (q699 p) (q706 p) (q738 p) (q740 p))
theorem q785_at (p : Word) (z : S100x1000.Idx) : (q785 p) z = (st11 (roundKey p 1#32) (place z)).2 := at205 p z
theorem at206 (p : Word) (z : S100x1000.Idx) : (k0_pay209 (q699 p) (q706 p) (q738 p) (q740 p)) z = (st12 (roundKey p 1#32) (place z)).1 := by
  show (IntOp.addi ((k0_pay207 (q699 p) (q706 p) (q738 p) (q740 p)) z) ((k0_pay208 (q699 p) (q706 p) (q738 p) (q740 p)) z)) = _
  rw [at204, at205, st12_1]
def q786 (p : Word) : IVec S100x1000 32 := (k0_pay209 (q699 p) (q706 p) (q738 p) (q740 p))
theorem q786_at (p : Word) (z : S100x1000.Idx) : (q786 p) z = (st12 (roundKey p 1#32) (place z)).1 := at206 p z
theorem at207 (p : Word) (z : S100x1000.Idx) : k0_pay210 z = 15#32 := rfl
def q787 (p : Word) : IVec S100x1000 32 := k0_pay210
theorem q787_at (p : Word) (z : S100x1000.Idx) : (q787 p) z = 15#32 := at207 p z
theorem at208 (p : Word) (z : S100x1000.Idx) : (k0_pay211 (q785 p) (q786 p) (q787 p)) z = (st12 (roundKey p 1#32) (place z)).2 := by
  show (turned ((q787 p) z) 17#32 ((q785 p) z) ((q786 p) z)) = _
  rw [q785_at, q787_at, q786_at, st12_2]
theorem at209 (p : Word) (z : S100x1000.Idx) : (k0_pay212 (q785 p) (q786 p) (q787 p)) z = (st13 (roundKey p 1#32) (place z)).1 := by
  show (IntOp.addi ((q786 p) z) ((k0_pay211 (q785 p) (q786 p) (q787 p)) z)) = _
  rw [q786_at, at208, st13_1]
theorem at210 (p : Word) (z : S100x1000.Idx) : (k0_pay213 (q785 p) (q786 p) (q787 p)) z = (st13 (roundKey p 1#32) (place z)).2 := by
  show (turned 26#32 6#32 ((k0_pay211 (q785 p) (q786 p) (q787 p)) z) ((k0_pay212 (q785 p) (q786 p) (q787 p)) z)) = _
  rw [at208, at209, st13_2]
theorem at211 (p : Word) (z : S100x1000.Idx) : (k0_pay214 (q785 p) (q786 p) (q787 p)) z = (st14 (roundKey p 1#32) (place z)).1 := by
  show (IntOp.addi ((k0_pay212 (q785 p) (q786 p) (q787 p)) z) ((k0_pay213 (q785 p) (q786 p) (q787 p)) z)) = _
  rw [at209, at210, st14_1]
theorem at212 (p : Word) (z : S100x1000.Idx) : (k0_pay215 (q702 p) (q785 p) (q786 p) (q787 p)) z = (st15 (roundKey p 1#32) (place z)).2 := by
  show (IntOp.addi (IntOp.addi (turned 6#32 26#32 ((k0_pay213 (q785 p) (q786 p) (q787 p)) z) ((k0_pay214 (q785 p) (q786 p) (q787 p)) z)) (broadcastTo S100x1000 (q702 p) broadcasts_S1x1_S100x1000 z)) 3#32) = _
  rw [at210, at211, bcast_at _ _ (q702_at p), st14_2, st15_2]
theorem at213 (p : Word) (z : S100x1000.Idx) : (k0_pay216 (q699 p) (q702 p) (q785 p) (q786 p) (q787 p)) z = (st16 (roundKey p 1#32) (place z)).1 := by
  show (IntOp.addi (IntOp.addi ((k0_pay214 (q785 p) (q786 p) (q787 p)) z) (broadcastTo S100x1000 (q699 p) broadcasts_S1x1_S100x1000 z)) ((k0_pay215 (q702 p) (q785 p) (q786 p) (q787 p)) z)) = _
  rw [at211, bcast_at _ _ (q699_at p), at212, st15_1, st16_1]
theorem at214 (p : Word) (z : S100x1000.Idx) : (k0_pay217 (q699 p) (q702 p) (q785 p) (q786 p) (q787 p)) z = (st16 (roundKey p 1#32) (place z)).2 := by
  show (turned 17#32 15#32 ((k0_pay215 (q702 p) (q785 p) (q786 p) (q787 p)) z) ((k0_pay216 (q699 p) (q702 p) (q785 p) (q786 p) (q787 p)) z)) = _
  rw [at212, at213, st16_2]
theorem at215 (p : Word) (z : S100x1000.Idx) : (k0_pay218 (q699 p) (q702 p) (q785 p) (q786 p) (q787 p)) z = (st17 (roundKey p 1#32) (place z)).1 := by
  show (IntOp.addi ((k0_pay216 (q699 p) (q702 p) (q785 p) (q786 p) (q787 p)) z) ((k0_pay217 (q699 p) (q702 p) (q785 p) (q786 p) (q787 p)) z)) = _
  rw [at213, at214, st17_1]
theorem at216 (p : Word) (z : S100x1000.Idx) : (k0_pay219 (q699 p) (q702 p) (q785 p) (q786 p) (q787 p)) z = (st17 (roundKey p 1#32) (place z)).2 := by
  show (turned 29#32 3#32 ((k0_pay217 (q699 p) (q702 p) (q785 p) (q786 p) (q787 p)) z) ((k0_pay218 (q699 p) (q702 p) (q785 p) (q786 p) (q787 p)) z)) = _
  rw [at214, at215, st17_2]
theorem at217 (p : Word) (z : S100x1000.Idx) : (k0_pay220 (q699 p) (q702 p) (q785 p) (q786 p) (q787 p)) z = (st18 (roundKey p 1#32) (place z)).1 := by
  show (IntOp.addi ((k0_pay218 (q699 p) (q702 p) (q785 p) (q786 p) (q787 p)) z) ((k0_pay219 (q699 p) (q702 p) (q785 p) (q786 p) (q787 p)) z)) = _
  rw [at215, at216, st18_1]
theorem at218 (p : Word) (z : S100x1000.Idx) : (k0_pay221 (q699 p) (q702 p) (q785 p) (q786 p) (q787 p)) z = (st18 (roundKey p 1#32) (place z)).2 := by
  show (turned 16#32 16#32 ((k0_pay219 (q699 p) (q702 p) (q785 p) (q786 p) (q787 p)) z) ((k0_pay220 (q699 p) (q702 p) (q785 p) (q786 p) (q787 p)) z)) = _
  rw [at216, at217, st18_2]
def q833 (p : Word) : IVec S100x1000 32 := (k0_pay221 (q699 p) (q702 p) (q785 p) (q786 p) (q787 p))
theorem q833_at (p : Word) (z : S100x1000.Idx) : (q833 p) z = (st18 (roundKey p 1#32) (place z)).2 := at218 p z
theorem at219 (p : Word) (z : S100x1000.Idx) : (k0_pay222 (q699 p) (q702 p) (q785 p) (q786 p) (q787 p)) z = (st19 (roundKey p 1#32) (place z)).1 := by
  show (IntOp.addi ((k0_pay220 (q699 p) (q702 p) (q785 p) (q786 p) (q787 p)) z) ((k0_pay221 (q699 p) (q702 p) (q785 p) (q786 p) (q787 p)) z)) = _
  rw [at217, at218, st19_1]
def q834 (p : Word) : IVec S100x1000 32 := (k0_pay222 (q699 p) (q702 p) (q785 p) (q786 p) (q787 p))
theorem q834_at (p : Word) (z : S100x1000.Idx) : (q834 p) z = (st19 (roundKey p 1#32) (place z)).1 := at219 p z
theorem at220 (p : Word) (z : S100x1000.Idx) : (k0_pay223 (q699 p) (q702 p) (q706 p) (q833 p) (q834 p) 24#32) z = (bitWord p 1#32 (place z)) := by
  show (IntOp.xori (IntOp.addi (IntOp.addi (IntOp.addi (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)))) (turned 15#32 17#32 (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))) (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)))))) (turned 26#32 6#32 (turned 15#32 17#32 (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))) (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))))) (IntOp.addi (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)))) (turned 15#32 17#32 (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))) (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)))))))) (broadcastTo S100x1000 (q706 p) broadcasts_S1x1_S100x1000 z)) (IntOp.addi (IntOp.addi (turned 6#32 26#32 (turned 26#32 6#32 (turned 15#32 17#32 (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))) (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))))) (IntOp.addi (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)))) (turned 15#32 17#32 (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))) (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))))))) (IntOp.addi (IntOp.addi (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)))) (turned 15#32 17#32 (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))) (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)))))) (turned 26#32 6#32 (turned 15#32 17#32 (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))) (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))))) (IntOp.addi (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)))) (turned 15#32 17#32 (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))) (IntOp.addi (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32)) (turned 13#32 19#32 (IntOp.addi (IntOp.addi (turned 24#32 8#32 ((q833 p) z) ((q834 p) z)) (broadcastTo S100x1000 (q706 p) broadcasts_S1x1_S100x1000 z)) 4#32) (IntOp.addi (IntOp.addi ((q834 p) z) (broadcastTo S100x1000 (q702 p) broadcasts_S1x1_S100x1000 z)) (IntOp.addi (IntOp.addi (turned 24#32 8#32 ((q833 p) z) ((q834 p) z)) (broadcastTo S100x1000 (q706 p) broadcasts_S1x1_S100x1000 z)) 4#32))))))))) (broadcastTo S100x1000 (q699 p) broadcasts_S1x1_S100x1000 z)) 5#32)) = _
  rw [q834_at, bcast_at _ _ (q702_at p), q833_at, bcast_at _ _ (q706_at p), bcast_at _ _ (q699_at p), st20_1, st19_2, st20_2, st21_1, st21_2, st22_1, st22_2, st23_1, st23_2, st24_1, st25_1, st24_2, st25_2, bitWord_def]
def q881 (p : Word) : IVec S100x1000 32 := (k0_pay223 (q699 p) (q702 p) (q706 p) (q833 p) (q834 p) 24#32)
theorem q881_at (p : Word) (z : S100x1000.Idx) : (q881 p) z = (bitWord p 1#32 (place z)) := at220 p z
theorem at221 (p : Word) (z : S100x1000.Idx) : k0_pay224 z = 0#32 := rfl
def q882 (p : Word) : IVec S100x1000 32 := k0_pay224
theorem q882_at (p : Word) (z : S100x1000.Idx) : (q882 p) z = 0#32 := at221 p z
theorem at222 (p : Word) (z : S100x1000.Idx) : (k0_pay225 (q535 p) (q881 p) (q882 p)) z = (IntOp.ori (IntOp.ori 0#32 (Scalar.select (IntOp.cmpi .sge (bitWord p 0#32 (place z)) 0#32) 1#32 0#32)) (Scalar.select (IntOp.cmpi .sge (bitWord p 1#32 (place z)) 0#32) 2#32 0#32)) := by
  show (IntOp.ori ((q535 p) z) (Scalar.select (IntOp.cmpi .sge ((q881 p) z) ((q882 p) z)) 2#32 0#32)) = _
  rw [q535_at, q881_at, q882_at]
def q887 (p : Word) : IVec S100x1000 32 := (k0_pay225 (q535 p) (q881 p) (q882 p))
theorem q887_at (p : Word) (z : S100x1000.Idx) : (q887 p) z = (IntOp.ori (IntOp.ori 0#32 (Scalar.select (IntOp.cmpi .sge (bitWord p 0#32 (place z)) 0#32) 1#32 0#32)) (Scalar.select (IntOp.cmpi .sge (bitWord p 1#32 (place z)) 0#32) 2#32 0#32)) := at222 p z
theorem at223 (p : Word) (z : S1x1.Idx) : (k0_pay226 (q173 p) (q177 p)) z = (key3 (priorKey p).1 (priorKey p).2) := by
  show (IntOp.xori (IntOp.xori ((q173 p) z) ((q177 p) z)) 466688986#32) = _
  rw [q173_at, q177_at, key3_def]
def q890 (p : Word) : IVec S1x1 32 := (k0_pay226 (q173 p) (q177 p))
theorem q890_at (p : Word) (z : S1x1.Idx) : (q890 p) z = (key3 (priorKey p).1 (priorKey p).2) := at223 p z
theorem at224 (p : Word) (z : S1x1.Idx) : (k0_pay227 (q177 p)) z = (st0 (priorKey p) 2#32).2 := by
  show (IntOp.addi 2#32 ((q177 p) z)) = _
  rw [q177_at, st0_2 (priorKey p) 2#32]
theorem at225 (p : Word) (z : S1x1.Idx) : (k0_pay228 (q173 p) (q177 p)) z = (st1 (priorKey p) 2#32).1 := by
  show (IntOp.addi (IntOp.addi 0#32 ((q173 p) z)) ((k0_pay227 (q177 p)) z)) = _
  rw [q173_at, at224, st0_1 (priorKey p) 2#32, st1_1]
theorem at226 (p : Word) (z : S1x1.Idx) : (k0_pay229 (q173 p) (q177 p)) z = (st1 (priorKey p) 2#32).2 := by
  show (turned 13#32 19#32 ((k0_pay227 (q177 p)) z) ((k0_pay228 (q173 p) (q177 p)) z)) = _
  rw [at224, at225, st1_2]
theorem at227 (p : Word) (z : S1x1.Idx) : (k0_pay230 (q173 p) (q177 p)) z = (st2 (priorKey p) 2#32).1 := by
  show (IntOp.addi ((k0_pay228 (q173 p) (q177 p)) z) ((k0_pay229 (q173 p) (q177 p)) z)) = _
  rw [at225, at226, st2_1]
theorem at228 (p : Word) (z : S1x1.Idx) : (k0_pay231 (q173 p) (q177 p)) z = (st2 (priorKey p) 2#32).2 := by
  show (turned 15#32 17#32 ((k0_pay229 (q173 p) (q177 p)) z) ((k0_pay230 (q173 p) (q177 p)) z)) = _
  rw [at226, at227, st2_2]
theorem at229 (p : Word) (z : S1x1.Idx) : (k0_pay232 (q173 p) (q177 p)) z = (st3 (priorKey p) 2#32).1 := by
  show (IntOp.addi ((k0_pay230 (q173 p) (q177 p)) z) ((k0_pay231 (q173 p) (q177 p)) z)) = _
  rw [at227, at228, st3_1]
theorem at230 (p : Word) (z : S1x1.Idx) : (k0_pay233 (q173 p) (q177 p)) z = (st3 (priorKey p) 2#32).2 := by
  show (turned 26#32 6#32 ((k0_pay231 (q173 p) (q177 p)) z) ((k0_pay232 (q173 p) (q177 p)) z)) = _
  rw [at228, at229, st3_2]
theorem at231 (p : Word) (z : S1x1.Idx) : (k0_pay234 (q173 p) (q177 p)) z = (st4 (priorKey p) 2#32).1 := by
  show (IntOp.addi ((k0_pay232 (q173 p) (q177 p)) z) ((k0_pay233 (q173 p) (q177 p)) z)) = _
  rw [at229, at230, st4_1]
theorem at232 (p : Word) (z : S1x1.Idx) : (k0_pay235 (q173 p) (q177 p)) z = (st5 (priorKey p) 2#32).2 := by
  show (IntOp.addi (IntOp.addi (turned 6#32 26#32 ((k0_pay233 (q173 p) (q177 p)) z) ((k0_pay234 (q173 p) (q177 p)) z)) ((k0_pay226 (q173 p) (q177 p)) z)) 1#32) = _
  rw [at230, at231, at223, st4_2, st5_2]
def q926 (p : Word) : IVec S1x1 32 := (k0_pay235 (q173 p) (q177 p))
theorem q926_at (p : Word) (z : S1x1.Idx) : (q926 p) z = (st5 (priorKey p) 2#32).2 := at232 p z
theorem at233 (p : Word) (z : S1x1.Idx) : (k0_pay236 (q173 p) (q177 p)) z = (st6 (priorKey p) 2#32).1 := by
  show (IntOp.addi (IntOp.addi ((k0_pay234 (q173 p) (q177 p)) z) ((q177 p) z)) ((k0_pay235 (q173 p) (q177 p)) z)) = _
  rw [at231, q177_at, at232, st5_1, st6_1]
def q927 (p : Word) : IVec S1x1 32 := (k0_pay236 (q173 p) (q177 p))
theorem q927_at (p : Word) (z : S1x1.Idx) : (q927 p) z = (st6 (priorKey p) 2#32).1 := at233 p z
theorem at234 (p : Word) (z : S1x1.Idx) : (k0_pay237 (q926 p) (q927 p) 17#32) z = (st6 (priorKey p) 2#32).2 := by
  show (turned 17#32 15#32 ((q926 p) z) ((q927 p) z)) = _
  rw [q926_at, q927_at, st6_2]
theorem at235 (p : Word) (z : S1x1.Idx) : (k0_pay238 (q926 p) (q927 p) 17#32) z = (st7 (priorKey p) 2#32).1 := by
  show (IntOp.addi ((q927 p) z) ((k0_pay237 (q926 p) (q927 p) 17#32) z)) = _
  rw [q927_at, at234, st7_1]
theorem at236 (p : Word) (z : S1x1.Idx) : (k0_pay239 (q926 p) (q927 p) 17#32) z = (st7 (priorKey p) 2#32).2 := by
  show (turned 29#32 3#32 ((k0_pay237 (q926 p) (q927 p) 17#32) z) ((k0_pay238 (q926 p) (q927 p) 17#32) z)) = _
  rw [at234, at235, st7_2]
theorem at237 (p : Word) (z : S1x1.Idx) : (k0_pay240 (q926 p) (q927 p) 17#32) z = (st8 (priorKey p) 2#32).1 := by
  show (IntOp.addi ((k0_pay238 (q926 p) (q927 p) 17#32) z) ((k0_pay239 (q926 p) (q927 p) 17#32) z)) = _
  rw [at235, at236, st8_1]
theorem at238 (p : Word) (z : S1x1.Idx) : (k0_pay241 (q926 p) (q927 p) 17#32) z = (st8 (priorKey p) 2#32).2 := by
  show (turned 16#32 16#32 ((k0_pay239 (q926 p) (q927 p) 17#32) z) ((k0_pay240 (q926 p) (q927 p) 17#32) z)) = _
  rw [at236, at237, st8_2]
theorem at239 (p : Word) (z : S1x1.Idx) : (k0_pay242 (q926 p) (q927 p) 17#32) z = (st9 (priorKey p) 2#32).1 := by
  show (IntOp.addi ((k0_pay240 (q926 p) (q927 p) 17#32) z) ((k0_pay241 (q926 p) (q927 p) 17#32) z)) = _
  rw [at237, at238, st9_1]
theorem at240 (p : Word) (z : S1x1.Idx) : (k0_pay243 (q173 p) (q926 p) (q927 p) 17#32) z = (st10 (priorKey p) 2#32).2 := by
  show (IntOp.addi (IntOp.addi (turned 24#32 8#32 ((k0_pay241 (q926 p) (q927 p) 17#32) z) ((k0_pay242 (q926 p) (q927 p) 17#32) z)) ((q173 p) z)) 2#32) = _
  rw [at238, at239, q173_at, st9_2, st10_2]
theorem at241 (p : Word) (z : S1x1.Idx) : (k0_pay244 (q173 p) (q890 p) (q926 p) (q927 p) 17#32) z = (st11 (priorKey p) 2#32).1 := by
  show (IntOp.addi (IntOp.addi ((k0_pay242 (q926 p) (q927 p) 17#32) z) ((q890 p) z)) ((k0_pay243 (q173 p) (q926 p) (q927 p) 17#32) z)) = _
  rw [at239, q890_at, at240, st10_1, st11_1]
theorem at242 (p : Word) (z : S1x1.Idx) : (k0_pay245 (q173 p) (q890 p) (q926 p) (q927 p) 17#32) z = (st11 (priorKey p) 2#32).2 := by
  show (turned 13#32 19#32 ((k0_pay243 (q173 p) (q926 p) (q927 p) 17#32) z) ((k0_pay244 (q173 p) (q890 p) (q926 p) (q927 p) 17#32) z)) = _
  rw [at240, at241, st11_2]
theorem at243 (p : Word) (z : S1x1.Idx) : (k0_pay246 (q173 p) (q890 p) (q926 p) (q927 p) 17#32) z = (st12 (priorKey p) 2#32).1 := by
  show (IntOp.addi ((k0_pay244 (q173 p) (q890 p) (q926 p) (q927 p) 17#32) z) ((k0_pay245 (q173 p) (q890 p) (q926 p) (q927 p) 17#32) z)) = _
  rw [at241, at242, st12_1]
theorem at244 (p : Word) (z : S1x1.Idx) : (k0_pay247 (q173 p) (q890 p) (q926 p) (q927 p) 17#32) z = (st12 (priorKey p) 2#32).2 := by
  show (turned 15#32 17#32 ((k0_pay245 (q173 p) (q890 p) (q926 p) (q927 p) 17#32) z) ((k0_pay246 (q173 p) (q890 p) (q926 p) (q927 p) 17#32) z)) = _
  rw [at242, at243, st12_2]
def q972 (p : Word) : IVec S1x1 32 := (k0_pay247 (q173 p) (q890 p) (q926 p) (q927 p) 17#32)
theorem q972_at (p : Word) (z : S1x1.Idx) : (q972 p) z = (st12 (priorKey p) 2#32).2 := at244 p z
theorem at245 (p : Word) (z : S1x1.Idx) : (k0_pay248 (q173 p) (q890 p) (q926 p) (q927 p) 17#32) z = (st13 (priorKey p) 2#32).1 := by
  show (IntOp.addi ((k0_pay246 (q173 p) (q890 p) (q926 p) (q927 p) 17#32) z) ((k0_pay247 (q173 p) (q890 p) (q926 p) (q927 p) 17#32) z)) = _
  rw [at243, at244, st13_1]
def q973 (p : Word) : IVec S1x1 32 := (k0_pay248 (q173 p) (q890 p) (q926 p) (q927 p) 17#32)
theorem q973_at (p : Word) (z : S1x1.Idx) : (q973 p) z = (st13 (priorKey p) 2#32).1 := at245 p z

end Cert.Sampler

end
-- ==== Proof.KBits.lean ====
/- The words of the first kernel, element by element: each vector of the printed body is a stage of the cipher. -/
module

public import proofs.«01_k».proof.Proof.Gen.KernelIdeal.Skeleton
public import proofs.«01_k».proof.Proof.KBitsA
public import Idealize.ShloMosaic.PureOps.Ideal

@[expose] public section

set_option maxRecDepth 65536

noncomputable section

namespace Cert.Sampler

open Idealize.ShloMosaic Idealize.ShloMosaic.TcCoe
open Cert.KernelIdeal Cert.KernelIdeal.Gen

theorem at246 (p : Word) (z : S1x1.Idx) : k0_pay249 z = 26#32 := rfl
def q974 (p : Word) : IVec S1x1 32 := k0_pay249
theorem q974_at (p : Word) (z : S1x1.Idx) : (q974 p) z = 26#32 := at246 p z
theorem at247 (p : Word) (z : S1x1.Idx) : (k0_pay250 (q972 p) (q973 p) (q974 p)) z = (st13 (priorKey p) 2#32).2 := by
  show (turned ((q974 p) z) 6#32 ((q972 p) z) ((q973 p) z)) = _
  rw [q972_at, q974_at, q973_at, st13_2]
theorem at248 (p : Word) (z : S1x1.Idx) : (k0_pay251 (q972 p) (q973 p) (q974 p)) z = (st14 (priorKey p) 2#32).1 := by
  show (IntOp.addi ((q973 p) z) ((k0_pay250 (q972 p) (q973 p) (q974 p)) z)) = _
  rw [q973_at, at247, st14_1]
theorem at249 (p : Word) (z : S1x1.Idx) : (k0_pay252 (q177 p) (q972 p) (q973 p) (q974 p)) z = (st15 (priorKey p) 2#32).2 := by
  show (IntOp.addi (IntOp.addi (turned 6#32 26#32 ((k0_pay250 (q972 p) (q973 p) (q974 p)) z) ((k0_pay251 (q972 p) (q973 p) (q974 p)) z)) ((q177 p) z)) 3#32) = _
  rw [at247, at248, q177_at, st14_2, st15_2]
theorem at250 (p : Word) (z : S1x1.Idx) : (k0_pay253 (q173 p) (q177 p) (q972 p) (q973 p) (q974 p)) z = (st16 (priorKey p) 2#32).1 := by
  show (IntOp.addi (IntOp.addi ((k0_pay251 (q972 p) (q973 p) (q974 p)) z) ((q173 p) z)) ((k0_pay252 (q177 p) (q972 p) (q973 p) (q974 p)) z)) = _
  rw [at248, q173_at, at249, st15_1, st16_1]
theorem at251 (p : Word) (z : S1x1.Idx) : (k0_pay254 (q173 p) (q177 p) (q972 p) (q973 p) (q974 p)) z = (st16 (priorKey p) 2#32).2 := by
  show (turned 17#32 15#32 ((k0_pay252 (q177 p) (q972 p) (q973 p) (q974 p)) z) ((k0_pay253 (q173 p) (q177 p) (q972 p) (q973 p) (q974 p)) z)) = _
  rw [at249, at250, st16_2]
theorem at252 (p : Word) (z : S1x1.Idx) : (k0_pay255 (q173 p) (q177 p) (q972 p) (q973 p) (q974 p)) z = (st17 (priorKey p) 2#32).1 := by
  show (IntOp.addi ((k0_pay253 (q173 p) (q177 p) (q972 p) (q973 p) (q974 p)) z) ((k0_pay254 (q173 p) (q177 p) (q972 p) (q973 p) (q974 p)) z)) = _
  rw [at250, at251, st17_1]
theorem at253 (p : Word) (z : S1x1.Idx) : (k0_pay256 (q173 p) (q177 p) (q972 p) (q973 p) (q974 p)) z = (st17 (priorKey p) 2#32).2 := by
  show (turned 29#32 3#32 ((k0_pay254 (q173 p) (q177 p) (q972 p) (q973 p) (q974 p)) z) ((k0_pay255 (q173 p) (q177 p) (q972 p) (q973 p) (q974 p)) z)) = _
  rw [at251, at252, st17_2]
theorem at254 (p : Word) (z : S1x1.Idx) : (k0_pay257 (q173 p) (q177 p) (q972 p) (q973 p) (q974 p)) z = (st18 (priorKey p) 2#32).1 := by
  show (IntOp.addi ((k0_pay255 (q173 p) (q177 p) (q972 p) (q973 p) (q974 p)) z) ((k0_pay256 (q173 p) (q177 p) (q972 p) (q973 p) (q974 p)) z)) = _
  rw [at252, at253, st18_1]
theorem at255 (p : Word) (z : S1x1.Idx) : (k0_pay258 (q173 p) (q177 p) (q972 p) (q973 p) (q974 p)) z = (st18 (priorKey p) 2#32).2 := by
  show (turned 16#32 16#32 ((k0_pay256 (q173 p) (q177 p) (q972 p) (q973 p) (q974 p)) z) ((k0_pay257 (q173 p) (q177 p) (q972 p) (q973 p) (q974 p)) z)) = _
  rw [at253, at254, st18_2]
theorem at256 (p : Word) (z : S1x1.Idx) : (k0_pay259 (q173 p) (q177 p) (q972 p) (q973 p) (q974 p)) z = (st19 (priorKey p) 2#32).1 := by
  show (IntOp.addi ((k0_pay257 (q173 p) (q177 p) (q972 p) (q973 p) (q974 p)) z) ((k0_pay258 (q173 p) (q177 p) (q972 p) (q973 p) (q974 p)) z)) = _
  rw [at254, at255, st19_1]
theorem at257 (p : Word) (z : S1x1.Idx) : (k0_pay260 (q173 p) (q177 p) (q972 p) (q973 p) (q974 p)) z = (st20 (priorKey p) 2#32).1 := by
  show (IntOp.addi ((k0_pay259 (q173 p) (q177 p) (q972 p) (q973 p) (q974 p)) z) ((q177 p) z)) = _
  rw [at256, q177_at, st20_1]
def q1019 (p : Word) : IVec S1x1 32 := (k0_pay260 (q173 p) (q177 p) (q972 p) (q973 p) (q974 p))
theorem q1019_at (p : Word) (z : S1x1.Idx) : (q1019 p) z = (st20 (priorKey p) 2#32).1 := at257 p z
theorem at258 (p : Word) (z : S1x1.Idx) : (k0_pay261 (q173 p) (q177 p) (q890 p) (q972 p) (q973 p) (q974 p)) z = (IntOp.addi (st19 (priorKey p) 2#32).2 (key3 (priorKey p).1 (priorKey p).2)) := by
  show (IntOp.addi (turned 24#32 8#32 ((k0_pay258 (q173 p) (q177 p) (q972 p) (q973 p) (q974 p)) z) ((k0_pay259 (q173 p) (q177 p) (q972 p) (q973 p) (q974 p)) z)) ((q890 p) z)) = _
  rw [at255, at256, q890_at, st19_2]
def q1020 (p : Word) : IVec S1x1 32 := (k0_pay261 (q173 p) (q177 p) (q890 p) (q972 p) (q973 p) (q974 p))
theorem q1020_at (p : Word) (z : S1x1.Idx) : (q1020 p) z = (IntOp.addi (st19 (priorKey p) 2#32).2 (key3 (priorKey p).1 (priorKey p).2)) := at258 p z
theorem at259 (p : Word) (z : S1x1.Idx) : k0_pay262 z = 4#32 := rfl
def q1021 (p : Word) : IVec S1x1 32 := k0_pay262
theorem q1021_at (p : Word) (z : S1x1.Idx) : (q1021 p) z = 4#32 := at259 p z
theorem at260 (p : Word) (z : S1x1.Idx) : (k0_pay263 (q1020 p) (q1021 p)) z = (st20 (priorKey p) 2#32).2 := by
  show (IntOp.addi ((q1020 p) z) ((q1021 p) z)) = _
  rw [q1020_at, q1021_at, st20_2]
theorem at261 (p : Word) (z : S1x1.Idx) : (k0_pay264 (q1019 p) (q1020 p) (q1021 p)) z = (st21 (priorKey p) 2#32).1 := by
  show (IntOp.addi ((q1019 p) z) ((k0_pay263 (q1020 p) (q1021 p)) z)) = _
  rw [q1019_at, at260, st21_1]
theorem at262 (p : Word) (z : S1x1.Idx) : (k0_pay265 (q1019 p) (q1020 p) (q1021 p)) z = (st21 (priorKey p) 2#32).2 := by
  show (turned 13#32 19#32 ((k0_pay263 (q1020 p) (q1021 p)) z) ((k0_pay264 (q1019 p) (q1020 p) (q1021 p)) z)) = _
  rw [at260, at261, st21_2]
theorem at263 (p : Word) (z : S1x1.Idx) : (k0_pay266 (q1019 p) (q1020 p) (q1021 p)) z = (st22 (priorKey p) 2#32).1 := by
  show (IntOp.addi ((k0_pay264 (q1019 p) (q1020 p) (q1021 p)) z) ((k0_pay265 (q1019 p) (q1020 p) (q1021 p)) z)) = _
  rw [at261, at262, st22_1]
theorem at264 (p : Word) (z : S1x1.Idx) : (k0_pay267 (q1019 p) (q1020 p) (q1021 p)) z = (st22 (priorKey p) 2#32).2 := by
  show (turned 15#32 17#32 ((k0_pay265 (q1019 p) (q1020 p) (q1021 p)) z) ((k0_pay266 (q1019 p) (q1020 p) (q1021 p)) z)) = _
  rw [at262, at263, st22_2]
theorem at265 (p : Word) (z : S1x1.Idx) : (k0_pay268 (q1019 p) (q1020 p) (q1021 p)) z = (st23 (priorKey p) 2#32).1 := by
  show (IntOp.addi ((k0_pay266 (q1019 p) (q1020 p) (q1021 p)) z) ((k0_pay267 (q1019 p) (q1020 p) (q1021 p)) z)) = _
  rw [at263, at264, st23_1]
theorem at266 (p : Word) (z : S1x1.Idx) : (k0_pay269 (q1019 p) (q1020 p) (q1021 p)) z = (st23 (priorKey p) 2#32).2 := by
  show (turned 26#32 6#32 ((k0_pay267 (q1019 p) (q1020 p) (q1021 p)) z) ((k0_pay268 (q1019 p) (q1020 p) (q1021 p)) z)) = _
  rw [at264, at265, st23_2]
theorem at267 (p : Word) (z : S1x1.Idx) : (k0_pay270 (q1019 p) (q1020 p) (q1021 p)) z = (st24 (priorKey p) 2#32).1 := by
  show (IntOp.addi ((k0_pay268 (q1019 p) (q1020 p) (q1021 p)) z) ((k0_pay269 (q1019 p) (q1020 p) (q1021 p)) z)) = _
  rw [at265, at266, st24_1]
theorem at268 (p : Word) (z : S1x1.Idx) : (k0_pay271 (q890 p) (q1019 p) (q1020 p) (q1021 p)) z = (roundKey p 2#32).1 := by
  show (IntOp.addi ((k0_pay270 (q1019 p) (q1020 p) (q1021 p)) z) ((q890 p) z)) = _
  rw [at267, q890_at, st25_1, roundKey_def]
def q1051 (p : Word) : IVec S1x1 32 := (k0_pay271 (q890 p) (q1019 p) (q1020 p) (q1021 p))
theorem q1051_at (p : Word) (z : S1x1.Idx) : (q1051 p) z = (roundKey p 2#32).1 := at268 p z
theorem at269 (p : Word) (z : S1x1.Idx) : (k0_pay272 (q173 p) (q1019 p) (q1020 p) (q1021 p)) z = (roundKey p 2#32).2 := by
  show (IntOp.addi (IntOp.addi (turned 6#32 26#32 ((k0_pay269 (q1019 p) (q1020 p) (q1021 p)) z) ((k0_pay270 (q1019 p) (q1020 p) (q1021 p)) z)) ((q173 p) z)) 5#32) = _
  rw [at266, at267, q173_at, st24_2, st25_2, roundKey_def]
def q1054 (p : Word) : IVec S1x1 32 := (k0_pay272 (q173 p) (q1019 p) (q1020 p) (q1021 p))
theorem q1054_at (p : Word) (z : S1x1.Idx) : (q1054 p) z = (roundKey p 2#32).2 := at269 p z
theorem at270 (p : Word) (z : S1x1.Idx) : (k0_pay273 (q173 p) (q890 p) (q1019 p) (q1020 p) (q1021 p)) z = (key3 (roundKey p 2#32).1 (roundKey p 2#32).2) := by
  show (IntOp.xori (IntOp.xori ((k0_pay271 (q890 p) (q1019 p) (q1020 p) (q1021 p)) z) ((k0_pay272 (q173 p) (q1019 p) (q1020 p) (q1021 p)) z)) 466688986#32) = _
  rw [at268, at269, key3_def]
def q1058 (p : Word) : IVec S1x1 32 := (k0_pay273 (q173 p) (q890 p) (q1019 p) (q1020 p) (q1021 p))
theorem q1058_at (p : Word) (z : S1x1.Idx) : (q1058 p) z = (key3 (roundKey p 2#32).1 (roundKey p 2#32).2) := at270 p z
theorem at271 (p : Word) (z : S100x1000.Idx) : (k0_pay274 (q173 p) (q182 p) (q1019 p) (q1020 p) (q1021 p)) z = (st0 (roundKey p 2#32) (place z)).2 := by
  show (IntOp.addi ((q182 p) z) (broadcastTo S100x1000 (k0_pay272 (q173 p) (q1019 p) (q1020 p) (q1021 p)) broadcasts_S1x1_S100x1000 z)) = _
  rw [q182_at, bcast_at _ _ (at269 p), st0_2 (roundKey p 2#32) (place z)]
theorem at272 (p : Word) (z : S100x1000.Idx) : (k0_pay275 (q173 p) (q182 p) (q890 p) (q1019 p) (q1020 p) (q1021 p)) z = (st1 (roundKey p 2#32) (place z)).1 := by
  show (IntOp.addi (IntOp.addi 0#32 (broadcastTo S100x1000 (k0_pay271 (q890 p) (q1019 p) (q1020 p) (q1021 p)) broadcasts_S1x1_S100x1000 z)) ((k0_pay274 (q173 p) (q182 p) (q1019 p) (q1020 p) (q1021 p)) z)) = _
  rw [bcast_at _ _ (at268 p), at271, st0_1 (roundKey p 2#32) (place z), st1_1]
def q1063 (p : Word) : IVec S100x1000 32 := (k0_pay275 (q173 p) (q182 p) (q890 p) (q1019 p) (q1020 p) (q1021 p))
theorem q1063_at (p : Word) (z : S100x1000.Idx) : (q1063 p) z = (st1 (roundKey p 2#32) (place z)).1 := at272 p z
theorem at273 (p : Word) (z : S100x1000.Idx) : (k0_pay276 (q173 p) (q182 p) (q1019 p) (q1020 p) (q1021 p)) z = (IntOp.ori (IntOp.shli .vector (st0 (roundKey p 2#32) (place z)).2 13#32) (IntOp.shrui .vector (st0 (roundKey p 2#32) (place z)).2 19#32)) := by
  show (IntOp.ori (IntOp.shli .vector ((k0_pay274 (q173 p) (q182 p) (q1019 p) (q1020 p) (q1021 p)) z) 13#32) (IntOp.shrui .vector ((k0_pay274 (q173 p) (q182 p) (q1019 p) (q1020 p) (q1021 p)) z) 19#32)) = _
  rw [at271]
def q1068 (p : Word) : IVec S100x1000 32 := (k0_pay276 (q173 p) (q182 p) (q1019 p) (q1020 p) (q1021 p))
theorem q1068_at (p : Word) (z : S100x1000.Idx) : (q1068 p) z = (IntOp.ori (IntOp.shli .vector (st0 (roundKey p 2#32) (place z)).2 13#32) (IntOp.shrui .vector (st0 (roundKey p 2#32) (place z)).2 19#32)) := at273 p z
theorem at274 (p : Word) (z : S100x1000.Idx) : (k0_pay277 (q1063 p) (q1068 p)) z = (st1 (roundKey p 2#32) (place z)).2 := by
  show (IntOp.xori ((q1068 p) z) ((q1063 p) z)) = _
  rw [q1068_at, q1063_at, st1_2']
theorem at275 (p : Word) (z : S100x1000.Idx) : (k0_pay278 (q1063 p) (q1068 p)) z = (st2 (roundKey p 2#32) (place z)).1 := by
  show (IntOp.addi ((q1063 p) z) ((k0_pay277 (q1063 p) (q1068 p)) z)) = _
  rw [q1063_at, at274, st2_1]
theorem at276 (p : Word) (z : S100x1000.Idx) : (k0_pay279 (q1063 p) (q1068 p)) z = (st2 (roundKey p 2#32) (place z)).2 := by
  show (turned 15#32 17#32 ((k0_pay277 (q1063 p) (q1068 p)) z) ((k0_pay278 (q1063 p) (q1068 p)) z)) = _
  rw [at274, at275, st2_2]
theorem at277 (p : Word) (z : S100x1000.Idx) : (k0_pay280 (q1063 p) (q1068 p)) z = (st3 (roundKey p 2#32) (place z)).1 := by
  show (IntOp.addi ((k0_pay278 (q1063 p) (q1068 p)) z) ((k0_pay279 (q1063 p) (q1068 p)) z)) = _
  rw [at275, at276, st3_1]
theorem at278 (p : Word) (z : S100x1000.Idx) : (k0_pay281 (q1063 p) (q1068 p)) z = (st3 (roundKey p 2#32) (place z)).2 := by
  show (turned 26#32 6#32 ((k0_pay279 (q1063 p) (q1068 p)) z) ((k0_pay280 (q1063 p) (q1068 p)) z)) = _
  rw [at276, at277, st3_2]
theorem at279 (p : Word) (z : S100x1000.Idx) : (k0_pay282 (q1063 p) (q1068 p)) z = (st4 (roundKey p 2#32) (place z)).1 := by
  show (IntOp.addi ((k0_pay280 (q1063 p) (q1068 p)) z) ((k0_pay281 (q1063 p) (q1068 p)) z)) = _
  rw [at277, at278, st4_1]
theorem at280 (p : Word) (z : S100x1000.Idx) : (k0_pay283 (q1058 p) (q1063 p) (q1068 p)) z = (st5 (roundKey p 2#32) (place z)).2 := by
  show (IntOp.addi (IntOp.addi (turned 6#32 26#32 ((k0_pay281 (q1063 p) (q1068 p)) z) ((k0_pay282 (q1063 p) (q1068 p)) z)) (broadcastTo S100x1000 (q1058 p) broadcasts_S1x1_S100x1000 z)) 1#32) = _
  rw [at278, at279, bcast_at _ _ (q1058_at p), st4_2, st5_2]
theorem at281 (p : Word) (z : S100x1000.Idx) : (k0_pay284 (q1054 p) (q1058 p) (q1063 p) (q1068 p)) z = (st6 (roundKey p 2#32) (place z)).1 := by
  show (IntOp.addi (IntOp.addi ((k0_pay282 (q1063 p) (q1068 p)) z) (broadcastTo S100x1000 (q1054 p) broadcasts_S1x1_S100x1000 z)) ((k0_pay283 (q1058 p) (q1063 p) (q1068 p)) z)) = _
  rw [at279, bcast_at _ _ (q1054_at p), at280, st5_1, st6_1]
theorem at282 (p : Word) (z : S100x1000.Idx) : (k0_pay285 (q1054 p) (q1058 p) (q1063 p) (q1068 p)) z = (st6 (roundKey p 2#32) (place z)).2 := by
  show (turned 17#32 15#32 ((k0_pay283 (q1058 p) (q1063 p) (q1068 p)) z) ((k0_pay284 (q1054 p) (q1058 p) (q1063 p) (q1068 p)) z)) = _
  rw [at280, at281, st6_2]
theorem at283 (p : Word) (z : S100x1000.Idx) : (k0_pay286 (q1054 p) (q1058 p) (q1063 p) (q1068 p)) z = (st7 (roundKey p 2#32) (place z)).1 := by
  show (IntOp.addi ((k0_pay284 (q1054 p) (q1058 p) (q1063 p) (q1068 p)) z) ((k0_pay285 (q1054 p) (q1058 p) (q1063 p) (q1068 p)) z)) = _
  rw [at281, at282, st7_1]
theorem at284 (p : Word) (z : S100x1000.Idx) : (k0_pay287 (q1054 p) (q1058 p) (q1063 p) (q1068 p)) z = (st7 (roundKey p 2#32) (place z)).2 := by
  show (turned 29#32 3#32 ((k0_pay285 (q1054 p) (q1058 p) (q1063 p) (q1068 p)) z) ((k0_pay286 (q1054 p) (q1058 p) (q1063 p) (q1068 p)) z)) = _
  rw [at282, at283, st7_2]
theorem at285 (p : Word) (z : S100x1000.Idx) : (k0_pay288 (q1054 p) (q1058 p) (q1063 p) (q1068 p)) z = (st8 (roundKey p 2#32) (place z)).1 := by
  show (IntOp.addi ((k0_pay286 (q1054 p) (q1058 p) (q1063 p) (q1068 p)) z) ((k0_pay287 (q1054 p) (q1058 p) (q1063 p) (q1068 p)) z)) = _
  rw [at283, at284, st8_1]
def q1111 (p : Word) : IVec S100x1000 32 := (k0_pay288 (q1054 p) (q1058 p) (q1063 p) (q1068 p))
theorem q1111_at (p : Word) (z : S100x1000.Idx) : (q1111 p) z = (st8 (roundKey p 2#32) (place z)).1 := at285 p z
theorem at286 (p : Word) (z : S100x1000.Idx) : (k0_pay289 (q1054 p) (q1058 p) (q1063 p) (q1068 p)) z = (IntOp.shli .vector (st7 (roundKey p 2#32) (place z)).2 16#32) := by
  show (IntOp.shli .vector ((k0_pay287 (q1054 p) (q1058 p) (q1063 p) (q1068 p)) z) 16#32) = _
  rw [at284]
def q1113 (p : Word) : IVec S100x1000 32 := (k0_pay289 (q1054 p) (q1058 p) (q1063 p) (q1068 p))
theorem q1113_at (p : Word) (z : S100x1000.Idx) : (q1113 p) z = (IntOp.shli .vector (st7 (roundKey p 2#32) (place z)).2 16#32) := at286 p z
theorem at287 (p : Word) (z : S100x1000.Idx) : (k0_pay290 (q1054 p) (q1058 p) (q1063 p) (q1068 p)) z = (IntOp.shrui .vector (st7 (roundKey p 2#32) (place z)).2 16#32) := by
  show (IntOp.shrui .vector ((k0_pay287 (q1054 p) (q1058 p) (q1063 p) (q1068 p)) z) 16#32) = _
  rw [at284]
def q1115 (p : Word) : IVec S100x1000 32 := (k0_pay290 (q1054 p) (q1058 p) (q1063 p) (q1068 p))
theorem q1115_at (p : Word) (z : S100x1000.Idx) : (q1115 p) z = (IntOp.shrui .vector (st7 (roundKey p 2#32) (place z)).2 16#32) := at287 p z
theorem at288 (p : Word) (z : S100x1000.Idx) : (k0_pay291 (q1111 p) (q1113 p) (q1115 p)) z = (st8 (roundKey p 2#32) (place z)).2 := by
  show (IntOp.xori (IntOp.ori ((q1113 p) z) ((q1115 p) z)) ((q1111 p) z)) = _
  rw [q1113_at, q1115_at, q1111_at, st8_2']
theorem at289 (p : Word) (z : S100x1000.Idx) : (k0_pay292 (q1111 p) (q1113 p) (q1115 p)) z = (st9 (roundKey p 2#32) (place z)).1 := by
  show (IntOp.addi ((q1111 p) z) ((k0_pay291 (q1111 p) (q1113 p) (q1115 p)) z)) = _
  rw [q1111_at, at288, st9_1]
theorem at290 (p : Word) (z : S100x1000.Idx) : (k0_pay293 (q1051 p) (q1111 p) (q1113 p) (q1115 p)) z = (st10 (roundKey p 2#32) (place z)).2 := by
  show (IntOp.addi (IntOp.addi (turned 24#32 8#32 ((k0_pay291 (q1111 p) (q1113 p) (q1115 p)) z) ((k0_pay292 (q1111 p) (q1113 p) (q1115 p)) z)) (broadcastTo S100x1000 (q1051 p) broadcasts_S1x1_S100x1000 z)) 2#32) = _
  rw [at288, at289, bcast_at _ _ (q1051_at p), st9_2, st10_2]
theorem at291 (p : Word) (z : S100x1000.Idx) : (k0_pay294 (q1051 p) (q1058 p) (q1111 p) (q1113 p) (q1115 p)) z = (st11 (roundKey p 2#32) (place z)).1 := by
  show (IntOp.addi (IntOp.addi ((k0_pay292 (q1111 p) (q1113 p) (q1115 p)) z) (broadcastTo S100x1000 (q1058 p) broadcasts_S1x1_S100x1000 z)) ((k0_pay293 (q1051 p) (q1111 p) (q1113 p) (q1115 p)) z)) = _
  rw [at289, bcast_at _ _ (q1058_at p), at290, st10_1, st11_1]
theorem at292 (p : Word) (z : S100x1000.Idx) : (k0_pay295 (q1051 p) (q1058 p) (q1111 p) (q1113 p) (q1115 p)) z = (st11 (roundKey p 2#32) (place z)).2 := by
  show (turned 13#32 19#32 ((k0_pay293 (q1051 p) (q1111 p) (q1113 p) (q1115 p)) z) ((k0_pay294 (q1051 p) (q1058 p) (q1111 p) (q1113 p) (q1115 p)) z)) = _
  rw [at290, at291, st11_2]
theorem at293 (p : Word) (z : S100x1000.Idx) : (k0_pay296 (q1051 p) (q1058 p) (q1111 p) (q1113 p) (q1115 p)) z = (st12 (roundKey p 2#32) (place z)).1 := by
  show (IntOp.addi ((k0_pay294 (q1051 p) (q1058 p) (q1111 p) (q1113 p) (q1115 p)) z) ((k0_pay295 (q1051 p) (q1058 p) (q1111 p) (q1113 p) (q1115 p)) z)) = _
  rw [at291, at292, st12_1]
theorem at294 (p : Word) (z : S100x1000.Idx) : (k0_pay297 (q1051 p) (q1058 p) (q1111 p) (q1113 p) (q1115 p)) z = (st12 (roundKey p 2#32) (place z)).2 := by
  show (turned 15#32 17#32 ((k0_pay295 (q1051 p) (q1058 p) (q1111 p) (q1113 p) (q1115 p)) z) ((k0_pay296 (q1051 p) (q1058 p) (q1111 p) (q1113 p) (q1115 p)) z)) = _
  rw [at292, at293, st12_2]
theorem at295 (p : Word) (z : S100x1000.Idx) : (k0_pay298 (q1051 p) (q1058 p) (q1111 p) (q1113 p) (q1115 p)) z = (st13 (roundKey p 2#32) (place z)).1 := by
  show (IntOp.addi ((k0_pay296 (q1051 p) (q1058 p) (q1111 p) (q1113 p) (q1115 p)) z) ((k0_pay297 (q1051 p) (q1058 p) (q1111 p) (q1113 p) (q1115 p)) z)) = _
  rw [at293, at294, st13_1]
theorem at296 (p : Word) (z : S100x1000.Idx) : (k0_pay299 (q1051 p) (q1058 p) (q1111 p) (q1113 p) (q1115 p)) z = (st13 (roundKey p 2#32) (place z)).2 := by
  show (turned 26#32 6#32 ((k0_pay297 (q1051 p) (q1058 p) (q1111 p) (q1113 p) (q1115 p)) z) ((k0_pay298 (q1051 p) (q1058 p) (q1111 p) (q1113 p) (q1115 p)) z)) = _
  rw [at294, at295, st13_2]
theorem at297 (p : Word) (z : S100x1000.Idx) : (k0_pay300 (q1051 p) (q1058 p) (q1111 p) (q1113 p) (q1115 p)) z = (st14 (roundKey p 2#32) (place z)).1 := by
  show (IntOp.addi ((k0_pay298 (q1051 p) (q1058 p) (q1111 p) (q1113 p) (q1115 p)) z) ((k0_pay299 (q1051 p) (q1058 p) (q1111 p) (q1113 p) (q1115 p)) z)) = _
  rw [at295, at296, st14_1]
theorem at298 (p : Word) (z : S100x1000.Idx) : (k0_pay301 (q1051 p) (q1058 p) (q1111 p) (q1113 p) (q1115 p)) z = (st15 (roundKey p 2#32) (place z)).1 := by
  show (IntOp.addi ((k0_pay300 (q1051 p) (q1058 p) (q1111 p) (q1113 p) (q1115 p)) z) (broadcastTo S100x1000 (q1051 p) broadcasts_S1x1_S100x1000 z)) = _
  rw [at297, bcast_at _ _ (q1051_at p), st15_1]
def q1160 (p : Word) : IVec S100x1000 32 := (k0_pay301 (q1051 p) (q1058 p) (q1111 p) (q1113 p) (q1115 p))
theorem q1160_at (p : Word) (z : S100x1000.Idx) : (q1160 p) z = (st15 (roundKey p 2#32) (place z)).1 := at298 p z
theorem at299 (p : Word) (z : S100x1000.Idx) : (k0_pay302 (q1051 p) (q1054 p) (q1058 p) (q1111 p) (q1113 p) (q1115 p)) z = (IntOp.addi (st14 (roundKey p 2#32) (place z)).2 (roundKey p 2#32).2) := by
  show (IntOp.addi (turned 6#32 26#32 ((k0_pay299 (q1051 p) (q1058 p) (q1111 p) (q1113 p) (q1115 p)) z) ((k0_pay300 (q1051 p) (q1058 p) (q1111 p) (q1113 p) (q1115 p)) z)) (broadcastTo S100x1000 (q1054 p) broadcasts_S1x1_S100x1000 z)) = _
  rw [at296, at297, bcast_at _ _ (q1054_at p), st14_2]
def q1162 (p : Word) : IVec S100x1000 32 := (k0_pay302 (q1051 p) (q1054 p) (q1058 p) (q1111 p) (q1113 p) (q1115 p))
theorem q1162_at (p : Word) (z : S100x1000.Idx) : (q1162 p) z = (IntOp.addi (st14 (roundKey p 2#32) (place z)).2 (roundKey p 2#32).2) := at299 p z
theorem at300 (p : Word) (z : S100x1000.Idx) : k0_pay303 z = 3#32 := rfl
def q1163 (p : Word) : IVec S100x1000 32 := k0_pay303
theorem q1163_at (p : Word) (z : S100x1000.Idx) : (q1163 p) z = 3#32 := at300 p z
theorem at301 (p : Word) (z : S100x1000.Idx) : (k0_pay304 (q1162 p) (q1163 p)) z = (st15 (roundKey p 2#32) (place z)).2 := by
  show (IntOp.addi ((q1162 p) z) ((q1163 p) z)) = _
  rw [q1162_at, q1163_at, st15_2]
theorem at302 (p : Word) (z : S100x1000.Idx) : (k0_pay305 (q1160 p) (q1162 p) (q1163 p)) z = (st16 (roundKey p 2#32) (place z)).1 := by
  show (IntOp.addi ((q1160 p) z) ((k0_pay304 (q1162 p) (q1163 p)) z)) = _
  rw [q1160_at, at301, st16_1]
theorem at303 (p : Word) (z : S100x1000.Idx) : (k0_pay306 (q1160 p) (q1162 p) (q1163 p)) z = (st16 (roundKey p 2#32) (place z)).2 := by
  show (turned 17#32 15#32 ((k0_pay304 (q1162 p) (q1163 p)) z) ((k0_pay305 (q1160 p) (q1162 p) (q1163 p)) z)) = _
  rw [at301, at302, st16_2]
theorem at304 (p : Word) (z : S100x1000.Idx) : (k0_pay307 (q1160 p) (q1162 p) (q1163 p)) z = (st17 (roundKey p 2#32) (place z)).1 := by
  show (IntOp.addi ((k0_pay305 (q1160 p) (q1162 p) (q1163 p)) z) ((k0_pay306 (q1160 p) (q1162 p) (q1163 p)) z)) = _
  rw [at302, at303, st17_1]
theorem at305 (p : Word) (z : S100x1000.Idx) : (k0_pay308 (q1160 p) (q1162 p) (q1163 p)) z = (st17 (roundKey p 2#32) (place z)).2 := by
  show (turned 29#32 3#32 ((k0_pay306 (q1160 p) (q1162 p) (q1163 p)) z) ((k0_pay307 (q1160 p) (q1162 p) (q1163 p)) z)) = _
  rw [at303, at304, st17_2]
theorem at306 (p : Word) (z : S100x1000.Idx) : (k0_pay309 (q1160 p) (q1162 p) (q1163 p)) z = (st18 (roundKey p 2#32) (place z)).1 := by
  show (IntOp.addi ((k0_pay307 (q1160 p) (q1162 p) (q1163 p)) z) ((k0_pay308 (q1160 p) (q1162 p) (q1163 p)) z)) = _
  rw [at304, at305, st18_1]
theorem at307 (p : Word) (z : S100x1000.Idx) : (k0_pay310 (q1160 p) (q1162 p) (q1163 p)) z = (st18 (roundKey p 2#32) (place z)).2 := by
  show (turned 16#32 16#32 ((k0_pay308 (q1160 p) (q1162 p) (q1163 p)) z) ((k0_pay309 (q1160 p) (q1162 p) (q1163 p)) z)) = _
  rw [at305, at306, st18_2]
theorem at308 (p : Word) (z : S100x1000.Idx) : (k0_pay311 (q1160 p) (q1162 p) (q1163 p)) z = (st19 (roundKey p 2#32) (place z)).1 := by
  show (IntOp.addi ((k0_pay309 (q1160 p) (q1162 p) (q1163 p)) z) ((k0_pay310 (q1160 p) (q1162 p) (q1163 p)) z)) = _
  rw [at306, at307, st19_1]
theorem at309 (p : Word) (z : S100x1000.Idx) : (k0_pay312 (q1058 p) (q1160 p) (q1162 p) (q1163 p)) z = (st20 (roundKey p 2#32) (place z)).2 := by
  show (IntOp.addi (IntOp.addi (turned 24#32 8#32 ((k0_pay310 (q1160 p) (q1162 p) (q1163 p)) z) ((k0_pay311 (q1160 p) (q1162 p) (q1163 p)) z)) (broadcastTo S100x1000 (q1058 p) broadcasts_S1x1_S100x1000 z)) 4#32) = _
  rw [at307, at308, bcast_at _ _ (q1058_at p), st19_2, st20_2]
theorem at310 (p : Word) (z : S100x1000.Idx) : (k0_pay313 (q1054 p) (q1058 p) (q1160 p) (q1162 p) (q1163 p)) z = (st21 (roundKey p 2#32) (place z)).1 := by
  show (IntOp.addi (IntOp.addi ((k0_pay311 (q1160 p) (q1162 p) (q1163 p)) z) (broadcastTo S100x1000 (q1054 p) broadcasts_S1x1_S100x1000 z)) ((k0_pay312 (q1058 p) (q1160 p) (q1162 p) (q1163 p)) z)) = _
  rw [at308, bcast_at _ _ (q1054_at p), at309, st20_1, st21_1]
theorem at311 (p : Word) (z : S100x1000.Idx) : (k0_pay314 (q1054 p) (q1058 p) (q1160 p) (q1162 p) (q1163 p)) z = (st21 (roundKey p 2#32) (place z)).2 := by
  show (turned 13#32 19#32 ((k0_pay312 (q1058 p) (q1160 p) (q1162 p) (q1163 p)) z) ((k0_pay313 (q1054 p) (q1058 p) (q1160 p) (q1162 p) (q1163 p)) z)) = _
  rw [at309, at310, st21_2]
theorem at312 (p : Word) (z : S100x1000.Idx) : (k0_pay315 (q1054 p) (q1058 p) (q1160 p) (q1162 p) (q1163 p)) z = (st22 (roundKey p 2#32) (place z)).1 := by
  show (IntOp.addi ((k0_pay313 (q1054 p) (q1058 p) (q1160 p) (q1162 p) (q1163 p)) z) ((k0_pay314 (q1054 p) (q1058 p) (q1160 p) (q1162 p) (q1163 p)) z)) = _
  rw [at310, at311, st22_1]
def q1206 (p : Word) : IVec S100x1000 32 := (k0_pay315 (q1054 p) (q1058 p) (q1160 p) (q1162 p) (q1163 p))
theorem q1206_at (p : Word) (z : S100x1000.Idx) : (q1206 p) z = (st22 (roundKey p 2#32) (place z)).1 := at312 p z
theorem at313 (p : Word) (z : S100x1000.Idx) : (k0_pay316 (q1054 p) (q1058 p) (q1160 p) (q1162 p) (q1163 p)) z = (IntOp.shli .vector (st21 (roundKey p 2#32) (place z)).2 15#32) := by
  show (IntOp.shli .vector ((k0_pay314 (q1054 p) (q1058 p) (q1160 p) (q1162 p) (q1163 p)) z) 15#32) = _
  rw [at311]
def q1208 (p : Word) : IVec S100x1000 32 := (k0_pay316 (q1054 p) (q1058 p) (q1160 p) (q1162 p) (q1163 p))
theorem q1208_at (p : Word) (z : S100x1000.Idx) : (q1208 p) z = (IntOp.shli .vector (st21 (roundKey p 2#32) (place z)).2 15#32) := at313 p z
theorem at314 (p : Word) (z : S100x1000.Idx) : (k0_pay317 (q1054 p) (q1058 p) (q1160 p) (q1162 p) (q1163 p)) z = (IntOp.shrui .vector (st21 (roundKey p 2#32) (place z)).2 17#32) := by
  show (IntOp.shrui .vector ((k0_pay314 (q1054 p) (q1058 p) (q1160 p) (q1162 p) (q1163 p)) z) 17#32) = _
  rw [at311]
def q1210 (p : Word) : IVec S100x1000 32 := (k0_pay317 (q1054 p) (q1058 p) (q1160 p) (q1162 p) (q1163 p))
theorem q1210_at (p : Word) (z : S100x1000.Idx) : (q1210 p) z = (IntOp.shrui .vector (st21 (roundKey p 2#32) (place z)).2 17#32) := at314 p z
theorem at315 (p : Word) (z : S100x1000.Idx) : (k0_pay318 (q887 p) (q1051 p) (q1058 p) (q1206 p) (q1208 p) (q1210 p)) z = (IntOp.ori (IntOp.ori (IntOp.ori 0#32 (Scalar.select (IntOp.cmpi .sge (bitWord p 0#32 (place z)) 0#32) 1#32 0#32)) (Scalar.select (IntOp.cmpi .sge (bitWord p 1#32 (place z)) 0#32) 2#32 0#32)) (Scalar.select (IntOp.cmpi .sge (bitWord p 2#32 (place z)) 0#32) 4#32 0#32)) := by
  show (IntOp.ori ((q887 p) z) (Scalar.select (IntOp.cmpi .sge (IntOp.xori (IntOp.addi (IntOp.addi (IntOp.addi ((q1206 p) z) (IntOp.xori (IntOp.ori ((q1208 p) z) ((q1210 p) z)) ((q1206 p) z))) (turned 26#32 6#32 (IntOp.xori (IntOp.ori ((q1208 p) z) ((q1210 p) z)) ((q1206 p) z)) (IntOp.addi ((q1206 p) z) (IntOp.xori (IntOp.ori ((q1208 p) z) ((q1210 p) z)) ((q1206 p) z))))) (broadcastTo S100x1000 (q1058 p) broadcasts_S1x1_S100x1000 z)) (IntOp.addi (IntOp.addi (turned 6#32 26#32 (turned 26#32 6#32 (IntOp.xori (IntOp.ori ((q1208 p) z) ((q1210 p) z)) ((q1206 p) z)) (IntOp.addi ((q1206 p) z) (IntOp.xori (IntOp.ori ((q1208 p) z) ((q1210 p) z)) ((q1206 p) z)))) (IntOp.addi (IntOp.addi ((q1206 p) z) (IntOp.xori (IntOp.ori ((q1208 p) z) ((q1210 p) z)) ((q1206 p) z))) (turned 26#32 6#32 (IntOp.xori (IntOp.ori ((q1208 p) z) ((q1210 p) z)) ((q1206 p) z)) (IntOp.addi ((q1206 p) z) (IntOp.xori (IntOp.ori ((q1208 p) z) ((q1210 p) z)) ((q1206 p) z)))))) (broadcastTo S100x1000 (q1051 p) broadcasts_S1x1_S100x1000 z)) 5#32)) 0#32) 4#32 0#32)) = _
  rw [q887_at, q1206_at, q1208_at, q1210_at, bcast_at _ _ (q1058_at p), bcast_at _ _ (q1051_at p), st22_2', st23_1, st23_2, st24_1, st25_1, st24_2, st25_2, bitWord_def]
def q1239 (p : Word) : IVec S100x1000 32 := (k0_pay318 (q887 p) (q1051 p) (q1058 p) (q1206 p) (q1208 p) (q1210 p))
theorem q1239_at (p : Word) (z : S100x1000.Idx) : (q1239 p) z = (IntOp.ori (IntOp.ori (IntOp.ori 0#32 (Scalar.select (IntOp.cmpi .sge (bitWord p 0#32 (place z)) 0#32) 1#32 0#32)) (Scalar.select (IntOp.cmpi .sge (bitWord p 1#32 (place z)) 0#32) 2#32 0#32)) (Scalar.select (IntOp.cmpi .sge (bitWord p 2#32 (place z)) 0#32) 4#32 0#32)) := at315 p z
theorem at316 (p : Word) (z : S1x1.Idx) : (k0_pay319 (q173 p) (q177 p)) z = (key3 (priorKey p).1 (priorKey p).2) := by
  show (IntOp.xori (IntOp.xori ((q173 p) z) ((q177 p) z)) 466688986#32) = _
  rw [q173_at, q177_at, key3_def]
def q1242 (p : Word) : IVec S1x1 32 := (k0_pay319 (q173 p) (q177 p))
theorem q1242_at (p : Word) (z : S1x1.Idx) : (q1242 p) z = (key3 (priorKey p).1 (priorKey p).2) := at316 p z
theorem at317 (p : Word) (z : S1x1.Idx) : (k0_pay320 (q177 p)) z = (st0 (priorKey p) 3#32).2 := by
  show (IntOp.addi 3#32 ((q177 p) z)) = _
  rw [q177_at, st0_2 (priorKey p) 3#32]
theorem at318 (p : Word) (z : S1x1.Idx) : (k0_pay321 (q173 p) (q177 p)) z = (st1 (priorKey p) 3#32).1 := by
  show (IntOp.addi (IntOp.addi 0#32 ((q173 p) z)) ((k0_pay320 (q177 p)) z)) = _
  rw [q173_at, at317, st0_1 (priorKey p) 3#32, st1_1]
theorem at319 (p : Word) (z : S1x1.Idx) : (k0_pay322 (q173 p) (q177 p)) z = (st1 (priorKey p) 3#32).2 := by
  show (turned 13#32 19#32 ((k0_pay320 (q177 p)) z) ((k0_pay321 (q173 p) (q177 p)) z)) = _
  rw [at317, at318, st1_2]
def q1253 (p : Word) : IVec S1x1 32 := (k0_pay322 (q173 p) (q177 p))
theorem q1253_at (p : Word) (z : S1x1.Idx) : (q1253 p) z = (st1 (priorKey p) 3#32).2 := at319 p z
theorem at320 (p : Word) (z : S1x1.Idx) : (k0_pay323 (q173 p) (q177 p)) z = (st2 (priorKey p) 3#32).1 := by
  show (IntOp.addi ((k0_pay321 (q173 p) (q177 p)) z) ((k0_pay322 (q173 p) (q177 p)) z)) = _
  rw [at318, at319, st2_1]
def q1254 (p : Word) : IVec S1x1 32 := (k0_pay323 (q173 p) (q177 p))
theorem q1254_at (p : Word) (z : S1x1.Idx) : (q1254 p) z = (st2 (priorKey p) 3#32).1 := at320 p z
theorem at321 (p : Word) (z : S1x1.Idx) : (k0_pay324 (q173 p) (q177 p)) z = (IntOp.shli .vector (st1 (priorKey p) 3#32).2 15#32) := by
  show (IntOp.shli .vector ((k0_pay322 (q173 p) (q177 p)) z) 15#32) = _
  rw [at319]
def q1256 (p : Word) : IVec S1x1 32 := (k0_pay324 (q173 p) (q177 p))
theorem q1256_at (p : Word) (z : S1x1.Idx) : (q1256 p) z = (IntOp.shli .vector (st1 (priorKey p) 3#32).2 15#32) := at321 p z
theorem at322 (p : Word) (z : S1x1.Idx) : (k0_pay325 (q1253 p) (q1254 p) (q1256 p)) z = (st2 (priorKey p) 3#32).2 := by
  show (IntOp.xori (IntOp.ori ((q1256 p) z) (IntOp.shrui .vector ((q1253 p) z) 17#32)) ((q1254 p) z)) = _
  rw [q1256_at, q1253_at, q1254_at, st2_2']
theorem at323 (p : Word) (z : S1x1.Idx) : (k0_pay326 (q1253 p) (q1254 p) (q1256 p)) z = (st3 (priorKey p) 3#32).1 := by
  show (IntOp.addi ((q1254 p) z) ((k0_pay325 (q1253 p) (q1254 p) (q1256 p)) z)) = _
  rw [q1254_at, at322, st3_1]
theorem at324 (p : Word) (z : S1x1.Idx) : (k0_pay327 (q1253 p) (q1254 p) (q1256 p)) z = (st3 (priorKey p) 3#32).2 := by
  show (turned 26#32 6#32 ((k0_pay325 (q1253 p) (q1254 p) (q1256 p)) z) ((k0_pay326 (q1253 p) (q1254 p) (q1256 p)) z)) = _
  rw [at322, at323, st3_2]
theorem at325 (p : Word) (z : S1x1.Idx) : (k0_pay328 (q1253 p) (q1254 p) (q1256 p)) z = (st4 (priorKey p) 3#32).1 := by
  show (IntOp.addi ((k0_pay326 (q1253 p) (q1254 p) (q1256 p)) z) ((k0_pay327 (q1253 p) (q1254 p) (q1256 p)) z)) = _
  rw [at323, at324, st4_1]
theorem at326 (p : Word) (z : S1x1.Idx) : (k0_pay329 (q1242 p) (q1253 p) (q1254 p) (q1256 p)) z = (st5 (priorKey p) 3#32).2 := by
  show (IntOp.addi (IntOp.addi (turned 6#32 26#32 ((k0_pay327 (q1253 p) (q1254 p) (q1256 p)) z) ((k0_pay328 (q1253 p) (q1254 p) (q1256 p)) z)) ((q1242 p) z)) 1#32) = _
  rw [at324, at325, q1242_at, st4_2, st5_2]
theorem at327 (p : Word) (z : S1x1.Idx) : (k0_pay330 (q177 p) (q1242 p) (q1253 p) (q1254 p) (q1256 p)) z = (st6 (priorKey p) 3#32).1 := by
  show (IntOp.addi (IntOp.addi ((k0_pay328 (q1253 p) (q1254 p) (q1256 p)) z) ((q177 p) z)) ((k0_pay329 (q1242 p) (q1253 p) (q1254 p) (q1256 p)) z)) = _
  rw [at325, q177_at, at326, st5_1, st6_1]
theorem at328 (p : Word) (z : S1x1.Idx) : (k0_pay331 (q177 p) (q1242 p) (q1253 p) (q1254 p) (q1256 p)) z = (st6 (priorKey p) 3#32).2 := by
  show (turned 17#32 15#32 ((k0_pay329 (q1242 p) (q1253 p) (q1254 p) (q1256 p)) z) ((k0_pay330 (q177 p) (q1242 p) (q1253 p) (q1254 p) (q1256 p)) z)) = _
  rw [at326, at327, st6_2]
theorem at329 (p : Word) (z : S1x1.Idx) : (k0_pay332 (q177 p) (q1242 p) (q1253 p) (q1254 p) (q1256 p)) z = (st7 (priorKey p) 3#32).1 := by
  show (IntOp.addi ((k0_pay330 (q177 p) (q1242 p) (q1253 p) (q1254 p) (q1256 p)) z) ((k0_pay331 (q177 p) (q1242 p) (q1253 p) (q1254 p) (q1256 p)) z)) = _
  rw [at327, at328, st7_1]
theorem at330 (p : Word) (z : S1x1.Idx) : (k0_pay333 (q177 p) (q1242 p) (q1253 p) (q1254 p) (q1256 p)) z = (st7 (priorKey p) 3#32).2 := by
  show (turned 29#32 3#32 ((k0_pay331 (q177 p) (q1242 p) (q1253 p) (q1254 p) (q1256 p)) z) ((k0_pay332 (q177 p) (q1242 p) (q1253 p) (q1254 p) (q1256 p)) z)) = _
  rw [at328, at329, st7_2]
theorem at331 (p : Word) (z : S1x1.Idx) : (k0_pay334 (q177 p) (q1242 p) (q1253 p) (q1254 p) (q1256 p)) z = (st8 (priorKey p) 3#32).1 := by
  show (IntOp.addi ((k0_pay332 (q177 p) (q1242 p) (q1253 p) (q1254 p) (q1256 p)) z) ((k0_pay333 (q177 p) (q1242 p) (q1253 p) (q1254 p) (q1256 p)) z)) = _
  rw [at329, at330, st8_1]
theorem at332 (p : Word) (z : S1x1.Idx) : (k0_pay335 (q177 p) (q1242 p) (q1253 p) (q1254 p) (q1256 p)) z = (st8 (priorKey p) 3#32).2 := by
  show (turned 16#32 16#32 ((k0_pay333 (q177 p) (q1242 p) (q1253 p) (q1254 p) (q1256 p)) z) ((k0_pay334 (q177 p) (q1242 p) (q1253 p) (q1254 p) (q1256 p)) z)) = _
  rw [at330, at331, st8_2]
def q1299 (p : Word) : IVec S1x1 32 := (k0_pay335 (q177 p) (q1242 p) (q1253 p) (q1254 p) (q1256 p))
theorem q1299_at (p : Word) (z : S1x1.Idx) : (q1299 p) z = (st8 (priorKey p) 3#32).2 := at332 p z
theorem at333 (p : Word) (z : S1x1.Idx) : (k0_pay336 (q177 p) (q1242 p) (q1253 p) (q1254 p) (q1256 p)) z = (st9 (priorKey p) 3#32).1 := by
  show (IntOp.addi ((k0_pay334 (q177 p) (q1242 p) (q1253 p) (q1254 p) (q1256 p)) z) ((k0_pay335 (q177 p) (q1242 p) (q1253 p) (q1254 p) (q1256 p)) z)) = _
  rw [at331, at332, st9_1]
def q1300 (p : Word) : IVec S1x1 32 := (k0_pay336 (q177 p) (q1242 p) (q1253 p) (q1254 p) (q1256 p))
theorem q1300_at (p : Word) (z : S1x1.Idx) : (q1300 p) z = (st9 (priorKey p) 3#32).1 := at333 p z
theorem at334 (p : Word) (z : S1x1.Idx) : (k0_pay337 (q177 p) (q1242 p) (q1253 p) (q1254 p) (q1256 p)) z = (IntOp.shli .vector (st8 (priorKey p) 3#32).2 24#32) := by
  show (IntOp.shli .vector ((k0_pay335 (q177 p) (q1242 p) (q1253 p) (q1254 p) (q1256 p)) z) 24#32) = _
  rw [at332]
def q1302 (p : Word) : IVec S1x1 32 := (k0_pay337 (q177 p) (q1242 p) (q1253 p) (q1254 p) (q1256 p))
theorem q1302_at (p : Word) (z : S1x1.Idx) : (q1302 p) z = (IntOp.shli .vector (st8 (priorKey p) 3#32).2 24#32) := at334 p z
theorem at335 (p : Word) (z : S1x1.Idx) : (k0_pay338 (q173 p) (q1299 p) (q1300 p) (q1302 p) 8#32) z = (st10 (priorKey p) 3#32).2 := by
  show (IntOp.addi (IntOp.addi (IntOp.xori (IntOp.ori ((q1302 p) z) (IntOp.shrui .vector ((q1299 p) z) 8#32)) ((q1300 p) z)) ((q173 p) z)) 2#32) = _
  rw [q1302_at, q1299_at, q1300_at, q173_at, st9_2', st10_2]
theorem at336 (p : Word) (z : S1x1.Idx) : (k0_pay339 (q173 p) (q1242 p) (q1299 p) (q1300 p) (q1302 p) 8#32) z = (st11 (priorKey p) 3#32).1 := by
  show (IntOp.addi (IntOp.addi ((q1300 p) z) ((q1242 p) z)) ((k0_pay338 (q173 p) (q1299 p) (q1300 p) (q1302 p) 8#32) z)) = _
  rw [q1300_at, q1242_at, at335, st10_1, st11_1]
theorem at337 (p : Word) (z : S1x1.Idx) : (k0_pay340 (q173 p) (q1242 p) (q1299 p) (q1300 p) (q1302 p) 8#32) z = (st11 (priorKey p) 3#32).2 := by
  show (turned 13#32 19#32 ((k0_pay338 (q173 p) (q1299 p) (q1300 p) (q1302 p) 8#32) z) ((k0_pay339 (q173 p) (q1242 p) (q1299 p) (q1300 p) (q1302 p) 8#32) z)) = _
  rw [at335, at336, st11_2]
theorem at338 (p : Word) (z : S1x1.Idx) : (k0_pay341 (q173 p) (q1242 p) (q1299 p) (q1300 p) (q1302 p) 8#32) z = (st12 (priorKey p) 3#32).1 := by
  show (IntOp.addi ((k0_pay339 (q173 p) (q1242 p) (q1299 p) (q1300 p) (q1302 p) 8#32) z) ((k0_pay340 (q173 p) (q1242 p) (q1299 p) (q1300 p) (q1302 p) 8#32) z)) = _
  rw [at336, at337, st12_1]
theorem at339 (p : Word) (z : S1x1.Idx) : (k0_pay342 (q173 p) (q1242 p) (q1299 p) (q1300 p) (q1302 p) 8#32) z = (st12 (priorKey p) 3#32).2 := by
  show (turned 15#32 17#32 ((k0_pay340 (q173 p) (q1242 p) (q1299 p) (q1300 p) (q1302 p) 8#32) z) ((k0_pay341 (q173 p) (q1242 p) (q1299 p) (q1300 p) (q1302 p) 8#32) z)) = _
  rw [at337, at338, st12_2]
theorem at340 (p : Word) (z : S1x1.Idx) : (k0_pay343 (q173 p) (q1242 p) (q1299 p) (q1300 p) (q1302 p) 8#32) z = (st13 (priorKey p) 3#32).1 := by
  show (IntOp.addi ((k0_pay341 (q173 p) (q1242 p) (q1299 p) (q1300 p) (q1302 p) 8#32) z) ((k0_pay342 (q173 p) (q1242 p) (q1299 p) (q1300 p) (q1302 p) 8#32) z)) = _
  rw [at338, at339, st13_1]
theorem at341 (p : Word) (z : S1x1.Idx) : (k0_pay344 (q173 p) (q1242 p) (q1299 p) (q1300 p) (q1302 p) 8#32) z = (st13 (priorKey p) 3#32).2 := by
  show (turned 26#32 6#32 ((k0_pay342 (q173 p) (q1242 p) (q1299 p) (q1300 p) (q1302 p) 8#32) z) ((k0_pay343 (q173 p) (q1242 p) (q1299 p) (q1300 p) (q1302 p) 8#32) z)) = _
  rw [at339, at340, st13_2]
theorem at342 (p : Word) (z : S1x1.Idx) : (k0_pay345 (q173 p) (q1242 p) (q1299 p) (q1300 p) (q1302 p) 8#32) z = (st14 (priorKey p) 3#32).1 := by
  show (IntOp.addi ((k0_pay343 (q173 p) (q1242 p) (q1299 p) (q1300 p) (q1302 p) 8#32) z) ((k0_pay344 (q173 p) (q1242 p) (q1299 p) (q1300 p) (q1302 p) 8#32) z)) = _
  rw [at340, at341, st14_1]
theorem at343 (p : Word) (z : S1x1.Idx) : (k0_pay346 (q173 p) (q177 p) (q1242 p) (q1299 p) (q1300 p) (q1302 p) 8#32) z = (st15 (priorKey p) 3#32).2 := by
  show (IntOp.addi (IntOp.addi (turned 6#32 26#32 ((k0_pay344 (q173 p) (q1242 p) (q1299 p) (q1300 p) (q1302 p) 8#32) z) ((k0_pay345 (q173 p) (q1242 p) (q1299 p) (q1300 p) (q1302 p) 8#32) z)) ((q177 p) z)) 3#32) = _
  rw [at341, at342, q177_at, st14_2, st15_2]
theorem at344 (p : Word) (z : S1x1.Idx) : (k0_pay347 (q173 p) (q177 p) (q1242 p) (q1299 p) (q1300 p) (q1302 p) 8#32) z = (st16 (priorKey p) 3#32).1 := by
  show (IntOp.addi (IntOp.addi ((k0_pay345 (q173 p) (q1242 p) (q1299 p) (q1300 p) (q1302 p) 8#32) z) ((q173 p) z)) ((k0_pay346 (q173 p) (q177 p) (q1242 p) (q1299 p) (q1300 p) (q1302 p) 8#32) z)) = _
  rw [at342, q173_at, at343, st15_1, st16_1]
theorem at345 (p : Word) (z : S1x1.Idx) : (k0_pay348 (q173 p) (q177 p) (q1242 p) (q1299 p) (q1300 p) (q1302 p) 8#32) z = (st16 (priorKey p) 3#32).2 := by
  show (turned 17#32 15#32 ((k0_pay346 (q173 p) (q177 p) (q1242 p) (q1299 p) (q1300 p) (q1302 p) 8#32) z) ((k0_pay347 (q173 p) (q177 p) (q1242 p) (q1299 p) (q1300 p) (q1302 p) 8#32) z)) = _
  rw [at343, at344, st16_2]
def q1349 (p : Word) : IVec S1x1 32 := (k0_pay348 (q173 p) (q177 p) (q1242 p) (q1299 p) (q1300 p) (q1302 p) 8#32)
theorem q1349_at (p : Word) (z : S1x1.Idx) : (q1349 p) z = (st16 (priorKey p) 3#32).2 := at345 p z
theorem at346 (p : Word) (z : S1x1.Idx) : (k0_pay349 (q173 p) (q177 p) (q1242 p) (q1299 p) (q1300 p) (q1302 p) 8#32) z = (st17 (priorKey p) 3#32).1 := by
  show (IntOp.addi ((k0_pay347 (q173 p) (q177 p) (q1242 p) (q1299 p) (q1300 p) (q1302 p) 8#32) z) ((k0_pay348 (q173 p) (q177 p) (q1242 p) (q1299 p) (q1300 p) (q1302 p) 8#32) z)) = _
  rw [at344, at345, st17_1]
def q1350 (p : Word) : IVec S1x1 32 := (k0_pay349 (q173 p) (q177 p) (q1242 p) (q1299 p) (q1300 p) (q1302 p) 8#32)
theorem q1350_at (p : Word) (z : S1x1.Idx) : (q1350 p) z = (st17 (priorKey p) 3#32).1 := at346 p z
theorem at347 (p : Word) (z : S1x1.Idx) : (k0_pay350 (q1349 p) (q1350 p)) z = (st17 (priorKey p) 3#32).2 := by
  show (turned 29#32 3#32 ((q1349 p) z) ((q1350 p) z)) = _
  rw [q1349_at, q1350_at, st17_2]
theorem at348 (p : Word) (z : S1x1.Idx) : (k0_pay351 (q1349 p) (q1350 p)) z = (st18 (priorKey p) 3#32).1 := by
  show (IntOp.addi ((q1350 p) z) ((k0_pay350 (q1349 p) (q1350 p)) z)) = _
  rw [q1350_at, at347, st18_1]
theorem at349 (p : Word) (z : S1x1.Idx) : (k0_pay352 (q1349 p) (q1350 p)) z = (st18 (priorKey p) 3#32).2 := by
  show (turned 16#32 16#32 ((k0_pay350 (q1349 p) (q1350 p)) z) ((k0_pay351 (q1349 p) (q1350 p)) z)) = _
  rw [at347, at348, st18_2]
theorem at350 (p : Word) (z : S1x1.Idx) : (k0_pay353 (q1349 p) (q1350 p)) z = (st19 (priorKey p) 3#32).1 := by
  show (IntOp.addi ((k0_pay351 (q1349 p) (q1350 p)) z) ((k0_pay352 (q1349 p) (q1350 p)) z)) = _
  rw [at348, at349, st19_1]
theorem at351 (p : Word) (z : S1x1.Idx) : (k0_pay354 (q1242 p) (q1349 p) (q1350 p)) z = (st20 (priorKey p) 3#32).2 := by
  show (IntOp.addi (IntOp.addi (turned 24#32 8#32 ((k0_pay352 (q1349 p) (q1350 p)) z) ((k0_pay353 (q1349 p) (q1350 p)) z)) ((q1242 p) z)) 4#32) = _
  rw [at349, at350, q1242_at, st19_2, st20_2]
theorem at352 (p : Word) (z : S1x1.Idx) : (k0_pay355 (q177 p) (q1242 p) (q1349 p) (q1350 p)) z = (st21 (priorKey p) 3#32).1 := by
  show (IntOp.addi (IntOp.addi ((k0_pay353 (q1349 p) (q1350 p)) z) ((q177 p) z)) ((k0_pay354 (q1242 p) (q1349 p) (q1350 p)) z)) = _
  rw [at350, q177_at, at351, st20_1, st21_1]
theorem at353 (p : Word) (z : S1x1.Idx) : (k0_pay356 (q177 p) (q1242 p) (q1349 p) (q1350 p)) z = (st21 (priorKey p) 3#32).2 := by
  show (turned 13#32 19#32 ((k0_pay354 (q1242 p) (q1349 p) (q1350 p)) z) ((k0_pay355 (q177 p) (q1242 p) (q1349 p) (q1350 p)) z)) = _
  rw [at351, at352, st21_2]
theorem at354 (p : Word) (z : S1x1.Idx) : (k0_pay357 (q177 p) (q1242 p) (q1349 p) (q1350 p)) z = (st22 (priorKey p) 3#32).1 := by
  show (IntOp.addi ((k0_pay355 (q177 p) (q1242 p) (q1349 p) (q1350 p)) z) ((k0_pay356 (q177 p) (q1242 p) (q1349 p) (q1350 p)) z)) = _
  rw [at352, at353, st22_1]
theorem at355 (p : Word) (z : S1x1.Idx) : (k0_pay358 (q177 p) (q1242 p) (q1349 p) (q1350 p)) z = (st22 (priorKey p) 3#32).2 := by
  show (turned 15#32 17#32 ((k0_pay356 (q177 p) (q1242 p) (q1349 p) (q1350 p)) z) ((k0_pay357 (q177 p) (q1242 p) (q1349 p) (q1350 p)) z)) = _
  rw [at353, at354, st22_2]
theorem at356 (p : Word) (z : S1x1.Idx) : (k0_pay359 (q177 p) (q1242 p) (q1349 p) (q1350 p)) z = (st23 (priorKey p) 3#32).1 := by
  show (IntOp.addi ((k0_pay357 (q177 p) (q1242 p) (q1349 p) (q1350 p)) z) ((k0_pay358 (q177 p) (q1242 p) (q1349 p) (q1350 p)) z)) = _
  rw [at354, at355, st23_1]
theorem at357 (p : Word) (z : S1x1.Idx) : (k0_pay360 (q177 p) (q1242 p) (q1349 p) (q1350 p)) z = (st23 (priorKey p) 3#32).2 := by
  show (turned 26#32 6#32 ((k0_pay358 (q177 p) (q1242 p) (q1349 p) (q1350 p)) z) ((k0_pay359 (q177 p) (q1242 p) (q1349 p) (q1350 p)) z)) = _
  rw [at355, at356, st23_2]
def q1395 (p : Word) : IVec S1x1 32 := (k0_pay360 (q177 p) (q1242 p) (q1349 p) (q1350 p))
theorem q1395_at (p : Word) (z : S1x1.Idx) : (q1395 p) z = (st23 (priorKey p) 3#32).2 := at357 p z
theorem at358 (p : Word) (z : S1x1.Idx) : (k0_pay361 (q177 p) (q1242 p) (q1349 p) (q1350 p)) z = (st24 (priorKey p) 3#32).1 := by
  show (IntOp.addi ((k0_pay359 (q177 p) (q1242 p) (q1349 p) (q1350 p)) z) ((k0_pay360 (q177 p) (q1242 p) (q1349 p) (q1350 p)) z)) = _
  rw [at356, at357, st24_1]
def q1396 (p : Word) : IVec S1x1 32 := (k0_pay361 (q177 p) (q1242 p) (q1349 p) (q1350 p))
theorem q1396_at (p : Word) (z : S1x1.Idx) : (q1396 p) z = (st24 (priorKey p) 3#32).1 := at358 p z
theorem at359 (p : Word) (z : S1x1.Idx) : (k0_pay362 (q1242 p) (q1396 p)) z = (roundKey p 3#32).1 := by
  show (IntOp.addi ((q1396 p) z) ((q1242 p) z)) = _
  rw [q1396_at, q1242_at, st25_1, roundKey_def]
def q1403 (p : Word) : IVec S1x1 32 := (k0_pay362 (q1242 p) (q1396 p))
theorem q1403_at (p : Word) (z : S1x1.Idx) : (q1403 p) z = (roundKey p 3#32).1 := at359 p z
theorem at360 (p : Word) (z : S1x1.Idx) : (k0_pay363 (q173 p) (q1395 p) (q1396 p) 6#32) z = (roundKey p 3#32).2 := by
  show (IntOp.addi (IntOp.addi (turned 6#32 26#32 ((q1395 p) z) ((q1396 p) z)) ((q173 p) z)) 5#32) = _
  rw [q1395_at, q1396_at, q173_at, st24_2, st25_2, roundKey_def]
def q1406 (p : Word) : IVec S1x1 32 := (k0_pay363 (q173 p) (q1395 p) (q1396 p) 6#32)
theorem q1406_at (p : Word) (z : S1x1.Idx) : (q1406 p) z = (roundKey p 3#32).2 := at360 p z
theorem at361 (p : Word) (z : S1x1.Idx) : (k0_pay364 (q173 p) (q1242 p) (q1395 p) (q1396 p) 6#32) z = (key3 (roundKey p 3#32).1 (roundKey p 3#32).2) := by
  show (IntOp.xori (IntOp.xori ((k0_pay362 (q1242 p) (q1396 p)) z) ((k0_pay363 (q173 p) (q1395 p) (q1396 p) 6#32) z)) 466688986#32) = _
  rw [at359, at360, key3_def]
def q1410 (p : Word) : IVec S1x1 32 := (k0_pay364 (q173 p) (q1242 p) (q1395 p) (q1396 p) 6#32)
theorem q1410_at (p : Word) (z : S1x1.Idx) : (q1410 p) z = (key3 (roundKey p 3#32).1 (roundKey p 3#32).2) := at361 p z
theorem at362 (p : Word) (z : S100x1000.Idx) : (k0_pay365 (q173 p) (q182 p) (q1395 p) (q1396 p) 6#32) z = (st0 (roundKey p 3#32) (place z)).2 := by
  show (IntOp.addi ((q182 p) z) (broadcastTo S100x1000 (k0_pay363 (q173 p) (q1395 p) (q1396 p) 6#32) broadcasts_S1x1_S100x1000 z)) = _
  rw [q182_at, bcast_at _ _ (at360 p), st0_2 (roundKey p 3#32) (place z)]
theorem at363 (p : Word) (z : S100x1000.Idx) : (k0_pay366 (q173 p) (q182 p) (q1242 p) (q1395 p) (q1396 p) 6#32) z = (st1 (roundKey p 3#32) (place z)).1 := by
  show (IntOp.addi (IntOp.addi 0#32 (broadcastTo S100x1000 (k0_pay362 (q1242 p) (q1396 p)) broadcasts_S1x1_S100x1000 z)) ((k0_pay365 (q173 p) (q182 p) (q1395 p) (q1396 p) 6#32) z)) = _
  rw [bcast_at _ _ (at359 p), at362, st0_1 (roundKey p 3#32) (place z), st1_1]
theorem at364 (p : Word) (z : S100x1000.Idx) : (k0_pay367 (q173 p) (q182 p) (q1242 p) (q1395 p) (q1396 p) 6#32) z = (st1 (roundKey p 3#32) (place z)).2 := by
  show (turned 13#32 19#32 ((k0_pay365 (q173 p) (q182 p) (q1395 p) (q1396 p) 6#32) z) ((k0_pay366 (q173 p) (q182 p) (q1242 p) (q1395 p) (q1396 p) 6#32) z)) = _
  rw [at362, at363, st1_2]
theorem at365 (p : Word) (z : S100x1000.Idx) : (k0_pay368 (q173 p) (q182 p) (q1242 p) (q1395 p) (q1396 p) 6#32) z = (st2 (roundKey p 3#32) (place z)).1 := by
  show (IntOp.addi ((k0_pay366 (q173 p) (q182 p) (q1242 p) (q1395 p) (q1396 p) 6#32) z) ((k0_pay367 (q173 p) (q182 p) (q1242 p) (q1395 p) (q1396 p) 6#32) z)) = _
  rw [at363, at364, st2_1]
theorem at366 (p : Word) (z : S100x1000.Idx) : (k0_pay369 (q173 p) (q182 p) (q1242 p) (q1395 p) (q1396 p) 6#32) z = (st2 (roundKey p 3#32) (place z)).2 := by
  show (turned 15#32 17#32 ((k0_pay367 (q173 p) (q182 p) (q1242 p) (q1395 p) (q1396 p) 6#32) z) ((k0_pay368 (q173 p) (q182 p) (q1242 p) (q1395 p) (q1396 p) 6#32) z)) = _
  rw [at364, at365, st2_2]
theorem at367 (p : Word) (z : S100x1000.Idx) : (k0_pay370 (q173 p) (q182 p) (q1242 p) (q1395 p) (q1396 p) 6#32) z = (st3 (roundKey p 3#32) (place z)).1 := by
  show (IntOp.addi ((k0_pay368 (q173 p) (q182 p) (q1242 p) (q1395 p) (q1396 p) 6#32) z) ((k0_pay369 (q173 p) (q182 p) (q1242 p) (q1395 p) (q1396 p) 6#32) z)) = _
  rw [at365, at366, st3_1]
theorem at368 (p : Word) (z : S100x1000.Idx) : (k0_pay371 (q173 p) (q182 p) (q1242 p) (q1395 p) (q1396 p) 6#32) z = (st3 (roundKey p 3#32) (place z)).2 := by
  show (turned 26#32 6#32 ((k0_pay369 (q173 p) (q182 p) (q1242 p) (q1395 p) (q1396 p) 6#32) z) ((k0_pay370 (q173 p) (q182 p) (q1242 p) (q1395 p) (q1396 p) 6#32) z)) = _
  rw [at366, at367, st3_2]
theorem at369 (p : Word) (z : S100x1000.Idx) : (k0_pay372 (q173 p) (q182 p) (q1242 p) (q1395 p) (q1396 p) 6#32) z = (st4 (roundKey p 3#32) (place z)).1 := by
  show (IntOp.addi ((k0_pay370 (q173 p) (q182 p) (q1242 p) (q1395 p) (q1396 p) 6#32) z) ((k0_pay371 (q173 p) (q182 p) (q1242 p) (q1395 p) (q1396 p) 6#32) z)) = _
  rw [at367, at368, st4_1]
theorem at370 (p : Word) (z : S100x1000.Idx) : (k0_pay373 (q173 p) (q182 p) (q1242 p) (q1395 p) (q1396 p) 6#32) z = (st4 (roundKey p 3#32) (place z)).2 := by
  show (turned 6#32 26#32 ((k0_pay371 (q173 p) (q182 p) (q1242 p) (q1395 p) (q1396 p) 6#32) z) ((k0_pay372 (q173 p) (q182 p) (q1242 p) (q1395 p) (q1396 p) 6#32) z)) = _
  rw [at368, at369, st4_2]
def q1442 (p : Word) : IVec S100x1000 32 := (k0_pay373 (q173 p) (q182 p) (q1242 p) (q1395 p) (q1396 p) 6#32)
theorem q1442_at (p : Word) (z : S100x1000.Idx) : (q1442 p) z = (st4 (roundKey p 3#32) (place z)).2 := at370 p z
theorem at371 (p : Word) (z : S100x1000.Idx) : (k0_pay374 (q173 p) (q182 p) (q1242 p) (q1395 p) (q1396 p) 6#32) z = (st5 (roundKey p 3#32) (place z)).1 := by
  show (IntOp.addi ((k0_pay372 (q173 p) (q182 p) (q1242 p) (q1395 p) (q1396 p) 6#32) z) (broadcastTo S100x1000 (k0_pay363 (q173 p) (q1395 p) (q1396 p) 6#32) broadcasts_S1x1_S100x1000 z)) = _
  rw [at369, bcast_at _ _ (at360 p), st5_1]
def q1444 (p : Word) : IVec S100x1000 32 := (k0_pay374 (q173 p) (q182 p) (q1242 p) (q1395 p) (q1396 p) 6#32)
theorem q1444_at (p : Word) (z : S100x1000.Idx) : (q1444 p) z = (st5 (roundKey p 3#32) (place z)).1 := at371 p z
theorem at372 (p : Word) (z : S100x1000.Idx) : (k0_pay375 (q1410 p) (q1442 p)) z = (st5 (roundKey p 3#32) (place z)).2 := by
  show (IntOp.addi (IntOp.addi ((q1442 p) z) (broadcastTo S100x1000 (q1410 p) broadcasts_S1x1_S100x1000 z)) 1#32) = _
  rw [q1442_at, bcast_at _ _ (q1410_at p), st5_2]
theorem at373 (p : Word) (z : S100x1000.Idx) : (k0_pay376 (q1410 p) (q1442 p) (q1444 p)) z = (st6 (roundKey p 3#32) (place z)).1 := by
  show (IntOp.addi ((q1444 p) z) ((k0_pay375 (q1410 p) (q1442 p)) z)) = _
  rw [q1444_at, at372, st6_1]
theorem at374 (p : Word) (z : S100x1000.Idx) : (k0_pay377 (q1410 p) (q1442 p) (q1444 p)) z = (st6 (roundKey p 3#32) (place z)).2 := by
  show (turned 17#32 15#32 ((k0_pay375 (q1410 p) (q1442 p)) z) ((k0_pay376 (q1410 p) (q1442 p) (q1444 p)) z)) = _
  rw [at372, at373, st6_2]
theorem at375 (p : Word) (z : S100x1000.Idx) : (k0_pay378 (q1410 p) (q1442 p) (q1444 p)) z = (st7 (roundKey p 3#32) (place z)).1 := by
  show (IntOp.addi ((k0_pay376 (q1410 p) (q1442 p) (q1444 p)) z) ((k0_pay377 (q1410 p) (q1442 p) (q1444 p)) z)) = _
  rw [at373, at374, st7_1]
theorem at376 (p : Word) (z : S100x1000.Idx) : (k0_pay379 (q1410 p) (q1442 p) (q1444 p)) z = (st7 (roundKey p 3#32) (place z)).2 := by
  show (turned 29#32 3#32 ((k0_pay377 (q1410 p) (q1442 p) (q1444 p)) z) ((k0_pay378 (q1410 p) (q1442 p) (q1444 p)) z)) = _
  rw [at374, at375, st7_2]
theorem at377 (p : Word) (z : S100x1000.Idx) : (k0_pay380 (q1410 p) (q1442 p) (q1444 p)) z = (st8 (roundKey p 3#32) (place z)).1 := by
  show (IntOp.addi ((k0_pay378 (q1410 p) (q1442 p) (q1444 p)) z) ((k0_pay379 (q1410 p) (q1442 p) (q1444 p)) z)) = _
  rw [at375, at376, st8_1]
theorem at378 (p : Word) (z : S100x1000.Idx) : (k0_pay381 (q1410 p) (q1442 p) (q1444 p)) z = (st8 (roundKey p 3#32) (place z)).2 := by
  show (turned 16#32 16#32 ((k0_pay379 (q1410 p) (q1442 p) (q1444 p)) z) ((k0_pay380 (q1410 p) (q1442 p) (q1444 p)) z)) = _
  rw [at376, at377, st8_2]
theorem at379 (p : Word) (z : S100x1000.Idx) : (k0_pay382 (q1410 p) (q1442 p) (q1444 p)) z = (st9 (roundKey p 3#32) (place z)).1 := by
  show (IntOp.addi ((k0_pay380 (q1410 p) (q1442 p) (q1444 p)) z) ((k0_pay381 (q1410 p) (q1442 p) (q1444 p)) z)) = _
  rw [at377, at378, st9_1]
theorem at380 (p : Word) (z : S100x1000.Idx) : (k0_pay383 (q1403 p) (q1410 p) (q1442 p) (q1444 p)) z = (st10 (roundKey p 3#32) (place z)).2 := by
  show (IntOp.addi (IntOp.addi (turned 24#32 8#32 ((k0_pay381 (q1410 p) (q1442 p) (q1444 p)) z) ((k0_pay382 (q1410 p) (q1442 p) (q1444 p)) z)) (broadcastTo S100x1000 (q1403 p) broadcasts_S1x1_S100x1000 z)) 2#32) = _
  rw [at378, at379, bcast_at _ _ (q1403_at p), st9_2, st10_2]
theorem at381 (p : Word) (z : S100x1000.Idx) : (k0_pay384 (q1403 p) (q1410 p) (q1442 p) (q1444 p)) z = (st11 (roundKey p 3#32) (place z)).1 := by
  show (IntOp.addi (IntOp.addi ((k0_pay382 (q1410 p) (q1442 p) (q1444 p)) z) (broadcastTo S100x1000 (q1410 p) broadcasts_S1x1_S100x1000 z)) ((k0_pay383 (q1403 p) (q1410 p) (q1442 p) (q1444 p)) z)) = _
  rw [at379, bcast_at _ _ (q1410_at p), at380, st10_1, st11_1]
theorem at382 (p : Word) (z : S100x1000.Idx) : (k0_pay385 (q1403 p) (q1410 p) (q1442 p) (q1444 p)) z = (st11 (roundKey p 3#32) (place z)).2 := by
  show (turned 13#32 19#32 ((k0_pay383 (q1403 p) (q1410 p) (q1442 p) (q1444 p)) z) ((k0_pay384 (q1403 p) (q1410 p) (q1442 p) (q1444 p)) z)) = _
  rw [at380, at381, st11_2]
def q1489 (p : Word) : IVec S100x1000 32 := (k0_pay385 (q1403 p) (q1410 p) (q1442 p) (q1444 p))
theorem q1489_at (p : Word) (z : S100x1000.Idx) : (q1489 p) z = (st11 (roundKey p 3#32) (place z)).2 := at382 p z
theorem at383 (p : Word) (z : S100x1000.Idx) : (k0_pay386 (q1403 p) (q1410 p) (q1442 p) (q1444 p)) z = (st12 (roundKey p 3#32) (place z)).1 := by
  show (IntOp.addi ((k0_pay384 (q1403 p) (q1410 p) (q1442 p) (q1444 p)) z) ((k0_pay385 (q1403 p) (q1410 p) (q1442 p) (q1444 p)) z)) = _
  rw [at381, at382, st12_1]
def q1490 (p : Word) : IVec S100x1000 32 := (k0_pay386 (q1403 p) (q1410 p) (q1442 p) (q1444 p))
theorem q1490_at (p : Word) (z : S100x1000.Idx) : (q1490 p) z = (st12 (roundKey p 3#32) (place z)).1 := at383 p z
theorem at384 (p : Word) (z : S100x1000.Idx) : k0_pay387 z = 15#32 := rfl
def q1491 (p : Word) : IVec S100x1000 32 := k0_pay387
theorem q1491_at (p : Word) (z : S100x1000.Idx) : (q1491 p) z = 15#32 := at384 p z
theorem at385 (p : Word) (z : S100x1000.Idx) : (k0_pay388 (q1489 p) (q1490 p) (q1491 p)) z = (st12 (roundKey p 3#32) (place z)).2 := by
  show (turned ((q1491 p) z) 17#32 ((q1489 p) z) ((q1490 p) z)) = _
  rw [q1489_at, q1491_at, q1490_at, st12_2]
theorem at386 (p : Word) (z : S100x1000.Idx) : (k0_pay389 (q1489 p) (q1490 p) (q1491 p)) z = (st13 (roundKey p 3#32) (place z)).1 := by
  show (IntOp.addi ((q1490 p) z) ((k0_pay388 (q1489 p) (q1490 p) (q1491 p)) z)) = _
  rw [q1490_at, at385, st13_1]
theorem at387 (p : Word) (z : S100x1000.Idx) : (k0_pay390 (q1489 p) (q1490 p) (q1491 p)) z = (st13 (roundKey p 3#32) (place z)).2 := by
  show (turned 26#32 6#32 ((k0_pay388 (q1489 p) (q1490 p) (q1491 p)) z) ((k0_pay389 (q1489 p) (q1490 p) (q1491 p)) z)) = _
  rw [at385, at386, st13_2]
theorem at388 (p : Word) (z : S100x1000.Idx) : (k0_pay391 (q1489 p) (q1490 p) (q1491 p)) z = (st14 (roundKey p 3#32) (place z)).1 := by
  show (IntOp.addi ((k0_pay389 (q1489 p) (q1490 p) (q1491 p)) z) ((k0_pay390 (q1489 p) (q1490 p) (q1491 p)) z)) = _
  rw [at386, at387, st14_1]
theorem at389 (p : Word) (z : S100x1000.Idx) : (k0_pay392 (q1406 p) (q1489 p) (q1490 p) (q1491 p)) z = (st15 (roundKey p 3#32) (place z)).2 := by
  show (IntOp.addi (IntOp.addi (turned 6#32 26#32 ((k0_pay390 (q1489 p) (q1490 p) (q1491 p)) z) ((k0_pay391 (q1489 p) (q1490 p) (q1491 p)) z)) (broadcastTo S100x1000 (q1406 p) broadcasts_S1x1_S100x1000 z)) 3#32) = _
  rw [at387, at388, bcast_at _ _ (q1406_at p), st14_2, st15_2]
theorem at390 (p : Word) (z : S100x1000.Idx) : (k0_pay393 (q1403 p) (q1406 p) (q1489 p) (q1490 p) (q1491 p)) z = (st16 (roundKey p 3#32) (place z)).1 := by
  show (IntOp.addi (IntOp.addi ((k0_pay391 (q1489 p) (q1490 p) (q1491 p)) z) (broadcastTo S100x1000 (q1403 p) broadcasts_S1x1_S100x1000 z)) ((k0_pay392 (q1406 p) (q1489 p) (q1490 p) (q1491 p)) z)) = _
  rw [at388, bcast_at _ _ (q1403_at p), at389, st15_1, st16_1]
theorem at391 (p : Word) (z : S100x1000.Idx) : (k0_pay394 (q1403 p) (q1406 p) (q1489 p) (q1490 p) (q1491 p)) z = (st16 (roundKey p 3#32) (place z)).2 := by
  show (turned 17#32 15#32 ((k0_pay392 (q1406 p) (q1489 p) (q1490 p) (q1491 p)) z) ((k0_pay393 (q1403 p) (q1406 p) (q1489 p) (q1490 p) (q1491 p)) z)) = _
  rw [at389, at390, st16_2]
theorem at392 (p : Word) (z : S100x1000.Idx) : (k0_pay395 (q1403 p) (q1406 p) (q1489 p) (q1490 p) (q1491 p)) z = (st17 (roundKey p 3#32) (place z)).1 := by
  show (IntOp.addi ((k0_pay393 (q1403 p) (q1406 p) (q1489 p) (q1490 p) (q1491 p)) z) ((k0_pay394 (q1403 p) (q1406 p) (q1489 p) (q1490 p) (q1491 p)) z)) = _
  rw [at390, at391, st17_1]
theorem at393 (p : Word) (z : S100x1000.Idx) : (k0_pay396 (q1403 p) (q1406 p) (q1489 p) (q1490 p) (q1491 p)) z = (st17 (roundKey p 3#32) (place z)).2 := by
  show (turned 29#32 3#32 ((k0_pay394 (q1403 p) (q1406 p) (q1489 p) (q1490 p) (q1491 p)) z) ((k0_pay395 (q1403 p) (q1406 p) (q1489 p) (q1490 p) (q1491 p)) z)) = _
  rw [at391, at392, st17_2]
theorem at394 (p : Word) (z : S100x1000.Idx) : (k0_pay397 (q1403 p) (q1406 p) (q1489 p) (q1490 p) (q1491 p)) z = (st18 (roundKey p 3#32) (place z)).1 := by
  show (IntOp.addi ((k0_pay395 (q1403 p) (q1406 p) (q1489 p) (q1490 p) (q1491 p)) z) ((k0_pay396 (q1403 p) (q1406 p) (q1489 p) (q1490 p) (q1491 p)) z)) = _
  rw [at392, at393, st18_1]
theorem at395 (p : Word) (z : S100x1000.Idx) : (k0_pay398 (q1403 p) (q1406 p) (q1489 p) (q1490 p) (q1491 p)) z = (st18 (roundKey p 3#32) (place z)).2 := by
  show (turned 16#32 16#32 ((k0_pay396 (q1403 p) (q1406 p) (q1489 p) (q1490 p) (q1491 p)) z) ((k0_pay397 (q1403 p) (q1406 p) (q1489 p) (q1490 p) (q1491 p)) z)) = _
  rw [at393, at394, st18_2]
def q1537 (p : Word) : IVec S100x1000 32 := (k0_pay398 (q1403 p) (q1406 p) (q1489 p) (q1490 p) (q1491 p))
theorem q1537_at (p : Word) (z : S100x1000.Idx) : (q1537 p) z = (st18 (roundKey p 3#32) (place z)).2 := at395 p z
theorem at396 (p : Word) (z : S100x1000.Idx) : (k0_pay399 (q1403 p) (q1406 p) (q1489 p) (q1490 p) (q1491 p)) z = (st19 (roundKey p 3#32) (place z)).1 := by
  show (IntOp.addi ((k0_pay397 (q1403 p) (q1406 p) (q1489 p) (q1490 p) (q1491 p)) z) ((k0_pay398 (q1403 p) (q1406 p) (q1489 p) (q1490 p) (q1491 p)) z)) = _
  rw [at394, at395, st19_1]
def q1538 (p : Word) : IVec S100x1000 32 := (k0_pay399 (q1403 p) (q1406 p) (q1489 p) (q1490 p) (q1491 p))
theorem q1538_at (p : Word) (z : S100x1000.Idx) : (q1538 p) z = (st19 (roundKey p 3#32) (place z)).1 := at396 p z
theorem at397 (p : Word) (z : S100x1000.Idx) : (k0_pay400 (q1403 p) (q1406 p) (q1410 p) (q1537 p) (q1538 p) 24#32) z = (bitWord p 3#32 (place z)) := by
  show (IntOp.xori (IntOp.addi (IntOp.addi (IntOp.addi (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)))) (turned 15#32 17#32 (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))) (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)))))) (turned 26#32 6#32 (turned 15#32 17#32 (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))) (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))))) (IntOp.addi (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)))) (turned 15#32 17#32 (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))) (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)))))))) (broadcastTo S100x1000 (q1410 p) broadcasts_S1x1_S100x1000 z)) (IntOp.addi (IntOp.addi (turned 6#32 26#32 (turned 26#32 6#32 (turned 15#32 17#32 (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))) (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))))) (IntOp.addi (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)))) (turned 15#32 17#32 (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))) (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))))))) (IntOp.addi (IntOp.addi (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)))) (turned 15#32 17#32 (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))) (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)))))) (turned 26#32 6#32 (turned 15#32 17#32 (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))) (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))))) (IntOp.addi (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)))) (turned 15#32 17#32 (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))) (IntOp.addi (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32)) (turned 13#32 19#32 (IntOp.addi (IntOp.addi (turned 24#32 8#32 ((q1537 p) z) ((q1538 p) z)) (broadcastTo S100x1000 (q1410 p) broadcasts_S1x1_S100x1000 z)) 4#32) (IntOp.addi (IntOp.addi ((q1538 p) z) (broadcastTo S100x1000 (q1406 p) broadcasts_S1x1_S100x1000 z)) (IntOp.addi (IntOp.addi (turned 24#32 8#32 ((q1537 p) z) ((q1538 p) z)) (broadcastTo S100x1000 (q1410 p) broadcasts_S1x1_S100x1000 z)) 4#32))))))))) (broadcastTo S100x1000 (q1403 p) broadcasts_S1x1_S100x1000 z)) 5#32)) = _
  rw [q1538_at, bcast_at _ _ (q1406_at p), q1537_at, bcast_at _ _ (q1410_at p), bcast_at _ _ (q1403_at p), st20_1, st19_2, st20_2, st21_1, st21_2, st22_1, st22_2, st23_1, st23_2, st24_1, st25_1, st24_2, st25_2, bitWord_def]
def q1585 (p : Word) : IVec S100x1000 32 := (k0_pay400 (q1403 p) (q1406 p) (q1410 p) (q1537 p) (q1538 p) 24#32)
theorem q1585_at (p : Word) (z : S100x1000.Idx) : (q1585 p) z = (bitWord p 3#32 (place z)) := at397 p z
theorem at398 (p : Word) (z : S100x1000.Idx) : k0_pay401 z = 0#32 := rfl
def q1586 (p : Word) : IVec S100x1000 32 := k0_pay401
theorem q1586_at (p : Word) (z : S100x1000.Idx) : (q1586 p) z = 0#32 := at398 p z
/-- The four bits of the token at position `j` of a row whose prior tokens sum to `p`: bit `d` is set where the
    word of round `d`, read signed, is not negative. -/
def bitsOf (p j : Word) : Word :=
  IntOp.ori (IntOp.ori (IntOp.ori (IntOp.ori 0#32
    (Scalar.select (IntOp.cmpi .sge (bitWord p 0#32 j) 0#32) 1#32 0#32))
    (Scalar.select (IntOp.cmpi .sge (bitWord p 1#32 j) 0#32) 2#32 0#32))
    (Scalar.select (IntOp.cmpi .sge (bitWord p 2#32 j) 0#32) 4#32 0#32))
    (Scalar.select (IntOp.cmpi .sge (bitWord p 3#32 j) 0#32) 8#32 0#32)

/-- What the first kernel stores. -/
def storedBits (p : Word) : IVec S1x100x1000 32 := k0_pay1 (q1239 p) (q1585 p) (q1586 p)
theorem storedBits_eq (p : Word) :
    storedBits p = shapeCast S1x100x1000 (fun z => bitsOf p (place z)) shapeCasts_S100x1000_S1x100x1000 := by
  have h : (fun z : S100x1000.Idx => IntOp.ori (q1239 p z) (Scalar.select (IntOp.cmpi .sge (q1585 p z) (q1586 p z)) 8#32 0#32))
      = fun z => bitsOf p (place z) := by
    funext z
    rw [q1239_at p z, q1585_at p z, q1586_at p z]
    rfl
  exact congrArg (fun v => shapeCast S1x100x1000 v shapeCasts_S100x1000_S1x100x1000) h

end Cert.Sampler

end
-- ==== Proof.KNib.lean ====
/- The words the first kernel's run finds, matched with the stages they are. -/
module

public import proofs.«01_k».proof.Proof.Gen.KernelIdeal.Frame
public import proofs.«01_k».proof.Proof.KBits
public import Idealize.ShloMosaic.Lib.Pipeline.FrameBody
public import Idealize.ShloMosaic.Lib.Pipeline.ValueKit.Basic
public import Idealize.ShloMosaic.Lib.VecWindow

@[expose] public section

set_option maxRecDepth 65536

noncomputable section

namespace Cert.Sampler

open Idealize.ShloMosaic Idealize.ShloMosaic.TcCoe Idealize.ShloMosaic.Tactic
open Idealize.SL.Sem
open Cert.KernelIdeal Cert.KernelIdeal.Gen

variable (c : Dev nD) (arg1 : Memref sig .tc .smem S1x1x1 .i32) (harg1 : arg1.IsWhole) (x0 : Vec Ideal S1x1x1 .i32)

/-- The word the kernel reads. -/
abbrev wordRead : Word := kernelRun0_A.sl.r (F := Ideal) c arg1 harg1 x0

theorem found1 : kernelRun0_A.sl.r_1 (F := Ideal) c arg1 harg1 x0 = q37 (wordRead c arg1 harg1 x0) := by
  unfold kernelRun0_A.sl.r_1
  rfl
theorem found2 : kernelRun0_A.sl.r_2 (F := Ideal) c arg1 harg1 x0 = q39 (wordRead c arg1 harg1 x0) := by
  unfold kernelRun0_A.sl.r_2
  rfl
theorem found3 : kernelRun0_A.sl.r_3 (F := Ideal) c arg1 harg1 x0 = q82 (wordRead c arg1 harg1 x0) := by
  unfold kernelRun0_A.sl.r_3
  rw [found1, found2]
  rfl
theorem found4 : kernelRun0_A.sl.r_4 (F := Ideal) c arg1 harg1 x0 = q83 (wordRead c arg1 harg1 x0) := by
  unfold kernelRun0_A.sl.r_4
  rw [found1, found2]
  rfl
theorem found5 : kernelRun0_A.sl.r_5 (F := Ideal) c arg1 harg1 x0 = q85 (wordRead c arg1 harg1 x0) := by
  unfold kernelRun0_A.sl.r_5
  rw [found1, found2]
  rfl
theorem found6 : kernelRun0_A.sl.r_6 (F := Ideal) c arg1 harg1 x0 = q130 (wordRead c arg1 harg1 x0) := by
  unfold kernelRun0_A.sl.r_6
  rw [found3, found4]
  rfl
theorem found7 : kernelRun0_A.sl.r_7 (F := Ideal) c arg1 harg1 x0 = q131 (wordRead c arg1 harg1 x0) := by
  unfold kernelRun0_A.sl.r_7
  rw [found3, found4]
  rfl
theorem found8 : kernelRun0_A.sl.r_8 (F := Ideal) c arg1 harg1 x0 = q173 (wordRead c arg1 harg1 x0) := by
  unfold kernelRun0_A.sl.r_8
  rw [found6, found7]
  rfl
theorem found9 : kernelRun0_A.sl.r_9 (F := Ideal) c arg1 harg1 x0 = q177 (wordRead c arg1 harg1 x0) := by
  unfold kernelRun0_A.sl.r_9
  rw [found6, found7]
  rfl
theorem found10 : kernelRun0_A.sl.r_10 (F := Ideal) c arg1 harg1 x0 = q186 (wordRead c arg1 harg1 x0) := by
  unfold kernelRun0_A.sl.r_10
  rw [found8, found9]
  rfl
theorem found11 : kernelRun0_A.sl.r_11 (F := Ideal) c arg1 harg1 x0 = q222 (wordRead c arg1 harg1 x0) := by
  unfold kernelRun0_A.sl.r_11
  rw [found8, found9]
  rfl
theorem found12 : kernelRun0_A.sl.r_12 (F := Ideal) c arg1 harg1 x0 = q223 (wordRead c arg1 harg1 x0) := by
  unfold kernelRun0_A.sl.r_12
  rw [found8, found9]
  rfl
theorem found13 : kernelRun0_A.sl.r_13 (F := Ideal) c arg1 harg1 x0 = q268 (wordRead c arg1 harg1 x0) := by
  unfold kernelRun0_A.sl.r_13
  rw [found8, found10]
  rfl
theorem found14 : kernelRun0_A.sl.r_14 (F := Ideal) c arg1 harg1 x0 = q269 (wordRead c arg1 harg1 x0) := by
  unfold kernelRun0_A.sl.r_14
  rw [found8, found10]
  rfl
theorem found15 : kernelRun0_A.sl.r_15 (F := Ideal) c arg1 harg1 x0 = q315 (wordRead c arg1 harg1 x0) := by
  unfold kernelRun0_A.sl.r_15
  rw [found8, found9]
  rfl
theorem found16 : kernelRun0_A.sl.r_16 (F := Ideal) c arg1 harg1 x0 = q316 (wordRead c arg1 harg1 x0) := by
  unfold kernelRun0_A.sl.r_16
  rw [found8, found9]
  rfl
theorem found17 : kernelRun0_A.sl.r_17 (F := Ideal) c arg1 harg1 x0 = q347 (wordRead c arg1 harg1 x0) := by
  unfold kernelRun0_A.sl.r_17
  rw [found10, found15]
  rfl
theorem found18 : kernelRun0_A.sl.r_18 (F := Ideal) c arg1 harg1 x0 = q350 (wordRead c arg1 harg1 x0) := by
  unfold kernelRun0_A.sl.r_18
  rw [found8, found15]
  rfl
theorem found19 : kernelRun0_A.sl.r_19 (F := Ideal) c arg1 harg1 x0 = q354 (wordRead c arg1 harg1 x0) := by
  unfold kernelRun0_A.sl.r_19
  rw [found8, found10]
  rfl
theorem found20 : kernelRun0_A.sl.r_20 (F := Ideal) c arg1 harg1 x0 = q359 (wordRead c arg1 harg1 x0) := by
  unfold kernelRun0_A.sl.r_20
  rw [found8, found10]
  rfl
theorem found21 : kernelRun0_A.sl.r_21 (F := Ideal) c arg1 harg1 x0 = q364 (wordRead c arg1 harg1 x0) := by
  unfold kernelRun0_A.sl.r_21
  rw [found8, found15]
  rfl
theorem found22 : kernelRun0_A.sl.r_22 (F := Ideal) c arg1 harg1 x0 = q407 (wordRead c arg1 harg1 x0) := by
  unfold kernelRun0_A.sl.r_22
  rw [found18, found19]
  rfl
theorem found23 : kernelRun0_A.sl.r_23 (F := Ideal) c arg1 harg1 x0 = q409 (wordRead c arg1 harg1 x0) := by
  unfold kernelRun0_A.sl.r_23
  rw [found18, found19]
  rfl
theorem found24 : kernelRun0_A.sl.r_24 (F := Ideal) c arg1 harg1 x0 = q411 (wordRead c arg1 harg1 x0) := by
  unfold kernelRun0_A.sl.r_24
  rw [found18, found19]
  rfl
theorem found25 : kernelRun0_A.sl.r_25 (F := Ideal) c arg1 harg1 x0 = q456 (wordRead c arg1 harg1 x0) := by
  unfold kernelRun0_A.sl.r_25
  rw [found17, found19]
  rfl
theorem found26 : kernelRun0_A.sl.r_26 (F := Ideal) c arg1 harg1 x0 = q458 (wordRead c arg1 harg1 x0) := by
  unfold kernelRun0_A.sl.r_26
  rw [found17, found18]
  rfl
theorem found27 : kernelRun0_A.sl.r_27 (F := Ideal) c arg1 harg1 x0 = q502 (wordRead c arg1 harg1 x0) := by
  unfold kernelRun0_A.sl.r_27
  rw [found18, found19]
  rfl
theorem found28 : kernelRun0_A.sl.r_28 (F := Ideal) c arg1 harg1 x0 = q504 (wordRead c arg1 harg1 x0) := by
  unfold kernelRun0_A.sl.r_28
  rw [found18, found19]
  rfl
theorem found29 : kernelRun0_A.sl.r_29 (F := Ideal) c arg1 harg1 x0 = q506 (wordRead c arg1 harg1 x0) := by
  unfold kernelRun0_A.sl.r_29
  rw [found18, found19]
  rfl
theorem found30 : kernelRun0_A.sl.r_30 (F := Ideal) c arg1 harg1 x0 = q535 (wordRead c arg1 harg1 x0) := by
  unfold kernelRun0_A.sl.r_30
  rw [found17, found19]
  rfl
theorem found31 : kernelRun0_A.sl.r_31 (F := Ideal) c arg1 harg1 x0 = q538 (wordRead c arg1 harg1 x0) := by
  unfold kernelRun0_A.sl.r_31
  rw [found8, found9]
  rfl
theorem found32 : kernelRun0_A.sl.r_32 (F := Ideal) c arg1 harg1 x0 = q549 (wordRead c arg1 harg1 x0) := by
  unfold kernelRun0_A.sl.r_32
  rw [found8, found9]
  rfl
theorem found33 : kernelRun0_A.sl.r_33 (F := Ideal) c arg1 harg1 x0 = q550 (wordRead c arg1 harg1 x0) := by
  unfold kernelRun0_A.sl.r_33
  rw [found8, found9]
  rfl
theorem found34 : kernelRun0_A.sl.r_34 (F := Ideal) c arg1 harg1 x0 = q552 (wordRead c arg1 harg1 x0) := by
  unfold kernelRun0_A.sl.r_34
  rw [found8, found9]
  rfl
theorem found35 : kernelRun0_A.sl.r_35 (F := Ideal) c arg1 harg1 x0 = q595 (wordRead c arg1 harg1 x0) := by
  unfold kernelRun0_A.sl.r_35
  rw [found9, found31]
  rfl
theorem found36 : kernelRun0_A.sl.r_36 (F := Ideal) c arg1 harg1 x0 = q596 (wordRead c arg1 harg1 x0) := by
  unfold kernelRun0_A.sl.r_36
  rw [found9, found31]
  rfl
theorem found37 : kernelRun0_A.sl.r_37 (F := Ideal) c arg1 harg1 x0 = q598 (wordRead c arg1 harg1 x0) := by
  unfold kernelRun0_A.sl.r_37
  rw [found9, found31]
  rfl
theorem found38 : kernelRun0_A.sl.r_38 (F := Ideal) c arg1 harg1 x0 = q645 (wordRead c arg1 harg1 x0) := by
  unfold kernelRun0_A.sl.r_38
  rw [found8, found9]
  rfl
theorem found39 : kernelRun0_A.sl.r_39 (F := Ideal) c arg1 harg1 x0 = q646 (wordRead c arg1 harg1 x0) := by
  unfold kernelRun0_A.sl.r_39
  rw [found8, found9]
  rfl
theorem found40 : kernelRun0_A.sl.r_40 (F := Ideal) c arg1 harg1 x0 = q691 (wordRead c arg1 harg1 x0) := by
  unfold kernelRun0_A.sl.r_40
  rw [found9, found31]
  rfl
theorem found41 : kernelRun0_A.sl.r_41 (F := Ideal) c arg1 harg1 x0 = q692 (wordRead c arg1 harg1 x0) := by
  unfold kernelRun0_A.sl.r_41
  rw [found9, found31]
  rfl
theorem found42 : kernelRun0_A.sl.r_42 (F := Ideal) c arg1 harg1 x0 = q699 (wordRead c arg1 harg1 x0) := by
  unfold kernelRun0_A.sl.r_42
  rw [found31, found41]
  rfl
theorem found43 : kernelRun0_A.sl.r_43 (F := Ideal) c arg1 harg1 x0 = q702 (wordRead c arg1 harg1 x0) := by
  unfold kernelRun0_A.sl.r_43
  rw [found8, found40]
  rfl
theorem found44 : kernelRun0_A.sl.r_44 (F := Ideal) c arg1 harg1 x0 = q706 (wordRead c arg1 harg1 x0) := by
  unfold kernelRun0_A.sl.r_44
  rw [found8, found31]
  rfl
theorem found45 : kernelRun0_A.sl.r_45 (F := Ideal) c arg1 harg1 x0 = q738 (wordRead c arg1 harg1 x0) := by
  unfold kernelRun0_A.sl.r_45
  rw [found8, found31]
  rfl
theorem found46 : kernelRun0_A.sl.r_46 (F := Ideal) c arg1 harg1 x0 = q740 (wordRead c arg1 harg1 x0) := by
  unfold kernelRun0_A.sl.r_46
  rw [found8, found31]
  rfl
theorem found47 : kernelRun0_A.sl.r_47 (F := Ideal) c arg1 harg1 x0 = q785 (wordRead c arg1 harg1 x0) := by
  unfold kernelRun0_A.sl.r_47
  rw [found42, found44]
  rfl
theorem found48 : kernelRun0_A.sl.r_48 (F := Ideal) c arg1 harg1 x0 = q786 (wordRead c arg1 harg1 x0) := by
  unfold kernelRun0_A.sl.r_48
  rw [found42, found44]
  rfl
theorem found49 : kernelRun0_A.sl.r_49 (F := Ideal) c arg1 harg1 x0 = q833 (wordRead c arg1 harg1 x0) := by
  unfold kernelRun0_A.sl.r_49
  rw [found42, found43]
  rfl
theorem found50 : kernelRun0_A.sl.r_50 (F := Ideal) c arg1 harg1 x0 = q834 (wordRead c arg1 harg1 x0) := by
  unfold kernelRun0_A.sl.r_50
  rw [found42, found43]
  rfl
theorem found51 : kernelRun0_A.sl.r_51 (F := Ideal) c arg1 harg1 x0 = q881 (wordRead c arg1 harg1 x0) := by
  unfold kernelRun0_A.sl.r_51
  rw [found42, found43]
  rfl
theorem found52 : kernelRun0_A.sl.r_52 (F := Ideal) c arg1 harg1 x0 = q887 (wordRead c arg1 harg1 x0) := by
  unfold kernelRun0_A.sl.r_52
  rw [found30, found51]
  rfl
theorem found53 : kernelRun0_A.sl.r_53 (F := Ideal) c arg1 harg1 x0 = q890 (wordRead c arg1 harg1 x0) := by
  unfold kernelRun0_A.sl.r_53
  rw [found8, found9]
  rfl
theorem found54 : kernelRun0_A.sl.r_54 (F := Ideal) c arg1 harg1 x0 = q926 (wordRead c arg1 harg1 x0) := by
  unfold kernelRun0_A.sl.r_54
  rw [found8, found9]
  rfl
theorem found55 : kernelRun0_A.sl.r_55 (F := Ideal) c arg1 harg1 x0 = q927 (wordRead c arg1 harg1 x0) := by
  unfold kernelRun0_A.sl.r_55
  rw [found8, found9]
  rfl
theorem found56 : kernelRun0_A.sl.r_56 (F := Ideal) c arg1 harg1 x0 = q972 (wordRead c arg1 harg1 x0) := by
  unfold kernelRun0_A.sl.r_56
  rw [found8, found53]
  rfl
theorem found57 : kernelRun0_A.sl.r_57 (F := Ideal) c arg1 harg1 x0 = q973 (wordRead c arg1 harg1 x0) := by
  unfold kernelRun0_A.sl.r_57
  rw [found8, found53]
  rfl
theorem found58 : kernelRun0_A.sl.r_58 (F := Ideal) c arg1 harg1 x0 = q1019 (wordRead c arg1 harg1 x0) := by
  unfold kernelRun0_A.sl.r_58
  rw [found8, found9]
  rfl
theorem found59 : kernelRun0_A.sl.r_59 (F := Ideal) c arg1 harg1 x0 = q1020 (wordRead c arg1 harg1 x0) := by
  unfold kernelRun0_A.sl.r_59
  rw [found8, found9]
  rfl
theorem found60 : kernelRun0_A.sl.r_60 (F := Ideal) c arg1 harg1 x0 = q1051 (wordRead c arg1 harg1 x0) := by
  unfold kernelRun0_A.sl.r_60
  rw [found53, found58]
  rfl
theorem found61 : kernelRun0_A.sl.r_61 (F := Ideal) c arg1 harg1 x0 = q1054 (wordRead c arg1 harg1 x0) := by
  unfold kernelRun0_A.sl.r_61
  rw [found8, found58]
  rfl
theorem found62 : kernelRun0_A.sl.r_62 (F := Ideal) c arg1 harg1 x0 = q1058 (wordRead c arg1 harg1 x0) := by
  unfold kernelRun0_A.sl.r_62
  rw [found8, found53]
  rfl
theorem found63 : kernelRun0_A.sl.r_63 (F := Ideal) c arg1 harg1 x0 = q1063 (wordRead c arg1 harg1 x0) := by
  unfold kernelRun0_A.sl.r_63
  rw [found8, found53]
  rfl
theorem found64 : kernelRun0_A.sl.r_64 (F := Ideal) c arg1 harg1 x0 = q1068 (wordRead c arg1 harg1 x0) := by
  unfold kernelRun0_A.sl.r_64
  rw [found8, found58]
  rfl
theorem found65 : kernelRun0_A.sl.r_65 (F := Ideal) c arg1 harg1 x0 = q1111 (wordRead c arg1 harg1 x0) := by
  unfold kernelRun0_A.sl.r_65
  rw [found61, found62]
  rfl
theorem found66 : kernelRun0_A.sl.r_66 (F := Ideal) c arg1 harg1 x0 = q1113 (wordRead c arg1 harg1 x0) := by
  unfold kernelRun0_A.sl.r_66
  rw [found61, found62]
  rfl
theorem found67 : kernelRun0_A.sl.r_67 (F := Ideal) c arg1 harg1 x0 = q1115 (wordRead c arg1 harg1 x0) := by
  unfold kernelRun0_A.sl.r_67
  rw [found61, found62]
  rfl
theorem found68 : kernelRun0_A.sl.r_68 (F := Ideal) c arg1 harg1 x0 = q1160 (wordRead c arg1 harg1 x0) := by
  unfold kernelRun0_A.sl.r_68
  rw [found60, found62]
  rfl
theorem found69 : kernelRun0_A.sl.r_69 (F := Ideal) c arg1 harg1 x0 = q1162 (wordRead c arg1 harg1 x0) := by
  unfold kernelRun0_A.sl.r_69
  rw [found60, found61]
  rfl
theorem found70 : kernelRun0_A.sl.r_70 (F := Ideal) c arg1 harg1 x0 = q1206 (wordRead c arg1 harg1 x0) := by
  unfold kernelRun0_A.sl.r_70
  rw [found61, found62]
  rfl
theorem found71 : kernelRun0_A.sl.r_71 (F := Ideal) c arg1 harg1 x0 = q1208 (wordRead c arg1 harg1 x0) := by
  unfold kernelRun0_A.sl.r_71
  rw [found61, found62]
  rfl
theorem found72 : kernelRun0_A.sl.r_72 (F := Ideal) c arg1 harg1 x0 = q1210 (wordRead c arg1 harg1 x0) := by
  unfold kernelRun0_A.sl.r_72
  rw [found61, found62]
  rfl
theorem found73 : kernelRun0_A.sl.r_73 (F := Ideal) c arg1 harg1 x0 = q1239 (wordRead c arg1 harg1 x0) := by
  unfold kernelRun0_A.sl.r_73
  rw [found52, found60]
  rfl
theorem found74 : kernelRun0_A.sl.r_74 (F := Ideal) c arg1 harg1 x0 = q1242 (wordRead c arg1 harg1 x0) := by
  unfold kernelRun0_A.sl.r_74
  rw [found8, found9]
  rfl
theorem found75 : kernelRun0_A.sl.r_75 (F := Ideal) c arg1 harg1 x0 = q1253 (wordRead c arg1 harg1 x0) := by
  unfold kernelRun0_A.sl.r_75
  rw [found8, found9]
  rfl
theorem found76 : kernelRun0_A.sl.r_76 (F := Ideal) c arg1 harg1 x0 = q1254 (wordRead c arg1 harg1 x0) := by
  unfold kernelRun0_A.sl.r_76
  rw [found8, found9]
  rfl
theorem found77 : kernelRun0_A.sl.r_77 (F := Ideal) c arg1 harg1 x0 = q1256 (wordRead c arg1 harg1 x0) := by
  unfold kernelRun0_A.sl.r_77
  rw [found8, found9]
  rfl
theorem found78 : kernelRun0_A.sl.r_78 (F := Ideal) c arg1 harg1 x0 = q1299 (wordRead c arg1 harg1 x0) := by
  unfold kernelRun0_A.sl.r_78
  rw [found9, found74]
  rfl
theorem found79 : kernelRun0_A.sl.r_79 (F := Ideal) c arg1 harg1 x0 = q1300 (wordRead c arg1 harg1 x0) := by
  unfold kernelRun0_A.sl.r_79
  rw [found9, found74]
  rfl
theorem found80 : kernelRun0_A.sl.r_80 (F := Ideal) c arg1 harg1 x0 = q1302 (wordRead c arg1 harg1 x0) := by
  unfold kernelRun0_A.sl.r_80
  rw [found9, found74]
  rfl
theorem found81 : kernelRun0_A.sl.r_81 (F := Ideal) c arg1 harg1 x0 = q1349 (wordRead c arg1 harg1 x0) := by
  unfold kernelRun0_A.sl.r_81
  rw [found8, found9]
  rfl
theorem found82 : kernelRun0_A.sl.r_82 (F := Ideal) c arg1 harg1 x0 = q1350 (wordRead c arg1 harg1 x0) := by
  unfold kernelRun0_A.sl.r_82
  rw [found8, found9]
  rfl
theorem found83 : kernelRun0_A.sl.r_83 (F := Ideal) c arg1 harg1 x0 = q1395 (wordRead c arg1 harg1 x0) := by
  unfold kernelRun0_A.sl.r_83
  rw [found9, found74]
  rfl
theorem found84 : kernelRun0_A.sl.r_84 (F := Ideal) c arg1 harg1 x0 = q1396 (wordRead c arg1 harg1 x0) := by
  unfold kernelRun0_A.sl.r_84
  rw [found9, found74]
  rfl
theorem found85 : kernelRun0_A.sl.r_85 (F := Ideal) c arg1 harg1 x0 = q1403 (wordRead c arg1 harg1 x0) := by
  unfold kernelRun0_A.sl.r_85
  rw [found74, found84]
  rfl
theorem found86 : kernelRun0_A.sl.r_86 (F := Ideal) c arg1 harg1 x0 = q1406 (wordRead c arg1 harg1 x0) := by
  unfold kernelRun0_A.sl.r_86
  rw [found8, found83]
  rfl
theorem found87 : kernelRun0_A.sl.r_87 (F := Ideal) c arg1 harg1 x0 = q1410 (wordRead c arg1 harg1 x0) := by
  unfold kernelRun0_A.sl.r_87
  rw [found8, found74]
  rfl
theorem found88 : kernelRun0_A.sl.r_88 (F := Ideal) c arg1 harg1 x0 = q1442 (wordRead c arg1 harg1 x0) := by
  unfold kernelRun0_A.sl.r_88
  rw [found8, found74]
  rfl
theorem found89 : kernelRun0_A.sl.r_89 (F := Ideal) c arg1 harg1 x0 = q1444 (wordRead c arg1 harg1 x0) := by
  unfold kernelRun0_A.sl.r_89
  rw [found8, found74]
  rfl
theorem found90 : kernelRun0_A.sl.r_90 (F := Ideal) c arg1 harg1 x0 = q1489 (wordRead c arg1 harg1 x0) := by
  unfold kernelRun0_A.sl.r_90
  rw [found85, found87]
  rfl
theorem found91 : kernelRun0_A.sl.r_91 (F := Ideal) c arg1 harg1 x0 = q1490 (wordRead c arg1 harg1 x0) := by
  unfold kernelRun0_A.sl.r_91
  rw [found85, found87]
  rfl
theorem found92 : kernelRun0_A.sl.r_92 (F := Ideal) c arg1 harg1 x0 = q1537 (wordRead c arg1 harg1 x0) := by
  unfold kernelRun0_A.sl.r_92
  rw [found85, found86]
  rfl
theorem found93 : kernelRun0_A.sl.r_93 (F := Ideal) c arg1 harg1 x0 = q1538 (wordRead c arg1 harg1 x0) := by
  unfold kernelRun0_A.sl.r_93
  rw [found85, found86]
  rfl
theorem found94 : kernelRun0_A.sl.r_94 (F := Ideal) c arg1 harg1 x0 = q1585 (wordRead c arg1 harg1 x0) := by
  unfold kernelRun0_A.sl.r_94
  rw [found85, found86]
  rfl

theorem pieces0 (i : grid0.Coords) (arg2 : Memref sig .tc .vmem S1x100x1000 .i32) (harg2 : arg2.IsWhole) :
    (kernelRun0_A (F := Ideal) c i arg1 harg1 arg2 harg2 x0).1
      = [⟨Rect.unit (s := S1x100x1000) ![0, 0, 0] S1x100x1000.size inb_S1x100x1000_S1x100x1000_0_0_0, storedBits (wordRead c arg1 harg1 x0)⟩] := by
  unfold kernelRun0_A
  dsimp only
  rw [found73, found94]
  rfl

theorem wordRead_eq (a : S1x1x1.Idx) : wordRead c arg1 harg1 x0 = x0 a := by
  unfold wordRead kernelRun0_A.sl.r
  rw [View.readAt_full, harg1.read_unread]
  refine congrArg x0 (funext fun b => Fin.ext ?_)
  have h1 : ∀ y : S1x1x1.Idx, (y b).val = 0 := fun y => by
    have h : S1x1x1.size b = 1 := by fin_cases b <;> rfl
    have := (y b).isLt; omega
  rw [h1, h1]

variable (V : (c : Dev nD) → (b : Ref sig .tc) → Buf (Elt Ideal) ((c : Thread nD τ).loc b))

theorem outs0_eq (c : Dev nD) (t : Fin cfg0.N) (a : S1x1x1.Idx) : outsAt0 V c t = storedBits (iblk0 V c 0 t a) := by
  unfold outsAt0 out0_A_1
  rw [View.read_writes_junk_eq_canon, pieces0, wordRead_eq _ _ _ _ a]
  exact View.canon_cons_unit_lit _ _ _ (fun b => by fin_cases b <;> rfl)

end Cert.Sampler

end
-- ==== Proof.KDraw.lean ====
/- The words of the final kernel, element by element: each vector of the printed body is a stage of the cipher. -/
module

public import proofs.«01_k».proof.Proof.Gen.KernelIdeal.Frame
public import proofs.«01_k».proof.Proof.Place

@[expose] public section

set_option maxRecDepth 65536

noncomputable section

namespace Cert.Sampler

open Idealize.ShloMosaic Idealize.ShloMosaic.TcCoe
open Cert.KernelIdeal Cert.KernelIdeal.Gen

variable {F : FTy → Type} [FloatOps F]

theorem dr0 (i : grid1.Coords) (x0 x1 : Vec F S1x100x1000 .f32) (z : S1x1.Idx) : (k1_pay6 i) z = (st0 (0#32, 43#32) (BitVec.ofNat 32 (i 0).val)).2 := by
  show (IntOp.addi (BitVec.ofNat 32 (i 0).val) 43#32) = _
  rw [st0_2 (0#32, 43#32) (BitVec.ofNat 32 (i 0).val)]
theorem pay100_at (i : grid1.Coords) (x0 x1 : Vec F S1x100x1000 .f32) (z : S1x1.Idx) : (k1_pay100 i x0 x1) z = (st0 (0#32, 43#32) (BitVec.ofNat 32 (i 0).val)).2 := dr0 i x0 x1 z
theorem dr1 (i : grid1.Coords) (x0 x1 : Vec F S1x100x1000 .f32) (z : S1x1.Idx) : (k1_pay7 i) z = (st1 (0#32, 43#32) (BitVec.ofNat 32 (i 0).val)).1 := by
  show (IntOp.addi (IntOp.addi 0#32 0#32) ((k1_pay6 i) z)) = _
  rw [dr0 i x0 x1 z, st0_1 (0#32, 43#32) (BitVec.ofNat 32 (i 0).val), st1_1]
theorem pay101_at (i : grid1.Coords) (x0 x1 : Vec F S1x100x1000 .f32) (z : S1x1.Idx) : (k1_pay101 i x0 x1) z = (st1 (0#32, 43#32) (BitVec.ofNat 32 (i 0).val)).1 := dr1 i x0 x1 z
theorem dr2 (i : grid1.Coords) (x0 x1 : Vec F S1x100x1000 .f32) (z : S1x1.Idx) : (k1_pay8 i) z = (IntOp.shli .vector (st0 (0#32, 43#32) (BitVec.ofNat 32 (i 0).val)).2 13#32) := by
  show (IntOp.shli .vector ((k1_pay6 i) z) 13#32) = _
  rw [dr0 i x0 x1 z]
theorem pay102_at (i : grid1.Coords) (x0 x1 : Vec F S1x100x1000 .f32) (z : S1x1.Idx) : (k1_pay102 i x0 x1) z = (IntOp.shli .vector (st0 (0#32, 43#32) (BitVec.ofNat 32 (i 0).val)).2 13#32) := dr2 i x0 x1 z
theorem dr3 (i : grid1.Coords) (x0 x1 : Vec F S1x100x1000 .f32) (z : S1x1.Idx) : (k1_pay9 (k1_pay100 i x0 x1) (k1_pay101 i x0 x1) (k1_pay102 i x0 x1) 19#32) z = (st1 (0#32, 43#32) (BitVec.ofNat 32 (i 0).val)).2 := by
  show (IntOp.xori (IntOp.ori ((k1_pay102 i x0 x1) z) (IntOp.shrui .vector ((k1_pay100 i x0 x1) z) 19#32)) ((k1_pay101 i x0 x1) z)) = _
  rw [pay102_at i x0 x1 z, pay100_at i x0 x1 z, pay101_at i x0 x1 z, st1_2']
theorem dr4 (i : grid1.Coords) (x0 x1 : Vec F S1x100x1000 .f32) (z : S1x1.Idx) : (k1_pay10 (k1_pay100 i x0 x1) (k1_pay101 i x0 x1) (k1_pay102 i x0 x1) 19#32) z = (st2 (0#32, 43#32) (BitVec.ofNat 32 (i 0).val)).1 := by
  show (IntOp.addi ((k1_pay101 i x0 x1) z) ((k1_pay9 (k1_pay100 i x0 x1) (k1_pay101 i x0 x1) (k1_pay102 i x0 x1) 19#32) z)) = _
  rw [pay101_at i x0 x1 z, dr3 i x0 x1 z, st2_1]
theorem dr5 (i : grid1.Coords) (x0 x1 : Vec F S1x100x1000 .f32) (z : S1x1.Idx) : (k1_pay11 (k1_pay100 i x0 x1) (k1_pay101 i x0 x1) (k1_pay102 i x0 x1) 19#32) z = (st2 (0#32, 43#32) (BitVec.ofNat 32 (i 0).val)).2 := by
  show (turned 15#32 17#32 ((k1_pay9 (k1_pay100 i x0 x1) (k1_pay101 i x0 x1) (k1_pay102 i x0 x1) 19#32) z) ((k1_pay10 (k1_pay100 i x0 x1) (k1_pay101 i x0 x1) (k1_pay102 i x0 x1) 19#32) z)) = _
  rw [dr3 i x0 x1 z, dr4 i x0 x1 z, st2_2]
theorem dr6 (i : grid1.Coords) (x0 x1 : Vec F S1x100x1000 .f32) (z : S1x1.Idx) : (k1_pay12 (k1_pay100 i x0 x1) (k1_pay101 i x0 x1) (k1_pay102 i x0 x1) 19#32) z = (st3 (0#32, 43#32) (BitVec.ofNat 32 (i 0).val)).1 := by
  show (IntOp.addi ((k1_pay10 (k1_pay100 i x0 x1) (k1_pay101 i x0 x1) (k1_pay102 i x0 x1) 19#32) z) ((k1_pay11 (k1_pay100 i x0 x1) (k1_pay101 i x0 x1) (k1_pay102 i x0 x1) 19#32) z)) = _
  rw [dr4 i x0 x1 z, dr5 i x0 x1 z, st3_1]
theorem dr7 (i : grid1.Coords) (x0 x1 : Vec F S1x100x1000 .f32) (z : S1x1.Idx) : (k1_pay13 (k1_pay100 i x0 x1) (k1_pay101 i x0 x1) (k1_pay102 i x0 x1) 19#32) z = (st3 (0#32, 43#32) (BitVec.ofNat 32 (i 0).val)).2 := by
  show (turned 26#32 6#32 ((k1_pay11 (k1_pay100 i x0 x1) (k1_pay101 i x0 x1) (k1_pay102 i x0 x1) 19#32) z) ((k1_pay12 (k1_pay100 i x0 x1) (k1_pay101 i x0 x1) (k1_pay102 i x0 x1) 19#32) z)) = _
  rw [dr5 i x0 x1 z, dr6 i x0 x1 z, st3_2]
theorem dr8 (i : grid1.Coords) (x0 x1 : Vec F S1x100x1000 .f32) (z : S1x1.Idx) : (k1_pay14 (k1_pay100 i x0 x1) (k1_pay101 i x0 x1) (k1_pay102 i x0 x1) 19#32) z = (st4 (0#32, 43#32) (BitVec.ofNat 32 (i 0).val)).1 := by
  show (IntOp.addi ((k1_pay12 (k1_pay100 i x0 x1) (k1_pay101 i x0 x1) (k1_pay102 i x0 x1) 19#32) z) ((k1_pay13 (k1_pay100 i x0 x1) (k1_pay101 i x0 x1) (k1_pay102 i x0 x1) 19#32) z)) = _
  rw [dr6 i x0 x1 z, dr7 i x0 x1 z, st4_1]
theorem dr9 (i : grid1.Coords) (x0 x1 : Vec F S1x100x1000 .f32) (z : S1x1.Idx) : (k1_pay15 (IntOp.xori (IntOp.xori 0#32 43#32) 466688986#32) (k1_pay100 i x0 x1) (k1_pay101 i x0 x1) (k1_pay102 i x0 x1) 19#32) z = (st5 (0#32, 43#32) (BitVec.ofNat 32 (i 0).val)).2 := by
  show (IntOp.addi (IntOp.addi (turned 6#32 26#32 ((k1_pay13 (k1_pay100 i x0 x1) (k1_pay101 i x0 x1) (k1_pay102 i x0 x1) 19#32) z) ((k1_pay14 (k1_pay100 i x0 x1) (k1_pay101 i x0 x1) (k1_pay102 i x0 x1) 19#32) z)) (IntOp.xori (IntOp.xori 0#32 43#32) 466688986#32)) 1#32) = _
  rw [dr7 i x0 x1 z, dr8 i x0 x1 z, st4_2, key3_def, st5_2]
theorem dr10 (i : grid1.Coords) (x0 x1 : Vec F S1x100x1000 .f32) (z : S1x1.Idx) : (k1_pay16 (IntOp.xori (IntOp.xori 0#32 43#32) 466688986#32) (k1_pay100 i x0 x1) (k1_pay101 i x0 x1) (k1_pay102 i x0 x1) 19#32) z = (st6 (0#32, 43#32) (BitVec.ofNat 32 (i 0).val)).1 := by
  show (IntOp.addi (IntOp.addi ((k1_pay14 (k1_pay100 i x0 x1) (k1_pay101 i x0 x1) (k1_pay102 i x0 x1) 19#32) z) 43#32) ((k1_pay15 (IntOp.xori (IntOp.xori 0#32 43#32) 466688986#32) (k1_pay100 i x0 x1) (k1_pay101 i x0 x1) (k1_pay102 i x0 x1) 19#32) z)) = _
  rw [dr8 i x0 x1 z, dr9 i x0 x1 z, st5_1, st6_1]
theorem dr11 (i : grid1.Coords) (x0 x1 : Vec F S1x100x1000 .f32) (z : S1x1.Idx) : (k1_pay17 (IntOp.xori (IntOp.xori 0#32 43#32) 466688986#32) (k1_pay100 i x0 x1) (k1_pay101 i x0 x1) (k1_pay102 i x0 x1) 19#32) z = (st6 (0#32, 43#32) (BitVec.ofNat 32 (i 0).val)).2 := by
  show (turned 17#32 15#32 ((k1_pay15 (IntOp.xori (IntOp.xori 0#32 43#32) 466688986#32) (k1_pay100 i x0 x1) (k1_pay101 i x0 x1) (k1_pay102 i x0 x1) 19#32) z) ((k1_pay16 (IntOp.xori (IntOp.xori 0#32 43#32) 466688986#32) (k1_pay100 i x0 x1) (k1_pay101 i x0 x1) (k1_pay102 i x0 x1) 19#32) z)) = _
  rw [dr9 i x0 x1 z, dr10 i x0 x1 z, st6_2]
theorem dr12 (i : grid1.Coords) (x0 x1 : Vec F S1x100x1000 .f32) (z : S1x1.Idx) : (k1_pay18 (IntOp.xori (IntOp.xori 0#32 43#32) 466688986#32) (k1_pay100 i x0 x1) (k1_pay101 i x0 x1) (k1_pay102 i x0 x1) 19#32) z = (st7 (0#32, 43#32) (BitVec.ofNat 32 (i 0).val)).1 := by
  show (IntOp.addi ((k1_pay16 (IntOp.xori (IntOp.xori 0#32 43#32) 466688986#32) (k1_pay100 i x0 x1) (k1_pay101 i x0 x1) (k1_pay102 i x0 x1) 19#32) z) ((k1_pay17 (IntOp.xori (IntOp.xori 0#32 43#32) 466688986#32) (k1_pay100 i x0 x1) (k1_pay101 i x0 x1) (k1_pay102 i x0 x1) 19#32) z)) = _
  rw [dr10 i x0 x1 z, dr11 i x0 x1 z, st7_1]
theorem dr13 (i : grid1.Coords) (x0 x1 : Vec F S1x100x1000 .f32) (z : S1x1.Idx) : (k1_pay19 (Scalar.xori (Scalar.xori 0#32 43#32) 466688986#32) (k1_pay100 i x0 x1) (k1_pay101 i x0 x1) (k1_pay102 i x0 x1) 19#32) z = (st7 (0#32, 43#32) (BitVec.ofNat 32 (i 0).val)).2 := by
  show (turned 29#32 3#32 ((k1_pay17 (IntOp.xori (IntOp.xori 0#32 43#32) 466688986#32) (k1_pay100 i x0 x1) (k1_pay101 i x0 x1) (k1_pay102 i x0 x1) 19#32) z) ((k1_pay18 (IntOp.xori (IntOp.xori 0#32 43#32) 466688986#32) (k1_pay100 i x0 x1) (k1_pay101 i x0 x1) (k1_pay102 i x0 x1) 19#32) z)) = _
  rw [dr11 i x0 x1 z, dr12 i x0 x1 z, st7_2]
theorem pay103_at (i : grid1.Coords) (x0 x1 : Vec F S1x100x1000 .f32) (z : S1x1.Idx) : (k1_pay103 i x0 x1) z = (st7 (0#32, 43#32) (BitVec.ofNat 32 (i 0).val)).2 := dr13 i x0 x1 z
theorem dr14 (i : grid1.Coords) (x0 x1 : Vec F S1x100x1000 .f32) (z : S1x1.Idx) : (k1_pay19 (IntOp.xori (IntOp.xori 0#32 43#32) 466688986#32) (k1_pay100 i x0 x1) (k1_pay101 i x0 x1) (k1_pay102 i x0 x1) 19#32) z = (st7 (0#32, 43#32) (BitVec.ofNat 32 (i 0).val)).2 := by
  show (turned 29#32 3#32 ((k1_pay17 (IntOp.xori (IntOp.xori 0#32 43#32) 466688986#32) (k1_pay100 i x0 x1) (k1_pay101 i x0 x1) (k1_pay102 i x0 x1) 19#32) z) ((k1_pay18 (IntOp.xori (IntOp.xori 0#32 43#32) 466688986#32) (k1_pay100 i x0 x1) (k1_pay101 i x0 x1) (k1_pay102 i x0 x1) 19#32) z)) = _
  rw [dr11 i x0 x1 z, dr12 i x0 x1 z, st7_2]
theorem dr15 (i : grid1.Coords) (x0 x1 : Vec F S1x100x1000 .f32) (z : S1x1.Idx) : (k1_pay20 (Scalar.xori (Scalar.xori 0#32 43#32) 466688986#32) (k1_pay100 i x0 x1) (k1_pay101 i x0 x1) (k1_pay102 i x0 x1) 19#32) z = (st8 (0#32, 43#32) (BitVec.ofNat 32 (i 0).val)).1 := by
  show (IntOp.addi ((k1_pay18 (IntOp.xori (IntOp.xori 0#32 43#32) 466688986#32) (k1_pay100 i x0 x1) (k1_pay101 i x0 x1) (k1_pay102 i x0 x1) 19#32) z) ((k1_pay19 (IntOp.xori (IntOp.xori 0#32 43#32) 466688986#32) (k1_pay100 i x0 x1) (k1_pay101 i x0 x1) (k1_pay102 i x0 x1) 19#32) z)) = _
  rw [dr12 i x0 x1 z, dr14 i x0 x1 z, st8_1]
theorem pay104_at (i : grid1.Coords) (x0 x1 : Vec F S1x100x1000 .f32) (z : S1x1.Idx) : (k1_pay104 i x0 x1) z = (st8 (0#32, 43#32) (BitVec.ofNat 32 (i 0).val)).1 := dr15 i x0 x1 z
theorem dr16 (i : grid1.Coords) (x0 x1 : Vec F S1x100x1000 .f32) (z : S1x1.Idx) : k1_pay21 z = 16#32 := rfl
theorem pay105_at (i : grid1.Coords) (x0 x1 : Vec F S1x100x1000 .f32) (z : S1x1.Idx) : (k1_pay105 i x0 x1) z = 16#32 := dr16 i x0 x1 z
theorem dr17 (i : grid1.Coords) (x0 x1 : Vec F S1x100x1000 .f32) (z : S1x1.Idx) : (k1_pay22 (k1_pay103 i x0 x1) (k1_pay104 i x0 x1) (k1_pay105 i x0 x1)) z = (st8 (0#32, 43#32) (BitVec.ofNat 32 (i 0).val)).2 := by
  show (turned ((k1_pay105 i x0 x1) z) 16#32 ((k1_pay103 i x0 x1) z) ((k1_pay104 i x0 x1) z)) = _
  rw [pay103_at i x0 x1 z, pay105_at i x0 x1 z, pay104_at i x0 x1 z, st8_2]
theorem dr18 (i : grid1.Coords) (x0 x1 : Vec F S1x100x1000 .f32) (z : S1x1.Idx) : (k1_pay23 (k1_pay103 i x0 x1) (k1_pay104 i x0 x1) (k1_pay105 i x0 x1)) z = (st9 (0#32, 43#32) (BitVec.ofNat 32 (i 0).val)).1 := by
  show (IntOp.addi ((k1_pay104 i x0 x1) z) ((k1_pay22 (k1_pay103 i x0 x1) (k1_pay104 i x0 x1) (k1_pay105 i x0 x1)) z)) = _
  rw [pay104_at i x0 x1 z, dr17 i x0 x1 z, st9_1]
theorem dr19 (i : grid1.Coords) (x0 x1 : Vec F S1x100x1000 .f32) (z : S1x1.Idx) : (k1_pay24 (k1_pay103 i x0 x1) (k1_pay104 i x0 x1) (k1_pay105 i x0 x1)) z = (st10 (0#32, 43#32) (BitVec.ofNat 32 (i 0).val)).2 := by
  show (IntOp.addi (IntOp.addi (turned 24#32 8#32 ((k1_pay22 (k1_pay103 i x0 x1) (k1_pay104 i x0 x1) (k1_pay105 i x0 x1)) z) ((k1_pay23 (k1_pay103 i x0 x1) (k1_pay104 i x0 x1) (k1_pay105 i x0 x1)) z)) 0#32) 2#32) = _
  rw [dr17 i x0 x1 z, dr18 i x0 x1 z, st9_2, st10_2]
theorem dr20 (i : grid1.Coords) (x0 x1 : Vec F S1x100x1000 .f32) (z : S1x1.Idx) : (k1_pay25 (IntOp.xori (IntOp.xori 0#32 43#32) 466688986#32) (k1_pay103 i x0 x1) (k1_pay104 i x0 x1) (k1_pay105 i x0 x1)) z = (st11 (0#32, 43#32) (BitVec.ofNat 32 (i 0).val)).1 := by
  show (IntOp.addi (IntOp.addi ((k1_pay23 (k1_pay103 i x0 x1) (k1_pay104 i x0 x1) (k1_pay105 i x0 x1)) z) (IntOp.xori (IntOp.xori 0#32 43#32) 466688986#32)) ((k1_pay24 (k1_pay103 i x0 x1) (k1_pay104 i x0 x1) (k1_pay105 i x0 x1)) z)) = _
  rw [dr18 i x0 x1 z, dr19 i x0 x1 z, key3_def, st10_1, st11_1]
theorem dr21 (i : grid1.Coords) (x0 x1 : Vec F S1x100x1000 .f32) (z : S1x1.Idx) : (k1_pay26 (IntOp.xori (IntOp.xori 0#32 43#32) 466688986#32) (k1_pay103 i x0 x1) (k1_pay104 i x0 x1) (k1_pay105 i x0 x1)) z = (st11 (0#32, 43#32) (BitVec.ofNat 32 (i 0).val)).2 := by
  show (turned 13#32 19#32 ((k1_pay24 (k1_pay103 i x0 x1) (k1_pay104 i x0 x1) (k1_pay105 i x0 x1)) z) ((k1_pay25 (IntOp.xori (IntOp.xori 0#32 43#32) 466688986#32) (k1_pay103 i x0 x1) (k1_pay104 i x0 x1) (k1_pay105 i x0 x1)) z)) = _
  rw [dr19 i x0 x1 z, dr20 i x0 x1 z, st11_2]
theorem dr22 (i : grid1.Coords) (x0 x1 : Vec F S1x100x1000 .f32) (z : S1x1.Idx) : (k1_pay27 (IntOp.xori (IntOp.xori 0#32 43#32) 466688986#32) (k1_pay103 i x0 x1) (k1_pay104 i x0 x1) (k1_pay105 i x0 x1)) z = (st12 (0#32, 43#32) (BitVec.ofNat 32 (i 0).val)).1 := by
  show (IntOp.addi ((k1_pay25 (IntOp.xori (IntOp.xori 0#32 43#32) 466688986#32) (k1_pay103 i x0 x1) (k1_pay104 i x0 x1) (k1_pay105 i x0 x1)) z) ((k1_pay26 (IntOp.xori (IntOp.xori 0#32 43#32) 466688986#32) (k1_pay103 i x0 x1) (k1_pay104 i x0 x1) (k1_pay105 i x0 x1)) z)) = _
  rw [dr20 i x0 x1 z, dr21 i x0 x1 z, st12_1]
theorem dr23 (i : grid1.Coords) (x0 x1 : Vec F S1x100x1000 .f32) (z : S1x1.Idx) : (k1_pay28 (IntOp.xori (IntOp.xori 0#32 43#32) 466688986#32) (k1_pay103 i x0 x1) (k1_pay104 i x0 x1) (k1_pay105 i x0 x1)) z = (st12 (0#32, 43#32) (BitVec.ofNat 32 (i 0).val)).2 := by
  show (turned 15#32 17#32 ((k1_pay26 (IntOp.xori (IntOp.xori 0#32 43#32) 466688986#32) (k1_pay103 i x0 x1) (k1_pay104 i x0 x1) (k1_pay105 i x0 x1)) z) ((k1_pay27 (IntOp.xori (IntOp.xori 0#32 43#32) 466688986#32) (k1_pay103 i x0 x1) (k1_pay104 i x0 x1) (k1_pay105 i x0 x1)) z)) = _
  rw [dr21 i x0 x1 z, dr22 i x0 x1 z, st12_2]
theorem dr24 (i : grid1.Coords) (x0 x1 : Vec F S1x100x1000 .f32) (z : S1x1.Idx) : (k1_pay29 (IntOp.xori (IntOp.xori 0#32 43#32) 466688986#32) (k1_pay103 i x0 x1) (k1_pay104 i x0 x1) (k1_pay105 i x0 x1)) z = (st13 (0#32, 43#32) (BitVec.ofNat 32 (i 0).val)).1 := by
  show (IntOp.addi ((k1_pay27 (IntOp.xori (IntOp.xori 0#32 43#32) 466688986#32) (k1_pay103 i x0 x1) (k1_pay104 i x0 x1) (k1_pay105 i x0 x1)) z) ((k1_pay28 (IntOp.xori (IntOp.xori 0#32 43#32) 466688986#32) (k1_pay103 i x0 x1) (k1_pay104 i x0 x1) (k1_pay105 i x0 x1)) z)) = _
  rw [dr22 i x0 x1 z, dr23 i x0 x1 z, st13_1]
theorem dr25 (i : grid1.Coords) (x0 x1 : Vec F S1x100x1000 .f32) (z : S1x1.Idx) : (k1_pay30 (IntOp.xori (IntOp.xori 0#32 43#32) 466688986#32) (k1_pay103 i x0 x1) (k1_pay104 i x0 x1) (k1_pay105 i x0 x1)) z = (st13 (0#32, 43#32) (BitVec.ofNat 32 (i 0).val)).2 := by
  show (turned 26#32 6#32 ((k1_pay28 (IntOp.xori (IntOp.xori 0#32 43#32) 466688986#32) (k1_pay103 i x0 x1) (k1_pay104 i x0 x1) (k1_pay105 i x0 x1)) z) ((k1_pay29 (IntOp.xori (IntOp.xori 0#32 43#32) 466688986#32) (k1_pay103 i x0 x1) (k1_pay104 i x0 x1) (k1_pay105 i x0 x1)) z)) = _
  rw [dr23 i x0 x1 z, dr24 i x0 x1 z, st13_2]
theorem dr26 (i : grid1.Coords) (x0 x1 : Vec F S1x100x1000 .f32) (z : S1x1.Idx) : (k1_pay31 (Scalar.xori (Scalar.xori 0#32 43#32) 466688986#32) (k1_pay103 i x0 x1) (k1_pay104 i x0 x1) (k1_pay105 i x0 x1)) z = (st14 (0#32, 43#32) (BitVec.ofNat 32 (i 0).val)).1 := by
  show (IntOp.addi ((k1_pay29 (IntOp.xori (IntOp.xori 0#32 43#32) 466688986#32) (k1_pay103 i x0 x1) (k1_pay104 i x0 x1) (k1_pay105 i x0 x1)) z) ((k1_pay30 (IntOp.xori (IntOp.xori 0#32 43#32) 466688986#32) (k1_pay103 i x0 x1) (k1_pay104 i x0 x1) (k1_pay105 i x0 x1)) z)) = _
  rw [dr24 i x0 x1 z, dr25 i x0 x1 z, st14_1]
theorem pay106_at (i : grid1.Coords) (x0 x1 : Vec F S1x100x1000 .f32) (z : S1x1.Idx) : (k1_pay106 i x0 x1) z = (st14 (0#32, 43#32) (BitVec.ofNat 32 (i 0).val)).1 := dr26 i x0 x1 z
theorem dr27 (i : grid1.Coords) (x0 x1 : Vec F S1x100x1000 .f32) (z : S1x1.Idx) : (k1_pay31 (IntOp.xori (IntOp.xori 0#32 43#32) 466688986#32) (k1_pay103 i x0 x1) (k1_pay104 i x0 x1) (k1_pay105 i x0 x1)) z = (st14 (0#32, 43#32) (BitVec.ofNat 32 (i 0).val)).1 := by
  show (IntOp.addi ((k1_pay29 (IntOp.xori (IntOp.xori 0#32 43#32) 466688986#32) (k1_pay103 i x0 x1) (k1_pay104 i x0 x1) (k1_pay105 i x0 x1)) z) ((k1_pay30 (IntOp.xori (IntOp.xori 0#32 43#32) 466688986#32) (k1_pay103 i x0 x1) (k1_pay104 i x0 x1) (k1_pay105 i x0 x1)) z)) = _
  rw [dr24 i x0 x1 z, dr25 i x0 x1 z, st14_1]
theorem dr28 (i : grid1.Coords) (x0 x1 : Vec F S1x100x1000 .f32) (z : S1x1.Idx) : (k1_pay32 (Scalar.xori (Scalar.xori 0#32 43#32) 466688986#32) (k1_pay103 i x0 x1) (k1_pay104 i x0 x1) (k1_pay105 i x0 x1)) z = (st14 (0#32, 43#32) (BitVec.ofNat 32 (i 0).val)).2 := by
  show (turned 6#32 26#32 ((k1_pay30 (IntOp.xori (IntOp.xori 0#32 43#32) 466688986#32) (k1_pay103 i x0 x1) (k1_pay104 i x0 x1) (k1_pay105 i x0 x1)) z) ((k1_pay31 (IntOp.xori (IntOp.xori 0#32 43#32) 466688986#32) (k1_pay103 i x0 x1) (k1_pay104 i x0 x1) (k1_pay105 i x0 x1)) z)) = _
  rw [dr25 i x0 x1 z, dr27 i x0 x1 z, st14_2]
theorem pay107_at (i : grid1.Coords) (x0 x1 : Vec F S1x100x1000 .f32) (z : S1x1.Idx) : (k1_pay107 i x0 x1) z = (st14 (0#32, 43#32) (BitVec.ofNat 32 (i 0).val)).2 := dr28 i x0 x1 z
theorem dr29 (i : grid1.Coords) (x0 x1 : Vec F S1x100x1000 .f32) (z : S1x1.Idx) : (k1_pay33 (k1_pay107 i x0 x1)) z = (st15 (0#32, 43#32) (BitVec.ofNat 32 (i 0).val)).2 := by
  show (IntOp.addi (IntOp.addi ((k1_pay107 i x0 x1) z) 43#32) 3#32) = _
  rw [pay107_at i x0 x1 z, st15_2]
theorem dr30 (i : grid1.Coords) (x0 x1 : Vec F S1x100x1000 .f32) (z : S1x1.Idx) : (k1_pay34 (k1_pay106 i x0 x1) (k1_pay107 i x0 x1) 0#32) z = (st16 (0#32, 43#32) (BitVec.ofNat 32 (i 0).val)).1 := by
  show (IntOp.addi (IntOp.addi ((k1_pay106 i x0 x1) z) 0#32) ((k1_pay33 (k1_pay107 i x0 x1)) z)) = _
  rw [pay106_at i x0 x1 z, dr29 i x0 x1 z, st15_1, st16_1]
theorem dr31 (i : grid1.Coords) (x0 x1 : Vec F S1x100x1000 .f32) (z : S1x1.Idx) : (k1_pay35 (k1_pay106 i x0 x1) (k1_pay107 i x0 x1) 0#32) z = (st16 (0#32, 43#32) (BitVec.ofNat 32 (i 0).val)).2 := by
  show (turned 17#32 15#32 ((k1_pay33 (k1_pay107 i x0 x1)) z) ((k1_pay34 (k1_pay106 i x0 x1) (k1_pay107 i x0 x1) 0#32) z)) = _
  rw [dr29 i x0 x1 z, dr30 i x0 x1 z, st16_2]
theorem dr32 (i : grid1.Coords) (x0 x1 : Vec F S1x100x1000 .f32) (z : S1x1.Idx) : (k1_pay36 (k1_pay106 i x0 x1) (k1_pay107 i x0 x1) 0#32) z = (st17 (0#32, 43#32) (BitVec.ofNat 32 (i 0).val)).1 := by
  show (IntOp.addi ((k1_pay34 (k1_pay106 i x0 x1) (k1_pay107 i x0 x1) 0#32) z) ((k1_pay35 (k1_pay106 i x0 x1) (k1_pay107 i x0 x1) 0#32) z)) = _
  rw [dr30 i x0 x1 z, dr31 i x0 x1 z, st17_1]
theorem dr33 (i : grid1.Coords) (x0 x1 : Vec F S1x100x1000 .f32) (z : S1x1.Idx) : (k1_pay37 (k1_pay106 i x0 x1) (k1_pay107 i x0 x1) 0#32) z = (st17 (0#32, 43#32) (BitVec.ofNat 32 (i 0).val)).2 := by
  show (turned 29#32 3#32 ((k1_pay35 (k1_pay106 i x0 x1) (k1_pay107 i x0 x1) 0#32) z) ((k1_pay36 (k1_pay106 i x0 x1) (k1_pay107 i x0 x1) 0#32) z)) = _
  rw [dr31 i x0 x1 z, dr32 i x0 x1 z, st17_2]
theorem dr34 (i : grid1.Coords) (x0 x1 : Vec F S1x100x1000 .f32) (z : S1x1.Idx) : (k1_pay38 (k1_pay106 i x0 x1) (k1_pay107 i x0 x1) 0#32) z = (st18 (0#32, 43#32) (BitVec.ofNat 32 (i 0).val)).1 := by
  show (IntOp.addi ((k1_pay36 (k1_pay106 i x0 x1) (k1_pay107 i x0 x1) 0#32) z) ((k1_pay37 (k1_pay106 i x0 x1) (k1_pay107 i x0 x1) 0#32) z)) = _
  rw [dr32 i x0 x1 z, dr33 i x0 x1 z, st18_1]
theorem dr35 (i : grid1.Coords) (x0 x1 : Vec F S1x100x1000 .f32) (z : S1x1.Idx) : (k1_pay39 (k1_pay106 i x0 x1) (k1_pay107 i x0 x1) 0#32) z = (st18 (0#32, 43#32) (BitVec.ofNat 32 (i 0).val)).2 := by
  show (turned 16#32 16#32 ((k1_pay37 (k1_pay106 i x0 x1) (k1_pay107 i x0 x1) 0#32) z) ((k1_pay38 (k1_pay106 i x0 x1) (k1_pay107 i x0 x1) 0#32) z)) = _
  rw [dr33 i x0 x1 z, dr34 i x0 x1 z, st18_2]
theorem dr36 (i : grid1.Coords) (x0 x1 : Vec F S1x100x1000 .f32) (z : S1x1.Idx) : (k1_pay40 (k1_pay106 i x0 x1) (k1_pay107 i x0 x1) 0#32) z = (st19 (0#32, 43#32) (BitVec.ofNat 32 (i 0).val)).1 := by
  show (IntOp.addi ((k1_pay38 (k1_pay106 i x0 x1) (k1_pay107 i x0 x1) 0#32) z) ((k1_pay39 (k1_pay106 i x0 x1) (k1_pay107 i x0 x1) 0#32) z)) = _
  rw [dr34 i x0 x1 z, dr35 i x0 x1 z, st19_1]
theorem dr37 (i : grid1.Coords) (x0 x1 : Vec F S1x100x1000 .f32) (z : S1x1.Idx) : (k1_pay41 (IntOp.xori (IntOp.xori 0#32 43#32) 466688986#32) (k1_pay106 i x0 x1) (k1_pay107 i x0 x1) 0#32) z = (st20 (0#32, 43#32) (BitVec.ofNat 32 (i 0).val)).2 := by
  show (IntOp.addi (IntOp.addi (turned 24#32 8#32 ((k1_pay39 (k1_pay106 i x0 x1) (k1_pay107 i x0 x1) 0#32) z) ((k1_pay40 (k1_pay106 i x0 x1) (k1_pay107 i x0 x1) 0#32) z)) (IntOp.xori (IntOp.xori 0#32 43#32) 466688986#32)) 4#32) = _
  rw [dr35 i x0 x1 z, dr36 i x0 x1 z, st19_2, key3_def, st20_2]
theorem dr38 (i : grid1.Coords) (x0 x1 : Vec F S1x100x1000 .f32) (z : S1x1.Idx) : (k1_pay42 (Scalar.xori (Scalar.xori 0#32 43#32) 466688986#32) (k1_pay106 i x0 x1) (k1_pay107 i x0 x1) 0#32) z = (st21 (0#32, 43#32) (BitVec.ofNat 32 (i 0).val)).1 := by
  show (IntOp.addi (IntOp.addi ((k1_pay40 (k1_pay106 i x0 x1) (k1_pay107 i x0 x1) 0#32) z) 43#32) ((k1_pay41 (IntOp.xori (IntOp.xori 0#32 43#32) 466688986#32) (k1_pay106 i x0 x1) (k1_pay107 i x0 x1) 0#32) z)) = _
  rw [dr36 i x0 x1 z, dr37 i x0 x1 z, st20_1, st21_1]
theorem pay108_at (i : grid1.Coords) (x0 x1 : Vec F S1x100x1000 .f32) (z : S1x1.Idx) : (k1_pay108 i x0 x1) z = (st21 (0#32, 43#32) (BitVec.ofNat 32 (i 0).val)).1 := dr38 i x0 x1 z
theorem dr39 (i : grid1.Coords) (x0 x1 : Vec F S1x100x1000 .f32) (z : S1x1.Idx) : (k1_pay43 (Scalar.xori (Scalar.xori 0#32 43#32) 466688986#32) (k1_pay106 i x0 x1) (k1_pay107 i x0 x1) 0#32) z = (IntOp.ori (IntOp.shli .vector (st20 (0#32, 43#32) (BitVec.ofNat 32 (i 0).val)).2 13#32) (IntOp.shrui .vector (st20 (0#32, 43#32) (BitVec.ofNat 32 (i 0).val)).2 19#32)) := by
  show (IntOp.ori (IntOp.shli .vector ((k1_pay41 (IntOp.xori (IntOp.xori 0#32 43#32) 466688986#32) (k1_pay106 i x0 x1) (k1_pay107 i x0 x1) 0#32) z) 13#32) (IntOp.shrui .vector ((k1_pay41 (IntOp.xori (IntOp.xori 0#32 43#32) 466688986#32) (k1_pay106 i x0 x1) (k1_pay107 i x0 x1) 0#32) z) 19#32)) = _
  rw [dr37 i x0 x1 z]
theorem pay109_at (i : grid1.Coords) (x0 x1 : Vec F S1x100x1000 .f32) (z : S1x1.Idx) : (k1_pay109 i x0 x1) z = (IntOp.ori (IntOp.shli .vector (st20 (0#32, 43#32) (BitVec.ofNat 32 (i 0).val)).2 13#32) (IntOp.shrui .vector (st20 (0#32, 43#32) (BitVec.ofNat 32 (i 0).val)).2 19#32)) := dr39 i x0 x1 z
theorem dr40 (i : grid1.Coords) (x0 x1 : Vec F S1x100x1000 .f32) (z : S1x1.Idx) : (k1_pay44 (k1_pay108 i x0 x1) (k1_pay109 i x0 x1)) z = (st21 (0#32, 43#32) (BitVec.ofNat 32 (i 0).val)).2 := by
  show (IntOp.xori ((k1_pay109 i x0 x1) z) ((k1_pay108 i x0 x1) z)) = _
  rw [pay109_at i x0 x1 z, pay108_at i x0 x1 z, st21_2']
theorem dr41 (i : grid1.Coords) (x0 x1 : Vec F S1x100x1000 .f32) (z : S1x1.Idx) : (k1_pay45 (k1_pay108 i x0 x1) (k1_pay109 i x0 x1)) z = (st22 (0#32, 43#32) (BitVec.ofNat 32 (i 0).val)).1 := by
  show (IntOp.addi ((k1_pay108 i x0 x1) z) ((k1_pay44 (k1_pay108 i x0 x1) (k1_pay109 i x0 x1)) z)) = _
  rw [pay108_at i x0 x1 z, dr40 i x0 x1 z, st22_1]
theorem dr42 (i : grid1.Coords) (x0 x1 : Vec F S1x100x1000 .f32) (z : S1x1.Idx) : (k1_pay46 (k1_pay108 i x0 x1) (k1_pay109 i x0 x1)) z = (st22 (0#32, 43#32) (BitVec.ofNat 32 (i 0).val)).2 := by
  show (turned 15#32 17#32 ((k1_pay44 (k1_pay108 i x0 x1) (k1_pay109 i x0 x1)) z) ((k1_pay45 (k1_pay108 i x0 x1) (k1_pay109 i x0 x1)) z)) = _
  rw [dr40 i x0 x1 z, dr41 i x0 x1 z, st22_2]
theorem dr43 (i : grid1.Coords) (x0 x1 : Vec F S1x100x1000 .f32) (z : S1x1.Idx) : (k1_pay47 (k1_pay108 i x0 x1) (k1_pay109 i x0 x1)) z = (st23 (0#32, 43#32) (BitVec.ofNat 32 (i 0).val)).1 := by
  show (IntOp.addi ((k1_pay45 (k1_pay108 i x0 x1) (k1_pay109 i x0 x1)) z) ((k1_pay46 (k1_pay108 i x0 x1) (k1_pay109 i x0 x1)) z)) = _
  rw [dr41 i x0 x1 z, dr42 i x0 x1 z, st23_1]
theorem dr44 (i : grid1.Coords) (x0 x1 : Vec F S1x100x1000 .f32) (z : S1x1.Idx) : (k1_pay48 (k1_pay108 i x0 x1) (k1_pay109 i x0 x1)) z = (st23 (0#32, 43#32) (BitVec.ofNat 32 (i 0).val)).2 := by
  show (turned 26#32 6#32 ((k1_pay46 (k1_pay108 i x0 x1) (k1_pay109 i x0 x1)) z) ((k1_pay47 (k1_pay108 i x0 x1) (k1_pay109 i x0 x1)) z)) = _
  rw [dr42 i x0 x1 z, dr43 i x0 x1 z, st23_2]
theorem dr45 (i : grid1.Coords) (x0 x1 : Vec F S1x100x1000 .f32) (z : S1x1.Idx) : (k1_pay49 (k1_pay108 i x0 x1) (k1_pay109 i x0 x1)) z = (st24 (0#32, 43#32) (BitVec.ofNat 32 (i 0).val)).1 := by
  show (IntOp.addi ((k1_pay47 (k1_pay108 i x0 x1) (k1_pay109 i x0 x1)) z) ((k1_pay48 (k1_pay108 i x0 x1) (k1_pay109 i x0 x1)) z)) = _
  rw [dr43 i x0 x1 z, dr44 i x0 x1 z, st24_1]
theorem dr46 (i : grid1.Coords) (x0 x1 : Vec F S1x100x1000 .f32) (z : S1x1.Idx) : (k1_pay50 (Scalar.xori (Scalar.xori 0#32 43#32) 466688986#32) (k1_pay108 i x0 x1) (k1_pay109 i x0 x1)) z = (drawKey (BitVec.ofNat 32 (i 0).val)).1 := by
  show (IntOp.addi ((k1_pay49 (k1_pay108 i x0 x1) (k1_pay109 i x0 x1)) z) (IntOp.xori (IntOp.xori 0#32 43#32) 466688986#32)) = _
  rw [dr45 i x0 x1 z, key3_def, st25_1, drawKey_def]
theorem pay110_at (i : grid1.Coords) (x0 x1 : Vec F S1x100x1000 .f32) (z : S1x1.Idx) : (k1_pay110 i x0 x1) z = (drawKey (BitVec.ofNat 32 (i 0).val)).1 := dr46 i x0 x1 z
theorem dr47 (i : grid1.Coords) (x0 x1 : Vec F S1x100x1000 .f32) (z : S1x1.Idx) : (k1_pay51 (k1_pay108 i x0 x1) (k1_pay109 i x0 x1)) z = (drawKey (BitVec.ofNat 32 (i 0).val)).2 := by
  show (IntOp.addi (IntOp.addi (turned 6#32 26#32 ((k1_pay48 (k1_pay108 i x0 x1) (k1_pay109 i x0 x1)) z) ((k1_pay49 (k1_pay108 i x0 x1) (k1_pay109 i x0 x1)) z)) 0#32) 5#32) = _
  rw [dr44 i x0 x1 z, dr45 i x0 x1 z, st24_2, st25_2, drawKey_def]
theorem pay111_at (i : grid1.Coords) (x0 x1 : Vec F S1x100x1000 .f32) (z : S1x1.Idx) : (k1_pay111 i x0 x1) z = (drawKey (BitVec.ofNat 32 (i 0).val)).2 := dr47 i x0 x1 z
theorem pay112_at (i : grid1.Coords) (x0 x1 : Vec F S1x100x1000 .f32) (z : S100x1000.Idx) : (k1_pay112 i x0 x1) z = (place z) := place1 z
theorem dr48 (i : grid1.Coords) (x0 x1 : Vec F S1x100x1000 .f32) (z : S1x1.Idx) : (k1_pay50 (IntOp.xori (IntOp.xori 0#32 43#32) 466688986#32) (k1_pay108 i x0 x1) (k1_pay109 i x0 x1)) z = (drawKey (BitVec.ofNat 32 (i 0).val)).1 := by
  show (IntOp.addi ((k1_pay49 (k1_pay108 i x0 x1) (k1_pay109 i x0 x1)) z) (IntOp.xori (IntOp.xori 0#32 43#32) 466688986#32)) = _
  rw [dr45 i x0 x1 z, key3_def, st25_1, drawKey_def]
theorem dr49 (i : grid1.Coords) (x0 x1 : Vec F S1x100x1000 .f32) (z : S1x1.Idx) : (k1_pay53 (Scalar.xori (Scalar.xori 0#32 43#32) 466688986#32) (k1_pay108 i x0 x1) (k1_pay109 i x0 x1)) z = (key3 (drawKey (BitVec.ofNat 32 (i 0).val)).1 (drawKey (BitVec.ofNat 32 (i 0).val)).2) := by
  show (IntOp.xori (IntOp.xori ((k1_pay50 (IntOp.xori (IntOp.xori 0#32 43#32) 466688986#32) (k1_pay108 i x0 x1) (k1_pay109 i x0 x1)) z) ((k1_pay51 (k1_pay108 i x0 x1) (k1_pay109 i x0 x1)) z)) 466688986#32) = _
  rw [dr48 i x0 x1 z, dr47 i x0 x1 z, key3_def]
theorem pay113_at (i : grid1.Coords) (x0 x1 : Vec F S1x100x1000 .f32) (z : S1x1.Idx) : (k1_pay113 i x0 x1) z = (key3 (drawKey (BitVec.ofNat 32 (i 0).val)).1 (drawKey (BitVec.ofNat 32 (i 0).val)).2) := dr49 i x0 x1 z
theorem dr50 (i : grid1.Coords) (x0 x1 : Vec F S1x100x1000 .f32) (z : S100x1000.Idx) : (k1_pay54 (k1_pay108 i x0 x1) (k1_pay109 i x0 x1)) z = (st0 (drawKey (BitVec.ofNat 32 (i 0).val)) (place z)).2 := by
  show (IntOp.addi (k1_pay52 z) (broadcastTo S100x1000 (k1_pay51 (k1_pay108 i x0 x1) (k1_pay109 i x0 x1)) broadcasts_S1x1_S100x1000 z)) = _
  rw [place1 z, bcast_at _ _ (dr47 i x0 x1), st0_2 (drawKey (BitVec.ofNat 32 (i 0).val)) (place z)]
theorem dr51 (i : grid1.Coords) (x0 x1 : Vec F S1x100x1000 .f32) (z : S100x1000.Idx) : (k1_pay55 (Scalar.xori (Scalar.xori 0#32 43#32) 466688986#32) (k1_pay108 i x0 x1) (k1_pay109 i x0 x1)) z = (st1 (drawKey (BitVec.ofNat 32 (i 0).val)) (place z)).1 := by
  show (IntOp.addi (IntOp.addi 0#32 (broadcastTo S100x1000 (k1_pay50 (IntOp.xori (IntOp.xori 0#32 43#32) 466688986#32) (k1_pay108 i x0 x1) (k1_pay109 i x0 x1)) broadcasts_S1x1_S100x1000 z)) ((k1_pay54 (k1_pay108 i x0 x1) (k1_pay109 i x0 x1)) z)) = _
  rw [bcast_at _ _ (dr48 i x0 x1), dr50 i x0 x1 z, st0_1 (drawKey (BitVec.ofNat 32 (i 0).val)) (place z), st1_1]
theorem pay114_at (i : grid1.Coords) (x0 x1 : Vec F S1x100x1000 .f32) (z : S100x1000.Idx) : (k1_pay114 i x0 x1) z = (st1 (drawKey (BitVec.ofNat 32 (i 0).val)) (place z)).1 := dr51 i x0 x1 z
theorem dr52 (i : grid1.Coords) (x0 x1 : Vec F S1x100x1000 .f32) (z : S100x1000.Idx) : (k1_pay56 (k1_pay108 i x0 x1) (k1_pay109 i x0 x1)) z = (IntOp.ori (IntOp.shli .vector (st0 (drawKey (BitVec.ofNat 32 (i 0).val)) (place z)).2 13#32) (IntOp.shrui .vector (st0 (drawKey (BitVec.ofNat 32 (i 0).val)) (place z)).2 19#32)) := by
  show (IntOp.ori (IntOp.shli .vector ((k1_pay54 (k1_pay108 i x0 x1) (k1_pay109 i x0 x1)) z) 13#32) (IntOp.shrui .vector ((k1_pay54 (k1_pay108 i x0 x1) (k1_pay109 i x0 x1)) z) 19#32)) = _
  rw [dr50 i x0 x1 z]
theorem pay115_at (i : grid1.Coords) (x0 x1 : Vec F S1x100x1000 .f32) (z : S100x1000.Idx) : (k1_pay115 i x0 x1) z = (IntOp.ori (IntOp.shli .vector (st0 (drawKey (BitVec.ofNat 32 (i 0).val)) (place z)).2 13#32) (IntOp.shrui .vector (st0 (drawKey (BitVec.ofNat 32 (i 0).val)) (place z)).2 19#32)) := dr52 i x0 x1 z
theorem dr53 (i : grid1.Coords) (x0 x1 : Vec F S1x100x1000 .f32) (z : S100x1000.Idx) : (k1_pay57 (k1_pay114 i x0 x1) (k1_pay115 i x0 x1)) z = (st1 (drawKey (BitVec.ofNat 32 (i 0).val)) (place z)).2 := by
  show (IntOp.xori ((k1_pay115 i x0 x1) z) ((k1_pay114 i x0 x1) z)) = _
  rw [pay115_at i x0 x1 z, pay114_at i x0 x1 z, st1_2']
theorem dr54 (i : grid1.Coords) (x0 x1 : Vec F S1x100x1000 .f32) (z : S100x1000.Idx) : (k1_pay58 (k1_pay114 i x0 x1) (k1_pay115 i x0 x1)) z = (st2 (drawKey (BitVec.ofNat 32 (i 0).val)) (place z)).1 := by
  show (IntOp.addi ((k1_pay114 i x0 x1) z) ((k1_pay57 (k1_pay114 i x0 x1) (k1_pay115 i x0 x1)) z)) = _
  rw [pay114_at i x0 x1 z, dr53 i x0 x1 z, st2_1]
theorem dr55 (i : grid1.Coords) (x0 x1 : Vec F S1x100x1000 .f32) (z : S100x1000.Idx) : (k1_pay59 (k1_pay114 i x0 x1) (k1_pay115 i x0 x1)) z = (st2 (drawKey (BitVec.ofNat 32 (i 0).val)) (place z)).2 := by
  show (turned 15#32 17#32 ((k1_pay57 (k1_pay114 i x0 x1) (k1_pay115 i x0 x1)) z) ((k1_pay58 (k1_pay114 i x0 x1) (k1_pay115 i x0 x1)) z)) = _
  rw [dr53 i x0 x1 z, dr54 i x0 x1 z, st2_2]
theorem dr56 (i : grid1.Coords) (x0 x1 : Vec F S1x100x1000 .f32) (z : S100x1000.Idx) : (k1_pay60 (k1_pay114 i x0 x1) (k1_pay115 i x0 x1)) z = (st3 (drawKey (BitVec.ofNat 32 (i 0).val)) (place z)).1 := by
  show (IntOp.addi ((k1_pay58 (k1_pay114 i x0 x1) (k1_pay115 i x0 x1)) z) ((k1_pay59 (k1_pay114 i x0 x1) (k1_pay115 i x0 x1)) z)) = _
  rw [dr54 i x0 x1 z, dr55 i x0 x1 z, st3_1]
theorem dr57 (i : grid1.Coords) (x0 x1 : Vec F S1x100x1000 .f32) (z : S100x1000.Idx) : (k1_pay61 (k1_pay114 i x0 x1) (k1_pay115 i x0 x1)) z = (st3 (drawKey (BitVec.ofNat 32 (i 0).val)) (place z)).2 := by
  show (turned 26#32 6#32 ((k1_pay59 (k1_pay114 i x0 x1) (k1_pay115 i x0 x1)) z) ((k1_pay60 (k1_pay114 i x0 x1) (k1_pay115 i x0 x1)) z)) = _
  rw [dr55 i x0 x1 z, dr56 i x0 x1 z, st3_2]
theorem dr58 (i : grid1.Coords) (x0 x1 : Vec F S1x100x1000 .f32) (z : S100x1000.Idx) : (k1_pay62 (k1_pay114 i x0 x1) (k1_pay115 i x0 x1)) z = (st4 (drawKey (BitVec.ofNat 32 (i 0).val)) (place z)).1 := by
  show (IntOp.addi ((k1_pay60 (k1_pay114 i x0 x1) (k1_pay115 i x0 x1)) z) ((k1_pay61 (k1_pay114 i x0 x1) (k1_pay115 i x0 x1)) z)) = _
  rw [dr56 i x0 x1 z, dr57 i x0 x1 z, st4_1]
theorem dr59 (i : grid1.Coords) (x0 x1 : Vec F S1x100x1000 .f32) (z : S100x1000.Idx) : (k1_pay63 (k1_pay113 i x0 x1) (k1_pay114 i x0 x1) (k1_pay115 i x0 x1)) z = (st5 (drawKey (BitVec.ofNat 32 (i 0).val)) (place z)).2 := by
  show (IntOp.addi (IntOp.addi (turned 6#32 26#32 ((k1_pay61 (k1_pay114 i x0 x1) (k1_pay115 i x0 x1)) z) ((k1_pay62 (k1_pay114 i x0 x1) (k1_pay115 i x0 x1)) z)) (broadcastTo S100x1000 (k1_pay113 i x0 x1) broadcasts_S1x1_S100x1000 z)) 1#32) = _
  rw [dr57 i x0 x1 z, dr58 i x0 x1 z, bcast_at _ _ (pay113_at i x0 x1), st4_2, st5_2]
theorem dr60 (i : grid1.Coords) (x0 x1 : Vec F S1x100x1000 .f32) (z : S100x1000.Idx) : (k1_pay64 (k1_pay111 i x0 x1) (k1_pay113 i x0 x1) (k1_pay114 i x0 x1) (k1_pay115 i x0 x1)) z = (st6 (drawKey (BitVec.ofNat 32 (i 0).val)) (place z)).1 := by
  show (IntOp.addi (IntOp.addi ((k1_pay62 (k1_pay114 i x0 x1) (k1_pay115 i x0 x1)) z) (broadcastTo S100x1000 (k1_pay111 i x0 x1) broadcasts_S1x1_S100x1000 z)) ((k1_pay63 (k1_pay113 i x0 x1) (k1_pay114 i x0 x1) (k1_pay115 i x0 x1)) z)) = _
  rw [dr58 i x0 x1 z, bcast_at _ _ (pay111_at i x0 x1), dr59 i x0 x1 z, st5_1, st6_1]
theorem dr61 (i : grid1.Coords) (x0 x1 : Vec F S1x100x1000 .f32) (z : S100x1000.Idx) : (k1_pay65 (k1_pay111 i x0 x1) (k1_pay113 i x0 x1) (k1_pay114 i x0 x1) (k1_pay115 i x0 x1)) z = (st6 (drawKey (BitVec.ofNat 32 (i 0).val)) (place z)).2 := by
  show (turned 17#32 15#32 ((k1_pay63 (k1_pay113 i x0 x1) (k1_pay114 i x0 x1) (k1_pay115 i x0 x1)) z) ((k1_pay64 (k1_pay111 i x0 x1) (k1_pay113 i x0 x1) (k1_pay114 i x0 x1) (k1_pay115 i x0 x1)) z)) = _
  rw [dr59 i x0 x1 z, dr60 i x0 x1 z, st6_2]
theorem dr62 (i : grid1.Coords) (x0 x1 : Vec F S1x100x1000 .f32) (z : S100x1000.Idx) : (k1_pay66 (k1_pay111 i x0 x1) (k1_pay113 i x0 x1) (k1_pay114 i x0 x1) (k1_pay115 i x0 x1)) z = (st7 (drawKey (BitVec.ofNat 32 (i 0).val)) (place z)).1 := by
  show (IntOp.addi ((k1_pay64 (k1_pay111 i x0 x1) (k1_pay113 i x0 x1) (k1_pay114 i x0 x1) (k1_pay115 i x0 x1)) z) ((k1_pay65 (k1_pay111 i x0 x1) (k1_pay113 i x0 x1) (k1_pay114 i x0 x1) (k1_pay115 i x0 x1)) z)) = _
  rw [dr60 i x0 x1 z, dr61 i x0 x1 z, st7_1]
theorem dr63 (i : grid1.Coords) (x0 x1 : Vec F S1x100x1000 .f32) (z : S100x1000.Idx) : (k1_pay67 (k1_pay111 i x0 x1) (k1_pay113 i x0 x1) (k1_pay114 i x0 x1) (k1_pay115 i x0 x1)) z = (st7 (drawKey (BitVec.ofNat 32 (i 0).val)) (place z)).2 := by
  show (turned 29#32 3#32 ((k1_pay65 (k1_pay111 i x0 x1) (k1_pay113 i x0 x1) (k1_pay114 i x0 x1) (k1_pay115 i x0 x1)) z) ((k1_pay66 (k1_pay111 i x0 x1) (k1_pay113 i x0 x1) (k1_pay114 i x0 x1) (k1_pay115 i x0 x1)) z)) = _
  rw [dr61 i x0 x1 z, dr62 i x0 x1 z, st7_2]
theorem dr64 (i : grid1.Coords) (x0 x1 : Vec F S1x100x1000 .f32) (z : S100x1000.Idx) : (k1_pay68 (k1_pay111 i x0 x1) (k1_pay113 i x0 x1) (k1_pay114 i x0 x1) (k1_pay115 i x0 x1)) z = (st8 (drawKey (BitVec.ofNat 32 (i 0).val)) (place z)).1 := by
  show (IntOp.addi ((k1_pay66 (k1_pay111 i x0 x1) (k1_pay113 i x0 x1) (k1_pay114 i x0 x1) (k1_pay115 i x0 x1)) z) ((k1_pay67 (k1_pay111 i x0 x1) (k1_pay113 i x0 x1) (k1_pay114 i x0 x1) (k1_pay115 i x0 x1)) z)) = _
  rw [dr62 i x0 x1 z, dr63 i x0 x1 z, st8_1]
theorem pay116_at (i : grid1.Coords) (x0 x1 : Vec F S1x100x1000 .f32) (z : S100x1000.Idx) : (k1_pay116 i x0 x1) z = (st8 (drawKey (BitVec.ofNat 32 (i 0).val)) (place z)).1 := dr64 i x0 x1 z
theorem dr65 (i : grid1.Coords) (x0 x1 : Vec F S1x100x1000 .f32) (z : S100x1000.Idx) : (k1_pay69 (k1_pay111 i x0 x1) (k1_pay113 i x0 x1) (k1_pay114 i x0 x1) (k1_pay115 i x0 x1)) z = (IntOp.shli .vector (st7 (drawKey (BitVec.ofNat 32 (i 0).val)) (place z)).2 16#32) := by
  show (IntOp.shli .vector ((k1_pay67 (k1_pay111 i x0 x1) (k1_pay113 i x0 x1) (k1_pay114 i x0 x1) (k1_pay115 i x0 x1)) z) 16#32) = _
  rw [dr63 i x0 x1 z]
theorem pay117_at (i : grid1.Coords) (x0 x1 : Vec F S1x100x1000 .f32) (z : S100x1000.Idx) : (k1_pay117 i x0 x1) z = (IntOp.shli .vector (st7 (drawKey (BitVec.ofNat 32 (i 0).val)) (place z)).2 16#32) := dr65 i x0 x1 z
theorem dr66 (i : grid1.Coords) (x0 x1 : Vec F S1x100x1000 .f32) (z : S100x1000.Idx) : (k1_pay70 (k1_pay111 i x0 x1) (k1_pay113 i x0 x1) (k1_pay114 i x0 x1) (k1_pay115 i x0 x1)) z = (IntOp.shrui .vector (st7 (drawKey (BitVec.ofNat 32 (i 0).val)) (place z)).2 16#32) := by
  show (IntOp.shrui .vector ((k1_pay67 (k1_pay111 i x0 x1) (k1_pay113 i x0 x1) (k1_pay114 i x0 x1) (k1_pay115 i x0 x1)) z) 16#32) = _
  rw [dr63 i x0 x1 z]
theorem pay118_at (i : grid1.Coords) (x0 x1 : Vec F S1x100x1000 .f32) (z : S100x1000.Idx) : (k1_pay118 i x0 x1) z = (IntOp.shrui .vector (st7 (drawKey (BitVec.ofNat 32 (i 0).val)) (place z)).2 16#32) := dr66 i x0 x1 z
theorem dr67 (i : grid1.Coords) (x0 x1 : Vec F S1x100x1000 .f32) (z : S100x1000.Idx) : (k1_pay71 (k1_pay116 i x0 x1) (k1_pay117 i x0 x1) (k1_pay118 i x0 x1)) z = (st8 (drawKey (BitVec.ofNat 32 (i 0).val)) (place z)).2 := by
  show (IntOp.xori (IntOp.ori ((k1_pay117 i x0 x1) z) ((k1_pay118 i x0 x1) z)) ((k1_pay116 i x0 x1) z)) = _
  rw [pay117_at i x0 x1 z, pay118_at i x0 x1 z, pay116_at i x0 x1 z, st8_2']
theorem dr68 (i : grid1.Coords) (x0 x1 : Vec F S1x100x1000 .f32) (z : S100x1000.Idx) : (k1_pay72 (k1_pay116 i x0 x1) (k1_pay117 i x0 x1) (k1_pay118 i x0 x1)) z = (st9 (drawKey (BitVec.ofNat 32 (i 0).val)) (place z)).1 := by
  show (IntOp.addi ((k1_pay116 i x0 x1) z) ((k1_pay71 (k1_pay116 i x0 x1) (k1_pay117 i x0 x1) (k1_pay118 i x0 x1)) z)) = _
  rw [pay116_at i x0 x1 z, dr67 i x0 x1 z, st9_1]
theorem dr69 (i : grid1.Coords) (x0 x1 : Vec F S1x100x1000 .f32) (z : S100x1000.Idx) : (k1_pay73 (k1_pay110 i x0 x1) (k1_pay116 i x0 x1) (k1_pay117 i x0 x1) (k1_pay118 i x0 x1)) z = (st10 (drawKey (BitVec.ofNat 32 (i 0).val)) (place z)).2 := by
  show (IntOp.addi (IntOp.addi (turned 24#32 8#32 ((k1_pay71 (k1_pay116 i x0 x1) (k1_pay117 i x0 x1) (k1_pay118 i x0 x1)) z) ((k1_pay72 (k1_pay116 i x0 x1) (k1_pay117 i x0 x1) (k1_pay118 i x0 x1)) z)) (broadcastTo S100x1000 (k1_pay110 i x0 x1) broadcasts_S1x1_S100x1000 z)) 2#32) = _
  rw [dr67 i x0 x1 z, dr68 i x0 x1 z, bcast_at _ _ (pay110_at i x0 x1), st9_2, st10_2]
theorem dr70 (i : grid1.Coords) (x0 x1 : Vec F S1x100x1000 .f32) (z : S100x1000.Idx) : (k1_pay74 (k1_pay110 i x0 x1) (k1_pay113 i x0 x1) (k1_pay116 i x0 x1) (k1_pay117 i x0 x1) (k1_pay118 i x0 x1)) z = (st11 (drawKey (BitVec.ofNat 32 (i 0).val)) (place z)).1 := by
  show (IntOp.addi (IntOp.addi ((k1_pay72 (k1_pay116 i x0 x1) (k1_pay117 i x0 x1) (k1_pay118 i x0 x1)) z) (broadcastTo S100x1000 (k1_pay113 i x0 x1) broadcasts_S1x1_S100x1000 z)) ((k1_pay73 (k1_pay110 i x0 x1) (k1_pay116 i x0 x1) (k1_pay117 i x0 x1) (k1_pay118 i x0 x1)) z)) = _
  rw [dr68 i x0 x1 z, bcast_at _ _ (pay113_at i x0 x1), dr69 i x0 x1 z, st10_1, st11_1]
theorem dr71 (i : grid1.Coords) (x0 x1 : Vec F S1x100x1000 .f32) (z : S100x1000.Idx) : (k1_pay75 (k1_pay110 i x0 x1) (k1_pay113 i x0 x1) (k1_pay116 i x0 x1) (k1_pay117 i x0 x1) (k1_pay118 i x0 x1)) z = (st11 (drawKey (BitVec.ofNat 32 (i 0).val)) (place z)).2 := by
  show (turned 13#32 19#32 ((k1_pay73 (k1_pay110 i x0 x1) (k1_pay116 i x0 x1) (k1_pay117 i x0 x1) (k1_pay118 i x0 x1)) z) ((k1_pay74 (k1_pay110 i x0 x1) (k1_pay113 i x0 x1) (k1_pay116 i x0 x1) (k1_pay117 i x0 x1) (k1_pay118 i x0 x1)) z)) = _
  rw [dr69 i x0 x1 z, dr70 i x0 x1 z, st11_2]
theorem dr72 (i : grid1.Coords) (x0 x1 : Vec F S1x100x1000 .f32) (z : S100x1000.Idx) : (k1_pay76 (k1_pay110 i x0 x1) (k1_pay113 i x0 x1) (k1_pay116 i x0 x1) (k1_pay117 i x0 x1) (k1_pay118 i x0 x1)) z = (st12 (drawKey (BitVec.ofNat 32 (i 0).val)) (place z)).1 := by
  show (IntOp.addi ((k1_pay74 (k1_pay110 i x0 x1) (k1_pay113 i x0 x1) (k1_pay116 i x0 x1) (k1_pay117 i x0 x1) (k1_pay118 i x0 x1)) z) ((k1_pay75 (k1_pay110 i x0 x1) (k1_pay113 i x0 x1) (k1_pay116 i x0 x1) (k1_pay117 i x0 x1) (k1_pay118 i x0 x1)) z)) = _
  rw [dr70 i x0 x1 z, dr71 i x0 x1 z, st12_1]
theorem dr73 (i : grid1.Coords) (x0 x1 : Vec F S1x100x1000 .f32) (z : S100x1000.Idx) : (k1_pay77 (k1_pay110 i x0 x1) (k1_pay113 i x0 x1) (k1_pay116 i x0 x1) (k1_pay117 i x0 x1) (k1_pay118 i x0 x1)) z = (st12 (drawKey (BitVec.ofNat 32 (i 0).val)) (place z)).2 := by
  show (turned 15#32 17#32 ((k1_pay75 (k1_pay110 i x0 x1) (k1_pay113 i x0 x1) (k1_pay116 i x0 x1) (k1_pay117 i x0 x1) (k1_pay118 i x0 x1)) z) ((k1_pay76 (k1_pay110 i x0 x1) (k1_pay113 i x0 x1) (k1_pay116 i x0 x1) (k1_pay117 i x0 x1) (k1_pay118 i x0 x1)) z)) = _
  rw [dr71 i x0 x1 z, dr72 i x0 x1 z, st12_2]
theorem dr74 (i : grid1.Coords) (x0 x1 : Vec F S1x100x1000 .f32) (z : S100x1000.Idx) : (k1_pay78 (k1_pay110 i x0 x1) (k1_pay113 i x0 x1) (k1_pay116 i x0 x1) (k1_pay117 i x0 x1) (k1_pay118 i x0 x1)) z = (st13 (drawKey (BitVec.ofNat 32 (i 0).val)) (place z)).1 := by
  show (IntOp.addi ((k1_pay76 (k1_pay110 i x0 x1) (k1_pay113 i x0 x1) (k1_pay116 i x0 x1) (k1_pay117 i x0 x1) (k1_pay118 i x0 x1)) z) ((k1_pay77 (k1_pay110 i x0 x1) (k1_pay113 i x0 x1) (k1_pay116 i x0 x1) (k1_pay117 i x0 x1) (k1_pay118 i x0 x1)) z)) = _
  rw [dr72 i x0 x1 z, dr73 i x0 x1 z, st13_1]
theorem dr75 (i : grid1.Coords) (x0 x1 : Vec F S1x100x1000 .f32) (z : S100x1000.Idx) : (k1_pay79 (k1_pay110 i x0 x1) (k1_pay113 i x0 x1) (k1_pay116 i x0 x1) (k1_pay117 i x0 x1) (k1_pay118 i x0 x1)) z = (st13 (drawKey (BitVec.ofNat 32 (i 0).val)) (place z)).2 := by
  show (turned 26#32 6#32 ((k1_pay77 (k1_pay110 i x0 x1) (k1_pay113 i x0 x1) (k1_pay116 i x0 x1) (k1_pay117 i x0 x1) (k1_pay118 i x0 x1)) z) ((k1_pay78 (k1_pay110 i x0 x1) (k1_pay113 i x0 x1) (k1_pay116 i x0 x1) (k1_pay117 i x0 x1) (k1_pay118 i x0 x1)) z)) = _
  rw [dr73 i x0 x1 z, dr74 i x0 x1 z, st13_2]
theorem dr76 (i : grid1.Coords) (x0 x1 : Vec F S1x100x1000 .f32) (z : S100x1000.Idx) : (k1_pay80 (k1_pay110 i x0 x1) (k1_pay113 i x0 x1) (k1_pay116 i x0 x1) (k1_pay117 i x0 x1) (k1_pay118 i x0 x1)) z = (st14 (drawKey (BitVec.ofNat 32 (i 0).val)) (place z)).1 := by
  show (IntOp.addi ((k1_pay78 (k1_pay110 i x0 x1) (k1_pay113 i x0 x1) (k1_pay116 i x0 x1) (k1_pay117 i x0 x1) (k1_pay118 i x0 x1)) z) ((k1_pay79 (k1_pay110 i x0 x1) (k1_pay113 i x0 x1) (k1_pay116 i x0 x1) (k1_pay117 i x0 x1) (k1_pay118 i x0 x1)) z)) = _
  rw [dr74 i x0 x1 z, dr75 i x0 x1 z, st14_1]
theorem dr77 (i : grid1.Coords) (x0 x1 : Vec F S1x100x1000 .f32) (z : S100x1000.Idx) : (k1_pay81 (k1_pay110 i x0 x1) (k1_pay113 i x0 x1) (k1_pay116 i x0 x1) (k1_pay117 i x0 x1) (k1_pay118 i x0 x1)) z = (st15 (drawKey (BitVec.ofNat 32 (i 0).val)) (place z)).1 := by
  show (IntOp.addi ((k1_pay80 (k1_pay110 i x0 x1) (k1_pay113 i x0 x1) (k1_pay116 i x0 x1) (k1_pay117 i x0 x1) (k1_pay118 i x0 x1)) z) (broadcastTo S100x1000 (k1_pay110 i x0 x1) broadcasts_S1x1_S100x1000 z)) = _
  rw [dr76 i x0 x1 z, bcast_at _ _ (pay110_at i x0 x1), st15_1]
theorem pay119_at (i : grid1.Coords) (x0 x1 : Vec F S1x100x1000 .f32) (z : S100x1000.Idx) : (k1_pay119 i x0 x1) z = (st15 (drawKey (BitVec.ofNat 32 (i 0).val)) (place z)).1 := dr77 i x0 x1 z
theorem dr78 (i : grid1.Coords) (x0 x1 : Vec F S1x100x1000 .f32) (z : S100x1000.Idx) : (k1_pay82 (k1_pay110 i x0 x1) (k1_pay111 i x0 x1) (k1_pay113 i x0 x1) (k1_pay116 i x0 x1) (k1_pay117 i x0 x1) (k1_pay118 i x0 x1)) z = (IntOp.addi (st14 (drawKey (BitVec.ofNat 32 (i 0).val)) (place z)).2 (drawKey (BitVec.ofNat 32 (i 0).val)).2) := by
  show (IntOp.addi (turned 6#32 26#32 ((k1_pay79 (k1_pay110 i x0 x1) (k1_pay113 i x0 x1) (k1_pay116 i x0 x1) (k1_pay117 i x0 x1) (k1_pay118 i x0 x1)) z) ((k1_pay80 (k1_pay110 i x0 x1) (k1_pay113 i x0 x1) (k1_pay116 i x0 x1) (k1_pay117 i x0 x1) (k1_pay118 i x0 x1)) z)) (broadcastTo S100x1000 (k1_pay111 i x0 x1) broadcasts_S1x1_S100x1000 z)) = _
  rw [dr75 i x0 x1 z, dr76 i x0 x1 z, bcast_at _ _ (pay111_at i x0 x1), st14_2]
theorem pay120_at (i : grid1.Coords) (x0 x1 : Vec F S1x100x1000 .f32) (z : S100x1000.Idx) : (k1_pay120 i x0 x1) z = (IntOp.addi (st14 (drawKey (BitVec.ofNat 32 (i 0).val)) (place z)).2 (drawKey (BitVec.ofNat 32 (i 0).val)).2) := dr78 i x0 x1 z
theorem dr79 (i : grid1.Coords) (x0 x1 : Vec F S1x100x1000 .f32) (z : S100x1000.Idx) : k1_pay83 z = 3#32 := rfl
theorem pay121_at (i : grid1.Coords) (x0 x1 : Vec F S1x100x1000 .f32) (z : S100x1000.Idx) : (k1_pay121 i x0 x1) z = 3#32 := dr79 i x0 x1 z
theorem dr80 (i : grid1.Coords) (x0 x1 : Vec F S1x100x1000 .f32) (z : S100x1000.Idx) : (k1_pay84 (k1_pay120 i x0 x1) (k1_pay121 i x0 x1)) z = (st15 (drawKey (BitVec.ofNat 32 (i 0).val)) (place z)).2 := by
  show (IntOp.addi ((k1_pay120 i x0 x1) z) ((k1_pay121 i x0 x1) z)) = _
  rw [pay120_at i x0 x1 z, pay121_at i x0 x1 z, st15_2]
theorem dr81 (i : grid1.Coords) (x0 x1 : Vec F S1x100x1000 .f32) (z : S100x1000.Idx) : (k1_pay85 (k1_pay119 i x0 x1) (k1_pay120 i x0 x1) (k1_pay121 i x0 x1)) z = (st16 (drawKey (BitVec.ofNat 32 (i 0).val)) (place z)).1 := by
  show (IntOp.addi ((k1_pay119 i x0 x1) z) ((k1_pay84 (k1_pay120 i x0 x1) (k1_pay121 i x0 x1)) z)) = _
  rw [pay119_at i x0 x1 z, dr80 i x0 x1 z, st16_1]
theorem dr82 (i : grid1.Coords) (x0 x1 : Vec F S1x100x1000 .f32) (z : S100x1000.Idx) : (k1_pay86 (k1_pay119 i x0 x1) (k1_pay120 i x0 x1) (k1_pay121 i x0 x1)) z = (st16 (drawKey (BitVec.ofNat 32 (i 0).val)) (place z)).2 := by
  show (turned 17#32 15#32 ((k1_pay84 (k1_pay120 i x0 x1) (k1_pay121 i x0 x1)) z) ((k1_pay85 (k1_pay119 i x0 x1) (k1_pay120 i x0 x1) (k1_pay121 i x0 x1)) z)) = _
  rw [dr80 i x0 x1 z, dr81 i x0 x1 z, st16_2]
theorem dr83 (i : grid1.Coords) (x0 x1 : Vec F S1x100x1000 .f32) (z : S100x1000.Idx) : (k1_pay87 (k1_pay119 i x0 x1) (k1_pay120 i x0 x1) (k1_pay121 i x0 x1)) z = (st17 (drawKey (BitVec.ofNat 32 (i 0).val)) (place z)).1 := by
  show (IntOp.addi ((k1_pay85 (k1_pay119 i x0 x1) (k1_pay120 i x0 x1) (k1_pay121 i x0 x1)) z) ((k1_pay86 (k1_pay119 i x0 x1) (k1_pay120 i x0 x1) (k1_pay121 i x0 x1)) z)) = _
  rw [dr81 i x0 x1 z, dr82 i x0 x1 z, st17_1]
theorem dr84 (i : grid1.Coords) (x0 x1 : Vec F S1x100x1000 .f32) (z : S100x1000.Idx) : (k1_pay88 (k1_pay119 i x0 x1) (k1_pay120 i x0 x1) (k1_pay121 i x0 x1)) z = (st17 (drawKey (BitVec.ofNat 32 (i 0).val)) (place z)).2 := by
  show (turned 29#32 3#32 ((k1_pay86 (k1_pay119 i x0 x1) (k1_pay120 i x0 x1) (k1_pay121 i x0 x1)) z) ((k1_pay87 (k1_pay119 i x0 x1) (k1_pay120 i x0 x1) (k1_pay121 i x0 x1)) z)) = _
  rw [dr82 i x0 x1 z, dr83 i x0 x1 z, st17_2]
theorem dr85 (i : grid1.Coords) (x0 x1 : Vec F S1x100x1000 .f32) (z : S100x1000.Idx) : (k1_pay89 (k1_pay119 i x0 x1) (k1_pay120 i x0 x1) (k1_pay121 i x0 x1)) z = (st18 (drawKey (BitVec.ofNat 32 (i 0).val)) (place z)).1 := by
  show (IntOp.addi ((k1_pay87 (k1_pay119 i x0 x1) (k1_pay120 i x0 x1) (k1_pay121 i x0 x1)) z) ((k1_pay88 (k1_pay119 i x0 x1) (k1_pay120 i x0 x1) (k1_pay121 i x0 x1)) z)) = _
  rw [dr83 i x0 x1 z, dr84 i x0 x1 z, st18_1]
theorem dr86 (i : grid1.Coords) (x0 x1 : Vec F S1x100x1000 .f32) (z : S100x1000.Idx) : (k1_pay90 (k1_pay119 i x0 x1) (k1_pay120 i x0 x1) (k1_pay121 i x0 x1)) z = (st18 (drawKey (BitVec.ofNat 32 (i 0).val)) (place z)).2 := by
  show (turned 16#32 16#32 ((k1_pay88 (k1_pay119 i x0 x1) (k1_pay120 i x0 x1) (k1_pay121 i x0 x1)) z) ((k1_pay89 (k1_pay119 i x0 x1) (k1_pay120 i x0 x1) (k1_pay121 i x0 x1)) z)) = _
  rw [dr84 i x0 x1 z, dr85 i x0 x1 z, st18_2]
theorem dr87 (i : grid1.Coords) (x0 x1 : Vec F S1x100x1000 .f32) (z : S100x1000.Idx) : (k1_pay91 (k1_pay119 i x0 x1) (k1_pay120 i x0 x1) (k1_pay121 i x0 x1)) z = (st19 (drawKey (BitVec.ofNat 32 (i 0).val)) (place z)).1 := by
  show (IntOp.addi ((k1_pay89 (k1_pay119 i x0 x1) (k1_pay120 i x0 x1) (k1_pay121 i x0 x1)) z) ((k1_pay90 (k1_pay119 i x0 x1) (k1_pay120 i x0 x1) (k1_pay121 i x0 x1)) z)) = _
  rw [dr85 i x0 x1 z, dr86 i x0 x1 z, st19_1]
theorem dr88 (i : grid1.Coords) (x0 x1 : Vec F S1x100x1000 .f32) (z : S100x1000.Idx) : (k1_pay92 (k1_pay113 i x0 x1) (k1_pay119 i x0 x1) (k1_pay120 i x0 x1) (k1_pay121 i x0 x1)) z = (st20 (drawKey (BitVec.ofNat 32 (i 0).val)) (place z)).2 := by
  show (IntOp.addi (IntOp.addi (turned 24#32 8#32 ((k1_pay90 (k1_pay119 i x0 x1) (k1_pay120 i x0 x1) (k1_pay121 i x0 x1)) z) ((k1_pay91 (k1_pay119 i x0 x1) (k1_pay120 i x0 x1) (k1_pay121 i x0 x1)) z)) (broadcastTo S100x1000 (k1_pay113 i x0 x1) broadcasts_S1x1_S100x1000 z)) 4#32) = _
  rw [dr86 i x0 x1 z, dr87 i x0 x1 z, bcast_at _ _ (pay113_at i x0 x1), st19_2, st20_2]
theorem dr89 (i : grid1.Coords) (x0 x1 : Vec F S1x100x1000 .f32) (z : S100x1000.Idx) : (k1_pay93 (k1_pay111 i x0 x1) (k1_pay113 i x0 x1) (k1_pay119 i x0 x1) (k1_pay120 i x0 x1) (k1_pay121 i x0 x1)) z = (st21 (drawKey (BitVec.ofNat 32 (i 0).val)) (place z)).1 := by
  show (IntOp.addi (IntOp.addi ((k1_pay91 (k1_pay119 i x0 x1) (k1_pay120 i x0 x1) (k1_pay121 i x0 x1)) z) (broadcastTo S100x1000 (k1_pay111 i x0 x1) broadcasts_S1x1_S100x1000 z)) ((k1_pay92 (k1_pay113 i x0 x1) (k1_pay119 i x0 x1) (k1_pay120 i x0 x1) (k1_pay121 i x0 x1)) z)) = _
  rw [dr87 i x0 x1 z, bcast_at _ _ (pay111_at i x0 x1), dr88 i x0 x1 z, st20_1, st21_1]
theorem dr90 (i : grid1.Coords) (x0 x1 : Vec F S1x100x1000 .f32) (z : S100x1000.Idx) : (k1_pay94 (k1_pay111 i x0 x1) (k1_pay113 i x0 x1) (k1_pay119 i x0 x1) (k1_pay120 i x0 x1) (k1_pay121 i x0 x1)) z = (st21 (drawKey (BitVec.ofNat 32 (i 0).val)) (place z)).2 := by
  show (turned 13#32 19#32 ((k1_pay92 (k1_pay113 i x0 x1) (k1_pay119 i x0 x1) (k1_pay120 i x0 x1) (k1_pay121 i x0 x1)) z) ((k1_pay93 (k1_pay111 i x0 x1) (k1_pay113 i x0 x1) (k1_pay119 i x0 x1) (k1_pay120 i x0 x1) (k1_pay121 i x0 x1)) z)) = _
  rw [dr88 i x0 x1 z, dr89 i x0 x1 z, st21_2]
theorem dr91 (i : grid1.Coords) (x0 x1 : Vec F S1x100x1000 .f32) (z : S100x1000.Idx) : (k1_pay95 (k1_pay111 i x0 x1) (k1_pay113 i x0 x1) (k1_pay119 i x0 x1) (k1_pay120 i x0 x1) (k1_pay121 i x0 x1)) z = (st22 (drawKey (BitVec.ofNat 32 (i 0).val)) (place z)).1 := by
  show (IntOp.addi ((k1_pay93 (k1_pay111 i x0 x1) (k1_pay113 i x0 x1) (k1_pay119 i x0 x1) (k1_pay120 i x0 x1) (k1_pay121 i x0 x1)) z) ((k1_pay94 (k1_pay111 i x0 x1) (k1_pay113 i x0 x1) (k1_pay119 i x0 x1) (k1_pay120 i x0 x1) (k1_pay121 i x0 x1)) z)) = _
  rw [dr89 i x0 x1 z, dr90 i x0 x1 z, st22_1]
theorem dr92 (i : grid1.Coords) (x0 x1 : Vec F S1x100x1000 .f32) (z : S100x1000.Idx) : (k1_pay96 (k1_pay111 i x0 x1) (k1_pay113 i x0 x1) (k1_pay119 i x0 x1) (k1_pay120 i x0 x1) (k1_pay121 i x0 x1)) z = (IntOp.shli .vector (st21 (drawKey (BitVec.ofNat 32 (i 0).val)) (place z)).2 15#32) := by
  show (IntOp.shli .vector ((k1_pay94 (k1_pay111 i x0 x1) (k1_pay113 i x0 x1) (k1_pay119 i x0 x1) (k1_pay120 i x0 x1) (k1_pay121 i x0 x1)) z) 15#32) = _
  rw [dr90 i x0 x1 z]
theorem dr93 (i : grid1.Coords) (x0 x1 : Vec F S1x100x1000 .f32) (z : S100x1000.Idx) : (k1_pay97 (k1_pay111 i x0 x1) (k1_pay113 i x0 x1) (k1_pay119 i x0 x1) (k1_pay120 i x0 x1) (k1_pay121 i x0 x1)) z = (IntOp.shrui .vector (st21 (drawKey (BitVec.ofNat 32 (i 0).val)) (place z)).2 17#32) := by
  show (IntOp.shrui .vector ((k1_pay94 (k1_pay111 i x0 x1) (k1_pay113 i x0 x1) (k1_pay119 i x0 x1) (k1_pay120 i x0 x1) (k1_pay121 i x0 x1)) z) 17#32) = _
  rw [dr90 i x0 x1 z]
/-- The word the final kernel turns into the noise of an element. -/
theorem word_at (i : grid1.Coords) (x0 x1 : Vec F S1x100x1000 .f32) (z : S100x1000.Idx) :
    (IntOp.xori (IntOp.addi (IntOp.addi (IntOp.addi ((k1_pay95 (k1_pay111 i x0 x1) (k1_pay113 i x0 x1) (k1_pay119 i x0 x1) (k1_pay120 i x0 x1) (k1_pay121 i x0 x1)) z) (IntOp.xori (IntOp.ori ((k1_pay96 (k1_pay111 i x0 x1) (k1_pay113 i x0 x1) (k1_pay119 i x0 x1) (k1_pay120 i x0 x1) (k1_pay121 i x0 x1)) z) ((k1_pay97 (k1_pay111 i x0 x1) (k1_pay113 i x0 x1) (k1_pay119 i x0 x1) (k1_pay120 i x0 x1) (k1_pay121 i x0 x1)) z)) ((k1_pay95 (k1_pay111 i x0 x1) (k1_pay113 i x0 x1) (k1_pay119 i x0 x1) (k1_pay120 i x0 x1) (k1_pay121 i x0 x1)) z))) (turned 26#32 6#32 (IntOp.xori (IntOp.ori ((k1_pay96 (k1_pay111 i x0 x1) (k1_pay113 i x0 x1) (k1_pay119 i x0 x1) (k1_pay120 i x0 x1) (k1_pay121 i x0 x1)) z) ((k1_pay97 (k1_pay111 i x0 x1) (k1_pay113 i x0 x1) (k1_pay119 i x0 x1) (k1_pay120 i x0 x1) (k1_pay121 i x0 x1)) z)) ((k1_pay95 (k1_pay111 i x0 x1) (k1_pay113 i x0 x1) (k1_pay119 i x0 x1) (k1_pay120 i x0 x1) (k1_pay121 i x0 x1)) z)) (IntOp.addi ((k1_pay95 (k1_pay111 i x0 x1) (k1_pay113 i x0 x1) (k1_pay119 i x0 x1) (k1_pay120 i x0 x1) (k1_pay121 i x0 x1)) z) (IntOp.xori (IntOp.ori ((k1_pay96 (k1_pay111 i x0 x1) (k1_pay113 i x0 x1) (k1_pay119 i x0 x1) (k1_pay120 i x0 x1) (k1_pay121 i x0 x1)) z) ((k1_pay97 (k1_pay111 i x0 x1) (k1_pay113 i x0 x1) (k1_pay119 i x0 x1) (k1_pay120 i x0 x1) (k1_pay121 i x0 x1)) z)) ((k1_pay95 (k1_pay111 i x0 x1) (k1_pay113 i x0 x1) (k1_pay119 i x0 x1) (k1_pay120 i x0 x1) (k1_pay121 i x0 x1)) z))))) (broadcastTo S100x1000 (k1_pay113 i x0 x1) broadcasts_S1x1_S100x1000 z)) (IntOp.addi (IntOp.addi (turned 6#32 26#32 (turned 26#32 6#32 (IntOp.xori (IntOp.ori ((k1_pay96 (k1_pay111 i x0 x1) (k1_pay113 i x0 x1) (k1_pay119 i x0 x1) (k1_pay120 i x0 x1) (k1_pay121 i x0 x1)) z) ((k1_pay97 (k1_pay111 i x0 x1) (k1_pay113 i x0 x1) (k1_pay119 i x0 x1) (k1_pay120 i x0 x1) (k1_pay121 i x0 x1)) z)) ((k1_pay95 (k1_pay111 i x0 x1) (k1_pay113 i x0 x1) (k1_pay119 i x0 x1) (k1_pay120 i x0 x1) (k1_pay121 i x0 x1)) z)) (IntOp.addi ((k1_pay95 (k1_pay111 i x0 x1) (k1_pay113 i x0 x1) (k1_pay119 i x0 x1) (k1_pay120 i x0 x1) (k1_pay121 i x0 x1)) z) (IntOp.xori (IntOp.ori ((k1_pay96 (k1_pay111 i x0 x1) (k1_pay113 i x0 x1) (k1_pay119 i x0 x1) (k1_pay120 i x0 x1) (k1_pay121 i x0 x1)) z) ((k1_pay97 (k1_pay111 i x0 x1) (k1_pay113 i x0 x1) (k1_pay119 i x0 x1) (k1_pay120 i x0 x1) (k1_pay121 i x0 x1)) z)) ((k1_pay95 (k1_pay111 i x0 x1) (k1_pay113 i x0 x1) (k1_pay119 i x0 x1) (k1_pay120 i x0 x1) (k1_pay121 i x0 x1)) z)))) (IntOp.addi (IntOp.addi ((k1_pay95 (k1_pay111 i x0 x1) (k1_pay113 i x0 x1) (k1_pay119 i x0 x1) (k1_pay120 i x0 x1) (k1_pay121 i x0 x1)) z) (IntOp.xori (IntOp.ori ((k1_pay96 (k1_pay111 i x0 x1) (k1_pay113 i x0 x1) (k1_pay119 i x0 x1) (k1_pay120 i x0 x1) (k1_pay121 i x0 x1)) z) ((k1_pay97 (k1_pay111 i x0 x1) (k1_pay113 i x0 x1) (k1_pay119 i x0 x1) (k1_pay120 i x0 x1) (k1_pay121 i x0 x1)) z)) ((k1_pay95 (k1_pay111 i x0 x1) (k1_pay113 i x0 x1) (k1_pay119 i x0 x1) (k1_pay120 i x0 x1) (k1_pay121 i x0 x1)) z))) (turned 26#32 6#32 (IntOp.xori (IntOp.ori ((k1_pay96 (k1_pay111 i x0 x1) (k1_pay113 i x0 x1) (k1_pay119 i x0 x1) (k1_pay120 i x0 x1) (k1_pay121 i x0 x1)) z) ((k1_pay97 (k1_pay111 i x0 x1) (k1_pay113 i x0 x1) (k1_pay119 i x0 x1) (k1_pay120 i x0 x1) (k1_pay121 i x0 x1)) z)) ((k1_pay95 (k1_pay111 i x0 x1) (k1_pay113 i x0 x1) (k1_pay119 i x0 x1) (k1_pay120 i x0 x1) (k1_pay121 i x0 x1)) z)) (IntOp.addi ((k1_pay95 (k1_pay111 i x0 x1) (k1_pay113 i x0 x1) (k1_pay119 i x0 x1) (k1_pay120 i x0 x1) (k1_pay121 i x0 x1)) z) (IntOp.xori (IntOp.ori ((k1_pay96 (k1_pay111 i x0 x1) (k1_pay113 i x0 x1) (k1_pay119 i x0 x1) (k1_pay120 i x0 x1) (k1_pay121 i x0 x1)) z) ((k1_pay97 (k1_pay111 i x0 x1) (k1_pay113 i x0 x1) (k1_pay119 i x0 x1) (k1_pay120 i x0 x1) (k1_pay121 i x0 x1)) z)) ((k1_pay95 (k1_pay111 i x0 x1) (k1_pay113 i x0 x1) (k1_pay119 i x0 x1) (k1_pay120 i x0 x1) (k1_pay121 i x0 x1)) z)))))) (broadcastTo S100x1000 (k1_pay110 i x0 x1) broadcasts_S1x1_S100x1000 z)) 5#32)) = (drawWord (BitVec.ofNat 32 (i 0).val) (place z)) := by
  rw [dr91 i x0 x1 z, dr92 i x0 x1 z, dr93 i x0 x1 z, bcast_at _ _ (pay113_at i x0 x1), bcast_at _ _ (pay110_at i x0 x1), st22_2', st23_1, st23_2, st24_1, st25_1, st24_2, st25_2, drawWord_def]

end Cert.Sampler

end
-- ==== Proof.KFinal.lean ====
/- The final kernel's output block, with its random words named: what the printed body stores is the same chain of
   vector operations over the sorted row, the probabilities' row and the words of the cipher at every position. -/
module

public import proofs.«01_k».proof.Proof.Gen.KernelIdeal.Frame
public import proofs.«01_k».proof.Proof.KDraw

@[expose] public section

set_option maxRecDepth 65536

noncomputable section

namespace Cert.Sampler

open Idealize.ShloMosaic Idealize.ShloMosaic.TcCoe Idealize.ShloMosaic.Tactic
open Cert.KernelIdeal Cert.KernelIdeal.Gen

variable {F : FTy → Type} [FloatOps F]

/-- The Gumbel noise of a word. -/
def noise (w : IVec S100x1000 32) : FVec F S100x1000 .f32 :=
  subf (broadcast S100x1000 (Scalar.ofBits .f32 0x00000000#32)) <| log <|
  subf (broadcast S100x1000 (Scalar.ofBits .f32 0x00000000#32)) <| log <|
  maximumf (broadcast S100x1000 (Scalar.ofBits .f32 0x00800000#32)) <|
  addf (mulf (sitofp .f32 (shrui w (broadcast S100x1000 9#32))) (broadcast S100x1000 (Scalar.ofBits .f32 0x34000000#32)))
    (broadcast S100x1000 (Scalar.ofBits .f32 0x00800000#32))

/-- The largest of a row's values. -/
def top (v : FVec F S100x1000 .f32) : F .f32 :=
  extractAt ![0, 0, 0] (shapeCast S1x1x1 (multiReduction .maximumf [1, 2] S1
    (shapeCast S1x100x1000 v shapeCasts_S100x1000_S1x100x1000) 0xFF800000#32 reduces_S1x100x1000_S1 (.inl rfl) rfl)
    shapeCasts_S1_S1x1x1) inpos_S1x1x1_p0_0_0

/-- The position of every element whose value is the largest, and the largest integer elsewhere. -/
def candidates (v : FVec F S100x1000 .f32) (pos : IVec S100x1000 32) : IVec S100x1000 32 :=
  select (cmpf .oeq v (broadcast S100x1000 (top v))) pos (broadcast S100x1000 2147483647#32)

/-- The word of the last stage, from the values the printed body carries into it. -/
def lastWord (u v : IVec S1x1 32) (a b d : IVec S100x1000 32) (z : S100x1000.Idx) : Word :=
  (IntOp.xori (IntOp.addi (IntOp.addi (IntOp.addi (a z) (IntOp.xori (IntOp.ori (b z) (d z)) (a z))) (turned 26#32 6#32 (IntOp.xori (IntOp.ori (b z) (d z)) (a z)) (IntOp.addi (a z) (IntOp.xori (IntOp.ori (b z) (d z)) (a z))))) (broadcastTo S100x1000 v broadcasts_S1x1_S100x1000 z)) (IntOp.addi (IntOp.addi (turned 6#32 26#32 (turned 26#32 6#32 (IntOp.xori (IntOp.ori (b z) (d z)) (a z)) (IntOp.addi (a z) (IntOp.xori (IntOp.ori (b z) (d z)) (a z)))) (IntOp.addi (IntOp.addi (a z) (IntOp.xori (IntOp.ori (b z) (d z)) (a z))) (turned 26#32 6#32 (IntOp.xori (IntOp.ori (b z) (d z)) (a z)) (IntOp.addi (a z) (IntOp.xori (IntOp.ori (b z) (d z)) (a z)))))) (broadcastTo S100x1000 u broadcasts_S1x1_S100x1000 z)) 5#32))

theorem stage_eq (l : FVec F S100x1000 .f32) (u v : IVec S1x1 32) (pos a b d : IVec S100x1000 32) :
    k1_pay98 l u pos v a b d = candidates (addf l (noise (lastWord u v a b d))) pos := rfl

theorem block_eq (i : grid1.Coords) (x0 x1 : Vec F S1x100x1000 .f32) :
    (k1_pay98 (k1_pay5 (View.ld x0 r1_0)) (k1_pay110 i x0 x1) (k1_pay112 i x0 x1) (k1_pay113 i x0 x1) (k1_pay95 (k1_pay111 i x0 x1) (k1_pay113 i x0 x1) (k1_pay119 i x0 x1) (k1_pay120 i x0 x1) (k1_pay121 i x0 x1)) (k1_pay96 (k1_pay111 i x0 x1) (k1_pay113 i x0 x1) (k1_pay119 i x0 x1) (k1_pay120 i x0 x1) (k1_pay121 i x0 x1)) (k1_pay97 (k1_pay111 i x0 x1) (k1_pay113 i x0 x1) (k1_pay119 i x0 x1) (k1_pay120 i x0 x1) (k1_pay121 i x0 x1)))
      = candidates (addf (k1_pay5 (View.ld x0 r1_0)) (noise fun y => drawWord (BitVec.ofNat 32 (i 0).val) (place y))) place := by
  rw [stage_eq, show k1_pay112 i x0 x1 = place from funext (pay112_at i x0 x1)]
  refine congrArg (fun w => candidates (addf (k1_pay5 (View.ld x0 r1_0)) (noise w)) place) (funext fun z => ?_)
  exact word_at i x0 x1 z

end Cert.Sampler

end
-- ==== Proof.RowLaw.lean ====
/- A row of probabilities: what a softmax and each reweighting round leave of it, and the kept head of the sorted row. -/
module

public import Idealize.ShloMosaic.PureOps
public import Idealize.ShloMosaic.PureOps.Ideal

@[expose] public section

namespace Cert.Sampler

open Idealize.ShloMosaic

variable {n : Nat}

/-- A row is a distribution of real numbers, or the bottom value everywhere (what an infinite logit leaves). -/
def Law (p : Fin n → EReal) : Prop :=
  (∃ q : Fin n → ℝ, (∀ i, p i = (q i : EReal)) ∧ (∀ i, 0 ≤ q i) ∧ ∑ i, q i = 1) ∨ ∀ i, p i = ⊥

theorem coe_sum (q : Fin n → ℝ) (S : Finset (Fin n)) : ((∑ i ∈ S, q i : ℝ) : EReal) = ∑ i ∈ S, (q i : EReal) := by
  induction S using Finset.cons_induction with
  | empty => simp
  | cons a S ha ih => rw [Finset.sum_cons, Finset.sum_cons, EReal.coe_add, ih]

theorem sum_bot (S : Finset (Fin n)) (f : Fin n → EReal) (hf : ∀ i ∈ S, f i = ⊥) (hS : S.Nonempty) : ∑ i ∈ S, f i = ⊥ := by
  obtain ⟨a, ha⟩ := hS
  rw [← Finset.add_sum_erase S f ha, hf a ha, EReal.bot_add]

/-- One reweighting round keeps it. -/
theorem law_step (p g : Fin n → EReal) (hg : ∀ i, g i = 0 ∨ g i = 1) (hp : Law p) :
    Law fun i => p i * ((1 + g i) - ∑ k, g k * p k) := by
  choose b hb using fun i => show ∃ b : ℝ, g i = (b : EReal) ∧ (b = 0 ∨ b = 1) from by
    rcases hg i with h | h
    · exact ⟨0, by simpa using h, .inl rfl⟩
    · exact ⟨1, by simpa using h, .inr rfl⟩
  have hb0 : ∀ i, 0 ≤ b i := fun i => by rcases (hb i).2 with h | h <;> rw [h] <;> norm_num
  have hb1 : ∀ i, b i ≤ 1 := fun i => by rcases (hb i).2 with h | h <;> rw [h] <;> norm_num
  rcases hp with ⟨q, hq, h0, h1⟩ | hp
  · left
    have hm : ∑ k, g k * p k = ((∑ k, b k * q k : ℝ) : EReal) := by
      rw [coe_sum]
      exact Finset.sum_congr rfl fun k _ => by rw [(hb k).1, hq, EReal.coe_mul]
    have hm1 : ∑ k, b k * q k ≤ 1 := by
      rw [← h1]
      exact Finset.sum_le_sum fun k _ => mul_le_of_le_one_left (h0 k) (hb1 k)
    refine ⟨fun i => q i * ((1 + b i) - ∑ k, b k * q k), fun i => ?_, fun i => ?_, ?_⟩
    · dsimp only
      rw [hm, (hb i).1, hq, EReal.coe_mul, EReal.coe_sub, EReal.coe_add, EReal.coe_one]
    · exact mul_nonneg (h0 i) (by linarith [hb0 i])
    · have : ∀ i, q i * ((1 + b i) - ∑ k, b k * q k) = q i + b i * q i - (∑ k, b k * q k) * q i := fun i => by ring
      simp only [this, Finset.sum_sub_distrib, Finset.sum_add_distrib, ← Finset.mul_sum, h1]
      ring
  · right
    intro i
    dsimp only
    have hm : ∑ k, g k * p k = 0 ∨ ∑ k, g k * p k = ⊥ := by
      by_cases h : ∃ k, g k = 1
      · obtain ⟨k, hk⟩ := h
        right
        rw [← Finset.add_sum_erase _ _ (Finset.mem_univ k), hk, hp, one_mul, EReal.bot_add]
      · left
        refine Finset.sum_eq_zero fun k _ => ?_
        rw [(hg k).resolve_right fun h' => h ⟨k, h'⟩, zero_mul]
    have hpos : (0 : EReal) < (1 + g i) - ∑ k, g k * p k := by
      rcases hm with h | h <;> rw [h, (hb i).1]
      · rw [sub_zero, ← EReal.coe_one, ← EReal.coe_add, ← EReal.coe_zero, EReal.coe_lt_coe_iff]
        linarith [hb0 i]
      · rw [← EReal.coe_one, ← EReal.coe_add, EReal.coe_sub_bot]
        exact EReal.zero_lt_top
    rw [hp, EReal.bot_mul_of_pos hpos]

/-- A softmax leaves it, whatever the logits. -/
theorem law_soft (x : Fin n → EReal) (M : EReal) (hM : ∀ k, x k ≤ M) (hM' : ∃ k, x k = M) :
    Law fun i => Ideal.div (Ideal.exp (x i - M)) (∑ k, Ideal.exp (x k - M)) := by
  obtain ⟨k0, hk0⟩ := hM'
  have hbot : (M = ⊤ ∨ M = ⊥) → ∀ k, x k - M = ⊥ := by
    rintro (rfl | rfl) k
    · exact EReal.sub_top _
    · rw [le_bot_iff.mp (hM k)]; rfl
  by_cases hcase : M = ⊤ ∨ M = ⊥
  · right
    intro i
    have h0 : ∀ k, Ideal.exp (x k - M) = 0 := fun k => by rw [hbot hcase k]; rfl
    simp only [h0, Finset.sum_const_zero, Ideal.div, if_true, lt_irrefl, if_false]
  · left
    rw [not_or] at hcase
    lift M to ℝ using hcase
    choose e he using fun k => show ∃ e : ℝ, Ideal.exp (x k - M) = (e : EReal) ∧ 0 ≤ e from by
      induction hx : x k using EReal.rec with
      | bot => exact ⟨0, by show Ideal.exp (⊥ - (M : EReal)) = _; rw [EReal.bot_sub]; rfl, le_rfl⟩
      | top => exact absurd (hM k) (by rw [hx]; exact not_le.mpr (EReal.coe_lt_top M))
      | coe r => exact ⟨Real.exp (r - M), by show Ideal.exp ((r : EReal) - (M : EReal)) = _; rw [← EReal.coe_sub]; rfl, (Real.exp_pos _).le⟩
    have he0 : e k0 = 1 := by
      have := (he k0).1
      rw [hk0, ← EReal.coe_sub, sub_self] at this
      have h' : Ideal.exp ((0 : ℝ) : EReal) = (Real.exp 0 : EReal) := rfl
      rw [h', Real.exp_zero] at this
      exact (EReal.coe_injective this).symm
    have hS : 1 ≤ ∑ k, e k := he0 ▸ Finset.single_le_sum (fun k _ => (he k).2) (Finset.mem_univ k0)
    have hS' : ∑ k, Ideal.exp (x k - M) = ((∑ k, e k : ℝ) : EReal) := by
      rw [coe_sum]; exact Finset.sum_congr rfl fun k _ => (he k).1
    refine ⟨fun i => e i * (∑ k, e k)⁻¹, fun i => ?_, fun i => mul_nonneg (he i).2 (inv_nonneg.mpr (by linarith)), ?_⟩
    · dsimp only
      rw [hS', (he i).1, Ideal.div, if_neg, EReal.coe_mul, EReal.coe_inv]
      intro h
      rw [← EReal.coe_zero] at h
      have := EReal.coe_injective h
      linarith
    · rw [← Finset.sum_mul, mul_inv_cancel₀ (by linarith)]

/-- A rearranged row keeps it. -/
theorem law_perm (p : Fin n → EReal) (σ : Fin n → Fin n) (hσ : Function.Bijective σ) (hp : Law p) : Law fun k => p (σ k) := by
  rcases hp with ⟨q, hq, h0, h1⟩ | hp
  · left
    refine ⟨fun k => q (σ k), fun k => hq _, fun k => h0 _, ?_⟩
    rw [← h1]
    exact (Equiv.ofBijective σ hσ).sum_comp q
  · exact .inr fun k => hp _

/-! ## The kept head of a sorted row -/

/-- What comes before the place `j`, summed. -/
noncomputable def before (s : Fin n → EReal) (j : Fin n) : EReal := ∑ k ∈ Finset.univ.filter (· < j), s k

/-- What comes up to the place `j`, summed. -/
noncomputable def upTo (s : Fin n → EReal) (j : Fin n) : EReal := ∑ k ∈ Finset.univ.filter (· ≤ j), s k

/-- The elements kept: those before which less than `c` comes. -/
noncomputable def kept (c : EReal) (s : Fin n → EReal) (j : Fin n) : EReal := if before s j < c then s j else 0

/-- Their quotients by their sum. -/
noncomputable def share (c : EReal) (s : Fin n → EReal) (j : Fin n) : EReal :=
  Ideal.div (kept c s j) (∑ k, kept c s k)

theorem before_zero (s : Fin n → EReal) (j : Fin n) (hj : j.val = 0) : before s j = 0 := by
  unfold before
  rw [Finset.filter_false_of_mem, Finset.sum_empty]
  intro k _ hk
  have := Fin.lt_def.mp hk
  omega

theorem before_succ (s : Fin n → EReal) (j k : Fin n) (hj : j.val = k.val + 1) : before s j = upTo s k := by
  unfold before upTo
  congr 1
  ext i
  simp only [Finset.mem_filter, Finset.mem_univ, true_and, Fin.lt_def, Fin.le_def]
  omega

theorem upTo_mono {c : EReal} (hc : 0 < c) (s : Fin n → EReal) (hs : Law s) (j k : Fin n) (hjk : j ≤ k) (h : upTo s k < c) :
    upTo s j < c := by
  rcases hs with ⟨q, hq, h0, h1⟩ | hs
  · refine lt_of_le_of_lt ?_ h
    unfold upTo
    refine Finset.sum_le_sum_of_subset_of_nonneg (fun i hi => ?_) fun i _ _ => by rw [hq]; exact_mod_cast h0 i
    simp only [Finset.mem_filter, Finset.mem_univ, true_and] at hi ⊢
    exact hi.trans hjk
  · rw [show upTo s j = ⊥ from sum_bot _ _ (fun i _ => hs i) ⟨j, by simp⟩]
    exact lt_of_le_of_lt bot_le hc

theorem mem_iff_lt_card (D : Fin n → Prop) [DecidablePred D] (hD : ∀ j k, j ≤ k → D k → D j) (k : Fin n) :
    D k ↔ k.val < (Finset.univ.filter D).card := by
  constructor
  · intro h
    have : (Finset.univ.filter fun i : Fin n => i ≤ k) ⊆ Finset.univ.filter D := fun i hi => by
      simp only [Finset.mem_filter, Finset.mem_univ, true_and] at hi ⊢
      exact hD i k hi h
    have h2 := Finset.card_le_card this
    have h3 : (Finset.univ.filter fun i : Fin n => i ≤ k).card = k.val + 1 := by
      rw [show (Finset.univ.filter fun i : Fin n => i ≤ k) = Finset.Iic k from by ext; simp]
      exact Fin.card_Iic k
    omega
  · intro h
    by_contra hk
    have : Finset.univ.filter D ⊆ (Finset.univ.filter fun i : Fin n => i < k) := fun i hi => by
      simp only [Finset.mem_filter, Finset.mem_univ, true_and] at hi ⊢
      by_contra h'
      exact hk (hD k i (not_lt.mp h') hi)
    have h2 := Finset.card_le_card this
    have h3 : (Finset.univ.filter fun i : Fin n => i < k).card = k.val := by
      rw [show (Finset.univ.filter fun i : Fin n => i < k) = Finset.Iio k from by ext; simp]
      exact Fin.card_Iio k
    omega

/-- The kept places are those up to the number of places whose sum is still below the bound. -/
theorem kept_iff {c : EReal} (hc : 0 < c) (s : Fin n → EReal) (hs : Law s) (j : Fin n) :
    before s j < c ↔ j.val ≤ (Finset.univ.filter fun k => upTo s k < c).card := by
  classical
  rcases Nat.eq_zero_or_pos j.val with h | h
  · rw [before_zero s j h, h]; exact ⟨fun _ => Nat.zero_le _, fun _ => hc⟩
  · have hk : j.val - 1 < n := by omega
    rw [before_succ s j ⟨j.val - 1, hk⟩ (by simp; omega)]
    have := mem_iff_lt_card (fun k => upTo s k < c) (upTo_mono hc s hs) ⟨j.val - 1, hk⟩
    dsimp only at this
    rw [this]
    omega

/-- No quotient is infinite. -/
theorem share_finite {c : EReal} (hc : 0 < c) (s : Fin n → EReal) (hs : Law s) (ha : ∀ i j, i ≤ j → s j ≤ s i) (j : Fin n) :
    max (share c s j) (-share c s j) < ⊤ := by
  have hn : 0 < n := lt_of_le_of_lt (Nat.zero_le _) j.isLt
  have hk0 : kept c s ⟨0, hn⟩ = s ⟨0, hn⟩ := by
    unfold kept; rw [before_zero s _ rfl, if_pos hc]
  rcases hs with ⟨q, hq, h0, h1⟩ | hs
  · choose b hb using fun k => show ∃ b : ℝ, kept c s k = (b : EReal) ∧ 0 ≤ b from by
      unfold kept
      split
      · exact ⟨q k, hq k, h0 k⟩
      · exact ⟨0, rfl, le_rfl⟩
    have hb0 : b ⟨0, hn⟩ = q ⟨0, hn⟩ := EReal.coe_injective (by rw [← (hb _).1, hk0, hq])
    have hq0 : 0 < q ⟨0, hn⟩ := by
      by_contra h
      have : ∑ i, q i ≤ 0 := Finset.sum_nonpos fun i _ => by
        have := ha ⟨0, hn⟩ i (Fin.le_def.mpr (Nat.zero_le _))
        rw [hq, hq, EReal.coe_le_coe_iff] at this
        linarith [not_lt.mp h]
      linarith
    have hS : 0 < ∑ k, b k :=
      lt_of_lt_of_le (hb0 ▸ hq0) (Finset.single_le_sum (fun k _ => (hb k).2) (Finset.mem_univ _))
    have hsum : ∑ k, kept c s k = ((∑ k, b k : ℝ) : EReal) := by
      rw [coe_sum]; exact Finset.sum_congr rfl fun k _ => (hb k).1
    have hr : share c s j = ((b j * (∑ k, b k)⁻¹ : ℝ) : EReal) := by
      unfold share
      rw [hsum, (hb j).1, Ideal.div, if_neg, EReal.coe_mul, EReal.coe_inv]
      intro h
      rw [← EReal.coe_zero] at h
      have := EReal.coe_injective h
      linarith
    rw [hr, ← EReal.coe_neg]
    exact max_lt (EReal.coe_lt_top _) (EReal.coe_lt_top _)
  · have hb : ∀ k, before s k < c := fun k => by
      rcases Nat.eq_zero_or_pos k.val with h | h
      · rw [before_zero s k h]; exact hc
      · rw [show before s k = ⊥ from sum_bot _ s (fun i _ => hs i)
          ⟨⟨0, hn⟩, Finset.mem_filter.mpr ⟨Finset.mem_univ _, Fin.lt_def.mpr h⟩⟩]
        exact lt_of_le_of_lt bot_le hc
    have hk : ∀ k, kept c s k = ⊥ := fun k => by unfold kept; rw [if_pos (hb k), hs]
    have hS : ∑ k, kept c s k = ⊥ := sum_bot _ _ (fun k _ => hk k) ⟨j, Finset.mem_univ _⟩
    have hr : share c s j = 0 := by
      unfold share
      rw [hS, hk, Ideal.div, if_neg (by simp), EReal.inv_bot, mul_zero]
    rw [hr]
    simp

end Cert.Sampler

end
-- ==== Proof.RowSort.lean ====
/- A stable sort of a row, and how the sorted place of an element and its place in the row name each other: the
   element at a place is found again by its value and by how many equal elements come before it. -/
module

public import Idealize.ShloMosaic.PureOps
public import Idealize.ShloMosaic.Lib.SortFacts

@[expose] public section

namespace Cert.Sampler

open Idealize.ShloMosaic

section stable

variable {n : Nat} {α : Type} [LinearOrder α] (f : Fin n → α)

/-- Earlier in the row sorted by `f`, equal elements in the row's own order. -/
def Earlier (b c : Fin n) : Prop := f b < f c ∨ (f b = f c ∧ b < c)

theorem earlier_insert (R : Fin n → Fin n → Bool) (hR : ∀ b c, R b c = true ↔ f b < f c) (a : Fin n) (l : List (Fin n))
    (ha : ∀ b ∈ l, a < b) (hl : l.Pairwise (Earlier f)) : (insertBefore R a l).Pairwise (Earlier f) := by
  induction l with
  | nil => exact List.pairwise_singleton _ _
  | cons b l ih =>
    rw [List.pairwise_cons] at hl
    unfold insertBefore
    split
    · rename_i hb
      rw [List.pairwise_cons]
      refine ⟨fun c hc => ?_, ih (fun c hc => ha c (List.mem_cons_of_mem b hc)) hl.2⟩
      rcases List.mem_cons.mp ((perm_insertBefore R a l).mem_iff.mp hc) with rfl | hc
      · exact .inl ((hR _ _).mp hb)
      · exact hl.1 c hc
    · rename_i hb
      have hab : f a ≤ f b := not_lt.mp fun h => hb ((hR _ _).mpr h)
      rw [List.pairwise_cons]
      refine ⟨fun c hc => ?_, List.pairwise_cons.mpr hl⟩
      have hac : f a ≤ f c := by
        rcases List.mem_cons.mp hc with rfl | hc
        · exact hab
        · rcases hl.1 c hc with h | h
          · exact hab.trans h.le
          · exact hab.trans h.1.le
      rcases hac.lt_or_eq with h | h
      · exact .inl h
      · exact .inr ⟨h, ha c hc⟩

theorem earlier_sort (R : Fin n → Fin n → Bool) (hR : ∀ b c, R b c = true ↔ f b < f c) (l : List (Fin n))
    (hl : l.Pairwise (· < ·)) : (stableSort R l).Pairwise (Earlier f) := by
  induction l with
  | nil => exact List.Pairwise.nil
  | cons a l ih =>
    rw [List.pairwise_cons] at hl
    unfold stableSort
    exact earlier_insert f R hR a _ (fun b hb => hl.1 b ((perm_stableSort R l).mem_iff.mp hb)) (ih hl.2)

theorem earlier_sortedFrom (R : Fin n → Fin n → Bool) (hR : ∀ b c, R b c = true ↔ f b < f c) (i j : Fin n) (hij : i < j) :
    Earlier f (sortedFrom R i) (sortedFrom R j) := by
  have hp : ∀ a b : Fin (sortPositions n R).length, a < b →
      Earlier f ((sortPositions n R).get a) ((sortPositions n R).get b) :=
    List.pairwise_iff_get.mp (earlier_sort f R hR (List.finRange n) (List.pairwise_lt_finRange n))
  unfold sortedFrom
  exact hp _ _ (by simp only [Fin.lt_def, Fin.val_cast]; exact hij)

end stable

section rank

variable {n : Nat} {α : Type} [LinearOrder α] (p : Fin n → α) (σ : Fin n → Fin n)

/-- The elements of the row `s` equal to `x` before the place `j`. -/
def tiesBefore (s : Fin n → α) (x : α) (j : Fin n) : Finset (Fin n) := Finset.univ.filter fun k => s k = x ∧ k < j

theorem ties_sorted (hσ : Function.Bijective σ) (hs : ∀ i j, i < j → p (σ i) = p (σ j) → σ i < σ j) (j : Fin n) :
    (tiesBefore p (p (σ j)) (σ j)).card = (tiesBefore (fun k => p (σ k)) (p (σ j)) j).card := by
  symm
  refine Finset.card_bij (fun k _ => σ k) (fun k hk => ?_) (fun a _ b _ h => hσ.1 h) fun k hk => ?_
  · simp only [tiesBefore, Finset.mem_filter, Finset.mem_univ, true_and] at hk ⊢
    exact ⟨hk.1, hs k j hk.2 hk.1⟩
  · simp only [tiesBefore, Finset.mem_filter, Finset.mem_univ, true_and] at hk
    obtain ⟨i, rfl⟩ := hσ.2 k
    refine ⟨i, ?_, rfl⟩
    simp only [tiesBefore, Finset.mem_filter, Finset.mem_univ, true_and]
    refine ⟨hk.1, ?_⟩
    rcases lt_trichotomy i j with h | h | h
    · exact h
    · exact absurd hk.2 (by rw [h]; exact lt_irrefl _)
    · exact absurd (hs j i h hk.1.symm) (not_lt.mpr hk.2.le)

theorem ties_lt {x : α} {i i' : Fin n} (hi : p i = x) (h : i < i') : (tiesBefore p x i).card < (tiesBefore p x i').card := by
  refine Finset.card_lt_card (Finset.ssubset_iff_of_subset (fun k hk => ?_) |>.mpr ⟨i, ?_, ?_⟩)
  · simp only [tiesBefore, Finset.mem_filter, Finset.mem_univ, true_and] at hk ⊢
    exact ⟨hk.1, hk.2.trans h⟩
  · simp only [tiesBefore, Finset.mem_filter, Finset.mem_univ, true_and]; exact ⟨hi, h⟩
  · simp only [tiesBefore, Finset.mem_filter, Finset.mem_univ, true_and]; exact fun h => lt_irrefl _ h.2

/-- The element sorted to the place `j` is the one with its value and with as many equal elements before it. -/
theorem rank_iff (hσ : Function.Bijective σ) (hs : ∀ i j, i < j → p (σ i) = p (σ j) → σ i < σ j) (i j : Fin n) :
    (p i = p (σ j) ∧ (tiesBefore p (p (σ j)) i).card = (tiesBefore (fun k => p (σ k)) (p (σ j)) j).card) ↔ i = σ j := by
  constructor
  · rintro ⟨h1, h2⟩
    rw [← ties_sorted p σ hσ hs j] at h2
    rcases lt_trichotomy i (σ j) with h | h | h
    · exact absurd h2 (ties_lt p h1 h).ne
    · exact h
    · exact absurd h2 (ties_lt p rfl h).ne'
  · rintro rfl
    exact ⟨rfl, ties_sorted p σ hσ hs j⟩

end rank

end Cert.Sampler

end
-- ==== Proof.RowFold.lean ====
/- Folds that pick: the largest of a row's values, the least of its marked positions, the one marked element. -/
module

public import Idealize.ShloMosaic.PureOps
public import Idealize.ShloMosaic.PureOps.Reduce
public import Idealize.ShloMosaic.PureOps.Ideal.Laws
public import Idealize.ShloMosaic.Lib.IdealHost

@[expose] public section

namespace Cert.Sampler

open Idealize.ShloMosaic

theorem fold_pick {ι α : Type} (op : α → α → α) [Std.Commutative op] [Std.Associative op] (le : α → α → Prop)
    (hrefl : ∀ a, le a a) (htrans : ∀ a b c, le a b → le b c → le a c) (hop : ∀ a b, op a b = a ∨ op a b = b)
    (hl : ∀ a b, le a (op a b)) (hr : ∀ a b, le b (op a b)) (S : Finset ι) (b : α) (f : ι → α) :
    (S.fold op b f = b ∨ ∃ i ∈ S, S.fold op b f = f i) ∧ le b (S.fold op b f) ∧ ∀ i ∈ S, le (f i) (S.fold op b f) := by
  classical
  induction S using Finset.induction_on with
  | empty => exact ⟨.inl rfl, hrefl _, fun i hi => absurd hi (Finset.notMem_empty i)⟩
  | insert a S ha ih =>
    rw [Finset.fold_insert ha]
    obtain ⟨h1, h2, h3⟩ := ih
    refine ⟨?_, htrans _ _ _ h2 (hr _ _), fun i hi => ?_⟩
    · rcases hop (f a) (S.fold op b f) with h | h
      · exact .inr ⟨a, Finset.mem_insert_self a S, h⟩
      · rw [h]
        rcases h1 with h1 | ⟨i, hi, h1⟩
        · exact .inl h1
        · exact .inr ⟨i, Finset.mem_insert_of_mem hi, h1⟩
    · rcases Finset.mem_insert.mp hi with rfl | hi
      · exact hl _ _
      · exact htrans _ _ _ (h3 i hi) (hr _ _)

/-- The largest of some values: above all, and one of them. -/
theorem fold_largest {ι : Type} (S : Finset ι) (hS : S.Nonempty) (f : ι → Ideal .f32) (b : Ideal .f32) (hb : b = (⊥ : EReal)) :
    (∀ i ∈ S, (f i : EReal) ≤ S.fold (FloatOps.maximumf (F := Ideal) (φ := .f32)) b f)
      ∧ ∃ i ∈ S, (f i : EReal) = S.fold (FloatOps.maximumf (F := Ideal) (φ := .f32)) b f := by
  obtain ⟨h1, -, h3⟩ := fold_pick (FloatOps.maximumf (F := Ideal) (φ := .f32)) (fun a b => (a : EReal) ≤ b)
    (fun a => le_refl (a : EReal)) (fun a b c h h' => le_trans (a := (a : EReal)) h h') (fun a b => max_choice (a : EReal) b)
    (fun a b => le_max_left (a : EReal) b) (fun a b => le_max_right (a : EReal) b) S b f
  refine ⟨h3, ?_⟩
  rcases h1 with h1 | ⟨i, hi, h1⟩
  · obtain ⟨i, hi⟩ := hS
    refine ⟨i, hi, ?_⟩
    have h := h3 i hi
    rw [h1, hb] at h ⊢
    exact le_bot_iff.mp h
  · exact ⟨i, hi, h1.symm⟩

theorem toInt_small (k : Nat) (hk : k < 100000) : (BitVec.ofNat 32 k).toInt = k := by
  rw [BitVec.toInt_eq_toNat_of_lt] <;> rw [BitVec.toNat_ofNat, Nat.mod_eq_of_lt (by omega)]
  omega

theorem minsi_choice (a b : BitVec 32) : IntOp.minsi a b = a ∨ IntOp.minsi a b = b := by
  unfold IntOp.minsi; split
  · exact .inl rfl
  · exact .inr rfl

theorem minsi_le_left (a b : BitVec 32) : (IntOp.minsi a b).toInt ≤ a.toInt := by
  unfold IntOp.minsi; split
  · exact le_rfl
  · rename_i h; simp only [BitVec.slt, decide_eq_true_eq, not_lt] at h; exact h

theorem minsi_le_right (a b : BitVec 32) : (IntOp.minsi a b).toInt ≤ b.toInt := by
  unfold IntOp.minsi; split
  · rename_i h; simp only [BitVec.slt, decide_eq_true_eq] at h; exact h.le
  · exact le_rfl

/-- The least of the marked positions, every other position holding the largest integer. -/
theorem fold_least {ι : Type} (S : Finset ι) (f : ι → BitVec 32) (pos : ι → Fin 100000) (hpos : ∀ k, ∃ i ∈ S, pos i = k)
    (P : Fin 100000 → Prop) [DecidablePred P]
    (hf : ∀ i ∈ S, f i = if P (pos i) then BitVec.ofNat 32 (pos i).val else 2147483647#32) (hex : ∃ k, P k) :
    ∃ j : Fin 100000, S.fold IntOp.minsi 2147483647#32 f = BitVec.ofNat 32 j.val ∧ P j ∧ ∀ k, k < j → ¬ P k := by
  obtain ⟨h1, -, h3⟩ := fold_pick (IntOp.minsi (w := 32)) (fun a b => b.toInt ≤ a.toInt)
    (fun a => le_rfl) (fun a b c h h' => le_trans h' h) minsi_choice minsi_le_left minsi_le_right S 2147483647#32 f
  have hle : ∀ k, P k → (S.fold IntOp.minsi 2147483647#32 f).toInt ≤ k.val := fun k hk => by
    obtain ⟨i, hi, rfl⟩ := hpos k
    have := h3 i hi
    rw [hf i hi, if_pos hk, toInt_small _ (pos i).isLt] at this
    exact this
  have hbig : (2147483647#32 : BitVec 32).toInt = 2147483647 := by decide
  obtain ⟨k0, hk0⟩ := hex
  have hk0' := hle k0 hk0
  have hlt := k0.isLt
  have key : ∃ j : Fin 100000, S.fold IntOp.minsi 2147483647#32 f = BitVec.ofNat 32 j.val ∧ P j := by
    rcases h1 with h1 | ⟨i, hi, h1⟩
    · rw [h1, hbig] at hk0'; omega
    · rw [hf i hi] at h1
      by_cases hp : P (pos i)
      · rw [if_pos hp] at h1; exact ⟨pos i, h1, hp⟩
      · rw [if_neg hp] at h1; rw [h1, hbig] at hk0'; omega
  obtain ⟨j, hj, hpj⟩ := key
  refine ⟨j, hj, hpj, fun k hkj hk => ?_⟩
  have := hle k hk
  rw [hj, toInt_small _ j.isLt] at this
  have := Fin.lt_def.mp hkj
  omega

/-- A sum of words of which one alone may not be zero. -/
theorem fold_only {ι : Type} [DecidableEq ι] (S : Finset ι) (f : ι → BitVec 32) (a : ι) (ha : a ∈ S) (hf : ∀ i ∈ S, i ≠ a → f i = 0#32) :
    S.fold IntOp.addi 0#32 f = f a := by
  have h0 : ∀ T : Finset ι, (∀ i ∈ T, f i = 0#32) → T.fold IntOp.addi 0#32 f = 0#32 := fun T => by
    induction T using Finset.induction_on with
    | empty => intro _; rfl
    | insert b T hb ih =>
      intro h
      rw [Finset.fold_insert hb, ih fun i hi => h i (Finset.mem_insert_of_mem hi), h b (Finset.mem_insert_self b T)]; rfl
  rw [← Finset.insert_erase ha, Finset.fold_insert (Finset.notMem_erase a S),
    h0 _ fun i hi => hf i (Finset.mem_of_mem_erase hi) (Finset.ne_of_mem_erase hi)]
  show f a + 0#32 = f a
  exact BitVec.add_zero _

/-- A choice of one value over another of a bit, as a condition. -/
theorem ofBool_eq_one (b : Bool) : BitVec.ofBool b = 1#1 ↔ b = true := by cases b <;> decide

/-- The place a row's draw picks: the first of those whose value is the largest. -/
def Picked {n : Nat} (v : Fin n → EReal) (j : Fin n) : Prop := (∀ k, v k ≤ v j) ∧ ∀ k, k < j → v k ≠ v j

theorem picked_unique {n : Nat} (v : Fin n → EReal) (i j : Fin n) (hi : Picked v i) (hj : Picked v j) : i = j := by
  rcases lt_trichotomy i j with h | h | h
  · exact absurd (le_antisymm (hj.1 i) (hi.1 j)) (hj.2 i h)
  · exact h
  · exact absurd (le_antisymm (hi.1 j) (hj.1 i)) (hi.2 j h)

end Cert.Sampler

end
-- ==== Proof.KTail.lean ====
/- The final kernel's vector operations over one row laid out as a hundred lines of a thousand, read in the row's own
   order: sums, what comes before a place, the largest value, the least marked position. -/
module

public import proofs.«01_k».proof.Proof.KFinal
public import proofs.«01_k».proof.Proof.RowLaw
public import proofs.«01_k».proof.Proof.RowSort
public import proofs.«01_k».proof.Proof.RowFold
public import Idealize.ShloMosaic.Lib.MatmulPlain
public import Idealize.ShloMosaic.Lib.ValueIdx
public import Idealize.ShloMosaic.Lib.ValueLayout
public import Idealize.ShloMosaic.Lib.IdealHost

@[expose] public section

set_option maxRecDepth 65536

noncomputable section

namespace Cert.Sampler

open Idealize.ShloMosaic Idealize.ShloMosaic.TcCoe Idealize.ShloMosaic.Tactic Idealize.ShloMosaic.ValueIdx
open Cert.KernelIdeal Cert.KernelIdeal.Gen

/-! ## The row's order -/

/-- A row's position of an element. -/
def flat (z : S100x1000.Idx) : Fin 100000 :=
  ⟨(z 0).val * 1000 + (z 1).val, by have := idx2_lt0 z; have := idx2_lt1 z; omega⟩

/-- The element at a row's position. -/
def unflat (k : Fin 100000) : S100x1000.Idx :=
  ix2 (n0 := 100) (n1 := 1000) ⟨k.val / 1000, by omega⟩ ⟨k.val % 1000, by omega⟩

theorem flat_unflat (k : Fin 100000) : flat (unflat k) = k := by
  apply Fin.ext
  show k.val / 1000 * 1000 + k.val % 1000 = k.val
  omega

theorem unflat_flat (z : S100x1000.Idx) : unflat (flat z) = z := by
  have h0 := idx2_lt0 z; have h1 := idx2_lt1 z
  rw [eq_ix2 z]
  funext a
  match a with
  | ⟨0, _⟩ => apply Fin.ext; show ((z 0).val * 1000 + (z 1).val) / 1000 = (z 0).val; omega
  | ⟨1, _⟩ => apply Fin.ext; show ((z 0).val * 1000 + (z 1).val) % 1000 = (z 1).val; omega

/-- The elements and the positions of a row. -/
def flatE : S100x1000.Idx ≃ Fin 100000 := ⟨flat, unflat, unflat_flat, flat_unflat⟩

theorem place_flat (z : S100x1000.Idx) : place z = BitVec.ofNat 32 (flat z).val := by
  have h0 := idx2_lt0 z; have h1 := idx2_lt1 z
  apply BitVec.eq_of_toNat_eq
  show (BitVec.ofNat 32 (z 0).val * 1000#32 + BitVec.ofNat 32 (z 1).val).toNat = _
  simp only [BitVec.toNat_add, BitVec.toNat_mul, BitVec.toNat_ofNat]
  show _ = ((z 0).val * 1000 + (z 1).val) % 2 ^ 32
  omega

/-- A row in its own order. -/
def rowOf {α : Type} (x : S100x1000.Idx → α) (k : Fin 100000) : α := x (unflat k)

theorem rowOf_flat {α : Type} (x : S100x1000.Idx → α) (z : S100x1000.Idx) : rowOf x (flat z) = x z := by
  unfold rowOf; rw [unflat_flat]

/-! ## Sums -/

/-- The printed sum of a row. -/
def total (x : FVec Ideal S100x1000 .f32) : Ideal .f32 :=
  extractAt ![0, 0, 0] (shapeCast S1x1x1 (multiReduction .add [1, 2] S1
    (shapeCast S1x100x1000 x shapeCasts_S100x1000_S1x100x1000) 0x00000000#32 reduces_S1x100x1000_S1 (.inl rfl) rfl)
    shapeCasts_S1_S1x1x1) inpos_S1x1x1_p0_0_0

theorem total_eq (x : FVec Ideal S100x1000 .f32) : total x = ∑ k, (rowOf x k : EReal) := by
  have key : ∀ j : S1.Idx, (multiReduction .add [1, 2] S1
    (shapeCast S1x100x1000 x shapeCasts_S100x1000_S1x100x1000) 0x00000000#32 reduces_S1x100x1000_S1 (.inl rfl) rfl j : EReal)
      = ∑ k, (rowOf x k : EReal) := fun j => by
    refine (Ideal.multiReduction_add_total (shapeCast S1x100x1000 x shapeCasts_S100x1000_S1x100x1000) 0x00000000#32 reduces_S1x100x1000_S1
      (fun b => by fin_cases b; rfl) (.inl rfl) rfl j).trans ?_
    refine ((Equiv.sum_comp (Shape.reshapeEquiv shapeCasts_S100x1000_S1x100x1000) (fun z => (x z : EReal)))).trans ?_
    exact (Equiv.sum_comp flatE.symm (fun z => (x z : EReal))).symm
  exact key _

theorem one_idx (j j' : S1.Idx) : j = j' := funext fun b => Fin.ext (by
  have h1 : (j b).val < 1 := by have := (j b).isLt; fin_cases b; exact this
  have h2 : (j' b).val < 1 := by have := (j' b).isLt; fin_cases b; exact this
  omega)

theorem top_spec (x : FVec Ideal S100x1000 .f32) :
    (∀ k, (rowOf x k : EReal) ≤ top x) ∧ ∃ k, (rowOf x k : EReal) = top x := by
  have key : ∀ (hφ) (hacc) (j : S1.Idx), (∀ k, (rowOf x k : EReal) ≤ multiReduction .maximumf [1, 2] S1
      (shapeCast S1x100x1000 x shapeCasts_S100x1000_S1x100x1000) 0xFF800000#32 reduces_S1x100x1000_S1 hφ hacc j)
      ∧ ∃ k, (rowOf x k : EReal) = multiReduction .maximumf [1, 2] S1
        (shapeCast S1x100x1000 x shapeCasts_S100x1000_S1x100x1000) 0xFF800000#32 reduces_S1x100x1000_S1 hφ hacc j := fun hφ hacc j => by
    rw [multiReduction_maximumf_eq_fold]
    have hm : ∀ z : S100x1000.Idx, (Shape.reshapeEquiv shapeCasts_S100x1000_S1x100x1000).symm z
        ∈ (Finset.univ.filter fun i => reduces_S1x100x1000_S1.drop i = j) := fun z => Finset.mem_filter.mpr ⟨Finset.mem_univ _, one_idx _ _⟩
    obtain ⟨h1, h2⟩ := fold_largest _ ⟨_, hm (unflat 0)⟩ (shapeCast S1x100x1000 x shapeCasts_S100x1000_S1x100x1000)
      (FloatOps.ofBits .f32 0xFF800000#32) (by simp [Ideal.ofBits, Ideal.ieee])
    refine ⟨fun k => ?_, ?_⟩
    · refine le_trans (le_of_eq ?_) (h1 _ (hm (unflat k)))
      unfold shapeCast
      rw [Equiv.apply_symm_apply]
      rfl
    · obtain ⟨i, -, hi⟩ := h2
      refine ⟨flat (Shape.reshapeEquiv shapeCasts_S100x1000_S1x100x1000 i), ?_⟩
      rw [rowOf_flat]
      exact hi
  unfold top
  unfold extractAt
  exact key _ _ _

/-- The printed least element of a row of words. -/
def least (x : IVec S100x1000 32) : BitVec 32 :=
  extractAt ![0, 0, 0] (shapeCast S1x1x1 (multiReductionI .minsi [1, 2] S1
    (shapeCast S1x100x1000 x shapeCasts_S100x1000_S1x100x1000) 2147483647#32 reduces_S1x100x1000_S1 rfl)
    shapeCasts_S1_S1x1x1) inpos_S1x1x1_p0_0_0

theorem least_spec (x : IVec S100x1000 32) (P : Fin 100000 → Prop) [DecidablePred P]
    (hx : ∀ z, x z = if P (flat z) then BitVec.ofNat 32 (flat z).val else 2147483647#32) (hex : ∃ k, P k) :
    ∃ j : Fin 100000, least x = BitVec.ofNat 32 j.val ∧ P j ∧ ∀ k, k < j → ¬ P k := by
  have key : ∀ (hacc) (o : S1.Idx), ∃ j : Fin 100000, multiReductionI .minsi [1, 2] S1
    (shapeCast S1x100x1000 x shapeCasts_S100x1000_S1x100x1000) 2147483647#32 reduces_S1x100x1000_S1 hacc o
      = BitVec.ofNat 32 j.val ∧ P j ∧ ∀ k, k < j → ¬ P k := fun hacc o => by
    rw [multiReductionI_eq_fold]
    refine fold_least _ _ (fun i => flat (Shape.reshapeEquiv shapeCasts_S100x1000_S1x100x1000 i)) (fun k => ?_) P (fun i _ => hx _) hex
    refine ⟨(Shape.reshapeEquiv shapeCasts_S100x1000_S1x100x1000).symm (unflat k), Finset.mem_filter.mpr ⟨Finset.mem_univ _, one_idx _ _⟩, ?_⟩
    rw [Equiv.apply_symm_apply, flat_unflat]
  unfold least
  unfold extractAt
  exact key _ _

/-! ## What comes before a place -/

/-- A condition as a float: one where it holds, zero elsewhere. -/
theorem flag_eq (b : BitVec 1) : (FloatOps.sitofp (F := Ideal) .f32 (b.setWidth 32) : EReal) = if b = 1#1 then 1 else 0 := by
  have h : b = 0#1 ∨ b = 1#1 := by revert b; decide
  rcases h with rfl | rfl
  · show (((BitVec.setWidth 32 0#1).toInt : ℝ) : EReal) = _
    rw [if_neg (by decide), show (BitVec.setWidth 32 0#1).toInt = 0 from by decide]; simp
  · show (((BitVec.setWidth 32 1#1).toInt : ℝ) : EReal) = _
    rw [if_pos rfl, show (BitVec.setWidth 32 1#1).toInt = 1 from by decide]; simp

theorem slt_small (a b : Nat) (ha : a < 100000) (hb : b < 100000) :
    (IntOp.cmpi .slt (BitVec.ofNat 32 a) (BitVec.ofNat 32 b) = 1#1) ↔ a < b := by
  show BitVec.ofBool ((BitVec.ofNat 32 a).slt (BitVec.ofNat 32 b)) = 1#1 ↔ _
  rw [ofBool_eq_one, BitVec.slt, decide_eq_true_eq, toInt_small a ha, toInt_small b hb]
  omega

theorem eq_small (a b : Nat) (ha : a < 100000) (hb : b < 100000) :
    (IntOp.cmpi .eq (BitVec.ofNat 32 a) (BitVec.ofNat 32 b) = 1#1) ↔ a = b := by
  show BitVec.ofBool (BitVec.ofNat 32 a == BitVec.ofNat 32 b) = 1#1 ↔ _
  rw [ofBool_eq_one, beq_iff_eq]
  constructor
  · intro h
    have := congrArg BitVec.toNat h
    rw [BitVec.toNat_ofNat, BitVec.toNat_ofNat] at this
    omega
  · rintro rfl; rfl

theorem upper_apply (k c : Fin 1000) : (k1_pay3 (F := Ideal) (ix2 k c) : EReal) = if k < c then 1 else 0 := by
  have h : k1_pay3 (F := Ideal) (ix2 k c) = FloatOps.sitofp (F := Ideal) .f32
      ((IntOp.cmpi .slt (iota .tc S1000x1000 32 [0] iota_S1000x1000_d0_w32 (ix2 k c)) (iota .tc S1000x1000 32 [1] iota_S1000x1000_d1_w32 (ix2 k c))).setWidth 32) := rfl
  rw [h, flag_eq, iota_single_apply .tc S1000x1000 32 0, iota_single_apply .tc S1000x1000 32 1]
  refine if_congr (slt_small k.val c.val (by omega) (by omega)) rfl rfl

theorem lower_apply (k c : Fin 100) : (k1_pay4 (F := Ideal) (ix2 k c) : EReal) = if c < k then 1 else 0 := by
  have h : k1_pay4 (F := Ideal) (ix2 k c) = FloatOps.sitofp (F := Ideal) .f32
      ((IntOp.cmpi .slt (iota .tc S100x100 32 [1] iota_S100x100_d1_w32 (ix2 k c)) (iota .tc S100x100 32 [0] iota_S100x100_d0_w32 (ix2 k c))).setWidth 32) := rfl
  rw [h, flag_eq, iota_single_apply .tc S100x100 32 1, iota_single_apply .tc S100x100 32 0]
  refine if_congr (slt_small c.val k.val (by omega) (by omega)) rfl rfl

/-- The printed sum of what comes before each place of a row: of its own line by one product with a triangle of ones,
    of the lines above by another. -/
def ahead (x : FVec Ideal S100x1000 .f32) : FVec Ideal S100x1000 .f32 :=
  addf (matmul dot_S100x1000_S1000x1000_S100x1000_1_0_0_1_n_n none x (k1_pay3 (F := Ideal)) (constant (F := Ideal) S100x1000 .f32 0x00000000#32))
    (broadcastTo S100x1000
      (matmul dot_S100x100_S100x1_S100x1_1_0_0_1_n_n none (k1_pay4 (F := Ideal))
        (shapeCast S100x1 (multiReduction .add [1] S100 x 0x00000000#32 reduces_S100x1000_S100 (.inl rfl) rfl) shapeCasts_S100_S100x1)
        (constant (F := Ideal) S100x1 .f32 0x00000000#32))
      broadcasts_S100x1_S100x1000)

theorem lineSum (x : FVec Ideal S100x1000 .f32) (r : Fin 100) :
    (multiReduction .add [1] S100 x 0x00000000#32 reduces_S100x1000_S100 (.inl rfl) rfl (ix1 r) : EReal) = ∑ c : Fin 1000, (x (ix2 r c) : EReal) := by
  refine (Ideal.multiReduction_add_single x _ reduces_S100x1000_S100 _ _ (ix1 r)).trans ?_
  refine Finset.sum_congr rfl fun c _ => congrArg x ?_
  rw [eq_ix2 (reduces_S100x1000_S100.lift (ix1 r) c)]
  funext a
  match a with
  | ⟨0, _⟩ => rfl
  | ⟨1, _⟩ => rfl

theorem ahead_ix (x : FVec Ideal S100x1000 .f32) (r : Fin 100) (c : Fin 1000) :
    (ahead x (ix2 r c) : EReal) = (∑ k : Fin 1000, if k < c then (x (ix2 r k) : EReal) else 0)
      + ∑ r' : Fin 100, if r' < r then ∑ c' : Fin 1000, (x (ix2 r' c') : EReal) else 0 := by
  show (FloatOps.matmul (F := Ideal) (DotDims.plain 100 1000 1000) none x (k1_pay3 (F := Ideal)) (constant (F := Ideal) S100x1000 .f32 0x00000000#32) (ix2 r c) : EReal)
    + (broadcastTo S100x1000 _ broadcasts_S100x1_S100x1000 (ix2 r c) : EReal) = _
  rw [Ideal.matmul_plain_apply, broadcastTo_apply _ broadcasts_S100x1_S100x1000 (ix2 r c) (ix2 r (0 : Fin 1)) (fun a => match a with
      | ⟨0, _⟩ => rfl
      | ⟨1, _⟩ => rfl)]
  refine congrArg₂ (· + ·) ?_ ?_
  · rw [constant_apply, Ideal.ofBits_zero_f32, zero_add]
    refine Finset.sum_congr rfl fun k _ => ?_
    rw [upper_apply, mul_ite, mul_one, mul_zero]
  · show (FloatOps.matmul (F := Ideal) (DotDims.plain 100 100 1) none (k1_pay4 (F := Ideal)) _ (constant (F := Ideal) S100x1 .f32 0x00000000#32) (ix2 r (0 : Fin 1)) : EReal) = _
    rw [Ideal.matmul_plain_apply, constant_apply, Ideal.ofBits_zero_f32, zero_add]
    refine Finset.sum_congr rfl fun k _ => ?_
    rw [lower_apply, ite_mul, one_mul, zero_mul, shapeCast_apply _ shapeCasts_S100_S100x1 (ix2 k (0 : Fin 1)) (ix1 k) (by
      rw [Shape.rowMajor_val_one, Shape.rowMajor_val_two]; show k.val = k.val * 1 + 0; omega), lineSum]

theorem ahead_eq (x : FVec Ideal S100x1000 .f32) (z : S100x1000.Idx) : (ahead x z : EReal) = before (rowOf x) (flat z) := by
  obtain ⟨r, c, rfl⟩ : ∃ r c, z = ix2 (n0 := 100) (n1 := 1000) r c := ⟨z 0, z 1, eq_ix2 z⟩
  rw [ahead_ix]
  unfold before
  rw [Finset.sum_filter, ← Equiv.sum_comp flatE, sum_idx2]
  have hin : ∀ (a : Fin 100), (∑ b : Fin 1000, if flatE (ix2 a b) < flat (ix2 r c) then (rowOf x (flatE (ix2 a b)) : EReal) else 0)
      = (if a = r then ∑ b : Fin 1000, (if b < c then (x (ix2 r b) : EReal) else 0) else 0)
        + if a < r then ∑ b : Fin 1000, (x (ix2 a b) : EReal) else 0 := fun a => by
    have hfl : ∀ b : Fin 1000, (flatE (ix2 a b) < flat (ix2 r c)) ↔ a.val * 1000 + b.val < r.val * 1000 + c.val := fun b => Iff.rfl
    have hx : ∀ b : Fin 1000, (rowOf x (flatE (ix2 a b)) : EReal) = x (ix2 a b) := fun b => rowOf_flat x _
    simp only [hfl, hx]
    rcases lt_trichotomy a r with h | h | h
    · rw [if_neg h.ne, if_pos h, zero_add]
      refine Finset.sum_congr rfl fun b _ => if_pos ?_
      have := Fin.lt_def.mp h; omega
    · subst h
      rw [if_pos rfl, if_neg (lt_irrefl _), add_zero]
      refine Finset.sum_congr rfl fun b _ => if_congr ?_ rfl rfl
      rw [Fin.lt_def]; omega
    · rw [if_neg h.ne', if_neg (not_lt.mpr h.le), zero_add]
      refine Finset.sum_eq_zero fun b _ => if_neg ?_
      have := Fin.lt_def.mp h; omega
  simp only [hin]
  rw [Finset.sum_add_distrib, Finset.sum_ite_eq' Finset.univ r, if_pos (Finset.mem_univ r)]

end Cert.Sampler

end
-- ==== Proof.KRow.lean ====
/- What the final kernel leaves for one row: the rank of the drawn place in the sorted row, found again in the row itself. -/
module

public import proofs.«01_k».proof.Proof.KTail

@[expose] public section

set_option maxRecDepth 65536

noncomputable section

namespace Cert.Sampler

open Idealize.ShloMosaic Idealize.ShloMosaic.TcCoe Idealize.ShloMosaic.Tactic Idealize.ShloMosaic.ValueIdx
open Cert.KernelIdeal Cert.KernelIdeal.Gen

/-- A literal of the programs. -/
abbrev lit (b : BitVec 32) : Ideal .f32 := FloatOps.ofBits (F := Ideal) .f32 b

/-- The Gumbel noise of a word. -/
def gumbel (w : Word) : EReal :=
  -(Ideal.log (-(Ideal.log (max (lit 0x00800000#32 : EReal)
    ((FloatOps.sitofp (F := Ideal) .f32 (IntOp.shrui .vector w 9#32) : EReal) * lit 0x34000000#32 + lit 0x00800000#32)))))

/-- The part of the probability mass kept. -/
abbrev part : EReal := lit 0x3F666666#32

theorem noise_at (w : IVec S100x1000 32) (z : S100x1000.Idx) : (noise (F := Ideal) w z : EReal) = gumbel (w z) := by
  have h : (noise (F := Ideal) w z : EReal) = lit 0x00000000#32 - Ideal.log (lit 0x00000000#32 - Ideal.log (max (lit 0x00800000#32 : EReal)
    ((FloatOps.sitofp (F := Ideal) .f32 (IntOp.shrui .vector (w z) 9#32) : EReal) * lit 0x34000000#32 + lit 0x00800000#32))) := rfl
  rw [h, show (lit 0x00000000#32 : EReal) = 0 from Ideal.ofBits_zero_f32]
  unfold gumbel
  rw [sub_eq_add_neg, zero_add, sub_eq_add_neg, zero_add]

/-! ## The kept part and its logarithms -/

/-- The logarithm of each kept probability's share. -/
def logShare (s : FVec Ideal S100x1000 .f32) : FVec Ideal S100x1000 .f32 :=
  log (divf (select (cmpf .olt (ahead s) (broadcast S100x1000 (lit 0x3F666666#32))) s (broadcast S100x1000 (lit 0x00000000#32)))
    (broadcast S100x1000 (total (select (cmpf .olt (ahead s) (broadcast S100x1000 (lit 0x3F666666#32))) s (broadcast S100x1000 (lit 0x00000000#32))))))

theorem pay5_eq (v : Vec Ideal S1x100x1000 .f32) : k1_pay5 v = logShare (k1_pay2 v) := rfl

theorem below_at (a s : FVec Ideal S100x1000 .f32) (x y : Ideal .f32) (z : S100x1000.Idx) :
    (select (cmpf .olt a (broadcast S100x1000 x)) s (broadcast S100x1000 y) z : EReal)
      = if (a z : EReal) < x then (s z : EReal) else y := by
  show (if BitVec.ofBool (decide ((a z : EReal) < x)) = 1#1 then (s z : EReal) else y) = _
  exact if_congr ((ofBool_eq_one _).trans decide_eq_true_iff) rfl rfl

theorem logDiv_at (x : FVec Ideal S100x1000 .f32) (t : Ideal .f32) (z : S100x1000.Idx) :
    (log (divf x (broadcast S100x1000 t)) z : EReal) = Ideal.log (Ideal.div (x z) t) := rfl

theorem kept_at (s : FVec Ideal S100x1000 .f32) (k : Fin 100000) :
    (rowOf (select (cmpf .olt (ahead s) (broadcast S100x1000 (lit 0x3F666666#32))) s (broadcast S100x1000 (lit 0x00000000#32))) k : EReal)
      = kept part (rowOf s) k := by
  refine (below_at (ahead s) s _ _ (unflat k)).trans ?_
  rw [ahead_eq, flat_unflat, show (lit 0x00000000#32 : EReal) = 0 from Ideal.ofBits_zero_f32]
  unfold kept
  exact if_congr Iff.rfl rfl rfl

theorem logShare_at (s : FVec Ideal S100x1000 .f32) (k : Fin 100000) :
    (rowOf (logShare s) k : EReal) = Ideal.log (share part (rowOf s) k) := by
  unfold logShare
  refine (logDiv_at _ _ (unflat k)).trans ?_
  refine congrArg Ideal.log ?_
  unfold share
  refine congrArg₂ Ideal.div (kept_at s k) ?_
  rw [total_eq]
  exact Finset.sum_congr rfl fun k _ => kept_at s k

/-! ## The place drawn -/

theorem chosen_at (v : FVec Ideal S100x1000 .f32) (x : Ideal .f32) (pos : IVec S100x1000 32) (w : BitVec 32) (z : S100x1000.Idx) :
    select (cmpf .oeq v (broadcast S100x1000 x)) pos (broadcast S100x1000 w) z
      = open Classical in if (v z : EReal) = x then pos z else w := by
  show (if BitVec.ofBool (decide ((v z : EReal) = x)) = 1#1 then pos z else w) = _
  exact if_congr ((ofBool_eq_one _).trans decide_eq_true_iff) rfl rfl

theorem candidates_at (v : FVec Ideal S100x1000 .f32) (z : S100x1000.Idx) [DecidablePred fun k => (rowOf v k : EReal) = top v] :
    candidates v place z = if (rowOf v (flat z) : EReal) = top v then BitVec.ofNat 32 (flat z).val else 2147483647#32 := by
  classical
  unfold candidates
  refine (chosen_at v (top v) place _ z).trans ?_
  rw [place_flat]
  have h : ((v z : EReal) = top v) ↔ ((rowOf v (flat z) : EReal) = top v) := by rw [rowOf_flat]
  exact if_congr h rfl rfl

theorem drawn_spec (v : FVec Ideal S100x1000 .f32) :
    ∃ j : Fin 100000, least (candidates v place) = BitVec.ofNat 32 j.val ∧ Picked (fun k => (rowOf v k : EReal)) j := by
  classical
  obtain ⟨h1, h2⟩ := top_spec v
  obtain ⟨j, hj, hp, hm⟩ := least_spec (candidates v place) (fun k => (rowOf v k : EReal) = top v) (fun z => candidates_at v z) h2
  refine ⟨j, hj, fun k => ?_, fun k hk => ?_⟩
  · show (rowOf v k : EReal) ≤ rowOf v j
    rw [hp]; exact h1 k
  · show (rowOf v k : EReal) ≠ rowOf v j
    rw [hp]; exact hm k hk

/-! ## The rank found again -/

/-- A row marked where its element's value and rank among the equals are those of a place of the sorted row. -/
def marked (s p : FVec Ideal S100x1000 .f32) (w : BitVec 32) : FVec Ideal S100x1000 .f32 :=
  select
    (andi (cmpf .oeq p (broadcast S100x1000 (total (select (cmpi .eq place (broadcast S100x1000 w)) s (broadcast S100x1000 (lit 0x00000000#32))))))
      (cmpf .oeq
        (ahead (sitofp .f32 (extui 32 (cmpf .oeq p (broadcast S100x1000
          (total (select (cmpi .eq place (broadcast S100x1000 w)) s (broadcast S100x1000 (lit 0x00000000#32)))))) natLt_1_32)))
        (broadcast S100x1000 (total (select
          (andi (cmpf .oeq s (broadcast S100x1000 (total (select (cmpi .eq place (broadcast S100x1000 w)) s (broadcast S100x1000 (lit 0x00000000#32))))))
            (cmpi .slt place (broadcast S100x1000 w)))
          (broadcast S100x1000 (lit 0x3F800000#32)) (broadcast S100x1000 (lit 0x00000000#32)))))))
    (broadcast S100x1000 (lit 0x47C35000#32)) (broadcast S100x1000 (lit 0x3727C5AC#32))

theorem pay99_eq (s : FVec Ideal S100x1000 .f32) (cand : IVec S100x1000 32) (v : Vec Ideal S1x100x1000 .f32) :
    k1_pay99 s (k1_pay3 (F := Ideal)) (k1_pay4 (F := Ideal)) place cand v
      = marked s (shapeCast S100x1000 v shapeCasts_S1x100x1000_S100x1000) (least cand) := rfl

theorem placed_at (s : FVec Ideal S100x1000 .f32) (w : BitVec 32) (y : Ideal .f32) (z : S100x1000.Idx) :
    (select (cmpi .eq place (broadcast S100x1000 w)) s (broadcast S100x1000 y) z : EReal)
      = if IntOp.cmpi .eq (place z) w = 1#1 then (s z : EReal) else y := rfl

theorem valueAt (s : FVec Ideal S100x1000 .f32) (j : Fin 100000) :
    (total (select (cmpi .eq place (broadcast S100x1000 (BitVec.ofNat 32 j.val))) s (broadcast S100x1000 (lit 0x00000000#32))) : EReal) = rowOf s j := by
  rw [total_eq]
  have h : ∀ k : Fin 100000, (rowOf (select (cmpi .eq place (broadcast S100x1000 (BitVec.ofNat 32 j.val))) s (broadcast S100x1000 (lit 0x00000000#32))) k : EReal)
      = if k = j then (rowOf s k : EReal) else 0 := fun k => by
    refine (placed_at s _ _ (unflat k)).trans ?_
    rw [place_flat, flat_unflat, show (lit 0x00000000#32 : EReal) = 0 from Ideal.ofBits_zero_f32]
    exact if_congr ((eq_small k.val j.val k.isLt j.isLt).trans Fin.ext_iff.symm) rfl rfl
  refine (Finset.sum_congr rfl fun k _ => h k).trans ?_
  rw [Finset.sum_ite_eq' Finset.univ j, if_pos (Finset.mem_univ j)]

theorem andi_one (a b : BitVec 1) : IntOp.andi a b = 1#1 ↔ a = 1#1 ∧ b = 1#1 := by revert a b; decide

theorem tied_at (s : FVec Ideal S100x1000 .f32) (x y y' : Ideal .f32) (w : BitVec 32) (z : S100x1000.Idx) :
    (select (andi (cmpf .oeq s (broadcast S100x1000 x)) (cmpi .slt place (broadcast S100x1000 w)))
      (broadcast S100x1000 y) (broadcast S100x1000 y') z : EReal)
      = if (s z : EReal) = x ∧ IntOp.cmpi .slt (place z) w = 1#1 then (y : EReal) else y' := by
  show (if IntOp.andi (BitVec.ofBool (decide ((s z : EReal) = x))) (IntOp.cmpi .slt (place z) w) = 1#1 then (y : EReal) else y') = _
  exact if_congr ((andi_one _ _).trans (and_congr_left' ((ofBool_eq_one _).trans decide_eq_true_iff))) rfl rfl

theorem rankAt (s : FVec Ideal S100x1000 .f32) (x : Ideal .f32) (j : Fin 100000) :
    (total (select (andi (cmpf .oeq s (broadcast S100x1000 x)) (cmpi .slt place (broadcast S100x1000 (BitVec.ofNat 32 j.val))))
      (broadcast S100x1000 (lit 0x3F800000#32)) (broadcast S100x1000 (lit 0x00000000#32))) : EReal)
      = ((tiesBefore (fun k => (rowOf s k : EReal)) x j).card : EReal) := by
  classical
  rw [total_eq]
  have h : ∀ k : Fin 100000, (rowOf (select (andi (cmpf .oeq s (broadcast S100x1000 x)) (cmpi .slt place (broadcast S100x1000 (BitVec.ofNat 32 j.val))))
      (broadcast S100x1000 (lit 0x3F800000#32)) (broadcast S100x1000 (lit 0x00000000#32))) k : EReal)
      = if ((rowOf s k : EReal) = x ∧ k < j) then 1 else 0 := fun k => by
    refine (tied_at s x _ _ _ (unflat k)).trans ?_
    rw [place_flat, flat_unflat, show (lit 0x00000000#32 : EReal) = 0 from Ideal.ofBits_zero_f32,
      show (lit 0x3F800000#32 : EReal) = 1 from Ideal.ofBits_one_f32]
    exact if_congr (and_congr_right' ((slt_small k.val j.val k.isLt j.isLt).trans Fin.lt_def.symm)) rfl rfl
  refine (Finset.sum_congr rfl fun k _ => h k).trans ?_
  rw [Finset.sum_boole]
  unfold tiesBefore
  refine congrArg (fun n : Nat => (n : EReal)) (congrArg Finset.card ?_)
  ext k; simp only [Finset.mem_filter]

theorem flagged_at (p : FVec Ideal S100x1000 .f32) (x : Ideal .f32) (z : S100x1000.Idx) :
    (sitofp (F := Ideal) .f32 (extui 32 (cmpf .oeq p (broadcast S100x1000 x)) natLt_1_32) z : EReal) = if (p z : EReal) = x then 1 else 0 := by
  refine (flag_eq (BitVec.ofBool (decide ((p z : EReal) = x)))).trans ?_
  exact if_congr ((ofBool_eq_one _).trans decide_eq_true_iff) rfl rfl

theorem aheadAt (p : FVec Ideal S100x1000 .f32) (x : Ideal .f32) (i : Fin 100000) :
    (ahead (sitofp (F := Ideal) .f32 (extui 32 (cmpf .oeq p (broadcast S100x1000 x)) natLt_1_32)) (unflat i) : EReal)
      = ((tiesBefore (fun k => (rowOf p k : EReal)) x i).card : EReal) := by
  classical
  rw [ahead_eq, flat_unflat]
  unfold before
  refine (Finset.sum_congr rfl fun k _ => flagged_at p x (unflat k)).trans ?_
  rw [Finset.sum_boole, Finset.filter_filter]
  unfold tiesBefore
  refine congrArg (fun n : Nat => (n : EReal)) (congrArg Finset.card ?_)
  ext k; simp only [Finset.mem_filter]
  exact and_congr_right' and_comm

theorem both_at (p a : FVec Ideal S100x1000 .f32) (x n y y' : Ideal .f32) (z : S100x1000.Idx) :
    select (andi (cmpf .oeq p (broadcast S100x1000 x)) (cmpf .oeq a (broadcast S100x1000 n)))
      (broadcast S100x1000 y) (broadcast S100x1000 y') z
      = open Classical in if ((p z : EReal) = x ∧ (a z : EReal) = n) then y else y' := by
  show (if IntOp.andi (BitVec.ofBool (decide ((p z : EReal) = x))) (BitVec.ofBool (decide ((a z : EReal) = n))) = 1#1 then y else y') = _
  exact if_congr ((andi_one _ _).trans (and_congr ((ofBool_eq_one _).trans decide_eq_true_iff) ((ofBool_eq_one _).trans decide_eq_true_iff))) rfl rfl

/-- A row's marks from the place drawn. -/
def Marked (s p G : Fin 100000 → EReal) (out : Fin 100000 → Ideal .f32) : Prop :=
  ∃ j, Picked (fun k => Ideal.log (share part s k) + G k) j
    ∧ ∀ i, ((p i = s j ∧ (tiesBefore p (s j) i).card = (tiesBefore s (s j) j).card) → out i = lit 0x47C35000#32)
      ∧ (¬ (p i = s j ∧ (tiesBefore p (s j) i).card = (tiesBefore s (s j) j).card) → out i = lit 0x3727C5AC#32)

theorem marked_at (s p : FVec Ideal S100x1000 .f32) (j : Fin 100000) (i : Fin 100000) :
    (((rowOf p i : EReal) = rowOf s j ∧ (tiesBefore (fun k => (rowOf p k : EReal)) (rowOf s j) i).card = (tiesBefore (fun k => (rowOf s k : EReal)) (rowOf s j) j).card) →
        rowOf (marked s p (BitVec.ofNat 32 j.val)) i = lit 0x47C35000#32)
      ∧ (¬ ((rowOf p i : EReal) = rowOf s j ∧ (tiesBefore (fun k => (rowOf p k : EReal)) (rowOf s j) i).card = (tiesBefore (fun k => (rowOf s k : EReal)) (rowOf s j) j).card) →
        rowOf (marked s p (BitVec.ofNat 32 j.val)) i = lit 0x3727C5AC#32) := by
  classical
  unfold marked
  have hv := valueAt s j
  generalize total (select (cmpi .eq place (broadcast S100x1000 (BitVec.ofNat 32 j.val))) s (broadcast S100x1000 (lit 0x00000000#32))) = x at hv ⊢
  have hr := rankAt s x j
  generalize total (select (andi (cmpf .oeq s (broadcast S100x1000 x)) (cmpi .slt place (broadcast S100x1000 (BitVec.ofNat 32 j.val))))
      (broadcast S100x1000 (lit 0x3F800000#32)) (broadcast S100x1000 (lit 0x00000000#32))) = n at hr ⊢
  have ha := aheadAt p x i
  generalize ahead (sitofp (F := Ideal) .f32 (extui 32 (cmpf .oeq p (broadcast S100x1000 x)) natLt_1_32)) = a at ha ⊢
  have hc : ((p (unflat i) : EReal) = x ∧ (a (unflat i) : EReal) = n)
      ↔ ((rowOf p i : EReal) = rowOf s j ∧ (tiesBefore (fun k => (rowOf p k : EReal)) (rowOf s j) i).card = (tiesBefore (fun k => (rowOf s k : EReal)) (rowOf s j) j).card) := by
    rw [ha, hr, ← hv]
    refine and_congr Iff.rfl ?_
    constructor
    · intro e; exact_mod_cast e
    · intro e; rw [e]
  generalize lit 0x47C35000#32 = y
  generalize lit 0x3727C5AC#32 = y'
  have h := both_at p a x n y y' (unflat i)
  exact ⟨fun e => h.trans (if_pos (hc.mpr e)), fun e => h.trans (if_neg fun e' => e (hc.mp e'))⟩

/-- What the final kernel leaves for one row. -/
def blockOut (r : Nat) (x0 x1 : Vec Ideal S1x100x1000 .f32) : FVec Ideal S100x1000 .f32 :=
  marked (k1_pay2 x0) (shapeCast S100x1000 x1 shapeCasts_S1x100x1000_S100x1000)
    (least (candidates (addf (k1_pay5 x0) (noise fun y => drawWord (BitVec.ofNat 32 r) (place y))) place))

theorem blockOut_marked (r : Nat) (x0 x1 : Vec Ideal S1x100x1000 .f32) :
    Marked (rowOf (k1_pay2 x0)) (rowOf (shapeCast S100x1000 x1 shapeCasts_S1x100x1000_S100x1000))
      (fun k => gumbel (drawWord (BitVec.ofNat 32 r) (BitVec.ofNat 32 k.val))) (rowOf (blockOut r x0 x1)) := by
  obtain ⟨j, hj, hp⟩ := drawn_spec (addf (k1_pay5 x0) (noise fun y => drawWord (BitVec.ofNat 32 r) (place y)))
  refine ⟨j, ?_, fun i => ?_⟩
  · have e : (fun k => (rowOf (addf (k1_pay5 x0) (noise fun y => drawWord (BitVec.ofNat 32 r) (place y))) k : EReal))
        = fun k => Ideal.log (share part (rowOf (k1_pay2 x0)) k) + gumbel (drawWord (BitVec.ofNat 32 r) (BitVec.ofNat 32 k.val)) := by
      funext k
      show (rowOf (k1_pay5 x0) k : EReal) + (noise (F := Ideal) (fun y => drawWord (BitVec.ofNat 32 r) (place y)) (unflat k) : EReal) = _
      rw [noise_at, pay5_eq, logShare_at, place_flat, flat_unflat]
    rw [← e]; exact hp
  · unfold blockOut
    rw [hj]
    exact marked_at _ _ j i

end Cert.Sampler

end
-- ==== Proof.KRead.lean ====
/- The arrays the kernel's two calls leave, element by element: each point writes one row's block and reads its own. -/
module

public import proofs.«01_k».proof.Proof.KNib
public import proofs.«01_k».proof.Proof.KRow
public import Idealize.ShloMosaic.Lib.Pipeline.Value
public import Idealize.ShloMosaic.Lib.Pipeline.ValueKit.Geometry

@[expose] public section

set_option maxRecDepth 65536

noncomputable section

namespace Cert.Sampler

open Idealize.ShloMosaic Idealize.ShloMosaic.TcCoe Idealize.ShloMosaic.Tactic Idealize.ShloMosaic.ValueIdx
open Idealize.SL.Sem
open Cert.KernelIdeal Cert.KernelIdeal.Gen

theorem coord0 (t : Fin 64) : ((grid0.coords t) 0).val = t.val := by
  revert t; decide

theorem coord1 (t : Fin 64) : ((grid1.coords t) 0).val = t.val := by
  revert t; decide

theorem word_small (n : Nat) (h : n < 64) : (BitVec.ofNat 32 n).toNat = n := by
  rw [BitVec.toNat_ofNat, Nat.mod_eq_of_lt (by omega)]

theorem emb0_1 (t : Fin 64) (r : Fin 100) (q : Fin 1000) :
    ((cfg0.win 1).blk t).view.emb (ix3 (0 : Fin 1) r q) = (ix3 t r q : S64x100x1000.Idx) := by
  funext a
  apply Fin.ext
  refine (Pipeline.Window.rect_emb_val win0_1 t _ a).trans ?_
  match a with
  | ⟨0, _⟩ =>
    show (BitVec.ofNat 32 ((grid0.coords t) 0).val).toNat * 1 + 0 = t.val
    rw [coord0, word_small _ t.isLt]; omega
  | ⟨1, _⟩ => show 0 * 100 + r.val = r.val; omega
  | ⟨2, _⟩ => show 0 * 1000 + q.val = q.val; omega

theorem emb0_0 (t : Fin 64) : ((cfg0.win 0).blk t).view.emb (ix3 (0 : Fin 1) (0 : Fin 1) (0 : Fin 1)) = (ix3 t (0 : Fin 1) (0 : Fin 1) : S64x1x1.Idx) := by
  funext a
  apply Fin.ext
  refine (Pipeline.Window.rect_emb_val win0_0 t _ a).trans ?_
  match a with
  | ⟨0, _⟩ =>
    show (BitVec.ofNat 32 ((grid0.coords t) 0).val).toNat * 1 + 0 = t.val
    rw [coord0, word_small _ t.isLt]; omega
  | ⟨1, _⟩ => rfl
  | ⟨2, _⟩ => rfl

theorem emb1_0 (t : Fin 64) (r : Fin 100) (q : Fin 1000) :
    ((cfg1.win 0).blk t).view.emb (ix3 (0 : Fin 1) r q) = (ix3 t r q : S64x100x1000.Idx) := by
  funext a
  apply Fin.ext
  refine (Pipeline.Window.rect_emb_val win1_0 t _ a).trans ?_
  match a with
  | ⟨0, _⟩ =>
    show (BitVec.ofNat 32 ((grid1.coords t) 0).val).toNat * 1 + 0 = t.val
    rw [coord1, word_small _ t.isLt]; omega
  | ⟨1, _⟩ => show 0 * 100 + r.val = r.val; omega
  | ⟨2, _⟩ => show 0 * 1000 + q.val = q.val; omega

theorem emb1_1 (t : Fin 64) (r : Fin 100) (q : Fin 1000) :
    ((cfg1.win 1).blk t).view.emb (ix3 (0 : Fin 1) r q) = (ix3 t r q : S64x100x1000.Idx) := by
  funext a
  apply Fin.ext
  refine (Pipeline.Window.rect_emb_val win1_1 t _ a).trans ?_
  match a with
  | ⟨0, _⟩ =>
    show (BitVec.ofNat 32 ((grid1.coords t) 0).val).toNat * 1 + 0 = t.val
    rw [coord1, word_small _ t.isLt]; omega
  | ⟨1, _⟩ => show 0 * 100 + r.val = r.val; omega
  | ⟨2, _⟩ => show 0 * 1000 + q.val = q.val; omega

theorem emb1_2 (t : Fin 64) (r : Fin 100) (q : Fin 1000) :
    ((cfg1.win 2).blk t).view.emb (ix3 (0 : Fin 1) r q) = (ix3 t r q : S64x100x1000.Idx) := by
  funext a
  apply Fin.ext
  refine (Pipeline.Window.rect_emb_val win1_2 t _ a).trans ?_
  match a with
  | ⟨0, _⟩ =>
    show (BitVec.ofNat 32 ((grid1.coords t) 0).val).toNat * 1 + 0 = t.val
    rw [coord1, word_small _ t.isLt]; omega
  | ⟨1, _⟩ => show 0 * 100 + r.val = r.val; omega
  | ⟨2, _⟩ => show 0 * 1000 + q.val = q.val; omega

theorem index0_1 (t : Fin 64) : win0_1.index t 0 = t.val := by
  show (BitVec.ofNat 32 ((grid0.coords t) 0).val).toNat = t.val
  rw [coord0, word_small _ t.isLt]

theorem index1_2 (t : Fin 64) : win1_2.index t 0 = t.val := by
  show (BitVec.ofNat 32 ((grid1.coords t) 0).val).toNat = t.val
  rw [coord1, word_small _ t.isLt]

variable (V : (c : Dev nD) → (b : Ref sig .tc) → Buf (Elt Ideal) ((c : Thread nD τ).loc b))

theorem arr0 (c : Dev nD) (t : Fin 64) (r : Fin 100) (q : Fin 1000) :
    ((dat0 V c).arrAt 1 cfg0.N : S64x100x1000.Idx → Word) (ix3 t r q) = outsAt0 V c t (ix3 (0 : Fin 1) r q) := by
  have h := (dat0 V c).arrAt_emb_eq_flushed 1 (Pipeline.Window.hdisj_of_index_inj win0_1 fun t t' _ _ e =>
    Fin.ext ((index0_1 t).symm.trans ((congrFun e 0).trans (index0_1 t')))) t (flush0_1 t) (ix3 (0 : Fin 1) r q)
  rw [emb0_1 t r q] at h
  have h2 : (dat0 V c).flushed 1 t (ix3 (0 : Fin 1) r q) = outsAt0 V c t (ix3 (0 : Fin 1) r q) :=
    (Pipeline.Dat.flushed_apply (dat0 V c) 1 t (ix3 (0 : Fin 1) r q)).trans
      ((congrFun (after0_1 V c t) _).trans (congrArg (outsAt0 V c t) rfl))
  exact h.trans ((cast_eq _ _).trans h2)

theorem arr1 (c : Dev nD) (t : Fin 64) (r : Fin 100) (q : Fin 1000) :
    ((dat1 V c).arrAt 2 cfg1.N : S64x100x1000.Idx → Ideal .f32) (ix3 t r q)
      = out1_2 (grid1.coords t) (iblk1 V c 0 t) (iblk1 V c 1 t) (ix3 (0 : Fin 1) r q) := by
  have h := (dat1 V c).arrAt_emb_eq_flushed 2 (Pipeline.Window.hdisj_of_index_inj win1_2 fun t t' _ _ e =>
    Fin.ext ((index1_2 t).symm.trans ((congrFun e 0).trans (index1_2 t')))) t (flush1_2 t) (ix3 (0 : Fin 1) r q)
  rw [emb1_2 t r q] at h
  have h2 : (dat1 V c).flushed 2 t (ix3 (0 : Fin 1) r q) = out1_2 (grid1.coords t) (iblk1 V c 0 t) (iblk1 V c 1 t) (ix3 (0 : Fin 1) r q) :=
    (Pipeline.Dat.flushed_apply (dat1 V c) 2 t (ix3 (0 : Fin 1) r q)).trans
      ((congrFun (after1_2 V c t) _).trans (congrArg (out1_2 (grid1.coords t) (iblk1 V c 0 t) (iblk1 V c 1 t)) rfl))
  exact h.trans ((cast_eq _ _).trans h2)

theorem read0 (c : Dev nD) (t : Fin 64) :
    (iblk0 V c 0 t (ix3 (0 : Fin 1) (0 : Fin 1) (0 : Fin 1)) : Word) = (V c main_v2 : S64x1x1.Idx → Word) (ix3 t (0 : Fin 1) (0 : Fin 1)) := by
  rw [← emb0_0 t]; rfl

theorem read1_0 (c : Dev nD) (t : Fin 64) (r : Fin 100) (q : Fin 1000) :
    (iblk1 V c 0 t (ix3 (0 : Fin 1) r q) : Ideal .f32) = (V c main_v70 : S64x100x1000.Idx → Ideal .f32) (ix3 t r q) := by
  rw [← emb1_0 t r q]; rfl

theorem read1_1 (c : Dev nD) (t : Fin 64) (r : Fin 100) (q : Fin 1000) :
    (iblk1 V c 1 t (ix3 (0 : Fin 1) r q) : Ideal .f32) = (V c main_v71 : S64x100x1000.Idx → Ideal .f32) (ix3 t r q) := by
  rw [← emb1_1 t r q]; rfl

/-- What the final kernel stores at a point is what it leaves for the row. -/
theorem out1_eq (i : grid1.Coords) (x0 x1 : Vec Ideal S1x100x1000 .f32) :
    out1_2 i x0 x1 = shapeCast S1x100x1000 (blockOut (i 0).val x0 x1) shapeCasts_S100x1000_S1x100x1000 := by
  unfold out1_2
  rw [block_eq, show k1_pay112 i x0 x1 = place from funext (pay112_at i x0 x1), pay99_eq,
    View.canon_cons_unit_lit _ _ _ (fun b => by fin_cases b <;> rfl)]
  rw [show View.ld x0 r1_0 = x0 from View.ld_unit_lit _ _ (fun b => by fin_cases b <;> rfl),
    show View.ld x1 r1_0 = x1 from View.ld_unit_lit _ _ (fun b => by fin_cases b <;> rfl)]
  rfl

end Cert.Sampler

end
-- ==== Proof.HostK.lean ====
/- The kernel's host lines between its two calls, read as functions of the bits the first call leaves and of the
   logits. -/
module

public import proofs.«01_k».proof.Proof.Gen.KernelIdeal.Frame
public import Idealize.ShloMosaic.PureOps.Ideal.Laws
public import Idealize.ShloMosaic.Lib.IdealHost
public import Idealize.ShloMosaic.Lib.StableHlo.RunRead
public import Idealize.ShloMosaic.Lib.Claim

@[expose] public section

set_option maxRecDepth 16000

noncomputable section

namespace Cert.Sampler

open Idealize.ShloMosaic Idealize.ShloMosaic.TcCoe Idealize.ShloMosaic.Tactic
open Idealize.SL.Sem
open Cert.KernelIdeal Cert.KernelIdeal.Gen

/-- A scalar on every element. -/
abbrev all (x : FVec Ideal S_ .f32) : FVec Ideal S64x100000 .f32 :=
  broadcastInDim S64x100000 ![] bcast_S_S64x100000 x

/-- A row's number on each of its elements. -/
abbrev rows (x : FVec Ideal S64 .f32) : FVec Ideal S64x100000 .f32 :=
  broadcastInDim S64x100000 ![0, 1] bcast_S64x1_S64x100000_0_1 (broadcastInDim S64x1 ![0] bcast_S64_S64x1_0 x)

/-- The softmax of each row. -/
def soft (x : FVec Ideal S64x100000 .f32) : FVec Ideal S64x100000 .f32 :=
  Host.divf
    (Host.exp (subf x (rows (maximumf (broadcastInDim S64 ![] bcast_S_S64 (constant (F := Ideal) S_ .f32 0xFF800000#32))
      (Host.reduce FloatOps.maximumf x (constant (F := Ideal) S_ .f32 0xFF800000#32) reducesTo_S64x100000_S64_d1 h_S_)))))
    (rows (Host.reduceAdd
      (Host.exp (subf x (rows (maximumf (broadcastInDim S64 ![] bcast_S_S64 (constant (F := Ideal) S_ .f32 0xFF800000#32))
        (Host.reduce FloatOps.maximumf x (constant (F := Ideal) S_ .f32 0xFF800000#32) reducesTo_S64x100000_S64_d1 h_S_)))))
      (constant (F := Ideal) S_ .f32 0x00000000#32) reducesTo_S64x100000_S64_d1 h_S_))

/-- One reweighting round: every probability times one plus its bit less the probability of the set bits. -/
def reweighted (g p : FVec Ideal S64x100000 .f32) : FVec Ideal S64x100000 .f32 :=
  mulf p (subf (addf (all (constant (F := Ideal) S_ .f32 0x3F800000#32)) g)
    (rows (Host.reduceAdd (mulf g p) (constant (F := Ideal) S_ .f32 0x00000000#32) reducesTo_S64x100000_S64_d1 h_S_)))

/-- The bit `d` of each word, as a float. -/
def bitOf (b : IVec S64x100000 32) (d : BitVec 32) : FVec Ideal S64x100000 .f32 :=
  sitofp .f32 (andi (Host.shrsi b (broadcastInDim S64x100000 ![] bcast_S_S64x100000 (constantI S_ 32 d)))
    (broadcastInDim S64x100000 ![] bcast_S_S64x100000 (constantI S_ 32 1#32)))

/-- The four rounds of reweighting of a softmax by the four bits of each word. -/
def probs (b : IVec S64x100000 32) (x : FVec Ideal S64x100000 .f32) :
    FVec Ideal S64x100000 .f32 :=
  reweighted (bitOf b 3#32) (reweighted (bitOf b 2#32) (reweighted (bitOf b 1#32) (reweighted (bitOf b 0#32) (soft x))))

variable (m : (ℓ : Loc nD τ sig) → Buf (Elt Ideal) ℓ) (ρ : Dev nD → PrngReg)

set_option maxHeartbeats 40000000 in
theorem W3_main_v67 (c : Dev nD) : W3 m ρ c (Proc.devRef .tc main_v67)
    = probs (shapeCast S64x100000 (W2 m ρ c (Proc.devRef .tc main_v3) : IVec S64x100x1000 32) shapeCasts_S64x100x1000_S64x100000)
        (W2 m ρ c (Proc.devRef .tc main_arg1)) := by
  unfold_abbrev_sides
  after_reads_simp
  rfl

/-- The row of negated probabilities, sorted. -/
def sortedRow (p : FVec Ideal S64x100000 .f32) : FVec Ideal S64x100000 .f32 :=
  Host.unstableSort S64x100000 1 (comparator_f32_d1 (F := Ideal)) (Host.negf p)

set_option maxHeartbeats 40000000 in
theorem W3_main_v70 (c : Dev nD) : W3 m ρ c (Proc.devRef .tc main_v70)
    = shapeCast S64x100x1000 (sortedRow (W3 m ρ c (Proc.devRef .tc main_v67))) shapeCasts_S64x100000_S64x100x1000 := by
  rw [W3_main_v67]
  unfold_abbrev_sides
  after_reads_simp
  rfl

set_option maxHeartbeats 40000000 in
theorem W3_main_v71 (c : Dev nD) : W3 m ρ c (Proc.devRef .tc main_v71)
    = shapeCast S64x100x1000 (W3 m ρ c (Proc.devRef .tc main_v67) : FVec Ideal S64x100000 .f32) shapeCasts_S64x100000_S64x100x1000 := by
  rw [W3_main_v67]
  unfold_abbrev_sides
  after_reads_simp
  rfl

/-- The sum of the last four tokens of each row. -/
def priorSum (x : IVec S64x2048 32) : IVec S64 32 :=
  Host.reduce IntOp.addi (extractStridedSlice S64x4 ![0, 2044] x slices_S64x2048_S64x4_0_2044) (constantI S_ 32 0#32)
    reducesTo_S64x4_S64_d1 h_S_

theorem W1_main_v2 (c : Dev nD) : W1 m ρ c (Proc.devRef .tc main_v2)
    = shapeCast S64x1x1 (priorSum (W0 m ρ c (Proc.devRef .tc main_arg0))) shapeCasts_S64_S64x1x1 := by
  unfold_abbrev_sides
  after_reads_simp
  rfl

theorem W5_main_v73 (c : Dev nD) : W5 m ρ c (Proc.devRef .tc main_v73)
    = shapeCast S64x100000 (W4 m ρ c (Proc.devRef .tc main_v72) : FVec Ideal S64x100x1000 .f32) shapeCasts_S64x100x1000_S64x100000 := by
  unfold_abbrev_sides
  after_reads_simp
  rfl

end Cert.Sampler

end
-- ==== Proof.KOut.lean ====
/- What the kernel returns, row by row: the marks of the place drawn from the sorted probabilities. -/
module

public import proofs.«01_k».proof.Proof.KRead
public import proofs.«01_k».proof.Proof.HostK

@[expose] public section

set_option maxRecDepth 65536

noncomputable section

namespace Cert.Sampler

open Idealize.ShloMosaic Idealize.ShloMosaic.TcCoe Idealize.ShloMosaic.Tactic Idealize.ShloMosaic.ValueIdx
open Idealize.SL.Sem
open Cert.KernelIdeal Cert.KernelIdeal.Gen

variable (m : (ℓ : Loc nD τ sig) → Buf (Elt Ideal) ℓ) (ρ : Dev nD → PrngReg)

/-- A position of the row, as its line and column. -/
theorem unflat_eq (k : Fin 100000) : unflat k = ix2 (n0 := 100) (n1 := 1000) ⟨k.val / 1000, by omega⟩ ⟨k.val % 1000, by omega⟩ := rfl

theorem cast_block {α : Type} (x : S1x100x1000.Idx → α) (z : S100x1000.Idx) :
    shapeCast S100x1000 x shapeCasts_S1x100x1000_S100x1000 z = x (ix3 (0 : Fin 1) (z 0 : Fin 100) (z 1 : Fin 1000)) := by
  refine shapeCast_apply x _ z _ ?_
  rw [Shape.rowMajor_val_three, Shape.rowMajor_val_two]
  show (0 * 100 + (z 0).val) * 1000 + (z 1).val = (z 0).val * 1000 + (z 1).val
  omega

theorem block_cast {α : Type} (x : S100x1000.Idx → α) (r : Fin 100) (q : Fin 1000) :
    shapeCast S1x100x1000 x shapeCasts_S100x1000_S1x100x1000 (ix3 (0 : Fin 1) r q) = x (ix2 r q) := by
  refine shapeCast_apply x _ _ _ ?_
  rw [Shape.rowMajor_val_three, Shape.rowMajor_val_two]
  show r.val * 1000 + q.val = (0 * 100 + r.val) * 1000 + q.val
  omega

theorem cast_rows {α : Type} (x : S64x100000.Idx → α) (b : Fin 64) (r : Fin 100) (q : Fin 1000) (k : Fin 100000) (hk : k.val = r.val * 1000 + q.val) :
    shapeCast S64x100x1000 x shapeCasts_S64x100000_S64x100x1000 (ix3 b r q) = x (ix2 b k) := by
  refine shapeCast_apply x _ _ _ ?_
  rw [Shape.rowMajor_val_three, Shape.rowMajor_val_two]
  show b.val * 100000 + k.val = (b.val * 100 + r.val) * 1000 + q.val
  omega

theorem rows_cast {α : Type} (x : S64x100x1000.Idx → α) (b : Fin 64) (k : Fin 100000) :
    shapeCast S64x100000 x shapeCasts_S64x100x1000_S64x100000 (ix2 b k)
      = x (ix3 b (⟨k.val / 1000, by omega⟩ : Fin 100) (⟨k.val % 1000, by omega⟩ : Fin 1000)) := by
  refine shapeCast_apply x _ _ _ ?_
  rw [Shape.rowMajor_val_three, Shape.rowMajor_val_two]
  show (b.val * 100 + k.val / 1000) * 1000 + k.val % 1000 = b.val * 100000 + k.val
  omega

/-- The words of bits the first call leaves, in rows. -/
def rowBits (x0 : IVec S64x2048 32) : IVec S64x100000 32 :=
  fun z => bitsOf (priorSum x0 (ix1 (z 0))) (BitVec.ofNat 32 (z 1).val)

theorem bits_eq (c : Dev nD) :
    shapeCast S64x100000 (W2 m ρ c (Proc.devRef .tc main_v3) : IVec S64x100x1000 32) shapeCasts_S64x100x1000_S64x100000
      = rowBits (W0 m ρ c (Proc.devRef .tc main_arg0)) := by
  funext z
  obtain ⟨b, k, rfl⟩ : ∃ (b : Fin 64) (k : Fin 100000), z = ix2 b k := ⟨z 0, z 1, eq_ix2 z⟩
  rw [rows_cast]
  have h := congrFun (W2_arr m ρ c 1) (ix3 b (⟨k.val / 1000, by omega⟩ : Fin 100) (⟨k.val % 1000, by omega⟩ : Fin 1000))
  refine h.trans ?_
  refine (arr0 (V1 m ρ) c b _ _).trans ?_
  rw [outs0_eq (V1 m ρ) c b (ix3 (0 : Fin 1) (0 : Fin 1) (0 : Fin 1)), storedBits_eq, block_cast]
  have hp : (iblk0 (V1 m ρ) c 0 b (ix3 (0 : Fin 1) (0 : Fin 1) (0 : Fin 1)) : Word) = priorSum (W0 m ρ c (Proc.devRef .tc main_arg0)) (ix1 b) := by
    rw [read0 (V1 m ρ) c b]
    refine (congrFun (W1_main_v2 m ρ c) _).trans ?_
    refine shapeCast_apply _ shapeCasts_S64_S64x1x1 _ _ ?_
    rw [Shape.rowMajor_val_three, Shape.rowMajor_val_one]
    show b.val = (b.val * 1 + 0) * 1 + 0
    omega
  have hk : place (ix2 (⟨k.val / 1000, by omega⟩ : Fin 100) (⟨k.val % 1000, by omega⟩ : Fin 1000)) = BitVec.ofNat 32 k.val := by
    have := place_flat (unflat k)
    rw [flat_unflat] at this
    exact this
  exact congrArg₂ bitsOf hp hk

/-- The row's probabilities. -/
def rowProbs (x0 : IVec S64x2048 32) (x1 : FVec Ideal S64x100000 .f32) : FVec Ideal S64x100000 .f32 := probs (rowBits x0) x1

theorem probs_eq (c : Dev nD) : W3 m ρ c (Proc.devRef .tc main_v67)
    = rowProbs (W0 m ρ c (Proc.devRef .tc main_arg0)) (W0 m ρ c (Proc.devRef .tc main_arg1)) := by
  rw [W3_main_v67, bits_eq]
  have h1 : W2 m ρ c (Proc.devRef .tc main_arg1) = W0 m ρ c (Proc.devRef .tc main_arg1) :=
    (W2_args m ρ c main_arg1 (by decide)).trans (W0_args m ρ c main_arg1 (by decide)).symm
  rw [h1]
  rfl

/-- What the kernel returns, row by row. -/
theorem kernel_rows (c : Dev nD) (b : Fin 64) :
    Marked (fun k => -(sortedRow (rowProbs (W0 m ρ c (Proc.devRef .tc main_arg0)) (W0 m ρ c (Proc.devRef .tc main_arg1))) (ix2 b k) : EReal))
      (fun k => (rowProbs (W0 m ρ c (Proc.devRef .tc main_arg0)) (W0 m ρ c (Proc.devRef .tc main_arg1)) (ix2 b k) : EReal))
      (fun k => gumbel (drawWord (BitVec.ofNat 32 b.val) (BitVec.ofNat 32 k.val)))
      (fun k => (W5 m ρ c (Proc.devRef .tc main_v73) : FVec Ideal S64x100000 .f32) (ix2 b k)) := by
  rw [← probs_eq]
  have h := blockOut_marked ((grid1.coords b) 0).val (iblk1 (V3 m ρ) c 0 b) (iblk1 (V3 m ρ) c 1 b)
  have es : (rowOf (k1_pay2 (iblk1 (V3 m ρ) c 0 b : Vec Ideal S1x100x1000 .f32)) : Fin 100000 → Ideal .f32)
      = fun k => -(sortedRow (W3 m ρ c (Proc.devRef .tc main_v67)) (ix2 b k) : EReal) := by
    funext k
    have e : (rowOf (k1_pay2 (iblk1 (V3 m ρ) c 0 b : Vec Ideal S1x100x1000 .f32)) k : EReal)
        = lit 0x00000000#32 - shapeCast S100x1000 (iblk1 (V3 m ρ) c 0 b : Vec Ideal S1x100x1000 .f32) shapeCasts_S1x100x1000_S100x1000 (unflat k) := rfl
    refine e.trans ?_
    rw [show (lit 0x00000000#32 : EReal) = 0 from Ideal.ofBits_zero_f32, sub_eq_add_neg, zero_add, cast_block]
    refine congrArg (fun y : EReal => -y) ?_
    refine (read1_0 (V3 m ρ) c b _ _).trans ((congrFun (W3_main_v70 m ρ c) _).trans (cast_rows _ _ _ _ k ?_))
    show k.val = k.val / 1000 * 1000 + k.val % 1000
    omega
  have ep : (rowOf (shapeCast S100x1000 (iblk1 (V3 m ρ) c 1 b : Vec Ideal S1x100x1000 .f32) shapeCasts_S1x100x1000_S100x1000) : Fin 100000 → Ideal .f32)
      = fun k => (W3 m ρ c (Proc.devRef .tc main_v67) : FVec Ideal S64x100000 .f32) (ix2 b k) := by
    funext k
    unfold rowOf
    rw [cast_block]
    refine (read1_1 (V3 m ρ) c b _ _).trans ((congrFun (W3_main_v71 m ρ c) _).trans (cast_rows _ _ _ _ k ?_))
    show k.val = k.val / 1000 * 1000 + k.val % 1000
    omega
  have eo : (rowOf (blockOut ((grid1.coords b) 0).val (iblk1 (V3 m ρ) c 0 b) (iblk1 (V3 m ρ) c 1 b)) : Fin 100000 → Ideal .f32)
      = fun k => (W5 m ρ c (Proc.devRef .tc main_v73) : FVec Ideal S64x100000 .f32) (ix2 b k) := by
    funext k
    refine Eq.symm ((congrFun (W5_main_v73 m ρ c) (ix2 b k)).trans ?_)
    rw [rows_cast]
    refine (congrFun (W4_arr m ρ c 2) _).trans ((arr1 (V3 m ρ) c b _ _).trans ?_)
    rw [out1_eq, block_cast]
    rfl
  rw [es, ep, eo, coord1] at h
  exact h

end Cert.Sampler

end
-- ==== Proof.RWordsA.lean ====
/- The words of the reference, element by element: each vector of its text is a stage of the cipher. -/
module

public import proofs.«01_k».proof.Proof.Gen.ReferenceIdeal.Read
public import proofs.«01_k».proof.Proof.Cipher
public import Idealize.ShloMosaic.Lib.ValueIdxCore

@[expose] public section

set_option maxRecDepth 65536

noncomputable section

namespace Cert.Sampler

open Idealize.ShloMosaic Idealize.ShloMosaic.TcCoe Idealize.ShloMosaic.ValueIdx
open Cert.ReferenceIdeal Cert.ReferenceIdeal.Gen Cert.ReferenceIdeal.Read

variable (x0 : (⟨S64x2048, .i32⟩ : BufTy).Contents (Elt Ideal))

/-- The sum of a row's prior tokens, as the reference folds it. -/
def pidw (b : Nat) : Word := if h : b < 64 then val_main_v1 (F := Ideal) x0 (ix1 ⟨b, h⟩) else 0#32
theorem r_v4 (i : S64.Idx) : val_main_v4 (F := Ideal) x0 i = (pidw x0 (i 0).val) := by
  have hb : (i 0).val < 64 := (i 0).isLt
  show val_main_v1 (F := Ideal) x0 i = _
  rw [pidw, dif_pos hb]
  exact congrArg (val_main_v1 (F := Ideal) x0) (eq_ix1 i)
theorem r_v5 (i : S64x1x1.Idx) : val_main_v5 (F := Ideal) x0 i = (pidw x0 (i 0).val) := (val_main_v5_apply (F := Ideal) x0 i).trans (r_v4 x0 _)
theorem r_v6 (i : S64x4x1.Idx) : val_main_v6 (F := Ideal) x0 i = (pidw x0 (i 0).val) := (val_main_v6_apply (F := Ideal) x0 i).trans (r_v5 x0 _)
theorem r_v12 (i : S64x4x1.Idx) : val_main_v12 (F := Ideal) x0 i = (st0 (0#32, 42#32) (pidw x0 (i 0).val)).2 := by
  rw [val_main_v12_apply, val_main_v3_apply, val_main_c_1_apply, r_v6, st0_2 (0#32, 42#32) (pidw x0 (i 0).val)]
theorem r_call0_v0 (i : S64x4x1.Idx) : val_main_call0_v0 (F := Ideal) x0 i = (st1 (0#32, 42#32) (pidw x0 (i 0).val)).1 := by
  rw [val_main_call0_v0_apply, val_main_v11_apply, val_main_v7_apply, val_main_c_2_apply, val_main_v2_apply, val_main_c_0_apply, r_v12, st0_1 (0#32, 42#32) (pidw x0 (i 0).val), st1_1]
theorem r_call0_v6 (i : S64x4x1.Idx) : val_main_call0_v6 (F := Ideal) x0 i = (st1 (0#32, 42#32) (pidw x0 (i 0).val)).2 := by
  rw [val_main_call0_v6_apply, val_main_call0_v5_apply, val_main_call0_v2_apply, val_main_call0_v1_apply, val_main_call0_c_apply, val_main_call0_v4_apply, val_main_call0_v3_apply, val_main_call0_c_0_apply, shli_host, shrui_host, r_v12, r_call0_v0, st1_2']
theorem r_call0_v7 (i : S64x4x1.Idx) : val_main_call0_v7 (F := Ideal) x0 i = (st2 (0#32, 42#32) (pidw x0 (i 0).val)).1 := by
  rw [val_main_call0_v7_apply, r_call0_v0, r_call0_v6, st2_1]
theorem r_call0_v13 (i : S64x4x1.Idx) : val_main_call0_v13 (F := Ideal) x0 i = (st2 (0#32, 42#32) (pidw x0 (i 0).val)).2 := by
  rw [val_main_call0_v13_apply, val_main_call0_v12_apply, val_main_call0_v9_apply, val_main_call0_v8_apply, val_main_call0_c_1_apply, val_main_call0_v11_apply, val_main_call0_v10_apply, val_main_call0_c_2_apply, shli_host, shrui_host, r_call0_v6, r_call0_v7, st2_2']
theorem r_call0_v14 (i : S64x4x1.Idx) : val_main_call0_v14 (F := Ideal) x0 i = (st3 (0#32, 42#32) (pidw x0 (i 0).val)).1 := by
  rw [val_main_call0_v14_apply, r_call0_v7, r_call0_v13, st3_1]
theorem r_call0_v20 (i : S64x4x1.Idx) : val_main_call0_v20 (F := Ideal) x0 i = (st3 (0#32, 42#32) (pidw x0 (i 0).val)).2 := by
  rw [val_main_call0_v20_apply, val_main_call0_v19_apply, val_main_call0_v16_apply, val_main_call0_v15_apply, val_main_call0_c_3_apply, val_main_call0_v18_apply, val_main_call0_v17_apply, val_main_call0_c_4_apply, shli_host, shrui_host, r_call0_v13, r_call0_v14, st3_2']
theorem r_v13_0 (i : S64x4x1.Idx) : val_main_v13_0 (F := Ideal) x0 i = (st4 (0#32, 42#32) (pidw x0 (i 0).val)).1 := by
  rw [val_main_v13_0_apply, r_call0_v14, r_call0_v20, st4_1]
theorem r_v14 (i : S64x4x1.Idx) : val_main_v14 (F := Ideal) x0 i = (st5 (0#32, 42#32) (pidw x0 (i 0).val)).1 := by
  rw [val_main_v14_apply, val_main_v3_apply, val_main_c_1_apply, r_v13_0, st5_1]
theorem r_v13_1 (i : S64x4x1.Idx) : val_main_v13_1 (F := Ideal) x0 i = (st4 (0#32, 42#32) (pidw x0 (i 0).val)).2 := by
  rw [val_main_v13_1_apply, val_main_call0_v26_apply, val_main_call0_v23_apply, val_main_call0_v22_apply, val_main_call0_c_5_apply, val_main_call0_v25_apply, val_main_call0_v24_apply, val_main_call0_c_6_apply, shli_host, shrui_host, r_call0_v20, r_v13_0, st4_2']
theorem r_v10 (i : S64x4x1.Idx) : val_main_v10 (F := Ideal) i = (key3 0#32 42#32) := by
  rw [val_main_v10_apply, val_main_v8_apply, val_main_v2_apply, val_main_c_0_apply, val_main_v3_apply, val_main_c_1_apply, val_main_v9_apply, val_main_c_3_apply, key3_def]
theorem r_v17 (i : S64x4x1.Idx) : val_main_v17 (F := Ideal) x0 i = (st5 (0#32, 42#32) (pidw x0 (i 0).val)).2 := by
  rw [val_main_v17_apply, val_main_v15_apply, val_main_v16_apply, val_main_c_4_apply, r_v13_1, r_v10, st5_2]
theorem r_call1_v0 (i : S64x4x1.Idx) : val_main_call1_v0 (F := Ideal) x0 i = (st6 (0#32, 42#32) (pidw x0 (i 0).val)).1 := by
  rw [val_main_call1_v0_apply, r_v14, r_v17, st6_1]
theorem r_call1_v6 (i : S64x4x1.Idx) : val_main_call1_v6 (F := Ideal) x0 i = (st6 (0#32, 42#32) (pidw x0 (i 0).val)).2 := by
  rw [val_main_call1_v6_apply, val_main_call1_v5_apply, val_main_call1_v2_apply, val_main_call1_v1_apply, val_main_call1_c_apply, val_main_call1_v4_apply, val_main_call1_v3_apply, val_main_call1_c_0_apply, shli_host, shrui_host, r_v17, r_call1_v0, st6_2']
theorem r_call1_v7 (i : S64x4x1.Idx) : val_main_call1_v7 (F := Ideal) x0 i = (st7 (0#32, 42#32) (pidw x0 (i 0).val)).1 := by
  rw [val_main_call1_v7_apply, r_call1_v0, r_call1_v6, st7_1]
theorem r_call1_v13 (i : S64x4x1.Idx) : val_main_call1_v13 (F := Ideal) x0 i = (st7 (0#32, 42#32) (pidw x0 (i 0).val)).2 := by
  rw [val_main_call1_v13_apply, val_main_call1_v12_apply, val_main_call1_v9_apply, val_main_call1_v8_apply, val_main_call1_c_1_apply, val_main_call1_v11_apply, val_main_call1_v10_apply, val_main_call1_c_2_apply, shli_host, shrui_host, r_call1_v6, r_call1_v7, st7_2']
theorem r_call1_v14 (i : S64x4x1.Idx) : val_main_call1_v14 (F := Ideal) x0 i = (st8 (0#32, 42#32) (pidw x0 (i 0).val)).1 := by
  rw [val_main_call1_v14_apply, r_call1_v7, r_call1_v13, st8_1]
theorem r_call1_v20 (i : S64x4x1.Idx) : val_main_call1_v20 (F := Ideal) x0 i = (st8 (0#32, 42#32) (pidw x0 (i 0).val)).2 := by
  rw [val_main_call1_v20_apply, val_main_call1_v19_apply, val_main_call1_v16_apply, val_main_call1_v15_apply, val_main_call1_c_3_apply, val_main_call1_v18_apply, val_main_call1_v17_apply, val_main_call1_c_4_apply, shli_host, shrui_host, r_call1_v13, r_call1_v14, st8_2']
theorem r_v18_0 (i : S64x4x1.Idx) : val_main_v18_0 (F := Ideal) x0 i = (st9 (0#32, 42#32) (pidw x0 (i 0).val)).1 := by
  rw [val_main_v18_0_apply, r_call1_v14, r_call1_v20, st9_1]
theorem r_v19 (i : S64x4x1.Idx) : val_main_v19 (F := Ideal) x0 i = (st10 (0#32, 42#32) (pidw x0 (i 0).val)).1 := by
  rw [val_main_v19_apply, r_v18_0, r_v10, st10_1]
theorem r_v18_1 (i : S64x4x1.Idx) : val_main_v18_1 (F := Ideal) x0 i = (st9 (0#32, 42#32) (pidw x0 (i 0).val)).2 := by
  rw [val_main_v18_1_apply, val_main_call1_v26_apply, val_main_call1_v23_apply, val_main_call1_v22_apply, val_main_call1_c_5_apply, val_main_call1_v25_apply, val_main_call1_v24_apply, val_main_call1_c_6_apply, shli_host, shrui_host, r_call1_v20, r_v18_0, st9_2']
theorem r_v22 (i : S64x4x1.Idx) : val_main_v22 (F := Ideal) x0 i = (st10 (0#32, 42#32) (pidw x0 (i 0).val)).2 := by
  rw [val_main_v22_apply, val_main_v20_apply, val_main_v2_apply, val_main_c_0_apply, val_main_v21_apply, val_main_c_5_apply, r_v18_1, st10_2]
theorem r_call2_v0 (i : S64x4x1.Idx) : val_main_call2_v0 (F := Ideal) x0 i = (st11 (0#32, 42#32) (pidw x0 (i 0).val)).1 := by
  rw [val_main_call2_v0_apply, r_v19, r_v22, st11_1]
theorem r_call2_v6 (i : S64x4x1.Idx) : val_main_call2_v6 (F := Ideal) x0 i = (st11 (0#32, 42#32) (pidw x0 (i 0).val)).2 := by
  rw [val_main_call2_v6_apply, val_main_call2_v5_apply, val_main_call2_v2_apply, val_main_call2_v1_apply, val_main_call2_c_apply, val_main_call2_v4_apply, val_main_call2_v3_apply, val_main_call2_c_0_apply, shli_host, shrui_host, r_v22, r_call2_v0, st11_2']
theorem r_call2_v7 (i : S64x4x1.Idx) : val_main_call2_v7 (F := Ideal) x0 i = (st12 (0#32, 42#32) (pidw x0 (i 0).val)).1 := by
  rw [val_main_call2_v7_apply, r_call2_v0, r_call2_v6, st12_1]
theorem r_call2_v13 (i : S64x4x1.Idx) : val_main_call2_v13 (F := Ideal) x0 i = (st12 (0#32, 42#32) (pidw x0 (i 0).val)).2 := by
  rw [val_main_call2_v13_apply, val_main_call2_v12_apply, val_main_call2_v9_apply, val_main_call2_v8_apply, val_main_call2_c_1_apply, val_main_call2_v11_apply, val_main_call2_v10_apply, val_main_call2_c_2_apply, shli_host, shrui_host, r_call2_v6, r_call2_v7, st12_2']
theorem r_call2_v14 (i : S64x4x1.Idx) : val_main_call2_v14 (F := Ideal) x0 i = (st13 (0#32, 42#32) (pidw x0 (i 0).val)).1 := by
  rw [val_main_call2_v14_apply, r_call2_v7, r_call2_v13, st13_1]
theorem r_call2_v20 (i : S64x4x1.Idx) : val_main_call2_v20 (F := Ideal) x0 i = (st13 (0#32, 42#32) (pidw x0 (i 0).val)).2 := by
  rw [val_main_call2_v20_apply, val_main_call2_v19_apply, val_main_call2_v16_apply, val_main_call2_v15_apply, val_main_call2_c_3_apply, val_main_call2_v18_apply, val_main_call2_v17_apply, val_main_call2_c_4_apply, shli_host, shrui_host, r_call2_v13, r_call2_v14, st13_2']
theorem r_v23_0 (i : S64x4x1.Idx) : val_main_v23_0 (F := Ideal) x0 i = (st14 (0#32, 42#32) (pidw x0 (i 0).val)).1 := by
  rw [val_main_v23_0_apply, r_call2_v14, r_call2_v20, st14_1]
theorem r_v24 (i : S64x4x1.Idx) : val_main_v24 (F := Ideal) x0 i = (st15 (0#32, 42#32) (pidw x0 (i 0).val)).1 := by
  rw [val_main_v24_apply, val_main_v2_apply, val_main_c_0_apply, r_v23_0, st15_1]
theorem r_v23_1 (i : S64x4x1.Idx) : val_main_v23_1 (F := Ideal) x0 i = (st14 (0#32, 42#32) (pidw x0 (i 0).val)).2 := by
  rw [val_main_v23_1_apply, val_main_call2_v26_apply, val_main_call2_v23_apply, val_main_call2_v22_apply, val_main_call2_c_5_apply, val_main_call2_v25_apply, val_main_call2_v24_apply, val_main_call2_c_6_apply, shli_host, shrui_host, r_call2_v20, r_v23_0, st14_2']
theorem r_v27 (i : S64x4x1.Idx) : val_main_v27 (F := Ideal) x0 i = (st15 (0#32, 42#32) (pidw x0 (i 0).val)).2 := by
  rw [val_main_v27_apply, val_main_v25_apply, val_main_v3_apply, val_main_c_1_apply, val_main_v26_apply, val_main_c_6_apply, r_v23_1, st15_2]
theorem r_call3_v0 (i : S64x4x1.Idx) : val_main_call3_v0 (F := Ideal) x0 i = (st16 (0#32, 42#32) (pidw x0 (i 0).val)).1 := by
  rw [val_main_call3_v0_apply, r_v24, r_v27, st16_1]
theorem r_call3_v6 (i : S64x4x1.Idx) : val_main_call3_v6 (F := Ideal) x0 i = (st16 (0#32, 42#32) (pidw x0 (i 0).val)).2 := by
  rw [val_main_call3_v6_apply, val_main_call3_v5_apply, val_main_call3_v2_apply, val_main_call3_v1_apply, val_main_call3_c_apply, val_main_call3_v4_apply, val_main_call3_v3_apply, val_main_call3_c_0_apply, shli_host, shrui_host, r_v27, r_call3_v0, st16_2']
theorem r_call3_v7 (i : S64x4x1.Idx) : val_main_call3_v7 (F := Ideal) x0 i = (st17 (0#32, 42#32) (pidw x0 (i 0).val)).1 := by
  rw [val_main_call3_v7_apply, r_call3_v0, r_call3_v6, st17_1]
theorem r_call3_v13 (i : S64x4x1.Idx) : val_main_call3_v13 (F := Ideal) x0 i = (st17 (0#32, 42#32) (pidw x0 (i 0).val)).2 := by
  rw [val_main_call3_v13_apply, val_main_call3_v12_apply, val_main_call3_v9_apply, val_main_call3_v8_apply, val_main_call3_c_1_apply, val_main_call3_v11_apply, val_main_call3_v10_apply, val_main_call3_c_2_apply, shli_host, shrui_host, r_call3_v6, r_call3_v7, st17_2']
theorem r_call3_v14 (i : S64x4x1.Idx) : val_main_call3_v14 (F := Ideal) x0 i = (st18 (0#32, 42#32) (pidw x0 (i 0).val)).1 := by
  rw [val_main_call3_v14_apply, r_call3_v7, r_call3_v13, st18_1]
theorem r_call3_v20 (i : S64x4x1.Idx) : val_main_call3_v20 (F := Ideal) x0 i = (st18 (0#32, 42#32) (pidw x0 (i 0).val)).2 := by
  rw [val_main_call3_v20_apply, val_main_call3_v19_apply, val_main_call3_v16_apply, val_main_call3_v15_apply, val_main_call3_c_3_apply, val_main_call3_v18_apply, val_main_call3_v17_apply, val_main_call3_c_4_apply, shli_host, shrui_host, r_call3_v13, r_call3_v14, st18_2']
theorem r_v28_0 (i : S64x4x1.Idx) : val_main_v28_0 (F := Ideal) x0 i = (st19 (0#32, 42#32) (pidw x0 (i 0).val)).1 := by
  rw [val_main_v28_0_apply, r_call3_v14, r_call3_v20, st19_1]
theorem r_v29 (i : S64x4x1.Idx) : val_main_v29 (F := Ideal) x0 i = (st20 (0#32, 42#32) (pidw x0 (i 0).val)).1 := by
  rw [val_main_v29_apply, val_main_v3_apply, val_main_c_1_apply, r_v28_0, st20_1]
theorem r_v28_1 (i : S64x4x1.Idx) : val_main_v28_1 (F := Ideal) x0 i = (st19 (0#32, 42#32) (pidw x0 (i 0).val)).2 := by
  rw [val_main_v28_1_apply, val_main_call3_v26_apply, val_main_call3_v23_apply, val_main_call3_v22_apply, val_main_call3_c_5_apply, val_main_call3_v25_apply, val_main_call3_v24_apply, val_main_call3_c_6_apply, shli_host, shrui_host, r_call3_v20, r_v28_0, st19_2']
theorem r_v32 (i : S64x4x1.Idx) : val_main_v32 (F := Ideal) x0 i = (st20 (0#32, 42#32) (pidw x0 (i 0).val)).2 := by
  rw [val_main_v32_apply, val_main_v30_apply, val_main_v31_apply, val_main_c_7_apply, r_v28_1, r_v10, st20_2]
theorem r_call4_v0 (i : S64x4x1.Idx) : val_main_call4_v0 (F := Ideal) x0 i = (st21 (0#32, 42#32) (pidw x0 (i 0).val)).1 := by
  rw [val_main_call4_v0_apply, r_v29, r_v32, st21_1]
theorem r_call4_v6 (i : S64x4x1.Idx) : val_main_call4_v6 (F := Ideal) x0 i = (st21 (0#32, 42#32) (pidw x0 (i 0).val)).2 := by
  rw [val_main_call4_v6_apply, val_main_call4_v5_apply, val_main_call4_v2_apply, val_main_call4_v1_apply, val_main_call4_c_apply, val_main_call4_v4_apply, val_main_call4_v3_apply, val_main_call4_c_0_apply, shli_host, shrui_host, r_v32, r_call4_v0, st21_2']
theorem r_call4_v7 (i : S64x4x1.Idx) : val_main_call4_v7 (F := Ideal) x0 i = (st22 (0#32, 42#32) (pidw x0 (i 0).val)).1 := by
  rw [val_main_call4_v7_apply, r_call4_v0, r_call4_v6, st22_1]
theorem r_call4_v13 (i : S64x4x1.Idx) : val_main_call4_v13 (F := Ideal) x0 i = (st22 (0#32, 42#32) (pidw x0 (i 0).val)).2 := by
  rw [val_main_call4_v13_apply, val_main_call4_v12_apply, val_main_call4_v9_apply, val_main_call4_v8_apply, val_main_call4_c_1_apply, val_main_call4_v11_apply, val_main_call4_v10_apply, val_main_call4_c_2_apply, shli_host, shrui_host, r_call4_v6, r_call4_v7, st22_2']
theorem r_call4_v14 (i : S64x4x1.Idx) : val_main_call4_v14 (F := Ideal) x0 i = (st23 (0#32, 42#32) (pidw x0 (i 0).val)).1 := by
  rw [val_main_call4_v14_apply, r_call4_v7, r_call4_v13, st23_1]
theorem r_call4_v20 (i : S64x4x1.Idx) : val_main_call4_v20 (F := Ideal) x0 i = (st23 (0#32, 42#32) (pidw x0 (i 0).val)).2 := by
  rw [val_main_call4_v20_apply, val_main_call4_v19_apply, val_main_call4_v16_apply, val_main_call4_v15_apply, val_main_call4_c_3_apply, val_main_call4_v18_apply, val_main_call4_v17_apply, val_main_call4_c_4_apply, shli_host, shrui_host, r_call4_v13, r_call4_v14, st23_2']
theorem r_v33_0 (i : S64x4x1.Idx) : val_main_v33_0 (F := Ideal) x0 i = (st24 (0#32, 42#32) (pidw x0 (i 0).val)).1 := by
  rw [val_main_v33_0_apply, r_call4_v14, r_call4_v20, st24_1]
theorem r_v34 (i : S64x4x1.Idx) : val_main_v34 (F := Ideal) x0 i = (priorKey (pidw x0 (i 0).val)).1 := by
  rw [val_main_v34_apply, r_v33_0, r_v10, st25_1, priorKey_def]
theorem r_v43 (i : S64x4x1.Idx) : val_main_v43 (F := Ideal) x0 i = (st0 (priorKey (pidw x0 (i 0).val)) (BitVec.ofNat 32 (i 1).val)).1 := by
  rw [val_main_v43_apply, val_main_v39_apply, val_main_c_9_apply, r_v34, st0_1 (priorKey (pidw x0 (i 0).val)) (BitVec.ofNat 32 (i 1).val)]
theorem r_v38 (i : S64x4x1.Idx) : val_main_v38 (F := Ideal) i = (BitVec.ofNat 32 (i 1).val) := rfl
theorem r_v33_1 (i : S64x4x1.Idx) : val_main_v33_1 (F := Ideal) x0 i = (st24 (0#32, 42#32) (pidw x0 (i 0).val)).2 := by
  rw [val_main_v33_1_apply, val_main_call4_v26_apply, val_main_call4_v23_apply, val_main_call4_v22_apply, val_main_call4_c_5_apply, val_main_call4_v25_apply, val_main_call4_v24_apply, val_main_call4_c_6_apply, shli_host, shrui_host, r_call4_v20, r_v33_0, st24_2']
theorem r_v37 (i : S64x4x1.Idx) : val_main_v37 (F := Ideal) x0 i = (priorKey (pidw x0 (i 0).val)).2 := by
  rw [val_main_v37_apply, val_main_v35_apply, val_main_v2_apply, val_main_c_0_apply, val_main_v36_apply, val_main_c_8_apply, r_v33_1, st25_2, priorKey_def]
theorem r_v44 (i : S64x4x1.Idx) : val_main_v44 (F := Ideal) x0 i = (st0 (priorKey (pidw x0 (i 0).val)) (BitVec.ofNat 32 (i 1).val)).2 := by
  rw [val_main_v44_apply, r_v38, r_v37, st0_2 (priorKey (pidw x0 (i 0).val)) (BitVec.ofNat 32 (i 1).val)]
theorem r_call5_v0 (i : S64x4x1.Idx) : val_main_call5_v0 (F := Ideal) x0 i = (st1 (priorKey (pidw x0 (i 0).val)) (BitVec.ofNat 32 (i 1).val)).1 := by
  rw [val_main_call5_v0_apply, r_v43, r_v44, st1_1]
theorem r_call5_v6 (i : S64x4x1.Idx) : val_main_call5_v6 (F := Ideal) x0 i = (st1 (priorKey (pidw x0 (i 0).val)) (BitVec.ofNat 32 (i 1).val)).2 := by
  rw [val_main_call5_v6_apply, val_main_call5_v5_apply, val_main_call5_v2_apply, val_main_call5_v1_apply, val_main_call5_c_apply, val_main_call5_v4_apply, val_main_call5_v3_apply, val_main_call5_c_0_apply, shli_host, shrui_host, r_v44, r_call5_v0, st1_2']
theorem r_call5_v7 (i : S64x4x1.Idx) : val_main_call5_v7 (F := Ideal) x0 i = (st2 (priorKey (pidw x0 (i 0).val)) (BitVec.ofNat 32 (i 1).val)).1 := by
  rw [val_main_call5_v7_apply, r_call5_v0, r_call5_v6, st2_1]
theorem r_call5_v13 (i : S64x4x1.Idx) : val_main_call5_v13 (F := Ideal) x0 i = (st2 (priorKey (pidw x0 (i 0).val)) (BitVec.ofNat 32 (i 1).val)).2 := by
  rw [val_main_call5_v13_apply, val_main_call5_v12_apply, val_main_call5_v9_apply, val_main_call5_v8_apply, val_main_call5_c_1_apply, val_main_call5_v11_apply, val_main_call5_v10_apply, val_main_call5_c_2_apply, shli_host, shrui_host, r_call5_v6, r_call5_v7, st2_2']
theorem r_call5_v14 (i : S64x4x1.Idx) : val_main_call5_v14 (F := Ideal) x0 i = (st3 (priorKey (pidw x0 (i 0).val)) (BitVec.ofNat 32 (i 1).val)).1 := by
  rw [val_main_call5_v14_apply, r_call5_v7, r_call5_v13, st3_1]
theorem r_call5_v20 (i : S64x4x1.Idx) : val_main_call5_v20 (F := Ideal) x0 i = (st3 (priorKey (pidw x0 (i 0).val)) (BitVec.ofNat 32 (i 1).val)).2 := by
  rw [val_main_call5_v20_apply, val_main_call5_v19_apply, val_main_call5_v16_apply, val_main_call5_v15_apply, val_main_call5_c_3_apply, val_main_call5_v18_apply, val_main_call5_v17_apply, val_main_call5_c_4_apply, shli_host, shrui_host, r_call5_v13, r_call5_v14, st3_2']
theorem r_v45_0 (i : S64x4x1.Idx) : val_main_v45_0 (F := Ideal) x0 i = (st4 (priorKey (pidw x0 (i 0).val)) (BitVec.ofNat 32 (i 1).val)).1 := by
  rw [val_main_v45_0_apply, r_call5_v14, r_call5_v20, st4_1]
theorem r_v46 (i : S64x4x1.Idx) : val_main_v46 (F := Ideal) x0 i = (st5 (priorKey (pidw x0 (i 0).val)) (BitVec.ofNat 32 (i 1).val)).1 := by
  rw [val_main_v46_apply, r_v45_0, r_v37, st5_1]
theorem r_v45_1 (i : S64x4x1.Idx) : val_main_v45_1 (F := Ideal) x0 i = (st4 (priorKey (pidw x0 (i 0).val)) (BitVec.ofNat 32 (i 1).val)).2 := by
  rw [val_main_v45_1_apply, val_main_call5_v26_apply, val_main_call5_v23_apply, val_main_call5_v22_apply, val_main_call5_c_5_apply, val_main_call5_v25_apply, val_main_call5_v24_apply, val_main_call5_c_6_apply, shli_host, shrui_host, r_call5_v20, r_v45_0, st4_2']
theorem r_v42 (i : S64x4x1.Idx) : val_main_v42 (F := Ideal) x0 i = (key3 (priorKey (pidw x0 (i 0).val)).1 (priorKey (pidw x0 (i 0).val)).2) := by
  rw [val_main_v42_apply, val_main_v40_apply, val_main_v41_apply, val_main_c_10_apply, r_v34, r_v37, key3_def]
theorem r_v49 (i : S64x4x1.Idx) : val_main_v49 (F := Ideal) x0 i = (st5 (priorKey (pidw x0 (i 0).val)) (BitVec.ofNat 32 (i 1).val)).2 := by
  rw [val_main_v49_apply, val_main_v47_apply, val_main_v48_apply, val_main_c_11_apply, r_v45_1, r_v42, st5_2]
theorem r_call6_v0 (i : S64x4x1.Idx) : val_main_call6_v0 (F := Ideal) x0 i = (st6 (priorKey (pidw x0 (i 0).val)) (BitVec.ofNat 32 (i 1).val)).1 := by
  rw [val_main_call6_v0_apply, r_v46, r_v49, st6_1]
theorem r_call6_v6 (i : S64x4x1.Idx) : val_main_call6_v6 (F := Ideal) x0 i = (st6 (priorKey (pidw x0 (i 0).val)) (BitVec.ofNat 32 (i 1).val)).2 := by
  rw [val_main_call6_v6_apply, val_main_call6_v5_apply, val_main_call6_v2_apply, val_main_call6_v1_apply, val_main_call6_c_apply, val_main_call6_v4_apply, val_main_call6_v3_apply, val_main_call6_c_0_apply, shli_host, shrui_host, r_v49, r_call6_v0, st6_2']
theorem r_call6_v7 (i : S64x4x1.Idx) : val_main_call6_v7 (F := Ideal) x0 i = (st7 (priorKey (pidw x0 (i 0).val)) (BitVec.ofNat 32 (i 1).val)).1 := by
  rw [val_main_call6_v7_apply, r_call6_v0, r_call6_v6, st7_1]
theorem r_call6_v13 (i : S64x4x1.Idx) : val_main_call6_v13 (F := Ideal) x0 i = (st7 (priorKey (pidw x0 (i 0).val)) (BitVec.ofNat 32 (i 1).val)).2 := by
  rw [val_main_call6_v13_apply, val_main_call6_v12_apply, val_main_call6_v9_apply, val_main_call6_v8_apply, val_main_call6_c_1_apply, val_main_call6_v11_apply, val_main_call6_v10_apply, val_main_call6_c_2_apply, shli_host, shrui_host, r_call6_v6, r_call6_v7, st7_2']
theorem r_call6_v14 (i : S64x4x1.Idx) : val_main_call6_v14 (F := Ideal) x0 i = (st8 (priorKey (pidw x0 (i 0).val)) (BitVec.ofNat 32 (i 1).val)).1 := by
  rw [val_main_call6_v14_apply, r_call6_v7, r_call6_v13, st8_1]
theorem r_call6_v20 (i : S64x4x1.Idx) : val_main_call6_v20 (F := Ideal) x0 i = (st8 (priorKey (pidw x0 (i 0).val)) (BitVec.ofNat 32 (i 1).val)).2 := by
  rw [val_main_call6_v20_apply, val_main_call6_v19_apply, val_main_call6_v16_apply, val_main_call6_v15_apply, val_main_call6_c_3_apply, val_main_call6_v18_apply, val_main_call6_v17_apply, val_main_call6_c_4_apply, shli_host, shrui_host, r_call6_v13, r_call6_v14, st8_2']
theorem r_v50_0 (i : S64x4x1.Idx) : val_main_v50_0 (F := Ideal) x0 i = (st9 (priorKey (pidw x0 (i 0).val)) (BitVec.ofNat 32 (i 1).val)).1 := by
  rw [val_main_v50_0_apply, r_call6_v14, r_call6_v20, st9_1]
theorem r_v51 (i : S64x4x1.Idx) : val_main_v51 (F := Ideal) x0 i = (st10 (priorKey (pidw x0 (i 0).val)) (BitVec.ofNat 32 (i 1).val)).1 := by
  rw [val_main_v51_apply, r_v50_0, r_v42, st10_1]
theorem r_v50_1 (i : S64x4x1.Idx) : val_main_v50_1 (F := Ideal) x0 i = (st9 (priorKey (pidw x0 (i 0).val)) (BitVec.ofNat 32 (i 1).val)).2 := by
  rw [val_main_v50_1_apply, val_main_call6_v26_apply, val_main_call6_v23_apply, val_main_call6_v22_apply, val_main_call6_c_5_apply, val_main_call6_v25_apply, val_main_call6_v24_apply, val_main_call6_c_6_apply, shli_host, shrui_host, r_call6_v20, r_v50_0, st9_2']
theorem r_v54 (i : S64x4x1.Idx) : val_main_v54 (F := Ideal) x0 i = (st10 (priorKey (pidw x0 (i 0).val)) (BitVec.ofNat 32 (i 1).val)).2 := by
  rw [val_main_v54_apply, val_main_v52_apply, val_main_v53_apply, val_main_c_12_apply, r_v50_1, r_v34, st10_2]
theorem r_call7_v0 (i : S64x4x1.Idx) : val_main_call7_v0 (F := Ideal) x0 i = (st11 (priorKey (pidw x0 (i 0).val)) (BitVec.ofNat 32 (i 1).val)).1 := by
  rw [val_main_call7_v0_apply, r_v51, r_v54, st11_1]
theorem r_call7_v6 (i : S64x4x1.Idx) : val_main_call7_v6 (F := Ideal) x0 i = (st11 (priorKey (pidw x0 (i 0).val)) (BitVec.ofNat 32 (i 1).val)).2 := by
  rw [val_main_call7_v6_apply, val_main_call7_v5_apply, val_main_call7_v2_apply, val_main_call7_v1_apply, val_main_call7_c_apply, val_main_call7_v4_apply, val_main_call7_v3_apply, val_main_call7_c_0_apply, shli_host, shrui_host, r_v54, r_call7_v0, st11_2']
theorem r_call7_v7 (i : S64x4x1.Idx) : val_main_call7_v7 (F := Ideal) x0 i = (st12 (priorKey (pidw x0 (i 0).val)) (BitVec.ofNat 32 (i 1).val)).1 := by
  rw [val_main_call7_v7_apply, r_call7_v0, r_call7_v6, st12_1]
theorem r_call7_v13 (i : S64x4x1.Idx) : val_main_call7_v13 (F := Ideal) x0 i = (st12 (priorKey (pidw x0 (i 0).val)) (BitVec.ofNat 32 (i 1).val)).2 := by
  rw [val_main_call7_v13_apply, val_main_call7_v12_apply, val_main_call7_v9_apply, val_main_call7_v8_apply, val_main_call7_c_1_apply, val_main_call7_v11_apply, val_main_call7_v10_apply, val_main_call7_c_2_apply, shli_host, shrui_host, r_call7_v6, r_call7_v7, st12_2']
theorem r_call7_v14 (i : S64x4x1.Idx) : val_main_call7_v14 (F := Ideal) x0 i = (st13 (priorKey (pidw x0 (i 0).val)) (BitVec.ofNat 32 (i 1).val)).1 := by
  rw [val_main_call7_v14_apply, r_call7_v7, r_call7_v13, st13_1]
theorem r_call7_v20 (i : S64x4x1.Idx) : val_main_call7_v20 (F := Ideal) x0 i = (st13 (priorKey (pidw x0 (i 0).val)) (BitVec.ofNat 32 (i 1).val)).2 := by
  rw [val_main_call7_v20_apply, val_main_call7_v19_apply, val_main_call7_v16_apply, val_main_call7_v15_apply, val_main_call7_c_3_apply, val_main_call7_v18_apply, val_main_call7_v17_apply, val_main_call7_c_4_apply, shli_host, shrui_host, r_call7_v13, r_call7_v14, st13_2']
theorem r_v55_0 (i : S64x4x1.Idx) : val_main_v55_0 (F := Ideal) x0 i = (st14 (priorKey (pidw x0 (i 0).val)) (BitVec.ofNat 32 (i 1).val)).1 := by
  rw [val_main_v55_0_apply, r_call7_v14, r_call7_v20, st14_1]
theorem r_v56 (i : S64x4x1.Idx) : val_main_v56 (F := Ideal) x0 i = (st15 (priorKey (pidw x0 (i 0).val)) (BitVec.ofNat 32 (i 1).val)).1 := by
  rw [val_main_v56_apply, r_v55_0, r_v34, st15_1]
theorem r_v55_1 (i : S64x4x1.Idx) : val_main_v55_1 (F := Ideal) x0 i = (st14 (priorKey (pidw x0 (i 0).val)) (BitVec.ofNat 32 (i 1).val)).2 := by
  rw [val_main_v55_1_apply, val_main_call7_v26_apply, val_main_call7_v23_apply, val_main_call7_v22_apply, val_main_call7_c_5_apply, val_main_call7_v25_apply, val_main_call7_v24_apply, val_main_call7_c_6_apply, shli_host, shrui_host, r_call7_v20, r_v55_0, st14_2']
theorem r_v59 (i : S64x4x1.Idx) : val_main_v59 (F := Ideal) x0 i = (st15 (priorKey (pidw x0 (i 0).val)) (BitVec.ofNat 32 (i 1).val)).2 := by
  rw [val_main_v59_apply, val_main_v57_apply, val_main_v58_apply, val_main_c_13_apply, r_v55_1, r_v37, st15_2]
theorem r_call8_v0 (i : S64x4x1.Idx) : val_main_call8_v0 (F := Ideal) x0 i = (st16 (priorKey (pidw x0 (i 0).val)) (BitVec.ofNat 32 (i 1).val)).1 := by
  rw [val_main_call8_v0_apply, r_v56, r_v59, st16_1]
theorem r_call8_v6 (i : S64x4x1.Idx) : val_main_call8_v6 (F := Ideal) x0 i = (st16 (priorKey (pidw x0 (i 0).val)) (BitVec.ofNat 32 (i 1).val)).2 := by
  rw [val_main_call8_v6_apply, val_main_call8_v5_apply, val_main_call8_v2_apply, val_main_call8_v1_apply, val_main_call8_c_apply, val_main_call8_v4_apply, val_main_call8_v3_apply, val_main_call8_c_0_apply, shli_host, shrui_host, r_v59, r_call8_v0, st16_2']
theorem r_call8_v7 (i : S64x4x1.Idx) : val_main_call8_v7 (F := Ideal) x0 i = (st17 (priorKey (pidw x0 (i 0).val)) (BitVec.ofNat 32 (i 1).val)).1 := by
  rw [val_main_call8_v7_apply, r_call8_v0, r_call8_v6, st17_1]
theorem r_call8_v13 (i : S64x4x1.Idx) : val_main_call8_v13 (F := Ideal) x0 i = (st17 (priorKey (pidw x0 (i 0).val)) (BitVec.ofNat 32 (i 1).val)).2 := by
  rw [val_main_call8_v13_apply, val_main_call8_v12_apply, val_main_call8_v9_apply, val_main_call8_v8_apply, val_main_call8_c_1_apply, val_main_call8_v11_apply, val_main_call8_v10_apply, val_main_call8_c_2_apply, shli_host, shrui_host, r_call8_v6, r_call8_v7, st17_2']
theorem r_call8_v14 (i : S64x4x1.Idx) : val_main_call8_v14 (F := Ideal) x0 i = (st18 (priorKey (pidw x0 (i 0).val)) (BitVec.ofNat 32 (i 1).val)).1 := by
  rw [val_main_call8_v14_apply, r_call8_v7, r_call8_v13, st18_1]
theorem r_call8_v20 (i : S64x4x1.Idx) : val_main_call8_v20 (F := Ideal) x0 i = (st18 (priorKey (pidw x0 (i 0).val)) (BitVec.ofNat 32 (i 1).val)).2 := by
  rw [val_main_call8_v20_apply, val_main_call8_v19_apply, val_main_call8_v16_apply, val_main_call8_v15_apply, val_main_call8_c_3_apply, val_main_call8_v18_apply, val_main_call8_v17_apply, val_main_call8_c_4_apply, shli_host, shrui_host, r_call8_v13, r_call8_v14, st18_2']
theorem r_v60_0 (i : S64x4x1.Idx) : val_main_v60_0 (F := Ideal) x0 i = (st19 (priorKey (pidw x0 (i 0).val)) (BitVec.ofNat 32 (i 1).val)).1 := by
  rw [val_main_v60_0_apply, r_call8_v14, r_call8_v20, st19_1]
theorem r_v61 (i : S64x4x1.Idx) : val_main_v61 (F := Ideal) x0 i = (st20 (priorKey (pidw x0 (i 0).val)) (BitVec.ofNat 32 (i 1).val)).1 := by
  rw [val_main_v61_apply, r_v60_0, r_v37, st20_1]
theorem r_v60_1 (i : S64x4x1.Idx) : val_main_v60_1 (F := Ideal) x0 i = (st19 (priorKey (pidw x0 (i 0).val)) (BitVec.ofNat 32 (i 1).val)).2 := by
  rw [val_main_v60_1_apply, val_main_call8_v26_apply, val_main_call8_v23_apply, val_main_call8_v22_apply, val_main_call8_c_5_apply, val_main_call8_v25_apply, val_main_call8_v24_apply, val_main_call8_c_6_apply, shli_host, shrui_host, r_call8_v20, r_v60_0, st19_2']
theorem r_v64 (i : S64x4x1.Idx) : val_main_v64 (F := Ideal) x0 i = (st20 (priorKey (pidw x0 (i 0).val)) (BitVec.ofNat 32 (i 1).val)).2 := by
  rw [val_main_v64_apply, val_main_v62_apply, val_main_v63_apply, val_main_c_14_apply, r_v60_1, r_v42, st20_2]
theorem r_call9_v0 (i : S64x4x1.Idx) : val_main_call9_v0 (F := Ideal) x0 i = (st21 (priorKey (pidw x0 (i 0).val)) (BitVec.ofNat 32 (i 1).val)).1 := by
  rw [val_main_call9_v0_apply, r_v61, r_v64, st21_1]
theorem r_call9_v6 (i : S64x4x1.Idx) : val_main_call9_v6 (F := Ideal) x0 i = (st21 (priorKey (pidw x0 (i 0).val)) (BitVec.ofNat 32 (i 1).val)).2 := by
  rw [val_main_call9_v6_apply, val_main_call9_v5_apply, val_main_call9_v2_apply, val_main_call9_v1_apply, val_main_call9_c_apply, val_main_call9_v4_apply, val_main_call9_v3_apply, val_main_call9_c_0_apply, shli_host, shrui_host, r_v64, r_call9_v0, st21_2']
theorem r_call9_v7 (i : S64x4x1.Idx) : val_main_call9_v7 (F := Ideal) x0 i = (st22 (priorKey (pidw x0 (i 0).val)) (BitVec.ofNat 32 (i 1).val)).1 := by
  rw [val_main_call9_v7_apply, r_call9_v0, r_call9_v6, st22_1]
theorem r_call9_v13 (i : S64x4x1.Idx) : val_main_call9_v13 (F := Ideal) x0 i = (st22 (priorKey (pidw x0 (i 0).val)) (BitVec.ofNat 32 (i 1).val)).2 := by
  rw [val_main_call9_v13_apply, val_main_call9_v12_apply, val_main_call9_v9_apply, val_main_call9_v8_apply, val_main_call9_c_1_apply, val_main_call9_v11_apply, val_main_call9_v10_apply, val_main_call9_c_2_apply, shli_host, shrui_host, r_call9_v6, r_call9_v7, st22_2']
theorem r_call9_v14 (i : S64x4x1.Idx) : val_main_call9_v14 (F := Ideal) x0 i = (st23 (priorKey (pidw x0 (i 0).val)) (BitVec.ofNat 32 (i 1).val)).1 := by
  rw [val_main_call9_v14_apply, r_call9_v7, r_call9_v13, st23_1]
theorem r_call9_v20 (i : S64x4x1.Idx) : val_main_call9_v20 (F := Ideal) x0 i = (st23 (priorKey (pidw x0 (i 0).val)) (BitVec.ofNat 32 (i 1).val)).2 := by
  rw [val_main_call9_v20_apply, val_main_call9_v19_apply, val_main_call9_v16_apply, val_main_call9_v15_apply, val_main_call9_c_3_apply, val_main_call9_v18_apply, val_main_call9_v17_apply, val_main_call9_c_4_apply, shli_host, shrui_host, r_call9_v13, r_call9_v14, st23_2']
theorem r_v65_0 (i : S64x4x1.Idx) : val_main_v65_0 (F := Ideal) x0 i = (st24 (priorKey (pidw x0 (i 0).val)) (BitVec.ofNat 32 (i 1).val)).1 := by
  rw [val_main_v65_0_apply, r_call9_v14, r_call9_v20, st24_1]
theorem r_v66 (i : S64x4x1.Idx) : val_main_v66 (F := Ideal) x0 i = (roundKey (pidw x0 (i 0).val) (BitVec.ofNat 32 (i 1).val)).1 := by
  rw [val_main_v66_apply, r_v65_0, r_v42, st25_1, roundKey_def]
theorem r_v71 (i : S64x4x100000.Idx) : val_main_v71 (F := Ideal) x0 i = (roundKey (pidw x0 (i 0).val) (BitVec.ofNat 32 (i 1).val)).1 := (val_main_v71_apply (F := Ideal) x0 i).trans (r_v66 x0 _)
theorem r_v77 (i : S64x4x100000.Idx) : val_main_v77 (F := Ideal) x0 i = (st0 (roundKey (pidw x0 (i 0).val) (BitVec.ofNat 32 (i 1).val)) (BitVec.ofNat 32 (i 2).val)).1 := by
  rw [val_main_v77_apply, val_main_v73_apply, val_main_c_16_apply, r_v71, st0_1 (roundKey (pidw x0 (i 0).val) (BitVec.ofNat 32 (i 1).val)) (BitVec.ofNat 32 (i 2).val)]
theorem r_v70 (i : S64x4x100000.Idx) : val_main_v70 (F := Ideal) i = (BitVec.ofNat 32 (i 2).val) := rfl
theorem r_v65_1 (i : S64x4x1.Idx) : val_main_v65_1 (F := Ideal) x0 i = (st24 (priorKey (pidw x0 (i 0).val)) (BitVec.ofNat 32 (i 1).val)).2 := by
  rw [val_main_v65_1_apply, val_main_call9_v26_apply, val_main_call9_v23_apply, val_main_call9_v22_apply, val_main_call9_c_5_apply, val_main_call9_v25_apply, val_main_call9_v24_apply, val_main_call9_c_6_apply, shli_host, shrui_host, r_call9_v20, r_v65_0, st24_2']
theorem r_v69 (i : S64x4x1.Idx) : val_main_v69 (F := Ideal) x0 i = (roundKey (pidw x0 (i 0).val) (BitVec.ofNat 32 (i 1).val)).2 := by
  rw [val_main_v69_apply, val_main_v67_apply, val_main_v68_apply, val_main_c_15_apply, r_v65_1, r_v34, st25_2, roundKey_def]
theorem r_v72 (i : S64x4x100000.Idx) : val_main_v72 (F := Ideal) x0 i = (roundKey (pidw x0 (i 0).val) (BitVec.ofNat 32 (i 1).val)).2 := (val_main_v72_apply (F := Ideal) x0 i).trans (r_v69 x0 _)
theorem r_v78 (i : S64x4x100000.Idx) : val_main_v78 (F := Ideal) x0 i = (st0 (roundKey (pidw x0 (i 0).val) (BitVec.ofNat 32 (i 1).val)) (BitVec.ofNat 32 (i 2).val)).2 := by
  rw [val_main_v78_apply, r_v70, r_v72, st0_2 (roundKey (pidw x0 (i 0).val) (BitVec.ofNat 32 (i 1).val)) (BitVec.ofNat 32 (i 2).val)]
theorem r_call10_v0 (i : S64x4x100000.Idx) : val_main_call10_v0 (F := Ideal) x0 i = (st1 (roundKey (pidw x0 (i 0).val) (BitVec.ofNat 32 (i 1).val)) (BitVec.ofNat 32 (i 2).val)).1 := by
  rw [val_main_call10_v0_apply, r_v77, r_v78, st1_1]
theorem r_call10_v6 (i : S64x4x100000.Idx) : val_main_call10_v6 (F := Ideal) x0 i = (st1 (roundKey (pidw x0 (i 0).val) (BitVec.ofNat 32 (i 1).val)) (BitVec.ofNat 32 (i 2).val)).2 := by
  rw [val_main_call10_v6_apply, val_main_call10_v5_apply, val_main_call10_v2_apply, val_main_call10_v1_apply, val_main_call10_c_apply, val_main_call10_v4_apply, val_main_call10_v3_apply, val_main_call10_c_0_apply, shli_host, shrui_host, r_v78, r_call10_v0, st1_2']
theorem r_call10_v7 (i : S64x4x100000.Idx) : val_main_call10_v7 (F := Ideal) x0 i = (st2 (roundKey (pidw x0 (i 0).val) (BitVec.ofNat 32 (i 1).val)) (BitVec.ofNat 32 (i 2).val)).1 := by
  rw [val_main_call10_v7_apply, r_call10_v0, r_call10_v6, st2_1]
theorem r_call10_v13 (i : S64x4x100000.Idx) : val_main_call10_v13 (F := Ideal) x0 i = (st2 (roundKey (pidw x0 (i 0).val) (BitVec.ofNat 32 (i 1).val)) (BitVec.ofNat 32 (i 2).val)).2 := by
  rw [val_main_call10_v13_apply, val_main_call10_v12_apply, val_main_call10_v9_apply, val_main_call10_v8_apply, val_main_call10_c_1_apply, val_main_call10_v11_apply, val_main_call10_v10_apply, val_main_call10_c_2_apply, shli_host, shrui_host, r_call10_v6, r_call10_v7, st2_2']
theorem r_call10_v14 (i : S64x4x100000.Idx) : val_main_call10_v14 (F := Ideal) x0 i = (st3 (roundKey (pidw x0 (i 0).val) (BitVec.ofNat 32 (i 1).val)) (BitVec.ofNat 32 (i 2).val)).1 := by
  rw [val_main_call10_v14_apply, r_call10_v7, r_call10_v13, st3_1]
theorem r_call10_v20 (i : S64x4x100000.Idx) : val_main_call10_v20 (F := Ideal) x0 i = (st3 (roundKey (pidw x0 (i 0).val) (BitVec.ofNat 32 (i 1).val)) (BitVec.ofNat 32 (i 2).val)).2 := by
  rw [val_main_call10_v20_apply, val_main_call10_v19_apply, val_main_call10_v16_apply, val_main_call10_v15_apply, val_main_call10_c_3_apply, val_main_call10_v18_apply, val_main_call10_v17_apply, val_main_call10_c_4_apply, shli_host, shrui_host, r_call10_v13, r_call10_v14, st3_2']
theorem r_v79_0 (i : S64x4x100000.Idx) : val_main_v79_0 (F := Ideal) x0 i = (st4 (roundKey (pidw x0 (i 0).val) (BitVec.ofNat 32 (i 1).val)) (BitVec.ofNat 32 (i 2).val)).1 := by
  rw [val_main_v79_0_apply, r_call10_v14, r_call10_v20, st4_1]
theorem r_v80 (i : S64x4x100000.Idx) : val_main_v80 (F := Ideal) x0 i = (st5 (roundKey (pidw x0 (i 0).val) (BitVec.ofNat 32 (i 1).val)) (BitVec.ofNat 32 (i 2).val)).1 := by
  rw [val_main_v80_apply, r_v79_0, r_v72, st5_1]
theorem r_v79_1 (i : S64x4x100000.Idx) : val_main_v79_1 (F := Ideal) x0 i = (st4 (roundKey (pidw x0 (i 0).val) (BitVec.ofNat 32 (i 1).val)) (BitVec.ofNat 32 (i 2).val)).2 := by
  rw [val_main_v79_1_apply, val_main_call10_v26_apply, val_main_call10_v23_apply, val_main_call10_v22_apply, val_main_call10_c_5_apply, val_main_call10_v25_apply, val_main_call10_v24_apply, val_main_call10_c_6_apply, shli_host, shrui_host, r_call10_v20, r_v79_0, st4_2']
theorem r_v76 (i : S64x4x100000.Idx) : val_main_v76 (F := Ideal) x0 i = (key3 (roundKey (pidw x0 (i 0).val) (BitVec.ofNat 32 (i 1).val)).1 (roundKey (pidw x0 (i 0).val) (BitVec.ofNat 32 (i 1).val)).2) := by
  rw [val_main_v76_apply, val_main_v74_apply, val_main_v75_apply, val_main_c_17_apply, r_v71, r_v72, key3_def]
theorem r_v83 (i : S64x4x100000.Idx) : val_main_v83 (F := Ideal) x0 i = (st5 (roundKey (pidw x0 (i 0).val) (BitVec.ofNat 32 (i 1).val)) (BitVec.ofNat 32 (i 2).val)).2 := by
  rw [val_main_v83_apply, val_main_v81_apply, val_main_v82_apply, val_main_c_18_apply, r_v79_1, r_v76, st5_2]
theorem r_call11_v0 (i : S64x4x100000.Idx) : val_main_call11_v0 (F := Ideal) x0 i = (st6 (roundKey (pidw x0 (i 0).val) (BitVec.ofNat 32 (i 1).val)) (BitVec.ofNat 32 (i 2).val)).1 := by
  rw [val_main_call11_v0_apply, r_v80, r_v83, st6_1]
theorem r_call11_v6 (i : S64x4x100000.Idx) : val_main_call11_v6 (F := Ideal) x0 i = (st6 (roundKey (pidw x0 (i 0).val) (BitVec.ofNat 32 (i 1).val)) (BitVec.ofNat 32 (i 2).val)).2 := by
  rw [val_main_call11_v6_apply, val_main_call11_v5_apply, val_main_call11_v2_apply, val_main_call11_v1_apply, val_main_call11_c_apply, val_main_call11_v4_apply, val_main_call11_v3_apply, val_main_call11_c_0_apply, shli_host, shrui_host, r_v83, r_call11_v0, st6_2']
theorem r_call11_v7 (i : S64x4x100000.Idx) : val_main_call11_v7 (F := Ideal) x0 i = (st7 (roundKey (pidw x0 (i 0).val) (BitVec.ofNat 32 (i 1).val)) (BitVec.ofNat 32 (i 2).val)).1 := by
  rw [val_main_call11_v7_apply, r_call11_v0, r_call11_v6, st7_1]
theorem r_call11_v13 (i : S64x4x100000.Idx) : val_main_call11_v13 (F := Ideal) x0 i = (st7 (roundKey (pidw x0 (i 0).val) (BitVec.ofNat 32 (i 1).val)) (BitVec.ofNat 32 (i 2).val)).2 := by
  rw [val_main_call11_v13_apply, val_main_call11_v12_apply, val_main_call11_v9_apply, val_main_call11_v8_apply, val_main_call11_c_1_apply, val_main_call11_v11_apply, val_main_call11_v10_apply, val_main_call11_c_2_apply, shli_host, shrui_host, r_call11_v6, r_call11_v7, st7_2']
theorem r_call11_v14 (i : S64x4x100000.Idx) : val_main_call11_v14 (F := Ideal) x0 i = (st8 (roundKey (pidw x0 (i 0).val) (BitVec.ofNat 32 (i 1).val)) (BitVec.ofNat 32 (i 2).val)).1 := by
  rw [val_main_call11_v14_apply, r_call11_v7, r_call11_v13, st8_1]
theorem r_call11_v20 (i : S64x4x100000.Idx) : val_main_call11_v20 (F := Ideal) x0 i = (st8 (roundKey (pidw x0 (i 0).val) (BitVec.ofNat 32 (i 1).val)) (BitVec.ofNat 32 (i 2).val)).2 := by
  rw [val_main_call11_v20_apply, val_main_call11_v19_apply, val_main_call11_v16_apply, val_main_call11_v15_apply, val_main_call11_c_3_apply, val_main_call11_v18_apply, val_main_call11_v17_apply, val_main_call11_c_4_apply, shli_host, shrui_host, r_call11_v13, r_call11_v14, st8_2']
theorem r_v84_0 (i : S64x4x100000.Idx) : val_main_v84_0 (F := Ideal) x0 i = (st9 (roundKey (pidw x0 (i 0).val) (BitVec.ofNat 32 (i 1).val)) (BitVec.ofNat 32 (i 2).val)).1 := by
  rw [val_main_v84_0_apply, r_call11_v14, r_call11_v20, st9_1]
theorem r_v85 (i : S64x4x100000.Idx) : val_main_v85 (F := Ideal) x0 i = (st10 (roundKey (pidw x0 (i 0).val) (BitVec.ofNat 32 (i 1).val)) (BitVec.ofNat 32 (i 2).val)).1 := by
  rw [val_main_v85_apply, r_v84_0, r_v76, st10_1]
theorem r_v84_1 (i : S64x4x100000.Idx) : val_main_v84_1 (F := Ideal) x0 i = (st9 (roundKey (pidw x0 (i 0).val) (BitVec.ofNat 32 (i 1).val)) (BitVec.ofNat 32 (i 2).val)).2 := by
  rw [val_main_v84_1_apply, val_main_call11_v26_apply, val_main_call11_v23_apply, val_main_call11_v22_apply, val_main_call11_c_5_apply, val_main_call11_v25_apply, val_main_call11_v24_apply, val_main_call11_c_6_apply, shli_host, shrui_host, r_call11_v20, r_v84_0, st9_2']
theorem r_v88 (i : S64x4x100000.Idx) : val_main_v88 (F := Ideal) x0 i = (st10 (roundKey (pidw x0 (i 0).val) (BitVec.ofNat 32 (i 1).val)) (BitVec.ofNat 32 (i 2).val)).2 := by
  rw [val_main_v88_apply, val_main_v86_apply, val_main_v87_apply, val_main_c_19_apply, r_v84_1, r_v71, st10_2]
theorem r_call12_v0 (i : S64x4x100000.Idx) : val_main_call12_v0 (F := Ideal) x0 i = (st11 (roundKey (pidw x0 (i 0).val) (BitVec.ofNat 32 (i 1).val)) (BitVec.ofNat 32 (i 2).val)).1 := by
  rw [val_main_call12_v0_apply, r_v85, r_v88, st11_1]
theorem r_call12_v6 (i : S64x4x100000.Idx) : val_main_call12_v6 (F := Ideal) x0 i = (st11 (roundKey (pidw x0 (i 0).val) (BitVec.ofNat 32 (i 1).val)) (BitVec.ofNat 32 (i 2).val)).2 := by
  rw [val_main_call12_v6_apply, val_main_call12_v5_apply, val_main_call12_v2_apply, val_main_call12_v1_apply, val_main_call12_c_apply, val_main_call12_v4_apply, val_main_call12_v3_apply, val_main_call12_c_0_apply, shli_host, shrui_host, r_v88, r_call12_v0, st11_2']
theorem r_call12_v7 (i : S64x4x100000.Idx) : val_main_call12_v7 (F := Ideal) x0 i = (st12 (roundKey (pidw x0 (i 0).val) (BitVec.ofNat 32 (i 1).val)) (BitVec.ofNat 32 (i 2).val)).1 := by
  rw [val_main_call12_v7_apply, r_call12_v0, r_call12_v6, st12_1]
theorem r_call12_v13 (i : S64x4x100000.Idx) : val_main_call12_v13 (F := Ideal) x0 i = (st12 (roundKey (pidw x0 (i 0).val) (BitVec.ofNat 32 (i 1).val)) (BitVec.ofNat 32 (i 2).val)).2 := by
  rw [val_main_call12_v13_apply, val_main_call12_v12_apply, val_main_call12_v9_apply, val_main_call12_v8_apply, val_main_call12_c_1_apply, val_main_call12_v11_apply, val_main_call12_v10_apply, val_main_call12_c_2_apply, shli_host, shrui_host, r_call12_v6, r_call12_v7, st12_2']
theorem r_call12_v14 (i : S64x4x100000.Idx) : val_main_call12_v14 (F := Ideal) x0 i = (st13 (roundKey (pidw x0 (i 0).val) (BitVec.ofNat 32 (i 1).val)) (BitVec.ofNat 32 (i 2).val)).1 := by
  rw [val_main_call12_v14_apply, r_call12_v7, r_call12_v13, st13_1]
theorem r_call12_v20 (i : S64x4x100000.Idx) : val_main_call12_v20 (F := Ideal) x0 i = (st13 (roundKey (pidw x0 (i 0).val) (BitVec.ofNat 32 (i 1).val)) (BitVec.ofNat 32 (i 2).val)).2 := by
  rw [val_main_call12_v20_apply, val_main_call12_v19_apply, val_main_call12_v16_apply, val_main_call12_v15_apply, val_main_call12_c_3_apply, val_main_call12_v18_apply, val_main_call12_v17_apply, val_main_call12_c_4_apply, shli_host, shrui_host, r_call12_v13, r_call12_v14, st13_2']
theorem r_v89_0 (i : S64x4x100000.Idx) : val_main_v89_0 (F := Ideal) x0 i = (st14 (roundKey (pidw x0 (i 0).val) (BitVec.ofNat 32 (i 1).val)) (BitVec.ofNat 32 (i 2).val)).1 := by
  rw [val_main_v89_0_apply, r_call12_v14, r_call12_v20, st14_1]
theorem r_v90 (i : S64x4x100000.Idx) : val_main_v90 (F := Ideal) x0 i = (st15 (roundKey (pidw x0 (i 0).val) (BitVec.ofNat 32 (i 1).val)) (BitVec.ofNat 32 (i 2).val)).1 := by
  rw [val_main_v90_apply, r_v89_0, r_v71, st15_1]
theorem r_v89_1 (i : S64x4x100000.Idx) : val_main_v89_1 (F := Ideal) x0 i = (st14 (roundKey (pidw x0 (i 0).val) (BitVec.ofNat 32 (i 1).val)) (BitVec.ofNat 32 (i 2).val)).2 := by
  rw [val_main_v89_1_apply, val_main_call12_v26_apply, val_main_call12_v23_apply, val_main_call12_v22_apply, val_main_call12_c_5_apply, val_main_call12_v25_apply, val_main_call12_v24_apply, val_main_call12_c_6_apply, shli_host, shrui_host, r_call12_v20, r_v89_0, st14_2']
theorem r_v93 (i : S64x4x100000.Idx) : val_main_v93 (F := Ideal) x0 i = (st15 (roundKey (pidw x0 (i 0).val) (BitVec.ofNat 32 (i 1).val)) (BitVec.ofNat 32 (i 2).val)).2 := by
  rw [val_main_v93_apply, val_main_v91_apply, val_main_v92_apply, val_main_c_20_apply, r_v89_1, r_v72, st15_2]
theorem r_call13_v0 (i : S64x4x100000.Idx) : val_main_call13_v0 (F := Ideal) x0 i = (st16 (roundKey (pidw x0 (i 0).val) (BitVec.ofNat 32 (i 1).val)) (BitVec.ofNat 32 (i 2).val)).1 := by
  rw [val_main_call13_v0_apply, r_v90, r_v93, st16_1]
theorem r_call13_v6 (i : S64x4x100000.Idx) : val_main_call13_v6 (F := Ideal) x0 i = (st16 (roundKey (pidw x0 (i 0).val) (BitVec.ofNat 32 (i 1).val)) (BitVec.ofNat 32 (i 2).val)).2 := by
  rw [val_main_call13_v6_apply, val_main_call13_v5_apply, val_main_call13_v2_apply, val_main_call13_v1_apply, val_main_call13_c_apply, val_main_call13_v4_apply, val_main_call13_v3_apply, val_main_call13_c_0_apply, shli_host, shrui_host, r_v93, r_call13_v0, st16_2']
theorem r_call13_v7 (i : S64x4x100000.Idx) : val_main_call13_v7 (F := Ideal) x0 i = (st17 (roundKey (pidw x0 (i 0).val) (BitVec.ofNat 32 (i 1).val)) (BitVec.ofNat 32 (i 2).val)).1 := by
  rw [val_main_call13_v7_apply, r_call13_v0, r_call13_v6, st17_1]
theorem r_call13_v13 (i : S64x4x100000.Idx) : val_main_call13_v13 (F := Ideal) x0 i = (st17 (roundKey (pidw x0 (i 0).val) (BitVec.ofNat 32 (i 1).val)) (BitVec.ofNat 32 (i 2).val)).2 := by
  rw [val_main_call13_v13_apply, val_main_call13_v12_apply, val_main_call13_v9_apply, val_main_call13_v8_apply, val_main_call13_c_1_apply, val_main_call13_v11_apply, val_main_call13_v10_apply, val_main_call13_c_2_apply, shli_host, shrui_host, r_call13_v6, r_call13_v7, st17_2']
theorem r_call13_v14 (i : S64x4x100000.Idx) : val_main_call13_v14 (F := Ideal) x0 i = (st18 (roundKey (pidw x0 (i 0).val) (BitVec.ofNat 32 (i 1).val)) (BitVec.ofNat 32 (i 2).val)).1 := by
  rw [val_main_call13_v14_apply, r_call13_v7, r_call13_v13, st18_1]
theorem r_call13_v20 (i : S64x4x100000.Idx) : val_main_call13_v20 (F := Ideal) x0 i = (st18 (roundKey (pidw x0 (i 0).val) (BitVec.ofNat 32 (i 1).val)) (BitVec.ofNat 32 (i 2).val)).2 := by
  rw [val_main_call13_v20_apply, val_main_call13_v19_apply, val_main_call13_v16_apply, val_main_call13_v15_apply, val_main_call13_c_3_apply, val_main_call13_v18_apply, val_main_call13_v17_apply, val_main_call13_c_4_apply, shli_host, shrui_host, r_call13_v13, r_call13_v14, st18_2']
theorem r_v94_0 (i : S64x4x100000.Idx) : val_main_v94_0 (F := Ideal) x0 i = (st19 (roundKey (pidw x0 (i 0).val) (BitVec.ofNat 32 (i 1).val)) (BitVec.ofNat 32 (i 2).val)).1 := by
  rw [val_main_v94_0_apply, r_call13_v14, r_call13_v20, st19_1]
theorem r_v95 (i : S64x4x100000.Idx) : val_main_v95 (F := Ideal) x0 i = (st20 (roundKey (pidw x0 (i 0).val) (BitVec.ofNat 32 (i 1).val)) (BitVec.ofNat 32 (i 2).val)).1 := by
  rw [val_main_v95_apply, r_v94_0, r_v72, st20_1]
theorem r_v94_1 (i : S64x4x100000.Idx) : val_main_v94_1 (F := Ideal) x0 i = (st19 (roundKey (pidw x0 (i 0).val) (BitVec.ofNat 32 (i 1).val)) (BitVec.ofNat 32 (i 2).val)).2 := by
  rw [val_main_v94_1_apply, val_main_call13_v26_apply, val_main_call13_v23_apply, val_main_call13_v22_apply, val_main_call13_c_5_apply, val_main_call13_v25_apply, val_main_call13_v24_apply, val_main_call13_c_6_apply, shli_host, shrui_host, r_call13_v20, r_v94_0, st19_2']
theorem r_v98 (i : S64x4x100000.Idx) : val_main_v98 (F := Ideal) x0 i = (st20 (roundKey (pidw x0 (i 0).val) (BitVec.ofNat 32 (i 1).val)) (BitVec.ofNat 32 (i 2).val)).2 := by
  rw [val_main_v98_apply, val_main_v96_apply, val_main_v97_apply, val_main_c_21_apply, r_v94_1, r_v76, st20_2]
theorem r_call14_v0 (i : S64x4x100000.Idx) : val_main_call14_v0 (F := Ideal) x0 i = (st21 (roundKey (pidw x0 (i 0).val) (BitVec.ofNat 32 (i 1).val)) (BitVec.ofNat 32 (i 2).val)).1 := by
  rw [val_main_call14_v0_apply, r_v95, r_v98, st21_1]
theorem r_call14_v6 (i : S64x4x100000.Idx) : val_main_call14_v6 (F := Ideal) x0 i = (st21 (roundKey (pidw x0 (i 0).val) (BitVec.ofNat 32 (i 1).val)) (BitVec.ofNat 32 (i 2).val)).2 := by
  rw [val_main_call14_v6_apply, val_main_call14_v5_apply, val_main_call14_v2_apply, val_main_call14_v1_apply, val_main_call14_c_apply, val_main_call14_v4_apply, val_main_call14_v3_apply, val_main_call14_c_0_apply, shli_host, shrui_host, r_v98, r_call14_v0, st21_2']
theorem r_call14_v7 (i : S64x4x100000.Idx) : val_main_call14_v7 (F := Ideal) x0 i = (st22 (roundKey (pidw x0 (i 0).val) (BitVec.ofNat 32 (i 1).val)) (BitVec.ofNat 32 (i 2).val)).1 := by
  rw [val_main_call14_v7_apply, r_call14_v0, r_call14_v6, st22_1]
theorem r_call14_v13 (i : S64x4x100000.Idx) : val_main_call14_v13 (F := Ideal) x0 i = (st22 (roundKey (pidw x0 (i 0).val) (BitVec.ofNat 32 (i 1).val)) (BitVec.ofNat 32 (i 2).val)).2 := by
  rw [val_main_call14_v13_apply, val_main_call14_v12_apply, val_main_call14_v9_apply, val_main_call14_v8_apply, val_main_call14_c_1_apply, val_main_call14_v11_apply, val_main_call14_v10_apply, val_main_call14_c_2_apply, shli_host, shrui_host, r_call14_v6, r_call14_v7, st22_2']
theorem r_call14_v14 (i : S64x4x100000.Idx) : val_main_call14_v14 (F := Ideal) x0 i = (st23 (roundKey (pidw x0 (i 0).val) (BitVec.ofNat 32 (i 1).val)) (BitVec.ofNat 32 (i 2).val)).1 := by
  rw [val_main_call14_v14_apply, r_call14_v7, r_call14_v13, st23_1]
theorem r_call14_v20 (i : S64x4x100000.Idx) : val_main_call14_v20 (F := Ideal) x0 i = (st23 (roundKey (pidw x0 (i 0).val) (BitVec.ofNat 32 (i 1).val)) (BitVec.ofNat 32 (i 2).val)).2 := by
  rw [val_main_call14_v20_apply, val_main_call14_v19_apply, val_main_call14_v16_apply, val_main_call14_v15_apply, val_main_call14_c_3_apply, val_main_call14_v18_apply, val_main_call14_v17_apply, val_main_call14_c_4_apply, shli_host, shrui_host, r_call14_v13, r_call14_v14, st23_2']
theorem r_v99_0 (i : S64x4x100000.Idx) : val_main_v99_0 (F := Ideal) x0 i = (st24 (roundKey (pidw x0 (i 0).val) (BitVec.ofNat 32 (i 1).val)) (BitVec.ofNat 32 (i 2).val)).1 := by
  rw [val_main_v99_0_apply, r_call14_v14, r_call14_v20, st24_1]
theorem r_v100 (i : S64x4x100000.Idx) : val_main_v100 (F := Ideal) x0 i = (st25 (roundKey (pidw x0 (i 0).val) (BitVec.ofNat 32 (i 1).val)) (BitVec.ofNat 32 (i 2).val)).1 := by
  rw [val_main_v100_apply, r_v99_0, r_v76, st25_1]
theorem r_v99_1 (i : S64x4x100000.Idx) : val_main_v99_1 (F := Ideal) x0 i = (st24 (roundKey (pidw x0 (i 0).val) (BitVec.ofNat 32 (i 1).val)) (BitVec.ofNat 32 (i 2).val)).2 := by
  rw [val_main_v99_1_apply, val_main_call14_v26_apply, val_main_call14_v23_apply, val_main_call14_v22_apply, val_main_call14_c_5_apply, val_main_call14_v25_apply, val_main_call14_v24_apply, val_main_call14_c_6_apply, shli_host, shrui_host, r_call14_v20, r_v99_0, st24_2']
theorem r_v103 (i : S64x4x100000.Idx) : val_main_v103 (F := Ideal) x0 i = (st25 (roundKey (pidw x0 (i 0).val) (BitVec.ofNat 32 (i 1).val)) (BitVec.ofNat 32 (i 2).val)).2 := by
  rw [val_main_v103_apply, val_main_v101_apply, val_main_v102_apply, val_main_c_22_apply, r_v99_1, r_v71, st25_2]
theorem r_v104 (i : S64x4x100000.Idx) : val_main_v104 (F := Ideal) x0 i = (bitWord (pidw x0 (i 0).val) (BitVec.ofNat 32 (i 1).val) (BitVec.ofNat 32 (i 2).val)) := by
  rw [val_main_v104_apply, r_v100, r_v103, bitWord_def]

end Cert.Sampler

end
-- ==== Proof.RWords.lean ====
/- The words of the reference, element by element: each vector of its text is a stage of the cipher. -/
module

public import proofs.«01_k».proof.Proof.Gen.ReferenceIdeal.Read
public import proofs.«01_k».proof.Proof.RWordsA
public import Idealize.ShloMosaic.Lib.ValueIdxCore

@[expose] public section

set_option maxRecDepth 65536

noncomputable section

namespace Cert.Sampler

open Idealize.ShloMosaic Idealize.ShloMosaic.TcCoe Idealize.ShloMosaic.ValueIdx
open Cert.ReferenceIdeal Cert.ReferenceIdeal.Gen Cert.ReferenceIdeal.Read

variable (x0 : (⟨S64x2048, .i32⟩ : BufTy).Contents (Elt Ideal))

theorem r_v193 (i : S64x1.Idx) : val_main_v193 (F := Ideal) i = (st0 (0#32, 43#32) (BitVec.ofNat 32 (i 0).val)).1 := by
  rw [val_main_v193_apply, val_main_v189_apply, val_main_c_44_apply, val_main_v186_apply, val_main_c_42_apply, st0_1 (0#32, 43#32) (BitVec.ofNat 32 (i 0).val)]
theorem r_v188 (i : S64x1.Idx) : val_main_v188 (F := Ideal) i = (BitVec.ofNat 32 (i 0).val) := rfl
theorem r_v194 (i : S64x1.Idx) : val_main_v194 (F := Ideal) i = (st0 (0#32, 43#32) (BitVec.ofNat 32 (i 0).val)).2 := by
  rw [val_main_v194_apply, val_main_v187_apply, val_main_c_43_apply, r_v188, st0_2 (0#32, 43#32) (BitVec.ofNat 32 (i 0).val)]
theorem r_call18_v0 (i : S64x1.Idx) : val_main_call18_v0 (F := Ideal) i = (st1 (0#32, 43#32) (BitVec.ofNat 32 (i 0).val)).1 := by
  rw [val_main_call18_v0_apply, r_v193, r_v194, st1_1]
theorem r_call18_v6 (i : S64x1.Idx) : val_main_call18_v6 (F := Ideal) i = (st1 (0#32, 43#32) (BitVec.ofNat 32 (i 0).val)).2 := by
  rw [val_main_call18_v6_apply, val_main_call18_v5_apply, val_main_call18_v2_apply, val_main_call18_v1_apply, val_main_call18_c_apply, val_main_call18_v4_apply, val_main_call18_v3_apply, val_main_call18_c_0_apply, shli_host, shrui_host, r_v194, r_call18_v0, st1_2']
theorem r_call18_v7 (i : S64x1.Idx) : val_main_call18_v7 (F := Ideal) i = (st2 (0#32, 43#32) (BitVec.ofNat 32 (i 0).val)).1 := by
  rw [val_main_call18_v7_apply, r_call18_v0, r_call18_v6, st2_1]
theorem r_call18_v13 (i : S64x1.Idx) : val_main_call18_v13 (F := Ideal) i = (st2 (0#32, 43#32) (BitVec.ofNat 32 (i 0).val)).2 := by
  rw [val_main_call18_v13_apply, val_main_call18_v12_apply, val_main_call18_v9_apply, val_main_call18_v8_apply, val_main_call18_c_1_apply, val_main_call18_v11_apply, val_main_call18_v10_apply, val_main_call18_c_2_apply, shli_host, shrui_host, r_call18_v6, r_call18_v7, st2_2']
theorem r_call18_v14 (i : S64x1.Idx) : val_main_call18_v14 (F := Ideal) i = (st3 (0#32, 43#32) (BitVec.ofNat 32 (i 0).val)).1 := by
  rw [val_main_call18_v14_apply, r_call18_v7, r_call18_v13, st3_1]
theorem r_call18_v20 (i : S64x1.Idx) : val_main_call18_v20 (F := Ideal) i = (st3 (0#32, 43#32) (BitVec.ofNat 32 (i 0).val)).2 := by
  rw [val_main_call18_v20_apply, val_main_call18_v19_apply, val_main_call18_v16_apply, val_main_call18_v15_apply, val_main_call18_c_3_apply, val_main_call18_v18_apply, val_main_call18_v17_apply, val_main_call18_c_4_apply, shli_host, shrui_host, r_call18_v13, r_call18_v14, st3_2']
theorem r_v195_0 (i : S64x1.Idx) : val_main_v195_0 (F := Ideal) i = (st4 (0#32, 43#32) (BitVec.ofNat 32 (i 0).val)).1 := by
  rw [val_main_v195_0_apply, r_call18_v14, r_call18_v20, st4_1]
theorem r_v196 (i : S64x1.Idx) : val_main_v196 (F := Ideal) i = (st5 (0#32, 43#32) (BitVec.ofNat 32 (i 0).val)).1 := by
  rw [val_main_v196_apply, val_main_v187_apply, val_main_c_43_apply, r_v195_0, st5_1]
theorem r_v195_1 (i : S64x1.Idx) : val_main_v195_1 (F := Ideal) i = (st4 (0#32, 43#32) (BitVec.ofNat 32 (i 0).val)).2 := by
  rw [val_main_v195_1_apply, val_main_call18_v26_apply, val_main_call18_v23_apply, val_main_call18_v22_apply, val_main_call18_c_5_apply, val_main_call18_v25_apply, val_main_call18_v24_apply, val_main_call18_c_6_apply, shli_host, shrui_host, r_call18_v20, r_v195_0, st4_2']
theorem r_v192 (i : S64x1.Idx) : val_main_v192 (F := Ideal) i = (key3 0#32 43#32) := by
  rw [val_main_v192_apply, val_main_v190_apply, val_main_v186_apply, val_main_c_42_apply, val_main_v187_apply, val_main_c_43_apply, val_main_v191_apply, val_main_c_45_apply, key3_def]
theorem r_v199 (i : S64x1.Idx) : val_main_v199 (F := Ideal) i = (st5 (0#32, 43#32) (BitVec.ofNat 32 (i 0).val)).2 := by
  rw [val_main_v199_apply, val_main_v197_apply, val_main_v198_apply, val_main_c_46_apply, r_v195_1, r_v192, st5_2]
theorem r_call19_v0 (i : S64x1.Idx) : val_main_call19_v0 (F := Ideal) i = (st6 (0#32, 43#32) (BitVec.ofNat 32 (i 0).val)).1 := by
  rw [val_main_call19_v0_apply, r_v196, r_v199, st6_1]
theorem r_call19_v6 (i : S64x1.Idx) : val_main_call19_v6 (F := Ideal) i = (st6 (0#32, 43#32) (BitVec.ofNat 32 (i 0).val)).2 := by
  rw [val_main_call19_v6_apply, val_main_call19_v5_apply, val_main_call19_v2_apply, val_main_call19_v1_apply, val_main_call19_c_apply, val_main_call19_v4_apply, val_main_call19_v3_apply, val_main_call19_c_0_apply, shli_host, shrui_host, r_v199, r_call19_v0, st6_2']
theorem r_call19_v7 (i : S64x1.Idx) : val_main_call19_v7 (F := Ideal) i = (st7 (0#32, 43#32) (BitVec.ofNat 32 (i 0).val)).1 := by
  rw [val_main_call19_v7_apply, r_call19_v0, r_call19_v6, st7_1]
theorem r_call19_v13 (i : S64x1.Idx) : val_main_call19_v13 (F := Ideal) i = (st7 (0#32, 43#32) (BitVec.ofNat 32 (i 0).val)).2 := by
  rw [val_main_call19_v13_apply, val_main_call19_v12_apply, val_main_call19_v9_apply, val_main_call19_v8_apply, val_main_call19_c_1_apply, val_main_call19_v11_apply, val_main_call19_v10_apply, val_main_call19_c_2_apply, shli_host, shrui_host, r_call19_v6, r_call19_v7, st7_2']
theorem r_call19_v14 (i : S64x1.Idx) : val_main_call19_v14 (F := Ideal) i = (st8 (0#32, 43#32) (BitVec.ofNat 32 (i 0).val)).1 := by
  rw [val_main_call19_v14_apply, r_call19_v7, r_call19_v13, st8_1]
theorem r_call19_v20 (i : S64x1.Idx) : val_main_call19_v20 (F := Ideal) i = (st8 (0#32, 43#32) (BitVec.ofNat 32 (i 0).val)).2 := by
  rw [val_main_call19_v20_apply, val_main_call19_v19_apply, val_main_call19_v16_apply, val_main_call19_v15_apply, val_main_call19_c_3_apply, val_main_call19_v18_apply, val_main_call19_v17_apply, val_main_call19_c_4_apply, shli_host, shrui_host, r_call19_v13, r_call19_v14, st8_2']
theorem r_v200_0 (i : S64x1.Idx) : val_main_v200_0 (F := Ideal) i = (st9 (0#32, 43#32) (BitVec.ofNat 32 (i 0).val)).1 := by
  rw [val_main_v200_0_apply, r_call19_v14, r_call19_v20, st9_1]
theorem r_v201 (i : S64x1.Idx) : val_main_v201 (F := Ideal) i = (st10 (0#32, 43#32) (BitVec.ofNat 32 (i 0).val)).1 := by
  rw [val_main_v201_apply, r_v200_0, r_v192, st10_1]
theorem r_v200_1 (i : S64x1.Idx) : val_main_v200_1 (F := Ideal) i = (st9 (0#32, 43#32) (BitVec.ofNat 32 (i 0).val)).2 := by
  rw [val_main_v200_1_apply, val_main_call19_v26_apply, val_main_call19_v23_apply, val_main_call19_v22_apply, val_main_call19_c_5_apply, val_main_call19_v25_apply, val_main_call19_v24_apply, val_main_call19_c_6_apply, shli_host, shrui_host, r_call19_v20, r_v200_0, st9_2']
theorem r_v204 (i : S64x1.Idx) : val_main_v204 (F := Ideal) i = (st10 (0#32, 43#32) (BitVec.ofNat 32 (i 0).val)).2 := by
  rw [val_main_v204_apply, val_main_v202_apply, val_main_v186_apply, val_main_c_42_apply, val_main_v203_apply, val_main_c_47_apply, r_v200_1, st10_2]
theorem r_call20_v0 (i : S64x1.Idx) : val_main_call20_v0 (F := Ideal) i = (st11 (0#32, 43#32) (BitVec.ofNat 32 (i 0).val)).1 := by
  rw [val_main_call20_v0_apply, r_v201, r_v204, st11_1]
theorem r_call20_v6 (i : S64x1.Idx) : val_main_call20_v6 (F := Ideal) i = (st11 (0#32, 43#32) (BitVec.ofNat 32 (i 0).val)).2 := by
  rw [val_main_call20_v6_apply, val_main_call20_v5_apply, val_main_call20_v2_apply, val_main_call20_v1_apply, val_main_call20_c_apply, val_main_call20_v4_apply, val_main_call20_v3_apply, val_main_call20_c_0_apply, shli_host, shrui_host, r_v204, r_call20_v0, st11_2']
theorem r_call20_v7 (i : S64x1.Idx) : val_main_call20_v7 (F := Ideal) i = (st12 (0#32, 43#32) (BitVec.ofNat 32 (i 0).val)).1 := by
  rw [val_main_call20_v7_apply, r_call20_v0, r_call20_v6, st12_1]
theorem r_call20_v13 (i : S64x1.Idx) : val_main_call20_v13 (F := Ideal) i = (st12 (0#32, 43#32) (BitVec.ofNat 32 (i 0).val)).2 := by
  rw [val_main_call20_v13_apply, val_main_call20_v12_apply, val_main_call20_v9_apply, val_main_call20_v8_apply, val_main_call20_c_1_apply, val_main_call20_v11_apply, val_main_call20_v10_apply, val_main_call20_c_2_apply, shli_host, shrui_host, r_call20_v6, r_call20_v7, st12_2']
theorem r_call20_v14 (i : S64x1.Idx) : val_main_call20_v14 (F := Ideal) i = (st13 (0#32, 43#32) (BitVec.ofNat 32 (i 0).val)).1 := by
  rw [val_main_call20_v14_apply, r_call20_v7, r_call20_v13, st13_1]
theorem r_call20_v20 (i : S64x1.Idx) : val_main_call20_v20 (F := Ideal) i = (st13 (0#32, 43#32) (BitVec.ofNat 32 (i 0).val)).2 := by
  rw [val_main_call20_v20_apply, val_main_call20_v19_apply, val_main_call20_v16_apply, val_main_call20_v15_apply, val_main_call20_c_3_apply, val_main_call20_v18_apply, val_main_call20_v17_apply, val_main_call20_c_4_apply, shli_host, shrui_host, r_call20_v13, r_call20_v14, st13_2']
theorem r_v205_0 (i : S64x1.Idx) : val_main_v205_0 (F := Ideal) i = (st14 (0#32, 43#32) (BitVec.ofNat 32 (i 0).val)).1 := by
  rw [val_main_v205_0_apply, r_call20_v14, r_call20_v20, st14_1]
theorem r_v206 (i : S64x1.Idx) : val_main_v206 (F := Ideal) i = (st15 (0#32, 43#32) (BitVec.ofNat 32 (i 0).val)).1 := by
  rw [val_main_v206_apply, val_main_v186_apply, val_main_c_42_apply, r_v205_0, st15_1]
theorem r_v205_1 (i : S64x1.Idx) : val_main_v205_1 (F := Ideal) i = (st14 (0#32, 43#32) (BitVec.ofNat 32 (i 0).val)).2 := by
  rw [val_main_v205_1_apply, val_main_call20_v26_apply, val_main_call20_v23_apply, val_main_call20_v22_apply, val_main_call20_c_5_apply, val_main_call20_v25_apply, val_main_call20_v24_apply, val_main_call20_c_6_apply, shli_host, shrui_host, r_call20_v20, r_v205_0, st14_2']
theorem r_v209 (i : S64x1.Idx) : val_main_v209 (F := Ideal) i = (st15 (0#32, 43#32) (BitVec.ofNat 32 (i 0).val)).2 := by
  rw [val_main_v209_apply, val_main_v207_apply, val_main_v187_apply, val_main_c_43_apply, val_main_v208_apply, val_main_c_48_apply, r_v205_1, st15_2]
theorem r_call21_v0 (i : S64x1.Idx) : val_main_call21_v0 (F := Ideal) i = (st16 (0#32, 43#32) (BitVec.ofNat 32 (i 0).val)).1 := by
  rw [val_main_call21_v0_apply, r_v206, r_v209, st16_1]
theorem r_call21_v6 (i : S64x1.Idx) : val_main_call21_v6 (F := Ideal) i = (st16 (0#32, 43#32) (BitVec.ofNat 32 (i 0).val)).2 := by
  rw [val_main_call21_v6_apply, val_main_call21_v5_apply, val_main_call21_v2_apply, val_main_call21_v1_apply, val_main_call21_c_apply, val_main_call21_v4_apply, val_main_call21_v3_apply, val_main_call21_c_0_apply, shli_host, shrui_host, r_v209, r_call21_v0, st16_2']
theorem r_call21_v7 (i : S64x1.Idx) : val_main_call21_v7 (F := Ideal) i = (st17 (0#32, 43#32) (BitVec.ofNat 32 (i 0).val)).1 := by
  rw [val_main_call21_v7_apply, r_call21_v0, r_call21_v6, st17_1]
theorem r_call21_v13 (i : S64x1.Idx) : val_main_call21_v13 (F := Ideal) i = (st17 (0#32, 43#32) (BitVec.ofNat 32 (i 0).val)).2 := by
  rw [val_main_call21_v13_apply, val_main_call21_v12_apply, val_main_call21_v9_apply, val_main_call21_v8_apply, val_main_call21_c_1_apply, val_main_call21_v11_apply, val_main_call21_v10_apply, val_main_call21_c_2_apply, shli_host, shrui_host, r_call21_v6, r_call21_v7, st17_2']
theorem r_call21_v14 (i : S64x1.Idx) : val_main_call21_v14 (F := Ideal) i = (st18 (0#32, 43#32) (BitVec.ofNat 32 (i 0).val)).1 := by
  rw [val_main_call21_v14_apply, r_call21_v7, r_call21_v13, st18_1]
theorem r_call21_v20 (i : S64x1.Idx) : val_main_call21_v20 (F := Ideal) i = (st18 (0#32, 43#32) (BitVec.ofNat 32 (i 0).val)).2 := by
  rw [val_main_call21_v20_apply, val_main_call21_v19_apply, val_main_call21_v16_apply, val_main_call21_v15_apply, val_main_call21_c_3_apply, val_main_call21_v18_apply, val_main_call21_v17_apply, val_main_call21_c_4_apply, shli_host, shrui_host, r_call21_v13, r_call21_v14, st18_2']
theorem r_v210_0 (i : S64x1.Idx) : val_main_v210_0 (F := Ideal) i = (st19 (0#32, 43#32) (BitVec.ofNat 32 (i 0).val)).1 := by
  rw [val_main_v210_0_apply, r_call21_v14, r_call21_v20, st19_1]
theorem r_v211 (i : S64x1.Idx) : val_main_v211 (F := Ideal) i = (st20 (0#32, 43#32) (BitVec.ofNat 32 (i 0).val)).1 := by
  rw [val_main_v211_apply, val_main_v187_apply, val_main_c_43_apply, r_v210_0, st20_1]
theorem r_v210_1 (i : S64x1.Idx) : val_main_v210_1 (F := Ideal) i = (st19 (0#32, 43#32) (BitVec.ofNat 32 (i 0).val)).2 := by
  rw [val_main_v210_1_apply, val_main_call21_v26_apply, val_main_call21_v23_apply, val_main_call21_v22_apply, val_main_call21_c_5_apply, val_main_call21_v25_apply, val_main_call21_v24_apply, val_main_call21_c_6_apply, shli_host, shrui_host, r_call21_v20, r_v210_0, st19_2']
theorem r_v214 (i : S64x1.Idx) : val_main_v214 (F := Ideal) i = (st20 (0#32, 43#32) (BitVec.ofNat 32 (i 0).val)).2 := by
  rw [val_main_v214_apply, val_main_v212_apply, val_main_v213_apply, val_main_c_49_apply, r_v210_1, r_v192, st20_2]
theorem r_call22_v0 (i : S64x1.Idx) : val_main_call22_v0 (F := Ideal) i = (st21 (0#32, 43#32) (BitVec.ofNat 32 (i 0).val)).1 := by
  rw [val_main_call22_v0_apply, r_v211, r_v214, st21_1]
theorem r_call22_v6 (i : S64x1.Idx) : val_main_call22_v6 (F := Ideal) i = (st21 (0#32, 43#32) (BitVec.ofNat 32 (i 0).val)).2 := by
  rw [val_main_call22_v6_apply, val_main_call22_v5_apply, val_main_call22_v2_apply, val_main_call22_v1_apply, val_main_call22_c_apply, val_main_call22_v4_apply, val_main_call22_v3_apply, val_main_call22_c_0_apply, shli_host, shrui_host, r_v214, r_call22_v0, st21_2']
theorem r_call22_v7 (i : S64x1.Idx) : val_main_call22_v7 (F := Ideal) i = (st22 (0#32, 43#32) (BitVec.ofNat 32 (i 0).val)).1 := by
  rw [val_main_call22_v7_apply, r_call22_v0, r_call22_v6, st22_1]
theorem r_call22_v13 (i : S64x1.Idx) : val_main_call22_v13 (F := Ideal) i = (st22 (0#32, 43#32) (BitVec.ofNat 32 (i 0).val)).2 := by
  rw [val_main_call22_v13_apply, val_main_call22_v12_apply, val_main_call22_v9_apply, val_main_call22_v8_apply, val_main_call22_c_1_apply, val_main_call22_v11_apply, val_main_call22_v10_apply, val_main_call22_c_2_apply, shli_host, shrui_host, r_call22_v6, r_call22_v7, st22_2']
theorem r_call22_v14 (i : S64x1.Idx) : val_main_call22_v14 (F := Ideal) i = (st23 (0#32, 43#32) (BitVec.ofNat 32 (i 0).val)).1 := by
  rw [val_main_call22_v14_apply, r_call22_v7, r_call22_v13, st23_1]
theorem r_call22_v20 (i : S64x1.Idx) : val_main_call22_v20 (F := Ideal) i = (st23 (0#32, 43#32) (BitVec.ofNat 32 (i 0).val)).2 := by
  rw [val_main_call22_v20_apply, val_main_call22_v19_apply, val_main_call22_v16_apply, val_main_call22_v15_apply, val_main_call22_c_3_apply, val_main_call22_v18_apply, val_main_call22_v17_apply, val_main_call22_c_4_apply, shli_host, shrui_host, r_call22_v13, r_call22_v14, st23_2']
theorem r_v215_0 (i : S64x1.Idx) : val_main_v215_0 (F := Ideal) i = (st24 (0#32, 43#32) (BitVec.ofNat 32 (i 0).val)).1 := by
  rw [val_main_v215_0_apply, r_call22_v14, r_call22_v20, st24_1]
theorem r_v216 (i : S64x1.Idx) : val_main_v216 (F := Ideal) i = (drawKey (BitVec.ofNat 32 (i 0).val)).1 := by
  rw [val_main_v216_apply, r_v215_0, r_v192, st25_1, drawKey_def]
theorem r_v221 (i : S64x100000.Idx) : val_main_v221 (F := Ideal) i = (drawKey (BitVec.ofNat 32 (i 0).val)).1 := (val_main_v221_apply (F := Ideal) i).trans (r_v216 _)
theorem r_v227 (i : S64x100000.Idx) : val_main_v227 (F := Ideal) i = (st0 (drawKey (BitVec.ofNat 32 (i 0).val)) (BitVec.ofNat 32 (i 1).val)).1 := by
  rw [val_main_v227_apply, val_main_v223_apply, val_main_c_51_apply, r_v221, st0_1 (drawKey (BitVec.ofNat 32 (i 0).val)) (BitVec.ofNat 32 (i 1).val)]
theorem r_v220 (i : S64x100000.Idx) : val_main_v220 (F := Ideal) i = (BitVec.ofNat 32 (i 1).val) := rfl
theorem r_v215_1 (i : S64x1.Idx) : val_main_v215_1 (F := Ideal) i = (st24 (0#32, 43#32) (BitVec.ofNat 32 (i 0).val)).2 := by
  rw [val_main_v215_1_apply, val_main_call22_v26_apply, val_main_call22_v23_apply, val_main_call22_v22_apply, val_main_call22_c_5_apply, val_main_call22_v25_apply, val_main_call22_v24_apply, val_main_call22_c_6_apply, shli_host, shrui_host, r_call22_v20, r_v215_0, st24_2']
theorem r_v219 (i : S64x1.Idx) : val_main_v219 (F := Ideal) i = (drawKey (BitVec.ofNat 32 (i 0).val)).2 := by
  rw [val_main_v219_apply, val_main_v217_apply, val_main_v186_apply, val_main_c_42_apply, val_main_v218_apply, val_main_c_50_apply, r_v215_1, st25_2, drawKey_def]
theorem r_v222 (i : S64x100000.Idx) : val_main_v222 (F := Ideal) i = (drawKey (BitVec.ofNat 32 (i 0).val)).2 := (val_main_v222_apply (F := Ideal) i).trans (r_v219 _)
theorem r_v228 (i : S64x100000.Idx) : val_main_v228 (F := Ideal) i = (st0 (drawKey (BitVec.ofNat 32 (i 0).val)) (BitVec.ofNat 32 (i 1).val)).2 := by
  rw [val_main_v228_apply, r_v220, r_v222, st0_2 (drawKey (BitVec.ofNat 32 (i 0).val)) (BitVec.ofNat 32 (i 1).val)]
theorem r_call23_v0 (i : S64x100000.Idx) : val_main_call23_v0 (F := Ideal) i = (st1 (drawKey (BitVec.ofNat 32 (i 0).val)) (BitVec.ofNat 32 (i 1).val)).1 := by
  rw [val_main_call23_v0_apply, r_v227, r_v228, st1_1]
theorem r_call23_v6 (i : S64x100000.Idx) : val_main_call23_v6 (F := Ideal) i = (st1 (drawKey (BitVec.ofNat 32 (i 0).val)) (BitVec.ofNat 32 (i 1).val)).2 := by
  rw [val_main_call23_v6_apply, val_main_call23_v5_apply, val_main_call23_v2_apply, val_main_call23_v1_apply, val_main_call23_c_apply, val_main_call23_v4_apply, val_main_call23_v3_apply, val_main_call23_c_0_apply, shli_host, shrui_host, r_v228, r_call23_v0, st1_2']
theorem r_call23_v7 (i : S64x100000.Idx) : val_main_call23_v7 (F := Ideal) i = (st2 (drawKey (BitVec.ofNat 32 (i 0).val)) (BitVec.ofNat 32 (i 1).val)).1 := by
  rw [val_main_call23_v7_apply, r_call23_v0, r_call23_v6, st2_1]
theorem r_call23_v13 (i : S64x100000.Idx) : val_main_call23_v13 (F := Ideal) i = (st2 (drawKey (BitVec.ofNat 32 (i 0).val)) (BitVec.ofNat 32 (i 1).val)).2 := by
  rw [val_main_call23_v13_apply, val_main_call23_v12_apply, val_main_call23_v9_apply, val_main_call23_v8_apply, val_main_call23_c_1_apply, val_main_call23_v11_apply, val_main_call23_v10_apply, val_main_call23_c_2_apply, shli_host, shrui_host, r_call23_v6, r_call23_v7, st2_2']
theorem r_call23_v14 (i : S64x100000.Idx) : val_main_call23_v14 (F := Ideal) i = (st3 (drawKey (BitVec.ofNat 32 (i 0).val)) (BitVec.ofNat 32 (i 1).val)).1 := by
  rw [val_main_call23_v14_apply, r_call23_v7, r_call23_v13, st3_1]
theorem r_call23_v20 (i : S64x100000.Idx) : val_main_call23_v20 (F := Ideal) i = (st3 (drawKey (BitVec.ofNat 32 (i 0).val)) (BitVec.ofNat 32 (i 1).val)).2 := by
  rw [val_main_call23_v20_apply, val_main_call23_v19_apply, val_main_call23_v16_apply, val_main_call23_v15_apply, val_main_call23_c_3_apply, val_main_call23_v18_apply, val_main_call23_v17_apply, val_main_call23_c_4_apply, shli_host, shrui_host, r_call23_v13, r_call23_v14, st3_2']
theorem r_v229_0 (i : S64x100000.Idx) : val_main_v229_0 (F := Ideal) i = (st4 (drawKey (BitVec.ofNat 32 (i 0).val)) (BitVec.ofNat 32 (i 1).val)).1 := by
  rw [val_main_v229_0_apply, r_call23_v14, r_call23_v20, st4_1]
theorem r_v230 (i : S64x100000.Idx) : val_main_v230 (F := Ideal) i = (st5 (drawKey (BitVec.ofNat 32 (i 0).val)) (BitVec.ofNat 32 (i 1).val)).1 := by
  rw [val_main_v230_apply, r_v229_0, r_v222, st5_1]
theorem r_v229_1 (i : S64x100000.Idx) : val_main_v229_1 (F := Ideal) i = (st4 (drawKey (BitVec.ofNat 32 (i 0).val)) (BitVec.ofNat 32 (i 1).val)).2 := by
  rw [val_main_v229_1_apply, val_main_call23_v26_apply, val_main_call23_v23_apply, val_main_call23_v22_apply, val_main_call23_c_5_apply, val_main_call23_v25_apply, val_main_call23_v24_apply, val_main_call23_c_6_apply, shli_host, shrui_host, r_call23_v20, r_v229_0, st4_2']
theorem r_v226 (i : S64x100000.Idx) : val_main_v226 (F := Ideal) i = (key3 (drawKey (BitVec.ofNat 32 (i 0).val)).1 (drawKey (BitVec.ofNat 32 (i 0).val)).2) := by
  rw [val_main_v226_apply, val_main_v224_apply, val_main_v225_apply, val_main_c_52_apply, r_v221, r_v222, key3_def]
theorem r_v233 (i : S64x100000.Idx) : val_main_v233 (F := Ideal) i = (st5 (drawKey (BitVec.ofNat 32 (i 0).val)) (BitVec.ofNat 32 (i 1).val)).2 := by
  rw [val_main_v233_apply, val_main_v231_apply, val_main_v232_apply, val_main_c_53_apply, r_v229_1, r_v226, st5_2]
theorem r_call24_v0 (i : S64x100000.Idx) : val_main_call24_v0 (F := Ideal) i = (st6 (drawKey (BitVec.ofNat 32 (i 0).val)) (BitVec.ofNat 32 (i 1).val)).1 := by
  rw [val_main_call24_v0_apply, r_v230, r_v233, st6_1]
theorem r_call24_v6 (i : S64x100000.Idx) : val_main_call24_v6 (F := Ideal) i = (st6 (drawKey (BitVec.ofNat 32 (i 0).val)) (BitVec.ofNat 32 (i 1).val)).2 := by
  rw [val_main_call24_v6_apply, val_main_call24_v5_apply, val_main_call24_v2_apply, val_main_call24_v1_apply, val_main_call24_c_apply, val_main_call24_v4_apply, val_main_call24_v3_apply, val_main_call24_c_0_apply, shli_host, shrui_host, r_v233, r_call24_v0, st6_2']
theorem r_call24_v7 (i : S64x100000.Idx) : val_main_call24_v7 (F := Ideal) i = (st7 (drawKey (BitVec.ofNat 32 (i 0).val)) (BitVec.ofNat 32 (i 1).val)).1 := by
  rw [val_main_call24_v7_apply, r_call24_v0, r_call24_v6, st7_1]
theorem r_call24_v13 (i : S64x100000.Idx) : val_main_call24_v13 (F := Ideal) i = (st7 (drawKey (BitVec.ofNat 32 (i 0).val)) (BitVec.ofNat 32 (i 1).val)).2 := by
  rw [val_main_call24_v13_apply, val_main_call24_v12_apply, val_main_call24_v9_apply, val_main_call24_v8_apply, val_main_call24_c_1_apply, val_main_call24_v11_apply, val_main_call24_v10_apply, val_main_call24_c_2_apply, shli_host, shrui_host, r_call24_v6, r_call24_v7, st7_2']
theorem r_call24_v14 (i : S64x100000.Idx) : val_main_call24_v14 (F := Ideal) i = (st8 (drawKey (BitVec.ofNat 32 (i 0).val)) (BitVec.ofNat 32 (i 1).val)).1 := by
  rw [val_main_call24_v14_apply, r_call24_v7, r_call24_v13, st8_1]
theorem r_call24_v20 (i : S64x100000.Idx) : val_main_call24_v20 (F := Ideal) i = (st8 (drawKey (BitVec.ofNat 32 (i 0).val)) (BitVec.ofNat 32 (i 1).val)).2 := by
  rw [val_main_call24_v20_apply, val_main_call24_v19_apply, val_main_call24_v16_apply, val_main_call24_v15_apply, val_main_call24_c_3_apply, val_main_call24_v18_apply, val_main_call24_v17_apply, val_main_call24_c_4_apply, shli_host, shrui_host, r_call24_v13, r_call24_v14, st8_2']
theorem r_v234_0 (i : S64x100000.Idx) : val_main_v234_0 (F := Ideal) i = (st9 (drawKey (BitVec.ofNat 32 (i 0).val)) (BitVec.ofNat 32 (i 1).val)).1 := by
  rw [val_main_v234_0_apply, r_call24_v14, r_call24_v20, st9_1]
theorem r_v235 (i : S64x100000.Idx) : val_main_v235 (F := Ideal) i = (st10 (drawKey (BitVec.ofNat 32 (i 0).val)) (BitVec.ofNat 32 (i 1).val)).1 := by
  rw [val_main_v235_apply, r_v234_0, r_v226, st10_1]
theorem r_v234_1 (i : S64x100000.Idx) : val_main_v234_1 (F := Ideal) i = (st9 (drawKey (BitVec.ofNat 32 (i 0).val)) (BitVec.ofNat 32 (i 1).val)).2 := by
  rw [val_main_v234_1_apply, val_main_call24_v26_apply, val_main_call24_v23_apply, val_main_call24_v22_apply, val_main_call24_c_5_apply, val_main_call24_v25_apply, val_main_call24_v24_apply, val_main_call24_c_6_apply, shli_host, shrui_host, r_call24_v20, r_v234_0, st9_2']
theorem r_v238 (i : S64x100000.Idx) : val_main_v238 (F := Ideal) i = (st10 (drawKey (BitVec.ofNat 32 (i 0).val)) (BitVec.ofNat 32 (i 1).val)).2 := by
  rw [val_main_v238_apply, val_main_v236_apply, val_main_v237_apply, val_main_c_54_apply, r_v234_1, r_v221, st10_2]
theorem r_call25_v0 (i : S64x100000.Idx) : val_main_call25_v0 (F := Ideal) i = (st11 (drawKey (BitVec.ofNat 32 (i 0).val)) (BitVec.ofNat 32 (i 1).val)).1 := by
  rw [val_main_call25_v0_apply, r_v235, r_v238, st11_1]
theorem r_call25_v6 (i : S64x100000.Idx) : val_main_call25_v6 (F := Ideal) i = (st11 (drawKey (BitVec.ofNat 32 (i 0).val)) (BitVec.ofNat 32 (i 1).val)).2 := by
  rw [val_main_call25_v6_apply, val_main_call25_v5_apply, val_main_call25_v2_apply, val_main_call25_v1_apply, val_main_call25_c_apply, val_main_call25_v4_apply, val_main_call25_v3_apply, val_main_call25_c_0_apply, shli_host, shrui_host, r_v238, r_call25_v0, st11_2']
theorem r_call25_v7 (i : S64x100000.Idx) : val_main_call25_v7 (F := Ideal) i = (st12 (drawKey (BitVec.ofNat 32 (i 0).val)) (BitVec.ofNat 32 (i 1).val)).1 := by
  rw [val_main_call25_v7_apply, r_call25_v0, r_call25_v6, st12_1]
theorem r_call25_v13 (i : S64x100000.Idx) : val_main_call25_v13 (F := Ideal) i = (st12 (drawKey (BitVec.ofNat 32 (i 0).val)) (BitVec.ofNat 32 (i 1).val)).2 := by
  rw [val_main_call25_v13_apply, val_main_call25_v12_apply, val_main_call25_v9_apply, val_main_call25_v8_apply, val_main_call25_c_1_apply, val_main_call25_v11_apply, val_main_call25_v10_apply, val_main_call25_c_2_apply, shli_host, shrui_host, r_call25_v6, r_call25_v7, st12_2']
theorem r_call25_v14 (i : S64x100000.Idx) : val_main_call25_v14 (F := Ideal) i = (st13 (drawKey (BitVec.ofNat 32 (i 0).val)) (BitVec.ofNat 32 (i 1).val)).1 := by
  rw [val_main_call25_v14_apply, r_call25_v7, r_call25_v13, st13_1]
theorem r_call25_v20 (i : S64x100000.Idx) : val_main_call25_v20 (F := Ideal) i = (st13 (drawKey (BitVec.ofNat 32 (i 0).val)) (BitVec.ofNat 32 (i 1).val)).2 := by
  rw [val_main_call25_v20_apply, val_main_call25_v19_apply, val_main_call25_v16_apply, val_main_call25_v15_apply, val_main_call25_c_3_apply, val_main_call25_v18_apply, val_main_call25_v17_apply, val_main_call25_c_4_apply, shli_host, shrui_host, r_call25_v13, r_call25_v14, st13_2']
theorem r_v239_0 (i : S64x100000.Idx) : val_main_v239_0 (F := Ideal) i = (st14 (drawKey (BitVec.ofNat 32 (i 0).val)) (BitVec.ofNat 32 (i 1).val)).1 := by
  rw [val_main_v239_0_apply, r_call25_v14, r_call25_v20, st14_1]
theorem r_v240 (i : S64x100000.Idx) : val_main_v240 (F := Ideal) i = (st15 (drawKey (BitVec.ofNat 32 (i 0).val)) (BitVec.ofNat 32 (i 1).val)).1 := by
  rw [val_main_v240_apply, r_v239_0, r_v221, st15_1]
theorem r_v239_1 (i : S64x100000.Idx) : val_main_v239_1 (F := Ideal) i = (st14 (drawKey (BitVec.ofNat 32 (i 0).val)) (BitVec.ofNat 32 (i 1).val)).2 := by
  rw [val_main_v239_1_apply, val_main_call25_v26_apply, val_main_call25_v23_apply, val_main_call25_v22_apply, val_main_call25_c_5_apply, val_main_call25_v25_apply, val_main_call25_v24_apply, val_main_call25_c_6_apply, shli_host, shrui_host, r_call25_v20, r_v239_0, st14_2']
theorem r_v243 (i : S64x100000.Idx) : val_main_v243 (F := Ideal) i = (st15 (drawKey (BitVec.ofNat 32 (i 0).val)) (BitVec.ofNat 32 (i 1).val)).2 := by
  rw [val_main_v243_apply, val_main_v241_apply, val_main_v242_apply, val_main_c_55_apply, r_v239_1, r_v222, st15_2]
theorem r_call26_v0 (i : S64x100000.Idx) : val_main_call26_v0 (F := Ideal) i = (st16 (drawKey (BitVec.ofNat 32 (i 0).val)) (BitVec.ofNat 32 (i 1).val)).1 := by
  rw [val_main_call26_v0_apply, r_v240, r_v243, st16_1]
theorem r_call26_v6 (i : S64x100000.Idx) : val_main_call26_v6 (F := Ideal) i = (st16 (drawKey (BitVec.ofNat 32 (i 0).val)) (BitVec.ofNat 32 (i 1).val)).2 := by
  rw [val_main_call26_v6_apply, val_main_call26_v5_apply, val_main_call26_v2_apply, val_main_call26_v1_apply, val_main_call26_c_apply, val_main_call26_v4_apply, val_main_call26_v3_apply, val_main_call26_c_0_apply, shli_host, shrui_host, r_v243, r_call26_v0, st16_2']
theorem r_call26_v7 (i : S64x100000.Idx) : val_main_call26_v7 (F := Ideal) i = (st17 (drawKey (BitVec.ofNat 32 (i 0).val)) (BitVec.ofNat 32 (i 1).val)).1 := by
  rw [val_main_call26_v7_apply, r_call26_v0, r_call26_v6, st17_1]
theorem r_call26_v13 (i : S64x100000.Idx) : val_main_call26_v13 (F := Ideal) i = (st17 (drawKey (BitVec.ofNat 32 (i 0).val)) (BitVec.ofNat 32 (i 1).val)).2 := by
  rw [val_main_call26_v13_apply, val_main_call26_v12_apply, val_main_call26_v9_apply, val_main_call26_v8_apply, val_main_call26_c_1_apply, val_main_call26_v11_apply, val_main_call26_v10_apply, val_main_call26_c_2_apply, shli_host, shrui_host, r_call26_v6, r_call26_v7, st17_2']
theorem r_call26_v14 (i : S64x100000.Idx) : val_main_call26_v14 (F := Ideal) i = (st18 (drawKey (BitVec.ofNat 32 (i 0).val)) (BitVec.ofNat 32 (i 1).val)).1 := by
  rw [val_main_call26_v14_apply, r_call26_v7, r_call26_v13, st18_1]
theorem r_call26_v20 (i : S64x100000.Idx) : val_main_call26_v20 (F := Ideal) i = (st18 (drawKey (BitVec.ofNat 32 (i 0).val)) (BitVec.ofNat 32 (i 1).val)).2 := by
  rw [val_main_call26_v20_apply, val_main_call26_v19_apply, val_main_call26_v16_apply, val_main_call26_v15_apply, val_main_call26_c_3_apply, val_main_call26_v18_apply, val_main_call26_v17_apply, val_main_call26_c_4_apply, shli_host, shrui_host, r_call26_v13, r_call26_v14, st18_2']
theorem r_v244_0 (i : S64x100000.Idx) : val_main_v244_0 (F := Ideal) i = (st19 (drawKey (BitVec.ofNat 32 (i 0).val)) (BitVec.ofNat 32 (i 1).val)).1 := by
  rw [val_main_v244_0_apply, r_call26_v14, r_call26_v20, st19_1]
theorem r_v245 (i : S64x100000.Idx) : val_main_v245 (F := Ideal) i = (st20 (drawKey (BitVec.ofNat 32 (i 0).val)) (BitVec.ofNat 32 (i 1).val)).1 := by
  rw [val_main_v245_apply, r_v244_0, r_v222, st20_1]
theorem r_v244_1 (i : S64x100000.Idx) : val_main_v244_1 (F := Ideal) i = (st19 (drawKey (BitVec.ofNat 32 (i 0).val)) (BitVec.ofNat 32 (i 1).val)).2 := by
  rw [val_main_v244_1_apply, val_main_call26_v26_apply, val_main_call26_v23_apply, val_main_call26_v22_apply, val_main_call26_c_5_apply, val_main_call26_v25_apply, val_main_call26_v24_apply, val_main_call26_c_6_apply, shli_host, shrui_host, r_call26_v20, r_v244_0, st19_2']
theorem r_v248 (i : S64x100000.Idx) : val_main_v248 (F := Ideal) i = (st20 (drawKey (BitVec.ofNat 32 (i 0).val)) (BitVec.ofNat 32 (i 1).val)).2 := by
  rw [val_main_v248_apply, val_main_v246_apply, val_main_v247_apply, val_main_c_56_apply, r_v244_1, r_v226, st20_2]
theorem r_call27_v0 (i : S64x100000.Idx) : val_main_call27_v0 (F := Ideal) i = (st21 (drawKey (BitVec.ofNat 32 (i 0).val)) (BitVec.ofNat 32 (i 1).val)).1 := by
  rw [val_main_call27_v0_apply, r_v245, r_v248, st21_1]
theorem r_call27_v6 (i : S64x100000.Idx) : val_main_call27_v6 (F := Ideal) i = (st21 (drawKey (BitVec.ofNat 32 (i 0).val)) (BitVec.ofNat 32 (i 1).val)).2 := by
  rw [val_main_call27_v6_apply, val_main_call27_v5_apply, val_main_call27_v2_apply, val_main_call27_v1_apply, val_main_call27_c_apply, val_main_call27_v4_apply, val_main_call27_v3_apply, val_main_call27_c_0_apply, shli_host, shrui_host, r_v248, r_call27_v0, st21_2']
theorem r_call27_v7 (i : S64x100000.Idx) : val_main_call27_v7 (F := Ideal) i = (st22 (drawKey (BitVec.ofNat 32 (i 0).val)) (BitVec.ofNat 32 (i 1).val)).1 := by
  rw [val_main_call27_v7_apply, r_call27_v0, r_call27_v6, st22_1]
theorem r_call27_v13 (i : S64x100000.Idx) : val_main_call27_v13 (F := Ideal) i = (st22 (drawKey (BitVec.ofNat 32 (i 0).val)) (BitVec.ofNat 32 (i 1).val)).2 := by
  rw [val_main_call27_v13_apply, val_main_call27_v12_apply, val_main_call27_v9_apply, val_main_call27_v8_apply, val_main_call27_c_1_apply, val_main_call27_v11_apply, val_main_call27_v10_apply, val_main_call27_c_2_apply, shli_host, shrui_host, r_call27_v6, r_call27_v7, st22_2']
theorem r_call27_v14 (i : S64x100000.Idx) : val_main_call27_v14 (F := Ideal) i = (st23 (drawKey (BitVec.ofNat 32 (i 0).val)) (BitVec.ofNat 32 (i 1).val)).1 := by
  rw [val_main_call27_v14_apply, r_call27_v7, r_call27_v13, st23_1]
theorem r_call27_v20 (i : S64x100000.Idx) : val_main_call27_v20 (F := Ideal) i = (st23 (drawKey (BitVec.ofNat 32 (i 0).val)) (BitVec.ofNat 32 (i 1).val)).2 := by
  rw [val_main_call27_v20_apply, val_main_call27_v19_apply, val_main_call27_v16_apply, val_main_call27_v15_apply, val_main_call27_c_3_apply, val_main_call27_v18_apply, val_main_call27_v17_apply, val_main_call27_c_4_apply, shli_host, shrui_host, r_call27_v13, r_call27_v14, st23_2']
theorem r_v249_0 (i : S64x100000.Idx) : val_main_v249_0 (F := Ideal) i = (st24 (drawKey (BitVec.ofNat 32 (i 0).val)) (BitVec.ofNat 32 (i 1).val)).1 := by
  rw [val_main_v249_0_apply, r_call27_v14, r_call27_v20, st24_1]
theorem r_v250 (i : S64x100000.Idx) : val_main_v250 (F := Ideal) i = (st25 (drawKey (BitVec.ofNat 32 (i 0).val)) (BitVec.ofNat 32 (i 1).val)).1 := by
  rw [val_main_v250_apply, r_v249_0, r_v226, st25_1]
theorem r_v249_1 (i : S64x100000.Idx) : val_main_v249_1 (F := Ideal) i = (st24 (drawKey (BitVec.ofNat 32 (i 0).val)) (BitVec.ofNat 32 (i 1).val)).2 := by
  rw [val_main_v249_1_apply, val_main_call27_v26_apply, val_main_call27_v23_apply, val_main_call27_v22_apply, val_main_call27_c_5_apply, val_main_call27_v25_apply, val_main_call27_v24_apply, val_main_call27_c_6_apply, shli_host, shrui_host, r_call27_v20, r_v249_0, st24_2']
theorem r_v253 (i : S64x100000.Idx) : val_main_v253 (F := Ideal) i = (st25 (drawKey (BitVec.ofNat 32 (i 0).val)) (BitVec.ofNat 32 (i 1).val)).2 := by
  rw [val_main_v253_apply, val_main_v251_apply, val_main_v252_apply, val_main_c_57_apply, r_v249_1, r_v221, st25_2]
theorem r_v254 (i : S64x100000.Idx) : val_main_v254 (F := Ideal) i = (drawWord (BitVec.ofNat 32 (i 0).val) (BitVec.ofNat 32 (i 1).val)) := by
  rw [val_main_v254_apply, r_v250, r_v253, drawWord_def]

end Cert.Sampler

end
-- ==== Proof.RBits.lean ====
/- The bits that steer the reweighting are the same in both programs, so the reweighted probabilities are; and each row
   of them is a probability distribution, or nowhere a number. -/
module

public import proofs.«01_k».proof.Proof.KOut
public import proofs.«01_k».proof.Proof.RWords
public import proofs.«01_k».proof.Proof.RowLaw
public import proofs.«01_k».proof.Proof.RowFold

@[expose] public section

set_option maxRecDepth 65536

noncomputable section

namespace Cert.Sampler

open Idealize.ShloMosaic Idealize.ShloMosaic.TcCoe Idealize.ShloMosaic.Tactic Idealize.ShloMosaic.ValueIdx
open Idealize.SL.Sem

/-- The reference's bit of a random word, as a float: one where the word's uniform number is under a half. -/
def bernoulli (w : Word) : Ideal .f32 :=
  FloatOps.uitofp .f32 (FloatOps.cmpf (F := Ideal) .olt
    (FloatOps.mulf (FloatOps.sitofp .f32 (IntOp.shrui .host w 9#32)) (lit 0x34000000#32)) (lit 0x3F000000#32))

/-- One where the word, read signed, is not negative. -/
def positive (w : Word) : EReal := if 0 ≤ w.toInt then 1 else 0

theorem lit_scale : (lit 0x34000000#32 : EReal) = ((1 / 8388608 : ℝ) : EReal) := by
  show Ideal.ofBits .f32 0x34000000#32 = _
  simp [Ideal.ofBits, Ideal.ieee, -EReal.coe_mul]; norm_num

theorem lit_half : (lit 0x3F000000#32 : EReal) = ((1 / 2 : ℝ) : EReal) := by
  show Ideal.ofBits .f32 0x3F000000#32 = _
  simp [Ideal.ofBits, Ideal.ieee, -EReal.coe_mul]; norm_num

theorem part_pos : (0 : EReal) < part := by
  show 0 < Ideal.ofBits .f32 0x3F666666#32
  have : Ideal.ofBits .f32 0x3F666666#32 = ((15099494 / 16777216 : ℝ) : EReal) := by
    simp [Ideal.ofBits, Ideal.ieee, -EReal.coe_mul]; norm_num
  rw [this]
  exact_mod_cast (by norm_num : (0 : ℝ) < 15099494 / 16777216)

theorem shifted_toInt (w : Word) : (IntOp.shrui .host w 9#32).toInt = (w.toNat / 512 : Nat) := by
  have h : IntOp.shrui .host w 9#32 = w >>> 9 := rfl
  have hn : (w >>> 9).toNat = w.toNat / 512 := by rw [BitVec.toNat_ushiftRight, Nat.shiftRight_eq_div_pow]
  have hw := w.isLt
  rw [h, BitVec.toInt_eq_toNat_of_lt (by rw [hn]; omega), hn]

theorem half_iff (w : Word) : ((w.toNat / 512 : Nat) : ℝ) * (1 / 8388608) < 1 / 2 ↔ 0 ≤ w.toInt := by
  have h1 : ((w.toNat / 512 : Nat) : ℝ) * (1 / 8388608) < 1 / 2 ↔ ((w.toNat / 512 : Nat) : ℝ) < ((4194304 : Nat) : ℝ) := by
    constructor <;> intro h <;> push_cast at * <;> linarith
  rw [h1, Nat.cast_lt, BitVec.toInt_eq_toNat_cond]
  have := w.isLt
  split <;> omega

theorem bernoulli_eq (w : Word) : (bernoulli w : EReal) = positive w := by
  classical
  have hm : (FloatOps.mulf (F := Ideal) (FloatOps.sitofp .f32 (IntOp.shrui .host w 9#32)) (lit 0x34000000#32) : EReal)
      = ((((w.toNat / 512 : Nat) : ℝ) * (1 / 8388608) : ℝ) : EReal) := by
    show ((((IntOp.shrui .host w 9#32).toInt : ℝ)) : EReal) * (lit 0x34000000#32 : EReal) = _
    rw [lit_scale, shifted_toInt, EReal.coe_mul]
    norm_cast
  have hc : FloatOps.cmpf (F := Ideal) .olt
      (FloatOps.mulf (FloatOps.sitofp .f32 (IntOp.shrui .host w 9#32)) (lit 0x34000000#32)) (lit 0x3F000000#32)
      = BitVec.ofBool (decide (0 ≤ w.toInt)) := by
    refine congrArg BitVec.ofBool (decide_eq_decide.mpr ?_)
    show ((FloatOps.mulf (F := Ideal) (FloatOps.sitofp .f32 (IntOp.shrui .host w 9#32)) (lit 0x34000000#32) : EReal) < (lit 0x3F000000#32 : EReal)) ↔ _
    rw [hm, lit_half, EReal.coe_lt_coe_iff]
    exact half_iff w
  unfold bernoulli positive
  rw [hc]
  by_cases h : 0 ≤ w.toInt
  · rw [if_pos h, decide_eq_true h]
    show (((1#1 : BitVec 1).toNat : ℝ) : EReal) = 1
    simp
  · rw [if_neg h, decide_eq_false h]
    show (((0#1 : BitVec 1).toNat : ℝ) : EReal) = 0
    simp

theorem signed_iff (w : Word) : IntOp.cmpi .sge w 0#32 = BitVec.ofBool (decide (0 ≤ w.toInt)) := by
  show BitVec.ofBool _ = _
  refine congrArg BitVec.ofBool ?_
  simp [BitVec.sle]

/-- The four bits, taken apart again. -/
theorem apart : ∀ a b c d : Bool,
    IntOp.andi (IntOp.shrsi .host (IntOp.ori (IntOp.ori (IntOp.ori (IntOp.ori 0#32 (Scalar.select (BitVec.ofBool a) 1#32 0#32))
      (Scalar.select (BitVec.ofBool b) 2#32 0#32)) (Scalar.select (BitVec.ofBool c) 4#32 0#32)) (Scalar.select (BitVec.ofBool d) 8#32 0#32)) 0#32) 1#32
        = (BitVec.ofBool a).setWidth 32
    ∧ IntOp.andi (IntOp.shrsi .host (IntOp.ori (IntOp.ori (IntOp.ori (IntOp.ori 0#32 (Scalar.select (BitVec.ofBool a) 1#32 0#32))
      (Scalar.select (BitVec.ofBool b) 2#32 0#32)) (Scalar.select (BitVec.ofBool c) 4#32 0#32)) (Scalar.select (BitVec.ofBool d) 8#32 0#32)) 1#32) 1#32
        = (BitVec.ofBool b).setWidth 32
    ∧ IntOp.andi (IntOp.shrsi .host (IntOp.ori (IntOp.ori (IntOp.ori (IntOp.ori 0#32 (Scalar.select (BitVec.ofBool a) 1#32 0#32))
      (Scalar.select (BitVec.ofBool b) 2#32 0#32)) (Scalar.select (BitVec.ofBool c) 4#32 0#32)) (Scalar.select (BitVec.ofBool d) 8#32 0#32)) 2#32) 1#32
        = (BitVec.ofBool c).setWidth 32
    ∧ IntOp.andi (IntOp.shrsi .host (IntOp.ori (IntOp.ori (IntOp.ori (IntOp.ori 0#32 (Scalar.select (BitVec.ofBool a) 1#32 0#32))
      (Scalar.select (BitVec.ofBool b) 2#32 0#32)) (Scalar.select (BitVec.ofBool c) 4#32 0#32)) (Scalar.select (BitVec.ofBool d) 8#32 0#32)) 3#32) 1#32
        = (BitVec.ofBool d).setWidth 32 := by
  intro a b c d
  cases a <;> cases b <;> cases c <;> cases d <;> refine ⟨?_, ?_, ?_, ?_⟩ <;> rfl

theorem float_bit (w : Word) : ((((BitVec.ofBool (decide (0 ≤ w.toInt))).setWidth 32).toInt : ℝ) : EReal) = positive w := by
  unfold positive
  by_cases h : 0 ≤ w.toInt
  · rw [if_pos h, decide_eq_true h]; simp
  · rw [if_neg h, decide_eq_false h]; simp

open Cert.KernelIdeal Cert.KernelIdeal.Gen

theorem bitOf_apply (x : IVec S64x100000 32) (d : Word) (z : S64x100000.Idx) :
    (bitOf x d z : EReal) = (((IntOp.andi (IntOp.shrsi .host (x z) d) 1#32).toInt : ℝ) : EReal) := rfl

theorem rowBits_apply (x0 : IVec S64x2048 32) (b : Fin 64) (k : Fin 100000) :
    rowBits x0 (ix2 b k) = bitsOf (priorSum x0 (ix1 b)) (BitVec.ofNat 32 k.val) := rfl

theorem bitOf_0 (x0 : IVec S64x2048 32) (b : Fin 64) (k : Fin 100000) :
    (bitOf (rowBits x0) 0#32 (ix2 b k) : EReal) = positive (bitWord (priorSum x0 (ix1 b)) 0#32 (BitVec.ofNat 32 k.val)) := by
  rw [bitOf_apply, rowBits_apply]
  unfold bitsOf
  rw [signed_iff, signed_iff, signed_iff, signed_iff, (apart _ _ _ _).1, float_bit]

theorem bitOf_1 (x0 : IVec S64x2048 32) (b : Fin 64) (k : Fin 100000) :
    (bitOf (rowBits x0) 1#32 (ix2 b k) : EReal) = positive (bitWord (priorSum x0 (ix1 b)) 1#32 (BitVec.ofNat 32 k.val)) := by
  rw [bitOf_apply, rowBits_apply]
  unfold bitsOf
  rw [signed_iff, signed_iff, signed_iff, signed_iff, (apart _ _ _ _).2.1, float_bit]

theorem bitOf_2 (x0 : IVec S64x2048 32) (b : Fin 64) (k : Fin 100000) :
    (bitOf (rowBits x0) 2#32 (ix2 b k) : EReal) = positive (bitWord (priorSum x0 (ix1 b)) 2#32 (BitVec.ofNat 32 k.val)) := by
  rw [bitOf_apply, rowBits_apply]
  unfold bitsOf
  rw [signed_iff, signed_iff, signed_iff, signed_iff, (apart _ _ _ _).2.2.1, float_bit]

theorem bitOf_3 (x0 : IVec S64x2048 32) (b : Fin 64) (k : Fin 100000) :
    (bitOf (rowBits x0) 3#32 (ix2 b k) : EReal) = positive (bitWord (priorSum x0 (ix1 b)) 3#32 (BitVec.ofNat 32 k.val)) := by
  rw [bitOf_apply, rowBits_apply]
  unfold bitsOf
  rw [signed_iff, signed_iff, signed_iff, signed_iff, (apart _ _ _ _).2.2.2, float_bit]

section reference

open Cert.ReferenceIdeal.Read

variable (x0 : IVec ⟨2, ![64, 2048]⟩ 32) (x1 : FVec Ideal ⟨2, ![64, 100000]⟩ .f32)

theorem r_v113 (i : Cert.ReferenceIdeal.S64x4x100000.Idx) : val_main_v113 (F := Ideal) x0 i = bernoulli (val_main_v104 (F := Ideal) x0 i) := by
  rw [val_main_v113_apply, val_main_v112_apply, val_main_v110_apply, val_main_v111_apply, val_main_v109_apply, val_main_v108_apply,
    val_main_v107_apply, val_main_v106_apply, val_main_v105_apply]
  rfl

theorem prior_eq : val_main_v1 (F := Ideal) x0 = priorSum x0 := rfl

theorem r_bit (i : Cert.ReferenceIdeal.S64x4x100000.Idx) (b : Fin 64) (d : Word) (k : Fin 100000)
    (h0 : (i 0).val = b.val) (h1 : BitVec.ofNat 32 (i 1).val = d) (h2 : (i 2).val = k.val) : (val_main_v113 (F := Ideal) x0 i : EReal)
    = positive (bitWord (priorSum x0 (ix1 b)) d (BitVec.ofNat 32 k.val)) := by
  have hp : pidw x0 b.val = priorSum x0 (ix1 b) := by
    unfold pidw
    rw [dif_pos b.isLt, prior_eq]
  rw [r_v113, bernoulli_eq, r_v104, h0, h1, h2, hp]

theorem r_v126 : val_main_v126 (F := Ideal) x0 = bitOf (rowBits x0) 0#32 := by
  funext z
  obtain ⟨b, k, rfl⟩ : ∃ (b : Fin 64) (k : Fin 100000), z = ix2 b k := ⟨z 0, z 1, eq_ix2 z⟩
  have hb := b.isLt
  have hk := k.isLt
  rw [val_main_v126_apply, val_main_v125_apply]
  refine (r_bit x0 _ b 0#32 k ?_ ?_ ?_).trans (bitOf_0 x0 b k).symm
  · show (b.val * 100000 + k.val) / 100000 = b.val; omega
  · rfl
  · show (b.val * 100000 + k.val) % 100000 = k.val; omega

theorem r_v136 : val_main_v136 (F := Ideal) x0 = bitOf (rowBits x0) 1#32 := by
  funext z
  obtain ⟨b, k, rfl⟩ : ∃ (b : Fin 64) (k : Fin 100000), z = ix2 b k := ⟨z 0, z 1, eq_ix2 z⟩
  have hb := b.isLt
  have hk := k.isLt
  rw [val_main_v136_apply, val_main_v135_apply]
  refine (r_bit x0 _ b 1#32 k ?_ ?_ ?_).trans (bitOf_1 x0 b k).symm
  · show (b.val * 100000 + k.val) / 100000 = b.val; omega
  · rfl
  · show (b.val * 100000 + k.val) % 100000 = k.val; omega

theorem r_v146 : val_main_v146 (F := Ideal) x0 = bitOf (rowBits x0) 2#32 := by
  funext z
  obtain ⟨b, k, rfl⟩ : ∃ (b : Fin 64) (k : Fin 100000), z = ix2 b k := ⟨z 0, z 1, eq_ix2 z⟩
  have hb := b.isLt
  have hk := k.isLt
  rw [val_main_v146_apply, val_main_v145_apply]
  refine (r_bit x0 _ b 2#32 k ?_ ?_ ?_).trans (bitOf_2 x0 b k).symm
  · show (b.val * 100000 + k.val) / 100000 = b.val; omega
  · rfl
  · show (b.val * 100000 + k.val) % 100000 = k.val; omega

theorem r_v156 : val_main_v156 (F := Ideal) x0 = bitOf (rowBits x0) 3#32 := by
  funext z
  obtain ⟨b, k, rfl⟩ : ∃ (b : Fin 64) (k : Fin 100000), z = ix2 b k := ⟨z 0, z 1, eq_ix2 z⟩
  have hb := b.isLt
  have hk := k.isLt
  rw [val_main_v156_apply, val_main_v155_apply]
  refine (r_bit x0 _ b 3#32 k ?_ ?_ ?_).trans (bitOf_3 x0 b k).symm
  · show (b.val * 100000 + k.val) / 100000 = b.val; omega
  · rfl
  · show (b.val * 100000 + k.val) % 100000 = k.val; omega

theorem r_v124 : val_main_v124 (F := Ideal) x1 = soft x1 := rfl
theorem r_v134 : val_main_v134 (F := Ideal) x0 x1 = reweighted (val_main_v126 (F := Ideal) x0) (val_main_v124 (F := Ideal) x1) := rfl
theorem r_v144 : val_main_v144 (F := Ideal) x0 x1 = reweighted (val_main_v136 (F := Ideal) x0) (val_main_v134 (F := Ideal) x0 x1) := rfl
theorem r_v154 : val_main_v154 (F := Ideal) x0 x1 = reweighted (val_main_v146 (F := Ideal) x0) (val_main_v144 (F := Ideal) x0 x1) := rfl
theorem r_v164' : val_main_v164 (F := Ideal) x0 x1 = reweighted (val_main_v156 (F := Ideal) x0) (val_main_v154 (F := Ideal) x0 x1) := rfl

/-- The reference's reweighted probabilities are the kernel's. -/
theorem r_v164 : val_main_v164 (F := Ideal) x0 x1 = rowProbs x0 x1 := by
  rw [r_v164', r_v154, r_v144, r_v134, r_v124, r_v126, r_v136, r_v146, r_v156]
  rfl

end reference

/-! Each row of the probabilities. -/

theorem rows_at (x : FVec Ideal S64 .f32) (b : Fin 64) (k : Fin 100000) : rows x (ix2 b k) = x (ix1 b) := by
  have h1 := broadcastInDim_apply ![0, 1] bcast_S64x1_S64x100000_0_1 (broadcastInDim S64x1 ![0] bcast_S64_S64x1_0 x) (ix2 b k) (ix2 b (0 : Fin 1))
    (fun a => match a with
      | ⟨0, _⟩ => by show b.val = if (64 : Nat) = 1 then 0 else b.val; rw [if_neg (by decide)]
      | ⟨1, _⟩ => by show 0 = if (1 : Nat) = 1 then 0 else k.val; rw [if_pos rfl])
  refine h1.trans ?_
  exact broadcastInDim_apply ![0] bcast_S64_S64x1_0 x (ix2 b (0 : Fin 1)) (ix1 b)
    (fun a => match a with
      | ⟨0, _⟩ => by show b.val = if (64 : Nat) = 1 then 0 else b.val; rw [if_neg (by decide)])

theorem lift_row (h : S64x100000.Reduces [1] S64) (b : Fin 64) (k : Fin 100000) : h.lift (ix1 b) k = (ix2 b k : S64x100000.Idx) :=
  funext fun a => Fin.ext (by match a with | ⟨0, _⟩ => rfl | ⟨1, _⟩ => rfl)

theorem sum_row (x : FVec Ideal S64x100000 .f32) (b : Fin 64) :
    (Host.reduceAdd x (constant (F := Ideal) S_ .f32 0x00000000#32) reducesTo_S64x100000_S64_d1 h_S_ (ix1 b) : EReal)
      = ∑ k : Fin 100000, (x (ix2 b k) : EReal) := by
  simp only [Host.reduceAdd, Ideal.hostReduceAdd_def]
  rw [Ideal.hostReduceAdd_single reducesTo_S64x100000_S64_d1 (by decide)]
  have h0 : (constant (F := Ideal) S_ .f32 0x00000000#32 (Shape.Idx.first h_S_) : EReal) = 0 := Ideal.ofBits_zero_f32
  rw [h0, zero_add]
  exact Finset.sum_congr rfl fun k _ => congrArg x (lift_row _ b k)

theorem max_row (x : FVec Ideal S64x100000 .f32) (i : FVec Ideal S_ .f32) (b : Fin 64) :
    Host.reduce FloatOps.maximumf x i reducesTo_S64x100000_S64_d1 h_S_ (ix1 b)
      = Finset.univ.fold (FloatOps.maximumf (F := Ideal) (φ := .f32)) (i (Shape.Idx.first h_S_)) (fun k : Fin 100000 => x (ix2 b k)) := by
  rw [Host.reduce_eq_fold_single FloatOps.maximumf x i reducesTo_S64x100000_S64_d1 (by decide) h_S_ (ix1 b)]
  exact Finset.fold_congr fun k _ => congrArg x (lift_row _ b k)

end Cert.Sampler

end
-- ==== Proof.RLaw.lean ====
/- Each row of the reweighted probabilities is a probability distribution, or nowhere a number. -/
module

public import proofs.«01_k».proof.Proof.RBits

@[expose] public section

set_option maxRecDepth 65536

noncomputable section

namespace Cert.Sampler

open Idealize.ShloMosaic Idealize.ShloMosaic.TcCoe Idealize.ShloMosaic.Tactic Idealize.ShloMosaic.ValueIdx
open Cert.KernelIdeal Cert.KernelIdeal.Gen

/-- The largest of each row. -/
def peak0 (x : FVec Ideal S64x100000 .f32) : FVec Ideal S64 .f32 :=
  Host.reduce FloatOps.maximumf x (constant (F := Ideal) S_ .f32 0xFF800000#32) reducesTo_S64x100000_S64_d1 h_S_

/-- The same against the least value. -/
def peak (x : FVec Ideal S64x100000 .f32) : FVec Ideal S64 .f32 :=
  maximumf (broadcastInDim S64 ![] bcast_S_S64 (constant (F := Ideal) S_ .f32 0xFF800000#32)) (peak0 x)

/-- The sum of each row. -/
def sums (x : FVec Ideal S64x100000 .f32) : FVec Ideal S64 .f32 :=
  Host.reduceAdd x (constant (F := Ideal) S_ .f32 0x00000000#32) reducesTo_S64x100000_S64_d1 h_S_

theorem sums_apply (x : FVec Ideal S64x100000 .f32) (b : Fin 64) : (sums x (ix1 b) : EReal) = ∑ k : Fin 100000, (x (ix2 b k) : EReal) :=
  sum_row x b

/-! The host's operations at a place. -/

theorem exp_at (y : FVec Ideal S64x100000 .f32) (z : S64x100000.Idx) : (Host.exp y z : EReal) = Ideal.exp (y z) := rfl
theorem sub_at (y w : FVec Ideal S64x100000 .f32) (z : S64x100000.Idx) : (subf y w z : EReal) = (y z : EReal) - w z := rfl
theorem add_at (y w : FVec Ideal S64x100000 .f32) (z : S64x100000.Idx) : (addf y w z : EReal) = (y z : EReal) + w z := rfl
theorem mul_at (y w : FVec Ideal S64x100000 .f32) (z : S64x100000.Idx) : (mulf y w z : EReal) = (y z : EReal) * w z := rfl
theorem div_at (y w : FVec Ideal S64x100000 .f32) (z : S64x100000.Idx) : (Host.divf y w z : EReal) = Ideal.div (y z) (w z) := rfl
theorem const_at (y : BitVec 32) (z : S_.Idx) : (constant (F := Ideal) S_ .f32 y z : EReal) = lit y := rfl
theorem all_at (y : BitVec 32) (z : S64x100000.Idx) : (all (constant (F := Ideal) S_ .f32 y) z : EReal) = lit y := rfl
theorem over_at (y : BitVec 32) (v : FVec Ideal S64 .f32) (z : S64.Idx) :
    (maximumf (broadcastInDim S64 ![] bcast_S_S64 (constant (F := Ideal) S_ .f32 y)) v z : EReal) = max (lit y : EReal) (v z) := rfl

theorem lit_bot : (lit 0xFF800000#32 : EReal) = ⊥ := by
  show Ideal.ofBits .f32 0xFF800000#32 = ⊥
  simp [Ideal.ofBits, Ideal.ieee]

theorem peak0_spec (x : FVec Ideal S64x100000 .f32) (b : Fin 64) :
    (∀ k, (x (ix2 b k) : EReal) ≤ peak0 x (ix1 b)) ∧ ∃ k, (x (ix2 b k) : EReal) = peak0 x (ix1 b) := by
  unfold peak0
  rw [max_row]
  obtain ⟨h1, k, -, h2⟩ := fold_largest Finset.univ ⟨(⟨0, by norm_num⟩ : Fin 100000), Finset.mem_univ _⟩ (fun k : Fin 100000 => x (ix2 b k))
    (constant (F := Ideal) S_ .f32 0xFF800000#32 (Shape.Idx.first h_S_)) ((const_at _ _).trans lit_bot)
  exact ⟨fun k => h1 k (Finset.mem_univ k), k, h2⟩

theorem peak_at (x : FVec Ideal S64x100000 .f32) (z : S64.Idx) : (peak x z : EReal) = peak0 x z := by
  unfold peak
  rw [over_at, lit_bot]
  exact max_eq_right bot_le

theorem peak_spec (x : FVec Ideal S64x100000 .f32) (b : Fin 64) :
    (∀ k, (x (ix2 b k) : EReal) ≤ peak x (ix1 b)) ∧ ∃ k, (x (ix2 b k) : EReal) = peak x (ix1 b) := by
  rw [peak_at]
  exact peak0_spec x b

theorem soft_eq (x : FVec Ideal S64x100000 .f32) :
    soft x = Host.divf (Host.exp (subf x (rows (peak x)))) (rows (sums (Host.exp (subf x (rows (peak x)))))) := by
  unfold soft peak peak0 sums
  rfl

theorem reweighted_eq (g p : FVec Ideal S64x100000 .f32) :
    reweighted g p = mulf p (subf (addf (all (constant (F := Ideal) S_ .f32 0x3F800000#32)) g) (rows (sums (mulf g p)))) := by
  unfold reweighted sums
  rfl

theorem exponential (x : FVec Ideal S64x100000 .f32) (b : Fin 64) (k : Fin 100000) :
    (Host.exp (subf x (rows (peak x))) (ix2 b k) : EReal) = Ideal.exp ((x (ix2 b k) : EReal) - peak x (ix1 b)) := by
  rw [exp_at, sub_at, rows_at]

theorem soft_apply (x : FVec Ideal S64x100000 .f32) (b : Fin 64) (k : Fin 100000) : (soft x (ix2 b k) : EReal)
    = Ideal.div (Ideal.exp ((x (ix2 b k) : EReal) - peak x (ix1 b))) (∑ k : Fin 100000, Ideal.exp ((x (ix2 b k) : EReal) - peak x (ix1 b))) := by
  rw [soft_eq, div_at, rows_at, sums_apply, exponential]
  exact congrArg _ (Finset.sum_congr rfl fun k _ => exponential x b k)

theorem reweighted_apply (g p : FVec Ideal S64x100000 .f32) (b : Fin 64) (k : Fin 100000) : (reweighted g p (ix2 b k) : EReal)
    = (p (ix2 b k) : EReal) * ((1 + (g (ix2 b k) : EReal)) - ∑ k : Fin 100000, (g (ix2 b k) : EReal) * (p (ix2 b k) : EReal)) := by
  have h1 : (lit 0x3F800000#32 : EReal) = 1 := Ideal.ofBits_one_f32
  rw [reweighted_eq, mul_at, sub_at, add_at, all_at, h1, rows_at, sums_apply]
  exact congrArg (fun s : EReal => (p (ix2 b k) : EReal) * ((1 + (g (ix2 b k) : EReal)) - s)) (Finset.sum_congr rfl fun k _ => mul_at g p _)

theorem positive_bit (w : Word) : positive w = 0 ∨ positive w = 1 := by
  unfold positive
  split
  · exact .inr rfl
  · exact .inl rfl

theorem law_congr {n : Nat} (p q : Fin n → EReal) (h : ∀ i, p i = q i) (hq : Law q) : Law p := by
  rw [funext h]
  exact hq

theorem law_reweighted (g p : FVec Ideal S64x100000 .f32) (b : Fin 64) (hg : ∀ k : Fin 100000, (g (ix2 b k) : EReal) = 0 ∨ (g (ix2 b k) : EReal) = 1)
    (hp : Law fun k : Fin 100000 => (p (ix2 b k) : EReal)) : Law fun k : Fin 100000 => (reweighted g p (ix2 b k) : EReal) := by
  have h := law_step (fun k : Fin 100000 => (p (ix2 b k) : EReal)) (fun k => (g (ix2 b k) : EReal)) hg hp
  exact law_congr _ _ (fun k => reweighted_apply g p b k) h

/-- Each row of the reweighted probabilities is a probability distribution, or nowhere a number. -/
theorem law_rowProbs (x0 : IVec S64x2048 32) (x1 : FVec Ideal S64x100000 .f32) (b : Fin 64) :
    Law fun k : Fin 100000 => (rowProbs x0 x1 (ix2 b k) : EReal) := by
  have h0 : Law fun k : Fin 100000 => (soft x1 (ix2 b k) : EReal) := by
    have h := law_soft (fun k : Fin 100000 => (x1 (ix2 b k) : EReal)) (peak x1 (ix1 b)) (peak_spec x1 b).1 (peak_spec x1 b).2
    exact law_congr _ _ (fun k => soft_apply x1 b k) h
  have h1 := law_reweighted (bitOf (rowBits x0) 0#32) (soft x1) b (fun k => by rw [bitOf_0]; exact positive_bit _) h0
  have h2 := law_reweighted (bitOf (rowBits x0) 1#32) _ b (fun k => by rw [bitOf_1]; exact positive_bit _) h1
  have h3 := law_reweighted (bitOf (rowBits x0) 2#32) _ b (fun k => by rw [bitOf_2]; exact positive_bit _) h2
  exact law_reweighted (bitOf (rowBits x0) 3#32) _ b (fun k => by rw [bitOf_3]; exact positive_bit _) h3

end Cert.Sampler

end
-- ==== Proof.RSort.lean ====
/- The two sorts of the negated probabilities at the extended reals: the reference's stable sort that carries the
   positions along, and the kernel's sort, which leaves the order of equal values open and so leaves the same row. -/
module

public import proofs.«01_k».proof.Proof.HostK
public import proofs.«01_k».proof.Proof.RowSort
public import proofs.«01_k».proof.Proof.Gen.ReferenceIdeal.Read
public import proofs.«01_k».proof.Proof.RowFold
public import Idealize.ShloMosaic.Lib.ValueIdx

@[expose] public section

set_option maxRecDepth 65536

noncomputable section

namespace Cert.Sampler

open Idealize.ShloMosaic Idealize.ShloMosaic.TcCoe Idealize.ShloMosaic.Tactic Idealize.ShloMosaic.ValueIdx
open Idealize.SL.Sem

/-- The value a comparator compares in place of `l` is `l` itself: no value is unequal to itself, and a value equal to
    the zero is the zero. -/
theorem compared (l y z : Ideal .f32) :
    Scalar.select (FloatOps.cmpf (F := Ideal) .une l l) z (Scalar.select (FloatOps.cmpf (F := Ideal) .oeq l y) y l) = l := by
  classical
  have h1 : FloatOps.cmpf (F := Ideal) .une l l = 0#1 := by
    show BitVec.ofBool (decide ((l : EReal) ≠ l)) = 0#1
    simp
  by_cases h : (l : EReal) = y
  · have h2 : FloatOps.cmpf (F := Ideal) .oeq l y = 1#1 := by
      show BitVec.ofBool (decide ((l : EReal) = y)) = 1#1
      simp [h]
    rw [h1, h2]
    exact h.symm
  · have h2 : FloatOps.cmpf (F := Ideal) .oeq l y = 0#1 := by
      show BitVec.ofBool (decide ((l : EReal) = y)) = 0#1
      simp [h]
    rw [h1, h2]
    rfl

theorem less_iff (l r : Ideal .f32) : FloatOps.cmpfTotal (F := Ideal) .lt l r = 1#1 ↔ (l : EReal) < r := by
  classical
  exact (ofBool_eq_one _).trans decide_eq_true_iff

theorem cmpK_iff (l r : Ideal .f32) : Cert.KernelIdeal.comparator_f32_d1 (F := Ideal) l r = 1#1 ↔ (l : EReal) < r := by
  refine Iff.trans (Eq.to_iff (congrArg (· = 1#1) ?_)) (less_iff l r)
  exact congrArg₂ (FloatOps.cmpfTotal (F := Ideal) .lt) (compared l _ _) (compared r _ _)

theorem cmpR_iff (l r : Ideal .f32 × BitVec 32) :
    Cert.ReferenceIdeal.comparator_f32_i32_d1 (F := Ideal) l r = 1#1 ↔ (l.1 : EReal) < r.1 := by
  refine Iff.trans (Eq.to_iff (congrArg (· = 1#1) ?_)) (less_iff l.1 r.1)
  exact congrArg₂ (FloatOps.cmpfTotal (F := Ideal) .lt) (compared l.1 _ _) (compared r.1 _ _)

open Cert.KernelIdeal Cert.KernelIdeal.Gen

theorem along_row {A B : Nat} (b : Fin A) (k : Fin B) (hd : 1 < (⟨2, ![A, B]⟩ : Shape).rank) (k' : Fin B) :
    Shape.Idx.along (s := ⟨2, ![A, B]⟩) (ix2 b k) ⟨1, hd⟩ k' = ix2 b k' := by
  unfold Shape.Idx.along
  funext a
  match a with
  | ⟨0, _⟩ => rfl
  | ⟨1, _⟩ => rfl

theorem unstable_row {A B : Nat} {α : Type} (cmp : α → α → BitVec 1) (x : (⟨2, ![A, B]⟩ : Shape).Idx → α) (b : Fin A) (k : Fin B) :
    Host.unstableSort ⟨2, ![A, B]⟩ 1 cmp x (ix2 b k)
      = x (ix2 b (sortedFrom (unstableBefore ⟨2, ![A, B]⟩ 1 cmp fun k' : Fin B => x (ix2 b k')) k)) := by
  have hd : 1 < (⟨2, ![A, B]⟩ : Shape).rank := Nat.one_lt_two
  have e : (fun k' : Fin B => x (Shape.Idx.along (s := ⟨2, ![A, B]⟩) (ix2 b k) ⟨1, hd⟩ k')) = fun k' : Fin B => x (ix2 b k') :=
    funext fun k' => congrArg x (along_row b k hd k')
  unfold Host.unstableSort
  rw [dif_pos hd]
  refine (congrArg (fun g : Fin B → α => x (Shape.Idx.along (s := ⟨2, ![A, B]⟩) (ix2 b k) ⟨1, hd⟩
    (sortedFrom (unstableBefore ⟨2, ![A, B]⟩ 1 cmp g) k))) e).trans ?_
  exact congrArg x (along_row b k hd _)

theorem pair_row {A B : Nat} {α β : Type} (cmp : α × β → α × β → BitVec 1) (x : (⟨2, ![A, B]⟩ : Shape).Idx → α)
    (y : (⟨2, ![A, B]⟩ : Shape).Idx → β) (b : Fin A) (k : Fin B) :
    (Host.sort2 ⟨2, ![A, B]⟩ 1 cmp x y).1 (ix2 b k)
        = x (ix2 b (sortedFrom (fun k k' : Fin B => cmp (x (ix2 b k), y (ix2 b k)) (x (ix2 b k'), y (ix2 b k')) == 1#1) k))
      ∧ (Host.sort2 ⟨2, ![A, B]⟩ 1 cmp x y).2 (ix2 b k)
        = y (ix2 b (sortedFrom (fun k k' : Fin B => cmp (x (ix2 b k), y (ix2 b k)) (x (ix2 b k'), y (ix2 b k')) == 1#1) k)) := by
  have hd : 1 < (⟨2, ![A, B]⟩ : Shape).rank := Nat.one_lt_two
  have e : (fun k' k'' : Fin B => cmp
        (x (Shape.Idx.along (s := ⟨2, ![A, B]⟩) (ix2 b k) ⟨1, hd⟩ k'), y (Shape.Idx.along (s := ⟨2, ![A, B]⟩) (ix2 b k) ⟨1, hd⟩ k'))
        (x (Shape.Idx.along (s := ⟨2, ![A, B]⟩) (ix2 b k) ⟨1, hd⟩ k''), y (Shape.Idx.along (s := ⟨2, ![A, B]⟩) (ix2 b k) ⟨1, hd⟩ k'')) == 1#1)
      = fun k' k'' : Fin B => cmp (x (ix2 b k'), y (ix2 b k')) (x (ix2 b k''), y (ix2 b k'')) == 1#1 := by
    funext k' k''
    rw [along_row, along_row]
  unfold Host.sort2
  rw [dif_pos hd]
  refine ⟨?_, ?_⟩
  · refine (congrArg (fun R : Fin B → Fin B → Bool => x (Shape.Idx.along (s := ⟨2, ![A, B]⟩) (ix2 b k) ⟨1, hd⟩ (sortedFrom R k))) e).trans ?_
    exact congrArg x (along_row b k hd _)
  · refine (congrArg (fun R : Fin B → Fin B → Bool => y (Shape.Idx.along (s := ⟨2, ![A, B]⟩) (ix2 b k) ⟨1, hd⟩ (sortedFrom R k))) e).trans ?_
    exact congrArg y (along_row b k hd _)

/-- The position in its row of the element at each place of the sorted row. -/
def ranked (p : FVec Ideal S64x100000 .f32) (b : Fin 64) : Fin 100000 → Fin 100000 :=
  sortedFrom fun k k' => Cert.ReferenceIdeal.comparator_f32_i32_d1 (F := Ideal)
    (Host.negf p (ix2 b k), BitVec.ofNat 32 k.val) (Host.negf p (ix2 b k'), BitVec.ofNat 32 k'.val) == 1#1

theorem ranked_bijective (p : FVec Ideal S64x100000 .f32) (b : Fin 64) : Function.Bijective (ranked p b) :=
  ⟨sortedFrom_injective _, sortedFrom_surjective _⟩

theorem ranked_earlier (p : FVec Ideal S64x100000 .f32) (b : Fin 64) (i j : Fin 100000) (hij : i < j) :
    Earlier (fun k => (-(p (ix2 b k) : EReal))) (ranked p b i) (ranked p b j) := by
  refine earlier_sortedFrom (fun k => (-(p (ix2 b k) : EReal))) _ (fun k k' => ?_) i j hij
  rw [beq_iff_eq]
  exact cmpR_iff _ _

/-- The place the kernel's sort takes each element of the sorted row from. -/
def openly (p : FVec Ideal S64x100000 .f32) (b : Fin 64) : Fin 100000 → Fin 100000 :=
  sortedFrom (unstableBefore S64x100000 1 (comparator_f32_d1 (F := Ideal)) fun k : Fin 100000 => Host.negf p (ix2 b k))

theorem openly_monotone (p : FVec Ideal S64x100000 .f32) (b : Fin 64) :
    Monotone fun k => (-(p (ix2 b (openly p b k)) : EReal)) := by
  intro i j hij
  rcases hij.eq_or_lt with rfl | hij
  · exact le_rfl
  have h := unstableBefore_sorted S64x100000 1 (comparator_f32_d1 (F := Ideal)) (fun k : Fin 100000 => Host.negf p (ix2 b k))
    (fun x y hxy hyx => absurd ((cmpK_iff _ _).mp hxy) (not_lt_of_gt ((cmpK_iff _ _).mp hyx)))
    (fun x y z hxy hyz hxz => ?_) i j hij
  · exact not_lt.mp fun hlt => h ((cmpK_iff _ _).mpr hlt)
  · have h1 := not_lt.mp fun hh => hxy ((cmpK_iff _ _).mpr hh)
    have h2 := not_lt.mp fun hh => hyz ((cmpK_iff _ _).mpr hh)
    exact absurd ((cmpK_iff _ _).mp hxz) (not_lt.mpr (h2.trans h1))

theorem sorted_below {n : Nat} (f : Fin n → EReal) (σ τ : Fin n → Fin n) (hσ : Function.Bijective σ) (hτ : Function.Bijective τ)
    (mσ : Monotone fun k => f (σ k)) (mτ : Monotone fun k => f (τ k)) (k : Fin n) : f (τ k) ≤ f (σ k) := by
  classical
  by_contra h
  rw [not_le] at h
  have h1 : (Finset.Iic k).image σ ⊆ Finset.univ.filter fun i => f i < f (τ k) := fun i hi => by
    obtain ⟨m, hm, rfl⟩ := Finset.mem_image.mp hi
    exact Finset.mem_filter.mpr ⟨Finset.mem_univ _, lt_of_le_of_lt (mσ (Finset.mem_Iic.mp hm)) h⟩
  have h2 : (Finset.univ.filter fun i => f i < f (τ k)) ⊆ (Finset.Iio k).image τ := fun i hi => by
    obtain ⟨m, rfl⟩ := hτ.2 i
    refine Finset.mem_image.mpr ⟨m, Finset.mem_Iio.mpr (not_le.mp fun hm => ?_), rfl⟩
    exact absurd (mτ hm) (not_le.mpr (Finset.mem_filter.mp hi).2)
  have h3 := (Finset.card_le_card h1).trans (Finset.card_le_card h2)
  rw [Finset.card_image_of_injective _ hσ.1, Finset.card_image_of_injective _ hτ.1, Fin.card_Iic, Fin.card_Iio] at h3
  omega

theorem sorted_alike {n : Nat} (f : Fin n → EReal) (σ τ : Fin n → Fin n) (hσ : Function.Bijective σ) (hτ : Function.Bijective τ)
    (mσ : Monotone fun k => f (σ k)) (mτ : Monotone fun k => f (τ k)) (k : Fin n) : f (σ k) = f (τ k) :=
  le_antisymm (sorted_below f τ σ hτ hσ mτ mσ k) (sorted_below f σ τ hσ hτ mσ mτ k)

theorem sortedRow_apply (p : FVec Ideal S64x100000 .f32) (b : Fin 64) (k : Fin 100000) :
    (sortedRow p (ix2 b k) : EReal) = -(p (ix2 b (openly p b k)) : EReal) := by
  exact unstable_row (comparator_f32_d1 (F := Ideal)) (Host.negf p) b k

/-- The kernel's sorted row is the stable one. -/
theorem sortedRow_eq (p : FVec Ideal S64x100000 .f32) (b : Fin 64) (k : Fin 100000) :
    (sortedRow p (ix2 b k) : EReal) = -(p (ix2 b (ranked p b k)) : EReal) := by
  rw [sortedRow_apply]
  refine sorted_alike (fun k => (-(p (ix2 b k) : EReal))) (openly p b) (ranked p b)
    ⟨sortedFrom_injective _, sortedFrom_surjective _⟩ (ranked_bijective p b) (openly_monotone p b) (fun i j hij => ?_) k
  rcases hij.eq_or_lt with rfl | hij
  · exact le_rfl
  · rcases ranked_earlier p b i j hij with h | h
    · exact h.le
    · exact h.1.le

section reference

open Cert.ReferenceIdeal Cert.ReferenceIdeal.Read

variable (x0 : IVec ⟨2, ![64, 2048]⟩ 32) (x1 : FVec Ideal ⟨2, ![64, 100000]⟩ .f32)

theorem r_v167_0 (b : Fin 64) (k : Fin 100000) : (val_main_v167_0 (F := Ideal) x0 x1 (ix2 b k) : EReal)
    = -(val_main_v164 (F := Ideal) x0 x1 (ix2 b (ranked (val_main_v164 (F := Ideal) x0 x1) b k)) : EReal) := by
  unfold val_main_v167_0
  exact (pair_row (Cert.ReferenceIdeal.comparator_f32_i32_d1 (F := Ideal)) (val_main_v166 (F := Ideal) x0 x1) (val_main_v165 (F := Ideal)) b k).1

theorem r_v167_1 (b : Fin 64) (k : Fin 100000) : val_main_v167_1 (F := Ideal) x0 x1 (ix2 b k)
    = BitVec.ofNat 32 (ranked (val_main_v164 (F := Ideal) x0 x1) b k).val := by
  unfold val_main_v167_1
  exact (pair_row (Cert.ReferenceIdeal.comparator_f32_i32_d1 (F := Ideal)) (val_main_v166 (F := Ideal) x0 x1) (val_main_v165 (F := Ideal)) b k).2

theorem r_v168 (b : Fin 64) (k : Fin 100000) : (val_main_v168 (F := Ideal) x0 x1 (ix2 b k) : EReal)
    = val_main_v164 (F := Ideal) x0 x1 (ix2 b (ranked (val_main_v164 (F := Ideal) x0 x1) b k)) := by
  have h : (val_main_v168 (F := Ideal) x0 x1 (ix2 b k) : EReal) = -(val_main_v167_0 (F := Ideal) x0 x1 (ix2 b k) : EReal) := rfl
  rw [h, r_v167_0, neg_neg]

end reference

end Cert.Sampler

end
-- ==== Proof.RScan.lean ====
/- The sums and picks along a row of the reference: the running sum, the count, the largest element's first place and
   the order's element there. -/
module

public import Idealize.ShloMosaic.PureOps.Ideal.Laws
public import Idealize.ShloMosaic.Lib.IdealHost
public import Idealize.ShloMosaic.Lib.ValueIdx
public import proofs.«01_k».proof.Proof.RowLaw
public import proofs.«01_k».proof.Proof.RowFold

@[expose] public section

set_option maxRecDepth 65536

noncomputable section

namespace Cert.Sampler

open Idealize.ShloMosaic Idealize.ShloMosaic.ValueIdx

theorem foldl_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A running sum along the rows, at a place: the sum of what comes up to it. -/
theorem running {A B C : Nat} (hC : C + 1 = B) (x : (⟨2, ![A, B]⟩ : Shape).Idx → EReal)
    (h : (⟨2, ![A, B]⟩ : Shape).ReduceWindows ![1, B] ![1, 1] ![0, C] ![0, 0] ⟨2, ![A, B]⟩) (b : Fin A) (j : Fin B) :
    Ideal.hostReduceWindowAdd ![1, B] ![1, 1] ![0, C] ![0, 0] h x 0 (ix2 b j) = upTo (fun k => x (ix2 b k)) j := by
  classical
  unfold Ideal.hostReduceWindowAdd Host.reduceWindow
  refine (foldl_sum _ _ _).trans ?_
  rw [zero_add, ← Fin.sum_univ_def]
  refine (Equiv.sum_comp (⟨2, ![1, B]⟩ : Shape).rowMajor.symm (fun w : (⟨2, ![1, B]⟩ : Shape).Idx =>
    if hin : ∀ a : Fin 2, (![0, C] : Fin 2 → Nat) a ≤ (ix2 b j (a.cast h.1.symm)).val * (![1, 1] : Fin 2 → Nat) a + (w a).val
        ∧ (ix2 b j (a.cast h.1.symm)).val * (![1, 1] : Fin 2 → Nat) a + (w a).val - (![0, C] : Fin 2 → Nat) a < (![A, B] : Fin 2 → Nat) a
      then x (fun a => ⟨(ix2 b j (a.cast h.1.symm)).val * (![1, 1] : Fin 2 → Nat) a + (w a).val - (![0, C] : Fin 2 → Nat) a, (hin a).2⟩) else 0)).trans ?_
  rw [sum_idx2]
  rw [Fin.sum_univ_one]
  have hj := j.isLt
  have hterm : ∀ w : Fin B, (if hin : ∀ a : Fin 2, (![0, C] : Fin 2 → Nat) a ≤ (ix2 b j (a.cast h.1.symm)).val * (![1, 1] : Fin 2 → Nat) a + (ix2 (0 : Fin 1) w a).val
        ∧ (ix2 b j (a.cast h.1.symm)).val * (![1, 1] : Fin 2 → Nat) a + (ix2 (0 : Fin 1) w a).val - (![0, C] : Fin 2 → Nat) a < (![A, B] : Fin 2 → Nat) a
      then x (fun a => ⟨(ix2 b j (a.cast h.1.symm)).val * (![1, 1] : Fin 2 → Nat) a + (ix2 (0 : Fin 1) w a).val - (![0, C] : Fin 2 → Nat) a, (hin a).2⟩) else 0)
      = if C ≤ j.val + w.val then x (ix2 b ⟨j.val + w.val - C, by have := w.isLt; omega⟩) else 0 := by
    intro w
    have hw := w.isLt
    by_cases hc : C ≤ j.val + w.val
    · rw [if_pos hc, dif_pos ?_]
      · refine congrArg x (funext fun a => Fin.ext ?_)
        match a with
        | ⟨0, _⟩ => show b.val * 1 + 0 - 0 = b.val; omega
        | ⟨1, _⟩ => show j.val * 1 + w.val - C = j.val + w.val - C; omega
      · intro a
        match a with
        | ⟨0, _⟩ => show 0 ≤ b.val * 1 + 0 ∧ b.val * 1 + 0 - 0 < A; have := b.isLt; omega
        | ⟨1, _⟩ => show C ≤ j.val * 1 + w.val ∧ j.val * 1 + w.val - C < B; omega
    · rw [if_neg hc, dif_neg ?_]
      intro hin
      have h1 : C ≤ j.val * 1 + w.val := (hin 1).1
      omega
  refine (Finset.sum_congr rfl fun w _ => hterm w).trans ?_
  rw [← Finset.sum_filter]
  unfold upTo
  refine Finset.sum_bij' (fun w _ => (⟨j.val + w.val - C, by have := w.isLt; omega⟩ : Fin B))
    (fun k hk => (⟨k.val + C - j.val, by
      have := Fin.le_def.mp (Finset.mem_filter.mp hk).2; omega⟩ : Fin B)) ?_ ?_ ?_ ?_ ?_
  · intro w hw
    have h1 := (Finset.mem_filter.mp hw).2
    have h2 := w.isLt
    refine Finset.mem_filter.mpr ⟨Finset.mem_univ _, Fin.le_def.mpr ?_⟩
    show j.val + w.val - C ≤ j.val
    omega
  · intro k hk
    have h1 := Fin.le_def.mp (Finset.mem_filter.mp hk).2
    refine Finset.mem_filter.mpr ⟨Finset.mem_univ _, ?_⟩
    show C ≤ j.val + (k.val + C - j.val)
    omega
  · intro w hw
    have h1 := (Finset.mem_filter.mp hw).2
    have h2 := w.isLt
    refine Fin.ext ?_
    show j.val + w.val - C + C - j.val = w.val
    omega
  · intro k hk
    have h1 := Fin.le_def.mp (Finset.mem_filter.mp hk).2
    refine Fin.ext ?_
    show j.val + (k.val + C - j.val) - C = k.val
    omega
  · intro w _
    rfl

/-- The host's running sum along the rows, from zero, at a place. -/
theorem running_host {A B C : Nat} {u : Shape} (hC : C + 1 = B) (x : FVec Ideal (⟨2, ![A, B]⟩ : Shape) .f32) (init : u.Idx → Ideal .f32)
    (h : (⟨2, ![A, B]⟩ : Shape).ReduceWindows ![1, B] ![1, 1] ![0, C] ![0, 0] ⟨2, ![A, B]⟩) (hu : 0 < u.numel)
    (h0 : (init (Shape.Idx.first hu) : EReal) = 0) (s : Fin B → EReal) (b : Fin A) (hs : ∀ k, (x (ix2 b k) : EReal) = s k) (j : Fin B) :
    (Host.reduceWindowAdd ![1, B] ![1, 1] ![0, C] ![0, 0] x init h hu (ix2 b j) : EReal) = upTo s j := by
  show Ideal.hostReduceWindowAdd ![1, B] ![1, 1] ![0, C] ![0, 0] h x (init (Shape.Idx.first hu)) (ix2 b j) = _
  rw [h0, running hC, funext hs]

theorem less_at (a c : Ideal .f32) : FloatOps.cmpf (F := Ideal) .olt a c = 1#1 ↔ (a : EReal) < c := by
  classical
  exact (ofBool_eq_one _).trans decide_eq_true_iff

open Classical in
theorem same_at (a c : Ideal .f32) {α : Type} (x y : α) :
    Scalar.select (FloatOps.cmpf (F := Ideal) .oeq a c) x y = if (a : EReal) = c then x else y := by
  show (if BitVec.ofBool (decide ((a : EReal) = c)) = 1#1 then x else y) = _
  exact if_congr ((ofBool_eq_one _).trans decide_eq_true_iff) rfl rfl

theorem chosen {α : Type} (q : BitVec 1) (h : q = 1#1) (x y : α) : Scalar.select q x y = x := by rw [h]; rfl

theorem finite_at (a t : Ideal .f32) (ht : (t : EReal) = ⊤) (h : max (a : EReal) (-(a : EReal)) < ⊤) :
    FloatOps.cmpf (F := Ideal) .olt (FloatOps.hostAbsf a) t = 1#1 := by
  rw [less_at, ht]
  exact h

/-- The least of the marked positions, every other position holding the row's length. -/
theorem least_marked (f : Fin 100000 → BitVec 32) (P : Fin 100000 → Prop) [DecidablePred P]
    (hf : ∀ k, f k = if P k then BitVec.ofNat 32 k.val else 100000#32) (hex : ∃ k, P k) :
    ∃ j : Fin 100000, Finset.univ.fold IntOp.minsi 2147483647#32 f = BitVec.ofNat 32 j.val ∧ P j ∧ ∀ k, k < j → ¬ P k := by
  obtain ⟨h1, -, h3⟩ := fold_pick (IntOp.minsi (w := 32)) (fun a b => b.toInt ≤ a.toInt)
    (fun a => le_rfl) (fun a b c h h' => le_trans h' h) minsi_choice minsi_le_left minsi_le_right Finset.univ 2147483647#32 f
  have hle : ∀ k, P k → (Finset.univ.fold IntOp.minsi 2147483647#32 f).toInt ≤ k.val := fun k hk => by
    have := h3 k (Finset.mem_univ k)
    rw [hf k, if_pos hk, toInt_small _ k.isLt] at this
    exact this
  have hbig : (2147483647#32 : BitVec 32).toInt = 2147483647 := by decide
  have hbig' : (100000#32 : BitVec 32).toInt = 100000 := by decide
  obtain ⟨k0, hk0⟩ := hex
  have hk0' := hle k0 hk0
  have hlt := k0.isLt
  have key : ∃ j : Fin 100000, Finset.univ.fold IntOp.minsi 2147483647#32 f = BitVec.ofNat 32 j.val ∧ P j := by
    rcases h1 with h1 | ⟨i, -, h1⟩
    · rw [h1, hbig] at hk0'; omega
    · rw [hf i] at h1
      by_cases hp : P i
      · rw [if_pos hp] at h1; exact ⟨i, h1, hp⟩
      · rw [if_neg hp] at h1; rw [h1, hbig'] at hk0'; omega
  obtain ⟨j, hj, hpj⟩ := key
  refine ⟨j, hj, hpj, fun k hkj hk => ?_⟩
  have := hle k hk
  rw [hj, toInt_small _ j.isLt] at this
  have := Fin.lt_def.mp hkj
  omega

theorem word_inj (i j : Fin 100000) : BitVec.ofNat 32 i.val = BitVec.ofNat 32 j.val ↔ i = j := by
  refine ⟨fun h => Fin.ext ?_, fun h => by rw [h]⟩
  have := congrArg BitVec.toInt h
  rw [toInt_small _ i.isLt, toInt_small _ j.isLt] at this
  exact_mod_cast this

theorem sle_words (k n : Nat) (hk : k < 100000) (hn : n ≤ 100000) :
    IntOp.cmpi .sle (BitVec.ofNat 32 k) (BitVec.ofNat 32 n) = BitVec.ofBool (decide (k ≤ n)) := by
  show BitVec.ofBool ((BitVec.ofNat 32 k).sle (BitVec.ofNat 32 n)) = _
  refine congrArg BitVec.ofBool ?_
  have hn' : (BitVec.ofNat 32 n).toInt = n := by
    rw [BitVec.toInt_eq_toNat_of_lt] <;> rw [BitVec.toNat_ofNat, Nat.mod_eq_of_lt (by omega)]
    omega
  unfold BitVec.sle
  rw [toInt_small k hk, hn']
  simp

theorem eq_words (i j : Fin 100000) :
    IntOp.cmpi .eq (BitVec.ofNat 32 i.val) (BitVec.ofNat 32 j.val) = BitVec.ofBool (decide (i = j)) := by
  show BitVec.ofBool ((BitVec.ofNat 32 i.val) == (BitVec.ofNat 32 j.val)) = _
  refine congrArg BitVec.ofBool ?_
  rw [Bool.eq_iff_iff, beq_iff_eq, decide_eq_true_iff, word_inj]

theorem choose_if {α : Type} (p : Prop) [Decidable p] (a b : α) :
    Scalar.select (BitVec.ofBool (decide p)) a b = if p then a else b := by
  by_cases h : p
  · rw [if_pos h, decide_eq_true h]; rfl
  · rw [if_neg h, decide_eq_false h]; rfl

end Cert.Sampler

end
-- ==== Proof.RRow.lean ====
/- What the reference returns, row by row. -/
module

public import proofs.«01_k».proof.Proof.RLaw
public import proofs.«01_k».proof.Proof.RSort
public import proofs.«01_k».proof.Proof.RScan
public import Idealize.ShloMosaic.Lib.IndicatorCount

@[expose] public section

set_option maxRecDepth 65536

noncomputable section

namespace Cert.Sampler

open Idealize.ShloMosaic Idealize.ShloMosaic.TcCoe Idealize.ShloMosaic.Tactic Idealize.ShloMosaic.ValueIdx
open Cert.ReferenceIdeal.Read

variable (x0 : IVec ⟨2, ![64, 2048]⟩ 32) (x1 : FVec Ideal ⟨2, ![64, 100000]⟩ .f32)

theorem fold_row {α : Type} (f : α → α → α) [Std.Commutative f] [Std.Associative f] (x : Cert.KernelIdeal.S64x100000.Idx → α)
    (i : Cert.KernelIdeal.S_.Idx → α) (h : Cert.KernelIdeal.S64x100000.ReducesTo [1] Cert.KernelIdeal.S64) (hu : 0 < Cert.KernelIdeal.S_.numel) (b : Fin 64) :
    Host.reduce f x i h hu (ix1 b) = Finset.univ.fold f (i (Shape.Idx.first hu)) (fun k : Fin 100000 => x (ix2 b k)) := by
  rw [Host.reduce_eq_fold_single f x i h (by decide) hu (ix1 b)]
  exact Finset.fold_congr fun k _ => congrArg x (lift_row _ b k)

/-- The row's probabilities, the largest first. -/
def falling (b : Fin 64) (k : Fin 100000) : EReal :=
  val_main_v164 (F := Ideal) x0 x1 (ix2 b (ranked (val_main_v164 (F := Ideal) x0 x1) b k))

theorem law_falling (b : Fin 64) : Law (falling x0 x1 b) := by
  refine law_perm (fun k : Fin 100000 => (val_main_v164 (F := Ideal) x0 x1 (ix2 b k) : EReal)) _ (ranked_bijective _ b) ?_
  rw [r_v164]
  exact law_rowProbs x0 x1 b

theorem falling_le (b : Fin 64) (i j : Fin 100000) (hij : i ≤ j) : falling x0 x1 b j ≤ falling x0 x1 b i := by
  rcases hij.eq_or_lt with rfl | hij
  · exact le_rfl
  · rcases ranked_earlier (val_main_v164 (F := Ideal) x0 x1) b i j hij with h | h
    · exact (EReal.neg_lt_neg_iff.mp h).le
    · exact (neg_injective h.1).ge

theorem r_v169 (b : Fin 64) (j : Fin 100000) : (val_main_v169 (F := Ideal) x0 x1 (ix2 b j) : EReal) = upTo (falling x0 x1 b) j := by
  have h0 : (val_main_call15_call0_v0 (F := Ideal) (Shape.Idx.first Cert.ReferenceIdeal.Gen.h_S_) : EReal) = 0 := by
    rw [val_main_call15_call0_v0_apply]; exact Ideal.ofBits_zero_f32
  unfold val_main_v169
  exact running_host (by norm_num) (val_main_v168 (F := Ideal) x0 x1) (val_main_call15_call0_v0 (F := Ideal)) _ _ h0 (falling x0 x1 b) b
    (fun k => r_v168 x0 x1 b k) j

/-- How many places the running sum stays under the part at. -/
def cutoff (b : Fin 64) : Nat := by
  classical exact (Finset.univ.filter fun k : Fin 100000 => upTo (falling x0 x1 b) k < part).card

theorem cutoff_le (b : Fin 64) : cutoff x0 x1 b ≤ 100000 := by
  unfold cutoff
  exact (Finset.card_le_univ _).trans (by rw [Fintype.card_fin])

theorem r_v171 (b : Fin 64) (k : Fin 100000) : val_main_v171 (F := Ideal) x0 x1 (ix2 b k) = 1#1 ↔ upTo (falling x0 x1 b) k < part := by
  rw [val_main_v171_apply, less_at, r_v169, val_main_v170_apply, val_main_cst_36_apply]

theorem r_v173 (b : Fin 64) : val_main_v173 (F := Ideal) x0 x1 (ix1 b) = BitVec.ofNat 32 (cutoff x0 x1 b) := by
  classical
  unfold val_main_v173
  rw [fold_row]
  refine (IndicatorCount.fold_addi_setWidth_eq_card (fun k : Fin 100000 => val_main_v171 (F := Ideal) x0 x1 (ix2 b k)) Finset.univ).trans ?_
  refine congrArg (BitVec.ofNat 32) ?_
  unfold cutoff
  refine congrArg Finset.card (Finset.ext fun k => ?_)
  rw [Finset.mem_filter, Finset.mem_filter, r_v171]

theorem r_v177 (b : Fin 64) (k : Fin 100000) : (val_main_v177 (F := Ideal) x0 x1 (ix2 b k) : EReal) = kept part (falling x0 x1 b) k := by
  classical
  rw [val_main_v177_apply, val_main_v176_apply, val_main_v165_apply, val_main_v175_apply, val_main_v174_apply, r_v168]
  have e1 : idx_main_v174 (idx_main_v175 (ix2 b k)) = ix1 b := by
    funext a; match a with | ⟨0, _⟩ => rfl
  rw [e1, r_v173]
  have e2 : (val_main_call16_v1 (F := Ideal) (ix2 b k) : EReal) = 0 := by
    rw [val_main_call16_v1_apply, val_main_call16_v0_apply, val_main_cst_38_apply]; exact Ideal.ofBits_zero_f32
  rw [e2]
  have e3 : IntOp.cmpi .sle (BitVec.ofNat 32 ((ix2 b k : Cert.ReferenceIdeal.S64x100000.Idx) 1).val) (BitVec.ofNat 32 (cutoff x0 x1 b))
      = BitVec.ofBool (decide (k.val ≤ cutoff x0 x1 b)) := sle_words k.val _ k.isLt (cutoff_le x0 x1 b)
  rw [e3]
  refine (choose_if _ _ _).trans ?_
  unfold kept
  refine if_congr ?_ rfl rfl
  rw [kept_iff part_pos _ (law_falling x0 x1 b) k]
  unfold cutoff
  refine Eq.to_iff (congrArg (fun n => k.val ≤ n) (congrArg Finset.card (Finset.ext fun i => ?_)))
  simp only [Finset.mem_filter]

theorem r_v181 (b : Fin 64) (k : Fin 100000) : (val_main_v181 (F := Ideal) x0 x1 (ix2 b k) : EReal) = share part (falling x0 x1 b) k := by
  rw [val_main_v181_apply, val_main_v180_apply, val_main_v179_apply, val_main_v178_apply]
  have h0 : (val_main_cst_39 (F := Ideal) (Shape.Idx.first Cert.ReferenceIdeal.Gen.h_S_) : EReal) = 0 := Ideal.ofBits_zero_f32
  rw [h0, zero_add]
  have hs : (∑ i : Fin 100000, (val_main_v177 (F := Ideal) x0 x1 (idx_main_v178 (idx_main_v179 (idx_main_v180 (ix2 b k))) i) : EReal))
      = ∑ i : Fin 100000, kept part (falling x0 x1 b) i := Finset.sum_congr rfl fun i _ => by
    have e1 : idx_main_v178 (idx_main_v179 (idx_main_v180 (ix2 b k))) i = ix2 b i := by
      funext a; match a with | ⟨0, _⟩ => rfl | ⟨1, _⟩ => rfl
    rw [e1, r_v177]
  rw [hs, r_v177]
  rfl

theorem lit_top : (lit 0x7F800000#32 : EReal) = ⊤ := by
  show Ideal.ofBits .f32 0x7F800000#32 = ⊤
  simp [Ideal.ofBits, Ideal.ieee]

theorem r_v185 (b : Fin 64) (k : Fin 100000) : (val_main_v185 (F := Ideal) x0 x1 (ix2 b k) : EReal) = share part (falling x0 x1 b) k := by
  classical
  rw [val_main_v185_apply, val_main_v184_apply, val_main_v182_apply, val_main_v183_apply, r_v181]
  refine chosen _ (finite_at _ _ ?_ (share_finite part_pos _ (law_falling x0 x1 b) (falling_le x0 x1 b) k)) _ _
  rw [val_main_cst_40_apply]
  exact lit_top

theorem r_v268 (b : Fin 64) (k : Fin 100000) : (val_main_v268 (F := Ideal) (ix2 b k) : EReal) = gumbel (drawWord (BitVec.ofNat 32 b.val) (BitVec.ofNat 32 k.val)) := by
  have h : (val_main_v268 (F := Ideal) (ix2 b k) : EReal) = gumbel (val_main_v254 (F := Ideal) (ix2 b k)) := by
    rw [val_main_v268_apply, val_main_v267_apply, val_main_v266_apply, val_main_v265_apply, val_main_v264_apply, val_main_v263_apply,
      val_main_v262_apply, val_main_v261_apply, val_main_v260_apply, val_main_v259_apply, val_main_v258_apply, val_main_v257_apply,
      val_main_v256_apply, val_main_v255_apply]
    rfl
  rw [h, r_v254]

/-- The numbers of which the largest is drawn. -/
def drawn (b : Fin 64) (k : Fin 100000) : EReal :=
  Ideal.log (share part (falling x0 x1 b) k) + gumbel (drawWord (BitVec.ofNat 32 b.val) (BitVec.ofNat 32 k.val))

theorem sum_turned (x y : Ideal .f32) : (FloatOps.addf (F := Ideal) x (FloatOps.hostUnary .log y) : EReal) = Ideal.log y + (x : EReal) :=
  add_comm (x : EReal) (Ideal.log y)

theorem r_v270 (b : Fin 64) (k : Fin 100000) : (val_main_v270 (F := Ideal) x0 x1 (ix2 b k) : EReal) = drawn x0 x1 b k := by
  rw [val_main_v270_apply, val_main_v269_apply, r_v185, r_v268]
  exact sum_turned _ _

theorem r_v271 (b : Fin 64) : (∀ k, drawn x0 x1 b k ≤ val_main_v271 (F := Ideal) x0 x1 (ix1 b))
    ∧ ∃ k, drawn x0 x1 b k = val_main_v271 (F := Ideal) x0 x1 (ix1 b) := by
  unfold val_main_v271
  rw [fold_row]
  have hbot : (val_main_cst_62 (F := Ideal) (Shape.Idx.first Cert.ReferenceIdeal.Gen.h_S_) : EReal) = ⊥ := by
    rw [val_main_cst_62_apply]
    exact lit_bot
  obtain ⟨h1, k, -, h2⟩ := fold_largest Finset.univ ⟨(⟨0, by norm_num⟩ : Fin 100000), Finset.mem_univ _⟩
    (fun k : Fin 100000 => val_main_v270 (F := Ideal) x0 x1 (ix2 b k)) (val_main_cst_62 (F := Ideal) (Shape.Idx.first Cert.ReferenceIdeal.Gen.h_S_)) hbot
  exact ⟨fun k => (r_v270 x0 x1 b k).symm.le.trans (h1 k (Finset.mem_univ k)), k, (r_v270 x0 x1 b k).symm.trans h2⟩

theorem r_v276 (b : Fin 64) : ∃ j, Picked (drawn x0 x1 b) j ∧ val_main_v276 (F := Ideal) x0 x1 (ix1 b) = BitVec.ofNat 32 j.val := by
  classical
  obtain ⟨hle, k0, hk0⟩ := r_v271 x0 x1 b
  have hf : ∀ k : Fin 100000, val_main_v275 (F := Ideal) x0 x1 (ix2 b k)
      = if drawn x0 x1 b k = val_main_v271 (F := Ideal) x0 x1 (ix1 b) then BitVec.ofNat 32 k.val else 100000#32 := fun k => by
    rw [val_main_v275_apply, val_main_v274_apply, val_main_v273_apply, val_main_v272_apply, val_main_v165_apply, val_main_call28_v1_apply]
    have e1 : idx_main_v272 (idx_main_v273 (ix2 b k)) = ix1 b := by
      funext a; match a with | ⟨0, _⟩ => rfl
    rw [e1, r_v270]
    exact (same_at (drawn x0 x1 b k) (val_main_v271 (F := Ideal) x0 x1 (ix1 b)) _ _).trans (if_congr Iff.rfl rfl rfl)
  unfold val_main_v276
  rw [fold_row]
  obtain ⟨j, h1, h2, h3⟩ := least_marked (fun k : Fin 100000 => val_main_v275 (F := Ideal) x0 x1 (ix2 b k))
    (fun k => drawn x0 x1 b k = val_main_v271 (F := Ideal) x0 x1 (ix1 b)) hf ⟨k0, hk0⟩
  refine ⟨j, ⟨fun k => (hle k).trans h2.symm.le, fun k hk he => h3 k hk (he.trans h2)⟩, h1⟩

/-- What the reference returns, row by row: the token drawn is marked. -/
theorem reference_rows (b : Fin 64) : ∃ j, Picked (drawn x0 x1 b) j ∧ ∀ i : Fin 100000,
    val_main_v285 (F := Ideal) x0 x1 (ix2 b i)
      = if i = ranked (val_main_v164 (F := Ideal) x0 x1) b j then lit 0x47C35000#32 else lit 0x3727C5AC#32 := by
  classical
  obtain ⟨j, hj, h276⟩ := r_v276 x0 x1 b
  refine ⟨j, hj, fun i => ?_⟩
  have h280 : ∀ k : Fin 100000, val_main_v280 (F := Ideal) x0 x1 (ix2 b k)
      = if k = j then BitVec.ofNat 32 (ranked (val_main_v164 (F := Ideal) x0 x1) b k).val else 0#32 := fun k => by
    rw [val_main_v280_apply, val_main_v279_apply, val_main_v278_apply, val_main_v277_apply, val_main_v165_apply, val_main_call29_v1_apply, r_v167_1]
    have e1 : idx_main_v277 (idx_main_v278 (ix2 b k)) = ix1 b := by
      funext a; match a with | ⟨0, _⟩ => rfl
    rw [e1, h276]
    have e2 : IntOp.cmpi .eq (BitVec.ofNat 32 ((ix2 b k : Cert.ReferenceIdeal.S64x100000.Idx) 1).val) (BitVec.ofNat 32 j.val)
        = BitVec.ofBool (decide (k = j)) := eq_words k j
    rw [e2]
    exact choose_if (k = j) _ _
  have h281 : val_main_v281 (F := Ideal) x0 x1 (ix1 b) = BitVec.ofNat 32 (ranked (val_main_v164 (F := Ideal) x0 x1) b j).val := by
    unfold val_main_v281
    rw [fold_row]
    refine (fold_only Finset.univ (fun k : Fin 100000 => val_main_v280 (F := Ideal) x0 x1 (ix2 b k)) j (Finset.mem_univ j) fun k _ hk => ?_).trans ?_
    · rw [h280, if_neg hk]
    · rw [h280, if_pos rfl]
  rw [val_main_v285_apply, val_main_v284_apply, val_main_v283_apply, val_main_v282_apply, val_main_v165_apply, val_main_call30_v0_apply, val_main_call30_v1_apply]
  have e1 : idx_main_v282 (idx_main_v283 (ix2 b i)) = ix1 b := by
    funext a; match a with | ⟨0, _⟩ => rfl
  rw [e1, h281]
  have e2 : IntOp.cmpi .eq (BitVec.ofNat 32 ((ix2 b i : Cert.ReferenceIdeal.S64x100000.Idx) 1).val) (BitVec.ofNat 32 (ranked (val_main_v164 (F := Ideal) x0 x1) b j).val)
      = BitVec.ofBool (decide (i = ranked (val_main_v164 (F := Ideal) x0 x1) b j)) := eq_words i _
  rw [e2]
  exact choose_if (i = ranked (val_main_v164 (F := Ideal) x0 x1) b j) _ _

end Cert.Sampler

end
-- ==== Proof.Same.lean ====
/- The kernel and the reference mark the same token in every row. -/
module

public import proofs.«01_k».proof.Proof.KOut
public import proofs.«01_k».proof.Proof.RRow

@[expose] public section

set_option maxRecDepth 65536

noncomputable section

namespace Cert.Sampler

open Idealize.ShloMosaic Idealize.ShloMosaic.TcCoe Idealize.ShloMosaic.Tactic Idealize.ShloMosaic.ValueIdx
open Idealize.SL.Sem

theorem rows_ext {A B : Nat} {α : Type} (f g : (⟨2, ![A, B]⟩ : Shape).Idx → α) (h : ∀ b i, f (ix2 b i) = g (ix2 b i)) : f = g := by
  funext z
  rw [eq_ix2 z]
  exact h (z 0) (z 1)

/-- A row marked by value and rank among equals, where the values are the row's own put in another order, is marked at one place. -/
theorem marked_place (s p G : Fin 100000 → EReal) (out : Fin 100000 → Ideal .f32) (h : Marked s p G out)
    (σ : Fin 100000 → Fin 100000) (hσ : Function.Bijective σ) (hs : ∀ i j, i < j → p (σ i) = p (σ j) → σ i < σ j)
    (e : s = fun k => p (σ k)) (j : Fin 100000) (hj : Picked (fun k => Ideal.log (share part s k) + G k) j) (i : Fin 100000) :
    out i = if i = σ j then lit 0x47C35000#32 else lit 0x3727C5AC#32 := by
  obtain ⟨j', hj', hm⟩ := h
  obtain rfl := picked_unique _ _ _ hj' hj
  have hr := rank_iff p σ hσ hs i j'
  have es : s j' = p (σ j') := congrFun e j'
  obtain ⟨h1, h2⟩ := hm i
  rw [es, e] at h1 h2
  by_cases hi : i = σ j'
  · rw [if_pos hi]
    exact h1 (hr.mpr hi)
  · rw [if_neg hi]
    exact h2 fun h => hi (hr.mp h)

variable (m : (ℓ : Loc Cert.KernelIdeal.nD Cert.KernelIdeal.τ Cert.KernelIdeal.sig) → Buf (Elt Ideal) ℓ) (ρ : Dev Cert.KernelIdeal.nD → PrngReg)

theorem same_at_place (c : Dev Cert.KernelIdeal.nD) (x0 : IVec Cert.ReferenceIdeal.S64x2048 32) (x1 : FVec Ideal Cert.ReferenceIdeal.S64x100000 .f32)
    (h0 : (Cert.KernelIdeal.Gen.W0 m ρ c (Proc.devRef .tc Cert.KernelIdeal.main_arg0) : IVec Cert.ReferenceIdeal.S64x2048 32) = x0)
    (h1 : (Cert.KernelIdeal.Gen.W0 m ρ c (Proc.devRef .tc Cert.KernelIdeal.main_arg1) : FVec Ideal Cert.ReferenceIdeal.S64x100000 .f32) = x1)
    (b : Fin 64) (i : Fin 100000) :
    (Cert.KernelIdeal.Gen.W5 m ρ c (Proc.devRef .tc Cert.KernelIdeal.main_v73) : FVec Ideal Cert.ReferenceIdeal.S64x100000 .f32) (ix2 b i)
      = Cert.ReferenceIdeal.Read.val_main_v285 (F := Ideal) x0 x1 (ix2 b i) := by
  have hk := kernel_rows m ρ c b
  subst h0 h1
  obtain ⟨j, hj, hr⟩ := reference_rows (Cert.KernelIdeal.Gen.W0 m ρ c (Proc.devRef .tc Cert.KernelIdeal.main_arg0))
    (Cert.KernelIdeal.Gen.W0 m ρ c (Proc.devRef .tc Cert.KernelIdeal.main_arg1)) b
  refine Eq.trans ?_ (hr i).symm
  unfold drawn falling at hj
  rw [r_v164] at hj ⊢
  have e : (fun k => (-(sortedRow (rowProbs (Cert.KernelIdeal.Gen.W0 m ρ c (Proc.devRef .tc Cert.KernelIdeal.main_arg0))
        (Cert.KernelIdeal.Gen.W0 m ρ c (Proc.devRef .tc Cert.KernelIdeal.main_arg1))) (ix2 b k) : EReal)))
      = fun k => rowProbs (Cert.KernelIdeal.Gen.W0 m ρ c (Proc.devRef .tc Cert.KernelIdeal.main_arg0))
        (Cert.KernelIdeal.Gen.W0 m ρ c (Proc.devRef .tc Cert.KernelIdeal.main_arg1)) (ix2 b (ranked (rowProbs
          (Cert.KernelIdeal.Gen.W0 m ρ c (Proc.devRef .tc Cert.KernelIdeal.main_arg0)) (Cert.KernelIdeal.Gen.W0 m ρ c (Proc.devRef .tc Cert.KernelIdeal.main_arg1))) b k)) := by
    funext k
    rw [sortedRow_eq]
    exact neg_neg _
  refine marked_place _ _ _ _ hk _ (ranked_bijective _ b) ?_ e j ?_ i
  · intro i j hij heq
    rcases ranked_earlier _ b i j hij with h | h
    · exact absurd (congrArg (fun y : EReal => -y) heq) h.ne
    · exact h.2
  · rw [e]
    exact hj

/-- The kernel's result is the reference's. -/
theorem same (c : Dev Cert.KernelIdeal.nD) (x0 : IVec Cert.ReferenceIdeal.S64x2048 32) (x1 : FVec Ideal Cert.ReferenceIdeal.S64x100000 .f32)
    (h0 : (Cert.KernelIdeal.Gen.W0 m ρ c (Proc.devRef .tc Cert.KernelIdeal.main_arg0) : IVec Cert.ReferenceIdeal.S64x2048 32) = x0)
    (h1 : (Cert.KernelIdeal.Gen.W0 m ρ c (Proc.devRef .tc Cert.KernelIdeal.main_arg1) : FVec Ideal Cert.ReferenceIdeal.S64x100000 .f32) = x1) :
    (Cert.KernelIdeal.Gen.W5 m ρ c (Proc.devRef .tc Cert.KernelIdeal.main_v73) : FVec Ideal Cert.ReferenceIdeal.S64x100000 .f32)
      = Cert.ReferenceIdeal.Read.val_main_v285 (F := Ideal) x0 x1 := by
  exact rows_ext _ _ (same_at_place m ρ c x0 x1 h0 h1)

end Cert.Sampler

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KRun
public import proofs.«01_k».proof.Proof.Same
public import Idealize.ShloMosaic.Adequacy
public import Idealize.ShloMosaic.Init

@[expose] public section

noncomputable section

namespace Cert.Proof

open Idealize.ShloMosaic Idealize.SL.Sem Cert.Kernel

/-- The reference signature declares no semaphore. -/
theorem reference_sems (s : MemSt Cert.ReferenceIdeal.nD Cert.ReferenceIdeal.τ Cert.ReferenceIdeal.sig (Elt Ideal)) : s.sem = fun _ => 0 :=
  sem_eq_zero_of_no_sems rfl s

/-- The reference ends with its arguments as they were, and every counter at zero. -/
theorem reference_frame : Cert.quiescent_ReferenceIdeal (hReferenceIdeal := Cert.ReferenceIdeal.Gen.facts) := fun m g _ =>
  (θ_run _ _ _).mono (fun r h => ⟨fun c => ⟨(h c).2.1, (h c).2.2⟩, reference_sems r.2⟩) (Cert.ReferenceIdeal.Value.run (F := Ideal) m g)

/-- The kernel and the reference end with equal results. -/
theorem equal_results : Cert.algebraic_KernelIdeal_ReferenceIdeal (hKernelIdeal := Cert.KernelIdeal.Gen.facts)
    (hReferenceIdeal := Cert.ReferenceIdeal.Gen.facts) := fun m g m' g' _ hagree =>
  ⟨fun c => Cert.KernelIdeal.Gen.W5 m g c (Proc.devRef .tc Cert.KernelIdeal.main_v73),
    (θ_run _ _ _).mono (fun _ h c => ⟨(h.1 c).2.2, (h.1 c).1, (h.1 c).2.1⟩) (Cert.KernelIdeal.Gen.run (F := Ideal) m g),
    (θ_run _ _ _).mono (fun _ h c => ⟨(h c).1.trans ((Cert.ReferenceIdeal.Read.val_main_v285_eq (StableHlo.launchContents m' c)).trans
      (Cert.Sampler.same m g c _ _ (hagree c).1.symm (hagree c).2.symm).symm), (h c).2.1, (h c).2.2⟩)
      (Cert.ReferenceIdeal.Value.run (F := Ideal) m' g')⟩

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, equal_results⟩

end Cert.Proof

end
